-- ==== Defs.lean ====
def Pre_KDown (m : (ℓ : Loc Cert.KDown.nD Cert.KDown.τ Cert.KDown.sig) → Buf (Elt Bits) ℓ) : Prop :=
  True

def Pre_KDownIdeal (m : (ℓ : Loc Cert.KDownIdeal.nD Cert.KDownIdeal.τ Cert.KDownIdeal.sig) → Buf (Elt Ideal) ℓ) : Prop :=
  True

def Pre_RDownIdeal (m : (ℓ : Loc Cert.RDownIdeal.nD Cert.RDownIdeal.τ Cert.RDownIdeal.sig) → Buf (Elt Ideal) ℓ) : Prop :=
  True

def Pre_KConv (m : (ℓ : Loc Cert.KConv.nD Cert.KConv.τ Cert.KConv.sig) → Buf (Elt Bits) ℓ) : Prop :=
  True

def Pre_KConvIdeal (m : (ℓ : Loc Cert.KConvIdeal.nD Cert.KConvIdeal.τ Cert.KConvIdeal.sig) → Buf (Elt Ideal) ℓ) : Prop :=
  True

def Pre_RConvIdeal (m : (ℓ : Loc Cert.RConvIdeal.nD Cert.RConvIdeal.τ Cert.RConvIdeal.sig) → Buf (Elt Ideal) ℓ) : Prop :=
  True

def Pre_KMerge (m : (ℓ : Loc Cert.KMerge.nD Cert.KMerge.τ Cert.KMerge.sig) → Buf (Elt Bits) ℓ) : Prop :=
  True

def Pre_KMergeIdeal (m : (ℓ : Loc Cert.KMergeIdeal.nD Cert.KMergeIdeal.τ Cert.KMergeIdeal.sig) → Buf (Elt Ideal) ℓ) : Prop :=
  True

def Pre_KMergeIdeal_finite_merge [hPre_finite_merge : Cert.Pre_finite_merge.Facts] (m : (ℓ : Loc Cert.KMergeIdeal.nD Cert.KMergeIdeal.τ Cert.KMergeIdeal.sig) → Buf (Elt Ideal) ℓ) : Prop :=
  ∀ c : Dev Cert.KMergeIdeal.nD,
    (Cert.Pre_finite_merge.fn (F := Ideal) (m ((c.tc : Thread Cert.KMergeIdeal.nD Cert.KMergeIdeal.τ).loc Cert.KMergeIdeal.main_arg0)) (m ((c.tc : Thread Cert.KMergeIdeal.nD Cert.KMergeIdeal.τ).loc Cert.KMergeIdeal.main_arg1)) (m ((c.tc : Thread Cert.KMergeIdeal.nD Cert.KMergeIdeal.τ).loc Cert.KMergeIdeal.main_arg2)) (m ((c.tc : Thread Cert.KMergeIdeal.nD Cert.KMergeIdeal.τ).loc Cert.KMergeIdeal.main_arg3)) (m ((c.tc : Thread Cert.KMergeIdeal.nD Cert.KMergeIdeal.τ).loc Cert.KMergeIdeal.main_arg4)) (m ((c.tc : Thread Cert.KMergeIdeal.nD Cert.KMergeIdeal.τ).loc Cert.KMergeIdeal.main_arg5)) (m ((c.tc : Thread Cert.KMergeIdeal.nD Cert.KMergeIdeal.τ).loc Cert.KMergeIdeal.main_arg6)) (m ((c.tc : Thread Cert.KMergeIdeal.nD Cert.KMergeIdeal.τ).loc Cert.KMergeIdeal.main_arg7)) (m ((c.tc : Thread Cert.KMergeIdeal.nD Cert.KMergeIdeal.τ).loc Cert.KMergeIdeal.main_arg8)) (m ((c.tc : Thread Cert.KMergeIdeal.nD Cert.KMergeIdeal.τ).loc Cert.KMergeIdeal.main_arg9))).1 = (fun _ => 1#1)
    ∧ (Cert.Pre_finite_merge.fn (F := Ideal) (m ((c.tc : Thread Cert.KMergeIdeal.nD Cert.KMergeIdeal.τ).loc Cert.KMergeIdeal.main_arg0)) (m ((c.tc : Thread Cert.KMergeIdeal.nD Cert.KMergeIdeal.τ).loc Cert.KMergeIdeal.main_arg1)) (m ((c.tc : Thread Cert.KMergeIdeal.nD Cert.KMergeIdeal.τ).loc Cert.KMergeIdeal.main_arg2)) (m ((c.tc : Thread Cert.KMergeIdeal.nD Cert.KMergeIdeal.τ).loc Cert.KMergeIdeal.main_arg3)) (m ((c.tc : Thread Cert.KMergeIdeal.nD Cert.KMergeIdeal.τ).loc Cert.KMergeIdeal.main_arg4)) (m ((c.tc : Thread Cert.KMergeIdeal.nD Cert.KMergeIdeal.τ).loc Cert.KMergeIdeal.main_arg5)) (m ((c.tc : Thread Cert.KMergeIdeal.nD Cert.KMergeIdeal.τ).loc Cert.KMergeIdeal.main_arg6)) (m ((c.tc : Thread Cert.KMergeIdeal.nD Cert.KMergeIdeal.τ).loc Cert.KMergeIdeal.main_arg7)) (m ((c.tc : Thread Cert.KMergeIdeal.nD Cert.KMergeIdeal.τ).loc Cert.KMergeIdeal.main_arg8)) (m ((c.tc : Thread Cert.KMergeIdeal.nD Cert.KMergeIdeal.τ).loc Cert.KMergeIdeal.main_arg9))).2.1 = (fun _ => 1#1)
    ∧ (Cert.Pre_finite_merge.fn (F := Ideal) (m ((c.tc : Thread Cert.KMergeIdeal.nD Cert.KMergeIdeal.τ).loc Cert.KMergeIdeal.main_arg0)) (m ((c.tc : Thread Cert.KMergeIdeal.nD Cert.KMergeIdeal.τ).loc Cert.KMergeIdeal.main_arg1)) (m ((c.tc : Thread Cert.KMergeIdeal.nD Cert.KMergeIdeal.τ).loc Cert.KMergeIdeal.main_arg2)) (m ((c.tc : Thread Cert.KMergeIdeal.nD Cert.KMergeIdeal.τ).loc Cert.KMergeIdeal.main_arg3)) (m ((c.tc : Thread Cert.KMergeIdeal.nD Cert.KMergeIdeal.τ).loc Cert.KMergeIdeal.main_arg4)) (m ((c.tc : Thread Cert.KMergeIdeal.nD Cert.KMergeIdeal.τ).loc Cert.KMergeIdeal.main_arg5)) (m ((c.tc : Thread Cert.KMergeIdeal.nD Cert.KMergeIdeal.τ).loc Cert.KMergeIdeal.main_arg6)) (m ((c.tc : Thread Cert.KMergeIdeal.nD Cert.KMergeIdeal.τ).loc Cert.KMergeIdeal.main_arg7)) (m ((c.tc : Thread Cert.KMergeIdeal.nD Cert.KMergeIdeal.τ).loc Cert.KMergeIdeal.main_arg8)) (m ((c.tc : Thread Cert.KMergeIdeal.nD Cert.KMergeIdeal.τ).loc Cert.KMergeIdeal.main_arg9))).2.2.1 = (fun _ => 1#1)
    ∧ (Cert.Pre_finite_merge.fn (F := Ideal) (m ((c.tc : Thread Cert.KMergeIdeal.nD Cert.KMergeIdeal.τ).loc Cert.KMergeIdeal.main_arg0)) (m ((c.tc : Thread Cert.KMergeIdeal.nD Cert.KMergeIdeal.τ).loc Cert.KMergeIdeal.main_arg1)) (m ((c.tc : Thread Cert.KMergeIdeal.nD Cert.KMergeIdeal.τ).loc Cert.KMergeIdeal.main_arg2)) (m ((c.tc : Thread Cert.KMergeIdeal.nD Cert.KMergeIdeal.τ).loc Cert.KMergeIdeal.main_arg3)) (m ((c.tc : Thread Cert.KMergeIdeal.nD Cert.KMergeIdeal.τ).loc Cert.KMergeIdeal.main_arg4)) (m ((c.tc : Thread Cert.KMergeIdeal.nD Cert.KMergeIdeal.τ).loc Cert.KMergeIdeal.main_arg5)) (m ((c.tc : Thread Cert.KMergeIdeal.nD Cert.KMergeIdeal.τ).loc Cert.KMergeIdeal.main_arg6)) (m ((c.tc : Thread Cert.KMergeIdeal.nD Cert.KMergeIdeal.τ).loc Cert.KMergeIdeal.main_arg7)) (m ((c.tc : Thread Cert.KMergeIdeal.nD Cert.KMergeIdeal.τ).loc Cert.KMergeIdeal.main_arg8)) (m ((c.tc : Thread Cert.KMergeIdeal.nD Cert.KMergeIdeal.τ).loc Cert.KMergeIdeal.main_arg9))).2.2.2.1 = (fun _ => 1#1)
    ∧ (Cert.Pre_finite_merge.fn (F := Ideal) (m ((c.tc : Thread Cert.KMergeIdeal.nD Cert.KMergeIdeal.τ).loc Cert.KMergeIdeal.main_arg0)) (m ((c.tc : Thread Cert.KMergeIdeal.nD Cert.KMergeIdeal.τ).loc Cert.KMergeIdeal.main_arg1)) (m ((c.tc : Thread Cert.KMergeIdeal.nD Cert.KMergeIdeal.τ).loc Cert.KMergeIdeal.main_arg2)) (m ((c.tc : Thread Cert.KMergeIdeal.nD Cert.KMergeIdeal.τ).loc Cert.KMergeIdeal.main_arg3)) (m ((c.tc : Thread Cert.KMergeIdeal.nD Cert.KMergeIdeal.τ).loc Cert.KMergeIdeal.main_arg4)) (m ((c.tc : Thread Cert.KMergeIdeal.nD Cert.KMergeIdeal.τ).loc Cert.KMergeIdeal.main_arg5)) (m ((c.tc : Thread Cert.KMergeIdeal.nD Cert.KMergeIdeal.τ).loc Cert.KMergeIdeal.main_arg6)) (m ((c.tc : Thread Cert.KMergeIdeal.nD Cert.KMergeIdeal.τ).loc Cert.KMergeIdeal.main_arg7)) (m ((c.tc : Thread Cert.KMergeIdeal.nD Cert.KMergeIdeal.τ).loc Cert.KMergeIdeal.main_arg8)) (m ((c.tc : Thread Cert.KMergeIdeal.nD Cert.KMergeIdeal.τ).loc Cert.KMergeIdeal.main_arg9))).2.2.2.2.1 = (fun _ => 1#1)
    ∧ (Cert.Pre_finite_merge.fn (F := Ideal) (m ((c.tc : Thread Cert.KMergeIdeal.nD Cert.KMergeIdeal.τ).loc Cert.KMergeIdeal.main_arg0)) (m ((c.tc : Thread Cert.KMergeIdeal.nD Cert.KMergeIdeal.τ).loc Cert.KMergeIdeal.main_arg1)) (m ((c.tc : Thread Cert.KMergeIdeal.nD Cert.KMergeIdeal.τ).loc Cert.KMergeIdeal.main_arg2)) (m ((c.tc : Thread Cert.KMergeIdeal.nD Cert.KMergeIdeal.τ).loc Cert.KMergeIdeal.main_arg3)) (m ((c.tc : Thread Cert.KMergeIdeal.nD Cert.KMergeIdeal.τ).loc Cert.KMergeIdeal.main_arg4)) (m ((c.tc : Thread Cert.KMergeIdeal.nD Cert.KMergeIdeal.τ).loc Cert.KMergeIdeal.main_arg5)) (m ((c.tc : Thread Cert.KMergeIdeal.nD Cert.KMergeIdeal.τ).loc Cert.KMergeIdeal.main_arg6)) (m ((c.tc : Thread Cert.KMergeIdeal.nD Cert.KMergeIdeal.τ).loc Cert.KMergeIdeal.main_arg7)) (m ((c.tc : Thread Cert.KMergeIdeal.nD Cert.KMergeIdeal.τ).loc Cert.KMergeIdeal.main_arg8)) (m ((c.tc : Thread Cert.KMergeIdeal.nD Cert.KMergeIdeal.τ).loc Cert.KMergeIdeal.main_arg9))).2.2.2.2.2.1 = (fun _ => 1#1)
    ∧ (Cert.Pre_finite_merge.fn (F := Ideal) (m ((c.tc : Thread Cert.KMergeIdeal.nD Cert.KMergeIdeal.τ).loc Cert.KMergeIdeal.main_arg0)) (m ((c.tc : Thread Cert.KMergeIdeal.nD Cert.KMergeIdeal.τ).loc Cert.KMergeIdeal.main_arg1)) (m ((c.tc : Thread Cert.KMergeIdeal.nD Cert.KMergeIdeal.τ).loc Cert.KMergeIdeal.main_arg2)) (m ((c.tc : Thread Cert.KMergeIdeal.nD Cert.KMergeIdeal.τ).loc Cert.KMergeIdeal.main_arg3)) (m ((c.tc : Thread Cert.KMergeIdeal.nD Cert.KMergeIdeal.τ).loc Cert.KMergeIdeal.main_arg4)) (m ((c.tc : Thread Cert.KMergeIdeal.nD Cert.KMergeIdeal.τ).loc Cert.KMergeIdeal.main_arg5)) (m ((c.tc : Thread Cert.KMergeIdeal.nD Cert.KMergeIdeal.τ).loc Cert.KMergeIdeal.main_arg6)) (m ((c.tc : Thread Cert.KMergeIdeal.nD Cert.KMergeIdeal.τ).loc Cert.KMergeIdeal.main_arg7)) (m ((c.tc : Thread Cert.KMergeIdeal.nD Cert.KMergeIdeal.τ).loc Cert.KMergeIdeal.main_arg8)) (m ((c.tc : Thread Cert.KMergeIdeal.nD Cert.KMergeIdeal.τ).loc Cert.KMergeIdeal.main_arg9))).2.2.2.2.2.2 = (fun _ => 1#1)

def Pre_RMergeIdeal (m : (ℓ : Loc Cert.RMergeIdeal.nD Cert.RMergeIdeal.τ Cert.RMergeIdeal.sig) → Buf (Elt Ideal) ℓ) : Prop :=
  True

def Pre_RMergeIdeal_finite_merge [hPre_finite_merge : Cert.Pre_finite_merge.Facts] (m : (ℓ : Loc Cert.RMergeIdeal.nD Cert.RMergeIdeal.τ Cert.RMergeIdeal.sig) → Buf (Elt Ideal) ℓ) : Prop :=
  ∀ c : Dev Cert.RMergeIdeal.nD,
    (Cert.Pre_finite_merge.fn (F := Ideal) (m ((c.tc : Thread Cert.RMergeIdeal.nD Cert.RMergeIdeal.τ).loc Cert.RMergeIdeal.main_arg0)) (m ((c.tc : Thread Cert.RMergeIdeal.nD Cert.RMergeIdeal.τ).loc Cert.RMergeIdeal.main_arg1)) (m ((c.tc : Thread Cert.RMergeIdeal.nD Cert.RMergeIdeal.τ).loc Cert.RMergeIdeal.main_arg2)) (m ((c.tc : Thread Cert.RMergeIdeal.nD Cert.RMergeIdeal.τ).loc Cert.RMergeIdeal.main_arg3)) (m ((c.tc : Thread Cert.RMergeIdeal.nD Cert.RMergeIdeal.τ).loc Cert.RMergeIdeal.main_arg4)) (m ((c.tc : Thread Cert.RMergeIdeal.nD Cert.RMergeIdeal.τ).loc Cert.RMergeIdeal.main_arg5)) (m ((c.tc : Thread Cert.RMergeIdeal.nD Cert.RMergeIdeal.τ).loc Cert.RMergeIdeal.main_arg6)) (m ((c.tc : Thread Cert.RMergeIdeal.nD Cert.RMergeIdeal.τ).loc Cert.RMergeIdeal.main_arg7)) (m ((c.tc : Thread Cert.RMergeIdeal.nD Cert.RMergeIdeal.τ).loc Cert.RMergeIdeal.main_arg8)) (m ((c.tc : Thread Cert.RMergeIdeal.nD Cert.RMergeIdeal.τ).loc Cert.RMergeIdeal.main_arg9))).1 = (fun _ => 1#1)
    ∧ (Cert.Pre_finite_merge.fn (F := Ideal) (m ((c.tc : Thread Cert.RMergeIdeal.nD Cert.RMergeIdeal.τ).loc Cert.RMergeIdeal.main_arg0)) (m ((c.tc : Thread Cert.RMergeIdeal.nD Cert.RMergeIdeal.τ).loc Cert.RMergeIdeal.main_arg1)) (m ((c.tc : Thread Cert.RMergeIdeal.nD Cert.RMergeIdeal.τ).loc Cert.RMergeIdeal.main_arg2)) (m ((c.tc : Thread Cert.RMergeIdeal.nD Cert.RMergeIdeal.τ).loc Cert.RMergeIdeal.main_arg3)) (m ((c.tc : Thread Cert.RMergeIdeal.nD Cert.RMergeIdeal.τ).loc Cert.RMergeIdeal.main_arg4)) (m ((c.tc : Thread Cert.RMergeIdeal.nD Cert.RMergeIdeal.τ).loc Cert.RMergeIdeal.main_arg5)) (m ((c.tc : Thread Cert.RMergeIdeal.nD Cert.RMergeIdeal.τ).loc Cert.RMergeIdeal.main_arg6)) (m ((c.tc : Thread Cert.RMergeIdeal.nD Cert.RMergeIdeal.τ).loc Cert.RMergeIdeal.main_arg7)) (m ((c.tc : Thread Cert.RMergeIdeal.nD Cert.RMergeIdeal.τ).loc Cert.RMergeIdeal.main_arg8)) (m ((c.tc : Thread Cert.RMergeIdeal.nD Cert.RMergeIdeal.τ).loc Cert.RMergeIdeal.main_arg9))).2.1 = (fun _ => 1#1)
    ∧ (Cert.Pre_finite_merge.fn (F := Ideal) (m ((c.tc : Thread Cert.RMergeIdeal.nD Cert.RMergeIdeal.τ).loc Cert.RMergeIdeal.main_arg0)) (m ((c.tc : Thread Cert.RMergeIdeal.nD Cert.RMergeIdeal.τ).loc Cert.RMergeIdeal.main_arg1)) (m ((c.tc : Thread Cert.RMergeIdeal.nD Cert.RMergeIdeal.τ).loc Cert.RMergeIdeal.main_arg2)) (m ((c.tc : Thread Cert.RMergeIdeal.nD Cert.RMergeIdeal.τ).loc Cert.RMergeIdeal.main_arg3)) (m ((c.tc : Thread Cert.RMergeIdeal.nD Cert.RMergeIdeal.τ).loc Cert.RMergeIdeal.main_arg4)) (m ((c.tc : Thread Cert.RMergeIdeal.nD Cert.RMergeIdeal.τ).loc Cert.RMergeIdeal.main_arg5)) (m ((c.tc : Thread Cert.RMergeIdeal.nD Cert.RMergeIdeal.τ).loc Cert.RMergeIdeal.main_arg6)) (m ((c.tc : Thread Cert.RMergeIdeal.nD Cert.RMergeIdeal.τ).loc Cert.RMergeIdeal.main_arg7)) (m ((c.tc : Thread Cert.RMergeIdeal.nD Cert.RMergeIdeal.τ).loc Cert.RMergeIdeal.main_arg8)) (m ((c.tc : Thread Cert.RMergeIdeal.nD Cert.RMergeIdeal.τ).loc Cert.RMergeIdeal.main_arg9))).2.2.1 = (fun _ => 1#1)
    ∧ (Cert.Pre_finite_merge.fn (F := Ideal) (m ((c.tc : Thread Cert.RMergeIdeal.nD Cert.RMergeIdeal.τ).loc Cert.RMergeIdeal.main_arg0)) (m ((c.tc : Thread Cert.RMergeIdeal.nD Cert.RMergeIdeal.τ).loc Cert.RMergeIdeal.main_arg1)) (m ((c.tc : Thread Cert.RMergeIdeal.nD Cert.RMergeIdeal.τ).loc Cert.RMergeIdeal.main_arg2)) (m ((c.tc : Thread Cert.RMergeIdeal.nD Cert.RMergeIdeal.τ).loc Cert.RMergeIdeal.main_arg3)) (m ((c.tc : Thread Cert.RMergeIdeal.nD Cert.RMergeIdeal.τ).loc Cert.RMergeIdeal.main_arg4)) (m ((c.tc : Thread Cert.RMergeIdeal.nD Cert.RMergeIdeal.τ).loc Cert.RMergeIdeal.main_arg5)) (m ((c.tc : Thread Cert.RMergeIdeal.nD Cert.RMergeIdeal.τ).loc Cert.RMergeIdeal.main_arg6)) (m ((c.tc : Thread Cert.RMergeIdeal.nD Cert.RMergeIdeal.τ).loc Cert.RMergeIdeal.main_arg7)) (m ((c.tc : Thread Cert.RMergeIdeal.nD Cert.RMergeIdeal.τ).loc Cert.RMergeIdeal.main_arg8)) (m ((c.tc : Thread Cert.RMergeIdeal.nD Cert.RMergeIdeal.τ).loc Cert.RMergeIdeal.main_arg9))).2.2.2.1 = (fun _ => 1#1)
    ∧ (Cert.Pre_finite_merge.fn (F := Ideal) (m ((c.tc : Thread Cert.RMergeIdeal.nD Cert.RMergeIdeal.τ).loc Cert.RMergeIdeal.main_arg0)) (m ((c.tc : Thread Cert.RMergeIdeal.nD Cert.RMergeIdeal.τ).loc Cert.RMergeIdeal.main_arg1)) (m ((c.tc : Thread Cert.RMergeIdeal.nD Cert.RMergeIdeal.τ).loc Cert.RMergeIdeal.main_arg2)) (m ((c.tc : Thread Cert.RMergeIdeal.nD Cert.RMergeIdeal.τ).loc Cert.RMergeIdeal.main_arg3)) (m ((c.tc : Thread Cert.RMergeIdeal.nD Cert.RMergeIdeal.τ).loc Cert.RMergeIdeal.main_arg4)) (m ((c.tc : Thread Cert.RMergeIdeal.nD Cert.RMergeIdeal.τ).loc Cert.RMergeIdeal.main_arg5)) (m ((c.tc : Thread Cert.RMergeIdeal.nD Cert.RMergeIdeal.τ).loc Cert.RMergeIdeal.main_arg6)) (m ((c.tc : Thread Cert.RMergeIdeal.nD Cert.RMergeIdeal.τ).loc Cert.RMergeIdeal.main_arg7)) (m ((c.tc : Thread Cert.RMergeIdeal.nD Cert.RMergeIdeal.τ).loc Cert.RMergeIdeal.main_arg8)) (m ((c.tc : Thread Cert.RMergeIdeal.nD Cert.RMergeIdeal.τ).loc Cert.RMergeIdeal.main_arg9))).2.2.2.2.1 = (fun _ => 1#1)
    ∧ (Cert.Pre_finite_merge.fn (F := Ideal) (m ((c.tc : Thread Cert.RMergeIdeal.nD Cert.RMergeIdeal.τ).loc Cert.RMergeIdeal.main_arg0)) (m ((c.tc : Thread Cert.RMergeIdeal.nD Cert.RMergeIdeal.τ).loc Cert.RMergeIdeal.main_arg1)) (m ((c.tc : Thread Cert.RMergeIdeal.nD Cert.RMergeIdeal.τ).loc Cert.RMergeIdeal.main_arg2)) (m ((c.tc : Thread Cert.RMergeIdeal.nD Cert.RMergeIdeal.τ).loc Cert.RMergeIdeal.main_arg3)) (m ((c.tc : Thread Cert.RMergeIdeal.nD Cert.RMergeIdeal.τ).loc Cert.RMergeIdeal.main_arg4)) (m ((c.tc : Thread Cert.RMergeIdeal.nD Cert.RMergeIdeal.τ).loc Cert.RMergeIdeal.main_arg5)) (m ((c.tc : Thread Cert.RMergeIdeal.nD Cert.RMergeIdeal.τ).loc Cert.RMergeIdeal.main_arg6)) (m ((c.tc : Thread Cert.RMergeIdeal.nD Cert.RMergeIdeal.τ).loc Cert.RMergeIdeal.main_arg7)) (m ((c.tc : Thread Cert.RMergeIdeal.nD Cert.RMergeIdeal.τ).loc Cert.RMergeIdeal.main_arg8)) (m ((c.tc : Thread Cert.RMergeIdeal.nD Cert.RMergeIdeal.τ).loc Cert.RMergeIdeal.main_arg9))).2.2.2.2.2.1 = (fun _ => 1#1)
    ∧ (Cert.Pre_finite_merge.fn (F := Ideal) (m ((c.tc : Thread Cert.RMergeIdeal.nD Cert.RMergeIdeal.τ).loc Cert.RMergeIdeal.main_arg0)) (m ((c.tc : Thread Cert.RMergeIdeal.nD Cert.RMergeIdeal.τ).loc Cert.RMergeIdeal.main_arg1)) (m ((c.tc : Thread Cert.RMergeIdeal.nD Cert.RMergeIdeal.τ).loc Cert.RMergeIdeal.main_arg2)) (m ((c.tc : Thread Cert.RMergeIdeal.nD Cert.RMergeIdeal.τ).loc Cert.RMergeIdeal.main_arg3)) (m ((c.tc : Thread Cert.RMergeIdeal.nD Cert.RMergeIdeal.τ).loc Cert.RMergeIdeal.main_arg4)) (m ((c.tc : Thread Cert.RMergeIdeal.nD Cert.RMergeIdeal.τ).loc Cert.RMergeIdeal.main_arg5)) (m ((c.tc : Thread Cert.RMergeIdeal.nD Cert.RMergeIdeal.τ).loc Cert.RMergeIdeal.main_arg6)) (m ((c.tc : Thread Cert.RMergeIdeal.nD Cert.RMergeIdeal.τ).loc Cert.RMergeIdeal.main_arg7)) (m ((c.tc : Thread Cert.RMergeIdeal.nD Cert.RMergeIdeal.τ).loc Cert.RMergeIdeal.main_arg8)) (m ((c.tc : Thread Cert.RMergeIdeal.nD Cert.RMergeIdeal.τ).loc Cert.RMergeIdeal.main_arg9))).2.2.2.2.2.2 = (fun _ => 1#1)

def Pre_KMlp (m : (ℓ : Loc Cert.KMlp.nD Cert.KMlp.τ Cert.KMlp.sig) → Buf (Elt Bits) ℓ) : Prop :=
  True

def Pre_KMlpIdeal (m : (ℓ : Loc Cert.KMlpIdeal.nD Cert.KMlpIdeal.τ Cert.KMlpIdeal.sig) → Buf (Elt Ideal) ℓ) : Prop :=
  True

def Pre_KMlpIdeal_finite_mlp [hPre_finite_mlp : Cert.Pre_finite_mlp.Facts] (m : (ℓ : Loc Cert.KMlpIdeal.nD Cert.KMlpIdeal.τ Cert.KMlpIdeal.sig) → Buf (Elt Ideal) ℓ) : Prop :=
  ∀ c : Dev Cert.KMlpIdeal.nD,
    (Cert.Pre_finite_mlp.fn (F := Ideal) (m ((c.tc : Thread Cert.KMlpIdeal.nD Cert.KMlpIdeal.τ).loc Cert.KMlpIdeal.main_arg0)) (m ((c.tc : Thread Cert.KMlpIdeal.nD Cert.KMlpIdeal.τ).loc Cert.KMlpIdeal.main_arg1)) (m ((c.tc : Thread Cert.KMlpIdeal.nD Cert.KMlpIdeal.τ).loc Cert.KMlpIdeal.main_arg2)) (m ((c.tc : Thread Cert.KMlpIdeal.nD Cert.KMlpIdeal.τ).loc Cert.KMlpIdeal.main_arg3)) (m ((c.tc : Thread Cert.KMlpIdeal.nD Cert.KMlpIdeal.τ).loc Cert.KMlpIdeal.main_arg4)) (m ((c.tc : Thread Cert.KMlpIdeal.nD Cert.KMlpIdeal.τ).loc Cert.KMlpIdeal.main_arg5)) (m ((c.tc : Thread Cert.KMlpIdeal.nD Cert.KMlpIdeal.τ).loc Cert.KMlpIdeal.main_arg6)) (m ((c.tc : Thread Cert.KMlpIdeal.nD Cert.KMlpIdeal.τ).loc Cert.KMlpIdeal.main_arg7)) (m ((c.tc : Thread Cert.KMlpIdeal.nD Cert.KMlpIdeal.τ).loc Cert.KMlpIdeal.main_arg8)) (m ((c.tc : Thread Cert.KMlpIdeal.nD Cert.KMlpIdeal.τ).loc Cert.KMlpIdeal.main_arg9)) (m ((c.tc : Thread Cert.KMlpIdeal.nD Cert.KMlpIdeal.τ).loc Cert.KMlpIdeal.main_arg10)) (m ((c.tc : Thread Cert.KMlpIdeal.nD Cert.KMlpIdeal.τ).loc Cert.KMlpIdeal.main_arg11)) (m ((c.tc : Thread Cert.KMlpIdeal.nD Cert.KMlpIdeal.τ).loc Cert.KMlpIdeal.main_arg12)) (m ((c.tc : Thread Cert.KMlpIdeal.nD Cert.KMlpIdeal.τ).loc Cert.KMlpIdeal.main_arg13)) (m ((c.tc : Thread Cert.KMlpIdeal.nD Cert.KMlpIdeal.τ).loc Cert.KMlpIdeal.main_arg14)) (m ((c.tc : Thread Cert.KMlpIdeal.nD Cert.KMlpIdeal.τ).loc Cert.KMlpIdeal.main_arg15))).1 = (fun _ => 1#1)
    ∧ (Cert.Pre_finite_mlp.fn (F := Ideal) (m ((c.tc : Thread Cert.KMlpIdeal.nD Cert.KMlpIdeal.τ).loc Cert.KMlpIdeal.main_arg0)) (m ((c.tc : Thread Cert.KMlpIdeal.nD Cert.KMlpIdeal.τ).loc Cert.KMlpIdeal.main_arg1)) (m ((c.tc : Thread Cert.KMlpIdeal.nD Cert.KMlpIdeal.τ).loc Cert.KMlpIdeal.main_arg2)) (m ((c.tc : Thread Cert.KMlpIdeal.nD Cert.KMlpIdeal.τ).loc Cert.KMlpIdeal.main_arg3)) (m ((c.tc : Thread Cert.KMlpIdeal.nD Cert.KMlpIdeal.τ).loc Cert.KMlpIdeal.main_arg4)) (m ((c.tc : Thread Cert.KMlpIdeal.nD Cert.KMlpIdeal.τ).loc Cert.KMlpIdeal.main_arg5)) (m ((c.tc : Thread Cert.KMlpIdeal.nD Cert.KMlpIdeal.τ).loc Cert.KMlpIdeal.main_arg6)) (m ((c.tc : Thread Cert.KMlpIdeal.nD Cert.KMlpIdeal.τ).loc Cert.KMlpIdeal.main_arg7)) (m ((c.tc : Thread Cert.KMlpIdeal.nD Cert.KMlpIdeal.τ).loc Cert.KMlpIdeal.main_arg8)) (m ((c.tc : Thread Cert.KMlpIdeal.nD Cert.KMlpIdeal.τ).loc Cert.KMlpIdeal.main_arg9)) (m ((c.tc : Thread Cert.KMlpIdeal.nD Cert.KMlpIdeal.τ).loc Cert.KMlpIdeal.main_arg10)) (m ((c.tc : Thread Cert.KMlpIdeal.nD Cert.KMlpIdeal.τ).loc Cert.KMlpIdeal.main_arg11)) (m ((c.tc : Thread Cert.KMlpIdeal.nD Cert.KMlpIdeal.τ).loc Cert.KMlpIdeal.main_arg12)) (m ((c.tc : Thread Cert.KMlpIdeal.nD Cert.KMlpIdeal.τ).loc Cert.KMlpIdeal.main_arg13)) (m ((c.tc : Thread Cert.KMlpIdeal.nD Cert.KMlpIdeal.τ).loc Cert.KMlpIdeal.main_arg14)) (m ((c.tc : Thread Cert.KMlpIdeal.nD Cert.KMlpIdeal.τ).loc Cert.KMlpIdeal.main_arg15))).2.1 = (fun _ => 1#1)
    ∧ (Cert.Pre_finite_mlp.fn (F := Ideal) (m ((c.tc : Thread Cert.KMlpIdeal.nD Cert.KMlpIdeal.τ).loc Cert.KMlpIdeal.main_arg0)) (m ((c.tc : Thread Cert.KMlpIdeal.nD Cert.KMlpIdeal.τ).loc Cert.KMlpIdeal.main_arg1)) (m ((c.tc : Thread Cert.KMlpIdeal.nD Cert.KMlpIdeal.τ).loc Cert.KMlpIdeal.main_arg2)) (m ((c.tc : Thread Cert.KMlpIdeal.nD Cert.KMlpIdeal.τ).loc Cert.KMlpIdeal.main_arg3)) (m ((c.tc : Thread Cert.KMlpIdeal.nD Cert.KMlpIdeal.τ).loc Cert.KMlpIdeal.main_arg4)) (m ((c.tc : Thread Cert.KMlpIdeal.nD Cert.KMlpIdeal.τ).loc Cert.KMlpIdeal.main_arg5)) (m ((c.tc : Thread Cert.KMlpIdeal.nD Cert.KMlpIdeal.τ).loc Cert.KMlpIdeal.main_arg6)) (m ((c.tc : Thread Cert.KMlpIdeal.nD Cert.KMlpIdeal.τ).loc Cert.KMlpIdeal.main_arg7)) (m ((c.tc : Thread Cert.KMlpIdeal.nD Cert.KMlpIdeal.τ).loc Cert.KMlpIdeal.main_arg8)) (m ((c.tc : Thread Cert.KMlpIdeal.nD Cert.KMlpIdeal.τ).loc Cert.KMlpIdeal.main_arg9)) (m ((c.tc : Thread Cert.KMlpIdeal.nD Cert.KMlpIdeal.τ).loc Cert.KMlpIdeal.main_arg10)) (m ((c.tc : Thread Cert.KMlpIdeal.nD Cert.KMlpIdeal.τ).loc Cert.KMlpIdeal.main_arg11)) (m ((c.tc : Thread Cert.KMlpIdeal.nD Cert.KMlpIdeal.τ).loc Cert.KMlpIdeal.main_arg12)) (m ((c.tc : Thread Cert.KMlpIdeal.nD Cert.KMlpIdeal.τ).loc Cert.KMlpIdeal.main_arg13)) (m ((c.tc : Thread Cert.KMlpIdeal.nD Cert.KMlpIdeal.τ).loc Cert.KMlpIdeal.main_arg14)) (m ((c.tc : Thread Cert.KMlpIdeal.nD Cert.KMlpIdeal.τ).loc Cert.KMlpIdeal.main_arg15))).2.2.1 = (fun _ => 1#1)
    ∧ (Cert.Pre_finite_mlp.fn (F := Ideal) (m ((c.tc : Thread Cert.KMlpIdeal.nD Cert.KMlpIdeal.τ).loc Cert.KMlpIdeal.main_arg0)) (m ((c.tc : Thread Cert.KMlpIdeal.nD Cert.KMlpIdeal.τ).loc Cert.KMlpIdeal.main_arg1)) (m ((c.tc : Thread Cert.KMlpIdeal.nD Cert.KMlpIdeal.τ).loc Cert.KMlpIdeal.main_arg2)) (m ((c.tc : Thread Cert.KMlpIdeal.nD Cert.KMlpIdeal.τ).loc Cert.KMlpIdeal.main_arg3)) (m ((c.tc : Thread Cert.KMlpIdeal.nD Cert.KMlpIdeal.τ).loc Cert.KMlpIdeal.main_arg4)) (m ((c.tc : Thread Cert.KMlpIdeal.nD Cert.KMlpIdeal.τ).loc Cert.KMlpIdeal.main_arg5)) (m ((c.tc : Thread Cert.KMlpIdeal.nD Cert.KMlpIdeal.τ).loc Cert.KMlpIdeal.main_arg6)) (m ((c.tc : Thread Cert.KMlpIdeal.nD Cert.KMlpIdeal.τ).loc Cert.KMlpIdeal.main_arg7)) (m ((c.tc : Thread Cert.KMlpIdeal.nD Cert.KMlpIdeal.τ).loc Cert.KMlpIdeal.main_arg8)) (m ((c.tc : Thread Cert.KMlpIdeal.nD Cert.KMlpIdeal.τ).loc Cert.KMlpIdeal.main_arg9)) (m ((c.tc : Thread Cert.KMlpIdeal.nD Cert.KMlpIdeal.τ).loc Cert.KMlpIdeal.main_arg10)) (m ((c.tc : Thread Cert.KMlpIdeal.nD Cert.KMlpIdeal.τ).loc Cert.KMlpIdeal.main_arg11)) (m ((c.tc : Thread Cert.KMlpIdeal.nD Cert.KMlpIdeal.τ).loc Cert.KMlpIdeal.main_arg12)) (m ((c.tc : Thread Cert.KMlpIdeal.nD Cert.KMlpIdeal.τ).loc Cert.KMlpIdeal.main_arg13)) (m ((c.tc : Thread Cert.KMlpIdeal.nD Cert.KMlpIdeal.τ).loc Cert.KMlpIdeal.main_arg14)) (m ((c.tc : Thread Cert.KMlpIdeal.nD Cert.KMlpIdeal.τ).loc Cert.KMlpIdeal.main_arg15))).2.2.2.1 = (fun _ => 1#1)
    ∧ (Cert.Pre_finite_mlp.fn (F := Ideal) (m ((c.tc : Thread Cert.KMlpIdeal.nD Cert.KMlpIdeal.τ).loc Cert.KMlpIdeal.main_arg0)) (m ((c.tc : Thread Cert.KMlpIdeal.nD Cert.KMlpIdeal.τ).loc Cert.KMlpIdeal.main_arg1)) (m ((c.tc : Thread Cert.KMlpIdeal.nD Cert.KMlpIdeal.τ).loc Cert.KMlpIdeal.main_arg2)) (m ((c.tc : Thread Cert.KMlpIdeal.nD Cert.KMlpIdeal.τ).loc Cert.KMlpIdeal.main_arg3)) (m ((c.tc : Thread Cert.KMlpIdeal.nD Cert.KMlpIdeal.τ).loc Cert.KMlpIdeal.main_arg4)) (m ((c.tc : Thread Cert.KMlpIdeal.nD Cert.KMlpIdeal.τ).loc Cert.KMlpIdeal.main_arg5)) (m ((c.tc : Thread Cert.KMlpIdeal.nD Cert.KMlpIdeal.τ).loc Cert.KMlpIdeal.main_arg6)) (m ((c.tc : Thread Cert.KMlpIdeal.nD Cert.KMlpIdeal.τ).loc Cert.KMlpIdeal.main_arg7)) (m ((c.tc : Thread Cert.KMlpIdeal.nD Cert.KMlpIdeal.τ).loc Cert.KMlpIdeal.main_arg8)) (m ((c.tc : Thread Cert.KMlpIdeal.nD Cert.KMlpIdeal.τ).loc Cert.KMlpIdeal.main_arg9)) (m ((c.tc : Thread Cert.KMlpIdeal.nD Cert.KMlpIdeal.τ).loc Cert.KMlpIdeal.main_arg10)) (m ((c.tc : Thread Cert.KMlpIdeal.nD Cert.KMlpIdeal.τ).loc Cert.KMlpIdeal.main_arg11)) (m ((c.tc : Thread Cert.KMlpIdeal.nD Cert.KMlpIdeal.τ).loc Cert.KMlpIdeal.main_arg12)) (m ((c.tc : Thread Cert.KMlpIdeal.nD Cert.KMlpIdeal.τ).loc Cert.KMlpIdeal.main_arg13)) (m ((c.tc : Thread Cert.KMlpIdeal.nD Cert.KMlpIdeal.τ).loc Cert.KMlpIdeal.main_arg14)) (m ((c.tc : Thread Cert.KMlpIdeal.nD Cert.KMlpIdeal.τ).loc Cert.KMlpIdeal.main_arg15))).2.2.2.2.1 = (fun _ => 1#1)
    ∧ (Cert.Pre_finite_mlp.fn (F := Ideal) (m ((c.tc : Thread Cert.KMlpIdeal.nD Cert.KMlpIdeal.τ).loc Cert.KMlpIdeal.main_arg0)) (m ((c.tc : Thread Cert.KMlpIdeal.nD Cert.KMlpIdeal.τ).loc Cert.KMlpIdeal.main_arg1)) (m ((c.tc : Thread Cert.KMlpIdeal.nD Cert.KMlpIdeal.τ).loc Cert.KMlpIdeal.main_arg2)) (m ((c.tc : Thread Cert.KMlpIdeal.nD Cert.KMlpIdeal.τ).loc Cert.KMlpIdeal.main_arg3)) (m ((c.tc : Thread Cert.KMlpIdeal.nD Cert.KMlpIdeal.τ).loc Cert.KMlpIdeal.main_arg4)) (m ((c.tc : Thread Cert.KMlpIdeal.nD Cert.KMlpIdeal.τ).loc Cert.KMlpIdeal.main_arg5)) (m ((c.tc : Thread Cert.KMlpIdeal.nD Cert.KMlpIdeal.τ).loc Cert.KMlpIdeal.main_arg6)) (m ((c.tc : Thread Cert.KMlpIdeal.nD Cert.KMlpIdeal.τ).loc Cert.KMlpIdeal.main_arg7)) (m ((c.tc : Thread Cert.KMlpIdeal.nD Cert.KMlpIdeal.τ).loc Cert.KMlpIdeal.main_arg8)) (m ((c.tc : Thread Cert.KMlpIdeal.nD Cert.KMlpIdeal.τ).loc Cert.KMlpIdeal.main_arg9)) (m ((c.tc : Thread Cert.KMlpIdeal.nD Cert.KMlpIdeal.τ).loc Cert.KMlpIdeal.main_arg10)) (m ((c.tc : Thread Cert.KMlpIdeal.nD Cert.KMlpIdeal.τ).loc Cert.KMlpIdeal.main_arg11)) (m ((c.tc : Thread Cert.KMlpIdeal.nD Cert.KMlpIdeal.τ).loc Cert.KMlpIdeal.main_arg12)) (m ((c.tc : Thread Cert.KMlpIdeal.nD Cert.KMlpIdeal.τ).loc Cert.KMlpIdeal.main_arg13)) (m ((c.tc : Thread Cert.KMlpIdeal.nD Cert.KMlpIdeal.τ).loc Cert.KMlpIdeal.main_arg14)) (m ((c.tc : Thread Cert.KMlpIdeal.nD Cert.KMlpIdeal.τ).loc Cert.KMlpIdeal.main_arg15))).2.2.2.2.2.1 = (fun _ => 1#1)
    ∧ (Cert.Pre_finite_mlp.fn (F := Ideal) (m ((c.tc : Thread Cert.KMlpIdeal.nD Cert.KMlpIdeal.τ).loc Cert.KMlpIdeal.main_arg0)) (m ((c.tc : Thread Cert.KMlpIdeal.nD Cert.KMlpIdeal.τ).loc Cert.KMlpIdeal.main_arg1)) (m ((c.tc : Thread Cert.KMlpIdeal.nD Cert.KMlpIdeal.τ).loc Cert.KMlpIdeal.main_arg2)) (m ((c.tc : Thread Cert.KMlpIdeal.nD Cert.KMlpIdeal.τ).loc Cert.KMlpIdeal.main_arg3)) (m ((c.tc : Thread Cert.KMlpIdeal.nD Cert.KMlpIdeal.τ).loc Cert.KMlpIdeal.main_arg4)) (m ((c.tc : Thread Cert.KMlpIdeal.nD Cert.KMlpIdeal.τ).loc Cert.KMlpIdeal.main_arg5)) (m ((c.tc : Thread Cert.KMlpIdeal.nD Cert.KMlpIdeal.τ).loc Cert.KMlpIdeal.main_arg6)) (m ((c.tc : Thread Cert.KMlpIdeal.nD Cert.KMlpIdeal.τ).loc Cert.KMlpIdeal.main_arg7)) (m ((c.tc : Thread Cert.KMlpIdeal.nD Cert.KMlpIdeal.τ).loc Cert.KMlpIdeal.main_arg8)) (m ((c.tc : Thread Cert.KMlpIdeal.nD Cert.KMlpIdeal.τ).loc Cert.KMlpIdeal.main_arg9)) (m ((c.tc : Thread Cert.KMlpIdeal.nD Cert.KMlpIdeal.τ).loc Cert.KMlpIdeal.main_arg10)) (m ((c.tc : Thread Cert.KMlpIdeal.nD Cert.KMlpIdeal.τ).loc Cert.KMlpIdeal.main_arg11)) (m ((c.tc : Thread Cert.KMlpIdeal.nD Cert.KMlpIdeal.τ).loc Cert.KMlpIdeal.main_arg12)) (m ((c.tc : Thread Cert.KMlpIdeal.nD Cert.KMlpIdeal.τ).loc Cert.KMlpIdeal.main_arg13)) (m ((c.tc : Thread Cert.KMlpIdeal.nD Cert.KMlpIdeal.τ).loc Cert.KMlpIdeal.main_arg14)) (m ((c.tc : Thread Cert.KMlpIdeal.nD Cert.KMlpIdeal.τ).loc Cert.KMlpIdeal.main_arg15))).2.2.2.2.2.2.1 = (fun _ => 1#1)
    ∧ (Cert.Pre_finite_mlp.fn (F := Ideal) (m ((c.tc : Thread Cert.KMlpIdeal.nD Cert.KMlpIdeal.τ).loc Cert.KMlpIdeal.main_arg0)) (m ((c.tc : Thread Cert.KMlpIdeal.nD Cert.KMlpIdeal.τ).loc Cert.KMlpIdeal.main_arg1)) (m ((c.tc : Thread Cert.KMlpIdeal.nD Cert.KMlpIdeal.τ).loc Cert.KMlpIdeal.main_arg2)) (m ((c.tc : Thread Cert.KMlpIdeal.nD Cert.KMlpIdeal.τ).loc Cert.KMlpIdeal.main_arg3)) (m ((c.tc : Thread Cert.KMlpIdeal.nD Cert.KMlpIdeal.τ).loc Cert.KMlpIdeal.main_arg4)) (m ((c.tc : Thread Cert.KMlpIdeal.nD Cert.KMlpIdeal.τ).loc Cert.KMlpIdeal.main_arg5)) (m ((c.tc : Thread Cert.KMlpIdeal.nD Cert.KMlpIdeal.τ).loc Cert.KMlpIdeal.main_arg6)) (m ((c.tc : Thread Cert.KMlpIdeal.nD Cert.KMlpIdeal.τ).loc Cert.KMlpIdeal.main_arg7)) (m ((c.tc : Thread Cert.KMlpIdeal.nD Cert.KMlpIdeal.τ).loc Cert.KMlpIdeal.main_arg8)) (m ((c.tc : Thread Cert.KMlpIdeal.nD Cert.KMlpIdeal.τ).loc Cert.KMlpIdeal.main_arg9)) (m ((c.tc : Thread Cert.KMlpIdeal.nD Cert.KMlpIdeal.τ).loc Cert.KMlpIdeal.main_arg10)) (m ((c.tc : Thread Cert.KMlpIdeal.nD Cert.KMlpIdeal.τ).loc Cert.KMlpIdeal.main_arg11)) (m ((c.tc : Thread Cert.KMlpIdeal.nD Cert.KMlpIdeal.τ).loc Cert.KMlpIdeal.main_arg12)) (m ((c.tc : Thread Cert.KMlpIdeal.nD Cert.KMlpIdeal.τ).loc Cert.KMlpIdeal.main_arg13)) (m ((c.tc : Thread Cert.KMlpIdeal.nD Cert.KMlpIdeal.τ).loc Cert.KMlpIdeal.main_arg14)) (m ((c.tc : Thread Cert.KMlpIdeal.nD Cert.KMlpIdeal.τ).loc Cert.KMlpIdeal.main_arg15))).2.2.2.2.2.2.2.1 = (fun _ => 1#1)
    ∧ (Cert.Pre_finite_mlp.fn (F := Ideal) (m ((c.tc : Thread Cert.KMlpIdeal.nD Cert.KMlpIdeal.τ).loc Cert.KMlpIdeal.main_arg0)) (m ((c.tc : Thread Cert.KMlpIdeal.nD Cert.KMlpIdeal.τ).loc Cert.KMlpIdeal.main_arg1)) (m ((c.tc : Thread Cert.KMlpIdeal.nD Cert.KMlpIdeal.τ).loc Cert.KMlpIdeal.main_arg2)) (m ((c.tc : Thread Cert.KMlpIdeal.nD Cert.KMlpIdeal.τ).loc Cert.KMlpIdeal.main_arg3)) (m ((c.tc : Thread Cert.KMlpIdeal.nD Cert.KMlpIdeal.τ).loc Cert.KMlpIdeal.main_arg4)) (m ((c.tc : Thread Cert.KMlpIdeal.nD Cert.KMlpIdeal.τ).loc Cert.KMlpIdeal.main_arg5)) (m ((c.tc : Thread Cert.KMlpIdeal.nD Cert.KMlpIdeal.τ).loc Cert.KMlpIdeal.main_arg6)) (m ((c.tc : Thread Cert.KMlpIdeal.nD Cert.KMlpIdeal.τ).loc Cert.KMlpIdeal.main_arg7)) (m ((c.tc : Thread Cert.KMlpIdeal.nD Cert.KMlpIdeal.τ).loc Cert.KMlpIdeal.main_arg8)) (m ((c.tc : Thread Cert.KMlpIdeal.nD Cert.KMlpIdeal.τ).loc Cert.KMlpIdeal.main_arg9)) (m ((c.tc : Thread Cert.KMlpIdeal.nD Cert.KMlpIdeal.τ).loc Cert.KMlpIdeal.main_arg10)) (m ((c.tc : Thread Cert.KMlpIdeal.nD Cert.KMlpIdeal.τ).loc Cert.KMlpIdeal.main_arg11)) (m ((c.tc : Thread Cert.KMlpIdeal.nD Cert.KMlpIdeal.τ).loc Cert.KMlpIdeal.main_arg12)) (m ((c.tc : Thread Cert.KMlpIdeal.nD Cert.KMlpIdeal.τ).loc Cert.KMlpIdeal.main_arg13)) (m ((c.tc : Thread Cert.KMlpIdeal.nD Cert.KMlpIdeal.τ).loc Cert.KMlpIdeal.main_arg14)) (m ((c.tc : Thread Cert.KMlpIdeal.nD Cert.KMlpIdeal.τ).loc Cert.KMlpIdeal.main_arg15))).2.2.2.2.2.2.2.2.1 = (fun _ => 1#1)
    ∧ (Cert.Pre_finite_mlp.fn (F := Ideal) (m ((c.tc : Thread Cert.KMlpIdeal.nD Cert.KMlpIdeal.τ).loc Cert.KMlpIdeal.main_arg0)) (m ((c.tc : Thread Cert.KMlpIdeal.nD Cert.KMlpIdeal.τ).loc Cert.KMlpIdeal.main_arg1)) (m ((c.tc : Thread Cert.KMlpIdeal.nD Cert.KMlpIdeal.τ).loc Cert.KMlpIdeal.main_arg2)) (m ((c.tc : Thread Cert.KMlpIdeal.nD Cert.KMlpIdeal.τ).loc Cert.KMlpIdeal.main_arg3)) (m ((c.tc : Thread Cert.KMlpIdeal.nD Cert.KMlpIdeal.τ).loc Cert.KMlpIdeal.main_arg4)) (m ((c.tc : Thread Cert.KMlpIdeal.nD Cert.KMlpIdeal.τ).loc Cert.KMlpIdeal.main_arg5)) (m ((c.tc : Thread Cert.KMlpIdeal.nD Cert.KMlpIdeal.τ).loc Cert.KMlpIdeal.main_arg6)) (m ((c.tc : Thread Cert.KMlpIdeal.nD Cert.KMlpIdeal.τ).loc Cert.KMlpIdeal.main_arg7)) (m ((c.tc : Thread Cert.KMlpIdeal.nD Cert.KMlpIdeal.τ).loc Cert.KMlpIdeal.main_arg8)) (m ((c.tc : Thread Cert.KMlpIdeal.nD Cert.KMlpIdeal.τ).loc Cert.KMlpIdeal.main_arg9)) (m ((c.tc : Thread Cert.KMlpIdeal.nD Cert.KMlpIdeal.τ).loc Cert.KMlpIdeal.main_arg10)) (m ((c.tc : Thread Cert.KMlpIdeal.nD Cert.KMlpIdeal.τ).loc Cert.KMlpIdeal.main_arg11)) (m ((c.tc : Thread Cert.KMlpIdeal.nD Cert.KMlpIdeal.τ).loc Cert.KMlpIdeal.main_arg12)) (m ((c.tc : Thread Cert.KMlpIdeal.nD Cert.KMlpIdeal.τ).loc Cert.KMlpIdeal.main_arg13)) (m ((c.tc : Thread Cert.KMlpIdeal.nD Cert.KMlpIdeal.τ).loc Cert.KMlpIdeal.main_arg14)) (m ((c.tc : Thread Cert.KMlpIdeal.nD Cert.KMlpIdeal.τ).loc Cert.KMlpIdeal.main_arg15))).2.2.2.2.2.2.2.2.2.1 = (fun _ => 1#1)
    ∧ (Cert.Pre_finite_mlp.fn (F := Ideal) (m ((c.tc : Thread Cert.KMlpIdeal.nD Cert.KMlpIdeal.τ).loc Cert.KMlpIdeal.main_arg0)) (m ((c.tc : Thread Cert.KMlpIdeal.nD Cert.KMlpIdeal.τ).loc Cert.KMlpIdeal.main_arg1)) (m ((c.tc : Thread Cert.KMlpIdeal.nD Cert.KMlpIdeal.τ).loc Cert.KMlpIdeal.main_arg2)) (m ((c.tc : Thread Cert.KMlpIdeal.nD Cert.KMlpIdeal.τ).loc Cert.KMlpIdeal.main_arg3)) (m ((c.tc : Thread Cert.KMlpIdeal.nD Cert.KMlpIdeal.τ).loc Cert.KMlpIdeal.main_arg4)) (m ((c.tc : Thread Cert.KMlpIdeal.nD Cert.KMlpIdeal.τ).loc Cert.KMlpIdeal.main_arg5)) (m ((c.tc : Thread Cert.KMlpIdeal.nD Cert.KMlpIdeal.τ).loc Cert.KMlpIdeal.main_arg6)) (m ((c.tc : Thread Cert.KMlpIdeal.nD Cert.KMlpIdeal.τ).loc Cert.KMlpIdeal.main_arg7)) (m ((c.tc : Thread Cert.KMlpIdeal.nD Cert.KMlpIdeal.τ).loc Cert.KMlpIdeal.main_arg8)) (m ((c.tc : Thread Cert.KMlpIdeal.nD Cert.KMlpIdeal.τ).loc Cert.KMlpIdeal.main_arg9)) (m ((c.tc : Thread Cert.KMlpIdeal.nD Cert.KMlpIdeal.τ).loc Cert.KMlpIdeal.main_arg10)) (m ((c.tc : Thread Cert.KMlpIdeal.nD Cert.KMlpIdeal.τ).loc Cert.KMlpIdeal.main_arg11)) (m ((c.tc : Thread Cert.KMlpIdeal.nD Cert.KMlpIdeal.τ).loc Cert.KMlpIdeal.main_arg12)) (m ((c.tc : Thread Cert.KMlpIdeal.nD Cert.KMlpIdeal.τ).loc Cert.KMlpIdeal.main_arg13)) (m ((c.tc : Thread Cert.KMlpIdeal.nD Cert.KMlpIdeal.τ).loc Cert.KMlpIdeal.main_arg14)) (m ((c.tc : Thread Cert.KMlpIdeal.nD Cert.KMlpIdeal.τ).loc Cert.KMlpIdeal.main_arg15))).2.2.2.2.2.2.2.2.2.2.1 = (fun _ => 1#1)
    ∧ (Cert.Pre_finite_mlp.fn (F := Ideal) (m ((c.tc : Thread Cert.KMlpIdeal.nD Cert.KMlpIdeal.τ).loc Cert.KMlpIdeal.main_arg0)) (m ((c.tc : Thread Cert.KMlpIdeal.nD Cert.KMlpIdeal.τ).loc Cert.KMlpIdeal.main_arg1)) (m ((c.tc : Thread Cert.KMlpIdeal.nD Cert.KMlpIdeal.τ).loc Cert.KMlpIdeal.main_arg2)) (m ((c.tc : Thread Cert.KMlpIdeal.nD Cert.KMlpIdeal.τ).loc Cert.KMlpIdeal.main_arg3)) (m ((c.tc : Thread Cert.KMlpIdeal.nD Cert.KMlpIdeal.τ).loc Cert.KMlpIdeal.main_arg4)) (m ((c.tc : Thread Cert.KMlpIdeal.nD Cert.KMlpIdeal.τ).loc Cert.KMlpIdeal.main_arg5)) (m ((c.tc : Thread Cert.KMlpIdeal.nD Cert.KMlpIdeal.τ).loc Cert.KMlpIdeal.main_arg6)) (m ((c.tc : Thread Cert.KMlpIdeal.nD Cert.KMlpIdeal.τ).loc Cert.KMlpIdeal.main_arg7)) (m ((c.tc : Thread Cert.KMlpIdeal.nD Cert.KMlpIdeal.τ).loc Cert.KMlpIdeal.main_arg8)) (m ((c.tc : Thread Cert.KMlpIdeal.nD Cert.KMlpIdeal.τ).loc Cert.KMlpIdeal.main_arg9)) (m ((c.tc : Thread Cert.KMlpIdeal.nD Cert.KMlpIdeal.τ).loc Cert.KMlpIdeal.main_arg10)) (m ((c.tc : Thread Cert.KMlpIdeal.nD Cert.KMlpIdeal.τ).loc Cert.KMlpIdeal.main_arg11)) (m ((c.tc : Thread Cert.KMlpIdeal.nD Cert.KMlpIdeal.τ).loc Cert.KMlpIdeal.main_arg12)) (m ((c.tc : Thread Cert.KMlpIdeal.nD Cert.KMlpIdeal.τ).loc Cert.KMlpIdeal.main_arg13)) (m ((c.tc : Thread Cert.KMlpIdeal.nD Cert.KMlpIdeal.τ).loc Cert.KMlpIdeal.main_arg14)) (m ((c.tc : Thread Cert.KMlpIdeal.nD Cert.KMlpIdeal.τ).loc Cert.KMlpIdeal.main_arg15))).2.2.2.2.2.2.2.2.2.2.2.1 = (fun _ => 1#1)
    ∧ (Cert.Pre_finite_mlp.fn (F := Ideal) (m ((c.tc : Thread Cert.KMlpIdeal.nD Cert.KMlpIdeal.τ).loc Cert.KMlpIdeal.main_arg0)) (m ((c.tc : Thread Cert.KMlpIdeal.nD Cert.KMlpIdeal.τ).loc Cert.KMlpIdeal.main_arg1)) (m ((c.tc : Thread Cert.KMlpIdeal.nD Cert.KMlpIdeal.τ).loc Cert.KMlpIdeal.main_arg2)) (m ((c.tc : Thread Cert.KMlpIdeal.nD Cert.KMlpIdeal.τ).loc Cert.KMlpIdeal.main_arg3)) (m ((c.tc : Thread Cert.KMlpIdeal.nD Cert.KMlpIdeal.τ).loc Cert.KMlpIdeal.main_arg4)) (m ((c.tc : Thread Cert.KMlpIdeal.nD Cert.KMlpIdeal.τ).loc Cert.KMlpIdeal.main_arg5)) (m ((c.tc : Thread Cert.KMlpIdeal.nD Cert.KMlpIdeal.τ).loc Cert.KMlpIdeal.main_arg6)) (m ((c.tc : Thread Cert.KMlpIdeal.nD Cert.KMlpIdeal.τ).loc Cert.KMlpIdeal.main_arg7)) (m ((c.tc : Thread Cert.KMlpIdeal.nD Cert.KMlpIdeal.τ).loc Cert.KMlpIdeal.main_arg8)) (m ((c.tc : Thread Cert.KMlpIdeal.nD Cert.KMlpIdeal.τ).loc Cert.KMlpIdeal.main_arg9)) (m ((c.tc : Thread Cert.KMlpIdeal.nD Cert.KMlpIdeal.τ).loc Cert.KMlpIdeal.main_arg10)) (m ((c.tc : Thread Cert.KMlpIdeal.nD Cert.KMlpIdeal.τ).loc Cert.KMlpIdeal.main_arg11)) (m ((c.tc : Thread Cert.KMlpIdeal.nD Cert.KMlpIdeal.τ).loc Cert.KMlpIdeal.main_arg12)) (m ((c.tc : Thread Cert.KMlpIdeal.nD Cert.KMlpIdeal.τ).loc Cert.KMlpIdeal.main_arg13)) (m ((c.tc : Thread Cert.KMlpIdeal.nD Cert.KMlpIdeal.τ).loc Cert.KMlpIdeal.main_arg14)) (m ((c.tc : Thread Cert.KMlpIdeal.nD Cert.KMlpIdeal.τ).loc Cert.KMlpIdeal.main_arg15))).2.2.2.2.2.2.2.2.2.2.2.2.1 = (fun _ => 1#1)
    ∧ (Cert.Pre_finite_mlp.fn (F := Ideal) (m ((c.tc : Thread Cert.KMlpIdeal.nD Cert.KMlpIdeal.τ).loc Cert.KMlpIdeal.main_arg0)) (m ((c.tc : Thread Cert.KMlpIdeal.nD Cert.KMlpIdeal.τ).loc Cert.KMlpIdeal.main_arg1)) (m ((c.tc : Thread Cert.KMlpIdeal.nD Cert.KMlpIdeal.τ).loc Cert.KMlpIdeal.main_arg2)) (m ((c.tc : Thread Cert.KMlpIdeal.nD Cert.KMlpIdeal.τ).loc Cert.KMlpIdeal.main_arg3)) (m ((c.tc : Thread Cert.KMlpIdeal.nD Cert.KMlpIdeal.τ).loc Cert.KMlpIdeal.main_arg4)) (m ((c.tc : Thread Cert.KMlpIdeal.nD Cert.KMlpIdeal.τ).loc Cert.KMlpIdeal.main_arg5)) (m ((c.tc : Thread Cert.KMlpIdeal.nD Cert.KMlpIdeal.τ).loc Cert.KMlpIdeal.main_arg6)) (m ((c.tc : Thread Cert.KMlpIdeal.nD Cert.KMlpIdeal.τ).loc Cert.KMlpIdeal.main_arg7)) (m ((c.tc : Thread Cert.KMlpIdeal.nD Cert.KMlpIdeal.τ).loc Cert.KMlpIdeal.main_arg8)) (m ((c.tc : Thread Cert.KMlpIdeal.nD Cert.KMlpIdeal.τ).loc Cert.KMlpIdeal.main_arg9)) (m ((c.tc : Thread Cert.KMlpIdeal.nD Cert.KMlpIdeal.τ).loc Cert.KMlpIdeal.main_arg10)) (m ((c.tc : Thread Cert.KMlpIdeal.nD Cert.KMlpIdeal.τ).loc Cert.KMlpIdeal.main_arg11)) (m ((c.tc : Thread Cert.KMlpIdeal.nD Cert.KMlpIdeal.τ).loc Cert.KMlpIdeal.main_arg12)) (m ((c.tc : Thread Cert.KMlpIdeal.nD Cert.KMlpIdeal.τ).loc Cert.KMlpIdeal.main_arg13)) (m ((c.tc : Thread Cert.KMlpIdeal.nD Cert.KMlpIdeal.τ).loc Cert.KMlpIdeal.main_arg14)) (m ((c.tc : Thread Cert.KMlpIdeal.nD Cert.KMlpIdeal.τ).loc Cert.KMlpIdeal.main_arg15))).2.2.2.2.2.2.2.2.2.2.2.2.2.1 = (fun _ => 1#1)
    ∧ (Cert.Pre_finite_mlp.fn (F := Ideal) (m ((c.tc : Thread Cert.KMlpIdeal.nD Cert.KMlpIdeal.τ).loc Cert.KMlpIdeal.main_arg0)) (m ((c.tc : Thread Cert.KMlpIdeal.nD Cert.KMlpIdeal.τ).loc Cert.KMlpIdeal.main_arg1)) (m ((c.tc : Thread Cert.KMlpIdeal.nD Cert.KMlpIdeal.τ).loc Cert.KMlpIdeal.main_arg2)) (m ((c.tc : Thread Cert.KMlpIdeal.nD Cert.KMlpIdeal.τ).loc Cert.KMlpIdeal.main_arg3)) (m ((c.tc : Thread Cert.KMlpIdeal.nD Cert.KMlpIdeal.τ).loc Cert.KMlpIdeal.main_arg4)) (m ((c.tc : Thread Cert.KMlpIdeal.nD Cert.KMlpIdeal.τ).loc Cert.KMlpIdeal.main_arg5)) (m ((c.tc : Thread Cert.KMlpIdeal.nD Cert.KMlpIdeal.τ).loc Cert.KMlpIdeal.main_arg6)) (m ((c.tc : Thread Cert.KMlpIdeal.nD Cert.KMlpIdeal.τ).loc Cert.KMlpIdeal.main_arg7)) (m ((c.tc : Thread Cert.KMlpIdeal.nD Cert.KMlpIdeal.τ).loc Cert.KMlpIdeal.main_arg8)) (m ((c.tc : Thread Cert.KMlpIdeal.nD Cert.KMlpIdeal.τ).loc Cert.KMlpIdeal.main_arg9)) (m ((c.tc : Thread Cert.KMlpIdeal.nD Cert.KMlpIdeal.τ).loc Cert.KMlpIdeal.main_arg10)) (m ((c.tc : Thread Cert.KMlpIdeal.nD Cert.KMlpIdeal.τ).loc Cert.KMlpIdeal.main_arg11)) (m ((c.tc : Thread Cert.KMlpIdeal.nD Cert.KMlpIdeal.τ).loc Cert.KMlpIdeal.main_arg12)) (m ((c.tc : Thread Cert.KMlpIdeal.nD Cert.KMlpIdeal.τ).loc Cert.KMlpIdeal.main_arg13)) (m ((c.tc : Thread Cert.KMlpIdeal.nD Cert.KMlpIdeal.τ).loc Cert.KMlpIdeal.main_arg14)) (m ((c.tc : Thread Cert.KMlpIdeal.nD Cert.KMlpIdeal.τ).loc Cert.KMlpIdeal.main_arg15))).2.2.2.2.2.2.2.2.2.2.2.2.2.2 = (fun _ => 1#1)

def Pre_RMlpIdeal (m : (ℓ : Loc Cert.RMlpIdeal.nD Cert.RMlpIdeal.τ Cert.RMlpIdeal.sig) → Buf (Elt Ideal) ℓ) : Prop :=
  True

def Pre_RMlpIdeal_finite_mlp [hPre_finite_mlp : Cert.Pre_finite_mlp.Facts] (m : (ℓ : Loc Cert.RMlpIdeal.nD Cert.RMlpIdeal.τ Cert.RMlpIdeal.sig) → Buf (Elt Ideal) ℓ) : Prop :=
  ∀ c : Dev Cert.RMlpIdeal.nD,
    (Cert.Pre_finite_mlp.fn (F := Ideal) (m ((c.tc : Thread Cert.RMlpIdeal.nD Cert.RMlpIdeal.τ).loc Cert.RMlpIdeal.main_arg0)) (m ((c.tc : Thread Cert.RMlpIdeal.nD Cert.RMlpIdeal.τ).loc Cert.RMlpIdeal.main_arg1)) (m ((c.tc : Thread Cert.RMlpIdeal.nD Cert.RMlpIdeal.τ).loc Cert.RMlpIdeal.main_arg2)) (m ((c.tc : Thread Cert.RMlpIdeal.nD Cert.RMlpIdeal.τ).loc Cert.RMlpIdeal.main_arg3)) (m ((c.tc : Thread Cert.RMlpIdeal.nD Cert.RMlpIdeal.τ).loc Cert.RMlpIdeal.main_arg4)) (m ((c.tc : Thread Cert.RMlpIdeal.nD Cert.RMlpIdeal.τ).loc Cert.RMlpIdeal.main_arg5)) (m ((c.tc : Thread Cert.RMlpIdeal.nD Cert.RMlpIdeal.τ).loc Cert.RMlpIdeal.main_arg6)) (m ((c.tc : Thread Cert.RMlpIdeal.nD Cert.RMlpIdeal.τ).loc Cert.RMlpIdeal.main_arg7)) (m ((c.tc : Thread Cert.RMlpIdeal.nD Cert.RMlpIdeal.τ).loc Cert.RMlpIdeal.main_arg8)) (m ((c.tc : Thread Cert.RMlpIdeal.nD Cert.RMlpIdeal.τ).loc Cert.RMlpIdeal.main_arg9)) (m ((c.tc : Thread Cert.RMlpIdeal.nD Cert.RMlpIdeal.τ).loc Cert.RMlpIdeal.main_arg10)) (m ((c.tc : Thread Cert.RMlpIdeal.nD Cert.RMlpIdeal.τ).loc Cert.RMlpIdeal.main_arg11)) (m ((c.tc : Thread Cert.RMlpIdeal.nD Cert.RMlpIdeal.τ).loc Cert.RMlpIdeal.main_arg12)) (m ((c.tc : Thread Cert.RMlpIdeal.nD Cert.RMlpIdeal.τ).loc Cert.RMlpIdeal.main_arg13)) (m ((c.tc : Thread Cert.RMlpIdeal.nD Cert.RMlpIdeal.τ).loc Cert.RMlpIdeal.main_arg14)) (m ((c.tc : Thread Cert.RMlpIdeal.nD Cert.RMlpIdeal.τ).loc Cert.RMlpIdeal.main_arg15))).1 = (fun _ => 1#1)
    ∧ (Cert.Pre_finite_mlp.fn (F := Ideal) (m ((c.tc : Thread Cert.RMlpIdeal.nD Cert.RMlpIdeal.τ).loc Cert.RMlpIdeal.main_arg0)) (m ((c.tc : Thread Cert.RMlpIdeal.nD Cert.RMlpIdeal.τ).loc Cert.RMlpIdeal.main_arg1)) (m ((c.tc : Thread Cert.RMlpIdeal.nD Cert.RMlpIdeal.τ).loc Cert.RMlpIdeal.main_arg2)) (m ((c.tc : Thread Cert.RMlpIdeal.nD Cert.RMlpIdeal.τ).loc Cert.RMlpIdeal.main_arg3)) (m ((c.tc : Thread Cert.RMlpIdeal.nD Cert.RMlpIdeal.τ).loc Cert.RMlpIdeal.main_arg4)) (m ((c.tc : Thread Cert.RMlpIdeal.nD Cert.RMlpIdeal.τ).loc Cert.RMlpIdeal.main_arg5)) (m ((c.tc : Thread Cert.RMlpIdeal.nD Cert.RMlpIdeal.τ).loc Cert.RMlpIdeal.main_arg6)) (m ((c.tc : Thread Cert.RMlpIdeal.nD Cert.RMlpIdeal.τ).loc Cert.RMlpIdeal.main_arg7)) (m ((c.tc : Thread Cert.RMlpIdeal.nD Cert.RMlpIdeal.τ).loc Cert.RMlpIdeal.main_arg8)) (m ((c.tc : Thread Cert.RMlpIdeal.nD Cert.RMlpIdeal.τ).loc Cert.RMlpIdeal.main_arg9)) (m ((c.tc : Thread Cert.RMlpIdeal.nD Cert.RMlpIdeal.τ).loc Cert.RMlpIdeal.main_arg10)) (m ((c.tc : Thread Cert.RMlpIdeal.nD Cert.RMlpIdeal.τ).loc Cert.RMlpIdeal.main_arg11)) (m ((c.tc : Thread Cert.RMlpIdeal.nD Cert.RMlpIdeal.τ).loc Cert.RMlpIdeal.main_arg12)) (m ((c.tc : Thread Cert.RMlpIdeal.nD Cert.RMlpIdeal.τ).loc Cert.RMlpIdeal.main_arg13)) (m ((c.tc : Thread Cert.RMlpIdeal.nD Cert.RMlpIdeal.τ).loc Cert.RMlpIdeal.main_arg14)) (m ((c.tc : Thread Cert.RMlpIdeal.nD Cert.RMlpIdeal.τ).loc Cert.RMlpIdeal.main_arg15))).2.1 = (fun _ => 1#1)
    ∧ (Cert.Pre_finite_mlp.fn (F := Ideal) (m ((c.tc : Thread Cert.RMlpIdeal.nD Cert.RMlpIdeal.τ).loc Cert.RMlpIdeal.main_arg0)) (m ((c.tc : Thread Cert.RMlpIdeal.nD Cert.RMlpIdeal.τ).loc Cert.RMlpIdeal.main_arg1)) (m ((c.tc : Thread Cert.RMlpIdeal.nD Cert.RMlpIdeal.τ).loc Cert.RMlpIdeal.main_arg2)) (m ((c.tc : Thread Cert.RMlpIdeal.nD Cert.RMlpIdeal.τ).loc Cert.RMlpIdeal.main_arg3)) (m ((c.tc : Thread Cert.RMlpIdeal.nD Cert.RMlpIdeal.τ).loc Cert.RMlpIdeal.main_arg4)) (m ((c.tc : Thread Cert.RMlpIdeal.nD Cert.RMlpIdeal.τ).loc Cert.RMlpIdeal.main_arg5)) (m ((c.tc : Thread Cert.RMlpIdeal.nD Cert.RMlpIdeal.τ).loc Cert.RMlpIdeal.main_arg6)) (m ((c.tc : Thread Cert.RMlpIdeal.nD Cert.RMlpIdeal.τ).loc Cert.RMlpIdeal.main_arg7)) (m ((c.tc : Thread Cert.RMlpIdeal.nD Cert.RMlpIdeal.τ).loc Cert.RMlpIdeal.main_arg8)) (m ((c.tc : Thread Cert.RMlpIdeal.nD Cert.RMlpIdeal.τ).loc Cert.RMlpIdeal.main_arg9)) (m ((c.tc : Thread Cert.RMlpIdeal.nD Cert.RMlpIdeal.τ).loc Cert.RMlpIdeal.main_arg10)) (m ((c.tc : Thread Cert.RMlpIdeal.nD Cert.RMlpIdeal.τ).loc Cert.RMlpIdeal.main_arg11)) (m ((c.tc : Thread Cert.RMlpIdeal.nD Cert.RMlpIdeal.τ).loc Cert.RMlpIdeal.main_arg12)) (m ((c.tc : Thread Cert.RMlpIdeal.nD Cert.RMlpIdeal.τ).loc Cert.RMlpIdeal.main_arg13)) (m ((c.tc : Thread Cert.RMlpIdeal.nD Cert.RMlpIdeal.τ).loc Cert.RMlpIdeal.main_arg14)) (m ((c.tc : Thread Cert.RMlpIdeal.nD Cert.RMlpIdeal.τ).loc Cert.RMlpIdeal.main_arg15))).2.2.1 = (fun _ => 1#1)
    ∧ (Cert.Pre_finite_mlp.fn (F := Ideal) (m ((c.tc : Thread Cert.RMlpIdeal.nD Cert.RMlpIdeal.τ).loc Cert.RMlpIdeal.main_arg0)) (m ((c.tc : Thread Cert.RMlpIdeal.nD Cert.RMlpIdeal.τ).loc Cert.RMlpIdeal.main_arg1)) (m ((c.tc : Thread Cert.RMlpIdeal.nD Cert.RMlpIdeal.τ).loc Cert.RMlpIdeal.main_arg2)) (m ((c.tc : Thread Cert.RMlpIdeal.nD Cert.RMlpIdeal.τ).loc Cert.RMlpIdeal.main_arg3)) (m ((c.tc : Thread Cert.RMlpIdeal.nD Cert.RMlpIdeal.τ).loc Cert.RMlpIdeal.main_arg4)) (m ((c.tc : Thread Cert.RMlpIdeal.nD Cert.RMlpIdeal.τ).loc Cert.RMlpIdeal.main_arg5)) (m ((c.tc : Thread Cert.RMlpIdeal.nD Cert.RMlpIdeal.τ).loc Cert.RMlpIdeal.main_arg6)) (m ((c.tc : Thread Cert.RMlpIdeal.nD Cert.RMlpIdeal.τ).loc Cert.RMlpIdeal.main_arg7)) (m ((c.tc : Thread Cert.RMlpIdeal.nD Cert.RMlpIdeal.τ).loc Cert.RMlpIdeal.main_arg8)) (m ((c.tc : Thread Cert.RMlpIdeal.nD Cert.RMlpIdeal.τ).loc Cert.RMlpIdeal.main_arg9)) (m ((c.tc : Thread Cert.RMlpIdeal.nD Cert.RMlpIdeal.τ).loc Cert.RMlpIdeal.main_arg10)) (m ((c.tc : Thread Cert.RMlpIdeal.nD Cert.RMlpIdeal.τ).loc Cert.RMlpIdeal.main_arg11)) (m ((c.tc : Thread Cert.RMlpIdeal.nD Cert.RMlpIdeal.τ).loc Cert.RMlpIdeal.main_arg12)) (m ((c.tc : Thread Cert.RMlpIdeal.nD Cert.RMlpIdeal.τ).loc Cert.RMlpIdeal.main_arg13)) (m ((c.tc : Thread Cert.RMlpIdeal.nD Cert.RMlpIdeal.τ).loc Cert.RMlpIdeal.main_arg14)) (m ((c.tc : Thread Cert.RMlpIdeal.nD Cert.RMlpIdeal.τ).loc Cert.RMlpIdeal.main_arg15))).2.2.2.1 = (fun _ => 1#1)
    ∧ (Cert.Pre_finite_mlp.fn (F := Ideal) (m ((c.tc : Thread Cert.RMlpIdeal.nD Cert.RMlpIdeal.τ).loc Cert.RMlpIdeal.main_arg0)) (m ((c.tc : Thread Cert.RMlpIdeal.nD Cert.RMlpIdeal.τ).loc Cert.RMlpIdeal.main_arg1)) (m ((c.tc : Thread Cert.RMlpIdeal.nD Cert.RMlpIdeal.τ).loc Cert.RMlpIdeal.main_arg2)) (m ((c.tc : Thread Cert.RMlpIdeal.nD Cert.RMlpIdeal.τ).loc Cert.RMlpIdeal.main_arg3)) (m ((c.tc : Thread Cert.RMlpIdeal.nD Cert.RMlpIdeal.τ).loc Cert.RMlpIdeal.main_arg4)) (m ((c.tc : Thread Cert.RMlpIdeal.nD Cert.RMlpIdeal.τ).loc Cert.RMlpIdeal.main_arg5)) (m ((c.tc : Thread Cert.RMlpIdeal.nD Cert.RMlpIdeal.τ).loc Cert.RMlpIdeal.main_arg6)) (m ((c.tc : Thread Cert.RMlpIdeal.nD Cert.RMlpIdeal.τ).loc Cert.RMlpIdeal.main_arg7)) (m ((c.tc : Thread Cert.RMlpIdeal.nD Cert.RMlpIdeal.τ).loc Cert.RMlpIdeal.main_arg8)) (m ((c.tc : Thread Cert.RMlpIdeal.nD Cert.RMlpIdeal.τ).loc Cert.RMlpIdeal.main_arg9)) (m ((c.tc : Thread Cert.RMlpIdeal.nD Cert.RMlpIdeal.τ).loc Cert.RMlpIdeal.main_arg10)) (m ((c.tc : Thread Cert.RMlpIdeal.nD Cert.RMlpIdeal.τ).loc Cert.RMlpIdeal.main_arg11)) (m ((c.tc : Thread Cert.RMlpIdeal.nD Cert.RMlpIdeal.τ).loc Cert.RMlpIdeal.main_arg12)) (m ((c.tc : Thread Cert.RMlpIdeal.nD Cert.RMlpIdeal.τ).loc Cert.RMlpIdeal.main_arg13)) (m ((c.tc : Thread Cert.RMlpIdeal.nD Cert.RMlpIdeal.τ).loc Cert.RMlpIdeal.main_arg14)) (m ((c.tc : Thread Cert.RMlpIdeal.nD Cert.RMlpIdeal.τ).loc Cert.RMlpIdeal.main_arg15))).2.2.2.2.1 = (fun _ => 1#1)
    ∧ (Cert.Pre_finite_mlp.fn (F := Ideal) (m ((c.tc : Thread Cert.RMlpIdeal.nD Cert.RMlpIdeal.τ).loc Cert.RMlpIdeal.main_arg0)) (m ((c.tc : Thread Cert.RMlpIdeal.nD Cert.RMlpIdeal.τ).loc Cert.RMlpIdeal.main_arg1)) (m ((c.tc : Thread Cert.RMlpIdeal.nD Cert.RMlpIdeal.τ).loc Cert.RMlpIdeal.main_arg2)) (m ((c.tc : Thread Cert.RMlpIdeal.nD Cert.RMlpIdeal.τ).loc Cert.RMlpIdeal.main_arg3)) (m ((c.tc : Thread Cert.RMlpIdeal.nD Cert.RMlpIdeal.τ).loc Cert.RMlpIdeal.main_arg4)) (m ((c.tc : Thread Cert.RMlpIdeal.nD Cert.RMlpIdeal.τ).loc Cert.RMlpIdeal.main_arg5)) (m ((c.tc : Thread Cert.RMlpIdeal.nD Cert.RMlpIdeal.τ).loc Cert.RMlpIdeal.main_arg6)) (m ((c.tc : Thread Cert.RMlpIdeal.nD Cert.RMlpIdeal.τ).loc Cert.RMlpIdeal.main_arg7)) (m ((c.tc : Thread Cert.RMlpIdeal.nD Cert.RMlpIdeal.τ).loc Cert.RMlpIdeal.main_arg8)) (m ((c.tc : Thread Cert.RMlpIdeal.nD Cert.RMlpIdeal.τ).loc Cert.RMlpIdeal.main_arg9)) (m ((c.tc : Thread Cert.RMlpIdeal.nD Cert.RMlpIdeal.τ).loc Cert.RMlpIdeal.main_arg10)) (m ((c.tc : Thread Cert.RMlpIdeal.nD Cert.RMlpIdeal.τ).loc Cert.RMlpIdeal.main_arg11)) (m ((c.tc : Thread Cert.RMlpIdeal.nD Cert.RMlpIdeal.τ).loc Cert.RMlpIdeal.main_arg12)) (m ((c.tc : Thread Cert.RMlpIdeal.nD Cert.RMlpIdeal.τ).loc Cert.RMlpIdeal.main_arg13)) (m ((c.tc : Thread Cert.RMlpIdeal.nD Cert.RMlpIdeal.τ).loc Cert.RMlpIdeal.main_arg14)) (m ((c.tc : Thread Cert.RMlpIdeal.nD Cert.RMlpIdeal.τ).loc Cert.RMlpIdeal.main_arg15))).2.2.2.2.2.1 = (fun _ => 1#1)
    ∧ (Cert.Pre_finite_mlp.fn (F := Ideal) (m ((c.tc : Thread Cert.RMlpIdeal.nD Cert.RMlpIdeal.τ).loc Cert.RMlpIdeal.main_arg0)) (m ((c.tc : Thread Cert.RMlpIdeal.nD Cert.RMlpIdeal.τ).loc Cert.RMlpIdeal.main_arg1)) (m ((c.tc : Thread Cert.RMlpIdeal.nD Cert.RMlpIdeal.τ).loc Cert.RMlpIdeal.main_arg2)) (m ((c.tc : Thread Cert.RMlpIdeal.nD Cert.RMlpIdeal.τ).loc Cert.RMlpIdeal.main_arg3)) (m ((c.tc : Thread Cert.RMlpIdeal.nD Cert.RMlpIdeal.τ).loc Cert.RMlpIdeal.main_arg4)) (m ((c.tc : Thread Cert.RMlpIdeal.nD Cert.RMlpIdeal.τ).loc Cert.RMlpIdeal.main_arg5)) (m ((c.tc : Thread Cert.RMlpIdeal.nD Cert.RMlpIdeal.τ).loc Cert.RMlpIdeal.main_arg6)) (m ((c.tc : Thread Cert.RMlpIdeal.nD Cert.RMlpIdeal.τ).loc Cert.RMlpIdeal.main_arg7)) (m ((c.tc : Thread Cert.RMlpIdeal.nD Cert.RMlpIdeal.τ).loc Cert.RMlpIdeal.main_arg8)) (m ((c.tc : Thread Cert.RMlpIdeal.nD Cert.RMlpIdeal.τ).loc Cert.RMlpIdeal.main_arg9)) (m ((c.tc : Thread Cert.RMlpIdeal.nD Cert.RMlpIdeal.τ).loc Cert.RMlpIdeal.main_arg10)) (m ((c.tc : Thread Cert.RMlpIdeal.nD Cert.RMlpIdeal.τ).loc Cert.RMlpIdeal.main_arg11)) (m ((c.tc : Thread Cert.RMlpIdeal.nD Cert.RMlpIdeal.τ).loc Cert.RMlpIdeal.main_arg12)) (m ((c.tc : Thread Cert.RMlpIdeal.nD Cert.RMlpIdeal.τ).loc Cert.RMlpIdeal.main_arg13)) (m ((c.tc : Thread Cert.RMlpIdeal.nD Cert.RMlpIdeal.τ).loc Cert.RMlpIdeal.main_arg14)) (m ((c.tc : Thread Cert.RMlpIdeal.nD Cert.RMlpIdeal.τ).loc Cert.RMlpIdeal.main_arg15))).2.2.2.2.2.2.1 = (fun _ => 1#1)
    ∧ (Cert.Pre_finite_mlp.fn (F := Ideal) (m ((c.tc : Thread Cert.RMlpIdeal.nD Cert.RMlpIdeal.τ).loc Cert.RMlpIdeal.main_arg0)) (m ((c.tc : Thread Cert.RMlpIdeal.nD Cert.RMlpIdeal.τ).loc Cert.RMlpIdeal.main_arg1)) (m ((c.tc : Thread Cert.RMlpIdeal.nD Cert.RMlpIdeal.τ).loc Cert.RMlpIdeal.main_arg2)) (m ((c.tc : Thread Cert.RMlpIdeal.nD Cert.RMlpIdeal.τ).loc Cert.RMlpIdeal.main_arg3)) (m ((c.tc : Thread Cert.RMlpIdeal.nD Cert.RMlpIdeal.τ).loc Cert.RMlpIdeal.main_arg4)) (m ((c.tc : Thread Cert.RMlpIdeal.nD Cert.RMlpIdeal.τ).loc Cert.RMlpIdeal.main_arg5)) (m ((c.tc : Thread Cert.RMlpIdeal.nD Cert.RMlpIdeal.τ).loc Cert.RMlpIdeal.main_arg6)) (m ((c.tc : Thread Cert.RMlpIdeal.nD Cert.RMlpIdeal.τ).loc Cert.RMlpIdeal.main_arg7)) (m ((c.tc : Thread Cert.RMlpIdeal.nD Cert.RMlpIdeal.τ).loc Cert.RMlpIdeal.main_arg8)) (m ((c.tc : Thread Cert.RMlpIdeal.nD Cert.RMlpIdeal.τ).loc Cert.RMlpIdeal.main_arg9)) (m ((c.tc : Thread Cert.RMlpIdeal.nD Cert.RMlpIdeal.τ).loc Cert.RMlpIdeal.main_arg10)) (m ((c.tc : Thread Cert.RMlpIdeal.nD Cert.RMlpIdeal.τ).loc Cert.RMlpIdeal.main_arg11)) (m ((c.tc : Thread Cert.RMlpIdeal.nD Cert.RMlpIdeal.τ).loc Cert.RMlpIdeal.main_arg12)) (m ((c.tc : Thread Cert.RMlpIdeal.nD Cert.RMlpIdeal.τ).loc Cert.RMlpIdeal.main_arg13)) (m ((c.tc : Thread Cert.RMlpIdeal.nD Cert.RMlpIdeal.τ).loc Cert.RMlpIdeal.main_arg14)) (m ((c.tc : Thread Cert.RMlpIdeal.nD Cert.RMlpIdeal.τ).loc Cert.RMlpIdeal.main_arg15))).2.2.2.2.2.2.2.1 = (fun _ => 1#1)
    ∧ (Cert.Pre_finite_mlp.fn (F := Ideal) (m ((c.tc : Thread Cert.RMlpIdeal.nD Cert.RMlpIdeal.τ).loc Cert.RMlpIdeal.main_arg0)) (m ((c.tc : Thread Cert.RMlpIdeal.nD Cert.RMlpIdeal.τ).loc Cert.RMlpIdeal.main_arg1)) (m ((c.tc : Thread Cert.RMlpIdeal.nD Cert.RMlpIdeal.τ).loc Cert.RMlpIdeal.main_arg2)) (m ((c.tc : Thread Cert.RMlpIdeal.nD Cert.RMlpIdeal.τ).loc Cert.RMlpIdeal.main_arg3)) (m ((c.tc : Thread Cert.RMlpIdeal.nD Cert.RMlpIdeal.τ).loc Cert.RMlpIdeal.main_arg4)) (m ((c.tc : Thread Cert.RMlpIdeal.nD Cert.RMlpIdeal.τ).loc Cert.RMlpIdeal.main_arg5)) (m ((c.tc : Thread Cert.RMlpIdeal.nD Cert.RMlpIdeal.τ).loc Cert.RMlpIdeal.main_arg6)) (m ((c.tc : Thread Cert.RMlpIdeal.nD Cert.RMlpIdeal.τ).loc Cert.RMlpIdeal.main_arg7)) (m ((c.tc : Thread Cert.RMlpIdeal.nD Cert.RMlpIdeal.τ).loc Cert.RMlpIdeal.main_arg8)) (m ((c.tc : Thread Cert.RMlpIdeal.nD Cert.RMlpIdeal.τ).loc Cert.RMlpIdeal.main_arg9)) (m ((c.tc : Thread Cert.RMlpIdeal.nD Cert.RMlpIdeal.τ).loc Cert.RMlpIdeal.main_arg10)) (m ((c.tc : Thread Cert.RMlpIdeal.nD Cert.RMlpIdeal.τ).loc Cert.RMlpIdeal.main_arg11)) (m ((c.tc : Thread Cert.RMlpIdeal.nD Cert.RMlpIdeal.τ).loc Cert.RMlpIdeal.main_arg12)) (m ((c.tc : Thread Cert.RMlpIdeal.nD Cert.RMlpIdeal.τ).loc Cert.RMlpIdeal.main_arg13)) (m ((c.tc : Thread Cert.RMlpIdeal.nD Cert.RMlpIdeal.τ).loc Cert.RMlpIdeal.main_arg14)) (m ((c.tc : Thread Cert.RMlpIdeal.nD Cert.RMlpIdeal.τ).loc Cert.RMlpIdeal.main_arg15))).2.2.2.2.2.2.2.2.1 = (fun _ => 1#1)
    ∧ (Cert.Pre_finite_mlp.fn (F := Ideal) (m ((c.tc : Thread Cert.RMlpIdeal.nD Cert.RMlpIdeal.τ).loc Cert.RMlpIdeal.main_arg0)) (m ((c.tc : Thread Cert.RMlpIdeal.nD Cert.RMlpIdeal.τ).loc Cert.RMlpIdeal.main_arg1)) (m ((c.tc : Thread Cert.RMlpIdeal.nD Cert.RMlpIdeal.τ).loc Cert.RMlpIdeal.main_arg2)) (m ((c.tc : Thread Cert.RMlpIdeal.nD Cert.RMlpIdeal.τ).loc Cert.RMlpIdeal.main_arg3)) (m ((c.tc : Thread Cert.RMlpIdeal.nD Cert.RMlpIdeal.τ).loc Cert.RMlpIdeal.main_arg4)) (m ((c.tc : Thread Cert.RMlpIdeal.nD Cert.RMlpIdeal.τ).loc Cert.RMlpIdeal.main_arg5)) (m ((c.tc : Thread Cert.RMlpIdeal.nD Cert.RMlpIdeal.τ).loc Cert.RMlpIdeal.main_arg6)) (m ((c.tc : Thread Cert.RMlpIdeal.nD Cert.RMlpIdeal.τ).loc Cert.RMlpIdeal.main_arg7)) (m ((c.tc : Thread Cert.RMlpIdeal.nD Cert.RMlpIdeal.τ).loc Cert.RMlpIdeal.main_arg8)) (m ((c.tc : Thread Cert.RMlpIdeal.nD Cert.RMlpIdeal.τ).loc Cert.RMlpIdeal.main_arg9)) (m ((c.tc : Thread Cert.RMlpIdeal.nD Cert.RMlpIdeal.τ).loc Cert.RMlpIdeal.main_arg10)) (m ((c.tc : Thread Cert.RMlpIdeal.nD Cert.RMlpIdeal.τ).loc Cert.RMlpIdeal.main_arg11)) (m ((c.tc : Thread Cert.RMlpIdeal.nD Cert.RMlpIdeal.τ).loc Cert.RMlpIdeal.main_arg12)) (m ((c.tc : Thread Cert.RMlpIdeal.nD Cert.RMlpIdeal.τ).loc Cert.RMlpIdeal.main_arg13)) (m ((c.tc : Thread Cert.RMlpIdeal.nD Cert.RMlpIdeal.τ).loc Cert.RMlpIdeal.main_arg14)) (m ((c.tc : Thread Cert.RMlpIdeal.nD Cert.RMlpIdeal.τ).loc Cert.RMlpIdeal.main_arg15))).2.2.2.2.2.2.2.2.2.1 = (fun _ => 1#1)
    ∧ (Cert.Pre_finite_mlp.fn (F := Ideal) (m ((c.tc : Thread Cert.RMlpIdeal.nD Cert.RMlpIdeal.τ).loc Cert.RMlpIdeal.main_arg0)) (m ((c.tc : Thread Cert.RMlpIdeal.nD Cert.RMlpIdeal.τ).loc Cert.RMlpIdeal.main_arg1)) (m ((c.tc : Thread Cert.RMlpIdeal.nD Cert.RMlpIdeal.τ).loc Cert.RMlpIdeal.main_arg2)) (m ((c.tc : Thread Cert.RMlpIdeal.nD Cert.RMlpIdeal.τ).loc Cert.RMlpIdeal.main_arg3)) (m ((c.tc : Thread Cert.RMlpIdeal.nD Cert.RMlpIdeal.τ).loc Cert.RMlpIdeal.main_arg4)) (m ((c.tc : Thread Cert.RMlpIdeal.nD Cert.RMlpIdeal.τ).loc Cert.RMlpIdeal.main_arg5)) (m ((c.tc : Thread Cert.RMlpIdeal.nD Cert.RMlpIdeal.τ).loc Cert.RMlpIdeal.main_arg6)) (m ((c.tc : Thread Cert.RMlpIdeal.nD Cert.RMlpIdeal.τ).loc Cert.RMlpIdeal.main_arg7)) (m ((c.tc : Thread Cert.RMlpIdeal.nD Cert.RMlpIdeal.τ).loc Cert.RMlpIdeal.main_arg8)) (m ((c.tc : Thread Cert.RMlpIdeal.nD Cert.RMlpIdeal.τ).loc Cert.RMlpIdeal.main_arg9)) (m ((c.tc : Thread Cert.RMlpIdeal.nD Cert.RMlpIdeal.τ).loc Cert.RMlpIdeal.main_arg10)) (m ((c.tc : Thread Cert.RMlpIdeal.nD Cert.RMlpIdeal.τ).loc Cert.RMlpIdeal.main_arg11)) (m ((c.tc : Thread Cert.RMlpIdeal.nD Cert.RMlpIdeal.τ).loc Cert.RMlpIdeal.main_arg12)) (m ((c.tc : Thread Cert.RMlpIdeal.nD Cert.RMlpIdeal.τ).loc Cert.RMlpIdeal.main_arg13)) (m ((c.tc : Thread Cert.RMlpIdeal.nD Cert.RMlpIdeal.τ).loc Cert.RMlpIdeal.main_arg14)) (m ((c.tc : Thread Cert.RMlpIdeal.nD Cert.RMlpIdeal.τ).loc Cert.RMlpIdeal.main_arg15))).2.2.2.2.2.2.2.2.2.2.1 = (fun _ => 1#1)
    ∧ (Cert.Pre_finite_mlp.fn (F := Ideal) (m ((c.tc : Thread Cert.RMlpIdeal.nD Cert.RMlpIdeal.τ).loc Cert.RMlpIdeal.main_arg0)) (m ((c.tc : Thread Cert.RMlpIdeal.nD Cert.RMlpIdeal.τ).loc Cert.RMlpIdeal.main_arg1)) (m ((c.tc : Thread Cert.RMlpIdeal.nD Cert.RMlpIdeal.τ).loc Cert.RMlpIdeal.main_arg2)) (m ((c.tc : Thread Cert.RMlpIdeal.nD Cert.RMlpIdeal.τ).loc Cert.RMlpIdeal.main_arg3)) (m ((c.tc : Thread Cert.RMlpIdeal.nD Cert.RMlpIdeal.τ).loc Cert.RMlpIdeal.main_arg4)) (m ((c.tc : Thread Cert.RMlpIdeal.nD Cert.RMlpIdeal.τ).loc Cert.RMlpIdeal.main_arg5)) (m ((c.tc : Thread Cert.RMlpIdeal.nD Cert.RMlpIdeal.τ).loc Cert.RMlpIdeal.main_arg6)) (m ((c.tc : Thread Cert.RMlpIdeal.nD Cert.RMlpIdeal.τ).loc Cert.RMlpIdeal.main_arg7)) (m ((c.tc : Thread Cert.RMlpIdeal.nD Cert.RMlpIdeal.τ).loc Cert.RMlpIdeal.main_arg8)) (m ((c.tc : Thread Cert.RMlpIdeal.nD Cert.RMlpIdeal.τ).loc Cert.RMlpIdeal.main_arg9)) (m ((c.tc : Thread Cert.RMlpIdeal.nD Cert.RMlpIdeal.τ).loc Cert.RMlpIdeal.main_arg10)) (m ((c.tc : Thread Cert.RMlpIdeal.nD Cert.RMlpIdeal.τ).loc Cert.RMlpIdeal.main_arg11)) (m ((c.tc : Thread Cert.RMlpIdeal.nD Cert.RMlpIdeal.τ).loc Cert.RMlpIdeal.main_arg12)) (m ((c.tc : Thread Cert.RMlpIdeal.nD Cert.RMlpIdeal.τ).loc Cert.RMlpIdeal.main_arg13)) (m ((c.tc : Thread Cert.RMlpIdeal.nD Cert.RMlpIdeal.τ).loc Cert.RMlpIdeal.main_arg14)) (m ((c.tc : Thread Cert.RMlpIdeal.nD Cert.RMlpIdeal.τ).loc Cert.RMlpIdeal.main_arg15))).2.2.2.2.2.2.2.2.2.2.2.1 = (fun _ => 1#1)
    ∧ (Cert.Pre_finite_mlp.fn (F := Ideal) (m ((c.tc : Thread Cert.RMlpIdeal.nD Cert.RMlpIdeal.τ).loc Cert.RMlpIdeal.main_arg0)) (m ((c.tc : Thread Cert.RMlpIdeal.nD Cert.RMlpIdeal.τ).loc Cert.RMlpIdeal.main_arg1)) (m ((c.tc : Thread Cert.RMlpIdeal.nD Cert.RMlpIdeal.τ).loc Cert.RMlpIdeal.main_arg2)) (m ((c.tc : Thread Cert.RMlpIdeal.nD Cert.RMlpIdeal.τ).loc Cert.RMlpIdeal.main_arg3)) (m ((c.tc : Thread Cert.RMlpIdeal.nD Cert.RMlpIdeal.τ).loc Cert.RMlpIdeal.main_arg4)) (m ((c.tc : Thread Cert.RMlpIdeal.nD Cert.RMlpIdeal.τ).loc Cert.RMlpIdeal.main_arg5)) (m ((c.tc : Thread Cert.RMlpIdeal.nD Cert.RMlpIdeal.τ).loc Cert.RMlpIdeal.main_arg6)) (m ((c.tc : Thread Cert.RMlpIdeal.nD Cert.RMlpIdeal.τ).loc Cert.RMlpIdeal.main_arg7)) (m ((c.tc : Thread Cert.RMlpIdeal.nD Cert.RMlpIdeal.τ).loc Cert.RMlpIdeal.main_arg8)) (m ((c.tc : Thread Cert.RMlpIdeal.nD Cert.RMlpIdeal.τ).loc Cert.RMlpIdeal.main_arg9)) (m ((c.tc : Thread Cert.RMlpIdeal.nD Cert.RMlpIdeal.τ).loc Cert.RMlpIdeal.main_arg10)) (m ((c.tc : Thread Cert.RMlpIdeal.nD Cert.RMlpIdeal.τ).loc Cert.RMlpIdeal.main_arg11)) (m ((c.tc : Thread Cert.RMlpIdeal.nD Cert.RMlpIdeal.τ).loc Cert.RMlpIdeal.main_arg12)) (m ((c.tc : Thread Cert.RMlpIdeal.nD Cert.RMlpIdeal.τ).loc Cert.RMlpIdeal.main_arg13)) (m ((c.tc : Thread Cert.RMlpIdeal.nD Cert.RMlpIdeal.τ).loc Cert.RMlpIdeal.main_arg14)) (m ((c.tc : Thread Cert.RMlpIdeal.nD Cert.RMlpIdeal.τ).loc Cert.RMlpIdeal.main_arg15))).2.2.2.2.2.2.2.2.2.2.2.2.1 = (fun _ => 1#1)
    ∧ (Cert.Pre_finite_mlp.fn (F := Ideal) (m ((c.tc : Thread Cert.RMlpIdeal.nD Cert.RMlpIdeal.τ).loc Cert.RMlpIdeal.main_arg0)) (m ((c.tc : Thread Cert.RMlpIdeal.nD Cert.RMlpIdeal.τ).loc Cert.RMlpIdeal.main_arg1)) (m ((c.tc : Thread Cert.RMlpIdeal.nD Cert.RMlpIdeal.τ).loc Cert.RMlpIdeal.main_arg2)) (m ((c.tc : Thread Cert.RMlpIdeal.nD Cert.RMlpIdeal.τ).loc Cert.RMlpIdeal.main_arg3)) (m ((c.tc : Thread Cert.RMlpIdeal.nD Cert.RMlpIdeal.τ).loc Cert.RMlpIdeal.main_arg4)) (m ((c.tc : Thread Cert.RMlpIdeal.nD Cert.RMlpIdeal.τ).loc Cert.RMlpIdeal.main_arg5)) (m ((c.tc : Thread Cert.RMlpIdeal.nD Cert.RMlpIdeal.τ).loc Cert.RMlpIdeal.main_arg6)) (m ((c.tc : Thread Cert.RMlpIdeal.nD Cert.RMlpIdeal.τ).loc Cert.RMlpIdeal.main_arg7)) (m ((c.tc : Thread Cert.RMlpIdeal.nD Cert.RMlpIdeal.τ).loc Cert.RMlpIdeal.main_arg8)) (m ((c.tc : Thread Cert.RMlpIdeal.nD Cert.RMlpIdeal.τ).loc Cert.RMlpIdeal.main_arg9)) (m ((c.tc : Thread Cert.RMlpIdeal.nD Cert.RMlpIdeal.τ).loc Cert.RMlpIdeal.main_arg10)) (m ((c.tc : Thread Cert.RMlpIdeal.nD Cert.RMlpIdeal.τ).loc Cert.RMlpIdeal.main_arg11)) (m ((c.tc : Thread Cert.RMlpIdeal.nD Cert.RMlpIdeal.τ).loc Cert.RMlpIdeal.main_arg12)) (m ((c.tc : Thread Cert.RMlpIdeal.nD Cert.RMlpIdeal.τ).loc Cert.RMlpIdeal.main_arg13)) (m ((c.tc : Thread Cert.RMlpIdeal.nD Cert.RMlpIdeal.τ).loc Cert.RMlpIdeal.main_arg14)) (m ((c.tc : Thread Cert.RMlpIdeal.nD Cert.RMlpIdeal.τ).loc Cert.RMlpIdeal.main_arg15))).2.2.2.2.2.2.2.2.2.2.2.2.2.1 = (fun _ => 1#1)
    ∧ (Cert.Pre_finite_mlp.fn (F := Ideal) (m ((c.tc : Thread Cert.RMlpIdeal.nD Cert.RMlpIdeal.τ).loc Cert.RMlpIdeal.main_arg0)) (m ((c.tc : Thread Cert.RMlpIdeal.nD Cert.RMlpIdeal.τ).loc Cert.RMlpIdeal.main_arg1)) (m ((c.tc : Thread Cert.RMlpIdeal.nD Cert.RMlpIdeal.τ).loc Cert.RMlpIdeal.main_arg2)) (m ((c.tc : Thread Cert.RMlpIdeal.nD Cert.RMlpIdeal.τ).loc Cert.RMlpIdeal.main_arg3)) (m ((c.tc : Thread Cert.RMlpIdeal.nD Cert.RMlpIdeal.τ).loc Cert.RMlpIdeal.main_arg4)) (m ((c.tc : Thread Cert.RMlpIdeal.nD Cert.RMlpIdeal.τ).loc Cert.RMlpIdeal.main_arg5)) (m ((c.tc : Thread Cert.RMlpIdeal.nD Cert.RMlpIdeal.τ).loc Cert.RMlpIdeal.main_arg6)) (m ((c.tc : Thread Cert.RMlpIdeal.nD Cert.RMlpIdeal.τ).loc Cert.RMlpIdeal.main_arg7)) (m ((c.tc : Thread Cert.RMlpIdeal.nD Cert.RMlpIdeal.τ).loc Cert.RMlpIdeal.main_arg8)) (m ((c.tc : Thread Cert.RMlpIdeal.nD Cert.RMlpIdeal.τ).loc Cert.RMlpIdeal.main_arg9)) (m ((c.tc : Thread Cert.RMlpIdeal.nD Cert.RMlpIdeal.τ).loc Cert.RMlpIdeal.main_arg10)) (m ((c.tc : Thread Cert.RMlpIdeal.nD Cert.RMlpIdeal.τ).loc Cert.RMlpIdeal.main_arg11)) (m ((c.tc : Thread Cert.RMlpIdeal.nD Cert.RMlpIdeal.τ).loc Cert.RMlpIdeal.main_arg12)) (m ((c.tc : Thread Cert.RMlpIdeal.nD Cert.RMlpIdeal.τ).loc Cert.RMlpIdeal.main_arg13)) (m ((c.tc : Thread Cert.RMlpIdeal.nD Cert.RMlpIdeal.τ).loc Cert.RMlpIdeal.main_arg14)) (m ((c.tc : Thread Cert.RMlpIdeal.nD Cert.RMlpIdeal.τ).loc Cert.RMlpIdeal.main_arg15))).2.2.2.2.2.2.2.2.2.2.2.2.2.2 = (fun _ => 1#1)

def Pre_KInproj (m : (ℓ : Loc Cert.KInproj.nD Cert.KInproj.τ Cert.KInproj.sig) → Buf (Elt Bits) ℓ) : Prop :=
  True

def Pre_KInprojIdeal (m : (ℓ : Loc Cert.KInprojIdeal.nD Cert.KInprojIdeal.τ Cert.KInprojIdeal.sig) → Buf (Elt Ideal) ℓ) : Prop :=
  True

def Pre_RInprojIdeal (m : (ℓ : Loc Cert.RInprojIdeal.nD Cert.RInprojIdeal.τ Cert.RInprojIdeal.sig) → Buf (Elt Ideal) ℓ) : Prop :=
  True

def Pre_KMixer (m : (ℓ : Loc Cert.KMixer.nD Cert.KMixer.τ Cert.KMixer.sig) → Buf (Elt Bits) ℓ) : Prop :=
  True

def Pre_KMixerIdeal (m : (ℓ : Loc Cert.KMixerIdeal.nD Cert.KMixerIdeal.τ Cert.KMixerIdeal.sig) → Buf (Elt Ideal) ℓ) : Prop :=
  True

def Pre_RMixerIdeal (m : (ℓ : Loc Cert.RMixerIdeal.nD Cert.RMixerIdeal.τ Cert.RMixerIdeal.sig) → Buf (Elt Ideal) ℓ) : Prop :=
  True

def quiescent_KDown [hKDown : Cert.KDown.Facts] : Prop :=
  ∀ (m : (ℓ : Loc Cert.KDown.nD Cert.KDown.τ Cert.KDown.sig) → Buf (Elt Bits) ℓ) (g : Dev Cert.KDown.nD → PrngReg), Pre_KDown m →
    θ_run (Cert.KDown.defs (F := Bits)) (onTc (τ := Cert.KDown.τ) (Cert.KDown.main (F := Bits))) ⟨m, fun _ => 0, g⟩ (fun r => (∀ c : Dev Cert.KDown.nD,
      r.2.mem ((c.tc : Thread Cert.KDown.nD Cert.KDown.τ).loc Cert.KDown.main_arg0) = m ((c.tc : Thread Cert.KDown.nD Cert.KDown.τ).loc Cert.KDown.main_arg0)
      ∧ r.2.mem ((c.tc : Thread Cert.KDown.nD Cert.KDown.τ).loc Cert.KDown.main_arg1) = m ((c.tc : Thread Cert.KDown.nD Cert.KDown.τ).loc Cert.KDown.main_arg1)
      ∧ r.2.mem ((c.tc : Thread Cert.KDown.nD Cert.KDown.τ).loc Cert.KDown.main_arg2) = m ((c.tc : Thread Cert.KDown.nD Cert.KDown.τ).loc Cert.KDown.main_arg2)
      ∧ r.2.mem ((c.tc : Thread Cert.KDown.nD Cert.KDown.τ).loc Cert.KDown.main_arg3) = m ((c.tc : Thread Cert.KDown.nD Cert.KDown.τ).loc Cert.KDown.main_arg3))
      ∧ r.2.sem = fun _ => 0)

def quiescent_KDownIdeal [hKDownIdeal : Cert.KDownIdeal.Facts] : Prop :=
  ∀ (m : (ℓ : Loc Cert.KDownIdeal.nD Cert.KDownIdeal.τ Cert.KDownIdeal.sig) → Buf (Elt Ideal) ℓ) (g : Dev Cert.KDownIdeal.nD → PrngReg), Pre_KDownIdeal m →
    θ_run (Cert.KDownIdeal.defs (F := Ideal)) (onTc (τ := Cert.KDownIdeal.τ) (Cert.KDownIdeal.main (F := Ideal))) ⟨m, fun _ => 0, g⟩ (fun r => (∀ c : Dev Cert.KDownIdeal.nD,
      r.2.mem ((c.tc : Thread Cert.KDownIdeal.nD Cert.KDownIdeal.τ).loc Cert.KDownIdeal.main_arg0) = m ((c.tc : Thread Cert.KDownIdeal.nD Cert.KDownIdeal.τ).loc Cert.KDownIdeal.main_arg0)
      ∧ r.2.mem ((c.tc : Thread Cert.KDownIdeal.nD Cert.KDownIdeal.τ).loc Cert.KDownIdeal.main_arg1) = m ((c.tc : Thread Cert.KDownIdeal.nD Cert.KDownIdeal.τ).loc Cert.KDownIdeal.main_arg1)
      ∧ r.2.mem ((c.tc : Thread Cert.KDownIdeal.nD Cert.KDownIdeal.τ).loc Cert.KDownIdeal.main_arg2) = m ((c.tc : Thread Cert.KDownIdeal.nD Cert.KDownIdeal.τ).loc Cert.KDownIdeal.main_arg2)
      ∧ r.2.mem ((c.tc : Thread Cert.KDownIdeal.nD Cert.KDownIdeal.τ).loc Cert.KDownIdeal.main_arg3) = m ((c.tc : Thread Cert.KDownIdeal.nD Cert.KDownIdeal.τ).loc Cert.KDownIdeal.main_arg3))
      ∧ r.2.sem = fun _ => 0)

def quiescent_RDownIdeal [hRDownIdeal : Cert.RDownIdeal.Facts] : Prop :=
  ∀ (m : (ℓ : Loc Cert.RDownIdeal.nD Cert.RDownIdeal.τ Cert.RDownIdeal.sig) → Buf (Elt Ideal) ℓ) (g : Dev Cert.RDownIdeal.nD → PrngReg), Pre_RDownIdeal m →
    θ_run (Cert.RDownIdeal.defs (F := Ideal)) (onTc (τ := Cert.RDownIdeal.τ) (Cert.RDownIdeal.main (F := Ideal))) ⟨m, fun _ => 0, g⟩ (fun r => (∀ c : Dev Cert.RDownIdeal.nD,
      r.2.mem ((c.tc : Thread Cert.RDownIdeal.nD Cert.RDownIdeal.τ).loc Cert.RDownIdeal.main_arg0) = m ((c.tc : Thread Cert.RDownIdeal.nD Cert.RDownIdeal.τ).loc Cert.RDownIdeal.main_arg0)
      ∧ r.2.mem ((c.tc : Thread Cert.RDownIdeal.nD Cert.RDownIdeal.τ).loc Cert.RDownIdeal.main_arg1) = m ((c.tc : Thread Cert.RDownIdeal.nD Cert.RDownIdeal.τ).loc Cert.RDownIdeal.main_arg1)
      ∧ r.2.mem ((c.tc : Thread Cert.RDownIdeal.nD Cert.RDownIdeal.τ).loc Cert.RDownIdeal.main_arg2) = m ((c.tc : Thread Cert.RDownIdeal.nD Cert.RDownIdeal.τ).loc Cert.RDownIdeal.main_arg2)
      ∧ r.2.mem ((c.tc : Thread Cert.RDownIdeal.nD Cert.RDownIdeal.τ).loc Cert.RDownIdeal.main_arg3) = m ((c.tc : Thread Cert.RDownIdeal.nD Cert.RDownIdeal.τ).loc Cert.RDownIdeal.main_arg3))
      ∧ r.2.sem = fun _ => 0)

def quiescent_KConv [hKConv : Cert.KConv.Facts] : Prop :=
  ∀ (m : (ℓ : Loc Cert.KConv.nD Cert.KConv.τ Cert.KConv.sig) → Buf (Elt Bits) ℓ) (g : Dev Cert.KConv.nD → PrngReg), Pre_KConv m →
    θ_run (Cert.KConv.defs (F := Bits)) (onTc (τ := Cert.KConv.τ) (Cert.KConv.main (F := Bits))) ⟨m, fun _ => 0, g⟩ (fun r => (∀ c : Dev Cert.KConv.nD,
      r.2.mem ((c.tc : Thread Cert.KConv.nD Cert.KConv.τ).loc Cert.KConv.main_arg0) = m ((c.tc : Thread Cert.KConv.nD Cert.KConv.τ).loc Cert.KConv.main_arg0)
      ∧ r.2.mem ((c.tc : Thread Cert.KConv.nD Cert.KConv.τ).loc Cert.KConv.main_arg1) = m ((c.tc : Thread Cert.KConv.nD Cert.KConv.τ).loc Cert.KConv.main_arg1)
      ∧ r.2.mem ((c.tc : Thread Cert.KConv.nD Cert.KConv.τ).loc Cert.KConv.main_arg2) = m ((c.tc : Thread Cert.KConv.nD Cert.KConv.τ).loc Cert.KConv.main_arg2)
      ∧ r.2.mem ((c.tc : Thread Cert.KConv.nD Cert.KConv.τ).loc Cert.KConv.main_arg3) = m ((c.tc : Thread Cert.KConv.nD Cert.KConv.τ).loc Cert.KConv.main_arg3)
      ∧ r.2.mem ((c.tc : Thread Cert.KConv.nD Cert.KConv.τ).loc Cert.KConv.main_arg4) = m ((c.tc : Thread Cert.KConv.nD Cert.KConv.τ).loc Cert.KConv.main_arg4)
      ∧ r.2.mem ((c.tc : Thread Cert.KConv.nD Cert.KConv.τ).loc Cert.KConv.main_arg5) = m ((c.tc : Thread Cert.KConv.nD Cert.KConv.τ).loc Cert.KConv.main_arg5)
      ∧ r.2.mem ((c.tc : Thread Cert.KConv.nD Cert.KConv.τ).loc Cert.KConv.main_arg6) = m ((c.tc : Thread Cert.KConv.nD Cert.KConv.τ).loc Cert.KConv.main_arg6))
      ∧ r.2.sem = fun _ => 0)

def quiescent_KConvIdeal [hKConvIdeal : Cert.KConvIdeal.Facts] : Prop :=
  ∀ (m : (ℓ : Loc Cert.KConvIdeal.nD Cert.KConvIdeal.τ Cert.KConvIdeal.sig) → Buf (Elt Ideal) ℓ) (g : Dev Cert.KConvIdeal.nD → PrngReg), Pre_KConvIdeal m →
    θ_run (Cert.KConvIdeal.defs (F := Ideal)) (onTc (τ := Cert.KConvIdeal.τ) (Cert.KConvIdeal.main (F := Ideal))) ⟨m, fun _ => 0, g⟩ (fun r => (∀ c : Dev Cert.KConvIdeal.nD,
      r.2.mem ((c.tc : Thread Cert.KConvIdeal.nD Cert.KConvIdeal.τ).loc Cert.KConvIdeal.main_arg0) = m ((c.tc : Thread Cert.KConvIdeal.nD Cert.KConvIdeal.τ).loc Cert.KConvIdeal.main_arg0)
      ∧ r.2.mem ((c.tc : Thread Cert.KConvIdeal.nD Cert.KConvIdeal.τ).loc Cert.KConvIdeal.main_arg1) = m ((c.tc : Thread Cert.KConvIdeal.nD Cert.KConvIdeal.τ).loc Cert.KConvIdeal.main_arg1)
      ∧ r.2.mem ((c.tc : Thread Cert.KConvIdeal.nD Cert.KConvIdeal.τ).loc Cert.KConvIdeal.main_arg2) = m ((c.tc : Thread Cert.KConvIdeal.nD Cert.KConvIdeal.τ).loc Cert.KConvIdeal.main_arg2)
      ∧ r.2.mem ((c.tc : Thread Cert.KConvIdeal.nD Cert.KConvIdeal.τ).loc Cert.KConvIdeal.main_arg3) = m ((c.tc : Thread Cert.KConvIdeal.nD Cert.KConvIdeal.τ).loc Cert.KConvIdeal.main_arg3)
      ∧ r.2.mem ((c.tc : Thread Cert.KConvIdeal.nD Cert.KConvIdeal.τ).loc Cert.KConvIdeal.main_arg4) = m ((c.tc : Thread Cert.KConvIdeal.nD Cert.KConvIdeal.τ).loc Cert.KConvIdeal.main_arg4)
      ∧ r.2.mem ((c.tc : Thread Cert.KConvIdeal.nD Cert.KConvIdeal.τ).loc Cert.KConvIdeal.main_arg5) = m ((c.tc : Thread Cert.KConvIdeal.nD Cert.KConvIdeal.τ).loc Cert.KConvIdeal.main_arg5)
      ∧ r.2.mem ((c.tc : Thread Cert.KConvIdeal.nD Cert.KConvIdeal.τ).loc Cert.KConvIdeal.main_arg6) = m ((c.tc : Thread Cert.KConvIdeal.nD Cert.KConvIdeal.τ).loc Cert.KConvIdeal.main_arg6))
      ∧ r.2.sem = fun _ => 0)

def quiescent_RConvIdeal [hRConvIdeal : Cert.RConvIdeal.Facts] : Prop :=
  ∀ (m : (ℓ : Loc Cert.RConvIdeal.nD Cert.RConvIdeal.τ Cert.RConvIdeal.sig) → Buf (Elt Ideal) ℓ) (g : Dev Cert.RConvIdeal.nD → PrngReg), Pre_RConvIdeal m →
    θ_run (Cert.RConvIdeal.defs (F := Ideal)) (onTc (τ := Cert.RConvIdeal.τ) (Cert.RConvIdeal.main (F := Ideal))) ⟨m, fun _ => 0, g⟩ (fun r => (∀ c : Dev Cert.RConvIdeal.nD,
      r.2.mem ((c.tc : Thread Cert.RConvIdeal.nD Cert.RConvIdeal.τ).loc Cert.RConvIdeal.main_arg0) = m ((c.tc : Thread Cert.RConvIdeal.nD Cert.RConvIdeal.τ).loc Cert.RConvIdeal.main_arg0)
      ∧ r.2.mem ((c.tc : Thread Cert.RConvIdeal.nD Cert.RConvIdeal.τ).loc Cert.RConvIdeal.main_arg1) = m ((c.tc : Thread Cert.RConvIdeal.nD Cert.RConvIdeal.τ).loc Cert.RConvIdeal.main_arg1)
      ∧ r.2.mem ((c.tc : Thread Cert.RConvIdeal.nD Cert.RConvIdeal.τ).loc Cert.RConvIdeal.main_arg2) = m ((c.tc : Thread Cert.RConvIdeal.nD Cert.RConvIdeal.τ).loc Cert.RConvIdeal.main_arg2)
      ∧ r.2.mem ((c.tc : Thread Cert.RConvIdeal.nD Cert.RConvIdeal.τ).loc Cert.RConvIdeal.main_arg3) = m ((c.tc : Thread Cert.RConvIdeal.nD Cert.RConvIdeal.τ).loc Cert.RConvIdeal.main_arg3)
      ∧ r.2.mem ((c.tc : Thread Cert.RConvIdeal.nD Cert.RConvIdeal.τ).loc Cert.RConvIdeal.main_arg4) = m ((c.tc : Thread Cert.RConvIdeal.nD Cert.RConvIdeal.τ).loc Cert.RConvIdeal.main_arg4)
      ∧ r.2.mem ((c.tc : Thread Cert.RConvIdeal.nD Cert.RConvIdeal.τ).loc Cert.RConvIdeal.main_arg5) = m ((c.tc : Thread Cert.RConvIdeal.nD Cert.RConvIdeal.τ).loc Cert.RConvIdeal.main_arg5)
      ∧ r.2.mem ((c.tc : Thread Cert.RConvIdeal.nD Cert.RConvIdeal.τ).loc Cert.RConvIdeal.main_arg6) = m ((c.tc : Thread Cert.RConvIdeal.nD Cert.RConvIdeal.τ).loc Cert.RConvIdeal.main_arg6))
      ∧ r.2.sem = fun _ => 0)

def quiescent_KMerge [hKMerge : Cert.KMerge.Facts] : Prop :=
  ∀ (m : (ℓ : Loc Cert.KMerge.nD Cert.KMerge.τ Cert.KMerge.sig) → Buf (Elt Bits) ℓ) (g : Dev Cert.KMerge.nD → PrngReg), Pre_KMerge m →
    θ_run (Cert.KMerge.defs (F := Bits)) (onTc (τ := Cert.KMerge.τ) (Cert.KMerge.main (F := Bits))) ⟨m, fun _ => 0, g⟩ (fun r => (∀ c : Dev Cert.KMerge.nD,
      r.2.mem ((c.tc : Thread Cert.KMerge.nD Cert.KMerge.τ).loc Cert.KMerge.main_arg0) = m ((c.tc : Thread Cert.KMerge.nD Cert.KMerge.τ).loc Cert.KMerge.main_arg0)
      ∧ r.2.mem ((c.tc : Thread Cert.KMerge.nD Cert.KMerge.τ).loc Cert.KMerge.main_arg1) = m ((c.tc : Thread Cert.KMerge.nD Cert.KMerge.τ).loc Cert.KMerge.main_arg1)
      ∧ r.2.mem ((c.tc : Thread Cert.KMerge.nD Cert.KMerge.τ).loc Cert.KMerge.main_arg2) = m ((c.tc : Thread Cert.KMerge.nD Cert.KMerge.τ).loc Cert.KMerge.main_arg2)
      ∧ r.2.mem ((c.tc : Thread Cert.KMerge.nD Cert.KMerge.τ).loc Cert.KMerge.main_arg3) = m ((c.tc : Thread Cert.KMerge.nD Cert.KMerge.τ).loc Cert.KMerge.main_arg3)
      ∧ r.2.mem ((c.tc : Thread Cert.KMerge.nD Cert.KMerge.τ).loc Cert.KMerge.main_arg4) = m ((c.tc : Thread Cert.KMerge.nD Cert.KMerge.τ).loc Cert.KMerge.main_arg4)
      ∧ r.2.mem ((c.tc : Thread Cert.KMerge.nD Cert.KMerge.τ).loc Cert.KMerge.main_arg5) = m ((c.tc : Thread Cert.KMerge.nD Cert.KMerge.τ).loc Cert.KMerge.main_arg5)
      ∧ r.2.mem ((c.tc : Thread Cert.KMerge.nD Cert.KMerge.τ).loc Cert.KMerge.main_arg6) = m ((c.tc : Thread Cert.KMerge.nD Cert.KMerge.τ).loc Cert.KMerge.main_arg6)
      ∧ r.2.mem ((c.tc : Thread Cert.KMerge.nD Cert.KMerge.τ).loc Cert.KMerge.main_arg7) = m ((c.tc : Thread Cert.KMerge.nD Cert.KMerge.τ).loc Cert.KMerge.main_arg7)
      ∧ r.2.mem ((c.tc : Thread Cert.KMerge.nD Cert.KMerge.τ).loc Cert.KMerge.main_arg8) = m ((c.tc : Thread Cert.KMerge.nD Cert.KMerge.τ).loc Cert.KMerge.main_arg8)
      ∧ r.2.mem ((c.tc : Thread Cert.KMerge.nD Cert.KMerge.τ).loc Cert.KMerge.main_arg9) = m ((c.tc : Thread Cert.KMerge.nD Cert.KMerge.τ).loc Cert.KMerge.main_arg9))
      ∧ r.2.sem = fun _ => 0)

def quiescent_KMergeIdeal [hKMergeIdeal : Cert.KMergeIdeal.Facts] : Prop :=
  ∀ (m : (ℓ : Loc Cert.KMergeIdeal.nD Cert.KMergeIdeal.τ Cert.KMergeIdeal.sig) → Buf (Elt Ideal) ℓ) (g : Dev Cert.KMergeIdeal.nD → PrngReg), Pre_KMergeIdeal m →
    θ_run (Cert.KMergeIdeal.defs (F := Ideal)) (onTc (τ := Cert.KMergeIdeal.τ) (Cert.KMergeIdeal.main (F := Ideal))) ⟨m, fun _ => 0, g⟩ (fun r => (∀ c : Dev Cert.KMergeIdeal.nD,
      r.2.mem ((c.tc : Thread Cert.KMergeIdeal.nD Cert.KMergeIdeal.τ).loc Cert.KMergeIdeal.main_arg0) = m ((c.tc : Thread Cert.KMergeIdeal.nD Cert.KMergeIdeal.τ).loc Cert.KMergeIdeal.main_arg0)
      ∧ r.2.mem ((c.tc : Thread Cert.KMergeIdeal.nD Cert.KMergeIdeal.τ).loc Cert.KMergeIdeal.main_arg1) = m ((c.tc : Thread Cert.KMergeIdeal.nD Cert.KMergeIdeal.τ).loc Cert.KMergeIdeal.main_arg1)
      ∧ r.2.mem ((c.tc : Thread Cert.KMergeIdeal.nD Cert.KMergeIdeal.τ).loc Cert.KMergeIdeal.main_arg2) = m ((c.tc : Thread Cert.KMergeIdeal.nD Cert.KMergeIdeal.τ).loc Cert.KMergeIdeal.main_arg2)
      ∧ r.2.mem ((c.tc : Thread Cert.KMergeIdeal.nD Cert.KMergeIdeal.τ).loc Cert.KMergeIdeal.main_arg3) = m ((c.tc : Thread Cert.KMergeIdeal.nD Cert.KMergeIdeal.τ).loc Cert.KMergeIdeal.main_arg3)
      ∧ r.2.mem ((c.tc : Thread Cert.KMergeIdeal.nD Cert.KMergeIdeal.τ).loc Cert.KMergeIdeal.main_arg4) = m ((c.tc : Thread Cert.KMergeIdeal.nD Cert.KMergeIdeal.τ).loc Cert.KMergeIdeal.main_arg4)
      ∧ r.2.mem ((c.tc : Thread Cert.KMergeIdeal.nD Cert.KMergeIdeal.τ).loc Cert.KMergeIdeal.main_arg5) = m ((c.tc : Thread Cert.KMergeIdeal.nD Cert.KMergeIdeal.τ).loc Cert.KMergeIdeal.main_arg5)
      ∧ r.2.mem ((c.tc : Thread Cert.KMergeIdeal.nD Cert.KMergeIdeal.τ).loc Cert.KMergeIdeal.main_arg6) = m ((c.tc : Thread Cert.KMergeIdeal.nD Cert.KMergeIdeal.τ).loc Cert.KMergeIdeal.main_arg6)
      ∧ r.2.mem ((c.tc : Thread Cert.KMergeIdeal.nD Cert.KMergeIdeal.τ).loc Cert.KMergeIdeal.main_arg7) = m ((c.tc : Thread Cert.KMergeIdeal.nD Cert.KMergeIdeal.τ).loc Cert.KMergeIdeal.main_arg7)
      ∧ r.2.mem ((c.tc : Thread Cert.KMergeIdeal.nD Cert.KMergeIdeal.τ).loc Cert.KMergeIdeal.main_arg8) = m ((c.tc : Thread Cert.KMergeIdeal.nD Cert.KMergeIdeal.τ).loc Cert.KMergeIdeal.main_arg8)
      ∧ r.2.mem ((c.tc : Thread Cert.KMergeIdeal.nD Cert.KMergeIdeal.τ).loc Cert.KMergeIdeal.main_arg9) = m ((c.tc : Thread Cert.KMergeIdeal.nD Cert.KMergeIdeal.τ).loc Cert.KMergeIdeal.main_arg9))
      ∧ r.2.sem = fun _ => 0)

def quiescent_KMergeIdeal_pre_finite_merge [hKMergeIdeal : Cert.KMergeIdeal.Facts] [hPre_finite_merge : Cert.Pre_finite_merge.Facts] : Prop :=
  ∀ (m : (ℓ : Loc Cert.KMergeIdeal.nD Cert.KMergeIdeal.τ Cert.KMergeIdeal.sig) → Buf (Elt Ideal) ℓ) (g : Dev Cert.KMergeIdeal.nD → PrngReg), Pre_KMergeIdeal_finite_merge m →
    θ_run (Cert.KMergeIdeal.defs (F := Ideal)) (onTc (τ := Cert.KMergeIdeal.τ) (Cert.KMergeIdeal.main (F := Ideal))) ⟨m, fun _ => 0, g⟩ (fun r => (∀ c : Dev Cert.KMergeIdeal.nD,
      r.2.mem ((c.tc : Thread Cert.KMergeIdeal.nD Cert.KMergeIdeal.τ).loc Cert.KMergeIdeal.main_arg0) = m ((c.tc : Thread Cert.KMergeIdeal.nD Cert.KMergeIdeal.τ).loc Cert.KMergeIdeal.main_arg0)
      ∧ r.2.mem ((c.tc : Thread Cert.KMergeIdeal.nD Cert.KMergeIdeal.τ).loc Cert.KMergeIdeal.main_arg1) = m ((c.tc : Thread Cert.KMergeIdeal.nD Cert.KMergeIdeal.τ).loc Cert.KMergeIdeal.main_arg1)
      ∧ r.2.mem ((c.tc : Thread Cert.KMergeIdeal.nD Cert.KMergeIdeal.τ).loc Cert.KMergeIdeal.main_arg2) = m ((c.tc : Thread Cert.KMergeIdeal.nD Cert.KMergeIdeal.τ).loc Cert.KMergeIdeal.main_arg2)
      ∧ r.2.mem ((c.tc : Thread Cert.KMergeIdeal.nD Cert.KMergeIdeal.τ).loc Cert.KMergeIdeal.main_arg3) = m ((c.tc : Thread Cert.KMergeIdeal.nD Cert.KMergeIdeal.τ).loc Cert.KMergeIdeal.main_arg3)
      ∧ r.2.mem ((c.tc : Thread Cert.KMergeIdeal.nD Cert.KMergeIdeal.τ).loc Cert.KMergeIdeal.main_arg4) = m ((c.tc : Thread Cert.KMergeIdeal.nD Cert.KMergeIdeal.τ).loc Cert.KMergeIdeal.main_arg4)
      ∧ r.2.mem ((c.tc : Thread Cert.KMergeIdeal.nD Cert.KMergeIdeal.τ).loc Cert.KMergeIdeal.main_arg5) = m ((c.tc : Thread Cert.KMergeIdeal.nD Cert.KMergeIdeal.τ).loc Cert.KMergeIdeal.main_arg5)
      ∧ r.2.mem ((c.tc : Thread Cert.KMergeIdeal.nD Cert.KMergeIdeal.τ).loc Cert.KMergeIdeal.main_arg6) = m ((c.tc : Thread Cert.KMergeIdeal.nD Cert.KMergeIdeal.τ).loc Cert.KMergeIdeal.main_arg6)
      ∧ r.2.mem ((c.tc : Thread Cert.KMergeIdeal.nD Cert.KMergeIdeal.τ).loc Cert.KMergeIdeal.main_arg7) = m ((c.tc : Thread Cert.KMergeIdeal.nD Cert.KMergeIdeal.τ).loc Cert.KMergeIdeal.main_arg7)
      ∧ r.2.mem ((c.tc : Thread Cert.KMergeIdeal.nD Cert.KMergeIdeal.τ).loc Cert.KMergeIdeal.main_arg8) = m ((c.tc : Thread Cert.KMergeIdeal.nD Cert.KMergeIdeal.τ).loc Cert.KMergeIdeal.main_arg8)
      ∧ r.2.mem ((c.tc : Thread Cert.KMergeIdeal.nD Cert.KMergeIdeal.τ).loc Cert.KMergeIdeal.main_arg9) = m ((c.tc : Thread Cert.KMergeIdeal.nD Cert.KMergeIdeal.τ).loc Cert.KMergeIdeal.main_arg9))
      ∧ r.2.sem = fun _ => 0)

def quiescent_RMergeIdeal [hRMergeIdeal : Cert.RMergeIdeal.Facts] : Prop :=
  ∀ (m : (ℓ : Loc Cert.RMergeIdeal.nD Cert.RMergeIdeal.τ Cert.RMergeIdeal.sig) → Buf (Elt Ideal) ℓ) (g : Dev Cert.RMergeIdeal.nD → PrngReg), Pre_RMergeIdeal m →
    θ_run (Cert.RMergeIdeal.defs (F := Ideal)) (onTc (τ := Cert.RMergeIdeal.τ) (Cert.RMergeIdeal.main (F := Ideal))) ⟨m, fun _ => 0, g⟩ (fun r => (∀ c : Dev Cert.RMergeIdeal.nD,
      r.2.mem ((c.tc : Thread Cert.RMergeIdeal.nD Cert.RMergeIdeal.τ).loc Cert.RMergeIdeal.main_arg0) = m ((c.tc : Thread Cert.RMergeIdeal.nD Cert.RMergeIdeal.τ).loc Cert.RMergeIdeal.main_arg0)
      ∧ r.2.mem ((c.tc : Thread Cert.RMergeIdeal.nD Cert.RMergeIdeal.τ).loc Cert.RMergeIdeal.main_arg1) = m ((c.tc : Thread Cert.RMergeIdeal.nD Cert.RMergeIdeal.τ).loc Cert.RMergeIdeal.main_arg1)
      ∧ r.2.mem ((c.tc : Thread Cert.RMergeIdeal.nD Cert.RMergeIdeal.τ).loc Cert.RMergeIdeal.main_arg2) = m ((c.tc : Thread Cert.RMergeIdeal.nD Cert.RMergeIdeal.τ).loc Cert.RMergeIdeal.main_arg2)
      ∧ r.2.mem ((c.tc : Thread Cert.RMergeIdeal.nD Cert.RMergeIdeal.τ).loc Cert.RMergeIdeal.main_arg3) = m ((c.tc : Thread Cert.RMergeIdeal.nD Cert.RMergeIdeal.τ).loc Cert.RMergeIdeal.main_arg3)
      ∧ r.2.mem ((c.tc : Thread Cert.RMergeIdeal.nD Cert.RMergeIdeal.τ).loc Cert.RMergeIdeal.main_arg4) = m ((c.tc : Thread Cert.RMergeIdeal.nD Cert.RMergeIdeal.τ).loc Cert.RMergeIdeal.main_arg4)
      ∧ r.2.mem ((c.tc : Thread Cert.RMergeIdeal.nD Cert.RMergeIdeal.τ).loc Cert.RMergeIdeal.main_arg5) = m ((c.tc : Thread Cert.RMergeIdeal.nD Cert.RMergeIdeal.τ).loc Cert.RMergeIdeal.main_arg5)
      ∧ r.2.mem ((c.tc : Thread Cert.RMergeIdeal.nD Cert.RMergeIdeal.τ).loc Cert.RMergeIdeal.main_arg6) = m ((c.tc : Thread Cert.RMergeIdeal.nD Cert.RMergeIdeal.τ).loc Cert.RMergeIdeal.main_arg6)
      ∧ r.2.mem ((c.tc : Thread Cert.RMergeIdeal.nD Cert.RMergeIdeal.τ).loc Cert.RMergeIdeal.main_arg7) = m ((c.tc : Thread Cert.RMergeIdeal.nD Cert.RMergeIdeal.τ).loc Cert.RMergeIdeal.main_arg7)
      ∧ r.2.mem ((c.tc : Thread Cert.RMergeIdeal.nD Cert.RMergeIdeal.τ).loc Cert.RMergeIdeal.main_arg8) = m ((c.tc : Thread Cert.RMergeIdeal.nD Cert.RMergeIdeal.τ).loc Cert.RMergeIdeal.main_arg8)
      ∧ r.2.mem ((c.tc : Thread Cert.RMergeIdeal.nD Cert.RMergeIdeal.τ).loc Cert.RMergeIdeal.main_arg9) = m ((c.tc : Thread Cert.RMergeIdeal.nD Cert.RMergeIdeal.τ).loc Cert.RMergeIdeal.main_arg9))
      ∧ r.2.sem = fun _ => 0)

def quiescent_RMergeIdeal_pre_finite_merge [hRMergeIdeal : Cert.RMergeIdeal.Facts] [hPre_finite_merge : Cert.Pre_finite_merge.Facts] : Prop :=
  ∀ (m : (ℓ : Loc Cert.RMergeIdeal.nD Cert.RMergeIdeal.τ Cert.RMergeIdeal.sig) → Buf (Elt Ideal) ℓ) (g : Dev Cert.RMergeIdeal.nD → PrngReg), Pre_RMergeIdeal_finite_merge m →
    θ_run (Cert.RMergeIdeal.defs (F := Ideal)) (onTc (τ := Cert.RMergeIdeal.τ) (Cert.RMergeIdeal.main (F := Ideal))) ⟨m, fun _ => 0, g⟩ (fun r => (∀ c : Dev Cert.RMergeIdeal.nD,
      r.2.mem ((c.tc : Thread Cert.RMergeIdeal.nD Cert.RMergeIdeal.τ).loc Cert.RMergeIdeal.main_arg0) = m ((c.tc : Thread Cert.RMergeIdeal.nD Cert.RMergeIdeal.τ).loc Cert.RMergeIdeal.main_arg0)
      ∧ r.2.mem ((c.tc : Thread Cert.RMergeIdeal.nD Cert.RMergeIdeal.τ).loc Cert.RMergeIdeal.main_arg1) = m ((c.tc : Thread Cert.RMergeIdeal.nD Cert.RMergeIdeal.τ).loc Cert.RMergeIdeal.main_arg1)
      ∧ r.2.mem ((c.tc : Thread Cert.RMergeIdeal.nD Cert.RMergeIdeal.τ).loc Cert.RMergeIdeal.main_arg2) = m ((c.tc : Thread Cert.RMergeIdeal.nD Cert.RMergeIdeal.τ).loc Cert.RMergeIdeal.main_arg2)
      ∧ r.2.mem ((c.tc : Thread Cert.RMergeIdeal.nD Cert.RMergeIdeal.τ).loc Cert.RMergeIdeal.main_arg3) = m ((c.tc : Thread Cert.RMergeIdeal.nD Cert.RMergeIdeal.τ).loc Cert.RMergeIdeal.main_arg3)
      ∧ r.2.mem ((c.tc : Thread Cert.RMergeIdeal.nD Cert.RMergeIdeal.τ).loc Cert.RMergeIdeal.main_arg4) = m ((c.tc : Thread Cert.RMergeIdeal.nD Cert.RMergeIdeal.τ).loc Cert.RMergeIdeal.main_arg4)
      ∧ r.2.mem ((c.tc : Thread Cert.RMergeIdeal.nD Cert.RMergeIdeal.τ).loc Cert.RMergeIdeal.main_arg5) = m ((c.tc : Thread Cert.RMergeIdeal.nD Cert.RMergeIdeal.τ).loc Cert.RMergeIdeal.main_arg5)
      ∧ r.2.mem ((c.tc : Thread Cert.RMergeIdeal.nD Cert.RMergeIdeal.τ).loc Cert.RMergeIdeal.main_arg6) = m ((c.tc : Thread Cert.RMergeIdeal.nD Cert.RMergeIdeal.τ).loc Cert.RMergeIdeal.main_arg6)
      ∧ r.2.mem ((c.tc : Thread Cert.RMergeIdeal.nD Cert.RMergeIdeal.τ).loc Cert.RMergeIdeal.main_arg7) = m ((c.tc : Thread Cert.RMergeIdeal.nD Cert.RMergeIdeal.τ).loc Cert.RMergeIdeal.main_arg7)
      ∧ r.2.mem ((c.tc : Thread Cert.RMergeIdeal.nD Cert.RMergeIdeal.τ).loc Cert.RMergeIdeal.main_arg8) = m ((c.tc : Thread Cert.RMergeIdeal.nD Cert.RMergeIdeal.τ).loc Cert.RMergeIdeal.main_arg8)
      ∧ r.2.mem ((c.tc : Thread Cert.RMergeIdeal.nD Cert.RMergeIdeal.τ).loc Cert.RMergeIdeal.main_arg9) = m ((c.tc : Thread Cert.RMergeIdeal.nD Cert.RMergeIdeal.τ).loc Cert.RMergeIdeal.main_arg9))
      ∧ r.2.sem = fun _ => 0)

def quiescent_KMlp [hKMlp : Cert.KMlp.Facts] : Prop :=
  ∀ (m : (ℓ : Loc Cert.KMlp.nD Cert.KMlp.τ Cert.KMlp.sig) → Buf (Elt Bits) ℓ) (g : Dev Cert.KMlp.nD → PrngReg), Pre_KMlp m →
    θ_run (Cert.KMlp.defs (F := Bits)) (onTc (τ := Cert.KMlp.τ) (Cert.KMlp.main (F := Bits))) ⟨m, fun _ => 0, g⟩ (fun r => (∀ c : Dev Cert.KMlp.nD,
      r.2.mem ((c.tc : Thread Cert.KMlp.nD Cert.KMlp.τ).loc Cert.KMlp.main_arg0) = m ((c.tc : Thread Cert.KMlp.nD Cert.KMlp.τ).loc Cert.KMlp.main_arg0)
      ∧ r.2.mem ((c.tc : Thread Cert.KMlp.nD Cert.KMlp.τ).loc Cert.KMlp.main_arg1) = m ((c.tc : Thread Cert.KMlp.nD Cert.KMlp.τ).loc Cert.KMlp.main_arg1)
      ∧ r.2.mem ((c.tc : Thread Cert.KMlp.nD Cert.KMlp.τ).loc Cert.KMlp.main_arg2) = m ((c.tc : Thread Cert.KMlp.nD Cert.KMlp.τ).loc Cert.KMlp.main_arg2)
      ∧ r.2.mem ((c.tc : Thread Cert.KMlp.nD Cert.KMlp.τ).loc Cert.KMlp.main_arg3) = m ((c.tc : Thread Cert.KMlp.nD Cert.KMlp.τ).loc Cert.KMlp.main_arg3)
      ∧ r.2.mem ((c.tc : Thread Cert.KMlp.nD Cert.KMlp.τ).loc Cert.KMlp.main_arg4) = m ((c.tc : Thread Cert.KMlp.nD Cert.KMlp.τ).loc Cert.KMlp.main_arg4)
      ∧ r.2.mem ((c.tc : Thread Cert.KMlp.nD Cert.KMlp.τ).loc Cert.KMlp.main_arg5) = m ((c.tc : Thread Cert.KMlp.nD Cert.KMlp.τ).loc Cert.KMlp.main_arg5)
      ∧ r.2.mem ((c.tc : Thread Cert.KMlp.nD Cert.KMlp.τ).loc Cert.KMlp.main_arg6) = m ((c.tc : Thread Cert.KMlp.nD Cert.KMlp.τ).loc Cert.KMlp.main_arg6)
      ∧ r.2.mem ((c.tc : Thread Cert.KMlp.nD Cert.KMlp.τ).loc Cert.KMlp.main_arg7) = m ((c.tc : Thread Cert.KMlp.nD Cert.KMlp.τ).loc Cert.KMlp.main_arg7)
      ∧ r.2.mem ((c.tc : Thread Cert.KMlp.nD Cert.KMlp.τ).loc Cert.KMlp.main_arg8) = m ((c.tc : Thread Cert.KMlp.nD Cert.KMlp.τ).loc Cert.KMlp.main_arg8)
      ∧ r.2.mem ((c.tc : Thread Cert.KMlp.nD Cert.KMlp.τ).loc Cert.KMlp.main_arg9) = m ((c.tc : Thread Cert.KMlp.nD Cert.KMlp.τ).loc Cert.KMlp.main_arg9)
      ∧ r.2.mem ((c.tc : Thread Cert.KMlp.nD Cert.KMlp.τ).loc Cert.KMlp.main_arg10) = m ((c.tc : Thread Cert.KMlp.nD Cert.KMlp.τ).loc Cert.KMlp.main_arg10)
      ∧ r.2.mem ((c.tc : Thread Cert.KMlp.nD Cert.KMlp.τ).loc Cert.KMlp.main_arg11) = m ((c.tc : Thread Cert.KMlp.nD Cert.KMlp.τ).loc Cert.KMlp.main_arg11)
      ∧ r.2.mem ((c.tc : Thread Cert.KMlp.nD Cert.KMlp.τ).loc Cert.KMlp.main_arg12) = m ((c.tc : Thread Cert.KMlp.nD Cert.KMlp.τ).loc Cert.KMlp.main_arg12)
      ∧ r.2.mem ((c.tc : Thread Cert.KMlp.nD Cert.KMlp.τ).loc Cert.KMlp.main_arg13) = m ((c.tc : Thread Cert.KMlp.nD Cert.KMlp.τ).loc Cert.KMlp.main_arg13)
      ∧ r.2.mem ((c.tc : Thread Cert.KMlp.nD Cert.KMlp.τ).loc Cert.KMlp.main_arg14) = m ((c.tc : Thread Cert.KMlp.nD Cert.KMlp.τ).loc Cert.KMlp.main_arg14)
      ∧ r.2.mem ((c.tc : Thread Cert.KMlp.nD Cert.KMlp.τ).loc Cert.KMlp.main_arg15) = m ((c.tc : Thread Cert.KMlp.nD Cert.KMlp.τ).loc Cert.KMlp.main_arg15))
      ∧ r.2.sem = fun _ => 0)

def quiescent_KMlpIdeal [hKMlpIdeal : Cert.KMlpIdeal.Facts] : Prop :=
  ∀ (m : (ℓ : Loc Cert.KMlpIdeal.nD Cert.KMlpIdeal.τ Cert.KMlpIdeal.sig) → Buf (Elt Ideal) ℓ) (g : Dev Cert.KMlpIdeal.nD → PrngReg), Pre_KMlpIdeal m →
    θ_run (Cert.KMlpIdeal.defs (F := Ideal)) (onTc (τ := Cert.KMlpIdeal.τ) (Cert.KMlpIdeal.main (F := Ideal))) ⟨m, fun _ => 0, g⟩ (fun r => (∀ c : Dev Cert.KMlpIdeal.nD,
      r.2.mem ((c.tc : Thread Cert.KMlpIdeal.nD Cert.KMlpIdeal.τ).loc Cert.KMlpIdeal.main_arg0) = m ((c.tc : Thread Cert.KMlpIdeal.nD Cert.KMlpIdeal.τ).loc Cert.KMlpIdeal.main_arg0)
      ∧ r.2.mem ((c.tc : Thread Cert.KMlpIdeal.nD Cert.KMlpIdeal.τ).loc Cert.KMlpIdeal.main_arg1) = m ((c.tc : Thread Cert.KMlpIdeal.nD Cert.KMlpIdeal.τ).loc Cert.KMlpIdeal.main_arg1)
      ∧ r.2.mem ((c.tc : Thread Cert.KMlpIdeal.nD Cert.KMlpIdeal.τ).loc Cert.KMlpIdeal.main_arg2) = m ((c.tc : Thread Cert.KMlpIdeal.nD Cert.KMlpIdeal.τ).loc Cert.KMlpIdeal.main_arg2)
      ∧ r.2.mem ((c.tc : Thread Cert.KMlpIdeal.nD Cert.KMlpIdeal.τ).loc Cert.KMlpIdeal.main_arg3) = m ((c.tc : Thread Cert.KMlpIdeal.nD Cert.KMlpIdeal.τ).loc Cert.KMlpIdeal.main_arg3)
      ∧ r.2.mem ((c.tc : Thread Cert.KMlpIdeal.nD Cert.KMlpIdeal.τ).loc Cert.KMlpIdeal.main_arg4) = m ((c.tc : Thread Cert.KMlpIdeal.nD Cert.KMlpIdeal.τ).loc Cert.KMlpIdeal.main_arg4)
      ∧ r.2.mem ((c.tc : Thread Cert.KMlpIdeal.nD Cert.KMlpIdeal.τ).loc Cert.KMlpIdeal.main_arg5) = m ((c.tc : Thread Cert.KMlpIdeal.nD Cert.KMlpIdeal.τ).loc Cert.KMlpIdeal.main_arg5)
      ∧ r.2.mem ((c.tc : Thread Cert.KMlpIdeal.nD Cert.KMlpIdeal.τ).loc Cert.KMlpIdeal.main_arg6) = m ((c.tc : Thread Cert.KMlpIdeal.nD Cert.KMlpIdeal.τ).loc Cert.KMlpIdeal.main_arg6)
      ∧ r.2.mem ((c.tc : Thread Cert.KMlpIdeal.nD Cert.KMlpIdeal.τ).loc Cert.KMlpIdeal.main_arg7) = m ((c.tc : Thread Cert.KMlpIdeal.nD Cert.KMlpIdeal.τ).loc Cert.KMlpIdeal.main_arg7)
      ∧ r.2.mem ((c.tc : Thread Cert.KMlpIdeal.nD Cert.KMlpIdeal.τ).loc Cert.KMlpIdeal.main_arg8) = m ((c.tc : Thread Cert.KMlpIdeal.nD Cert.KMlpIdeal.τ).loc Cert.KMlpIdeal.main_arg8)
      ∧ r.2.mem ((c.tc : Thread Cert.KMlpIdeal.nD Cert.KMlpIdeal.τ).loc Cert.KMlpIdeal.main_arg9) = m ((c.tc : Thread Cert.KMlpIdeal.nD Cert.KMlpIdeal.τ).loc Cert.KMlpIdeal.main_arg9)
      ∧ r.2.mem ((c.tc : Thread Cert.KMlpIdeal.nD Cert.KMlpIdeal.τ).loc Cert.KMlpIdeal.main_arg10) = m ((c.tc : Thread Cert.KMlpIdeal.nD Cert.KMlpIdeal.τ).loc Cert.KMlpIdeal.main_arg10)
      ∧ r.2.mem ((c.tc : Thread Cert.KMlpIdeal.nD Cert.KMlpIdeal.τ).loc Cert.KMlpIdeal.main_arg11) = m ((c.tc : Thread Cert.KMlpIdeal.nD Cert.KMlpIdeal.τ).loc Cert.KMlpIdeal.main_arg11)
      ∧ r.2.mem ((c.tc : Thread Cert.KMlpIdeal.nD Cert.KMlpIdeal.τ).loc Cert.KMlpIdeal.main_arg12) = m ((c.tc : Thread Cert.KMlpIdeal.nD Cert.KMlpIdeal.τ).loc Cert.KMlpIdeal.main_arg12)
      ∧ r.2.mem ((c.tc : Thread Cert.KMlpIdeal.nD Cert.KMlpIdeal.τ).loc Cert.KMlpIdeal.main_arg13) = m ((c.tc : Thread Cert.KMlpIdeal.nD Cert.KMlpIdeal.τ).loc Cert.KMlpIdeal.main_arg13)
      ∧ r.2.mem ((c.tc : Thread Cert.KMlpIdeal.nD Cert.KMlpIdeal.τ).loc Cert.KMlpIdeal.main_arg14) = m ((c.tc : Thread Cert.KMlpIdeal.nD Cert.KMlpIdeal.τ).loc Cert.KMlpIdeal.main_arg14)
      ∧ r.2.mem ((c.tc : Thread Cert.KMlpIdeal.nD Cert.KMlpIdeal.τ).loc Cert.KMlpIdeal.main_arg15) = m ((c.tc : Thread Cert.KMlpIdeal.nD Cert.KMlpIdeal.τ).loc Cert.KMlpIdeal.main_arg15))
      ∧ r.2.sem = fun _ => 0)

def quiescent_KMlpIdeal_pre_finite_mlp [hKMlpIdeal : Cert.KMlpIdeal.Facts] [hPre_finite_mlp : Cert.Pre_finite_mlp.Facts] : Prop :=
  ∀ (m : (ℓ : Loc Cert.KMlpIdeal.nD Cert.KMlpIdeal.τ Cert.KMlpIdeal.sig) → Buf (Elt Ideal) ℓ) (g : Dev Cert.KMlpIdeal.nD → PrngReg), Pre_KMlpIdeal_finite_mlp m →
    θ_run (Cert.KMlpIdeal.defs (F := Ideal)) (onTc (τ := Cert.KMlpIdeal.τ) (Cert.KMlpIdeal.main (F := Ideal))) ⟨m, fun _ => 0, g⟩ (fun r => (∀ c : Dev Cert.KMlpIdeal.nD,
      r.2.mem ((c.tc : Thread Cert.KMlpIdeal.nD Cert.KMlpIdeal.τ).loc Cert.KMlpIdeal.main_arg0) = m ((c.tc : Thread Cert.KMlpIdeal.nD Cert.KMlpIdeal.τ).loc Cert.KMlpIdeal.main_arg0)
      ∧ r.2.mem ((c.tc : Thread Cert.KMlpIdeal.nD Cert.KMlpIdeal.τ).loc Cert.KMlpIdeal.main_arg1) = m ((c.tc : Thread Cert.KMlpIdeal.nD Cert.KMlpIdeal.τ).loc Cert.KMlpIdeal.main_arg1)
      ∧ r.2.mem ((c.tc : Thread Cert.KMlpIdeal.nD Cert.KMlpIdeal.τ).loc Cert.KMlpIdeal.main_arg2) = m ((c.tc : Thread Cert.KMlpIdeal.nD Cert.KMlpIdeal.τ).loc Cert.KMlpIdeal.main_arg2)
      ∧ r.2.mem ((c.tc : Thread Cert.KMlpIdeal.nD Cert.KMlpIdeal.τ).loc Cert.KMlpIdeal.main_arg3) = m ((c.tc : Thread Cert.KMlpIdeal.nD Cert.KMlpIdeal.τ).loc Cert.KMlpIdeal.main_arg3)
      ∧ r.2.mem ((c.tc : Thread Cert.KMlpIdeal.nD Cert.KMlpIdeal.τ).loc Cert.KMlpIdeal.main_arg4) = m ((c.tc : Thread Cert.KMlpIdeal.nD Cert.KMlpIdeal.τ).loc Cert.KMlpIdeal.main_arg4)
      ∧ r.2.mem ((c.tc : Thread Cert.KMlpIdeal.nD Cert.KMlpIdeal.τ).loc Cert.KMlpIdeal.main_arg5) = m ((c.tc : Thread Cert.KMlpIdeal.nD Cert.KMlpIdeal.τ).loc Cert.KMlpIdeal.main_arg5)
      ∧ r.2.mem ((c.tc : Thread Cert.KMlpIdeal.nD Cert.KMlpIdeal.τ).loc Cert.KMlpIdeal.main_arg6) = m ((c.tc : Thread Cert.KMlpIdeal.nD Cert.KMlpIdeal.τ).loc Cert.KMlpIdeal.main_arg6)
      ∧ r.2.mem ((c.tc : Thread Cert.KMlpIdeal.nD Cert.KMlpIdeal.τ).loc Cert.KMlpIdeal.main_arg7) = m ((c.tc : Thread Cert.KMlpIdeal.nD Cert.KMlpIdeal.τ).loc Cert.KMlpIdeal.main_arg7)
      ∧ r.2.mem ((c.tc : Thread Cert.KMlpIdeal.nD Cert.KMlpIdeal.τ).loc Cert.KMlpIdeal.main_arg8) = m ((c.tc : Thread Cert.KMlpIdeal.nD Cert.KMlpIdeal.τ).loc Cert.KMlpIdeal.main_arg8)
      ∧ r.2.mem ((c.tc : Thread Cert.KMlpIdeal.nD Cert.KMlpIdeal.τ).loc Cert.KMlpIdeal.main_arg9) = m ((c.tc : Thread Cert.KMlpIdeal.nD Cert.KMlpIdeal.τ).loc Cert.KMlpIdeal.main_arg9)
      ∧ r.2.mem ((c.tc : Thread Cert.KMlpIdeal.nD Cert.KMlpIdeal.τ).loc Cert.KMlpIdeal.main_arg10) = m ((c.tc : Thread Cert.KMlpIdeal.nD Cert.KMlpIdeal.τ).loc Cert.KMlpIdeal.main_arg10)
      ∧ r.2.mem ((c.tc : Thread Cert.KMlpIdeal.nD Cert.KMlpIdeal.τ).loc Cert.KMlpIdeal.main_arg11) = m ((c.tc : Thread Cert.KMlpIdeal.nD Cert.KMlpIdeal.τ).loc Cert.KMlpIdeal.main_arg11)
      ∧ r.2.mem ((c.tc : Thread Cert.KMlpIdeal.nD Cert.KMlpIdeal.τ).loc Cert.KMlpIdeal.main_arg12) = m ((c.tc : Thread Cert.KMlpIdeal.nD Cert.KMlpIdeal.τ).loc Cert.KMlpIdeal.main_arg12)
      ∧ r.2.mem ((c.tc : Thread Cert.KMlpIdeal.nD Cert.KMlpIdeal.τ).loc Cert.KMlpIdeal.main_arg13) = m ((c.tc : Thread Cert.KMlpIdeal.nD Cert.KMlpIdeal.τ).loc Cert.KMlpIdeal.main_arg13)
      ∧ r.2.mem ((c.tc : Thread Cert.KMlpIdeal.nD Cert.KMlpIdeal.τ).loc Cert.KMlpIdeal.main_arg14) = m ((c.tc : Thread Cert.KMlpIdeal.nD Cert.KMlpIdeal.τ).loc Cert.KMlpIdeal.main_arg14)
      ∧ r.2.mem ((c.tc : Thread Cert.KMlpIdeal.nD Cert.KMlpIdeal.τ).loc Cert.KMlpIdeal.main_arg15) = m ((c.tc : Thread Cert.KMlpIdeal.nD Cert.KMlpIdeal.τ).loc Cert.KMlpIdeal.main_arg15))
      ∧ r.2.sem = fun _ => 0)

def quiescent_RMlpIdeal [hRMlpIdeal : Cert.RMlpIdeal.Facts] : Prop :=
  ∀ (m : (ℓ : Loc Cert.RMlpIdeal.nD Cert.RMlpIdeal.τ Cert.RMlpIdeal.sig) → Buf (Elt Ideal) ℓ) (g : Dev Cert.RMlpIdeal.nD → PrngReg), Pre_RMlpIdeal m →
    θ_run (Cert.RMlpIdeal.defs (F := Ideal)) (onTc (τ := Cert.RMlpIdeal.τ) (Cert.RMlpIdeal.main (F := Ideal))) ⟨m, fun _ => 0, g⟩ (fun r => (∀ c : Dev Cert.RMlpIdeal.nD,
      r.2.mem ((c.tc : Thread Cert.RMlpIdeal.nD Cert.RMlpIdeal.τ).loc Cert.RMlpIdeal.main_arg0) = m ((c.tc : Thread Cert.RMlpIdeal.nD Cert.RMlpIdeal.τ).loc Cert.RMlpIdeal.main_arg0)
      ∧ r.2.mem ((c.tc : Thread Cert.RMlpIdeal.nD Cert.RMlpIdeal.τ).loc Cert.RMlpIdeal.main_arg1) = m ((c.tc : Thread Cert.RMlpIdeal.nD Cert.RMlpIdeal.τ).loc Cert.RMlpIdeal.main_arg1)
      ∧ r.2.mem ((c.tc : Thread Cert.RMlpIdeal.nD Cert.RMlpIdeal.τ).loc Cert.RMlpIdeal.main_arg2) = m ((c.tc : Thread Cert.RMlpIdeal.nD Cert.RMlpIdeal.τ).loc Cert.RMlpIdeal.main_arg2)
      ∧ r.2.mem ((c.tc : Thread Cert.RMlpIdeal.nD Cert.RMlpIdeal.τ).loc Cert.RMlpIdeal.main_arg3) = m ((c.tc : Thread Cert.RMlpIdeal.nD Cert.RMlpIdeal.τ).loc Cert.RMlpIdeal.main_arg3)
      ∧ r.2.mem ((c.tc : Thread Cert.RMlpIdeal.nD Cert.RMlpIdeal.τ).loc Cert.RMlpIdeal.main_arg4) = m ((c.tc : Thread Cert.RMlpIdeal.nD Cert.RMlpIdeal.τ).loc Cert.RMlpIdeal.main_arg4)
      ∧ r.2.mem ((c.tc : Thread Cert.RMlpIdeal.nD Cert.RMlpIdeal.τ).loc Cert.RMlpIdeal.main_arg5) = m ((c.tc : Thread Cert.RMlpIdeal.nD Cert.RMlpIdeal.τ).loc Cert.RMlpIdeal.main_arg5)
      ∧ r.2.mem ((c.tc : Thread Cert.RMlpIdeal.nD Cert.RMlpIdeal.τ).loc Cert.RMlpIdeal.main_arg6) = m ((c.tc : Thread Cert.RMlpIdeal.nD Cert.RMlpIdeal.τ).loc Cert.RMlpIdeal.main_arg6)
      ∧ r.2.mem ((c.tc : Thread Cert.RMlpIdeal.nD Cert.RMlpIdeal.τ).loc Cert.RMlpIdeal.main_arg7) = m ((c.tc : Thread Cert.RMlpIdeal.nD Cert.RMlpIdeal.τ).loc Cert.RMlpIdeal.main_arg7)
      ∧ r.2.mem ((c.tc : Thread Cert.RMlpIdeal.nD Cert.RMlpIdeal.τ).loc Cert.RMlpIdeal.main_arg8) = m ((c.tc : Thread Cert.RMlpIdeal.nD Cert.RMlpIdeal.τ).loc Cert.RMlpIdeal.main_arg8)
      ∧ r.2.mem ((c.tc : Thread Cert.RMlpIdeal.nD Cert.RMlpIdeal.τ).loc Cert.RMlpIdeal.main_arg9) = m ((c.tc : Thread Cert.RMlpIdeal.nD Cert.RMlpIdeal.τ).loc Cert.RMlpIdeal.main_arg9)
      ∧ r.2.mem ((c.tc : Thread Cert.RMlpIdeal.nD Cert.RMlpIdeal.τ).loc Cert.RMlpIdeal.main_arg10) = m ((c.tc : Thread Cert.RMlpIdeal.nD Cert.RMlpIdeal.τ).loc Cert.RMlpIdeal.main_arg10)
      ∧ r.2.mem ((c.tc : Thread Cert.RMlpIdeal.nD Cert.RMlpIdeal.τ).loc Cert.RMlpIdeal.main_arg11) = m ((c.tc : Thread Cert.RMlpIdeal.nD Cert.RMlpIdeal.τ).loc Cert.RMlpIdeal.main_arg11)
      ∧ r.2.mem ((c.tc : Thread Cert.RMlpIdeal.nD Cert.RMlpIdeal.τ).loc Cert.RMlpIdeal.main_arg12) = m ((c.tc : Thread Cert.RMlpIdeal.nD Cert.RMlpIdeal.τ).loc Cert.RMlpIdeal.main_arg12)
      ∧ r.2.mem ((c.tc : Thread Cert.RMlpIdeal.nD Cert.RMlpIdeal.τ).loc Cert.RMlpIdeal.main_arg13) = m ((c.tc : Thread Cert.RMlpIdeal.nD Cert.RMlpIdeal.τ).loc Cert.RMlpIdeal.main_arg13)
      ∧ r.2.mem ((c.tc : Thread Cert.RMlpIdeal.nD Cert.RMlpIdeal.τ).loc Cert.RMlpIdeal.main_arg14) = m ((c.tc : Thread Cert.RMlpIdeal.nD Cert.RMlpIdeal.τ).loc Cert.RMlpIdeal.main_arg14)
      ∧ r.2.mem ((c.tc : Thread Cert.RMlpIdeal.nD Cert.RMlpIdeal.τ).loc Cert.RMlpIdeal.main_arg15) = m ((c.tc : Thread Cert.RMlpIdeal.nD Cert.RMlpIdeal.τ).loc Cert.RMlpIdeal.main_arg15))
      ∧ r.2.sem = fun _ => 0)

def quiescent_RMlpIdeal_pre_finite_mlp [hRMlpIdeal : Cert.RMlpIdeal.Facts] [hPre_finite_mlp : Cert.Pre_finite_mlp.Facts] : Prop :=
  ∀ (m : (ℓ : Loc Cert.RMlpIdeal.nD Cert.RMlpIdeal.τ Cert.RMlpIdeal.sig) → Buf (Elt Ideal) ℓ) (g : Dev Cert.RMlpIdeal.nD → PrngReg), Pre_RMlpIdeal_finite_mlp m →
    θ_run (Cert.RMlpIdeal.defs (F := Ideal)) (onTc (τ := Cert.RMlpIdeal.τ) (Cert.RMlpIdeal.main (F := Ideal))) ⟨m, fun _ => 0, g⟩ (fun r => (∀ c : Dev Cert.RMlpIdeal.nD,
      r.2.mem ((c.tc : Thread Cert.RMlpIdeal.nD Cert.RMlpIdeal.τ).loc Cert.RMlpIdeal.main_arg0) = m ((c.tc : Thread Cert.RMlpIdeal.nD Cert.RMlpIdeal.τ).loc Cert.RMlpIdeal.main_arg0)
      ∧ r.2.mem ((c.tc : Thread Cert.RMlpIdeal.nD Cert.RMlpIdeal.τ).loc Cert.RMlpIdeal.main_arg1) = m ((c.tc : Thread Cert.RMlpIdeal.nD Cert.RMlpIdeal.τ).loc Cert.RMlpIdeal.main_arg1)
      ∧ r.2.mem ((c.tc : Thread Cert.RMlpIdeal.nD Cert.RMlpIdeal.τ).loc Cert.RMlpIdeal.main_arg2) = m ((c.tc : Thread Cert.RMlpIdeal.nD Cert.RMlpIdeal.τ).loc Cert.RMlpIdeal.main_arg2)
      ∧ r.2.mem ((c.tc : Thread Cert.RMlpIdeal.nD Cert.RMlpIdeal.τ).loc Cert.RMlpIdeal.main_arg3) = m ((c.tc : Thread Cert.RMlpIdeal.nD Cert.RMlpIdeal.τ).loc Cert.RMlpIdeal.main_arg3)
      ∧ r.2.mem ((c.tc : Thread Cert.RMlpIdeal.nD Cert.RMlpIdeal.τ).loc Cert.RMlpIdeal.main_arg4) = m ((c.tc : Thread Cert.RMlpIdeal.nD Cert.RMlpIdeal.τ).loc Cert.RMlpIdeal.main_arg4)
      ∧ r.2.mem ((c.tc : Thread Cert.RMlpIdeal.nD Cert.RMlpIdeal.τ).loc Cert.RMlpIdeal.main_arg5) = m ((c.tc : Thread Cert.RMlpIdeal.nD Cert.RMlpIdeal.τ).loc Cert.RMlpIdeal.main_arg5)
      ∧ r.2.mem ((c.tc : Thread Cert.RMlpIdeal.nD Cert.RMlpIdeal.τ).loc Cert.RMlpIdeal.main_arg6) = m ((c.tc : Thread Cert.RMlpIdeal.nD Cert.RMlpIdeal.τ).loc Cert.RMlpIdeal.main_arg6)
      ∧ r.2.mem ((c.tc : Thread Cert.RMlpIdeal.nD Cert.RMlpIdeal.τ).loc Cert.RMlpIdeal.main_arg7) = m ((c.tc : Thread Cert.RMlpIdeal.nD Cert.RMlpIdeal.τ).loc Cert.RMlpIdeal.main_arg7)
      ∧ r.2.mem ((c.tc : Thread Cert.RMlpIdeal.nD Cert.RMlpIdeal.τ).loc Cert.RMlpIdeal.main_arg8) = m ((c.tc : Thread Cert.RMlpIdeal.nD Cert.RMlpIdeal.τ).loc Cert.RMlpIdeal.main_arg8)
      ∧ r.2.mem ((c.tc : Thread Cert.RMlpIdeal.nD Cert.RMlpIdeal.τ).loc Cert.RMlpIdeal.main_arg9) = m ((c.tc : Thread Cert.RMlpIdeal.nD Cert.RMlpIdeal.τ).loc Cert.RMlpIdeal.main_arg9)
      ∧ r.2.mem ((c.tc : Thread Cert.RMlpIdeal.nD Cert.RMlpIdeal.τ).loc Cert.RMlpIdeal.main_arg10) = m ((c.tc : Thread Cert.RMlpIdeal.nD Cert.RMlpIdeal.τ).loc Cert.RMlpIdeal.main_arg10)
      ∧ r.2.mem ((c.tc : Thread Cert.RMlpIdeal.nD Cert.RMlpIdeal.τ).loc Cert.RMlpIdeal.main_arg11) = m ((c.tc : Thread Cert.RMlpIdeal.nD Cert.RMlpIdeal.τ).loc Cert.RMlpIdeal.main_arg11)
      ∧ r.2.mem ((c.tc : Thread Cert.RMlpIdeal.nD Cert.RMlpIdeal.τ).loc Cert.RMlpIdeal.main_arg12) = m ((c.tc : Thread Cert.RMlpIdeal.nD Cert.RMlpIdeal.τ).loc Cert.RMlpIdeal.main_arg12)
      ∧ r.2.mem ((c.tc : Thread Cert.RMlpIdeal.nD Cert.RMlpIdeal.τ).loc Cert.RMlpIdeal.main_arg13) = m ((c.tc : Thread Cert.RMlpIdeal.nD Cert.RMlpIdeal.τ).loc Cert.RMlpIdeal.main_arg13)
      ∧ r.2.mem ((c.tc : Thread Cert.RMlpIdeal.nD Cert.RMlpIdeal.τ).loc Cert.RMlpIdeal.main_arg14) = m ((c.tc : Thread Cert.RMlpIdeal.nD Cert.RMlpIdeal.τ).loc Cert.RMlpIdeal.main_arg14)
      ∧ r.2.mem ((c.tc : Thread Cert.RMlpIdeal.nD Cert.RMlpIdeal.τ).loc Cert.RMlpIdeal.main_arg15) = m ((c.tc : Thread Cert.RMlpIdeal.nD Cert.RMlpIdeal.τ).loc Cert.RMlpIdeal.main_arg15))
      ∧ r.2.sem = fun _ => 0)

def quiescent_KInproj [hKInproj : Cert.KInproj.Facts] : Prop :=
  ∀ (m : (ℓ : Loc Cert.KInproj.nD Cert.KInproj.τ Cert.KInproj.sig) → Buf (Elt Bits) ℓ) (g : Dev Cert.KInproj.nD → PrngReg), Pre_KInproj m →
    θ_run (Cert.KInproj.defs (F := Bits)) (onTc (τ := Cert.KInproj.τ) (Cert.KInproj.main (F := Bits))) ⟨m, fun _ => 0, g⟩ (fun r => (∀ c : Dev Cert.KInproj.nD,
      r.2.mem ((c.tc : Thread Cert.KInproj.nD Cert.KInproj.τ).loc Cert.KInproj.main_arg0) = m ((c.tc : Thread Cert.KInproj.nD Cert.KInproj.τ).loc Cert.KInproj.main_arg0)
      ∧ r.2.mem ((c.tc : Thread Cert.KInproj.nD Cert.KInproj.τ).loc Cert.KInproj.main_arg1) = m ((c.tc : Thread Cert.KInproj.nD Cert.KInproj.τ).loc Cert.KInproj.main_arg1)
      ∧ r.2.mem ((c.tc : Thread Cert.KInproj.nD Cert.KInproj.τ).loc Cert.KInproj.main_arg2) = m ((c.tc : Thread Cert.KInproj.nD Cert.KInproj.τ).loc Cert.KInproj.main_arg2)
      ∧ r.2.mem ((c.tc : Thread Cert.KInproj.nD Cert.KInproj.τ).loc Cert.KInproj.main_arg3) = m ((c.tc : Thread Cert.KInproj.nD Cert.KInproj.τ).loc Cert.KInproj.main_arg3))
      ∧ r.2.sem = fun _ => 0)

def quiescent_KInprojIdeal [hKInprojIdeal : Cert.KInprojIdeal.Facts] : Prop :=
  ∀ (m : (ℓ : Loc Cert.KInprojIdeal.nD Cert.KInprojIdeal.τ Cert.KInprojIdeal.sig) → Buf (Elt Ideal) ℓ) (g : Dev Cert.KInprojIdeal.nD → PrngReg), Pre_KInprojIdeal m →
    θ_run (Cert.KInprojIdeal.defs (F := Ideal)) (onTc (τ := Cert.KInprojIdeal.τ) (Cert.KInprojIdeal.main (F := Ideal))) ⟨m, fun _ => 0, g⟩ (fun r => (∀ c : Dev Cert.KInprojIdeal.nD,
      r.2.mem ((c.tc : Thread Cert.KInprojIdeal.nD Cert.KInprojIdeal.τ).loc Cert.KInprojIdeal.main_arg0) = m ((c.tc : Thread Cert.KInprojIdeal.nD Cert.KInprojIdeal.τ).loc Cert.KInprojIdeal.main_arg0)
      ∧ r.2.mem ((c.tc : Thread Cert.KInprojIdeal.nD Cert.KInprojIdeal.τ).loc Cert.KInprojIdeal.main_arg1) = m ((c.tc : Thread Cert.KInprojIdeal.nD Cert.KInprojIdeal.τ).loc Cert.KInprojIdeal.main_arg1)
      ∧ r.2.mem ((c.tc : Thread Cert.KInprojIdeal.nD Cert.KInprojIdeal.τ).loc Cert.KInprojIdeal.main_arg2) = m ((c.tc : Thread Cert.KInprojIdeal.nD Cert.KInprojIdeal.τ).loc Cert.KInprojIdeal.main_arg2)
      ∧ r.2.mem ((c.tc : Thread Cert.KInprojIdeal.nD Cert.KInprojIdeal.τ).loc Cert.KInprojIdeal.main_arg3) = m ((c.tc : Thread Cert.KInprojIdeal.nD Cert.KInprojIdeal.τ).loc Cert.KInprojIdeal.main_arg3))
      ∧ r.2.sem = fun _ => 0)

def quiescent_RInprojIdeal [hRInprojIdeal : Cert.RInprojIdeal.Facts] : Prop :=
  ∀ (m : (ℓ : Loc Cert.RInprojIdeal.nD Cert.RInprojIdeal.τ Cert.RInprojIdeal.sig) → Buf (Elt Ideal) ℓ) (g : Dev Cert.RInprojIdeal.nD → PrngReg), Pre_RInprojIdeal m →
    θ_run (Cert.RInprojIdeal.defs (F := Ideal)) (onTc (τ := Cert.RInprojIdeal.τ) (Cert.RInprojIdeal.main (F := Ideal))) ⟨m, fun _ => 0, g⟩ (fun r => (∀ c : Dev Cert.RInprojIdeal.nD,
      r.2.mem ((c.tc : Thread Cert.RInprojIdeal.nD Cert.RInprojIdeal.τ).loc Cert.RInprojIdeal.main_arg0) = m ((c.tc : Thread Cert.RInprojIdeal.nD Cert.RInprojIdeal.τ).loc Cert.RInprojIdeal.main_arg0)
      ∧ r.2.mem ((c.tc : Thread Cert.RInprojIdeal.nD Cert.RInprojIdeal.τ).loc Cert.RInprojIdeal.main_arg1) = m ((c.tc : Thread Cert.RInprojIdeal.nD Cert.RInprojIdeal.τ).loc Cert.RInprojIdeal.main_arg1)
      ∧ r.2.mem ((c.tc : Thread Cert.RInprojIdeal.nD Cert.RInprojIdeal.τ).loc Cert.RInprojIdeal.main_arg2) = m ((c.tc : Thread Cert.RInprojIdeal.nD Cert.RInprojIdeal.τ).loc Cert.RInprojIdeal.main_arg2)
      ∧ r.2.mem ((c.tc : Thread Cert.RInprojIdeal.nD Cert.RInprojIdeal.τ).loc Cert.RInprojIdeal.main_arg3) = m ((c.tc : Thread Cert.RInprojIdeal.nD Cert.RInprojIdeal.τ).loc Cert.RInprojIdeal.main_arg3))
      ∧ r.2.sem = fun _ => 0)

def quiescent_KMixer [hKMixer : Cert.KMixer.Facts] : Prop :=
  ∀ (m : (ℓ : Loc Cert.KMixer.nD Cert.KMixer.τ Cert.KMixer.sig) → Buf (Elt Bits) ℓ) (g : Dev Cert.KMixer.nD → PrngReg), Pre_KMixer m →
    θ_run (Cert.KMixer.defs (F := Bits)) (onTc (τ := Cert.KMixer.τ) (Cert.KMixer.main (F := Bits))) ⟨m, fun _ => 0, g⟩ (fun r => (∀ c : Dev Cert.KMixer.nD,
      r.2.mem ((c.tc : Thread Cert.KMixer.nD Cert.KMixer.τ).loc Cert.KMixer.main_arg0) = m ((c.tc : Thread Cert.KMixer.nD Cert.KMixer.τ).loc Cert.KMixer.main_arg0)
      ∧ r.2.mem ((c.tc : Thread Cert.KMixer.nD Cert.KMixer.τ).loc Cert.KMixer.main_arg1) = m ((c.tc : Thread Cert.KMixer.nD Cert.KMixer.τ).loc Cert.KMixer.main_arg1)
      ∧ r.2.mem ((c.tc : Thread Cert.KMixer.nD Cert.KMixer.τ).loc Cert.KMixer.main_arg2) = m ((c.tc : Thread Cert.KMixer.nD Cert.KMixer.τ).loc Cert.KMixer.main_arg2)
      ∧ r.2.mem ((c.tc : Thread Cert.KMixer.nD Cert.KMixer.τ).loc Cert.KMixer.main_arg3) = m ((c.tc : Thread Cert.KMixer.nD Cert.KMixer.τ).loc Cert.KMixer.main_arg3)
      ∧ r.2.mem ((c.tc : Thread Cert.KMixer.nD Cert.KMixer.τ).loc Cert.KMixer.main_arg4) = m ((c.tc : Thread Cert.KMixer.nD Cert.KMixer.τ).loc Cert.KMixer.main_arg4)
      ∧ r.2.mem ((c.tc : Thread Cert.KMixer.nD Cert.KMixer.τ).loc Cert.KMixer.main_arg5) = m ((c.tc : Thread Cert.KMixer.nD Cert.KMixer.τ).loc Cert.KMixer.main_arg5))
      ∧ r.2.sem = fun _ => 0)

def quiescent_KMixerIdeal [hKMixerIdeal : Cert.KMixerIdeal.Facts] : Prop :=
  ∀ (m : (ℓ : Loc Cert.KMixerIdeal.nD Cert.KMixerIdeal.τ Cert.KMixerIdeal.sig) → Buf (Elt Ideal) ℓ) (g : Dev Cert.KMixerIdeal.nD → PrngReg), Pre_KMixerIdeal m →
    θ_run (Cert.KMixerIdeal.defs (F := Ideal)) (onTc (τ := Cert.KMixerIdeal.τ) (Cert.KMixerIdeal.main (F := Ideal))) ⟨m, fun _ => 0, g⟩ (fun r => (∀ c : Dev Cert.KMixerIdeal.nD,
      r.2.mem ((c.tc : Thread Cert.KMixerIdeal.nD Cert.KMixerIdeal.τ).loc Cert.KMixerIdeal.main_arg0) = m ((c.tc : Thread Cert.KMixerIdeal.nD Cert.KMixerIdeal.τ).loc Cert.KMixerIdeal.main_arg0)
      ∧ r.2.mem ((c.tc : Thread Cert.KMixerIdeal.nD Cert.KMixerIdeal.τ).loc Cert.KMixerIdeal.main_arg1) = m ((c.tc : Thread Cert.KMixerIdeal.nD Cert.KMixerIdeal.τ).loc Cert.KMixerIdeal.main_arg1)
      ∧ r.2.mem ((c.tc : Thread Cert.KMixerIdeal.nD Cert.KMixerIdeal.τ).loc Cert.KMixerIdeal.main_arg2) = m ((c.tc : Thread Cert.KMixerIdeal.nD Cert.KMixerIdeal.τ).loc Cert.KMixerIdeal.main_arg2)
      ∧ r.2.mem ((c.tc : Thread Cert.KMixerIdeal.nD Cert.KMixerIdeal.τ).loc Cert.KMixerIdeal.main_arg3) = m ((c.tc : Thread Cert.KMixerIdeal.nD Cert.KMixerIdeal.τ).loc Cert.KMixerIdeal.main_arg3)
      ∧ r.2.mem ((c.tc : Thread Cert.KMixerIdeal.nD Cert.KMixerIdeal.τ).loc Cert.KMixerIdeal.main_arg4) = m ((c.tc : Thread Cert.KMixerIdeal.nD Cert.KMixerIdeal.τ).loc Cert.KMixerIdeal.main_arg4)
      ∧ r.2.mem ((c.tc : Thread Cert.KMixerIdeal.nD Cert.KMixerIdeal.τ).loc Cert.KMixerIdeal.main_arg5) = m ((c.tc : Thread Cert.KMixerIdeal.nD Cert.KMixerIdeal.τ).loc Cert.KMixerIdeal.main_arg5))
      ∧ r.2.sem = fun _ => 0)

def quiescent_RMixerIdeal [hRMixerIdeal : Cert.RMixerIdeal.Facts] : Prop :=
  ∀ (m : (ℓ : Loc Cert.RMixerIdeal.nD Cert.RMixerIdeal.τ Cert.RMixerIdeal.sig) → Buf (Elt Ideal) ℓ) (g : Dev Cert.RMixerIdeal.nD → PrngReg), Pre_RMixerIdeal m →
    θ_run (Cert.RMixerIdeal.defs (F := Ideal)) (onTc (τ := Cert.RMixerIdeal.τ) (Cert.RMixerIdeal.main (F := Ideal))) ⟨m, fun _ => 0, g⟩ (fun r => (∀ c : Dev Cert.RMixerIdeal.nD,
      r.2.mem ((c.tc : Thread Cert.RMixerIdeal.nD Cert.RMixerIdeal.τ).loc Cert.RMixerIdeal.main_arg0) = m ((c.tc : Thread Cert.RMixerIdeal.nD Cert.RMixerIdeal.τ).loc Cert.RMixerIdeal.main_arg0)
      ∧ r.2.mem ((c.tc : Thread Cert.RMixerIdeal.nD Cert.RMixerIdeal.τ).loc Cert.RMixerIdeal.main_arg1) = m ((c.tc : Thread Cert.RMixerIdeal.nD Cert.RMixerIdeal.τ).loc Cert.RMixerIdeal.main_arg1)
      ∧ r.2.mem ((c.tc : Thread Cert.RMixerIdeal.nD Cert.RMixerIdeal.τ).loc Cert.RMixerIdeal.main_arg2) = m ((c.tc : Thread Cert.RMixerIdeal.nD Cert.RMixerIdeal.τ).loc Cert.RMixerIdeal.main_arg2)
      ∧ r.2.mem ((c.tc : Thread Cert.RMixerIdeal.nD Cert.RMixerIdeal.τ).loc Cert.RMixerIdeal.main_arg3) = m ((c.tc : Thread Cert.RMixerIdeal.nD Cert.RMixerIdeal.τ).loc Cert.RMixerIdeal.main_arg3)
      ∧ r.2.mem ((c.tc : Thread Cert.RMixerIdeal.nD Cert.RMixerIdeal.τ).loc Cert.RMixerIdeal.main_arg4) = m ((c.tc : Thread Cert.RMixerIdeal.nD Cert.RMixerIdeal.τ).loc Cert.RMixerIdeal.main_arg4)
      ∧ r.2.mem ((c.tc : Thread Cert.RMixerIdeal.nD Cert.RMixerIdeal.τ).loc Cert.RMixerIdeal.main_arg5) = m ((c.tc : Thread Cert.RMixerIdeal.nD Cert.RMixerIdeal.τ).loc Cert.RMixerIdeal.main_arg5))
      ∧ r.2.sem = fun _ => 0)

def preserves_KDown_KDownIdeal : Prop :=
  True

def preserves_KConv_KConvIdeal : Prop :=
  True

def preserves_KMerge_KMergeIdeal : Prop :=
  True

def preserves_KMlp_KMlpIdeal : Prop :=
  True

def preserves_KInproj_KInprojIdeal : Prop :=
  True

def preserves_KMixer_KMixerIdeal : Prop :=
  True

def algebraic_KDownIdeal_RDownIdeal [hKDownIdeal : Cert.KDownIdeal.Facts] [hRDownIdeal : Cert.RDownIdeal.Facts] : Prop :=
  ∀ (m : (ℓ : Loc Cert.KDownIdeal.nD Cert.KDownIdeal.τ Cert.KDownIdeal.sig) → Buf (Elt Ideal) ℓ) (g : Dev Cert.KDownIdeal.nD → PrngReg)
    (m' : (ℓ : Loc Cert.RDownIdeal.nD Cert.RDownIdeal.τ Cert.RDownIdeal.sig) → Buf (Elt Ideal) ℓ) (g' : Dev Cert.RDownIdeal.nD → PrngReg), Pre_KDownIdeal m →
    (∀ c : Dev Cert.KDownIdeal.nD,
      m' ((c.tc : Thread Cert.RDownIdeal.nD Cert.RDownIdeal.τ).loc Cert.RDownIdeal.main_arg0) = m ((c.tc : Thread Cert.KDownIdeal.nD Cert.KDownIdeal.τ).loc Cert.KDownIdeal.main_arg0)
      ∧ m' ((c.tc : Thread Cert.RDownIdeal.nD Cert.RDownIdeal.τ).loc Cert.RDownIdeal.main_arg1) = m ((c.tc : Thread Cert.KDownIdeal.nD Cert.KDownIdeal.τ).loc Cert.KDownIdeal.main_arg1)
      ∧ m' ((c.tc : Thread Cert.RDownIdeal.nD Cert.RDownIdeal.τ).loc Cert.RDownIdeal.main_arg2) = m ((c.tc : Thread Cert.KDownIdeal.nD Cert.KDownIdeal.τ).loc Cert.KDownIdeal.main_arg2)
      ∧ m' ((c.tc : Thread Cert.RDownIdeal.nD Cert.RDownIdeal.τ).loc Cert.RDownIdeal.main_arg3) = m ((c.tc : Thread Cert.KDownIdeal.nD Cert.KDownIdeal.τ).loc Cert.KDownIdeal.main_arg3)) →
    ∃ (v0 : (c : Dev Cert.KDownIdeal.nD) → Buf (Elt Ideal) ((c.tc : Thread Cert.KDownIdeal.nD Cert.KDownIdeal.τ).loc Cert.KDownIdeal.main_v5)),
      θ_run (Cert.KDownIdeal.defs (F := Ideal)) (onTc (τ := Cert.KDownIdeal.τ) (Cert.KDownIdeal.main (F := Ideal))) ⟨m, fun _ => 0, g⟩ (fun r => ∀ c : Dev Cert.KDownIdeal.nD,
          r.2.mem ((c.tc : Thread Cert.KDownIdeal.nD Cert.KDownIdeal.τ).loc Cert.KDownIdeal.main_v5) = v0 c
          ∧ r.2.mem ((c.tc : Thread Cert.KDownIdeal.nD Cert.KDownIdeal.τ).loc Cert.KDownIdeal.main_arg0) = m ((c.tc : Thread Cert.KDownIdeal.nD Cert.KDownIdeal.τ).loc Cert.KDownIdeal.main_arg0)
          ∧ r.2.mem ((c.tc : Thread Cert.KDownIdeal.nD Cert.KDownIdeal.τ).loc Cert.KDownIdeal.main_arg1) = m ((c.tc : Thread Cert.KDownIdeal.nD Cert.KDownIdeal.τ).loc Cert.KDownIdeal.main_arg1)
          ∧ r.2.mem ((c.tc : Thread Cert.KDownIdeal.nD Cert.KDownIdeal.τ).loc Cert.KDownIdeal.main_arg2) = m ((c.tc : Thread Cert.KDownIdeal.nD Cert.KDownIdeal.τ).loc Cert.KDownIdeal.main_arg2)
          ∧ r.2.mem ((c.tc : Thread Cert.KDownIdeal.nD Cert.KDownIdeal.τ).loc Cert.KDownIdeal.main_arg3) = m ((c.tc : Thread Cert.KDownIdeal.nD Cert.KDownIdeal.τ).loc Cert.KDownIdeal.main_arg3))
      ∧ θ_run (Cert.RDownIdeal.defs (F := Ideal)) (onTc (τ := Cert.RDownIdeal.τ) (Cert.RDownIdeal.main (F := Ideal))) ⟨m', fun _ => 0, g'⟩ (fun r => ∀ c : Dev Cert.RDownIdeal.nD,
          r.2.mem ((c.tc : Thread Cert.RDownIdeal.nD Cert.RDownIdeal.τ).loc Cert.RDownIdeal.main_v13) = v0 c
          ∧ r.2.mem ((c.tc : Thread Cert.RDownIdeal.nD Cert.RDownIdeal.τ).loc Cert.RDownIdeal.main_arg0) = m' ((c.tc : Thread Cert.RDownIdeal.nD Cert.RDownIdeal.τ).loc Cert.RDownIdeal.main_arg0)
          ∧ r.2.mem ((c.tc : Thread Cert.RDownIdeal.nD Cert.RDownIdeal.τ).loc Cert.RDownIdeal.main_arg1) = m' ((c.tc : Thread Cert.RDownIdeal.nD Cert.RDownIdeal.τ).loc Cert.RDownIdeal.main_arg1)
          ∧ r.2.mem ((c.tc : Thread Cert.RDownIdeal.nD Cert.RDownIdeal.τ).loc Cert.RDownIdeal.main_arg2) = m' ((c.tc : Thread Cert.RDownIdeal.nD Cert.RDownIdeal.τ).loc Cert.RDownIdeal.main_arg2)
          ∧ r.2.mem ((c.tc : Thread Cert.RDownIdeal.nD Cert.RDownIdeal.τ).loc Cert.RDownIdeal.main_arg3) = m' ((c.tc : Thread Cert.RDownIdeal.nD Cert.RDownIdeal.τ).loc Cert.RDownIdeal.main_arg3))

def algebraic_KConvIdeal_RConvIdeal [hKConvIdeal : Cert.KConvIdeal.Facts] [hRConvIdeal : Cert.RConvIdeal.Facts] : Prop :=
  ∀ (m : (ℓ : Loc Cert.KConvIdeal.nD Cert.KConvIdeal.τ Cert.KConvIdeal.sig) → Buf (Elt Ideal) ℓ) (g : Dev Cert.KConvIdeal.nD → PrngReg)
    (m' : (ℓ : Loc Cert.RConvIdeal.nD Cert.RConvIdeal.τ Cert.RConvIdeal.sig) → Buf (Elt Ideal) ℓ) (g' : Dev Cert.RConvIdeal.nD → PrngReg), Pre_KConvIdeal m →
    (∀ c : Dev Cert.KConvIdeal.nD,
      m' ((c.tc : Thread Cert.RConvIdeal.nD Cert.RConvIdeal.τ).loc Cert.RConvIdeal.main_arg0) = m ((c.tc : Thread Cert.KConvIdeal.nD Cert.KConvIdeal.τ).loc Cert.KConvIdeal.main_arg0)
      ∧ m' ((c.tc : Thread Cert.RConvIdeal.nD Cert.RConvIdeal.τ).loc Cert.RConvIdeal.main_arg1) = m ((c.tc : Thread Cert.KConvIdeal.nD Cert.KConvIdeal.τ).loc Cert.KConvIdeal.main_arg1)
      ∧ m' ((c.tc : Thread Cert.RConvIdeal.nD Cert.RConvIdeal.τ).loc Cert.RConvIdeal.main_arg2) = m ((c.tc : Thread Cert.KConvIdeal.nD Cert.KConvIdeal.τ).loc Cert.KConvIdeal.main_arg2)
      ∧ m' ((c.tc : Thread Cert.RConvIdeal.nD Cert.RConvIdeal.τ).loc Cert.RConvIdeal.main_arg3) = m ((c.tc : Thread Cert.KConvIdeal.nD Cert.KConvIdeal.τ).loc Cert.KConvIdeal.main_arg3)
      ∧ m' ((c.tc : Thread Cert.RConvIdeal.nD Cert.RConvIdeal.τ).loc Cert.RConvIdeal.main_arg4) = m ((c.tc : Thread Cert.KConvIdeal.nD Cert.KConvIdeal.τ).loc Cert.KConvIdeal.main_arg4)
      ∧ m' ((c.tc : Thread Cert.RConvIdeal.nD Cert.RConvIdeal.τ).loc Cert.RConvIdeal.main_arg5) = m ((c.tc : Thread Cert.KConvIdeal.nD Cert.KConvIdeal.τ).loc Cert.KConvIdeal.main_arg5)
      ∧ m' ((c.tc : Thread Cert.RConvIdeal.nD Cert.RConvIdeal.τ).loc Cert.RConvIdeal.main_arg6) = m ((c.tc : Thread Cert.KConvIdeal.nD Cert.KConvIdeal.τ).loc Cert.KConvIdeal.main_arg6)) →
    ∃ (v0 : (c : Dev Cert.KConvIdeal.nD) → Buf (Elt Ideal) ((c.tc : Thread Cert.KConvIdeal.nD Cert.KConvIdeal.τ).loc Cert.KConvIdeal.main_v5_0)) (v1 : (c : Dev Cert.KConvIdeal.nD) → Buf (Elt Ideal) ((c.tc : Thread Cert.KConvIdeal.nD Cert.KConvIdeal.τ).loc Cert.KConvIdeal.main_v5_1)),
      θ_run (Cert.KConvIdeal.defs (F := Ideal)) (onTc (τ := Cert.KConvIdeal.τ) (Cert.KConvIdeal.main (F := Ideal))) ⟨m, fun _ => 0, g⟩ (fun r => ∀ c : Dev Cert.KConvIdeal.nD,
          r.2.mem ((c.tc : Thread Cert.KConvIdeal.nD Cert.KConvIdeal.τ).loc Cert.KConvIdeal.main_v5_0) = v0 c
          ∧ r.2.mem ((c.tc : Thread Cert.KConvIdeal.nD Cert.KConvIdeal.τ).loc Cert.KConvIdeal.main_v5_1) = v1 c
          ∧ r.2.mem ((c.tc : Thread Cert.KConvIdeal.nD Cert.KConvIdeal.τ).loc Cert.KConvIdeal.main_arg0) = m ((c.tc : Thread Cert.KConvIdeal.nD Cert.KConvIdeal.τ).loc Cert.KConvIdeal.main_arg0)
          ∧ r.2.mem ((c.tc : Thread Cert.KConvIdeal.nD Cert.KConvIdeal.τ).loc Cert.KConvIdeal.main_arg1) = m ((c.tc : Thread Cert.KConvIdeal.nD Cert.KConvIdeal.τ).loc Cert.KConvIdeal.main_arg1)
          ∧ r.2.mem ((c.tc : Thread Cert.KConvIdeal.nD Cert.KConvIdeal.τ).loc Cert.KConvIdeal.main_arg2) = m ((c.tc : Thread Cert.KConvIdeal.nD Cert.KConvIdeal.τ).loc Cert.KConvIdeal.main_arg2)
          ∧ r.2.mem ((c.tc : Thread Cert.KConvIdeal.nD Cert.KConvIdeal.τ).loc Cert.KConvIdeal.main_arg3) = m ((c.tc : Thread Cert.KConvIdeal.nD Cert.KConvIdeal.τ).loc Cert.KConvIdeal.main_arg3)
          ∧ r.2.mem ((c.tc : Thread Cert.KConvIdeal.nD Cert.KConvIdeal.τ).loc Cert.KConvIdeal.main_arg4) = m ((c.tc : Thread Cert.KConvIdeal.nD Cert.KConvIdeal.τ).loc Cert.KConvIdeal.main_arg4)
          ∧ r.2.mem ((c.tc : Thread Cert.KConvIdeal.nD Cert.KConvIdeal.τ).loc Cert.KConvIdeal.main_arg5) = m ((c.tc : Thread Cert.KConvIdeal.nD Cert.KConvIdeal.τ).loc Cert.KConvIdeal.main_arg5)
          ∧ r.2.mem ((c.tc : Thread Cert.KConvIdeal.nD Cert.KConvIdeal.τ).loc Cert.KConvIdeal.main_arg6) = m ((c.tc : Thread Cert.KConvIdeal.nD Cert.KConvIdeal.τ).loc Cert.KConvIdeal.main_arg6))
      ∧ θ_run (Cert.RConvIdeal.defs (F := Ideal)) (onTc (τ := Cert.RConvIdeal.τ) (Cert.RConvIdeal.main (F := Ideal))) ⟨m', fun _ => 0, g'⟩ (fun r => ∀ c : Dev Cert.RConvIdeal.nD,
          r.2.mem ((c.tc : Thread Cert.RConvIdeal.nD Cert.RConvIdeal.τ).loc Cert.RConvIdeal.main_v71) = v0 c
          ∧ r.2.mem ((c.tc : Thread Cert.RConvIdeal.nD Cert.RConvIdeal.τ).loc Cert.RConvIdeal.main_v74) = v1 c
          ∧ r.2.mem ((c.tc : Thread Cert.RConvIdeal.nD Cert.RConvIdeal.τ).loc Cert.RConvIdeal.main_arg0) = m' ((c.tc : Thread Cert.RConvIdeal.nD Cert.RConvIdeal.τ).loc Cert.RConvIdeal.main_arg0)
          ∧ r.2.mem ((c.tc : Thread Cert.RConvIdeal.nD Cert.RConvIdeal.τ).loc Cert.RConvIdeal.main_arg1) = m' ((c.tc : Thread Cert.RConvIdeal.nD Cert.RConvIdeal.τ).loc Cert.RConvIdeal.main_arg1)
          ∧ r.2.mem ((c.tc : Thread Cert.RConvIdeal.nD Cert.RConvIdeal.τ).loc Cert.RConvIdeal.main_arg2) = m' ((c.tc : Thread Cert.RConvIdeal.nD Cert.RConvIdeal.τ).loc Cert.RConvIdeal.main_arg2)
          ∧ r.2.mem ((c.tc : Thread Cert.RConvIdeal.nD Cert.RConvIdeal.τ).loc Cert.RConvIdeal.main_arg3) = m' ((c.tc : Thread Cert.RConvIdeal.nD Cert.RConvIdeal.τ).loc Cert.RConvIdeal.main_arg3)
          ∧ r.2.mem ((c.tc : Thread Cert.RConvIdeal.nD Cert.RConvIdeal.τ).loc Cert.RConvIdeal.main_arg4) = m' ((c.tc : Thread Cert.RConvIdeal.nD Cert.RConvIdeal.τ).loc Cert.RConvIdeal.main_arg4)
          ∧ r.2.mem ((c.tc : Thread Cert.RConvIdeal.nD Cert.RConvIdeal.τ).loc Cert.RConvIdeal.main_arg5) = m' ((c.tc : Thread Cert.RConvIdeal.nD Cert.RConvIdeal.τ).loc Cert.RConvIdeal.main_arg5)
          ∧ r.2.mem ((c.tc : Thread Cert.RConvIdeal.nD Cert.RConvIdeal.τ).loc Cert.RConvIdeal.main_arg6) = m' ((c.tc : Thread Cert.RConvIdeal.nD Cert.RConvIdeal.τ).loc Cert.RConvIdeal.main_arg6))

def algebraic_KMergeIdeal_RMergeIdeal_pre_finite_merge [hKMergeIdeal : Cert.KMergeIdeal.Facts] [hRMergeIdeal : Cert.RMergeIdeal.Facts] [hPre_finite_merge : Cert.Pre_finite_merge.Facts] : Prop :=
  ∀ (m : (ℓ : Loc Cert.KMergeIdeal.nD Cert.KMergeIdeal.τ Cert.KMergeIdeal.sig) → Buf (Elt Ideal) ℓ) (g : Dev Cert.KMergeIdeal.nD → PrngReg)
    (m' : (ℓ : Loc Cert.RMergeIdeal.nD Cert.RMergeIdeal.τ Cert.RMergeIdeal.sig) → Buf (Elt Ideal) ℓ) (g' : Dev Cert.RMergeIdeal.nD → PrngReg), Pre_KMergeIdeal_finite_merge m →
    (∀ c : Dev Cert.KMergeIdeal.nD,
      m' ((c.tc : Thread Cert.RMergeIdeal.nD Cert.RMergeIdeal.τ).loc Cert.RMergeIdeal.main_arg0) = m ((c.tc : Thread Cert.KMergeIdeal.nD Cert.KMergeIdeal.τ).loc Cert.KMergeIdeal.main_arg0)
      ∧ m' ((c.tc : Thread Cert.RMergeIdeal.nD Cert.RMergeIdeal.τ).loc Cert.RMergeIdeal.main_arg1) = m ((c.tc : Thread Cert.KMergeIdeal.nD Cert.KMergeIdeal.τ).loc Cert.KMergeIdeal.main_arg1)
      ∧ m' ((c.tc : Thread Cert.RMergeIdeal.nD Cert.RMergeIdeal.τ).loc Cert.RMergeIdeal.main_arg2) = m ((c.tc : Thread Cert.KMergeIdeal.nD Cert.KMergeIdeal.τ).loc Cert.KMergeIdeal.main_arg2)
      ∧ m' ((c.tc : Thread Cert.RMergeIdeal.nD Cert.RMergeIdeal.τ).loc Cert.RMergeIdeal.main_arg3) = m ((c.tc : Thread Cert.KMergeIdeal.nD Cert.KMergeIdeal.τ).loc Cert.KMergeIdeal.main_arg3)
      ∧ m' ((c.tc : Thread Cert.RMergeIdeal.nD Cert.RMergeIdeal.τ).loc Cert.RMergeIdeal.main_arg4) = m ((c.tc : Thread Cert.KMergeIdeal.nD Cert.KMergeIdeal.τ).loc Cert.KMergeIdeal.main_arg4)
      ∧ m' ((c.tc : Thread Cert.RMergeIdeal.nD Cert.RMergeIdeal.τ).loc Cert.RMergeIdeal.main_arg5) = m ((c.tc : Thread Cert.KMergeIdeal.nD Cert.KMergeIdeal.τ).loc Cert.KMergeIdeal.main_arg5)
      ∧ m' ((c.tc : Thread Cert.RMergeIdeal.nD Cert.RMergeIdeal.τ).loc Cert.RMergeIdeal.main_arg6) = m ((c.tc : Thread Cert.KMergeIdeal.nD Cert.KMergeIdeal.τ).loc Cert.KMergeIdeal.main_arg6)
      ∧ m' ((c.tc : Thread Cert.RMergeIdeal.nD Cert.RMergeIdeal.τ).loc Cert.RMergeIdeal.main_arg7) = m ((c.tc : Thread Cert.KMergeIdeal.nD Cert.KMergeIdeal.τ).loc Cert.KMergeIdeal.main_arg7)
      ∧ m' ((c.tc : Thread Cert.RMergeIdeal.nD Cert.RMergeIdeal.τ).loc Cert.RMergeIdeal.main_arg8) = m ((c.tc : Thread Cert.KMergeIdeal.nD Cert.KMergeIdeal.τ).loc Cert.KMergeIdeal.main_arg8)
      ∧ m' ((c.tc : Thread Cert.RMergeIdeal.nD Cert.RMergeIdeal.τ).loc Cert.RMergeIdeal.main_arg9) = m ((c.tc : Thread Cert.KMergeIdeal.nD Cert.KMergeIdeal.τ).loc Cert.KMergeIdeal.main_arg9)) →
    ∃ (v0 : (c : Dev Cert.KMergeIdeal.nD) → Buf (Elt Ideal) ((c.tc : Thread Cert.KMergeIdeal.nD Cert.KMergeIdeal.τ).loc Cert.KMergeIdeal.main_v50_0)) (v1 : (c : Dev Cert.KMergeIdeal.nD) → Buf (Elt Ideal) ((c.tc : Thread Cert.KMergeIdeal.nD Cert.KMergeIdeal.τ).loc Cert.KMergeIdeal.main_v50_1)) (v2 : (c : Dev Cert.KMergeIdeal.nD) → Buf (Elt Ideal) ((c.tc : Thread Cert.KMergeIdeal.nD Cert.KMergeIdeal.τ).loc Cert.KMergeIdeal.main_v50_2)) (v3 : (c : Dev Cert.KMergeIdeal.nD) → Buf (Elt Ideal) ((c.tc : Thread Cert.KMergeIdeal.nD Cert.KMergeIdeal.τ).loc Cert.KMergeIdeal.main_v50_3)) (v4 : (c : Dev Cert.KMergeIdeal.nD) → Buf (Elt Ideal) ((c.tc : Thread Cert.KMergeIdeal.nD Cert.KMergeIdeal.τ).loc Cert.KMergeIdeal.main_v50_4)) (v5 : (c : Dev Cert.KMergeIdeal.nD) → Buf (Elt Ideal) ((c.tc : Thread Cert.KMergeIdeal.nD Cert.KMergeIdeal.τ).loc Cert.KMergeIdeal.main_v50_5)) (v6 : (c : Dev Cert.KMergeIdeal.nD) → Buf (Elt Ideal) ((c.tc : Thread Cert.KMergeIdeal.nD Cert.KMergeIdeal.τ).loc Cert.KMergeIdeal.main_v50_6)),
      θ_run (Cert.KMergeIdeal.defs (F := Ideal)) (onTc (τ := Cert.KMergeIdeal.τ) (Cert.KMergeIdeal.main (F := Ideal))) ⟨m, fun _ => 0, g⟩ (fun r => ∀ c : Dev Cert.KMergeIdeal.nD,
          r.2.mem ((c.tc : Thread Cert.KMergeIdeal.nD Cert.KMergeIdeal.τ).loc Cert.KMergeIdeal.main_v50_0) = v0 c
          ∧ r.2.mem ((c.tc : Thread Cert.KMergeIdeal.nD Cert.KMergeIdeal.τ).loc Cert.KMergeIdeal.main_v50_1) = v1 c
          ∧ r.2.mem ((c.tc : Thread Cert.KMergeIdeal.nD Cert.KMergeIdeal.τ).loc Cert.KMergeIdeal.main_v50_2) = v2 c
          ∧ r.2.mem ((c.tc : Thread Cert.KMergeIdeal.nD Cert.KMergeIdeal.τ).loc Cert.KMergeIdeal.main_v50_3) = v3 c
          ∧ r.2.mem ((c.tc : Thread Cert.KMergeIdeal.nD Cert.KMergeIdeal.τ).loc Cert.KMergeIdeal.main_v50_4) = v4 c
          ∧ r.2.mem ((c.tc : Thread Cert.KMergeIdeal.nD Cert.KMergeIdeal.τ).loc Cert.KMergeIdeal.main_v50_5) = v5 c
          ∧ r.2.mem ((c.tc : Thread Cert.KMergeIdeal.nD Cert.KMergeIdeal.τ).loc Cert.KMergeIdeal.main_v50_6) = v6 c
          ∧ r.2.mem ((c.tc : Thread Cert.KMergeIdeal.nD Cert.KMergeIdeal.τ).loc Cert.KMergeIdeal.main_arg0) = m ((c.tc : Thread Cert.KMergeIdeal.nD Cert.KMergeIdeal.τ).loc Cert.KMergeIdeal.main_arg0)
          ∧ r.2.mem ((c.tc : Thread Cert.KMergeIdeal.nD Cert.KMergeIdeal.τ).loc Cert.KMergeIdeal.main_arg1) = m ((c.tc : Thread Cert.KMergeIdeal.nD Cert.KMergeIdeal.τ).loc Cert.KMergeIdeal.main_arg1)
          ∧ r.2.mem ((c.tc : Thread Cert.KMergeIdeal.nD Cert.KMergeIdeal.τ).loc Cert.KMergeIdeal.main_arg2) = m ((c.tc : Thread Cert.KMergeIdeal.nD Cert.KMergeIdeal.τ).loc Cert.KMergeIdeal.main_arg2)
          ∧ r.2.mem ((c.tc : Thread Cert.KMergeIdeal.nD Cert.KMergeIdeal.τ).loc Cert.KMergeIdeal.main_arg3) = m ((c.tc : Thread Cert.KMergeIdeal.nD Cert.KMergeIdeal.τ).loc Cert.KMergeIdeal.main_arg3)
          ∧ r.2.mem ((c.tc : Thread Cert.KMergeIdeal.nD Cert.KMergeIdeal.τ).loc Cert.KMergeIdeal.main_arg4) = m ((c.tc : Thread Cert.KMergeIdeal.nD Cert.KMergeIdeal.τ).loc Cert.KMergeIdeal.main_arg4)
          ∧ r.2.mem ((c.tc : Thread Cert.KMergeIdeal.nD Cert.KMergeIdeal.τ).loc Cert.KMergeIdeal.main_arg5) = m ((c.tc : Thread Cert.KMergeIdeal.nD Cert.KMergeIdeal.τ).loc Cert.KMergeIdeal.main_arg5)
          ∧ r.2.mem ((c.tc : Thread Cert.KMergeIdeal.nD Cert.KMergeIdeal.τ).loc Cert.KMergeIdeal.main_arg6) = m ((c.tc : Thread Cert.KMergeIdeal.nD Cert.KMergeIdeal.τ).loc Cert.KMergeIdeal.main_arg6)
          ∧ r.2.mem ((c.tc : Thread Cert.KMergeIdeal.nD Cert.KMergeIdeal.τ).loc Cert.KMergeIdeal.main_arg7) = m ((c.tc : Thread Cert.KMergeIdeal.nD Cert.KMergeIdeal.τ).loc Cert.KMergeIdeal.main_arg7)
          ∧ r.2.mem ((c.tc : Thread Cert.KMergeIdeal.nD Cert.KMergeIdeal.τ).loc Cert.KMergeIdeal.main_arg8) = m ((c.tc : Thread Cert.KMergeIdeal.nD Cert.KMergeIdeal.τ).loc Cert.KMergeIdeal.main_arg8)
          ∧ r.2.mem ((c.tc : Thread Cert.KMergeIdeal.nD Cert.KMergeIdeal.τ).loc Cert.KMergeIdeal.main_arg9) = m ((c.tc : Thread Cert.KMergeIdeal.nD Cert.KMergeIdeal.τ).loc Cert.KMergeIdeal.main_arg9))
      ∧ θ_run (Cert.RMergeIdeal.defs (F := Ideal)) (onTc (τ := Cert.RMergeIdeal.τ) (Cert.RMergeIdeal.main (F := Ideal))) ⟨m', fun _ => 0, g'⟩ (fun r => ∀ c : Dev Cert.RMergeIdeal.nD,
          r.2.mem ((c.tc : Thread Cert.RMergeIdeal.nD Cert.RMergeIdeal.τ).loc Cert.RMergeIdeal.main_v123) = v0 c
          ∧ r.2.mem ((c.tc : Thread Cert.RMergeIdeal.nD Cert.RMergeIdeal.τ).loc Cert.RMergeIdeal.main_v124) = v1 c
          ∧ r.2.mem ((c.tc : Thread Cert.RMergeIdeal.nD Cert.RMergeIdeal.τ).loc Cert.RMergeIdeal.main_v125) = v2 c
          ∧ r.2.mem ((c.tc : Thread Cert.RMergeIdeal.nD Cert.RMergeIdeal.τ).loc Cert.RMergeIdeal.main_v126) = v3 c
          ∧ r.2.mem ((c.tc : Thread Cert.RMergeIdeal.nD Cert.RMergeIdeal.τ).loc Cert.RMergeIdeal.main_v111) = v4 c
          ∧ r.2.mem ((c.tc : Thread Cert.RMergeIdeal.nD Cert.RMergeIdeal.τ).loc Cert.RMergeIdeal.main_v106) = v5 c
          ∧ r.2.mem ((c.tc : Thread Cert.RMergeIdeal.nD Cert.RMergeIdeal.τ).loc Cert.RMergeIdeal.main_v122) = v6 c
          ∧ r.2.mem ((c.tc : Thread Cert.RMergeIdeal.nD Cert.RMergeIdeal.τ).loc Cert.RMergeIdeal.main_arg0) = m' ((c.tc : Thread Cert.RMergeIdeal.nD Cert.RMergeIdeal.τ).loc Cert.RMergeIdeal.main_arg0)
          ∧ r.2.mem ((c.tc : Thread Cert.RMergeIdeal.nD Cert.RMergeIdeal.τ).loc Cert.RMergeIdeal.main_arg1) = m' ((c.tc : Thread Cert.RMergeIdeal.nD Cert.RMergeIdeal.τ).loc Cert.RMergeIdeal.main_arg1)
          ∧ r.2.mem ((c.tc : Thread Cert.RMergeIdeal.nD Cert.RMergeIdeal.τ).loc Cert.RMergeIdeal.main_arg2) = m' ((c.tc : Thread Cert.RMergeIdeal.nD Cert.RMergeIdeal.τ).loc Cert.RMergeIdeal.main_arg2)
          ∧ r.2.mem ((c.tc : Thread Cert.RMergeIdeal.nD Cert.RMergeIdeal.τ).loc Cert.RMergeIdeal.main_arg3) = m' ((c.tc : Thread Cert.RMergeIdeal.nD Cert.RMergeIdeal.τ).loc Cert.RMergeIdeal.main_arg3)
          ∧ r.2.mem ((c.tc : Thread Cert.RMergeIdeal.nD Cert.RMergeIdeal.τ).loc Cert.RMergeIdeal.main_arg4) = m' ((c.tc : Thread Cert.RMergeIdeal.nD Cert.RMergeIdeal.τ).loc Cert.RMergeIdeal.main_arg4)
          ∧ r.2.mem ((c.tc : Thread Cert.RMergeIdeal.nD Cert.RMergeIdeal.τ).loc Cert.RMergeIdeal.main_arg5) = m' ((c.tc : Thread Cert.RMergeIdeal.nD Cert.RMergeIdeal.τ).loc Cert.RMergeIdeal.main_arg5)
          ∧ r.2.mem ((c.tc : Thread Cert.RMergeIdeal.nD Cert.RMergeIdeal.τ).loc Cert.RMergeIdeal.main_arg6) = m' ((c.tc : Thread Cert.RMergeIdeal.nD Cert.RMergeIdeal.τ).loc Cert.RMergeIdeal.main_arg6)
          ∧ r.2.mem ((c.tc : Thread Cert.RMergeIdeal.nD Cert.RMergeIdeal.τ).loc Cert.RMergeIdeal.main_arg7) = m' ((c.tc : Thread Cert.RMergeIdeal.nD Cert.RMergeIdeal.τ).loc Cert.RMergeIdeal.main_arg7)
          ∧ r.2.mem ((c.tc : Thread Cert.RMergeIdeal.nD Cert.RMergeIdeal.τ).loc Cert.RMergeIdeal.main_arg8) = m' ((c.tc : Thread Cert.RMergeIdeal.nD Cert.RMergeIdeal.τ).loc Cert.RMergeIdeal.main_arg8)
          ∧ r.2.mem ((c.tc : Thread Cert.RMergeIdeal.nD Cert.RMergeIdeal.τ).loc Cert.RMergeIdeal.main_arg9) = m' ((c.tc : Thread Cert.RMergeIdeal.nD Cert.RMergeIdeal.τ).loc Cert.RMergeIdeal.main_arg9))

def algebraic_KMlpIdeal_RMlpIdeal_pre_finite_mlp [hKMlpIdeal : Cert.KMlpIdeal.Facts] [hRMlpIdeal : Cert.RMlpIdeal.Facts] [hPre_finite_mlp : Cert.Pre_finite_mlp.Facts] : Prop :=
  ∀ (m : (ℓ : Loc Cert.KMlpIdeal.nD Cert.KMlpIdeal.τ Cert.KMlpIdeal.sig) → Buf (Elt Ideal) ℓ) (g : Dev Cert.KMlpIdeal.nD → PrngReg)
    (m' : (ℓ : Loc Cert.RMlpIdeal.nD Cert.RMlpIdeal.τ Cert.RMlpIdeal.sig) → Buf (Elt Ideal) ℓ) (g' : Dev Cert.RMlpIdeal.nD → PrngReg), Pre_KMlpIdeal_finite_mlp m →
    (∀ c : Dev Cert.KMlpIdeal.nD,
      m' ((c.tc : Thread Cert.RMlpIdeal.nD Cert.RMlpIdeal.τ).loc Cert.RMlpIdeal.main_arg0) = m ((c.tc : Thread Cert.KMlpIdeal.nD Cert.KMlpIdeal.τ).loc Cert.KMlpIdeal.main_arg0)
      ∧ m' ((c.tc : Thread Cert.RMlpIdeal.nD Cert.RMlpIdeal.τ).loc Cert.RMlpIdeal.main_arg1) = m ((c.tc : Thread Cert.KMlpIdeal.nD Cert.KMlpIdeal.τ).loc Cert.KMlpIdeal.main_arg1)
      ∧ m' ((c.tc : Thread Cert.RMlpIdeal.nD Cert.RMlpIdeal.τ).loc Cert.RMlpIdeal.main_arg2) = m ((c.tc : Thread Cert.KMlpIdeal.nD Cert.KMlpIdeal.τ).loc Cert.KMlpIdeal.main_arg2)
      ∧ m' ((c.tc : Thread Cert.RMlpIdeal.nD Cert.RMlpIdeal.τ).loc Cert.RMlpIdeal.main_arg3) = m ((c.tc : Thread Cert.KMlpIdeal.nD Cert.KMlpIdeal.τ).loc Cert.KMlpIdeal.main_arg3)
      ∧ m' ((c.tc : Thread Cert.RMlpIdeal.nD Cert.RMlpIdeal.τ).loc Cert.RMlpIdeal.main_arg4) = m ((c.tc : Thread Cert.KMlpIdeal.nD Cert.KMlpIdeal.τ).loc Cert.KMlpIdeal.main_arg4)
      ∧ m' ((c.tc : Thread Cert.RMlpIdeal.nD Cert.RMlpIdeal.τ).loc Cert.RMlpIdeal.main_arg5) = m ((c.tc : Thread Cert.KMlpIdeal.nD Cert.KMlpIdeal.τ).loc Cert.KMlpIdeal.main_arg5)
      ∧ m' ((c.tc : Thread Cert.RMlpIdeal.nD Cert.RMlpIdeal.τ).loc Cert.RMlpIdeal.main_arg6) = m ((c.tc : Thread Cert.KMlpIdeal.nD Cert.KMlpIdeal.τ).loc Cert.KMlpIdeal.main_arg6)
      ∧ m' ((c.tc : Thread Cert.RMlpIdeal.nD Cert.RMlpIdeal.τ).loc Cert.RMlpIdeal.main_arg7) = m ((c.tc : Thread Cert.KMlpIdeal.nD Cert.KMlpIdeal.τ).loc Cert.KMlpIdeal.main_arg7)
      ∧ m' ((c.tc : Thread Cert.RMlpIdeal.nD Cert.RMlpIdeal.τ).loc Cert.RMlpIdeal.main_arg8) = m ((c.tc : Thread Cert.KMlpIdeal.nD Cert.KMlpIdeal.τ).loc Cert.KMlpIdeal.main_arg8)
      ∧ m' ((c.tc : Thread Cert.RMlpIdeal.nD Cert.RMlpIdeal.τ).loc Cert.RMlpIdeal.main_arg9) = m ((c.tc : Thread Cert.KMlpIdeal.nD Cert.KMlpIdeal.τ).loc Cert.KMlpIdeal.main_arg9)
      ∧ m' ((c.tc : Thread Cert.RMlpIdeal.nD Cert.RMlpIdeal.τ).loc Cert.RMlpIdeal.main_arg10) = m ((c.tc : Thread Cert.KMlpIdeal.nD Cert.KMlpIdeal.τ).loc Cert.KMlpIdeal.main_arg10)
      ∧ m' ((c.tc : Thread Cert.RMlpIdeal.nD Cert.RMlpIdeal.τ).loc Cert.RMlpIdeal.main_arg11) = m ((c.tc : Thread Cert.KMlpIdeal.nD Cert.KMlpIdeal.τ).loc Cert.KMlpIdeal.main_arg11)
      ∧ m' ((c.tc : Thread Cert.RMlpIdeal.nD Cert.RMlpIdeal.τ).loc Cert.RMlpIdeal.main_arg12) = m ((c.tc : Thread Cert.KMlpIdeal.nD Cert.KMlpIdeal.τ).loc Cert.KMlpIdeal.main_arg12)
      ∧ m' ((c.tc : Thread Cert.RMlpIdeal.nD Cert.RMlpIdeal.τ).loc Cert.RMlpIdeal.main_arg13) = m ((c.tc : Thread Cert.KMlpIdeal.nD Cert.KMlpIdeal.τ).loc Cert.KMlpIdeal.main_arg13)
      ∧ m' ((c.tc : Thread Cert.RMlpIdeal.nD Cert.RMlpIdeal.τ).loc Cert.RMlpIdeal.main_arg14) = m ((c.tc : Thread Cert.KMlpIdeal.nD Cert.KMlpIdeal.τ).loc Cert.KMlpIdeal.main_arg14)
      ∧ m' ((c.tc : Thread Cert.RMlpIdeal.nD Cert.RMlpIdeal.τ).loc Cert.RMlpIdeal.main_arg15) = m ((c.tc : Thread Cert.KMlpIdeal.nD Cert.KMlpIdeal.τ).loc Cert.KMlpIdeal.main_arg15)) →
    ∃ (v0 : (c : Dev Cert.KMlpIdeal.nD) → Buf (Elt Ideal) ((c.tc : Thread Cert.KMlpIdeal.nD Cert.KMlpIdeal.τ).loc Cert.KMlpIdeal.main_v16_0)) (v1 : (c : Dev Cert.KMlpIdeal.nD) → Buf (Elt Ideal) ((c.tc : Thread Cert.KMlpIdeal.nD Cert.KMlpIdeal.τ).loc Cert.KMlpIdeal.main_v16_1)) (v2 : (c : Dev Cert.KMlpIdeal.nD) → Buf (Elt Ideal) ((c.tc : Thread Cert.KMlpIdeal.nD Cert.KMlpIdeal.τ).loc Cert.KMlpIdeal.main_v16_2)) (v3 : (c : Dev Cert.KMlpIdeal.nD) → Buf (Elt Ideal) ((c.tc : Thread Cert.KMlpIdeal.nD Cert.KMlpIdeal.τ).loc Cert.KMlpIdeal.main_v16_5)) (v4 : (c : Dev Cert.KMlpIdeal.nD) → Buf (Elt Ideal) ((c.tc : Thread Cert.KMlpIdeal.nD Cert.KMlpIdeal.τ).loc Cert.KMlpIdeal.main_v18_1)) (v5 : (c : Dev Cert.KMlpIdeal.nD) → Buf (Elt Ideal) ((c.tc : Thread Cert.KMlpIdeal.nD Cert.KMlpIdeal.τ).loc Cert.KMlpIdeal.main_v20_0)) (v6 : (c : Dev Cert.KMlpIdeal.nD) → Buf (Elt Ideal) ((c.tc : Thread Cert.KMlpIdeal.nD Cert.KMlpIdeal.τ).loc Cert.KMlpIdeal.main_v20_1)) (v7 : (c : Dev Cert.KMlpIdeal.nD) → Buf (Elt Ideal) ((c.tc : Thread Cert.KMlpIdeal.nD Cert.KMlpIdeal.τ).loc Cert.KMlpIdeal.main_v25_0)) (v8 : (c : Dev Cert.KMlpIdeal.nD) → Buf (Elt Ideal) ((c.tc : Thread Cert.KMlpIdeal.nD Cert.KMlpIdeal.τ).loc Cert.KMlpIdeal.main_v25_1)),
      θ_run (Cert.KMlpIdeal.defs (F := Ideal)) (onTc (τ := Cert.KMlpIdeal.τ) (Cert.KMlpIdeal.main (F := Ideal))) ⟨m, fun _ => 0, g⟩ (fun r => ∀ c : Dev Cert.KMlpIdeal.nD,
          r.2.mem ((c.tc : Thread Cert.KMlpIdeal.nD Cert.KMlpIdeal.τ).loc Cert.KMlpIdeal.main_v16_0) = v0 c
          ∧ r.2.mem ((c.tc : Thread Cert.KMlpIdeal.nD Cert.KMlpIdeal.τ).loc Cert.KMlpIdeal.main_v16_1) = v1 c
          ∧ r.2.mem ((c.tc : Thread Cert.KMlpIdeal.nD Cert.KMlpIdeal.τ).loc Cert.KMlpIdeal.main_v16_2) = v2 c
          ∧ r.2.mem ((c.tc : Thread Cert.KMlpIdeal.nD Cert.KMlpIdeal.τ).loc Cert.KMlpIdeal.main_v16_5) = v3 c
          ∧ r.2.mem ((c.tc : Thread Cert.KMlpIdeal.nD Cert.KMlpIdeal.τ).loc Cert.KMlpIdeal.main_v18_1) = v4 c
          ∧ r.2.mem ((c.tc : Thread Cert.KMlpIdeal.nD Cert.KMlpIdeal.τ).loc Cert.KMlpIdeal.main_v20_0) = v5 c
          ∧ r.2.mem ((c.tc : Thread Cert.KMlpIdeal.nD Cert.KMlpIdeal.τ).loc Cert.KMlpIdeal.main_v20_1) = v6 c
          ∧ r.2.mem ((c.tc : Thread Cert.KMlpIdeal.nD Cert.KMlpIdeal.τ).loc Cert.KMlpIdeal.main_v25_0) = v7 c
          ∧ r.2.mem ((c.tc : Thread Cert.KMlpIdeal.nD Cert.KMlpIdeal.τ).loc Cert.KMlpIdeal.main_v25_1) = v8 c
          ∧ r.2.mem ((c.tc : Thread Cert.KMlpIdeal.nD Cert.KMlpIdeal.τ).loc Cert.KMlpIdeal.main_arg0) = m ((c.tc : Thread Cert.KMlpIdeal.nD Cert.KMlpIdeal.τ).loc Cert.KMlpIdeal.main_arg0)
          ∧ r.2.mem ((c.tc : Thread Cert.KMlpIdeal.nD Cert.KMlpIdeal.τ).loc Cert.KMlpIdeal.main_arg1) = m ((c.tc : Thread Cert.KMlpIdeal.nD Cert.KMlpIdeal.τ).loc Cert.KMlpIdeal.main_arg1)
          ∧ r.2.mem ((c.tc : Thread Cert.KMlpIdeal.nD Cert.KMlpIdeal.τ).loc Cert.KMlpIdeal.main_arg2) = m ((c.tc : Thread Cert.KMlpIdeal.nD Cert.KMlpIdeal.τ).loc Cert.KMlpIdeal.main_arg2)
          ∧ r.2.mem ((c.tc : Thread Cert.KMlpIdeal.nD Cert.KMlpIdeal.τ).loc Cert.KMlpIdeal.main_arg3) = m ((c.tc : Thread Cert.KMlpIdeal.nD Cert.KMlpIdeal.τ).loc Cert.KMlpIdeal.main_arg3)
          ∧ r.2.mem ((c.tc : Thread Cert.KMlpIdeal.nD Cert.KMlpIdeal.τ).loc Cert.KMlpIdeal.main_arg4) = m ((c.tc : Thread Cert.KMlpIdeal.nD Cert.KMlpIdeal.τ).loc Cert.KMlpIdeal.main_arg4)
          ∧ r.2.mem ((c.tc : Thread Cert.KMlpIdeal.nD Cert.KMlpIdeal.τ).loc Cert.KMlpIdeal.main_arg5) = m ((c.tc : Thread Cert.KMlpIdeal.nD Cert.KMlpIdeal.τ).loc Cert.KMlpIdeal.main_arg5)
          ∧ r.2.mem ((c.tc : Thread Cert.KMlpIdeal.nD Cert.KMlpIdeal.τ).loc Cert.KMlpIdeal.main_arg6) = m ((c.tc : Thread Cert.KMlpIdeal.nD Cert.KMlpIdeal.τ).loc Cert.KMlpIdeal.main_arg6)
          ∧ r.2.mem ((c.tc : Thread Cert.KMlpIdeal.nD Cert.KMlpIdeal.τ).loc Cert.KMlpIdeal.main_arg7) = m ((c.tc : Thread Cert.KMlpIdeal.nD Cert.KMlpIdeal.τ).loc Cert.KMlpIdeal.main_arg7)
          ∧ r.2.mem ((c.tc : Thread Cert.KMlpIdeal.nD Cert.KMlpIdeal.τ).loc Cert.KMlpIdeal.main_arg8) = m ((c.tc : Thread Cert.KMlpIdeal.nD Cert.KMlpIdeal.τ).loc Cert.KMlpIdeal.main_arg8)
          ∧ r.2.mem ((c.tc : Thread Cert.KMlpIdeal.nD Cert.KMlpIdeal.τ).loc Cert.KMlpIdeal.main_arg9) = m ((c.tc : Thread Cert.KMlpIdeal.nD Cert.KMlpIdeal.τ).loc Cert.KMlpIdeal.main_arg9)
          ∧ r.2.mem ((c.tc : Thread Cert.KMlpIdeal.nD Cert.KMlpIdeal.τ).loc Cert.KMlpIdeal.main_arg10) = m ((c.tc : Thread Cert.KMlpIdeal.nD Cert.KMlpIdeal.τ).loc Cert.KMlpIdeal.main_arg10)
          ∧ r.2.mem ((c.tc : Thread Cert.KMlpIdeal.nD Cert.KMlpIdeal.τ).loc Cert.KMlpIdeal.main_arg11) = m ((c.tc : Thread Cert.KMlpIdeal.nD Cert.KMlpIdeal.τ).loc Cert.KMlpIdeal.main_arg11)
          ∧ r.2.mem ((c.tc : Thread Cert.KMlpIdeal.nD Cert.KMlpIdeal.τ).loc Cert.KMlpIdeal.main_arg12) = m ((c.tc : Thread Cert.KMlpIdeal.nD Cert.KMlpIdeal.τ).loc Cert.KMlpIdeal.main_arg12)
          ∧ r.2.mem ((c.tc : Thread Cert.KMlpIdeal.nD Cert.KMlpIdeal.τ).loc Cert.KMlpIdeal.main_arg13) = m ((c.tc : Thread Cert.KMlpIdeal.nD Cert.KMlpIdeal.τ).loc Cert.KMlpIdeal.main_arg13)
          ∧ r.2.mem ((c.tc : Thread Cert.KMlpIdeal.nD Cert.KMlpIdeal.τ).loc Cert.KMlpIdeal.main_arg14) = m ((c.tc : Thread Cert.KMlpIdeal.nD Cert.KMlpIdeal.τ).loc Cert.KMlpIdeal.main_arg14)
          ∧ r.2.mem ((c.tc : Thread Cert.KMlpIdeal.nD Cert.KMlpIdeal.τ).loc Cert.KMlpIdeal.main_arg15) = m ((c.tc : Thread Cert.KMlpIdeal.nD Cert.KMlpIdeal.τ).loc Cert.KMlpIdeal.main_arg15))
      ∧ θ_run (Cert.RMlpIdeal.defs (F := Ideal)) (onTc (τ := Cert.RMlpIdeal.τ) (Cert.RMlpIdeal.main (F := Ideal))) ⟨m', fun _ => 0, g'⟩ (fun r => ∀ c : Dev Cert.RMlpIdeal.nD,
          r.2.mem ((c.tc : Thread Cert.RMlpIdeal.nD Cert.RMlpIdeal.τ).loc Cert.RMlpIdeal.main_v198) = v0 c
          ∧ r.2.mem ((c.tc : Thread Cert.RMlpIdeal.nD Cert.RMlpIdeal.τ).loc Cert.RMlpIdeal.main_v199) = v1 c
          ∧ r.2.mem ((c.tc : Thread Cert.RMlpIdeal.nD Cert.RMlpIdeal.τ).loc Cert.RMlpIdeal.main_v200) = v2 c
          ∧ r.2.mem ((c.tc : Thread Cert.RMlpIdeal.nD Cert.RMlpIdeal.τ).loc Cert.RMlpIdeal.main_v201) = v3 c
          ∧ r.2.mem ((c.tc : Thread Cert.RMlpIdeal.nD Cert.RMlpIdeal.τ).loc Cert.RMlpIdeal.main_v202) = v4 c
          ∧ r.2.mem ((c.tc : Thread Cert.RMlpIdeal.nD Cert.RMlpIdeal.τ).loc Cert.RMlpIdeal.main_v203) = v5 c
          ∧ r.2.mem ((c.tc : Thread Cert.RMlpIdeal.nD Cert.RMlpIdeal.τ).loc Cert.RMlpIdeal.main_v188) = v6 c
          ∧ r.2.mem ((c.tc : Thread Cert.RMlpIdeal.nD Cert.RMlpIdeal.τ).loc Cert.RMlpIdeal.main_v204) = v7 c
          ∧ r.2.mem ((c.tc : Thread Cert.RMlpIdeal.nD Cert.RMlpIdeal.τ).loc Cert.RMlpIdeal.main_v197) = v8 c
          ∧ r.2.mem ((c.tc : Thread Cert.RMlpIdeal.nD Cert.RMlpIdeal.τ).loc Cert.RMlpIdeal.main_arg0) = m' ((c.tc : Thread Cert.RMlpIdeal.nD Cert.RMlpIdeal.τ).loc Cert.RMlpIdeal.main_arg0)
          ∧ r.2.mem ((c.tc : Thread Cert.RMlpIdeal.nD Cert.RMlpIdeal.τ).loc Cert.RMlpIdeal.main_arg1) = m' ((c.tc : Thread Cert.RMlpIdeal.nD Cert.RMlpIdeal.τ).loc Cert.RMlpIdeal.main_arg1)
          ∧ r.2.mem ((c.tc : Thread Cert.RMlpIdeal.nD Cert.RMlpIdeal.τ).loc Cert.RMlpIdeal.main_arg2) = m' ((c.tc : Thread Cert.RMlpIdeal.nD Cert.RMlpIdeal.τ).loc Cert.RMlpIdeal.main_arg2)
          ∧ r.2.mem ((c.tc : Thread Cert.RMlpIdeal.nD Cert.RMlpIdeal.τ).loc Cert.RMlpIdeal.main_arg3) = m' ((c.tc : Thread Cert.RMlpIdeal.nD Cert.RMlpIdeal.τ).loc Cert.RMlpIdeal.main_arg3)
          ∧ r.2.mem ((c.tc : Thread Cert.RMlpIdeal.nD Cert.RMlpIdeal.τ).loc Cert.RMlpIdeal.main_arg4) = m' ((c.tc : Thread Cert.RMlpIdeal.nD Cert.RMlpIdeal.τ).loc Cert.RMlpIdeal.main_arg4)
          ∧ r.2.mem ((c.tc : Thread Cert.RMlpIdeal.nD Cert.RMlpIdeal.τ).loc Cert.RMlpIdeal.main_arg5) = m' ((c.tc : Thread Cert.RMlpIdeal.nD Cert.RMlpIdeal.τ).loc Cert.RMlpIdeal.main_arg5)
          ∧ r.2.mem ((c.tc : Thread Cert.RMlpIdeal.nD Cert.RMlpIdeal.τ).loc Cert.RMlpIdeal.main_arg6) = m' ((c.tc : Thread Cert.RMlpIdeal.nD Cert.RMlpIdeal.τ).loc Cert.RMlpIdeal.main_arg6)
          ∧ r.2.mem ((c.tc : Thread Cert.RMlpIdeal.nD Cert.RMlpIdeal.τ).loc Cert.RMlpIdeal.main_arg7) = m' ((c.tc : Thread Cert.RMlpIdeal.nD Cert.RMlpIdeal.τ).loc Cert.RMlpIdeal.main_arg7)
          ∧ r.2.mem ((c.tc : Thread Cert.RMlpIdeal.nD Cert.RMlpIdeal.τ).loc Cert.RMlpIdeal.main_arg8) = m' ((c.tc : Thread Cert.RMlpIdeal.nD Cert.RMlpIdeal.τ).loc Cert.RMlpIdeal.main_arg8)
          ∧ r.2.mem ((c.tc : Thread Cert.RMlpIdeal.nD Cert.RMlpIdeal.τ).loc Cert.RMlpIdeal.main_arg9) = m' ((c.tc : Thread Cert.RMlpIdeal.nD Cert.RMlpIdeal.τ).loc Cert.RMlpIdeal.main_arg9)
          ∧ r.2.mem ((c.tc : Thread Cert.RMlpIdeal.nD Cert.RMlpIdeal.τ).loc Cert.RMlpIdeal.main_arg10) = m' ((c.tc : Thread Cert.RMlpIdeal.nD Cert.RMlpIdeal.τ).loc Cert.RMlpIdeal.main_arg10)
          ∧ r.2.mem ((c.tc : Thread Cert.RMlpIdeal.nD Cert.RMlpIdeal.τ).loc Cert.RMlpIdeal.main_arg11) = m' ((c.tc : Thread Cert.RMlpIdeal.nD Cert.RMlpIdeal.τ).loc Cert.RMlpIdeal.main_arg11)
          ∧ r.2.mem ((c.tc : Thread Cert.RMlpIdeal.nD Cert.RMlpIdeal.τ).loc Cert.RMlpIdeal.main_arg12) = m' ((c.tc : Thread Cert.RMlpIdeal.nD Cert.RMlpIdeal.τ).loc Cert.RMlpIdeal.main_arg12)
          ∧ r.2.mem ((c.tc : Thread Cert.RMlpIdeal.nD Cert.RMlpIdeal.τ).loc Cert.RMlpIdeal.main_arg13) = m' ((c.tc : Thread Cert.RMlpIdeal.nD Cert.RMlpIdeal.τ).loc Cert.RMlpIdeal.main_arg13)
          ∧ r.2.mem ((c.tc : Thread Cert.RMlpIdeal.nD Cert.RMlpIdeal.τ).loc Cert.RMlpIdeal.main_arg14) = m' ((c.tc : Thread Cert.RMlpIdeal.nD Cert.RMlpIdeal.τ).loc Cert.RMlpIdeal.main_arg14)
          ∧ r.2.mem ((c.tc : Thread Cert.RMlpIdeal.nD Cert.RMlpIdeal.τ).loc Cert.RMlpIdeal.main_arg15) = m' ((c.tc : Thread Cert.RMlpIdeal.nD Cert.RMlpIdeal.τ).loc Cert.RMlpIdeal.main_arg15))

def algebraic_KInprojIdeal_RInprojIdeal [hKInprojIdeal : Cert.KInprojIdeal.Facts] [hRInprojIdeal : Cert.RInprojIdeal.Facts] : Prop :=
  ∀ (m : (ℓ : Loc Cert.KInprojIdeal.nD Cert.KInprojIdeal.τ Cert.KInprojIdeal.sig) → Buf (Elt Ideal) ℓ) (g : Dev Cert.KInprojIdeal.nD → PrngReg)
    (m' : (ℓ : Loc Cert.RInprojIdeal.nD Cert.RInprojIdeal.τ Cert.RInprojIdeal.sig) → Buf (Elt Ideal) ℓ) (g' : Dev Cert.RInprojIdeal.nD → PrngReg), Pre_KInprojIdeal m →
    (∀ c : Dev Cert.KInprojIdeal.nD,
      m' ((c.tc : Thread Cert.RInprojIdeal.nD Cert.RInprojIdeal.τ).loc Cert.RInprojIdeal.main_arg0) = m ((c.tc : Thread Cert.KInprojIdeal.nD Cert.KInprojIdeal.τ).loc Cert.KInprojIdeal.main_arg0)
      ∧ m' ((c.tc : Thread Cert.RInprojIdeal.nD Cert.RInprojIdeal.τ).loc Cert.RInprojIdeal.main_arg1) = m ((c.tc : Thread Cert.KInprojIdeal.nD Cert.KInprojIdeal.τ).loc Cert.KInprojIdeal.main_arg1)
      ∧ m' ((c.tc : Thread Cert.RInprojIdeal.nD Cert.RInprojIdeal.τ).loc Cert.RInprojIdeal.main_arg2) = m ((c.tc : Thread Cert.KInprojIdeal.nD Cert.KInprojIdeal.τ).loc Cert.KInprojIdeal.main_arg2)
      ∧ m' ((c.tc : Thread Cert.RInprojIdeal.nD Cert.RInprojIdeal.τ).loc Cert.RInprojIdeal.main_arg3) = m ((c.tc : Thread Cert.KInprojIdeal.nD Cert.KInprojIdeal.τ).loc Cert.KInprojIdeal.main_arg3)) →
    ∃ (v0 : (c : Dev Cert.KInprojIdeal.nD) → Buf (Elt Ideal) ((c.tc : Thread Cert.KInprojIdeal.nD Cert.KInprojIdeal.τ).loc Cert.KInprojIdeal.main_v4)),
      θ_run (Cert.KInprojIdeal.defs (F := Ideal)) (onTc (τ := Cert.KInprojIdeal.τ) (Cert.KInprojIdeal.main (F := Ideal))) ⟨m, fun _ => 0, g⟩ (fun r => ∀ c : Dev Cert.KInprojIdeal.nD,
          r.2.mem ((c.tc : Thread Cert.KInprojIdeal.nD Cert.KInprojIdeal.τ).loc Cert.KInprojIdeal.main_v4) = v0 c
          ∧ r.2.mem ((c.tc : Thread Cert.KInprojIdeal.nD Cert.KInprojIdeal.τ).loc Cert.KInprojIdeal.main_arg0) = m ((c.tc : Thread Cert.KInprojIdeal.nD Cert.KInprojIdeal.τ).loc Cert.KInprojIdeal.main_arg0)
          ∧ r.2.mem ((c.tc : Thread Cert.KInprojIdeal.nD Cert.KInprojIdeal.τ).loc Cert.KInprojIdeal.main_arg1) = m ((c.tc : Thread Cert.KInprojIdeal.nD Cert.KInprojIdeal.τ).loc Cert.KInprojIdeal.main_arg1)
          ∧ r.2.mem ((c.tc : Thread Cert.KInprojIdeal.nD Cert.KInprojIdeal.τ).loc Cert.KInprojIdeal.main_arg2) = m ((c.tc : Thread Cert.KInprojIdeal.nD Cert.KInprojIdeal.τ).loc Cert.KInprojIdeal.main_arg2)
          ∧ r.2.mem ((c.tc : Thread Cert.KInprojIdeal.nD Cert.KInprojIdeal.τ).loc Cert.KInprojIdeal.main_arg3) = m ((c.tc : Thread Cert.KInprojIdeal.nD Cert.KInprojIdeal.τ).loc Cert.KInprojIdeal.main_arg3))
      ∧ θ_run (Cert.RInprojIdeal.defs (F := Ideal)) (onTc (τ := Cert.RInprojIdeal.τ) (Cert.RInprojIdeal.main (F := Ideal))) ⟨m', fun _ => 0, g'⟩ (fun r => ∀ c : Dev Cert.RInprojIdeal.nD,
          r.2.mem ((c.tc : Thread Cert.RInprojIdeal.nD Cert.RInprojIdeal.τ).loc Cert.RInprojIdeal.main_v6) = v0 c
          ∧ r.2.mem ((c.tc : Thread Cert.RInprojIdeal.nD Cert.RInprojIdeal.τ).loc Cert.RInprojIdeal.main_arg0) = m' ((c.tc : Thread Cert.RInprojIdeal.nD Cert.RInprojIdeal.τ).loc Cert.RInprojIdeal.main_arg0)
          ∧ r.2.mem ((c.tc : Thread Cert.RInprojIdeal.nD Cert.RInprojIdeal.τ).loc Cert.RInprojIdeal.main_arg1) = m' ((c.tc : Thread Cert.RInprojIdeal.nD Cert.RInprojIdeal.τ).loc Cert.RInprojIdeal.main_arg1)
          ∧ r.2.mem ((c.tc : Thread Cert.RInprojIdeal.nD Cert.RInprojIdeal.τ).loc Cert.RInprojIdeal.main_arg2) = m' ((c.tc : Thread Cert.RInprojIdeal.nD Cert.RInprojIdeal.τ).loc Cert.RInprojIdeal.main_arg2)
          ∧ r.2.mem ((c.tc : Thread Cert.RInprojIdeal.nD Cert.RInprojIdeal.τ).loc Cert.RInprojIdeal.main_arg3) = m' ((c.tc : Thread Cert.RInprojIdeal.nD Cert.RInprojIdeal.τ).loc Cert.RInprojIdeal.main_arg3))

def algebraic_KMixerIdeal_RMixerIdeal [hKMixerIdeal : Cert.KMixerIdeal.Facts] [hRMixerIdeal : Cert.RMixerIdeal.Facts] : Prop :=
  ∀ (m : (ℓ : Loc Cert.KMixerIdeal.nD Cert.KMixerIdeal.τ Cert.KMixerIdeal.sig) → Buf (Elt Ideal) ℓ) (g : Dev Cert.KMixerIdeal.nD → PrngReg)
    (m' : (ℓ : Loc Cert.RMixerIdeal.nD Cert.RMixerIdeal.τ Cert.RMixerIdeal.sig) → Buf (Elt Ideal) ℓ) (g' : Dev Cert.RMixerIdeal.nD → PrngReg), Pre_KMixerIdeal m →
    (∀ c : Dev Cert.KMixerIdeal.nD,
      m' ((c.tc : Thread Cert.RMixerIdeal.nD Cert.RMixerIdeal.τ).loc Cert.RMixerIdeal.main_arg0) = m ((c.tc : Thread Cert.KMixerIdeal.nD Cert.KMixerIdeal.τ).loc Cert.KMixerIdeal.main_arg0)
      ∧ m' ((c.tc : Thread Cert.RMixerIdeal.nD Cert.RMixerIdeal.τ).loc Cert.RMixerIdeal.main_arg1) = m ((c.tc : Thread Cert.KMixerIdeal.nD Cert.KMixerIdeal.τ).loc Cert.KMixerIdeal.main_arg1)
      ∧ m' ((c.tc : Thread Cert.RMixerIdeal.nD Cert.RMixerIdeal.τ).loc Cert.RMixerIdeal.main_arg2) = m ((c.tc : Thread Cert.KMixerIdeal.nD Cert.KMixerIdeal.τ).loc Cert.KMixerIdeal.main_arg2)
      ∧ m' ((c.tc : Thread Cert.RMixerIdeal.nD Cert.RMixerIdeal.τ).loc Cert.RMixerIdeal.main_arg3) = m ((c.tc : Thread Cert.KMixerIdeal.nD Cert.KMixerIdeal.τ).loc Cert.KMixerIdeal.main_arg3)
      ∧ m' ((c.tc : Thread Cert.RMixerIdeal.nD Cert.RMixerIdeal.τ).loc Cert.RMixerIdeal.main_arg4) = m ((c.tc : Thread Cert.KMixerIdeal.nD Cert.KMixerIdeal.τ).loc Cert.KMixerIdeal.main_arg4)
      ∧ m' ((c.tc : Thread Cert.RMixerIdeal.nD Cert.RMixerIdeal.τ).loc Cert.RMixerIdeal.main_arg5) = m ((c.tc : Thread Cert.KMixerIdeal.nD Cert.KMixerIdeal.τ).loc Cert.KMixerIdeal.main_arg5)) →
    ∃ (v0 : (c : Dev Cert.KMixerIdeal.nD) → Buf (Elt Ideal) ((c.tc : Thread Cert.KMixerIdeal.nD Cert.KMixerIdeal.τ).loc Cert.KMixerIdeal.main_v13_0)) (v1 : (c : Dev Cert.KMixerIdeal.nD) → Buf (Elt Ideal) ((c.tc : Thread Cert.KMixerIdeal.nD Cert.KMixerIdeal.τ).loc Cert.KMixerIdeal.main_v13_1)) (v2 : (c : Dev Cert.KMixerIdeal.nD) → Buf (Elt Ideal) ((c.tc : Thread Cert.KMixerIdeal.nD Cert.KMixerIdeal.τ).loc Cert.KMixerIdeal.main_v13_2)) (v3 : (c : Dev Cert.KMixerIdeal.nD) → Buf (Elt Ideal) ((c.tc : Thread Cert.KMixerIdeal.nD Cert.KMixerIdeal.τ).loc Cert.KMixerIdeal.main_v13_3)) (v4 : (c : Dev Cert.KMixerIdeal.nD) → Buf (Elt Ideal) ((c.tc : Thread Cert.KMixerIdeal.nD Cert.KMixerIdeal.τ).loc Cert.KMixerIdeal.main_v13_4)),
      θ_run (Cert.KMixerIdeal.defs (F := Ideal)) (onTc (τ := Cert.KMixerIdeal.τ) (Cert.KMixerIdeal.main (F := Ideal))) ⟨m, fun _ => 0, g⟩ (fun r => ∀ c : Dev Cert.KMixerIdeal.nD,
          r.2.mem ((c.tc : Thread Cert.KMixerIdeal.nD Cert.KMixerIdeal.τ).loc Cert.KMixerIdeal.main_v13_0) = v0 c
          ∧ r.2.mem ((c.tc : Thread Cert.KMixerIdeal.nD Cert.KMixerIdeal.τ).loc Cert.KMixerIdeal.main_v13_1) = v1 c
          ∧ r.2.mem ((c.tc : Thread Cert.KMixerIdeal.nD Cert.KMixerIdeal.τ).loc Cert.KMixerIdeal.main_v13_2) = v2 c
          ∧ r.2.mem ((c.tc : Thread Cert.KMixerIdeal.nD Cert.KMixerIdeal.τ).loc Cert.KMixerIdeal.main_v13_3) = v3 c
          ∧ r.2.mem ((c.tc : Thread Cert.KMixerIdeal.nD Cert.KMixerIdeal.τ).loc Cert.KMixerIdeal.main_v13_4) = v4 c
          ∧ r.2.mem ((c.tc : Thread Cert.KMixerIdeal.nD Cert.KMixerIdeal.τ).loc Cert.KMixerIdeal.main_arg0) = m ((c.tc : Thread Cert.KMixerIdeal.nD Cert.KMixerIdeal.τ).loc Cert.KMixerIdeal.main_arg0)
          ∧ r.2.mem ((c.tc : Thread Cert.KMixerIdeal.nD Cert.KMixerIdeal.τ).loc Cert.KMixerIdeal.main_arg1) = m ((c.tc : Thread Cert.KMixerIdeal.nD Cert.KMixerIdeal.τ).loc Cert.KMixerIdeal.main_arg1)
          ∧ r.2.mem ((c.tc : Thread Cert.KMixerIdeal.nD Cert.KMixerIdeal.τ).loc Cert.KMixerIdeal.main_arg2) = m ((c.tc : Thread Cert.KMixerIdeal.nD Cert.KMixerIdeal.τ).loc Cert.KMixerIdeal.main_arg2)
          ∧ r.2.mem ((c.tc : Thread Cert.KMixerIdeal.nD Cert.KMixerIdeal.τ).loc Cert.KMixerIdeal.main_arg3) = m ((c.tc : Thread Cert.KMixerIdeal.nD Cert.KMixerIdeal.τ).loc Cert.KMixerIdeal.main_arg3)
          ∧ r.2.mem ((c.tc : Thread Cert.KMixerIdeal.nD Cert.KMixerIdeal.τ).loc Cert.KMixerIdeal.main_arg4) = m ((c.tc : Thread Cert.KMixerIdeal.nD Cert.KMixerIdeal.τ).loc Cert.KMixerIdeal.main_arg4)
          ∧ r.2.mem ((c.tc : Thread Cert.KMixerIdeal.nD Cert.KMixerIdeal.τ).loc Cert.KMixerIdeal.main_arg5) = m ((c.tc : Thread Cert.KMixerIdeal.nD Cert.KMixerIdeal.τ).loc Cert.KMixerIdeal.main_arg5))
      ∧ θ_run (Cert.RMixerIdeal.defs (F := Ideal)) (onTc (τ := Cert.RMixerIdeal.τ) (Cert.RMixerIdeal.main (F := Ideal))) ⟨m', fun _ => 0, g'⟩ (fun r => ∀ c : Dev Cert.RMixerIdeal.nD,
          r.2.mem ((c.tc : Thread Cert.RMixerIdeal.nD Cert.RMixerIdeal.τ).loc Cert.RMixerIdeal.main_v63) = v0 c
          ∧ r.2.mem ((c.tc : Thread Cert.RMixerIdeal.nD Cert.RMixerIdeal.τ).loc Cert.RMixerIdeal.main_v20) = v1 c
          ∧ r.2.mem ((c.tc : Thread Cert.RMixerIdeal.nD Cert.RMixerIdeal.τ).loc Cert.RMixerIdeal.main_v61) = v2 c
          ∧ r.2.mem ((c.tc : Thread Cert.RMixerIdeal.nD Cert.RMixerIdeal.τ).loc Cert.RMixerIdeal.main_v57) = v3 c
          ∧ r.2.mem ((c.tc : Thread Cert.RMixerIdeal.nD Cert.RMixerIdeal.τ).loc Cert.RMixerIdeal.main_v71) = v4 c
          ∧ r.2.mem ((c.tc : Thread Cert.RMixerIdeal.nD Cert.RMixerIdeal.τ).loc Cert.RMixerIdeal.main_arg0) = m' ((c.tc : Thread Cert.RMixerIdeal.nD Cert.RMixerIdeal.τ).loc Cert.RMixerIdeal.main_arg0)
          ∧ r.2.mem ((c.tc : Thread Cert.RMixerIdeal.nD Cert.RMixerIdeal.τ).loc Cert.RMixerIdeal.main_arg1) = m' ((c.tc : Thread Cert.RMixerIdeal.nD Cert.RMixerIdeal.τ).loc Cert.RMixerIdeal.main_arg1)
          ∧ r.2.mem ((c.tc : Thread Cert.RMixerIdeal.nD Cert.RMixerIdeal.τ).loc Cert.RMixerIdeal.main_arg2) = m' ((c.tc : Thread Cert.RMixerIdeal.nD Cert.RMixerIdeal.τ).loc Cert.RMixerIdeal.main_arg2)
          ∧ r.2.mem ((c.tc : Thread Cert.RMixerIdeal.nD Cert.RMixerIdeal.τ).loc Cert.RMixerIdeal.main_arg3) = m' ((c.tc : Thread Cert.RMixerIdeal.nD Cert.RMixerIdeal.τ).loc Cert.RMixerIdeal.main_arg3)
          ∧ r.2.mem ((c.tc : Thread Cert.RMixerIdeal.nD Cert.RMixerIdeal.τ).loc Cert.RMixerIdeal.main_arg4) = m' ((c.tc : Thread Cert.RMixerIdeal.nD Cert.RMixerIdeal.τ).loc Cert.RMixerIdeal.main_arg4)
          ∧ r.2.mem ((c.tc : Thread Cert.RMixerIdeal.nD Cert.RMixerIdeal.τ).loc Cert.RMixerIdeal.main_arg5) = m' ((c.tc : Thread Cert.RMixerIdeal.nD Cert.RMixerIdeal.τ).loc Cert.RMixerIdeal.main_arg5))

def Claim : Prop :=
  ∃ (hKDown : Cert.KDown.Facts) (hKDownIdeal : Cert.KDownIdeal.Facts) (hRDownIdeal : Cert.RDownIdeal.Facts) (hKConv : Cert.KConv.Facts) (hKConvIdeal : Cert.KConvIdeal.Facts) (hRConvIdeal : Cert.RConvIdeal.Facts) (hKMerge : Cert.KMerge.Facts) (hKMergeIdeal : Cert.KMergeIdeal.Facts) (hRMergeIdeal : Cert.RMergeIdeal.Facts) (hKMlp : Cert.KMlp.Facts) (hKMlpIdeal : Cert.KMlpIdeal.Facts) (hRMlpIdeal : Cert.RMlpIdeal.Facts) (hKInproj : Cert.KInproj.Facts) (hKInprojIdeal : Cert.KInprojIdeal.Facts) (hRInprojIdeal : Cert.RInprojIdeal.Facts) (hKMixer : Cert.KMixer.Facts) (hKMixerIdeal : Cert.KMixerIdeal.Facts) (hRMixerIdeal : Cert.RMixerIdeal.Facts) (hPre_finite_merge : Cert.Pre_finite_merge.Facts) (hPre_finite_mlp : Cert.Pre_finite_mlp.Facts),
    quiescent_KDown (hKDown := hKDown)
    ∧ quiescent_KDownIdeal (hKDownIdeal := hKDownIdeal)
    ∧ quiescent_RDownIdeal (hRDownIdeal := hRDownIdeal)
    ∧ quiescent_KConv (hKConv := hKConv)
    ∧ quiescent_KConvIdeal (hKConvIdeal := hKConvIdeal)
    ∧ quiescent_RConvIdeal (hRConvIdeal := hRConvIdeal)
    ∧ quiescent_KMerge (hKMerge := hKMerge)
    ∧ quiescent_KMergeIdeal (hKMergeIdeal := hKMergeIdeal)
    ∧ quiescent_KMergeIdeal_pre_finite_merge (hKMergeIdeal := hKMergeIdeal) (hPre_finite_merge := hPre_finite_merge)
    ∧ quiescent_RMergeIdeal (hRMergeIdeal := hRMergeIdeal)
    ∧ quiescent_RMergeIdeal_pre_finite_merge (hRMergeIdeal := hRMergeIdeal) (hPre_finite_merge := hPre_finite_merge)
    ∧ quiescent_KMlp (hKMlp := hKMlp)
    ∧ quiescent_KMlpIdeal (hKMlpIdeal := hKMlpIdeal)
    ∧ quiescent_KMlpIdeal_pre_finite_mlp (hKMlpIdeal := hKMlpIdeal) (hPre_finite_mlp := hPre_finite_mlp)
    ∧ quiescent_RMlpIdeal (hRMlpIdeal := hRMlpIdeal)
    ∧ quiescent_RMlpIdeal_pre_finite_mlp (hRMlpIdeal := hRMlpIdeal) (hPre_finite_mlp := hPre_finite_mlp)
    ∧ quiescent_KInproj (hKInproj := hKInproj)
    ∧ quiescent_KInprojIdeal (hKInprojIdeal := hKInprojIdeal)
    ∧ quiescent_RInprojIdeal (hRInprojIdeal := hRInprojIdeal)
    ∧ quiescent_KMixer (hKMixer := hKMixer)
    ∧ quiescent_KMixerIdeal (hKMixerIdeal := hKMixerIdeal)
    ∧ quiescent_RMixerIdeal (hRMixerIdeal := hRMixerIdeal)
    ∧ preserves_KDown_KDownIdeal
    ∧ preserves_KConv_KConvIdeal
    ∧ preserves_KMerge_KMergeIdeal
    ∧ preserves_KMlp_KMlpIdeal
    ∧ preserves_KInproj_KInprojIdeal
    ∧ preserves_KMixer_KMixerIdeal
    ∧ algebraic_KDownIdeal_RDownIdeal (hKDownIdeal := hKDownIdeal) (hRDownIdeal := hRDownIdeal)
    ∧ algebraic_KConvIdeal_RConvIdeal (hKConvIdeal := hKConvIdeal) (hRConvIdeal := hRConvIdeal)
    ∧ algebraic_KMergeIdeal_RMergeIdeal_pre_finite_merge (hKMergeIdeal := hKMergeIdeal) (hRMergeIdeal := hRMergeIdeal) (hPre_finite_merge := hPre_finite_merge)
    ∧ algebraic_KMlpIdeal_RMlpIdeal_pre_finite_mlp (hKMlpIdeal := hKMlpIdeal) (hRMlpIdeal := hRMlpIdeal) (hPre_finite_mlp := hPre_finite_mlp)
    ∧ algebraic_KInprojIdeal_RInprojIdeal (hKInprojIdeal := hKInprojIdeal) (hRInprojIdeal := hRInprojIdeal)
    ∧ algebraic_KMixerIdeal_RMixerIdeal (hKMixerIdeal := hKMixerIdeal) (hRMixerIdeal := hRMixerIdeal)
-- ==== Pre_finite_merge.lean ====
abbrev S8192x7168 : Shape := ⟨2, ![8192, 7168]⟩
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn_part1 {F : FTy → Type} [FloatOps F] (main_arg9 : FVec F S8192x1024 .f32) (main_v2 : IVec S8192x1024 1) (main_v5 : IVec S1024x1024 1) (main_v8 : IVec S1024x1024 1) (main_v11 : IVec S1024 1) (main_v14 : IVec S1024 1) (main_v17 : IVec S1024 1) : IVec S8192x1024 1 × IVec S1024x1024 1 × IVec S1024x1024 1 × IVec S1024 1 × IVec S1024 1 × IVec S1024 1 × IVec S8192x1024 1 :=
  let main_v18 : FVec F S8192x1024 .f32 := Host.absf main_arg9
  let main_cst_5 : FVec F S_ .f32 := constant S_ .f32 0x7F800000#32
  let main_v19 : FVec F S8192x1024 .f32 := broadcastInDim S8192x1024 ![] bcast_S_S8192x1024 main_cst_5
  let main_v20 : IVec S8192x1024 1 := cmpf .olt main_v18 main_v19
  (main_v2, main_v5, main_v8, main_v11, main_v14, main_v17, main_v20)

def fn {F : FTy → Type} [FloatOps F] (main_arg0 : FVec F S8192x7168 .f32) (main_arg1 : FVec F S8192x1024 .f32) (main_arg2 : FVec F S8192x1024 .f32) (main_arg3 : FVec F S1024x1024 .f32) (main_arg4 : FVec F S1024x1024 .f32) (main_arg5 : FVec F S1024x1024 .f32) (main_arg6 : FVec F S1024 .f32) (main_arg7 : FVec F S1024 .f32) (main_arg8 : FVec F S1024 .f32) (main_arg9 : FVec F S8192x1024 .f32) : IVec S8192x1024 1 × IVec S1024x1024 1 × IVec S1024x1024 1 × IVec S1024 1 × IVec S1024 1 × IVec S1024 1 × IVec S8192x1024 1 :=
  let main_v0 : FVec F S8192x1024 .f32 := Host.absf main_arg2
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024x1024 .f32 := Host.absf main_arg4
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1024x1024 .f32 := Host.absf main_arg5
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S1024 .f32 := Host.absf main_arg6
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024 .f32 := Host.absf main_arg7
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024 .f32 := Host.absf main_arg8
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg9 main_v2 main_v5 main_v8 main_v11 main_v14 main_v17
-- ==== Pre_finite_mlp.lean ====
abbrev S8192x1024 : Shape := ⟨2, ![8192, 1024]⟩
abbrev S8192x7168 : Shape := ⟨2, ![8192, 7168]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩

class Facts : Prop where
  bcast_S_S8192x1024 : S_.BroadcastsInDim S8192x1024 (![] : Fin 0 → Fin S8192x1024.rank)
  bcast_S_S1024x1024 : S_.BroadcastsInDim S1024x1024 (![] : Fin 0 → Fin S1024x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S4096x1024 : S_.BroadcastsInDim S4096x1024 (![] : Fin 0 → Fin S4096x1024.rank)
  bcast_S_S8192x4096 : S_.BroadcastsInDim S8192x4096 (![] : Fin 0 → Fin S8192x4096.rank)

variable [Facts]

def fn_part2 {F : FTy → Type} [FloatOps F] (main_arg13 : FVec F S8192x1024 .f32) (main_arg14 : FVec F S8192x4096 .f32) (main_arg15 : FVec F S8192x1024 .f32) (main_v2 : IVec S8192x1024 1) (main_v5 : IVec S8192x1024 1) (main_v8 : IVec S8192x1024 1) (main_v11 : IVec S1024x1024 1) (main_v14 : IVec S1024x1024 1) (main_v17 : IVec S1024x1024 1) (main_v20 : IVec S1024 1) (main_v23 : IVec S1024 1) (main_v26 : IVec S1024x4096 1) (main_v29 : IVec S4096x1024 1) (main_v32 : IVec S1024 1) (main_v35 : IVec S1024 1) : IVec S8192x1024 1 × IVec S8192x1024 1 × IVec S8192x1024 1 × IVec S1024x1024 1 × IVec S1024x1024 1 × IVec S1024x1024 1 × IVec S1024 1 × IVec S1024 1 × IVec S1024x4096 1 × IVec S4096x1024 1 × IVec S1024 1 × IVec S1024 1 × IVec S8192x1024 1 × IVec S8192x4096 1 × IVec S8192x1024 1 :=
  let main_v36 : FVec F S8192x1024 .f32 := Host.absf main_arg13
  let main_cst_11 : FVec F S_ .f32 := constant S_ .f32 0x7F800000#32
  let main_v37 : FVec F S8192x1024 .f32 := broadcastInDim S8192x1024 ![] bcast_S_S8192x1024 main_cst_11
  let main_v38 : IVec S8192x1024 1 := cmpf .olt main_v36 main_v37
  let main_v39 : FVec F S8192x4096 .f32 := Host.absf main_arg14
  let main_cst_12 : FVec F S_ .f32 := constant S_ .f32 0x7F800000#32
  let main_v40 : FVec F S8192x4096 .f32 := broadcastInDim S8192x4096 ![] bcast_S_S8192x4096 main_cst_12
  let main_v41 : IVec S8192x4096 1 := cmpf .olt main_v39 main_v40
  let main_v42 : FVec F S8192x1024 .f32 := Host.absf main_arg15
  let main_cst_13 : FVec F S_ .f32 := constant S_ .f32 0x7F800000#32
  let main_v43 : FVec F S8192x1024 .f32 := broadcastInDim S8192x1024 ![] bcast_S_S8192x1024 main_cst_13
  let main_v44 : IVec S8192x1024 1 := cmpf .olt main_v42 main_v43
  (main_v2, main_v5, main_v8, main_v11, main_v14, main_v17, main_v20, main_v23, main_v26, main_v29, main_v32, main_v35, main_v38, main_v41, main_v44)

def fn_part1 {F : FTy → Type} [FloatOps F] (main_arg7 : FVec F S1024 .f32) (main_arg8 : FVec F S1024 .f32) (main_arg9 : FVec F S1024x4096 .f32) (main_arg10 : FVec F S4096x1024 .f32) (main_arg11 : FVec F S1024 .f32) (main_arg12 : FVec F S1024 .f32) (main_arg13 : FVec F S8192x1024 .f32) (main_arg14 : FVec F S8192x4096 .f32) (main_arg15 : FVec F S8192x1024 .f32) (main_v2 : IVec S8192x1024 1) (main_v5 : IVec S8192x1024 1) (main_v8 : IVec S8192x1024 1) (main_v11 : IVec S1024x1024 1) (main_v14 : IVec S1024x1024 1) (main_v17 : IVec S1024x1024 1) : IVec S8192x1024 1 × IVec S8192x1024 1 × IVec S8192x1024 1 × IVec S1024x1024 1 × IVec S1024x1024 1 × IVec S1024x1024 1 × IVec S1024 1 × IVec S1024 1 × IVec S1024x4096 1 × IVec S4096x1024 1 × IVec S1024 1 × IVec S1024 1 × IVec S8192x1024 1 × IVec S8192x4096 1 × IVec S8192x1024 1 :=
  let main_v18 : FVec F S1024 .f32 := Host.absf main_arg7
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  let main_v21 : FVec F S1024 .f32 := Host.absf main_arg8
  let main_cst_6 : FVec F S_ .f32 := constant S_ .f32 0x7F800000#32
  let main_v22 : FVec F S1024 .f32 := broadcastInDim S1024 ![] bcast_S_S1024 main_cst_6
  let main_v23 : IVec S1024 1 := cmpf .olt main_v21 main_v22
  let main_v24 : FVec F S1024x4096 .f32 := Host.absf main_arg9
  let main_cst_7 : FVec F S_ .f32 := constant S_ .f32 0x7F800000#32
  let main_v25 : FVec F S1024x4096 .f32 := broadcastInDim S1024x4096 ![] bcast_S_S1024x4096 main_cst_7
  let main_v26 : IVec S1024x4096 1 := cmpf .olt main_v24 main_v25
  let main_v27 : FVec F S4096x1024 .f32 := Host.absf main_arg10
  let main_cst_8 : FVec F S_ .f32 := constant S_ .f32 0x7F800000#32
  let main_v28 : FVec F S4096x1024 .f32 := broadcastInDim S4096x1024 ![] bcast_S_S4096x1024 main_cst_8
  let main_v29 : IVec S4096x1024 1 := cmpf .olt main_v27 main_v28
  let main_v30 : FVec F S1024 .f32 := Host.absf main_arg11
  let main_cst_9 : FVec F S_ .f32 := constant S_ .f32 0x7F800000#32
  let main_v31 : FVec F S1024 .f32 := broadcastInDim S1024 ![] bcast_S_S1024 main_cst_9
  let main_v32 : IVec S1024 1 := cmpf .olt main_v30 main_v31
  let main_v33 : FVec F S1024 .f32 := Host.absf main_arg12
  let main_cst_10 : FVec F S_ .f32 := constant S_ .f32 0x7F800000#32
  let main_v34 : FVec F S1024 .f32 := broadcastInDim S1024 ![] bcast_S_S1024 main_cst_10
  let main_v35 : IVec S1024 1 := cmpf .olt main_v33 main_v34
  fn_part2 (F := F) main_arg13 main_arg14 main_arg15 main_v2 main_v5 main_v8 main_v11 main_v14 main_v17 main_v20 main_v23 main_v26 main_v29 main_v32 main_v35

def fn {F : FTy → Type} [FloatOps F] (main_arg0 : FVec F S8192x1024 .f32) (main_arg1 : FVec F S8192x1024 .f32) (main_arg2 : FVec F S8192x7168 .f32) (main_arg3 : FVec F S8192x1024 .f32) (main_arg4 : FVec F S1024x1024 .f32) (main_arg5 : FVec F S1024x1024 .f32) (main_arg6 : FVec F S1024x1024 .f32) (main_arg7 : FVec F S1024 .f32) (main_arg8 : FVec F S1024 .f32) (main_arg9 : FVec F S1024x4096 .f32) (main_arg10 : FVec F S4096x1024 .f32) (main_arg11 : FVec F S1024 .f32) (main_arg12 : FVec F S1024 .f32) (main_arg13 : FVec F S8192x1024 .f32) (main_arg14 : FVec F S8192x4096 .f32) (main_arg15 : FVec F S8192x1024 .f32) : IVec S8192x1024 1 × IVec S8192x1024 1 × IVec S8192x1024 1 × IVec S1024x1024 1 × IVec S1024x1024 1 × IVec S1024x1024 1 × IVec S1024 1 × IVec S1024 1 × IVec S1024x4096 1 × IVec S4096x1024 1 × IVec S1024 1 × IVec S1024 1 × IVec S8192x1024 1 × IVec S8192x4096 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x1024 .f32 := Host.absf main_arg3
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S1024x1024 .f32 := Host.absf main_arg4
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S1024x1024 .f32 := Host.absf main_arg5
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S1024x1024 .f32 := Host.absf main_arg6
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  fn_part1 (F := F) main_arg7 main_arg8 main_arg9 main_arg10 main_arg11 main_arg12 main_arg13 main_arg14 main_arg15 main_v2 main_v5 main_v8 main_v11 main_v14 main_v17
-- ==== KDown.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S1024x1024 : Shape := ⟨2, ![1024, 1024]⟩
abbrev S1024x2048 : Shape := ⟨2, ![1024, 2048]⟩
abbrev S2048x1024 : Shape := ⟨2, ![2048, 1024]⟩

abbrev nBuf : Space → Nat
  | .hbm => 11
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S8192x1024, .f32⟩
  | .hbm, ⟨4, _⟩ => ⟨S8192x1024, .bf16⟩
  | .hbm, ⟨5, _⟩ => ⟨S1024x4096, .bf16⟩
  | .hbm, ⟨6, _⟩ => ⟨S8192x4096, .bf16⟩
  | .hbm, ⟨7, _⟩ => ⟨S8192x4096, .bf16⟩
  | .hbm, ⟨8, _⟩ => ⟨S8192x1024, .bf16⟩
  | .hbm, ⟨9, _⟩ => ⟨S4096x1024, .bf16⟩
  | .hbm, ⟨10, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x1024, .bf16⟩
  | .local _ .vmem, ⟨9, _⟩ => ⟨S1024x1024, .bf16⟩
  | .local _ .vmem, ⟨10, _⟩ => ⟨S2048x1024, .bf16⟩
  | .local _ .vmem, ⟨11, _⟩ => ⟨S2048x1024, .bf16⟩
  | .local _ .vmem, ⟨12, _⟩ => ⟨S1024x2048, .bf16⟩
  | .local _ .vmem, ⟨13, _⟩ => ⟨S1024x2048, .bf16⟩
  | .local _ .vmem, ⟨14, _⟩ => ⟨S1024x2048, .bf16⟩
  | .local _ .vmem, ⟨15, _⟩ => ⟨S1024x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== RDownIdeal.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S8192x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .i1⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== KConv.lean ====
abbrev S8192x7168 : Shape := ⟨2, ![8192, 7168]⟩
abbrev S3x1024 : Shape := ⟨2, ![3, 1024]⟩
abbrev S31x1024 : Shape := ⟨2, ![31, 1024]⟩
abbrev S8192x1024 : Shape := ⟨2, ![8192, 1024]⟩
abbrev S8192x2048 : Shape := ⟨2, ![8192, 2048]⟩
abbrev S_ : Shape := ⟨0, ![]⟩
abbrev S8x1024 : Shape := ⟨2, ![8, 1024]⟩
abbrev S32x1024 : Shape := ⟨2, ![32, 1024]⟩
abbrev S40x1024 : Shape := ⟨2, ![40, 1024]⟩
abbrev S256x1024 : Shape := ⟨2, ![256, 1024]⟩
abbrev S256x2048 : Shape := ⟨2, ![256, 2048]⟩
abbrev S256x7168 : Shape := ⟨2, ![256, 7168]⟩
abbrev S264x1024 : Shape := ⟨2, ![264, 1024]⟩
abbrev S288x1024 : Shape := ⟨2, ![288, 1024]⟩
abbrev S24x1024 : Shape := ⟨2, ![24, 1024]⟩
abbrev S248x1024 : Shape := ⟨2, ![248, 1024]⟩
abbrev S8x288x128 : Shape := ⟨3, ![8, 288, 128]⟩
abbrev S280x128 : Shape := ⟨2, ![280, 128]⟩
abbrev S1x280x128 : Shape := ⟨3, ![1, 280, 128]⟩
abbrev S64x128 : Shape := ⟨2, ![64, 128]⟩
abbrev S1x128 : Shape := ⟨2, ![1, 128]⟩
abbrev S8x128 : Shape := ⟨2, ![8, 128]⟩
abbrev S1x64x128 : Shape := ⟨3, ![1, 64, 128]⟩
abbrev S1024 : Shape := ⟨1, ![1024]⟩
abbrev S1x1024 : Shape := ⟨2, ![1, 1024]⟩

abbrev nBuf : Space → Nat
  | .hbm => 18
  | .vmem => 34
  | .smem => 0
  | _ => 0

abbrev bufTy : (tb : Table) → Fin (tcTables nBuf tb) → BufTy
  | .hbm, ⟨0, _⟩ => ⟨S8192x7168, .f32⟩
  | .hbm, ⟨1, _⟩ => ⟨S3x1024, .f32⟩
  | .hbm, ⟨2, _⟩ => ⟨S31x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x2048, .f32⟩
  | .hbm, ⟨7, _⟩ => ⟨S8192x7168, .bf16⟩
  | .hbm, ⟨8, _⟩ => ⟨S8192x1024, .bf16⟩
  | .hbm, ⟨9, _⟩ => ⟨S8192x2048, .bf16⟩
  | .hbm, ⟨10, _⟩ => ⟨S_, .i32⟩
  | .hbm, ⟨11, _⟩ => ⟨S_, .f32⟩
  | .hbm, ⟨12, _⟩ => ⟨S8x1024, .f32⟩
  | .hbm, ⟨13, _⟩ => ⟨S_, .i32⟩
  | .hbm, ⟨14, _⟩ => ⟨S_, .f32⟩
  | .hbm, ⟨15, _⟩ => ⟨S32x1024, .f32⟩
  | .hbm, ⟨16, _⟩ => ⟨S8192x7168, .bf16⟩
  | .hbm, ⟨17, _⟩ => ⟨S40x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S256x1024, .f32⟩
  | .local _ .vmem, ⟨5, _⟩ => ⟨S256x1024, .f32⟩
  | .local _ .vmem, ⟨6, _⟩ => ⟨S32x1024, .f32⟩
  | .local _ .vmem, ⟨7, _⟩ => ⟨S32x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x2048, .bf16⟩
  | .local _ .vmem, ⟨19, _⟩ => ⟨S256x2048, .bf16⟩
  | .local _ .vmem, ⟨20, _⟩ => ⟨S8x1024, .f32⟩
  | .local _ .vmem, ⟨21, _⟩ => ⟨S32x1024, .f32⟩
  | .local _ .vmem, ⟨22, _⟩ => ⟨S256x7168, .bf16⟩
  | .local _ .vmem, ⟨23, _⟩ => ⟨S256x7168, .bf16⟩
  | .local _ .vmem, ⟨24, _⟩ => ⟨S40x1024, .f32⟩
  | .local _ .vmem, ⟨25, _⟩ => ⟨S256x1024, .f32⟩
  | .local _ .vmem, ⟨26, _⟩ => ⟨S256x1024, .f32⟩
  | .local _ .vmem, ⟨27, _⟩ => ⟨S264x1024, .f32⟩
  | .local _ .vmem, ⟨28, _⟩ => ⟨S288x1024, .f32⟩
  | .local _ .vmem, ⟨29, _⟩ => ⟨S256x1024, .f32⟩
  | .local _ .vmem, ⟨30, _⟩ => ⟨S256x1024, .f32⟩
  | .local _ .vmem, ⟨31, _⟩ => ⟨S24x1024, .f32⟩
  | .local _ .vmem, ⟨32, _⟩ => ⟨S248x1024, .f32⟩
  | .local _ .vmem, ⟨33, _⟩ => ⟨S8x288x128, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_scratch7 : Ref sig .tc := ⟨.vmem, 32, rfl⟩
abbrev cc0_scratch8 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_31 : BitVec 32 := 0#32
  let c8_i32 : BitVec 32 := 8#32
  let v51 : BitVec 32 := Scalar.addi c0_i32_31 c8_i32
  let c1_i32 : BitVec 32 := 1#32
  ⟨c0_i32_31, v51, c1_i32⟩
def k0_mult1 (k0_t1 : Fin k0_t1_loop.trips) : BitVec 32 :=
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  v78
def k0_off1 (k0_t1 : Fin k0_t1_loop.trips) : Fin 2 → Nat :=
  let c1 : Index := 1#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v80 : Index := Scalar.indexCast v79
  ![1, v80.toNat]
def k0_off2 (k0_t1 : Fin k0_t1_loop.trips) : Fin 2 → Nat :=
  let c2 : Index := 2#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v85 : Index := Scalar.indexCast v79
  ![2, v85.toNat]
def k0_off3 (k0_t1 : Fin k0_t1_loop.trips) : Fin 2 → Nat :=
  let c3 : Index := 3#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v90 : Index := Scalar.indexCast v79
  ![3, v90.toNat]
def k0_off4 (k0_t1 : Fin k0_t1_loop.trips) : Fin 2 → Nat :=
  let c4 : Index := 4#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v95 : Index := Scalar.indexCast v79
  ![4, v95.toNat]
def k0_off5 (k0_t1 : Fin k0_t1_loop.trips) : Fin 2 → Nat :=
  let c5 : Index := 5#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v100 : Index := Scalar.indexCast v79
  ![5, v100.toNat]
def k0_off6 (k0_t1 : Fin k0_t1_loop.trips) : Fin 2 → Nat :=
  let c6 : Index := 6#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v105 : Index := Scalar.indexCast v79
  ![6, v105.toNat]
def k0_off7 (k0_t1 : Fin k0_t1_loop.trips) : Fin 2 → Nat :=
  let c7 : Index := 7#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v110 : Index := Scalar.indexCast v79
  ![7, v110.toNat]
def k0_off8 (k0_t1 : Fin k0_t1_loop.trips) : Fin 2 → Nat :=
  let c0_71 : Index := 0#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v115 : Index := Scalar.indexCast v79
  ![0, v115.toNat]
def k0_off9 (k0_t1 : Fin k0_t1_loop.trips) : Fin 2 → Nat :=
  let c2_73 : Index := 2#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v118 : Index := Scalar.indexCast v79
  ![2, v118.toNat]
def k0_off10 (k0_t1 : Fin k0_t1_loop.trips) : Fin 2 → Nat :=
  let c0_74 : Index := 0#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v120 : Index := Scalar.indexCast v79
  ![0, v120.toNat]
def k0_off11 (k0_t1 : Fin k0_t1_loop.trips) : Fin 2 → Nat :=
  let c0_75 : Index := 0#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v126 : Index := Scalar.indexCast v79
  ![0, v126.toNat]
def k0_off12 (k0_t1 : Fin k0_t1_loop.trips) : Fin 2 → Nat :=
  let c1_77 : Index := 1#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v149 : Index := Scalar.indexCast v79
  ![1, v149.toNat]
def k0_off13 (k0_t1 : Fin k0_t1_loop.trips) : Fin 2 → Nat :=
  let c1_78 : Index := 1#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v151 : Index := Scalar.indexCast v79
  ![1, v151.toNat]
def k0_off14 (k0_t1 : Fin k0_t1_loop.trips) : Fin 2 → Nat :=
  let c8 : Index := 8#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v157 : Index := Scalar.indexCast v79
  ![8, v157.toNat]
def k0_off15 (k0_t1 : Fin k0_t1_loop.trips) : Fin 2 → Nat :=
  let c0_80 : Index := 0#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v180 : Index := Scalar.indexCast v79
  ![0, v180.toNat]
def k0_off16 (k0_t1 : Fin k0_t1_loop.trips) : Fin 2 → Nat :=
  let c2_81 : Index := 2#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v182 : Index := Scalar.indexCast v79
  ![2, v182.toNat]
def k0_off17 (k0_t1 : Fin k0_t1_loop.trips) : Fin 2 → Nat :=
  let c16 : Index := 16#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v188 : Index := Scalar.indexCast v79
  ![16, v188.toNat]
def k0_off18 (k0_t1 : Fin k0_t1_loop.trips) : Fin 2 → Nat :=
  let c0_88 : Index := 0#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v220 : Index := Scalar.indexCast v79
  ![0, v220.toNat]
def k0_off19 (k0_t1 : Fin k0_t1_loop.trips) : Fin 2 → Nat :=
  let c0_89 : Index := 0#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v226 : Index := Scalar.indexCast v79
  ![0, v226.toNat]
def k0_off20 (k0_t1 : Fin k0_t1_loop.trips) : Fin 2 → Nat :=
  let c1_94 : Index := 1#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v251 : Index := Scalar.indexCast v79
  ![1, v251.toNat]
def k0_off21 (k0_t1 : Fin k0_t1_loop.trips) : Fin 2 → Nat :=
  let c8_95 : Index := 8#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v257 : Index := Scalar.indexCast v79
  ![8, v257.toNat]
def k0_off22 (k0_t1 : Fin k0_t1_loop.trips) : Fin 2 → Nat :=
  let c2_100 : Index := 2#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v282 : Index := Scalar.indexCast v79
  ![2, v282.toNat]
def k0_off23 (k0_t1 : Fin k0_t1_loop.trips) : Fin 2 → Nat :=
  let c16_101 : Index := 16#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v288 : Index := Scalar.indexCast v79
  ![16, v288.toNat]
def k0_off24 (k0_t1 : Fin k0_t1_loop.trips) : Fin 2 → Nat :=
  let c3_106 : Index := 3#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v313 : Index := Scalar.indexCast v79
  ![3, v313.toNat]
def k0_off25 (k0_t1 : Fin k0_t1_loop.trips) : Fin 2 → Nat :=
  let c24_107 : Index := 24#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v319 : Index := Scalar.indexCast v79
  ![24, v319.toNat]
def k0_off26 (k0_t1 : Fin k0_t1_loop.trips) : Fin 2 → Nat :=
  let c4_112 : Index := 4#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v344 : Index := Scalar.indexCast v79
  ![4, v344.toNat]
def k0_off27 (k0_t1 : Fin k0_t1_loop.trips) : Fin 2 → Nat :=
  let c32 : Index := 32#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v350 : Index := Scalar.indexCast v79
  ![32, v350.toNat]
def k0_off28 (k0_t1 : Fin k0_t1_loop.trips) : Fin 2 → Nat :=
  let c5_117 : Index := 5#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v375 : Index := Scalar.indexCast v79
  ![5, v375.toNat]
def k0_off29 (k0_t1 : Fin k0_t1_loop.trips) : Fin 2 → Nat :=
  let c40 : Index := 40#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v381 : Index := Scalar.indexCast v79
  ![40, v381.toNat]
def k0_off30 (k0_t1 : Fin k0_t1_loop.trips) : Fin 2 → Nat :=
  let c24_119 : Index := 24#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v404 : Index := Scalar.indexCast v79
  ![24, v404.toNat]
def k0_off31 (k0_t1 : Fin k0_t1_loop.trips) : Fin 2 → Nat :=
  let c6_120 : Index := 6#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v406 : Index := Scalar.indexCast v79
  ![6, v406.toNat]
def k0_off32 (k0_t1 : Fin k0_t1_loop.trips) : Fin 2 → Nat :=
  let c48 : Index := 48#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v412 : Index := Scalar.indexCast v79
  ![48, v412.toNat]
def k0_off33 (k0_t1 : Fin k0_t1_loop.trips) : Fin 2 → Nat :=
  let c7_125 : Index := 7#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v437 : Index := Scalar.indexCast v79
  ![7, v437.toNat]
def k0_off34 (k0_t1 : Fin k0_t1_loop.trips) : Fin 2 → Nat :=
  let c56 : Index := 56#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v443 : Index := Scalar.indexCast v79
  ![56, v443.toNat]
def k0_off35 (k0_t1 : Fin k0_t1_loop.trips) : Fin 2 → Nat :=
  let c8_130 : Index := 8#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v468 : Index := Scalar.indexCast v79
  ![8, v468.toNat]
def k0_off36 (k0_t1 : Fin k0_t1_loop.trips) : Fin 2 → Nat :=
  let c64 : Index := 64#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v474 : Index := Scalar.indexCast v79
  ![64, v474.toNat]
def k0_off37 (k0_t1 : Fin k0_t1_loop.trips) : Fin 2 → Nat :=
  let c9 : Index := 9#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v499 : Index := Scalar.indexCast v79
  ![9, v499.toNat]
def k0_off38 (k0_t1 : Fin k0_t1_loop.trips) : Fin 2 → Nat :=
  let c72 : Index := 72#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v505 : Index := Scalar.indexCast v79
  ![72, v505.toNat]
def k0_off39 (k0_t1 : Fin k0_t1_loop.trips) : Fin 2 → Nat :=
  let c10 : Index := 10#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v530 : Index := Scalar.indexCast v79
  ![10, v530.toNat]
def k0_off40 (k0_t1 : Fin k0_t1_loop.trips) : Fin 2 → Nat :=
  let c80 : Index := 80#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v536 : Index := Scalar.indexCast v79
  ![80, v536.toNat]
def k0_off41 (k0_t1 : Fin k0_t1_loop.trips) : Fin 2 → Nat :=
  let c11 : Index := 11#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v561 : Index := Scalar.indexCast v79
  ![11, v561.toNat]
def k0_off42 (k0_t1 : Fin k0_t1_loop.trips) : Fin 2 → Nat :=
  let c88 : Index := 88#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v567 : Index := Scalar.indexCast v79
  ![88, v567.toNat]
def k0_off43 (k0_t1 : Fin k0_t1_loop.trips) : Fin 2 → Nat :=
  let c12 : Index := 12#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v592 : Index := Scalar.indexCast v79
  ![12, v592.toNat]
def k0_off44 (k0_t1 : Fin k0_t1_loop.trips) : Fin 2 → Nat :=
  let c96 : Index := 96#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v598 : Index := Scalar.indexCast v79
  ![96, v598.toNat]
def k0_off45 (k0_t1 : Fin k0_t1_loop.trips) : Fin 2 → Nat :=
  let c13 : Index := 13#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v623 : Index := Scalar.indexCast v79
  ![13, v623.toNat]
def k0_off46 (k0_t1 : Fin k0_t1_loop.trips) : Fin 2 → Nat :=
  let c104 : Index := 104#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v629 : Index := Scalar.indexCast v79
  ![104, v629.toNat]
def k0_off47 (k0_t1 : Fin k0_t1_loop.trips) : Fin 2 → Nat :=
  let c16_152 : Index := 16#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v652 : Index := Scalar.indexCast v79
  ![16, v652.toNat]
def k0_off48 (k0_t1 : Fin k0_t1_loop.trips) : Fin 2 → Nat :=
  let c14 : Index := 14#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v654 : Index := Scalar.indexCast v79
  ![14, v654.toNat]
def k0_off49 (k0_t1 : Fin k0_t1_loop.trips) : Fin 2 → Nat :=
  let c112 : Index := 112#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v660 : Index := Scalar.indexCast v79
  ![112, v660.toNat]
def k0_off50 (k0_t1 : Fin k0_t1_loop.trips) : Fin 2 → Nat :=
  let c15 : Index := 15#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v685 : Index := Scalar.indexCast v79
  ![15, v685.toNat]
def k0_off51 (k0_t1 : Fin k0_t1_loop.trips) : Fin 2 → Nat :=
  let c120 : Index := 120#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v691 : Index := Scalar.indexCast v79
  ![120, v691.toNat]
def k0_off52 (k0_t1 : Fin k0_t1_loop.trips) : Fin 2 → Nat :=
  let c16_161 : Index := 16#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v716 : Index := Scalar.indexCast v79
  ![16, v716.toNat]
def k0_off53 (k0_t1 : Fin k0_t1_loop.trips) : Fin 2 → Nat :=
  let c128 : Index := 128#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v722 : Index := Scalar.indexCast v79
  ![128, v722.toNat]
def k0_off54 (k0_t1 : Fin k0_t1_loop.trips) : Fin 2 → Nat :=
  let c17 : Index := 17#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v747 : Index := Scalar.indexCast v79
  ![17, v747.toNat]
def k0_off55 (k0_t1 : Fin k0_t1_loop.trips) : Fin 2 → Nat :=
  let c136 : Index := 136#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v753 : Index := Scalar.indexCast v79
  ![136, v753.toNat]
def k0_off56 (k0_t1 : Fin k0_t1_loop.trips) : Fin 2 → Nat :=
  let c18 : Index := 18#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v778 : Index := Scalar.indexCast v79
  ![18, v778.toNat]
def k0_off57 (k0_t1 : Fin k0_t1_loop.trips) : Fin 2 → Nat :=
  let c144 : Index := 144#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v784 : Index := Scalar.indexCast v79
  ![144, v784.toNat]
def k0_off58 (k0_t1 : Fin k0_t1_loop.trips) : Fin 2 → Nat :=
  let c19 : Index := 19#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v809 : Index := Scalar.indexCast v79
  ![19, v809.toNat]
def k0_off59 (k0_t1 : Fin k0_t1_loop.trips) : Fin 2 → Nat :=
  let c152 : Index := 152#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v815 : Index := Scalar.indexCast v79
  ![152, v815.toNat]
def k0_off60 (k0_t1 : Fin k0_t1_loop.trips) : Fin 2 → Nat :=
  let c20 : Index := 20#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v840 : Index := Scalar.indexCast v79
  ![20, v840.toNat]
def k0_off61 (k0_t1 : Fin k0_t1_loop.trips) : Fin 2 → Nat :=
  let c160 : Index := 160#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v846 : Index := Scalar.indexCast v79
  ![160, v846.toNat]
def k0_off62 (k0_t1 : Fin k0_t1_loop.trips) : Fin 2 → Nat :=
  let c21 : Index := 21#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v871 : Index := Scalar.indexCast v79
  ![21, v871.toNat]
def k0_off63 (k0_t1 : Fin k0_t1_loop.trips) : Fin 2 → Nat :=
  let c168 : Index := 168#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v877 : Index := Scalar.indexCast v79
  ![168, v877.toNat]
def k0_off64 (k0_t1 : Fin k0_t1_loop.trips) : Fin 2 → Nat :=
  let c8_183 : Index := 8#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v900 : Index := Scalar.indexCast v79
  ![8, v900.toNat]
def k0_off65 (k0_t1 : Fin k0_t1_loop.trips) : Fin 2 → Nat :=
  let c22 : Index := 22#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v902 : Index := Scalar.indexCast v79
  ![22, v902.toNat]
def k0_off66 (k0_t1 : Fin k0_t1_loop.trips) : Fin 2 → Nat :=
  let c176 : Index := 176#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v908 : Index := Scalar.indexCast v79
  ![176, v908.toNat]
def k0_off67 (k0_t1 : Fin k0_t1_loop.trips) : Fin 2 → Nat :=
  let c23 : Index := 23#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v933 : Index := Scalar.indexCast v79
  ![23, v933.toNat]
def k0_off68 (k0_t1 : Fin k0_t1_loop.trips) : Fin 2 → Nat :=
  let c184 : Index := 184#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v939 : Index := Scalar.indexCast v79
  ![184, v939.toNat]
def k0_off69 (k0_t1 : Fin k0_t1_loop.trips) : Fin 2 → Nat :=
  let c24_192 : Index := 24#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v964 : Index := Scalar.indexCast v79
  ![24, v964.toNat]
def k0_off70 (k0_t1 : Fin k0_t1_loop.trips) : Fin 2 → Nat :=
  let c192 : Index := 192#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v970 : Index := Scalar.indexCast v79
  ![192, v970.toNat]
def k0_off71 (k0_t1 : Fin k0_t1_loop.trips) : Fin 2 → Nat :=
  let c25 : Index := 25#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v995 : Index := Scalar.indexCast v79
  ![25, v995.toNat]
def k0_off72 (k0_t1 : Fin k0_t1_loop.trips) : Fin 2 → Nat :=
  let c200 : Index := 200#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v1001 : Index := Scalar.indexCast v79
  ![200, v1001.toNat]
def k0_off73 (k0_t1 : Fin k0_t1_loop.trips) : Fin 2 → Nat :=
  let c26 : Index := 26#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v1026 : Index := Scalar.indexCast v79
  ![26, v1026.toNat]
def k0_off74 (k0_t1 : Fin k0_t1_loop.trips) : Fin 2 → Nat :=
  let c208 : Index := 208#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v1032 : Index := Scalar.indexCast v79
  ![208, v1032.toNat]
def k0_off75 (k0_t1 : Fin k0_t1_loop.trips) : Fin 2 → Nat :=
  let c27 : Index := 27#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v1057 : Index := Scalar.indexCast v79
  ![27, v1057.toNat]
def k0_off76 (k0_t1 : Fin k0_t1_loop.trips) : Fin 2 → Nat :=
  let c216 : Index := 216#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v1063 : Index := Scalar.indexCast v79
  ![216, v1063.toNat]
def k0_off77 (k0_t1 : Fin k0_t1_loop.trips) : Fin 2 → Nat :=
  let c28 : Index := 28#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v1088 : Index := Scalar.indexCast v79
  ![28, v1088.toNat]
def k0_off78 (k0_t1 : Fin k0_t1_loop.trips) : Fin 2 → Nat :=
  let c224 : Index := 224#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v1094 : Index := Scalar.indexCast v79
  ![224, v1094.toNat]
def k0_off79 (k0_t1 : Fin k0_t1_loop.trips) : Fin 2 → Nat :=
  let c29 : Index := 29#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v1119 : Index := Scalar.indexCast v79
  ![29, v1119.toNat]
def k0_off80 (k0_t1 : Fin k0_t1_loop.trips) : Fin 2 → Nat :=
  let c232 : Index := 232#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v1125 : Index := Scalar.indexCast v79
  ![232, v1125.toNat]
def k0_off81 (k0_t1 : Fin k0_t1_loop.trips) : Fin 2 → Nat :=
  let c0_214 : Index := 0#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v1148 : Index := Scalar.indexCast v79
  ![0, v1148.toNat]
def k0_off82 (k0_t1 : Fin k0_t1_loop.trips) : Fin 2 → Nat :=
  let c30 : Index := 30#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v1150 : Index := Scalar.indexCast v79
  ![30, v1150.toNat]
def k0_off83 (k0_t1 : Fin k0_t1_loop.trips) : Fin 2 → Nat :=
  let c240 : Index := 240#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v1156 : Index := Scalar.indexCast v79
  ![240, v1156.toNat]
def k0_off84 (k0_t1 : Fin k0_t1_loop.trips) : Fin 2 → Nat :=
  let c64_217 : Index := 64#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v1183 : Index := Scalar.indexCast v79
  ![64, v1183.toNat]
def k0_off85 (k0_t1 : Fin k0_t1_loop.trips) : Fin 2 → Nat :=
  let c66 : Index := 66#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v1186 : Index := Scalar.indexCast v79
  ![66, v1186.toNat]
def k0_off86 (k0_t1 : Fin k0_t1_loop.trips) : Fin 2 → Nat :=
  let c65 : Index := 65#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v1217 : Index := Scalar.indexCast v79
  ![65, v1217.toNat]
def k0_off87 (k0_t1 : Fin k0_t1_loop.trips) : Fin 2 → Nat :=
  let c64_225 : Index := 64#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v1248 : Index := Scalar.indexCast v79
  ![64, v1248.toNat]
def k0_off88 (k0_t1 : Fin k0_t1_loop.trips) : Fin 2 → Nat :=
  let c88_268 : Index := 88#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v1472 : Index := Scalar.indexCast v79
  ![88, v1472.toNat]
def k0_off89 (k0_t1 : Fin k0_t1_loop.trips) : Fin 2 → Nat :=
  let c80_314 : Index := 80#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v1720 : Index := Scalar.indexCast v79
  ![80, v1720.toNat]
def k0_off90 (k0_t1 : Fin k0_t1_loop.trips) : Fin 2 → Nat :=
  let c72_360 : Index := 72#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v1968 : Index := Scalar.indexCast v79
  ![72, v1968.toNat]
def k0_off91 (k0_t1 : Fin k0_t1_loop.trips) : Fin 2 → Nat :=
  let c64_406 : Index := 64#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v2216 : Index := Scalar.indexCast v79
  ![64, v2216.toNat]
def k0_off92 (k0_t1 : Fin k0_t1_loop.trips) : Fin 2 → Nat :=
  let c128_411 : Index := 128#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v2251 : Index := Scalar.indexCast v79
  ![128, v2251.toNat]
def k0_off93 (k0_t1 : Fin k0_t1_loop.trips) : Fin 2 → Nat :=
  let c130 : Index := 130#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v2254 : Index := Scalar.indexCast v79
  ![130, v2254.toNat]
def k0_off94 (k0_t1 : Fin k0_t1_loop.trips) : Fin 2 → Nat :=
  let c129 : Index := 129#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v2285 : Index := Scalar.indexCast v79
  ![129, v2285.toNat]
def k0_off95 (k0_t1 : Fin k0_t1_loop.trips) : Fin 2 → Nat :=
  let c128_419 : Index := 128#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v2316 : Index := Scalar.indexCast v79
  ![128, v2316.toNat]
def k0_off96 (k0_t1 : Fin k0_t1_loop.trips) : Fin 2 → Nat :=
  let c152_462 : Index := 152#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v2540 : Index := Scalar.indexCast v79
  ![152, v2540.toNat]
def k0_off97 (k0_t1 : Fin k0_t1_loop.trips) : Fin 2 → Nat :=
  let c144_508 : Index := 144#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v2788 : Index := Scalar.indexCast v79
  ![144, v2788.toNat]
def k0_off98 (k0_t1 : Fin k0_t1_loop.trips) : Fin 2 → Nat :=
  let c136_554 : Index := 136#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v3036 : Index := Scalar.indexCast v79
  ![136, v3036.toNat]
def k0_off99 (k0_t1 : Fin k0_t1_loop.trips) : Fin 2 → Nat :=
  let c128_600 : Index := 128#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v3284 : Index := Scalar.indexCast v79
  ![128, v3284.toNat]
def k0_off100 (k0_t1 : Fin k0_t1_loop.trips) : Fin 2 → Nat :=
  let c192_605 : Index := 192#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v3319 : Index := Scalar.indexCast v79
  ![192, v3319.toNat]
def k0_off101 (k0_t1 : Fin k0_t1_loop.trips) : Fin 2 → Nat :=
  let c194 : Index := 194#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v3322 : Index := Scalar.indexCast v79
  ![194, v3322.toNat]
def k0_off102 (k0_t1 : Fin k0_t1_loop.trips) : Fin 2 → Nat :=
  let c193 : Index := 193#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v3353 : Index := Scalar.indexCast v79
  ![193, v3353.toNat]
def k0_off103 (k0_t1 : Fin k0_t1_loop.trips) : Fin 2 → Nat :=
  let c192_613 : Index := 192#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v3384 : Index := Scalar.indexCast v79
  ![192, v3384.toNat]
def k0_off104 (k0_t1 : Fin k0_t1_loop.trips) : Fin 2 → Nat :=
  let c216_656 : Index := 216#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v3608 : Index := Scalar.indexCast v79
  ![216, v3608.toNat]
def k0_off105 (k0_t1 : Fin k0_t1_loop.trips) : Fin 2 → Nat :=
  let c208_702 : Index := 208#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v3856 : Index := Scalar.indexCast v79
  ![208, v3856.toNat]
def k0_off106 (k0_t1 : Fin k0_t1_loop.trips) : Fin 2 → Nat :=
  let c200_748 : Index := 200#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v4104 : Index := Scalar.indexCast v79
  ![200, v4104.toNat]
def k0_off107 (k0_t1 : Fin k0_t1_loop.trips) : Fin 2 → Nat :=
  let c192_794 : Index := 192#32
  let c0_i32_31 : BitVec 32 := 0#32
  let c1_i32 : BitVec 32 := 1#32
  let arg24 : BitVec 32 := Scf.iv c0_i32_31 c1_i32 k0_t1
  let c128_i32 : BitVec 32 := 128#32
  let v78 : BitVec 32 := Scalar.muli arg24 c128_i32
  let v79 : BitVec 32 := v78
  let v4352 : Index := Scalar.indexCast v79
  ![192, v4352.toNat]
def k0_cond2 (i : grid0.Coords) : BitVec 1 :=
  let arg0 : BitVec 32 := BitVec.ofNat 32 (i 0).val
  let c31_i32 : BitVec 32 := 31#32
  let v1 : BitVec 1 := Scalar.cmpi .eq arg0 c31_i32
  let v76 : BitVec 32 := Scalar.extui v1
  let c0_i32_49 : BitVec 32 := 0#32
  let v77 : BitVec 1 := Scalar.cmpi .ne v76 c0_i32_49
  v77

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x7168 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S40x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== RConvIdeal.lean ====
abbrev S8192x7168 : Shape := ⟨2, ![8192, 7168]⟩
abbrev S3x1024 : Shape := ⟨2, ![3, 1024]⟩
abbrev S31x1024 : Shape := ⟨2, ![31, 1024]⟩
abbrev S8192x1024 : Shape := ⟨2, ![8192, 1024]⟩
abbrev S8192x2048 : Shape := ⟨2, ![8192, 2048]⟩
abbrev S8192x3x8192 : Shape := ⟨3, ![8192, 3, 8192]⟩
abbrev S_ : Shape := ⟨0, ![]⟩
abbrev S1x3x1024 : Shape := ⟨3, ![1, 3, 1024]⟩
abbrev S8192x3x1024 : Shape := ⟨3, ![8192, 3, 1024]⟩
abbrev S8192x31x8192 : Shape := ⟨3, ![8192, 31, 8192]⟩
abbrev S1x31x1024 : Shape := ⟨3, ![1, 31, 1024]⟩
abbrev S8192x31x1024 : Shape := ⟨3, ![8192, 31, 1024]⟩
abbrev S1024x8192 : Shape := ⟨2, ![1024, 8192]⟩
abbrev S8x1024 : Shape := ⟨2, ![8, 1024]⟩
abbrev S32x1024 : Shape := ⟨2, ![32, 1024]⟩
abbrev S40x1024 : Shape := ⟨2, ![40, 1024]⟩

abbrev nBuf : Space → Nat
  | .hbm => 105
  | .vmem => 0
  | .smem => 0
  | _ => 0

abbrev bufTy : (tb : Table) → Fin (tcTables nBuf tb) → BufTy
  | .hbm, ⟨0, _⟩ => ⟨S8192x7168, .f32⟩
  | .hbm, ⟨1, _⟩ => ⟨S3x1024, .f32⟩
  | .hbm, ⟨2, _⟩ => ⟨S31x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x2048, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x3x8192, .i32⟩
  | .hbm, ⟨16, _⟩ => ⟨S8192x3x8192, .i32⟩
  | .hbm, ⟨17, _⟩ => ⟨S8192x3x8192, .i32⟩
  | .hbm, ⟨18, _⟩ => ⟨S_, .i32⟩
  | .hbm, ⟨19, _⟩ => ⟨S8192x3x8192, .i32⟩
  | .hbm, ⟨20, _⟩ => ⟨S8192x3x8192, .i32⟩
  | .hbm, ⟨21, _⟩ => ⟨S8192x3x8192, .i32⟩
  | .hbm, ⟨22, _⟩ => ⟨S8192x3x8192, .i1⟩
  | .hbm, ⟨23, _⟩ => ⟨S_, .f32⟩
  | .hbm, ⟨24, _⟩ => ⟨S_, .f32⟩
  | .hbm, ⟨25, _⟩ => ⟨S8192x3x8192, .f32⟩
  | .hbm, ⟨26, _⟩ => ⟨S8192x3x8192, .f32⟩
  | .hbm, ⟨27, _⟩ => ⟨S8192x3x8192, .f32⟩
  | .hbm, ⟨28, _⟩ => ⟨S1x3x1024, .f32⟩
  | .hbm, ⟨29, _⟩ => ⟨S8192x3x1024, .f32⟩
  | .hbm, ⟨30, _⟩ => ⟨S8192x3x1024, .f32⟩
  | .hbm, ⟨31, _⟩ => ⟨S8192x3x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x31x8192, .i32⟩
  | .hbm, ⟨48, _⟩ => ⟨S8192x31x8192, .i32⟩
  | .hbm, ⟨49, _⟩ => ⟨S8192x31x8192, .i32⟩
  | .hbm, ⟨50, _⟩ => ⟨S_, .i32⟩
  | .hbm, ⟨51, _⟩ => ⟨S8192x31x8192, .i32⟩
  | .hbm, ⟨52, _⟩ => ⟨S8192x31x8192, .i32⟩
  | .hbm, ⟨53, _⟩ => ⟨S8192x31x8192, .i32⟩
  | .hbm, ⟨54, _⟩ => ⟨S8192x31x8192, .i1⟩
  | .hbm, ⟨55, _⟩ => ⟨S_, .f32⟩
  | .hbm, ⟨56, _⟩ => ⟨S_, .f32⟩
  | .hbm, ⟨57, _⟩ => ⟨S8192x31x8192, .f32⟩
  | .hbm, ⟨58, _⟩ => ⟨S8192x31x8192, .f32⟩
  | .hbm, ⟨59, _⟩ => ⟨S8192x31x8192, .f32⟩
  | .hbm, ⟨60, _⟩ => ⟨S1x31x1024, .f32⟩
  | .hbm, ⟨61, _⟩ => ⟨S8192x31x1024, .f32⟩
  | .hbm, ⟨62, _⟩ => ⟨S8192x31x1024, .f32⟩
  | .hbm, ⟨63, _⟩ => ⟨S8192x31x1024, .f32⟩
  | .hbm, ⟨64, _⟩ => ⟨S_, .f32⟩
  | .hbm, ⟨65, _⟩ => ⟨S8192x1024, .f32⟩
  | .hbm, ⟨66, _⟩ => ⟨S8192x2048, .f32⟩
  | .hbm, ⟨67, _⟩ => ⟨S8192x1024, .f32⟩
  | .hbm, ⟨68, _⟩ => ⟨S8192x1024, .f32⟩
  | .hbm, ⟨69, _⟩ => ⟨S8192x31x1024, .f32⟩
  | .hbm, ⟨70, _⟩ => ⟨S8192x31x1024, .f32⟩
  | .hbm, ⟨71, _⟩ => ⟨S8192x31x1024, .f32⟩
  | .hbm, ⟨72, _⟩ => ⟨S8192x31x1024, .f32⟩
  | .hbm, ⟨73, _⟩ => ⟨S_, .f32⟩
  | .hbm, ⟨74, _⟩ => ⟨S31x1024, .f32⟩
  | .hbm, ⟨75, _⟩ => ⟨S1x31x1024, .f32⟩
  | .hbm, ⟨76, _⟩ => ⟨S1024x8192, .f32⟩
  | .hbm, ⟨77, _⟩ => ⟨S8192x1024, .f32⟩
  | .hbm, ⟨78, _⟩ => ⟨S_, .f32⟩
  | .hbm, ⟨79, _⟩ => ⟨S31x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x3x1024, .f32⟩
  | .hbm, ⟨84, _⟩ => ⟨S8192x3x1024, .f32⟩
  | .hbm, ⟨85, _⟩ => ⟨S8192x3x1024, .f32⟩
  | .hbm, ⟨86, _⟩ => ⟨S8192x3x1024, .f32⟩
  | .hbm, ⟨87, _⟩ => ⟨S_, .f32⟩
  | .hbm, ⟨88, _⟩ => ⟨S3x1024, .f32⟩
  | .hbm, ⟨89, _⟩ => ⟨S1x3x1024, .f32⟩
  | .hbm, ⟨90, _⟩ => ⟨S1024x8192, .f32⟩
  | .hbm, ⟨91, _⟩ => ⟨S8192x1024, .f32⟩
  | .hbm, ⟨92, _⟩ => ⟨S_, .f32⟩
  | .hbm, ⟨93, _⟩ => ⟨S3x1024, .f32⟩
  | .hbm, ⟨94, _⟩ => ⟨S8192x1024, .f32⟩
  | .hbm, ⟨95, _⟩ => ⟨S8192x1024, .f32⟩
  | .hbm, ⟨96, _⟩ => ⟨S8192x7168, .f32⟩
  | .hbm, ⟨97, _⟩ => ⟨S8192x7168, .bf16⟩
  | .hbm, ⟨98, _⟩ => ⟨S_, .i32⟩
  | .hbm, ⟨99, _⟩ => ⟨S_, .f32⟩
  | .hbm, ⟨100, _⟩ => ⟨S8x1024, .f32⟩
  | .hbm, ⟨101, _⟩ => ⟨S_, .i32⟩
  | .hbm, ⟨102, _⟩ => ⟨S_, .f32⟩
  | .hbm, ⟨103, _⟩ => ⟨S32x1024, .f32⟩
  | .hbm, ⟨104, _⟩ => ⟨S40x1024, .f32⟩
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_cst_7 : Ref sig .tc := ⟨.hbm, 56, rfl⟩
abbrev main_call1_v0 : Ref sig .tc := ⟨.hbm, 57, rfl⟩
abbrev main_call1_v1 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_11 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_12 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_13 : Ref sig .tc := ⟨.hbm, 98, rfl⟩
abbrev main_call2_v0 : Ref sig .tc := ⟨.hbm, 99, rfl⟩
abbrev main_v72 : Ref sig .tc := ⟨.hbm, 100, rfl⟩
abbrev main_c_14 : Ref sig .tc := ⟨.hbm, 101, rfl⟩
abbrev main_call3_v0 : Ref sig .tc := ⟨.hbm, 102, rfl⟩
abbrev main_v73 : Ref sig .tc := ⟨.hbm, 103, rfl⟩
abbrev main_v74 : Ref sig .tc := ⟨.hbm, 104, rfl⟩

abbrev nD : Nat := 1
abbrev τ : Topo := Topo.v7x

variable {F : FTy → Type} [FloatOps F]
-- ==== KMerge.lean ====
abbrev S8192x7168 : Shape := ⟨2, ![8192, 7168]⟩
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩
abbrev S8x1024 : Shape := ⟨2, ![8, 1024]⟩
abbrev S8192 : Shape := ⟨1, ![8192]⟩
abbrev S8192x1 : Shape := ⟨2, ![8192, 1]⟩
abbrev S8192x2048 : Shape := ⟨2, ![8192, 2048]⟩
abbrev S256x1024 : Shape := ⟨2, ![256, 1024]⟩
abbrev S256x1 : Shape := ⟨2, ![256, 1]⟩
abbrev S256x2048 : Shape := ⟨2, ![256, 2048]⟩
abbrev S256 : Shape := ⟨1, ![256]⟩

abbrev nBuf : Space → Nat
  | .hbm => 81
  | .vmem => 35
  | .smem => 0
  | _ => 0

abbrev bufTy : (tb : Table) → Fin (tcTables nBuf tb) → BufTy
  | .hbm, ⟨0, _⟩ => ⟨S8192x7168, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S8192x1024, .f32⟩
  | .hbm, ⟨10, _⟩ => ⟨S8192x7168, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S_, .f32⟩
  | .hbm, ⟨15, _⟩ => ⟨S1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S8x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .bf16⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S1x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .bf16⟩
  | .hbm, ⟨72, _⟩ => ⟨S8192x1024, .bf16⟩
  | .hbm, ⟨73, _⟩ => ⟨S8192x1024, .bf16⟩
  | .hbm, ⟨74, _⟩ => ⟨S8192x1024, .bf16⟩
  | .hbm, ⟨75, _⟩ => ⟨S8192x1024, .bf16⟩
  | .hbm, ⟨76, _⟩ => ⟨S8192x2048, .bf16⟩
  | .hbm, ⟨77, _⟩ => ⟨S8192x1024, .bf16⟩
  | .hbm, ⟨78, _⟩ => ⟨S8192x1024, .f32⟩
  | .hbm, ⟨79, _⟩ => ⟨S8192x1024, .f32⟩
  | .hbm, ⟨80, _⟩ => ⟨S8x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1, .f32⟩
  | .local _ .vmem, ⟨17, _⟩ => ⟨S256x1, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S8x1024, .f32⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x2048, .bf16⟩
  | .local _ .vmem, ⟨27, _⟩ => ⟨S256x2048, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | .local _ .vmem, ⟨33, _⟩ => ⟨S256x1024, .f32⟩
  | .local _ .vmem, ⟨34, _⟩ => ⟨S8x1024, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50_0 : Ref sig .tc := ⟨.hbm, 74, rfl⟩
abbrev main_v50_1 : Ref sig .tc := ⟨.hbm, 75, rfl⟩
abbrev main_v50_2 : Ref sig .tc := ⟨.hbm, 76, rfl⟩
abbrev main_v50_3 : Ref sig .tc := ⟨.hbm, 77, rfl⟩
abbrev main_v50_4 : Ref sig .tc := ⟨.hbm, 78, rfl⟩
abbrev main_v50_5 : Ref sig .tc := ⟨.hbm, 79, rfl⟩
abbrev main_v50_6 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S8x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== RMergeIdeal.lean ====
abbrev S8192x7168 : Shape := ⟨2, ![8192, 7168]⟩
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩
abbrev S8x1024 : Shape := ⟨2, ![8, 1024]⟩

abbrev nBuf : Space → Nat
  | .hbm => 181
  | .vmem => 0
  | .smem => 0
  | _ => 0

abbrev hbmTy0_0 (i : Nat) : BufTy := match i % 128 with
  | 0 => ⟨S8192x7168, .f32⟩
  | 1 => ⟨S8192x1024, .f32⟩
  | 2 => ⟨S8192x1024, .f32⟩
  | 3 => ⟨S1024x1024, .f32⟩
  | 4 => ⟨S1024x1024, .f32⟩
  | 5 => ⟨S1024x1024, .f32⟩
  | 6 => ⟨S1024, .f32⟩
  | 7 => ⟨S1024, .f32⟩
  | 8 => ⟨S1024, .f32⟩
  | 9 => ⟨S8192x1024, .f32⟩
  | 10 => ⟨S8192x1024, .f32⟩
  | 11 => ⟨S8192x1024, .f32⟩
  | 12 => ⟨S8192x1024, .f32⟩
  | 13 => ⟨S1x1024, .f32⟩
  | 14 => ⟨S8192x1024, .f32⟩
  | 15 => ⟨S8192x1024, .f32⟩
  | 16 => ⟨S_, .f32⟩
  | 17 => ⟨S8192, .f32⟩
  | 18 => ⟨S8192x1, .f32⟩
  | 19 => ⟨S_, .f32⟩
  | 20 => ⟨S8192x1, .f32⟩
  | 21 => ⟨S8192x1, .f32⟩
  | 22 => ⟨S8192x1024, .f32⟩
  | 23 => ⟨S8192x1024, .f32⟩
  | 24 => ⟨S8192x1024, .f32⟩
  | 25 => ⟨S_, .f32⟩
  | 26 => ⟨S8192x1024, .f32⟩
  | 27 => ⟨S8192x1024, .f32⟩
  | 28 => ⟨S_, .f32⟩
  | 29 => ⟨S8192, .f32⟩
  | 30 => ⟨S8192x1, .f32⟩
  | 31 => ⟨S_, .f32⟩
  | 32 => ⟨S8192x1, .f32⟩
  | 33 => ⟨S8192x1, .f32⟩
  | 34 => ⟨S8192x1024, .f32⟩
  | 35 => ⟨S8192x1024, .f32⟩
  | 36 => ⟨S_, .f32⟩
  | 37 => ⟨S8192x1, .f32⟩
  | 38 => ⟨S8192x1, .f32⟩
  | 39 => ⟨S8192x1, .f32⟩
  | 40 => ⟨S8192x1, .f32⟩
  | 41 => ⟨S_, .f32⟩
  | 42 => ⟨S8192x1, .f32⟩
  | 43 => ⟨S8192x1, .f32⟩
  | 44 => ⟨S8192x1024, .f32⟩
  | 45 => ⟨S8192x1024, .f32⟩
  | 46 => ⟨S1x1024, .f32⟩
  | 47 => ⟨S8192x1024, .f32⟩
  | 48 => ⟨S8192x1024, .f32⟩
  | 49 => ⟨S1x1024, .f32⟩
  | 50 => ⟨S8192x1024, .f32⟩
  | 51 => ⟨S8192x1024, .f32⟩
  | 52 => ⟨S8192x1024, .f32⟩
  | 53 => ⟨S8192x1024, .f32⟩
  | 54 => ⟨S_, .f32⟩
  | 55 => ⟨S8192x1024, .f32⟩
  | 56 => ⟨S8192x1024, .f32⟩
  | 57 => ⟨S_, .f32⟩
  | 58 => ⟨S8192x1024, .f32⟩
  | 59 => ⟨S8192x1024, .f32⟩
  | 60 => ⟨S_, .f32⟩
  | 61 => ⟨S8192x1024, .f32⟩
  | 62 => ⟨S8192x1024, .f32⟩
  | 63 => ⟨S8192x1024, .f32⟩
  | 64 => ⟨S8192x1024, .f32⟩
  | 65 => ⟨S8192x1024, .f32⟩
  | 66 => ⟨S8192x2048, .f32⟩
  | 67 => ⟨S8192x1024, .f32⟩
  | 68 => ⟨S8192x1024, .f32⟩
  | 69 => ⟨S8192x1024, .f32⟩
  | 70 => ⟨S_, .f32⟩
  | 71 => ⟨S8192x1024, .f32⟩
  | 72 => ⟨S8192x1024, .f32⟩
  | 73 => ⟨S_, .f32⟩
  | 74 => ⟨S8192x1024, .f32⟩
  | 75 => ⟨S8192x1024, .f32⟩
  | 76 => ⟨S_, .f32⟩
  | 77 => ⟨S8192x1024, .f32⟩
  | 78 => ⟨S8192x1024, .f32⟩
  | 79 => ⟨S8192x1024, .f32⟩
  | 80 => ⟨S8192x1024, .f32⟩
  | 81 => ⟨S8192x1024, .f32⟩
  | 82 => ⟨S8192x1024, .f32⟩
  | 83 => ⟨S8192x1024, .f32⟩
  | 84 => ⟨S_, .f32⟩
  | 85 => ⟨S8192x1024, .f32⟩
  | 86 => ⟨S8192x1024, .f32⟩
  | 87 => ⟨S_, .f32⟩
  | 88 => ⟨S8192x1024, .f32⟩
  | 89 => ⟨S8192x1024, .f32⟩
  | 90 => ⟨S_, .f32⟩
  | 91 => ⟨S8192x1024, .f32⟩
  | 92 => ⟨S8192x1024, .f32⟩
  | 93 => ⟨S8192x1024, .f32⟩
  | 94 => ⟨S8192x1024, .f32⟩
  | 95 => ⟨S8192x1024, .f32⟩
  | 96 => ⟨S8192x1024, .f32⟩
  | 97 => ⟨S8192x1024, .f32⟩
  | 98 => ⟨S8192x1024, .f32⟩
  | 99 => ⟨S8192x1024, .f32⟩
  | 100 => ⟨S8192x1024, .f32⟩
  | 101 => ⟨S_, .f32⟩
  | 102 => ⟨S8192x2048, .f32⟩
  | 103 => ⟨S8192x1024, .f32⟩
  | 104 => ⟨S8192x1024, .f32⟩
  | 105 => ⟨S8192x1024, .f32⟩
  | 106 => ⟨S_, .f32⟩
  | 107 => ⟨S8192x2048, .f32⟩
  | 108 => ⟨S8192x2048, .f32⟩
  | 109 => ⟨S8192x1024, .f32⟩
  | 110 => ⟨S8192x1024, .f32⟩
  | 111 => ⟨S8192x1024, .f32⟩
  | 112 => ⟨S8192x1024, .f32⟩
  | 113 => ⟨S8192x1024, .f32⟩
  | 114 => ⟨S_, .f32⟩
  | 115 => ⟨S1024, .f32⟩
  | 116 => ⟨S1x1024, .f32⟩
  | 117 => ⟨S_, .f32⟩
  | 118 => ⟨S1024, .f32⟩
  | 119 => ⟨S8192x1024, .f32⟩
  | 120 => ⟨S_, .f32⟩
  | 121 => ⟨S1024, .f32⟩
  | 122 => ⟨S1x1024, .f32⟩
  | 123 => ⟨S8192x1024, .f32⟩
  | 124 => ⟨S8192x1024, .f32⟩
  | 125 => ⟨S_, .f32⟩
  | 126 => ⟨S1024, .f32⟩
  | 127 => ⟨S8192x1024, .f32⟩
  | _ => ⟨S8192x7168, .f32⟩

abbrev hbmTy0_1 (i : Nat) : BufTy := match i % 128 with
  | 0 => ⟨S_, .f32⟩
  | 1 => ⟨S8192, .f32⟩
  | 2 => ⟨S8192x1, .f32⟩
  | 3 => ⟨S8192x1024, .f32⟩
  | 4 => ⟨S8192x1024, .f32⟩
  | 5 => ⟨S8192x1, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192, .f32⟩
  | 15 => ⟨S8192x1024, .f32⟩
  | 16 => ⟨S8192x1024, .f32⟩
  | 17 => ⟨S8192x1024, .f32⟩
  | 18 => ⟨S_, .f32⟩
  | 19 => ⟨S8192, .f32⟩
  | 20 => ⟨S8192x1, .f32⟩
  | 21 => ⟨S8192x1024, .f32⟩
  | 22 => ⟨S8192x1, .f32⟩
  | 23 => ⟨S_, .f32⟩
  | 24 => ⟨S8192x1, .f32⟩
  | 25 => ⟨S8192x1, .f32⟩
  | 26 => ⟨S_, .f32⟩
  | 27 => ⟨S8192, .f32⟩
  | 28 => ⟨S8192x1024, .f32⟩
  | 29 => ⟨S8192x1024, .f32⟩
  | 30 => ⟨S_, .f32⟩
  | 31 => ⟨S1024, .f32⟩
  | 32 => ⟨S1x1024, .f32⟩
  | 33 => ⟨S_, .f32⟩
  | 34 => ⟨S1024, .f32⟩
  | 35 => ⟨S8192x1024, .f32⟩
  | 36 => ⟨S8192x1024, .f32⟩
  | 37 => ⟨S8192x1024, .f32⟩
  | 38 => ⟨S_, .f32⟩
  | 39 => ⟨S1024, .f32⟩
  | 40 => ⟨S1x1024, .f32⟩
  | 41 => ⟨S1x1024, .f32⟩
  | 42 => ⟨S1x1024, .f32⟩
  | 43 => ⟨S1x1024, .f32⟩
  | 44 => ⟨S1x1024, .f32⟩
  | 45 => ⟨S1x1024, .f32⟩
  | 46 => ⟨S1x1024, .f32⟩
  | 47 => ⟨S1x1024, .f32⟩
  | 48 => ⟨S8x1024, .f32⟩
  | 49 => ⟨S8192x1024, .bf16⟩
  | 50 => ⟨S8192x1024, .bf16⟩
  | 51 => ⟨S8192x2048, .bf16⟩
  | 52 => ⟨S8192x1024, .bf16⟩
  | _ => ⟨S8192x7168, .f32⟩

abbrev hbmTy (i : Nat) : BufTy := match i / 128 with
  | 0 => hbmTy0_0 i
  | 1 => hbmTy0_1 i
  | _ => ⟨S8192x7168, .f32⟩

abbrev bufTy : (tb : Table) → Fin (tcTables nBuf tb) → BufTy
  | .hbm, ⟨i, _⟩ => hbmTy i
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_v35_2 : Ref sig .tc := ⟨.hbm, 59, rfl⟩
abbrev main_call0_cst_1 : Ref sig .tc := ⟨.hbm, 60, rfl⟩
abbrev main_call0_v6 : Ref sig .tc := ⟨.hbm, 61, rfl⟩
abbrev main_call0_v7 : Ref sig .tc := ⟨.hbm, 62, rfl⟩
abbrev main_v35_1 : Ref sig .tc := ⟨.hbm, 63, rfl⟩
abbrev main_v35_0 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_6 : Ref sig .tc := ⟨.hbm, 70, rfl⟩
abbrev main_v41 : Ref sig .tc := ⟨.hbm, 71, rfl⟩
abbrev main_v42 : Ref sig .tc := ⟨.hbm, 72, rfl⟩
abbrev main_cst_7 : Ref sig .tc := ⟨.hbm, 73, rfl⟩
abbrev main_v43 : Ref sig .tc := ⟨.hbm, 74, rfl⟩
abbrev main_v44 : Ref sig .tc := ⟨.hbm, 75, rfl⟩
abbrev main_cst_8 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_9 : Ref sig .tc := ⟨.hbm, 84, rfl⟩
abbrev main_v52 : Ref sig .tc := ⟨.hbm, 85, rfl⟩
abbrev main_v53 : Ref sig .tc := ⟨.hbm, 86, rfl⟩
abbrev main_cst_10 : Ref sig .tc := ⟨.hbm, 87, rfl⟩
abbrev main_v54 : Ref sig .tc := ⟨.hbm, 88, rfl⟩
abbrev main_v55 : Ref sig .tc := ⟨.hbm, 89, rfl⟩
abbrev main_cst_11 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_12 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_13 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_call1_v0 : Ref sig .tc := ⟨.hbm, 110, rfl⟩
abbrev main_call1_v1 : Ref sig .tc := ⟨.hbm, 111, rfl⟩
abbrev main_call1_v2 : Ref sig .tc := ⟨.hbm, 112, rfl⟩
abbrev main_v73 : Ref sig .tc := ⟨.hbm, 113, rfl⟩
abbrev main_cst_14 : Ref sig .tc := ⟨.hbm, 114, rfl⟩
abbrev main_v74 : Ref sig .tc := ⟨.hbm, 115, rfl⟩
abbrev main_v75 : Ref sig .tc := ⟨.hbm, 116, rfl⟩
abbrev main_cst_15 : Ref sig .tc := ⟨.hbm, 117, rfl⟩
abbrev main_v76 : Ref sig .tc := ⟨.hbm, 118, rfl⟩
abbrev main_v77 : Ref sig .tc := ⟨.hbm, 119, rfl⟩
abbrev main_cst_16 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_cst_17 : Ref sig .tc := ⟨.hbm, 125, rfl⟩
abbrev main_v82 : Ref sig .tc := ⟨.hbm, 126, rfl⟩
abbrev main_v83 : Ref sig .tc := ⟨.hbm, 127, rfl⟩
abbrev main_cst_18 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_cst_19 : Ref sig .tc := ⟨.hbm, 135, rfl⟩
abbrev main_v90 : Ref sig .tc := ⟨.hbm, 136, rfl⟩
abbrev main_v91 : Ref sig .tc := ⟨.hbm, 137, rfl⟩
abbrev main_cst_20 : Ref sig .tc := ⟨.hbm, 138, rfl⟩
abbrev main_v92 : Ref sig .tc := ⟨.hbm, 139, rfl⟩
abbrev main_v93 : Ref sig .tc := ⟨.hbm, 140, rfl⟩
abbrev main_cst_21 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_cst_22 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_cst_23 : Ref sig .tc := ⟨.hbm, 151, rfl⟩
abbrev main_v102 : Ref sig .tc := ⟨.hbm, 152, rfl⟩
abbrev main_v103 : Ref sig .tc := ⟨.hbm, 153, rfl⟩
abbrev main_cst_24 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_cst_25 : Ref sig .tc := ⟨.hbm, 158, rfl⟩
abbrev main_v107 : Ref sig .tc := ⟨.hbm, 159, rfl⟩
abbrev main_v108 : Ref sig .tc := ⟨.hbm, 160, rfl⟩
abbrev main_cst_26 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_cst_27 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩

abbrev nD : Nat := 1
abbrev τ : Topo := Topo.v7x

variable {F : FTy → Type} [FloatOps F]
-- ==== KMlp.lean ====
abbrev S8192x1024 : Shape := ⟨2, ![8192, 1024]⟩
abbrev S8192x7168 : Shape := ⟨2, ![8192, 7168]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩
abbrev S1x1024 : Shape := ⟨2, ![1, 1024]⟩
abbrev S8x1024 : Shape := ⟨2, ![8, 1024]⟩
abbrev S8192x1 : Shape := ⟨2, ![8192, 1]⟩
abbrev S512x1024 : Shape := ⟨2, ![512, 1024]⟩
abbrev S512x1 : Shape := ⟨2, ![512, 1]⟩
abbrev S512 : Shape := ⟨1, ![512]⟩
abbrev S1024x2048 : Shape := ⟨2, ![1024, 2048]⟩
abbrev S512x4096 : Shape := ⟨2, ![512, 4096]⟩

abbrev nBuf : Space → Nat
  | .hbm => 51
  | .vmem => 58
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x7168, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x4096, .f32⟩
  | .hbm, ⟨10, _⟩ => ⟨S4096x1024, .f32⟩
  | .hbm, ⟨11, _⟩ => ⟨S1024, .f32⟩
  | .hbm, ⟨12, _⟩ => ⟨S1024, .f32⟩
  | .hbm, ⟨13, _⟩ => ⟨S8192x1024, .f32⟩
  | .hbm, ⟨14, _⟩ => ⟨S8192x4096, .f32⟩
  | .hbm, ⟨15, _⟩ => ⟨S8192x1024, .f32⟩
  | .hbm, ⟨16, _⟩ => ⟨S_, .f32⟩
  | .hbm, ⟨17, _⟩ => ⟨S1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S8x1024, .f32⟩
  | .hbm, ⟨27, _⟩ => ⟨S8192x1024, .bf16⟩
  | .hbm, ⟨28, _⟩ => ⟨S8192x1024, .bf16⟩
  | .hbm, ⟨29, _⟩ => ⟨S8192x7168, .bf16⟩
  | .hbm, ⟨30, _⟩ => ⟨S1024x1024, .bf16⟩
  | .hbm, ⟨31, _⟩ => ⟨S1024x1024, .bf16⟩
  | .hbm, ⟨32, _⟩ => ⟨S1024x1024, .bf16⟩
  | .hbm, ⟨33, _⟩ => ⟨S8192x1024, .bf16⟩
  | .hbm, ⟨34, _⟩ => ⟨S8192x1024, .bf16⟩
  | .hbm, ⟨35, _⟩ => ⟨S8192x1024, .bf16⟩
  | .hbm, ⟨36, _⟩ => ⟨S8192x1024, .f32⟩
  | .hbm, ⟨37, _⟩ => ⟨S8192x1, .f32⟩
  | .hbm, ⟨38, _⟩ => ⟨S8192x1024, .bf16⟩
  | .hbm, ⟨39, _⟩ => ⟨S1024x4096, .bf16⟩
  | .hbm, ⟨40, _⟩ => ⟨S8192x4096, .bf16⟩
  | .hbm, ⟨41, _⟩ => ⟨S8192x4096, .bf16⟩
  | .hbm, ⟨42, _⟩ => ⟨S4096x1024, .bf16⟩
  | .hbm, ⟨43, _⟩ => ⟨S8192x1024, .bf16⟩
  | .hbm, ⟨44, _⟩ => ⟨S8x1024, .f32⟩
  | .hbm, ⟨45, _⟩ => ⟨S8192x4096, .bf16⟩
  | .hbm, ⟨46, _⟩ => ⟨S1024x4096, .bf16⟩
  | .hbm, ⟨47, _⟩ => ⟨S4096x1024, .bf16⟩
  | .hbm, ⟨48, _⟩ => ⟨S8192x1024, .bf16⟩
  | .hbm, ⟨49, _⟩ => ⟨S8192x1024, .bf16⟩
  | .hbm, ⟨50, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S8x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S512x1, .f32⟩
  | .local _ .vmem, ⟨23, _⟩ => ⟨S512x1, .f32⟩
  | .local _ .vmem, ⟨24, _⟩ => ⟨S512x1024, .bf16⟩
  | .local _ .vmem, ⟨25, _⟩ => ⟨S512x1024, .bf16⟩
  | .local _ .vmem, ⟨26, _⟩ => ⟨S1024x1024, .bf16⟩
  | .local _ .vmem, ⟨27, _⟩ => ⟨S1024x1024, .bf16⟩
  | .local _ .vmem, ⟨28, _⟩ => ⟨S1024x2048, .bf16⟩
  | .local _ .vmem, ⟨29, _⟩ => ⟨S1024x2048, .bf16⟩
  | .local _ .vmem, ⟨30, _⟩ => ⟨S1024x2048, .bf16⟩
  | .local _ .vmem, ⟨31, _⟩ => ⟨S1024x2048, .bf16⟩
  | .local _ .vmem, ⟨32, _⟩ => ⟨S1024x2048, .bf16⟩
  | .local _ .vmem, ⟨33, _⟩ => ⟨S1024x2048, .bf16⟩
  | .local _ .vmem, ⟨34, _⟩ => ⟨S512x4096, .bf16⟩
  | .local _ .vmem, ⟨35, _⟩ => ⟨S512x4096, .bf16⟩
  | .local _ .vmem, ⟨36, _⟩ => ⟨S4096x1024, .bf16⟩
  | .local _ .vmem, ⟨37, _⟩ => ⟨S512x1024, .f32⟩
  | .local _ .vmem, ⟨38, _⟩ => ⟨S512x1024, .f32⟩
  | .local _ .vmem, ⟨39, _⟩ => ⟨S512x1024, .f32⟩
  | .local _ .vmem, ⟨40, _⟩ => ⟨S512x1024, .f32⟩
  | .local _ .vmem, ⟨41, _⟩ => ⟨S8x1024, .f32⟩
  | .local _ .vmem, ⟨42, _⟩ => ⟨S512x1024, .bf16⟩
  | .local _ .vmem, ⟨43, _⟩ => ⟨S512x1024, .bf16⟩
  | .local _ .vmem, ⟨44, _⟩ => ⟨S8x1024, .f32⟩
  | .local _ .vmem, ⟨45, _⟩ => ⟨S512x4096, .bf16⟩
  | .local _ .vmem, ⟨46, _⟩ => ⟨S512x4096, .bf16⟩
  | .local _ .vmem, ⟨47, _⟩ => ⟨S4096x1024, .bf16⟩
  | .local _ .vmem, ⟨48, _⟩ => ⟨S512x1024, .bf16⟩
  | .local _ .vmem, ⟨49, _⟩ => ⟨S512x1024, .bf16⟩
  | .local _ .vmem, ⟨50, _⟩ => ⟨S512x1024, .f32⟩
  | .local _ .vmem, ⟨51, _⟩ => ⟨S512x1024, .f32⟩
  | .local _ .vmem, ⟨52, _⟩ => ⟨S512x1, .f32⟩
  | .local _ .vmem, ⟨53, _⟩ => ⟨S512x1, .f32⟩
  | .local _ .vmem, ⟨54, _⟩ => ⟨S8x1024, .f32⟩
  | .local _ .vmem, ⟨55, _⟩ => ⟨S512x1024, .bf16⟩
  | .local _ .vmem, ⟨56, _⟩ => ⟨S512x1024, .bf16⟩
  | .local _ .vmem, ⟨57, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16_0 : Ref sig .tc := ⟨.hbm, 33, rfl⟩
abbrev main_v16_1 : Ref sig .tc := ⟨.hbm, 34, rfl⟩
abbrev main_v16_2 : Ref sig .tc := ⟨.hbm, 35, rfl⟩
abbrev main_v16_3 : Ref sig .tc := ⟨.hbm, 36, rfl⟩
abbrev main_v16_4 : Ref sig .tc := ⟨.hbm, 37, rfl⟩
abbrev main_v16_5 : Ref sig .tc := ⟨.hbm, 38, rfl⟩
abbrev main_v17 : Ref sig .tc := ⟨.hbm, 39, rfl⟩
abbrev main_v18_0 : Ref sig .tc := ⟨.hbm, 40, rfl⟩
abbrev main_v18_1 : Ref sig .tc := ⟨.hbm, 41, rfl⟩
abbrev main_v19 : Ref sig .tc := ⟨.hbm, 42, rfl⟩
abbrev main_v20_0 : Ref sig .tc := ⟨.hbm, 43, rfl⟩
abbrev main_v20_1 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25_0 : Ref sig .tc := ⟨.hbm, 49, rfl⟩
abbrev main_v25_1 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg2_1 : Ref sig .tc := ⟨.vmem, 31, rfl⟩
abbrev cc1_stg3_0 : Ref sig .tc := ⟨.vmem, 32, rfl⟩
abbrev cc1_stg3_1 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg2_0 : Ref sig .tc := ⟨.vmem, 37, rfl⟩
abbrev cc2_stg2_1 : Ref sig .tc := ⟨.vmem, 38, rfl⟩
abbrev cc2_stg3_0 : Ref sig .tc := ⟨.vmem, 39, rfl⟩
abbrev cc2_stg3_1 : Ref sig .tc := ⟨.vmem, 40, rfl⟩
abbrev cc2_stg4_0 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc3_stg0_0 : Ref sig .tc := ⟨.vmem, 45, rfl⟩
abbrev cc3_stg0_1 : Ref sig .tc := ⟨.vmem, 46, rfl⟩
abbrev cc3_stg1_0 : Ref sig .tc := ⟨.vmem, 47, rfl⟩
abbrev cc3_stg2_0 : Ref sig .tc := ⟨.vmem, 48, rfl⟩
abbrev cc3_stg2_1 : Ref sig .tc := ⟨.vmem, 49, rfl⟩
abbrev cc3_stg3_0 : Ref sig .tc := ⟨.vmem, 50, rfl⟩
abbrev cc3_stg3_1 : Ref sig .tc := ⟨.vmem, 51, rfl⟩
abbrev cc3_stg4_0 : Ref sig .tc := ⟨.vmem, 52, rfl⟩
abbrev cc3_stg4_1 : Ref sig .tc := ⟨.vmem, 53, rfl⟩
abbrev cc3_stg5_0 : Ref sig .tc := ⟨.vmem, 54, rfl⟩
abbrev cc3_stg6_0 : Ref sig .tc := ⟨.vmem, 55, rfl⟩
abbrev cc3_stg6_1 : Ref sig .tc := ⟨.vmem, 56, rfl⟩
abbrev cc3_stg7_0 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc1_sem0_0 : DmaSem sig := 26
abbrev cc1_sem0_1 : DmaSem sig := 27
abbrev cc1_sem1_0 : DmaSem sig := 28
abbrev cc1_sem1_1 : DmaSem sig := 29
abbrev cc1_sem2_0 : DmaSem sig := 30
abbrev cc1_sem2_1 : DmaSem sig := 31
abbrev cc1_sem3_0 : DmaSem sig := 32
abbrev cc1_sem3_1 : DmaSem sig := 33
abbrev cc2_sem0_0 : DmaSem sig := 34
abbrev cc2_sem0_1 : DmaSem sig := 35
abbrev cc2_sem1_0 : DmaSem sig := 36
abbrev cc2_sem2_0 : DmaSem sig := 37
abbrev cc2_sem2_1 : DmaSem sig := 38
abbrev cc2_sem3_0 : DmaSem sig := 39
abbrev cc2_sem3_1 : DmaSem sig := 40
abbrev cc2_sem4_0 : DmaSem sig := 41
abbrev cc2_sem5_0 : DmaSem sig := 42
abbrev cc2_sem5_1 : DmaSem sig := 43
abbrev cc2_sem6_0 : DmaSem sig := 44
abbrev cc3_sem0_0 : DmaSem sig := 45
abbrev cc3_sem0_1 : DmaSem sig := 46
abbrev cc3_sem1_0 : DmaSem sig := 47
abbrev cc3_sem2_0 : DmaSem sig := 48
abbrev cc3_sem2_1 : DmaSem sig := 49
abbrev cc3_sem3_0 : DmaSem sig := 50
abbrev cc3_sem3_1 : DmaSem sig := 51
abbrev cc3_sem4_0 : DmaSem sig := 52
abbrev cc3_sem4_1 : DmaSem sig := 53
abbrev cc3_sem5_0 : DmaSem sig := 54
abbrev cc3_sem6_0 : DmaSem sig := 55
abbrev cc3_sem6_1 : DmaSem sig := 56
abbrev cc3_sem7_0 : DmaSem sig := 57

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S8x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S8x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S512x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S512x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S8x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S512x1024 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S8x1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]
-- ==== RMlpIdeal.lean ====
abbrev S8192x1024 : Shape := ⟨2, ![8192, 1024]⟩
abbrev S8192x7168 : Shape := ⟨2, ![8192, 7168]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x1024 : Shape := ⟨2, ![8, 1024]⟩

abbrev nBuf : Space → Nat
  | .hbm => 278
  | .vmem => 0
  | .smem => 0
  | _ => 0

abbrev hbmTy0_0 (i : Nat) : BufTy := match i % 128 with
  | 0 => ⟨S8192x1024, .f32⟩
  | 1 => ⟨S8192x1024, .f32⟩
  | 2 => ⟨S8192x7168, .f32⟩
  | 3 => ⟨S8192x1024, .f32⟩
  | 4 => ⟨S1024x1024, .f32⟩
  | 5 => ⟨S1024x1024, .f32⟩
  | 6 => ⟨S1024x1024, .f32⟩
  | 7 => ⟨S1024, .f32⟩
  | 8 => ⟨S1024, .f32⟩
  | 9 => ⟨S1024x4096, .f32⟩
  | 10 => ⟨S4096x1024, .f32⟩
  | 11 => ⟨S1024, .f32⟩
  | 12 => ⟨S1024, .f32⟩
  | 13 => ⟨S8192x1024, .f32⟩
  | 14 => ⟨S8192x4096, .f32⟩
  | 15 => ⟨S8192x1024, .f32⟩
  | 16 => ⟨S8192x1024, .f32⟩
  | 17 => ⟨S8192x1024, .f32⟩
  | 18 => ⟨S8192x1024, .f32⟩
  | 19 => ⟨S8192x1024, .f32⟩
  | 20 => ⟨S8192x1024, .f32⟩
  | 21 => ⟨S_, .f32⟩
  | 22 => ⟨S8192x1024, .f32⟩
  | 23 => ⟨S8192x1024, .f32⟩
  | 24 => ⟨S_, .f32⟩
  | 25 => ⟨S8192x1024, .f32⟩
  | 26 => ⟨S8192x1024, .f32⟩
  | 27 => ⟨S8192x1024, .f32⟩
  | 28 => ⟨S8192x1024, .f32⟩
  | 29 => ⟨S8192x1024, .f32⟩
  | 30 => ⟨S8192x1024, .f32⟩
  | 31 => ⟨S_, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S8192x1024, .f32⟩
  | 38 => ⟨S8192x1024, .f32⟩
  | 39 => ⟨S_, .f32⟩
  | 40 => ⟨S8192x1024, .f32⟩
  | 41 => ⟨S8192x1024, .f32⟩
  | 42 => ⟨S8192x1024, .f32⟩
  | 43 => ⟨S8192x1024, .f32⟩
  | 44 => ⟨S_, .f32⟩
  | 45 => ⟨S8192, .f32⟩
  | 46 => ⟨S8192x1, .f32⟩
  | 47 => ⟨S_, .f32⟩
  | 48 => ⟨S8192x1, .f32⟩
  | 49 => ⟨S8192x1, .f32⟩
  | 50 => ⟨S8192x1024, .f32⟩
  | 51 => ⟨S8192x1024, .f32⟩
  | 52 => ⟨S8192x1024, .f32⟩
  | 53 => ⟨S_, .f32⟩
  | 54 => ⟨S8192x1024, .f32⟩
  | 55 => ⟨S8192x1024, .f32⟩
  | 56 => ⟨S_, .f32⟩
  | 57 => ⟨S8192, .f32⟩
  | 58 => ⟨S8192x1, .f32⟩
  | 59 => ⟨S_, .f32⟩
  | 60 => ⟨S8192x1, .f32⟩
  | 61 => ⟨S8192x1, .f32⟩
  | 62 => ⟨S8192x1024, .f32⟩
  | 63 => ⟨S8192x1024, .f32⟩
  | 64 => ⟨S_, .f32⟩
  | 65 => ⟨S8192x1, .f32⟩
  | 66 => ⟨S8192x1, .f32⟩
  | 67 => ⟨S8192x1, .f32⟩
  | 68 => ⟨S8192x1, .f32⟩
  | 69 => ⟨S_, .f32⟩
  | 70 => ⟨S8192x1, .f32⟩
  | 71 => ⟨S8192x1, .f32⟩
  | 72 => ⟨S8192x1024, .f32⟩
  | 73 => ⟨S8192x1024, .f32⟩
  | 74 => ⟨S1x1024, .f32⟩
  | 75 => ⟨S8192x1024, .f32⟩
  | 76 => ⟨S8192x1024, .f32⟩
  | 77 => ⟨S1x1024, .f32⟩
  | 78 => ⟨S8192x1024, .f32⟩
  | 79 => ⟨S8192x1024, .f32⟩
  | 80 => ⟨S8192x4096, .f32⟩
  | 81 => ⟨S_, .f32⟩
  | 82 => ⟨S8192x1024, .f32⟩
  | 83 => ⟨S8192x1024, .f32⟩
  | 84 => ⟨S_, .f32⟩
  | 85 => ⟨S8192x4096, .f32⟩
  | 86 => ⟨S8192x4096, .f32⟩
  | 87 => ⟨S8192x4096, .f32⟩
  | 88 => ⟨S8192x1024, .f32⟩
  | 89 => ⟨S8192x1024, .f32⟩
  | 90 => ⟨S_, .f32⟩
  | 91 => ⟨S8192, .f32⟩
  | 92 => ⟨S8192x1, .f32⟩
  | 93 => ⟨S_, .f32⟩
  | 94 => ⟨S8192x1, .f32⟩
  | 95 => ⟨S8192x1, .f32⟩
  | 96 => ⟨S8192x1024, .f32⟩
  | 97 => ⟨S8192x1024, .f32⟩
  | 98 => ⟨S8192x1024, .f32⟩
  | 99 => ⟨S_, .f32⟩
  | 100 => ⟨S8192x1024, .f32⟩
  | 101 => ⟨S8192x1024, .f32⟩
  | 102 => ⟨S_, .f32⟩
  | 103 => ⟨S8192, .f32⟩
  | 104 => ⟨S8192x1, .f32⟩
  | 105 => ⟨S_, .f32⟩
  | 106 => ⟨S8192x1, .f32⟩
  | 107 => ⟨S8192x1, .f32⟩
  | 108 => ⟨S8192x1024, .f32⟩
  | 109 => ⟨S8192x1024, .f32⟩
  | 110 => ⟨S_, .f32⟩
  | 111 => ⟨S8192x1, .f32⟩
  | 112 => ⟨S8192x1, .f32⟩
  | 113 => ⟨S8192x1, .f32⟩
  | 114 => ⟨S8192x1, .f32⟩
  | 115 => ⟨S_, .f32⟩
  | 116 => ⟨S8192x1, .f32⟩
  | 117 => ⟨S8192x1, .f32⟩
  | 118 => ⟨S8192x1024, .f32⟩
  | 119 => ⟨S8192x1024, .f32⟩
  | 120 => ⟨S1x1024, .f32⟩
  | 121 => ⟨S8192x1024, .f32⟩
  | 122 => ⟨S8192x1024, .f32⟩
  | 123 => ⟨S1x1024, .f32⟩
  | 124 => ⟨S8192x1024, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S_, .f32⟩
  | 1 => ⟨S8192x1024, .f32⟩
  | 2 => ⟨S8192x1024, .f32⟩
  | 3 => ⟨S_, .f32⟩
  | 4 => ⟨S8192, .f32⟩
  | 5 => ⟨S_, .f32⟩
  | 6 => ⟨S8192, .f32⟩
  | 7 => ⟨S8192, .f32⟩
  | 8 => ⟨S_, .f32⟩
  | 9 => ⟨S_, .f32⟩
  | 10 => ⟨S_, .f32⟩
  | 11 => ⟨S_, .f32⟩
  | 12 => ⟨S_, .f32⟩
  | 13 => ⟨S1024, .f32⟩
  | 14 => ⟨S_, .f32⟩
  | 15 => ⟨S1024, .f32⟩
  | 16 => ⟨S8192x1024, .f32⟩
  | 17 => ⟨S_, .f32⟩
  | 18 => ⟨S_, .f32⟩
  | 19 => ⟨S_, .f32⟩
  | 20 => ⟨S8192, .f32⟩
  | 21 => ⟨S_, .f32⟩
  | 22 => ⟨S8192, .f32⟩
  | 23 => ⟨S8192, .f32⟩
  | 24 => ⟨S8192x1024, .f32⟩
  | 25 => ⟨S8192x1024, .f32⟩
  | 26 => ⟨S8192x1024, .f32⟩
  | 27 => ⟨S_, .f32⟩
  | 28 => ⟨S1024, .f32⟩
  | 29 => ⟨S1x1024, .f32⟩
  | 30 => ⟨S_, .f32⟩
  | 31 => ⟨S1024, .f32⟩
  | 32 => ⟨S8192x1024, .f32⟩
  | 33 => ⟨S_, .f32⟩
  | 34 => ⟨S1024, .f32⟩
  | 35 => ⟨S1x1024, .f32⟩
  | 36 => ⟨S8192x1024, .f32⟩
  | 37 => ⟨S8192x1024, .f32⟩
  | 38 => ⟨S_, .f32⟩
  | 39 => ⟨S1024, .f32⟩
  | 40 => ⟨S8192x1024, .f32⟩
  | 41 => ⟨S_, .f32⟩
  | 42 => ⟨S8192, .f32⟩
  | 43 => ⟨S8192x1, .f32⟩
  | 44 => ⟨S8192x1024, .f32⟩
  | 45 => ⟨S8192x1024, .f32⟩
  | 46 => ⟨S8192x1, .f32⟩
  | 47 => ⟨S8192x1024, .f32⟩
  | 48 => ⟨S_, .f32⟩
  | 49 => ⟨S8192, .f32⟩
  | 50 => ⟨S8192x1, .f32⟩
  | 51 => ⟨S_, .f32⟩
  | 52 => ⟨S8192x1, .f32⟩
  | 53 => ⟨S8192x1, .f32⟩
  | 54 => ⟨S_, .f32⟩
  | 55 => ⟨S8192, .f32⟩
  | 56 => ⟨S8192x1024, .f32⟩
  | 57 => ⟨S8192x1024, .f32⟩
  | 58 => ⟨S8192x1024, .f32⟩
  | 59 => ⟨S_, .f32⟩
  | 60 => ⟨S8192, .f32⟩
  | 61 => ⟨S8192x1, .f32⟩
  | 62 => ⟨S8192x1024, .f32⟩
  | 63 => ⟨S8192x1, .f32⟩
  | 64 => ⟨S_, .f32⟩
  | 65 => ⟨S8192x1, .f32⟩
  | 66 => ⟨S8192x1, .f32⟩
  | 67 => ⟨S_, .f32⟩
  | 68 => ⟨S8192, .f32⟩
  | 69 => ⟨S8192x1024, .f32⟩
  | 70 => ⟨S8192x1024, .f32⟩
  | 71 => ⟨S_, .f32⟩
  | 72 => ⟨S8192x1024, .f32⟩
  | 73 => ⟨S_, .f32⟩
  | 74 => ⟨S8192x1024, .f32⟩
  | 75 => ⟨S8192x1024, .f32⟩
  | 76 => ⟨S8192x1024, .f32⟩
  | 77 => ⟨S8192x1024, .f32⟩
  | 78 => ⟨S8192x1024, .f32⟩
  | 79 => ⟨S_, .f32⟩
  | 80 => ⟨S1024, .f32⟩
  | 81 => ⟨S1x1024, .f32⟩
  | 82 => ⟨S_, .f32⟩
  | 83 => ⟨S1024, .f32⟩
  | 84 => ⟨S8192x1024, .f32⟩
  | 85 => ⟨S_, .f32⟩
  | 86 => ⟨S1024, .f32⟩
  | 87 => ⟨S1x1024, .f32⟩
  | 88 => ⟨S8192x1024, .f32⟩
  | 89 => ⟨S8192x1024, .f32⟩
  | 90 => ⟨S_, .f32⟩
  | 91 => ⟨S1024, .f32⟩
  | 92 => ⟨S8192x1024, .f32⟩
  | 93 => ⟨S_, .f32⟩
  | 94 => ⟨S8192, .f32⟩
  | 95 => ⟨S8192x1, .f32⟩
  | 96 => ⟨S8192x1024, .f32⟩
  | 97 => ⟨S8192x1024, .f32⟩
  | 98 => ⟨S8192x1, .f32⟩
  | 99 => ⟨S8192x1024, .f32⟩
  | 100 => ⟨S_, .f32⟩
  | 101 => ⟨S8192, .f32⟩
  | 102 => ⟨S8192x1, .f32⟩
  | 103 => ⟨S_, .f32⟩
  | 104 => ⟨S8192x1, .f32⟩
  | 105 => ⟨S8192x1, .f32⟩
  | 106 => ⟨S_, .f32⟩
  | 107 => ⟨S8192, .f32⟩
  | 108 => ⟨S8192x1024, .f32⟩
  | 109 => ⟨S8192x1024, .f32⟩
  | 110 => ⟨S8192x1024, .f32⟩
  | 111 => ⟨S_, .f32⟩
  | 112 => ⟨S8192, .f32⟩
  | 113 => ⟨S8192x1, .f32⟩
  | 114 => ⟨S8192x1024, .f32⟩
  | 115 => ⟨S8192x1, .f32⟩
  | 116 => ⟨S_, .f32⟩
  | 117 => ⟨S8192x1, .f32⟩
  | 118 => ⟨S8192x1, .f32⟩
  | 119 => ⟨S_, .f32⟩
  | 120 => ⟨S8192, .f32⟩
  | 121 => ⟨S8192x1024, .f32⟩
  | 122 => ⟨S8192x1024, .f32⟩
  | 123 => ⟨S_, .f32⟩
  | 124 => ⟨S1024, .f32⟩
  | 125 => ⟨S1x1024, .f32⟩
  | 126 => ⟨S1x1024, .f32⟩
  | 127 => ⟨S1x1024, .f32⟩
  | _ => ⟨S8192x1024, .f32⟩

abbrev hbmTy0_2 (i : Nat) : BufTy := match i % 128 with
  | 0 => ⟨S1x1024, .f32⟩
  | 1 => ⟨S1x1024, .f32⟩
  | 2 => ⟨S1x1024, .f32⟩
  | 3 => ⟨S1x1024, .f32⟩
  | 4 => ⟨S1x1024, .f32⟩
  | 5 => ⟨S8x1024, .f32⟩
  | 6 => ⟨S1x1024, .f32⟩
  | 7 => ⟨S1x1024, .f32⟩
  | 8 => ⟨S1x1024, .f32⟩
  | 9 => ⟨S1x1024, .f32⟩
  | 10 => ⟨S1x1024, .f32⟩
  | 11 => ⟨S1x1024, .f32⟩
  | 12 => ⟨S1x1024, .f32⟩
  | 13 => ⟨S1x1024, .f32⟩
  | 14 => ⟨S8x1024, .f32⟩
  | 15 => ⟨S8192x1024, .bf16⟩
  | 16 => ⟨S8192x1024, .bf16⟩
  | 17 => ⟨S8192x1024, .bf16⟩
  | 18 => ⟨S8192x1024, .bf16⟩
  | 19 => ⟨S8192x4096, .bf16⟩
  | 20 => ⟨S8192x1024, .bf16⟩
  | 21 => ⟨S8192x1024, .bf16⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_4 : Ref sig .tc := ⟨.hbm, 44, rfl⟩
abbrev main_v23 : Ref sig .tc := ⟨.hbm, 45, rfl⟩
abbrev main_v24 : Ref sig .tc := ⟨.hbm, 46, rfl⟩
abbrev main_cst_5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_6 : Ref sig .tc := ⟨.hbm, 53, rfl⟩
abbrev main_v30 : Ref sig .tc := ⟨.hbm, 54, rfl⟩
abbrev main_v31 : Ref sig .tc := ⟨.hbm, 55, rfl⟩
abbrev main_cst_7 : Ref sig .tc := ⟨.hbm, 56, rfl⟩
abbrev main_v32 : Ref sig .tc := ⟨.hbm, 57, rfl⟩
abbrev main_v33 : Ref sig .tc := ⟨.hbm, 58, rfl⟩
abbrev main_cst_8 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_9 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_10 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_11 : Ref sig .tc := ⟨.hbm, 81, rfl⟩
abbrev main_v53 : Ref sig .tc := ⟨.hbm, 82, rfl⟩
abbrev main_v54 : Ref sig .tc := ⟨.hbm, 83, rfl⟩
abbrev main_call0_cst : Ref sig .tc := ⟨.hbm, 84, rfl⟩
abbrev main_call0_v0 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_12 : Ref sig .tc := ⟨.hbm, 90, rfl⟩
abbrev main_v59 : Ref sig .tc := ⟨.hbm, 91, rfl⟩
abbrev main_v60 : Ref sig .tc := ⟨.hbm, 92, rfl⟩
abbrev main_cst_13 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_14 : Ref sig .tc := ⟨.hbm, 99, rfl⟩
abbrev main_v66 : Ref sig .tc := ⟨.hbm, 100, rfl⟩
abbrev main_v67 : Ref sig .tc := ⟨.hbm, 101, rfl⟩
abbrev main_cst_15 : Ref sig .tc := ⟨.hbm, 102, rfl⟩
abbrev main_v68 : Ref sig .tc := ⟨.hbm, 103, rfl⟩
abbrev main_v69 : Ref sig .tc := ⟨.hbm, 104, rfl⟩
abbrev main_cst_16 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_17 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_18 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_19 : Ref sig .tc := ⟨.hbm, 128, rfl⟩
abbrev main_v90 : Ref sig .tc := ⟨.hbm, 129, rfl⟩
abbrev main_v91 : Ref sig .tc := ⟨.hbm, 130, rfl⟩
abbrev main_cst_20 : Ref sig .tc := ⟨.hbm, 131, rfl⟩
abbrev main_v92 : Ref sig .tc := ⟨.hbm, 132, rfl⟩
abbrev main_cst_21 : Ref sig .tc := ⟨.hbm, 133, rfl⟩
abbrev main_v93 : Ref sig .tc := ⟨.hbm, 134, rfl⟩
abbrev main_v94 : Ref sig .tc := ⟨.hbm, 135, rfl⟩
abbrev main_cst_22 : Ref sig .tc := ⟨.hbm, 136, rfl⟩
abbrev main_v95 : Ref sig .tc := ⟨.hbm, 137, rfl⟩
abbrev main_cst_23 : Ref sig .tc := ⟨.hbm, 138, rfl⟩
abbrev main_v96 : Ref sig .tc := ⟨.hbm, 139, rfl⟩
abbrev main_cst_24 : Ref sig .tc := ⟨.hbm, 140, rfl⟩
abbrev main_v97 : Ref sig .tc := ⟨.hbm, 141, rfl⟩
abbrev main_cst_25 : Ref sig .tc := ⟨.hbm, 142, rfl⟩
abbrev main_v98 : Ref sig .tc := ⟨.hbm, 143, rfl⟩
abbrev main_v99 : Ref sig .tc := ⟨.hbm, 144, rfl⟩
abbrev main_cst_26 : Ref sig .tc := ⟨.hbm, 145, rfl⟩
abbrev main_cst_27 : Ref sig .tc := ⟨.hbm, 146, rfl⟩
abbrev main_v100 : Ref sig .tc := ⟨.hbm, 147, rfl⟩
abbrev main_v101 : Ref sig .tc := ⟨.hbm, 148, rfl⟩
abbrev main_cst_28 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_cst_29 : Ref sig .tc := ⟨.hbm, 155, rfl⟩
abbrev main_v107 : Ref sig .tc := ⟨.hbm, 156, rfl⟩
abbrev main_v108 : Ref sig .tc := ⟨.hbm, 157, rfl⟩
abbrev main_cst_30 : Ref sig .tc := ⟨.hbm, 158, rfl⟩
abbrev main_v109 : Ref sig .tc := ⟨.hbm, 159, rfl⟩
abbrev main_v110 : Ref sig .tc := ⟨.hbm, 160, rfl⟩
abbrev main_cst_31 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_cst_32 : Ref sig .tc := ⟨.hbm, 166, rfl⟩
abbrev main_v115 : Ref sig .tc := ⟨.hbm, 167, rfl⟩
abbrev main_v116 : Ref sig .tc := ⟨.hbm, 168, rfl⟩
abbrev main_cst_33 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_cst_34 : Ref sig .tc := ⟨.hbm, 176, rfl⟩
abbrev main_v123 : Ref sig .tc := ⟨.hbm, 177, rfl⟩
abbrev main_v124 : Ref sig .tc := ⟨.hbm, 178, rfl⟩
abbrev main_cst_35 : Ref sig .tc := ⟨.hbm, 179, rfl⟩
abbrev main_v125 : Ref sig .tc := ⟨.hbm, 180, rfl⟩
abbrev main_v126 : Ref sig .tc := ⟨.hbm, 181, rfl⟩
abbrev main_cst_36 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_cst_37 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_cst_38 : Ref sig .tc := ⟨.hbm, 192, rfl⟩
abbrev main_v135 : Ref sig .tc := ⟨.hbm, 193, rfl⟩
abbrev main_v136 : Ref sig .tc := ⟨.hbm, 194, rfl⟩
abbrev main_cst_39 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_cst_40 : Ref sig .tc := ⟨.hbm, 199, rfl⟩
abbrev main_v140 : Ref sig .tc := ⟨.hbm, 200, rfl⟩
abbrev main_cst_41 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_cst_42 : Ref sig .tc := ⟨.hbm, 207, rfl⟩
abbrev main_v146 : Ref sig .tc := ⟨.hbm, 208, rfl⟩
abbrev main_v147 : Ref sig .tc := ⟨.hbm, 209, rfl⟩
abbrev main_cst_43 : Ref sig .tc := ⟨.hbm, 210, rfl⟩
abbrev main_v148 : Ref sig .tc := ⟨.hbm, 211, rfl⟩
abbrev main_v149 : Ref sig .tc := ⟨.hbm, 212, rfl⟩
abbrev main_cst_44 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_cst_45 : Ref sig .tc := ⟨.hbm, 218, rfl⟩
abbrev main_v154 : Ref sig .tc := ⟨.hbm, 219, rfl⟩
abbrev main_v155 : Ref sig .tc := ⟨.hbm, 220, rfl⟩
abbrev main_cst_46 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_cst_47 : Ref sig .tc := ⟨.hbm, 228, rfl⟩
abbrev main_v162 : Ref sig .tc := ⟨.hbm, 229, rfl⟩
abbrev main_v163 : Ref sig .tc := ⟨.hbm, 230, rfl⟩
abbrev main_cst_48 : Ref sig .tc := ⟨.hbm, 231, rfl⟩
abbrev main_v164 : Ref sig .tc := ⟨.hbm, 232, rfl⟩
abbrev main_v165 : Ref sig .tc := ⟨.hbm, 233, rfl⟩
abbrev main_cst_49 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_cst_50 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_cst_51 : Ref sig .tc := ⟨.hbm, 244, rfl⟩
abbrev main_v174 : Ref sig .tc := ⟨.hbm, 245, rfl⟩
abbrev main_v175 : Ref sig .tc := ⟨.hbm, 246, rfl⟩
abbrev main_cst_52 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev main_cst_53 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩
abbrev main_v182 : Ref sig .tc := ⟨.hbm, 255, rfl⟩
abbrev main_v183 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩

abbrev nD : Nat := 1
abbrev τ : Topo := Topo.v7x

variable {F : FTy → Type} [FloatOps F]
-- ==== KInproj.lean ====
abbrev S8192x1024 : Shape := ⟨2, ![8192, 1024]⟩
abbrev S1024x7168 : Shape := ⟨2, ![1024, 7168]⟩
abbrev S8192x7168 : Shape := ⟨2, ![8192, 7168]⟩
abbrev S7168x1024 : Shape := ⟨2, ![7168, 1024]⟩
abbrev S512x7168 : Shape := ⟨2, ![512, 7168]⟩
abbrev S512x1024 : Shape := ⟨2, ![512, 1024]⟩

abbrev nBuf : Space → Nat
  | .hbm => 9
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x7168, .f32⟩
  | .hbm, ⟨2, _⟩ => ⟨S8192x7168, .f32⟩
  | .hbm, ⟨3, _⟩ => ⟨S8192x1024, .f32⟩
  | .hbm, ⟨4, _⟩ => ⟨S8192x7168, .bf16⟩
  | .hbm, ⟨5, _⟩ => ⟨S1024x7168, .bf16⟩
  | .hbm, ⟨6, _⟩ => ⟨S7168x1024, .bf16⟩
  | .hbm, ⟨7, _⟩ => ⟨S8192x1024, .bf16⟩
  | .hbm, ⟨8, _⟩ => ⟨S8192x1024, .f32⟩
  | .local _ .vmem, ⟨0, _⟩ => ⟨S512x7168, .bf16⟩
  | .local _ .vmem, ⟨1, _⟩ => ⟨S512x7168, .bf16⟩
  | .local _ .vmem, ⟨2, _⟩ => ⟨S7168x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7168x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RInprojIdeal.lean ====
abbrev S8192x1024 : Shape := ⟨2, ![8192, 1024]⟩
abbrev S1024x7168 : Shape := ⟨2, ![1024, 7168]⟩
abbrev S8192x7168 : Shape := ⟨2, ![8192, 7168]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x7168, .f32⟩
  | .hbm, ⟨2, _⟩ => ⟨S8192x7168, .f32⟩
  | .hbm, ⟨3, _⟩ => ⟨S8192x1024, .f32⟩
  | .hbm, ⟨4, _⟩ => ⟨S8192x7168, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== KMixer.lean ====
abbrev S8192x7168 : Shape := ⟨2, ![8192, 7168]⟩
abbrev S3x1024 : Shape := ⟨2, ![3, 1024]⟩
abbrev S31x1024 : Shape := ⟨2, ![31, 1024]⟩
abbrev S1024 : Shape := ⟨1, ![1024]⟩
abbrev S_ : Shape := ⟨0, ![]⟩
abbrev S1x1024 : Shape := ⟨2, ![1, 1024]⟩
abbrev S8x1024 : Shape := ⟨2, ![8, 1024]⟩
abbrev S32x1024 : Shape := ⟨2, ![32, 1024]⟩
abbrev S8192x1024 : Shape := ⟨2, ![8192, 1024]⟩
abbrev S8192x1 : Shape := ⟨2, ![8192, 1]⟩
abbrev S256x1024 : Shape := ⟨2, ![256, 1024]⟩
abbrev S16x1024 : Shape := ⟨2, ![16, 1024]⟩
abbrev S256x1 : Shape := ⟨2, ![256, 1]⟩
abbrev S272x1024 : Shape := ⟨2, ![272, 1024]⟩
abbrev S288x1024 : Shape := ⟨2, ![288, 1024]⟩
abbrev S8x288x128 : Shape := ⟨3, ![8, 288, 128]⟩
abbrev S280x128 : Shape := ⟨2, ![280, 128]⟩
abbrev S1x280x128 : Shape := ⟨3, ![1, 280, 128]⟩
abbrev S64x128 : Shape := ⟨2, ![64, 128]⟩
abbrev S1x128 : Shape := ⟨2, ![1, 128]⟩
abbrev S1x64x128 : Shape := ⟨3, ![1, 64, 128]⟩
abbrev S256 : Shape := ⟨1, ![256]⟩

abbrev nBuf : Space → Nat
  | .hbm => 29
  | .vmem => 35
  | .smem => 0
  | _ => 0

abbrev bufTy : (tb : Table) → Fin (tcTables nBuf tb) → BufTy
  | .hbm, ⟨0, _⟩ => ⟨S8192x7168, .f32⟩
  | .hbm, ⟨1, _⟩ => ⟨S3x1024, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S8x1024, .f32⟩
  | .hbm, ⟨17, _⟩ => ⟨S8192x7168, .bf16⟩
  | .hbm, ⟨18, _⟩ => ⟨S_, .i32⟩
  | .hbm, ⟨19, _⟩ => ⟨S_, .f32⟩
  | .hbm, ⟨20, _⟩ => ⟨S8x1024, .f32⟩
  | .hbm, ⟨21, _⟩ => ⟨S_, .i32⟩
  | .hbm, ⟨22, _⟩ => ⟨S_, .f32⟩
  | .hbm, ⟨23, _⟩ => ⟨S32x1024, .f32⟩
  | .hbm, ⟨24, _⟩ => ⟨S8192x1024, .bf16⟩
  | .hbm, ⟨25, _⟩ => ⟨S8192x1024, .f32⟩
  | .hbm, ⟨26, _⟩ => ⟨S8192x1024, .f32⟩
  | .hbm, ⟨27, _⟩ => ⟨S8192x1, .f32⟩
  | .hbm, ⟨28, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S16x1024, .bf16⟩
  | .local _ .vmem, ⟨11, _⟩ => ⟨S16x1024, .bf16⟩
  | .local _ .vmem, ⟨12, _⟩ => ⟨S16x1024, .bf16⟩
  | .local _ .vmem, ⟨13, _⟩ => ⟨S16x1024, .bf16⟩
  | .local _ .vmem, ⟨14, _⟩ => ⟨S32x1024, .bf16⟩
  | .local _ .vmem, ⟨15, _⟩ => ⟨S32x1024, .bf16⟩
  | .local _ .vmem, ⟨16, _⟩ => ⟨S32x1024, .bf16⟩
  | .local _ .vmem, ⟨17, _⟩ => ⟨S32x1024, .bf16⟩
  | .local _ .vmem, ⟨18, _⟩ => ⟨S8x1024, .f32⟩
  | .local _ .vmem, ⟨19, _⟩ => ⟨S32x1024, .f32⟩
  | .local _ .vmem, ⟨20, _⟩ => ⟨S8x1024, .f32⟩
  | .local _ .vmem, ⟨21, _⟩ => ⟨S256x1024, .bf16⟩
  | .local _ .vmem, ⟨22, _⟩ => ⟨S256x1024, .bf16⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1, .f32⟩
  | .local _ .vmem, ⟨28, _⟩ => ⟨S256x1, .f32⟩
  | .local _ .vmem, ⟨29, _⟩ => ⟨S256x1024, .bf16⟩
  | .local _ .vmem, ⟨30, _⟩ => ⟨S256x1024, .bf16⟩
  | .local _ .vmem, ⟨31, _⟩ => ⟨S272x1024, .f32⟩
  | .local _ .vmem, ⟨32, _⟩ => ⟨S288x1024, .f32⟩
  | .local _ .vmem, ⟨33, _⟩ => ⟨S256x1024, .f32⟩
  | .local _ .vmem, ⟨34, _⟩ => ⟨S8x288x128, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_v11 : Ref sig .tc := ⟨.hbm, 20, rfl⟩
abbrev main_c_0 : Ref sig .tc := ⟨.hbm, 21, rfl⟩
abbrev main_call1_v0 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v13_2 : Ref sig .tc := ⟨.hbm, 26, rfl⟩
abbrev main_v13_3 : Ref sig .tc := ⟨.hbm, 27, rfl⟩
abbrev main_v13_4 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_28 : BitVec 32 := 0#32
  let c8_i32 : BitVec 32 := 8#32
  let v59 : BitVec 32 := Scalar.addi c0_i32_28 c8_i32
  let c1_i32 : BitVec 32 := 1#32
  ⟨c0_i32_28, v59, c1_i32⟩
def k0_mult1 (k0_t1 : Fin k0_t1_loop.trips) : BitVec 32 :=
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  v109
def k0_off1 (k0_t1 : Fin k0_t1_loop.trips) : Fin 2 → Nat :=
  let c1_56 : Index := 1#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v111 : Index := Scalar.indexCast v110
  ![1, v111.toNat]
def k0_off2 (k0_t1 : Fin k0_t1_loop.trips) : Fin 2 → Nat :=
  let c2_60 : Index := 2#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v116 : Index := Scalar.indexCast v110
  ![2, v116.toNat]
def k0_off3 (k0_t1 : Fin k0_t1_loop.trips) : Fin 2 → Nat :=
  let c3 : Index := 3#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v121 : Index := Scalar.indexCast v110
  ![3, v121.toNat]
def k0_off4 (k0_t1 : Fin k0_t1_loop.trips) : Fin 2 → Nat :=
  let c4 : Index := 4#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v126 : Index := Scalar.indexCast v110
  ![4, v126.toNat]
def k0_off5 (k0_t1 : Fin k0_t1_loop.trips) : Fin 2 → Nat :=
  let c5 : Index := 5#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v131 : Index := Scalar.indexCast v110
  ![5, v131.toNat]
def k0_off6 (k0_t1 : Fin k0_t1_loop.trips) : Fin 2 → Nat :=
  let c6 : Index := 6#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v136 : Index := Scalar.indexCast v110
  ![6, v136.toNat]
def k0_off7 (k0_t1 : Fin k0_t1_loop.trips) : Fin 2 → Nat :=
  let c7 : Index := 7#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v141 : Index := Scalar.indexCast v110
  ![7, v141.toNat]
def k0_off8 (k0_t1 : Fin k0_t1_loop.trips) : Fin 2 → Nat :=
  let c0_80 : Index := 0#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v147 : Index := Scalar.indexCast v110
  ![0, v147.toNat]
def k0_off9 (k0_t1 : Fin k0_t1_loop.trips) : Fin 2 → Nat :=
  let c14 : Index := 14#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v150 : Index := Scalar.indexCast v110
  ![14, v150.toNat]
def k0_off10 (k0_t1 : Fin k0_t1_loop.trips) : Fin 2 → Nat :=
  let c1_81 : Index := 1#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v155 : Index := Scalar.indexCast v110
  ![1, v155.toNat]
def k0_off11 (k0_t1 : Fin k0_t1_loop.trips) : Fin 2 → Nat :=
  let c15 : Index := 15#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v158 : Index := Scalar.indexCast v110
  ![15, v158.toNat]
def k0_off12 (k0_t1 : Fin k0_t1_loop.trips) : Fin 2 → Nat :=
  let c2_82 : Index := 2#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v163 : Index := Scalar.indexCast v110
  ![2, v163.toNat]
def k0_off13 (k0_t1 : Fin k0_t1_loop.trips) : Fin 2 → Nat :=
  let c16_83 : Index := 16#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v166 : Index := Scalar.indexCast v110
  ![16, v166.toNat]
def k0_off14 (k0_t1 : Fin k0_t1_loop.trips) : Fin 2 → Nat :=
  let c0_84 : Index := 0#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v171 : Index := Scalar.indexCast v110
  ![0, v171.toNat]
def k0_off15 (k0_t1 : Fin k0_t1_loop.trips) : Fin 2 → Nat :=
  let c0_86 : Index := 0#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v174 : Index := Scalar.indexCast v110
  ![0, v174.toNat]
def k0_off16 (k0_t1 : Fin k0_t1_loop.trips) : Fin 2 → Nat :=
  let c1_90 : Index := 1#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v182 : Index := Scalar.indexCast v110
  ![1, v182.toNat]
def k0_off17 (k0_t1 : Fin k0_t1_loop.trips) : Fin 2 → Nat :=
  let c2_94 : Index := 2#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v190 : Index := Scalar.indexCast v110
  ![2, v190.toNat]
def k0_off18 (k0_t1 : Fin k0_t1_loop.trips) : Fin 2 → Nat :=
  let c3_98 : Index := 3#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v198 : Index := Scalar.indexCast v110
  ![3, v198.toNat]
def k0_off19 (k0_t1 : Fin k0_t1_loop.trips) : Fin 2 → Nat :=
  let c4_102 : Index := 4#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v206 : Index := Scalar.indexCast v110
  ![4, v206.toNat]
def k0_off20 (k0_t1 : Fin k0_t1_loop.trips) : Fin 2 → Nat :=
  let c5_106 : Index := 5#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v214 : Index := Scalar.indexCast v110
  ![5, v214.toNat]
def k0_off21 (k0_t1 : Fin k0_t1_loop.trips) : Fin 2 → Nat :=
  let c6_110 : Index := 6#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v222 : Index := Scalar.indexCast v110
  ![6, v222.toNat]
def k0_off22 (k0_t1 : Fin k0_t1_loop.trips) : Fin 2 → Nat :=
  let c8 : Index := 8#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v225 : Index := Scalar.indexCast v110
  ![8, v225.toNat]
def k0_off23 (k0_t1 : Fin k0_t1_loop.trips) : Fin 2 → Nat :=
  let c7_111 : Index := 7#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v230 : Index := Scalar.indexCast v110
  ![7, v230.toNat]
def k0_off24 (k0_t1 : Fin k0_t1_loop.trips) : Fin 2 → Nat :=
  let c8_115 : Index := 8#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v238 : Index := Scalar.indexCast v110
  ![8, v238.toNat]
def k0_off25 (k0_t1 : Fin k0_t1_loop.trips) : Fin 2 → Nat :=
  let c9 : Index := 9#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v246 : Index := Scalar.indexCast v110
  ![9, v246.toNat]
def k0_off26 (k0_t1 : Fin k0_t1_loop.trips) : Fin 2 → Nat :=
  let c10 : Index := 10#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v254 : Index := Scalar.indexCast v110
  ![10, v254.toNat]
def k0_off27 (k0_t1 : Fin k0_t1_loop.trips) : Fin 2 → Nat :=
  let c11 : Index := 11#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v262 : Index := Scalar.indexCast v110
  ![11, v262.toNat]
def k0_off28 (k0_t1 : Fin k0_t1_loop.trips) : Fin 2 → Nat :=
  let c12 : Index := 12#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v270 : Index := Scalar.indexCast v110
  ![12, v270.toNat]
def k0_off29 (k0_t1 : Fin k0_t1_loop.trips) : Fin 2 → Nat :=
  let c13 : Index := 13#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v278 : Index := Scalar.indexCast v110
  ![13, v278.toNat]
def k0_off30 (k0_t1 : Fin k0_t1_loop.trips) : Fin 2 → Nat :=
  let c14_134 : Index := 14#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v286 : Index := Scalar.indexCast v110
  ![14, v286.toNat]
def k0_off31 (k0_t1 : Fin k0_t1_loop.trips) : Fin 2 → Nat :=
  let c16_135 : Index := 16#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v289 : Index := Scalar.indexCast v110
  ![16, v289.toNat]
def k0_off32 (k0_t1 : Fin k0_t1_loop.trips) : Fin 2 → Nat :=
  let c15_136 : Index := 15#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v294 : Index := Scalar.indexCast v110
  ![15, v294.toNat]
def k0_off33 (k0_t1 : Fin k0_t1_loop.trips) : Fin 2 → Nat :=
  let c16_140 : Index := 16#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v302 : Index := Scalar.indexCast v110
  ![16, v302.toNat]
def k0_off34 (k0_t1 : Fin k0_t1_loop.trips) : Fin 2 → Nat :=
  let c17 : Index := 17#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v310 : Index := Scalar.indexCast v110
  ![17, v310.toNat]
def k0_off35 (k0_t1 : Fin k0_t1_loop.trips) : Fin 2 → Nat :=
  let c18 : Index := 18#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v318 : Index := Scalar.indexCast v110
  ![18, v318.toNat]
def k0_off36 (k0_t1 : Fin k0_t1_loop.trips) : Fin 2 → Nat :=
  let c19 : Index := 19#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v326 : Index := Scalar.indexCast v110
  ![19, v326.toNat]
def k0_off37 (k0_t1 : Fin k0_t1_loop.trips) : Fin 2 → Nat :=
  let c20 : Index := 20#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v334 : Index := Scalar.indexCast v110
  ![20, v334.toNat]
def k0_off38 (k0_t1 : Fin k0_t1_loop.trips) : Fin 2 → Nat :=
  let c21 : Index := 21#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v342 : Index := Scalar.indexCast v110
  ![21, v342.toNat]
def k0_off39 (k0_t1 : Fin k0_t1_loop.trips) : Fin 2 → Nat :=
  let c22 : Index := 22#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v350 : Index := Scalar.indexCast v110
  ![22, v350.toNat]
def k0_off40 (k0_t1 : Fin k0_t1_loop.trips) : Fin 2 → Nat :=
  let c24 : Index := 24#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v353 : Index := Scalar.indexCast v110
  ![24, v353.toNat]
def k0_off41 (k0_t1 : Fin k0_t1_loop.trips) : Fin 2 → Nat :=
  let c23 : Index := 23#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v358 : Index := Scalar.indexCast v110
  ![23, v358.toNat]
def k0_off42 (k0_t1 : Fin k0_t1_loop.trips) : Fin 2 → Nat :=
  let c24_162 : Index := 24#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v366 : Index := Scalar.indexCast v110
  ![24, v366.toNat]
def k0_off43 (k0_t1 : Fin k0_t1_loop.trips) : Fin 2 → Nat :=
  let c25 : Index := 25#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v374 : Index := Scalar.indexCast v110
  ![25, v374.toNat]
def k0_off44 (k0_t1 : Fin k0_t1_loop.trips) : Fin 2 → Nat :=
  let c26 : Index := 26#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v382 : Index := Scalar.indexCast v110
  ![26, v382.toNat]
def k0_off45 (k0_t1 : Fin k0_t1_loop.trips) : Fin 2 → Nat :=
  let c27 : Index := 27#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v390 : Index := Scalar.indexCast v110
  ![27, v390.toNat]
def k0_off46 (k0_t1 : Fin k0_t1_loop.trips) : Fin 2 → Nat :=
  let c28 : Index := 28#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v398 : Index := Scalar.indexCast v110
  ![28, v398.toNat]
def k0_off47 (k0_t1 : Fin k0_t1_loop.trips) : Fin 2 → Nat :=
  let c29 : Index := 29#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v406 : Index := Scalar.indexCast v110
  ![29, v406.toNat]
def k0_off48 (k0_t1 : Fin k0_t1_loop.trips) : Fin 2 → Nat :=
  let c30 : Index := 30#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v414 : Index := Scalar.indexCast v110
  ![30, v414.toNat]
def k0_off49 (k0_t1 : Fin k0_t1_loop.trips) : Fin 2 → Nat :=
  let c32_181 : Index := 32#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v417 : Index := Scalar.indexCast v110
  ![32, v417.toNat]
def k0_off50 (k0_t1 : Fin k0_t1_loop.trips) : Fin 2 → Nat :=
  let c78 : Index := 78#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v430 : Index := Scalar.indexCast v110
  ![78, v430.toNat]
def k0_off51 (k0_t1 : Fin k0_t1_loop.trips) : Fin 2 → Nat :=
  let c79 : Index := 79#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v438 : Index := Scalar.indexCast v110
  ![79, v438.toNat]
def k0_off52 (k0_t1 : Fin k0_t1_loop.trips) : Fin 2 → Nat :=
  let c80 : Index := 80#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v446 : Index := Scalar.indexCast v110
  ![80, v446.toNat]
def k0_off53 (k0_t1 : Fin k0_t1_loop.trips) : Fin 2 → Nat :=
  let c64 : Index := 64#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v451 : Index := Scalar.indexCast v110
  ![64, v451.toNat]
def k0_off54 (k0_t1 : Fin k0_t1_loop.trips) : Fin 2 → Nat :=
  let c72 : Index := 72#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v505 : Index := Scalar.indexCast v110
  ![72, v505.toNat]
def k0_off55 (k0_t1 : Fin k0_t1_loop.trips) : Fin 2 → Nat :=
  let c80_242 : Index := 80#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v569 : Index := Scalar.indexCast v110
  ![80, v569.toNat]
def k0_off56 (k0_t1 : Fin k0_t1_loop.trips) : Fin 2 → Nat :=
  let c88 : Index := 88#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v633 : Index := Scalar.indexCast v110
  ![88, v633.toNat]
def k0_off57 (k0_t1 : Fin k0_t1_loop.trips) : Fin 2 → Nat :=
  let c96 : Index := 96#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v697 : Index := Scalar.indexCast v110
  ![96, v697.toNat]
def k0_off58 (k0_t1 : Fin k0_t1_loop.trips) : Fin 2 → Nat :=
  let c142 : Index := 142#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v710 : Index := Scalar.indexCast v110
  ![142, v710.toNat]
def k0_off59 (k0_t1 : Fin k0_t1_loop.trips) : Fin 2 → Nat :=
  let c143 : Index := 143#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v718 : Index := Scalar.indexCast v110
  ![143, v718.toNat]
def k0_off60 (k0_t1 : Fin k0_t1_loop.trips) : Fin 2 → Nat :=
  let c144 : Index := 144#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v726 : Index := Scalar.indexCast v110
  ![144, v726.toNat]
def k0_off61 (k0_t1 : Fin k0_t1_loop.trips) : Fin 2 → Nat :=
  let c128 : Index := 128#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v731 : Index := Scalar.indexCast v110
  ![128, v731.toNat]
def k0_off62 (k0_t1 : Fin k0_t1_loop.trips) : Fin 2 → Nat :=
  let c136 : Index := 136#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v785 : Index := Scalar.indexCast v110
  ![136, v785.toNat]
def k0_off63 (k0_t1 : Fin k0_t1_loop.trips) : Fin 2 → Nat :=
  let c144_361 : Index := 144#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v849 : Index := Scalar.indexCast v110
  ![144, v849.toNat]
def k0_off64 (k0_t1 : Fin k0_t1_loop.trips) : Fin 2 → Nat :=
  let c152 : Index := 152#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v913 : Index := Scalar.indexCast v110
  ![152, v913.toNat]
def k0_off65 (k0_t1 : Fin k0_t1_loop.trips) : Fin 2 → Nat :=
  let c160 : Index := 160#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v977 : Index := Scalar.indexCast v110
  ![160, v977.toNat]
def k0_off66 (k0_t1 : Fin k0_t1_loop.trips) : Fin 2 → Nat :=
  let c206 : Index := 206#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v990 : Index := Scalar.indexCast v110
  ![206, v990.toNat]
def k0_off67 (k0_t1 : Fin k0_t1_loop.trips) : Fin 2 → Nat :=
  let c207 : Index := 207#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v998 : Index := Scalar.indexCast v110
  ![207, v998.toNat]
def k0_off68 (k0_t1 : Fin k0_t1_loop.trips) : Fin 2 → Nat :=
  let c208 : Index := 208#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v1006 : Index := Scalar.indexCast v110
  ![208, v1006.toNat]
def k0_off69 (k0_t1 : Fin k0_t1_loop.trips) : Fin 2 → Nat :=
  let c192 : Index := 192#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v1011 : Index := Scalar.indexCast v110
  ![192, v1011.toNat]
def k0_off70 (k0_t1 : Fin k0_t1_loop.trips) : Fin 2 → Nat :=
  let c200 : Index := 200#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v1065 : Index := Scalar.indexCast v110
  ![200, v1065.toNat]
def k0_off71 (k0_t1 : Fin k0_t1_loop.trips) : Fin 2 → Nat :=
  let c208_480 : Index := 208#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v1129 : Index := Scalar.indexCast v110
  ![208, v1129.toNat]
def k0_off72 (k0_t1 : Fin k0_t1_loop.trips) : Fin 2 → Nat :=
  let c216 : Index := 216#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v1193 : Index := Scalar.indexCast v110
  ![216, v1193.toNat]
def k0_off73 (k0_t1 : Fin k0_t1_loop.trips) : Fin 2 → Nat :=
  let c224 : Index := 224#32
  let c0_i32_28 : BitVec 32 := 0#32
  let c1_i32 : BitVec 32 := 1#32
  let arg22 : BitVec 32 := Scf.iv c0_i32_28 c1_i32 k0_t1
  let c128_i32 : BitVec 32 := 128#32
  let v109 : BitVec 32 := Scalar.muli arg22 c128_i32
  let v110 : BitVec 32 := v109
  let v1257 : Index := Scalar.indexCast v110
  ![224, v1257.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_6 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_7 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_8 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== RMixerIdeal.lean ====
abbrev S8192x7168 : Shape := ⟨2, ![8192, 7168]⟩
abbrev S3x1024 : Shape := ⟨2, ![3, 1024]⟩
abbrev S31x1024 : Shape := ⟨2, ![31, 1024]⟩
abbrev S1024 : Shape := ⟨1, ![1024]⟩
abbrev S8192x1024 : Shape := ⟨2, ![8192, 1024]⟩
abbrev S8192x3x8192 : Shape := ⟨3, ![8192, 3, 8192]⟩
abbrev S_ : Shape := ⟨0, ![]⟩
abbrev S1x3x1024 : Shape := ⟨3, ![1, 3, 1024]⟩
abbrev S8192x3x1024 : Shape := ⟨3, ![8192, 3, 1024]⟩
abbrev S8192x31x8192 : Shape := ⟨3, ![8192, 31, 8192]⟩
abbrev S1x31x1024 : Shape := ⟨3, ![1, 31, 1024]⟩
abbrev S8192x31x1024 : Shape := ⟨3, ![8192, 31, 1024]⟩
abbrev S1x1024 : Shape := ⟨2, ![1, 1024]⟩
abbrev S8192 : Shape := ⟨1, ![8192]⟩
abbrev S8192x1 : Shape := ⟨2, ![8192, 1]⟩

abbrev nBuf : Space → Nat
  | .hbm => 105
  | .vmem => 0
  | .smem => 0
  | _ => 0

abbrev bufTy : (tb : Table) → Fin (tcTables nBuf tb) → BufTy
  | .hbm, ⟨0, _⟩ => ⟨S8192x7168, .f32⟩
  | .hbm, ⟨1, _⟩ => ⟨S3x1024, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x3x8192, .i32⟩
  | .hbm, ⟨15, _⟩ => ⟨S8192x3x8192, .i32⟩
  | .hbm, ⟨16, _⟩ => ⟨S8192x3x8192, .i32⟩
  | .hbm, ⟨17, _⟩ => ⟨S_, .i32⟩
  | .hbm, ⟨18, _⟩ => ⟨S8192x3x8192, .i32⟩
  | .hbm, ⟨19, _⟩ => ⟨S8192x3x8192, .i32⟩
  | .hbm, ⟨20, _⟩ => ⟨S8192x3x8192, .i32⟩
  | .hbm, ⟨21, _⟩ => ⟨S8192x3x8192, .i1⟩
  | .hbm, ⟨22, _⟩ => ⟨S_, .f32⟩
  | .hbm, ⟨23, _⟩ => ⟨S_, .f32⟩
  | .hbm, ⟨24, _⟩ => ⟨S8192x3x8192, .f32⟩
  | .hbm, ⟨25, _⟩ => ⟨S8192x3x8192, .f32⟩
  | .hbm, ⟨26, _⟩ => ⟨S8192x3x8192, .f32⟩
  | .hbm, ⟨27, _⟩ => ⟨S1x3x1024, .f32⟩
  | .hbm, ⟨28, _⟩ => ⟨S8192x3x1024, .f32⟩
  | .hbm, ⟨29, _⟩ => ⟨S8192x3x1024, .f32⟩
  | .hbm, ⟨30, _⟩ => ⟨S8192x3x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x31x8192, .i32⟩
  | .hbm, ⟨43, _⟩ => ⟨S8192x31x8192, .i32⟩
  | .hbm, ⟨44, _⟩ => ⟨S8192x31x8192, .i32⟩
  | .hbm, ⟨45, _⟩ => ⟨S_, .i32⟩
  | .hbm, ⟨46, _⟩ => ⟨S8192x31x8192, .i32⟩
  | .hbm, ⟨47, _⟩ => ⟨S8192x31x8192, .i32⟩
  | .hbm, ⟨48, _⟩ => ⟨S8192x31x8192, .i32⟩
  | .hbm, ⟨49, _⟩ => ⟨S8192x31x8192, .i1⟩
  | .hbm, ⟨50, _⟩ => ⟨S_, .f32⟩
  | .hbm, ⟨51, _⟩ => ⟨S_, .f32⟩
  | .hbm, ⟨52, _⟩ => ⟨S8192x31x8192, .f32⟩
  | .hbm, ⟨53, _⟩ => ⟨S8192x31x8192, .f32⟩
  | .hbm, ⟨54, _⟩ => ⟨S8192x31x8192, .f32⟩
  | .hbm, ⟨55, _⟩ => ⟨S1x31x1024, .f32⟩
  | .hbm, ⟨56, _⟩ => ⟨S8192x31x1024, .f32⟩
  | .hbm, ⟨57, _⟩ => ⟨S8192x31x1024, .f32⟩
  | .hbm, ⟨58, _⟩ => ⟨S8192x31x1024, .f32⟩
  | .hbm, ⟨59, _⟩ => ⟨S_, .f32⟩
  | .hbm, ⟨60, _⟩ => ⟨S8192x1024, .f32⟩
  | .hbm, ⟨61, _⟩ => ⟨S1x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S8192x1, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .bf16⟩
  | .hbm, ⟨89, _⟩ => ⟨S1x1024, .f32⟩
  | .hbm, ⟨90, _⟩ => ⟨S8192x1024, .f32⟩
  | .hbm, ⟨91, _⟩ => ⟨S8192x1024, .f32⟩
  | .hbm, ⟨92, _⟩ => ⟨S1x1024, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S_, .f32⟩
  | .hbm, ⟨98, _⟩ => ⟨S8192x1024, .f32⟩
  | .hbm, ⟨99, _⟩ => ⟨S8192x1024, .f32⟩
  | .hbm, ⟨100, _⟩ => ⟨S_, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S8192x1024, .bf16⟩
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_cst_6 : Ref sig .tc := ⟨.hbm, 51, rfl⟩
abbrev main_call1_v0 : Ref sig .tc := ⟨.hbm, 52, rfl⟩
abbrev main_call1_v1 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_call2_v0 : Ref sig .tc := ⟨.hbm, 95, rfl⟩
abbrev main_call2_v1 : Ref sig .tc := ⟨.hbm, 96, rfl⟩
abbrev main_call2_cst : Ref sig .tc := ⟨.hbm, 97, rfl⟩
abbrev main_call2_v2 : Ref sig .tc := ⟨.hbm, 98, rfl⟩
abbrev main_call2_v3 : Ref sig .tc := ⟨.hbm, 99, rfl⟩
abbrev main_call2_cst_0 : Ref sig .tc := ⟨.hbm, 100, rfl⟩
abbrev main_call2_v4 : Ref sig .tc := ⟨.hbm, 101, rfl⟩
abbrev main_call2_v5 : Ref sig .tc := ⟨.hbm, 102, rfl⟩
abbrev main_v70 : Ref sig .tc := ⟨.hbm, 103, rfl⟩
abbrev main_v71 : Ref sig .tc := ⟨.hbm, 104, rfl⟩

abbrev nD : Nat := 1
abbrev τ : Topo := Topo.v7x

variable {F : FTy → Type} [FloatOps F]
-- ==== Proof.Down.Up.lean ====
/- The first call of the pair, `mlp_up`: what its two result arrays hold after the grid, at an index. -/
module

public import proofs.«01_k».proof.Proof.Gen.KDownIdeal.Frame
public import Idealize.ShloMosaic.Lib.Pipeline.ValueKit

@[expose] public section

set_option maxRecDepth 16384

noncomputable section

namespace Cert.KDownIdeal.Val

open Idealize.ShloMosaic Idealize.ShloMosaic.TcCoe Idealize.SL.Sem
open Idealize.ShloMosaic.Pipeline (Dat)
open Cert.KDownIdeal Cert.KDownIdeal.Gen

variable (V : (c : Dev nD) → (b : Ref sig .tc) → Buf (Elt Ideal) ((c : Thread nD τ).loc b))

/-- The positive part of the product of the rows by the up weights. -/
def reluUp (X : FVec Ideal S8192x1024 .bf16) (W : FVec Ideal S1024x4096 .bf16) : FVec Ideal S8192x4096 .bf16 :=
  fun i => max (∑ k : Fin 1024, X (ix2 (i 0) k) * W (ix2 k (i 1))) 0

theorem idx0 : ∀ t : Fin cfg0.N, win0_0.index t = ![t.val % 8, 0] ∧ win0_1.index t = ![0, t.val / 8]
    ∧ win0_2.index t = ![t.val % 8, t.val / 8] :=
  (by decide +kernel : ∀ t : Fin grid0.N, _)

theorem r_final (c : Dev nD) : (dat0 V c).arrAt 2 cfg0.N = reluUp (V c main_v0) (V c main_v1) := by
  refine (dat0 V c).arrAt_eq_of_covers 2 _ (by decide +kernel) fun t _ y => ?_
  blk_simp
  rw [after0_2]
  frame_out
  pointwise [k0_pay2, k0_pay1, reluUp]
  blk_point [iblk0, idx0 t]

end Cert.KDownIdeal.Val

end
-- ==== Proof.Down.Grad.lean ====
/- The second call of the pair, `mlp_down_bwd`, and the run of the whole program: its result array as one
   expression of the four arguments. -/
module

public import proofs.«01_k».proof.Proof.Down.Up
public import proofs.«01_k».proof.Proof.Gen.RDownIdeal.Run
public import proofs.«01_k».proof.Proof.Gen.RDownIdeal.Read
public import proofs.«01_k».proof.Defs
public import Idealize.ShloMosaic.Lib.Claim

@[expose] public section

set_option maxRecDepth 16384

noncomputable section

namespace Cert.KDownIdeal.Val

open Idealize.ShloMosaic Idealize.ShloMosaic.TcCoe Idealize.SL.Sem
open Idealize.ShloMosaic.Tactic Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)
open Cert.KDownIdeal Cert.KDownIdeal.Gen

section Region

variable (V : (c : Dev nD) → (b : Ref sig .tc) → Buf (Elt Ideal) ((c : Thread nD τ).loc b))

/-- The cotangent pulled back through the down product, times twice the positive part. -/
def pullDown (Z : FVec Ideal S8192x1024 .bf16) (W : FVec Ideal S4096x1024 .bf16) (R : FVec Ideal S8192x4096 .bf16) :
    FVec Ideal S8192x4096 .bf16 :=
  fun i => (∑ k : Fin 1024, Z (ix2 (i 0) k) * W (ix2 (i 1) k)) * (Ideal.ofBits .f32 0x40000000#32 * R i)

theorem idx1 : ∀ t : Fin cfg1.N, win1_0.index t = ![t.val % 8, 0] ∧ win1_1.index t = ![t.val / 8, 0]
    ∧ win1_2.index t = ![t.val % 8, t.val / 8] ∧ win1_3.index t = ![t.val % 8, t.val / 8] :=
  (by decide +kernel : ∀ t : Fin grid1.N, _)

theorem grad_final (c : Dev nD) :
    (dat1 V c).arrAt 3 cfg1.N = pullDown (V c main_v3) (V c main_v4) (V c main_v2_0) := by
  refine (dat1 V c).arrAt_eq_of_covers 3 _ (by decide +kernel) fun t _ y => ?_
  blk_simp
  rw [after1_3]
  frame_out
  pointwise [k1_pay1, pullDown]
  blk_point [iblk1, idx1 t]

end Region

section Run

variable (m : (ℓ : Loc nD τ sig) → Buf (Elt Ideal) ℓ) (ρ : Dev nD → PrngReg)

theorem result (c : Dev nD) : W4 m ρ c (Proc.devRef .tc main_v5)
    = pullDown (m ((c : Thread nD τ).loc main_arg3)) (m ((c : Thread nD τ).loc main_arg2))
        (reluUp (m ((c : Thread nD τ).loc main_arg0)) (m ((c : Thread nD τ).loc main_arg1))) := by
  have h0 : V1 m ρ c main_v0 = m ((c : Thread nD τ).loc main_arg0) := by
    show StableHlo.after hostOps0 (W0 m ρ c) _ = _
    after_results
    rfl
  have h1 : V1 m ρ c main_v1 = m ((c : Thread nD τ).loc main_arg1) := by
    show StableHlo.after hostOps0 (W0 m ρ c) _ = _
    after_results
    rfl
  have h3 : V3 m ρ c main_v3 = m ((c : Thread nD τ).loc main_arg3) := by
    show StableHlo.after hostOps1 (W2 m ρ c) _ = _
    after_results
    rw [W2_args m ρ c main_arg3 (by decide)]
    rfl
  have h4 : V3 m ρ c main_v4 = m ((c : Thread nD τ).loc main_arg2) := by
    show StableHlo.after hostOps1 (W2 m ρ c) _ = _
    after_results
    rw [W2_args m ρ c main_arg2 (by decide)]
    rfl
  have h2 : V3 m ρ c main_v2_0 = reluUp (m ((c : Thread nD τ).loc main_arg0)) (m ((c : Thread nD τ).loc main_arg1)) := by
    refine (W3_of m ρ c main_v2_0 (by decide)).trans ?_
    refine (hF0 m ρ c 2).symm.trans ((r_final (V1 m ρ) c).trans ?_)
    rw [h0, h1]
  refine (hF1 m ρ c 3).symm.trans ((grad_final (V3 m ρ) c).trans ?_)
  rw [h2, h3, h4]

/-- The result of the pair's kernel is the reference's expression. -/
theorem value (c : Dev nD) (X : FVec Ideal S8192x1024 .f32) (U : FVec Ideal S1024x4096 .f32)
    (W : FVec Ideal S4096x1024 .f32) (Z : FVec Ideal S8192x1024 .f32) :
    pullDown Z W (reluUp X U) = Cert.RDownIdeal.Read.val_main_v13 (F := Ideal) X U W Z := by
  funext i
  rw [← Cert.RDownIdeal.Read.val_main_v13_eq]
  pointwise [pullDown, reluUp]
  split
  · rfl
  · next h => rw [max_eq_right (not_lt.mp h), mul_zero, mul_zero]

theorem run : θ_run defs (onTc (τ := τ) (main (F := Ideal))) ⟨m, fun _ => 0, ρ⟩ (fun r => ∀ c : Dev nD,
      r.2.mem ((c.tc : Thread nD τ).loc main_v5)
        = pullDown (m ((c : Thread nD τ).loc main_arg3)) (m ((c : Thread nD τ).loc main_arg2))
            (reluUp (m ((c : Thread nD τ).loc main_arg0)) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c => ⟨(h c _ (mem_uc main_v5 (by decide))).trans (result m ρ c),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c)⟩)

end Run

/-- The pair's value claim. -/
theorem pair : Cert.algebraic_KDownIdeal_RDownIdeal := by
  pair_intro
  · run_from run m g
  · run_from Cert.RDownIdeal.Value.run m' g'
    exact (value c _ _ _ _).symm

end Cert.KDownIdeal.Val

end
-- ==== Proof.Conv.RunA.lean ====
module

public import proofs.«01_k».proof.Proof.Gen.KConvIdeal.Frame
public import proofs.«01_k».proof.Proof.Gen.KConvIdeal.Loops

@[expose] public section

set_option maxRecDepth 16384

noncomputable section

namespace Cert.KConvIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KConvIdeal.Gen

variable {F : FTy → Type} [FloatOps F]

local notation "𝕄" => MT nD τ sig Unit (Elt F) ℕ (UR sig nD τ) ℕ

/-- The condition of the body's first branch. -/
abbrev first (i : grid0.Coords) : Prop := (Scalar.cmpi .ne (Scalar.extui (Scalar.cmpi .eq (BitVec.ofNat 32 (i 0).val) 0#32)) 0#32) = 1#1
/-- The condition of its last. -/
abbrev last (i : grid0.Coords) : Prop := k0_cond2 i = 1#1

/-- The body at the first point: what it leaves in each buffer that it writes, as a function of what it finds. -/
def runA (c : Dev nD) (i : grid0.Coords) (arg1 : Memref sig .tc .vmem S256x1024 .f32) (harg1 : arg1.IsWhole) (arg2 : Memref sig .tc .vmem S8x1024 .f32) (harg2 : arg2.IsWhole) (arg3 : Memref sig .tc .vmem S256x1024 .f32) (harg3 : arg3.IsWhole) (arg4 : Memref sig .tc .vmem S32x1024 .f32) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S8x1024 .f32) (harg11 : arg11.IsWhole) (arg12 : Memref sig .tc .vmem S32x1024 .f32) (harg12 : arg12.IsWhole) (arg13 : Memref sig .tc .vmem S256x7168 .bf16) (harg13 : arg13.IsWhole) (arg14 : Memref sig .tc .vmem S40x1024 .f32) (harg14 : arg14.IsWhole) (arg15 : Memref sig .tc .vmem S256x1024 .f32) (harg15 : arg15.IsWhole) (arg16 : Memref sig .tc .vmem S256x1024 .f32) (harg16 : arg16.IsWhole) (arg17 : Memref sig .tc .vmem S264x1024 .f32) (harg17 : arg17.IsWhole) (arg18 : Memref sig .tc .vmem S288x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S24x1024 .f32) (harg21 : arg21.IsWhole) (arg22 : Memref sig .tc .vmem S248x1024 .f32) (harg22 : arg22.IsWhole) (arg23 : Memref sig .tc .vmem S8x288x128 .f32) (harg23 : arg23.IsWhole) (h0 : first i) (h1 : ¬last i)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) :
    Σ' (g13 : BufTy.Contents (Elt F) arg13.view.ty), Σ' (g15 : BufTy.Contents (Elt F) arg15.view.ty), Σ' (g16 : BufTy.Contents (Elt F) arg16.view.ty), Σ' (g17 : BufTy.Contents (Elt F) arg17.view.ty), Σ' (g18 : BufTy.Contents (Elt F) arg18.view.ty), Σ' (g19 : BufTy.Contents (Elt F) arg19.view.ty), Σ' (g20 : BufTy.Contents (Elt F) arg20.view.ty), Σ' (g21 : BufTy.Contents (Elt F) arg21.view.ty), Σ' (g22 : BufTy.Contents (Elt F) arg22.view.ty),
    { g23 : BufTy.Contents (Elt F) arg23.view.ty // ∀ (E : Set ℕ),
      (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23)) : sProp 𝕄)
      ⊢ wp frame (wpE (defs₀ (F := F)) Variants.none c none) E (cc0_conv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)
        (fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} g13) ∗ (arg14.view.loc (c : Thread nD τ) ↦[arg14.view.set]{fullShare} f14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21) ∗ (arg22.view.loc (c : Thread nD τ) ↦[arg22.view.set]{fullShare} g22) ∗ (arg23.view.loc (c : Thread nD τ) ↦[arg23.view.set]{fullShare} g23))) } := by
  refine ⟨?_, ?_, ?_, ?_, ?_, ?_, ?_, ?_, ?_, ?_, fun E => ?run⟩
  case run =>
    simp only [cc0_conv_bwd_eq_skeleton]; unfold cc0_conv_bwd_skel
    simp only [k0_part95_eq_skeleton, k0_part96_eq_skeleton]
    iintro ⟨H1, H2, H3, H4, H5, H6, H7, H8, H9, H10, H11, H12, H13, H14, H15, H16, H17, H18, H19, H20, H21, H22, H23⟩
    sl_exec (disch := first | sl_exact h0 | sl_exact h1)
    sl_step
    sl_close

end Cert.KConvIdeal.Body
-- ==== Proof.Conv.RunB.lean ====
module

public import proofs.«01_k».proof.Proof.Gen.KConvIdeal.Frame
public import proofs.«01_k».proof.Proof.Gen.KConvIdeal.Loops
public import proofs.«01_k».proof.Proof.Conv.RunA

@[expose] public section

set_option maxRecDepth 16384

noncomputable section

namespace Cert.KConvIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KConvIdeal.Gen

variable {F : FTy → Type} [FloatOps F]

local notation "𝕄" => MT nD τ sig Unit (Elt F) ℕ (UR sig nD τ) ℕ

/-- The body at the middle point: what it leaves in each buffer that it writes, as a function of what it finds. -/
def runB (c : Dev nD) (i : grid0.Coords) (arg1 : Memref sig .tc .vmem S256x1024 .f32) (harg1 : arg1.IsWhole) (arg2 : Memref sig .tc .vmem S8x1024 .f32) (harg2 : arg2.IsWhole) (arg3 : Memref sig .tc .vmem S256x1024 .f32) (harg3 : arg3.IsWhole) (arg4 : Memref sig .tc .vmem S32x1024 .f32) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S8x1024 .f32) (harg11 : arg11.IsWhole) (arg12 : Memref sig .tc .vmem S32x1024 .f32) (harg12 : arg12.IsWhole) (arg13 : Memref sig .tc .vmem S256x7168 .bf16) (harg13 : arg13.IsWhole) (arg14 : Memref sig .tc .vmem S40x1024 .f32) (harg14 : arg14.IsWhole) (arg15 : Memref sig .tc .vmem S256x1024 .f32) (harg15 : arg15.IsWhole) (arg16 : Memref sig .tc .vmem S256x1024 .f32) (harg16 : arg16.IsWhole) (arg17 : Memref sig .tc .vmem S264x1024 .f32) (harg17 : arg17.IsWhole) (arg18 : Memref sig .tc .vmem S288x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S24x1024 .f32) (harg21 : arg21.IsWhole) (arg22 : Memref sig .tc .vmem S248x1024 .f32) (harg22 : arg22.IsWhole) (arg23 : Memref sig .tc .vmem S8x288x128 .f32) (harg23 : arg23.IsWhole) (h0 : ¬first i) (h1 : ¬last i)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) :
    Σ' (g13 : BufTy.Contents (Elt F) arg13.view.ty), Σ' (g15 : BufTy.Contents (Elt F) arg15.view.ty), Σ' (g16 : BufTy.Contents (Elt F) arg16.view.ty), Σ' (g17 : BufTy.Contents (Elt F) arg17.view.ty), Σ' (g18 : BufTy.Contents (Elt F) arg18.view.ty), Σ' (g19 : BufTy.Contents (Elt F) arg19.view.ty), Σ' (g20 : BufTy.Contents (Elt F) arg20.view.ty), Σ' (g21 : BufTy.Contents (Elt F) arg21.view.ty), Σ' (g22 : BufTy.Contents (Elt F) arg22.view.ty),
    { g23 : BufTy.Contents (Elt F) arg23.view.ty // ∀ (E : Set ℕ),
      (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23)) : sProp 𝕄)
      ⊢ wp frame (wpE (defs₀ (F := F)) Variants.none c none) E (cc0_conv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)
        (fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} g13) ∗ (arg14.view.loc (c : Thread nD τ) ↦[arg14.view.set]{fullShare} f14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21) ∗ (arg22.view.loc (c : Thread nD τ) ↦[arg22.view.set]{fullShare} g22) ∗ (arg23.view.loc (c : Thread nD τ) ↦[arg23.view.set]{fullShare} g23))) } := by
  refine ⟨?_, ?_, ?_, ?_, ?_, ?_, ?_, ?_, ?_, ?_, fun E => ?run⟩
  case run =>
    simp only [cc0_conv_bwd_eq_skeleton]; unfold cc0_conv_bwd_skel
    simp only [k0_part95_eq_skeleton, k0_part96_eq_skeleton]
    iintro ⟨H1, H2, H3, H4, H5, H6, H7, H8, H9, H10, H11, H12, H13, H14, H15, H16, H17, H18, H19, H20, H21, H22, H23⟩
    sl_exec (disch := first | sl_exact h0 | sl_exact h1)
    sl_step
    sl_close

end Cert.KConvIdeal.Body
-- ==== Proof.Conv.RunC.lean ====
module

public import proofs.«01_k».proof.Proof.Gen.KConvIdeal.Frame
public import proofs.«01_k».proof.Proof.Gen.KConvIdeal.Loops
public import proofs.«01_k».proof.Proof.Conv.RunB

@[expose] public section

set_option maxRecDepth 16384

noncomputable section

namespace Cert.KConvIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KConvIdeal.Gen

variable {F : FTy → Type} [FloatOps F]

local notation "𝕄" => MT nD τ sig Unit (Elt F) ℕ (UR sig nD τ) ℕ

/-- The body at the last point: what it leaves in each buffer that it writes, as a function of what it finds. -/
def runC (c : Dev nD) (i : grid0.Coords) (arg1 : Memref sig .tc .vmem S256x1024 .f32) (harg1 : arg1.IsWhole) (arg2 : Memref sig .tc .vmem S8x1024 .f32) (harg2 : arg2.IsWhole) (arg3 : Memref sig .tc .vmem S256x1024 .f32) (harg3 : arg3.IsWhole) (arg4 : Memref sig .tc .vmem S32x1024 .f32) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S8x1024 .f32) (harg11 : arg11.IsWhole) (arg12 : Memref sig .tc .vmem S32x1024 .f32) (harg12 : arg12.IsWhole) (arg13 : Memref sig .tc .vmem S256x7168 .bf16) (harg13 : arg13.IsWhole) (arg14 : Memref sig .tc .vmem S40x1024 .f32) (harg14 : arg14.IsWhole) (arg15 : Memref sig .tc .vmem S256x1024 .f32) (harg15 : arg15.IsWhole) (arg16 : Memref sig .tc .vmem S256x1024 .f32) (harg16 : arg16.IsWhole) (arg17 : Memref sig .tc .vmem S264x1024 .f32) (harg17 : arg17.IsWhole) (arg18 : Memref sig .tc .vmem S288x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S24x1024 .f32) (harg21 : arg21.IsWhole) (arg22 : Memref sig .tc .vmem S248x1024 .f32) (harg22 : arg22.IsWhole) (arg23 : Memref sig .tc .vmem S8x288x128 .f32) (harg23 : arg23.IsWhole) (h0 : ¬first i) (h1 : last i)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) :
    Σ' (g13 : BufTy.Contents (Elt F) arg13.view.ty), Σ' (g14 : BufTy.Contents (Elt F) arg14.view.ty), Σ' (g15 : BufTy.Contents (Elt F) arg15.view.ty), Σ' (g16 : BufTy.Contents (Elt F) arg16.view.ty), Σ' (g17 : BufTy.Contents (Elt F) arg17.view.ty), Σ' (g18 : BufTy.Contents (Elt F) arg18.view.ty), Σ' (g19 : BufTy.Contents (Elt F) arg19.view.ty), Σ' (g20 : BufTy.Contents (Elt F) arg20.view.ty), Σ' (g21 : BufTy.Contents (Elt F) arg21.view.ty), Σ' (g22 : BufTy.Contents (Elt F) arg22.view.ty),
    { g23 : BufTy.Contents (Elt F) arg23.view.ty // ∀ (E : Set ℕ),
      (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23)) : sProp 𝕄)
      ⊢ wp frame (wpE (defs₀ (F := F)) Variants.none c none) E (cc0_conv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)
        (fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21) ∗ (arg22.view.loc (c : Thread nD τ) ↦[arg22.view.set]{fullShare} g22) ∗ (arg23.view.loc (c : Thread nD τ) ↦[arg23.view.set]{fullShare} g23))) } := by
  refine ⟨?_, ?_, ?_, ?_, ?_, ?_, ?_, ?_, ?_, ?_, ?_, fun E => ?run⟩
  case run =>
    simp only [cc0_conv_bwd_eq_skeleton]; unfold cc0_conv_bwd_skel
    simp only [k0_part95_eq_skeleton, k0_part96_eq_skeleton, k0_part90_eq_skeleton, k0_part91_eq_skeleton, k0_part92_eq_skeleton, k0_part93_eq_skeleton, k0_part94_eq_skeleton]
    iintro ⟨H1, H2, H3, H4, H5, H6, H7, H8, H9, H10, H11, H12, H13, H14, H15, H16, H17, H18, H19, H20, H21, H22, H23⟩
    sl_exec (disch := first | sl_exact h0 | sl_exact h1)
    sl_step
    sl_close

end Cert.KConvIdeal.Body
-- ==== Proof.Conv.Cases.lean ====
module

public import proofs.«01_k».proof.Proof.Gen.KConvIdeal.Frame
public import proofs.«01_k».proof.Proof.Gen.KConvIdeal.Loops
public import proofs.«01_k».proof.Proof.Conv.RunC

@[expose] public section

set_option maxRecDepth 16384

noncomputable section

namespace Cert.KConvIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KConvIdeal.Gen

variable {F : FTy → Type} [FloatOps F]

local notation "𝕄" => MT nD τ sig Unit (Elt F) ℕ (UR sig nD τ) ℕ

/-- What the body leaves at the first point in the two outputs' buffers and in the two accumulators. -/
def endsA (c : Dev nD) (i : grid0.Coords) (arg1 : Memref sig .tc .vmem S256x1024 .f32) (harg1 : arg1.IsWhole) (arg2 : Memref sig .tc .vmem S8x1024 .f32) (harg2 : arg2.IsWhole) (arg3 : Memref sig .tc .vmem S256x1024 .f32) (harg3 : arg3.IsWhole) (arg4 : Memref sig .tc .vmem S32x1024 .f32) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S8x1024 .f32) (harg11 : arg11.IsWhole) (arg12 : Memref sig .tc .vmem S32x1024 .f32) (harg12 : arg12.IsWhole) (arg13 : Memref sig .tc .vmem S256x7168 .bf16) (harg13 : arg13.IsWhole) (arg14 : Memref sig .tc .vmem S40x1024 .f32) (harg14 : arg14.IsWhole) (arg15 : Memref sig .tc .vmem S256x1024 .f32) (harg15 : arg15.IsWhole) (arg16 : Memref sig .tc .vmem S256x1024 .f32) (harg16 : arg16.IsWhole) (arg17 : Memref sig .tc .vmem S264x1024 .f32) (harg17 : arg17.IsWhole) (arg18 : Memref sig .tc .vmem S288x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S24x1024 .f32) (harg21 : arg21.IsWhole) (arg22 : Memref sig .tc .vmem S248x1024 .f32) (harg22 : arg22.IsWhole) (arg23 : Memref sig .tc .vmem S8x288x128 .f32) (harg23 : arg23.IsWhole) (h0 : first i) (h1 : ¬last i)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) : BufTy.Contents (Elt F) arg13.view.ty × BufTy.Contents (Elt F) arg14.view.ty × BufTy.Contents (Elt F) arg21.view.ty × BufTy.Contents (Elt F) arg22.view.ty :=
  ((runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23).1, f14, (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23).2.2.2.2.2.2.2.1, (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23).2.2.2.2.2.2.2.2.1)

/-- What the body leaves at the middle point in the two outputs' buffers and in the two accumulators. -/
def endsB (c : Dev nD) (i : grid0.Coords) (arg1 : Memref sig .tc .vmem S256x1024 .f32) (harg1 : arg1.IsWhole) (arg2 : Memref sig .tc .vmem S8x1024 .f32) (harg2 : arg2.IsWhole) (arg3 : Memref sig .tc .vmem S256x1024 .f32) (harg3 : arg3.IsWhole) (arg4 : Memref sig .tc .vmem S32x1024 .f32) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S8x1024 .f32) (harg11 : arg11.IsWhole) (arg12 : Memref sig .tc .vmem S32x1024 .f32) (harg12 : arg12.IsWhole) (arg13 : Memref sig .tc .vmem S256x7168 .bf16) (harg13 : arg13.IsWhole) (arg14 : Memref sig .tc .vmem S40x1024 .f32) (harg14 : arg14.IsWhole) (arg15 : Memref sig .tc .vmem S256x1024 .f32) (harg15 : arg15.IsWhole) (arg16 : Memref sig .tc .vmem S256x1024 .f32) (harg16 : arg16.IsWhole) (arg17 : Memref sig .tc .vmem S264x1024 .f32) (harg17 : arg17.IsWhole) (arg18 : Memref sig .tc .vmem S288x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S24x1024 .f32) (harg21 : arg21.IsWhole) (arg22 : Memref sig .tc .vmem S248x1024 .f32) (harg22 : arg22.IsWhole) (arg23 : Memref sig .tc .vmem S8x288x128 .f32) (harg23 : arg23.IsWhole) (h0 : ¬first i) (h1 : ¬last i)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) : BufTy.Contents (Elt F) arg13.view.ty × BufTy.Contents (Elt F) arg14.view.ty × BufTy.Contents (Elt F) arg21.view.ty × BufTy.Contents (Elt F) arg22.view.ty :=
  ((runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23).1, f14, (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23).2.2.2.2.2.2.2.1, (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23).2.2.2.2.2.2.2.2.1)

/-- What the body leaves at the last point in the two outputs' buffers and in the two accumulators. -/
def endsC (c : Dev nD) (i : grid0.Coords) (arg1 : Memref sig .tc .vmem S256x1024 .f32) (harg1 : arg1.IsWhole) (arg2 : Memref sig .tc .vmem S8x1024 .f32) (harg2 : arg2.IsWhole) (arg3 : Memref sig .tc .vmem S256x1024 .f32) (harg3 : arg3.IsWhole) (arg4 : Memref sig .tc .vmem S32x1024 .f32) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S8x1024 .f32) (harg11 : arg11.IsWhole) (arg12 : Memref sig .tc .vmem S32x1024 .f32) (harg12 : arg12.IsWhole) (arg13 : Memref sig .tc .vmem S256x7168 .bf16) (harg13 : arg13.IsWhole) (arg14 : Memref sig .tc .vmem S40x1024 .f32) (harg14 : arg14.IsWhole) (arg15 : Memref sig .tc .vmem S256x1024 .f32) (harg15 : arg15.IsWhole) (arg16 : Memref sig .tc .vmem S256x1024 .f32) (harg16 : arg16.IsWhole) (arg17 : Memref sig .tc .vmem S264x1024 .f32) (harg17 : arg17.IsWhole) (arg18 : Memref sig .tc .vmem S288x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S24x1024 .f32) (harg21 : arg21.IsWhole) (arg22 : Memref sig .tc .vmem S248x1024 .f32) (harg22 : arg22.IsWhole) (arg23 : Memref sig .tc .vmem S8x288x128 .f32) (harg23 : arg23.IsWhole) (h0 : ¬first i) (h1 : last i)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) : BufTy.Contents (Elt F) arg13.view.ty × BufTy.Contents (Elt F) arg14.view.ty × BufTy.Contents (Elt F) arg21.view.ty × BufTy.Contents (Elt F) arg22.view.ty :=
  ((runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23).1, (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23).2.1, (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23).2.2.2.2.2.2.2.2.1, (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23).2.2.2.2.2.2.2.2.2.1)

/-- The body, whatever the point: with any relation that holds of what each case leaves. -/
theorem body (c : Dev nD) (i : grid0.Coords) (arg1 : Memref sig .tc .vmem S256x1024 .f32) (harg1 : arg1.IsWhole) (arg2 : Memref sig .tc .vmem S8x1024 .f32) (harg2 : arg2.IsWhole) (arg3 : Memref sig .tc .vmem S256x1024 .f32) (harg3 : arg3.IsWhole) (arg4 : Memref sig .tc .vmem S32x1024 .f32) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S8x1024 .f32) (harg11 : arg11.IsWhole) (arg12 : Memref sig .tc .vmem S32x1024 .f32) (harg12 : arg12.IsWhole) (arg13 : Memref sig .tc .vmem S256x7168 .bf16) (harg13 : arg13.IsWhole) (arg14 : Memref sig .tc .vmem S40x1024 .f32) (harg14 : arg14.IsWhole) (arg15 : Memref sig .tc .vmem S256x1024 .f32) (harg15 : arg15.IsWhole) (arg16 : Memref sig .tc .vmem S256x1024 .f32) (harg16 : arg16.IsWhole) (arg17 : Memref sig .tc .vmem S264x1024 .f32) (harg17 : arg17.IsWhole) (arg18 : Memref sig .tc .vmem S288x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S24x1024 .f32) (harg21 : arg21.IsWhole) (arg22 : Memref sig .tc .vmem S248x1024 .f32) (harg22 : arg22.IsWhole) (arg23 : Memref sig .tc .vmem S8x288x128 .f32) (harg23 : arg23.IsWhole) (hne : first i → ¬last i)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) (R : BufTy.Contents (Elt F) arg13.view.ty → BufTy.Contents (Elt F) arg14.view.ty → BufTy.Contents (Elt F) arg21.view.ty → BufTy.Contents (Elt F) arg22.view.ty → Prop)
    (hA : ∀ (h0 : first i) (h1 : ¬last i), R (endsA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23).1 (endsA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23).2.1 (endsA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23).2.2.1 (endsA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23).2.2.2)
    (hB : ∀ (h0 : ¬first i) (h1 : ¬last i), R (endsB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23).1 (endsB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23).2.1 (endsB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23).2.2.1 (endsB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23).2.2.2)
    (hC : ∀ (h0 : ¬first i) (h1 : last i), R (endsC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23).1 (endsC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23).2.1 (endsC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23).2.2.1 (endsC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23).2.2.2) (E : Set ℕ) :
    (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23)) : sProp 𝕄)
      ⊢ wp frame (wpE (defs₀ (F := F)) Variants.none c none) E (cc0_conv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)
        (fun _ => iprop(∃ (g13 : BufTy.Contents (Elt F) arg13.view.ty) (g14 : BufTy.Contents (Elt F) arg14.view.ty) (g15 : BufTy.Contents (Elt F) arg15.view.ty) (g16 : BufTy.Contents (Elt F) arg16.view.ty) (g17 : BufTy.Contents (Elt F) arg17.view.ty) (g18 : BufTy.Contents (Elt F) arg18.view.ty) (g19 : BufTy.Contents (Elt F) arg19.view.ty) (g20 : BufTy.Contents (Elt F) arg20.view.ty) (g21 : BufTy.Contents (Elt F) arg21.view.ty) (g22 : BufTy.Contents (Elt F) arg22.view.ty) (g23 : BufTy.Contents (Elt F) arg23.view.ty), ⌜R g13 g14 g21 g22⌝ ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21) ∗ (arg22.view.loc (c : Thread nD τ) ↦[arg22.view.set]{fullShare} g22) ∗ (arg23.view.loc (c : Thread nD τ) ↦[arg23.view.set]{fullShare} g23))) := by
  by_cases h0 : first i
  · have h1 : ¬last i := hne h0
    have h := hA h0 h1
    unfold endsA at h; dsimp only at h
    refine triple_restated ((runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23).2.2.2.2.2.2.2.2.2.2 E) rfl .rfl fun _ => ?_
    iintro ⟨H1, H2, H3, H4, H5, H6, H7, H8, H9, H10, H11, H12, H13, H14, H15, H16, H17, H18, H19, H20, H21, H22, H23⟩
    iexists _; iexists _; iexists _; iexists _; iexists _; iexists _; iexists _; iexists _; iexists _; iexists _; iexists _
    isplitr; · ipureintro; exact h
    sl_close
  · by_cases h1 : last i
    · skip
      have h := hC h0 h1
      unfold endsC at h; dsimp only at h
      refine triple_restated ((runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23).2.2.2.2.2.2.2.2.2.2.2 E) rfl .rfl fun _ => ?_
      iintro ⟨H1, H2, H3, H4, H5, H6, H7, H8, H9, H10, H11, H12, H13, H14, H15, H16, H17, H18, H19, H20, H21, H22, H23⟩
      iexists _; iexists _; iexists _; iexists _; iexists _; iexists _; iexists _; iexists _; iexists _; iexists _; iexists _
      isplitr; · ipureintro; exact h
      sl_close
    · skip
      have h := hB h0 h1
      unfold endsB at h; dsimp only at h
      refine triple_restated ((runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23).2.2.2.2.2.2.2.2.2.2 E) rfl .rfl fun _ => ?_
      iintro ⟨H1, H2, H3, H4, H5, H6, H7, H8, H9, H10, H11, H12, H13, H14, H15, H16, H17, H18, H19, H20, H21, H22, H23⟩
      iexists _; iexists _; iexists _; iexists _; iexists _; iexists _; iexists _; iexists _; iexists _; iexists _; iexists _
      isplitr; · ipureintro; exact h
      sl_close

end Cert.KConvIdeal.Body
-- ==== Proof.Conv.Sound.lean ====
module

public import proofs.«01_k».proof.Proof.Gen.KConvIdeal.Frame
public import proofs.«01_k».proof.Proof.Gen.KConvIdeal.Loops
public import proofs.«01_k».proof.Proof.Conv.Cases

@[expose] public section

set_option maxRecDepth 16384

noncomputable section

namespace Cert.KConvIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KConvIdeal.Gen

variable {F : FTy → Type} [FloatOps F]

local notation "𝕄" => MT nD τ sig Unit (Elt F) ℕ (UR sig nD τ) ℕ

/-- What the body keeps at a point with blocks `x1` to `x12`: from accumulators with `st` it leaves accumulators with `st'` and an output
    block with `P12`, and at the last point an output with `P13`. -/
structure Keeps (c : Dev nD) (i : grid0.Coords) (x1 : Vec F S256x1024 .f32) (x2 : Vec F S8x1024 .f32) (x3 : Vec F S256x1024 .f32) (x4 : Vec F S32x1024 .f32) (x5 : Vec F S256x1024 .bf16) (x6 : Vec F S256x1024 .bf16) (x7 : Vec F S256x1024 .bf16) (x8 : Vec F S256x1024 .bf16) (x9 : Vec F S256x1024 .bf16) (x10 : Vec F S256x2048 .bf16) (x11 : Vec F S8x1024 .f32) (x12 : Vec F S32x1024 .f32) (P12 : Vec F S256x7168 .bf16 → Prop) (P13 : Vec F S40x1024 .f32 → Prop) (st st' : Vec F S24x1024 .f32 → Vec F S248x1024 .f32 → Prop) : Prop where
  A : ∀ (arg1 : Memref sig .tc .vmem S256x1024 .f32) (harg1 : arg1.IsWhole) (arg2 : Memref sig .tc .vmem S8x1024 .f32) (harg2 : arg2.IsWhole) (arg3 : Memref sig .tc .vmem S256x1024 .f32) (harg3 : arg3.IsWhole) (arg4 : Memref sig .tc .vmem S32x1024 .f32) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S8x1024 .f32) (harg11 : arg11.IsWhole) (arg12 : Memref sig .tc .vmem S32x1024 .f32) (harg12 : arg12.IsWhole) (arg13 : Memref sig .tc .vmem S256x7168 .bf16) (harg13 : arg13.IsWhole) (arg14 : Memref sig .tc .vmem S40x1024 .f32) (harg14 : arg14.IsWhole) (arg15 : Memref sig .tc .vmem S256x1024 .f32) (harg15 : arg15.IsWhole) (arg16 : Memref sig .tc .vmem S256x1024 .f32) (harg16 : arg16.IsWhole) (arg17 : Memref sig .tc .vmem S264x1024 .f32) (harg17 : arg17.IsWhole) (arg18 : Memref sig .tc .vmem S288x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S24x1024 .f32) (harg21 : arg21.IsWhole) (arg22 : Memref sig .tc .vmem S248x1024 .f32) (harg22 : arg22.IsWhole) (arg23 : Memref sig .tc .vmem S8x288x128 .f32) (harg23 : arg23.IsWhole), ∀ (h0 : first i) (h1 : ¬last i) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty), arg1.view.read (Elt F) f1 = x1 → arg2.view.read (Elt F) f2 = x2 → arg3.view.read (Elt F) f3 = x3 → arg4.view.read (Elt F) f4 = x4 → arg5.view.read (Elt F) f5 = x5 → arg6.view.read (Elt F) f6 = x6 → arg7.view.read (Elt F) f7 = x7 → arg8.view.read (Elt F) f8 = x8 → arg9.view.read (Elt F) f9 = x9 → arg10.view.read (Elt F) f10 = x10 → arg11.view.read (Elt F) f11 = x11 → arg12.view.read (Elt F) f12 = x12 →
      st (arg21.view.read (Elt F) f21) (arg22.view.read (Elt F) f22) →
      P12 (arg13.view.read (Elt F) (endsA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23).1)
        ∧ st' (arg21.view.read (Elt F) (endsA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23).2.2.1) (arg22.view.read (Elt F) (endsA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23).2.2.2)
  B : ∀ (arg1 : Memref sig .tc .vmem S256x1024 .f32) (harg1 : arg1.IsWhole) (arg2 : Memref sig .tc .vmem S8x1024 .f32) (harg2 : arg2.IsWhole) (arg3 : Memref sig .tc .vmem S256x1024 .f32) (harg3 : arg3.IsWhole) (arg4 : Memref sig .tc .vmem S32x1024 .f32) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S8x1024 .f32) (harg11 : arg11.IsWhole) (arg12 : Memref sig .tc .vmem S32x1024 .f32) (harg12 : arg12.IsWhole) (arg13 : Memref sig .tc .vmem S256x7168 .bf16) (harg13 : arg13.IsWhole) (arg14 : Memref sig .tc .vmem S40x1024 .f32) (harg14 : arg14.IsWhole) (arg15 : Memref sig .tc .vmem S256x1024 .f32) (harg15 : arg15.IsWhole) (arg16 : Memref sig .tc .vmem S256x1024 .f32) (harg16 : arg16.IsWhole) (arg17 : Memref sig .tc .vmem S264x1024 .f32) (harg17 : arg17.IsWhole) (arg18 : Memref sig .tc .vmem S288x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S24x1024 .f32) (harg21 : arg21.IsWhole) (arg22 : Memref sig .tc .vmem S248x1024 .f32) (harg22 : arg22.IsWhole) (arg23 : Memref sig .tc .vmem S8x288x128 .f32) (harg23 : arg23.IsWhole), ∀ (h0 : ¬first i) (h1 : ¬last i) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty), arg1.view.read (Elt F) f1 = x1 → arg2.view.read (Elt F) f2 = x2 → arg3.view.read (Elt F) f3 = x3 → arg4.view.read (Elt F) f4 = x4 → arg5.view.read (Elt F) f5 = x5 → arg6.view.read (Elt F) f6 = x6 → arg7.view.read (Elt F) f7 = x7 → arg8.view.read (Elt F) f8 = x8 → arg9.view.read (Elt F) f9 = x9 → arg10.view.read (Elt F) f10 = x10 → arg11.view.read (Elt F) f11 = x11 → arg12.view.read (Elt F) f12 = x12 →
      st (arg21.view.read (Elt F) f21) (arg22.view.read (Elt F) f22) →
      P12 (arg13.view.read (Elt F) (endsB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23).1)
        ∧ st' (arg21.view.read (Elt F) (endsB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23).2.2.1) (arg22.view.read (Elt F) (endsB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23).2.2.2)
  C : ∀ (arg1 : Memref sig .tc .vmem S256x1024 .f32) (harg1 : arg1.IsWhole) (arg2 : Memref sig .tc .vmem S8x1024 .f32) (harg2 : arg2.IsWhole) (arg3 : Memref sig .tc .vmem S256x1024 .f32) (harg3 : arg3.IsWhole) (arg4 : Memref sig .tc .vmem S32x1024 .f32) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S8x1024 .f32) (harg11 : arg11.IsWhole) (arg12 : Memref sig .tc .vmem S32x1024 .f32) (harg12 : arg12.IsWhole) (arg13 : Memref sig .tc .vmem S256x7168 .bf16) (harg13 : arg13.IsWhole) (arg14 : Memref sig .tc .vmem S40x1024 .f32) (harg14 : arg14.IsWhole) (arg15 : Memref sig .tc .vmem S256x1024 .f32) (harg15 : arg15.IsWhole) (arg16 : Memref sig .tc .vmem S256x1024 .f32) (harg16 : arg16.IsWhole) (arg17 : Memref sig .tc .vmem S264x1024 .f32) (harg17 : arg17.IsWhole) (arg18 : Memref sig .tc .vmem S288x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S24x1024 .f32) (harg21 : arg21.IsWhole) (arg22 : Memref sig .tc .vmem S248x1024 .f32) (harg22 : arg22.IsWhole) (arg23 : Memref sig .tc .vmem S8x288x128 .f32) (harg23 : arg23.IsWhole), ∀ (h0 : ¬first i) (h1 : last i) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty), arg1.view.read (Elt F) f1 = x1 → arg2.view.read (Elt F) f2 = x2 → arg3.view.read (Elt F) f3 = x3 → arg4.view.read (Elt F) f4 = x4 → arg5.view.read (Elt F) f5 = x5 → arg6.view.read (Elt F) f6 = x6 → arg7.view.read (Elt F) f7 = x7 → arg8.view.read (Elt F) f8 = x8 → arg9.view.read (Elt F) f9 = x9 → arg10.view.read (Elt F) f10 = x10 → arg11.view.read (Elt F) f11 = x11 → arg12.view.read (Elt F) f12 = x12 →
      st (arg21.view.read (Elt F) f21) (arg22.view.read (Elt F) f22) →
      P12 (arg13.view.read (Elt F) (endsC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23).1) ∧ P13 (arg14.view.read (Elt F) (endsC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23).2.1)
        ∧ st' (arg21.view.read (Elt F) (endsC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23).2.2.1) (arg22.view.read (Elt F) (endsC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23).2.2.2)

theorem sound_kernel (c : Dev nD) (E : Set ℕ) (i : grid0.Coords) (arg1 : Memref sig .tc .vmem S256x1024 .f32) (harg1 : arg1.IsWhole) (arg2 : Memref sig .tc .vmem S8x1024 .f32) (harg2 : arg2.IsWhole) (arg3 : Memref sig .tc .vmem S256x1024 .f32) (harg3 : arg3.IsWhole) (arg4 : Memref sig .tc .vmem S32x1024 .f32) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S8x1024 .f32) (harg11 : arg11.IsWhole) (arg12 : Memref sig .tc .vmem S32x1024 .f32) (harg12 : arg12.IsWhole) (arg13 : Memref sig .tc .vmem S256x7168 .bf16) (harg13 : arg13.IsWhole) (arg14 : Memref sig .tc .vmem S40x1024 .f32) (harg14 : arg14.IsWhole) (arg15 : Memref sig .tc .vmem S256x1024 .f32) (harg15 : arg15.IsWhole) (arg16 : Memref sig .tc .vmem S256x1024 .f32) (harg16 : arg16.IsWhole) (arg17 : Memref sig .tc .vmem S264x1024 .f32) (harg17 : arg17.IsWhole) (arg18 : Memref sig .tc .vmem S288x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S24x1024 .f32) (harg21 : arg21.IsWhole) (arg22 : Memref sig .tc .vmem S248x1024 .f32) (harg22 : arg22.IsWhole) (arg23 : Memref sig .tc .vmem S8x288x128 .f32) (harg23 : arg23.IsWhole) (hne : first i → ¬last i) (x1 : Vec F S256x1024 .f32) (x2 : Vec F S8x1024 .f32) (x3 : Vec F S256x1024 .f32) (x4 : Vec F S32x1024 .f32) (x5 : Vec F S256x1024 .bf16) (x6 : Vec F S256x1024 .bf16) (x7 : Vec F S256x1024 .bf16) (x8 : Vec F S256x1024 .bf16) (x9 : Vec F S256x1024 .bf16) (x10 : Vec F S256x2048 .bf16) (x11 : Vec F S8x1024 .f32) (x12 : Vec F S32x1024 .f32) (y : Vec F S40x1024 .f32) (P12 : Vec F S256x7168 .bf16 → Prop) (P13 : Vec F S40x1024 .f32 → Prop) (st st' : Vec F S24x1024 .f32 → Vec F S248x1024 .f32 → Prop)
    (K : Keeps c i x1 x2 x3 x4 x5 x6 x7 x8 x9 x10 x11 x12 P12 P13 st st') :
    (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ owns (c : Thread nD τ) arg14 fullShare y ∗ (∃ (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty), ⌜st (arg21.view.read (Elt F) f21) (arg22.view.read (Elt F) f22)⌝ ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23))) : sProp 𝕄)
      ⊢ wp frame (wpE (defs₀ (F := F)) Variants.none c none) E (cc0_conv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)
        (fun _ => iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, ⌜P12 d⌝ ∗ owns (c : Thread nD τ) arg13 fullShare d) ∗ (∃ d, ⌜(last i → P13 d) ∧ (¬last i → d = y)⌝ ∗ owns (c : Thread nD τ) arg14 fullShare d) ∗ (∃ (g15 : BufTy.Contents (Elt F) arg15.view.ty) (g16 : BufTy.Contents (Elt F) arg16.view.ty) (g17 : BufTy.Contents (Elt F) arg17.view.ty) (g18 : BufTy.Contents (Elt F) arg18.view.ty) (g19 : BufTy.Contents (Elt F) arg19.view.ty) (g20 : BufTy.Contents (Elt F) arg20.view.ty) (g21 : BufTy.Contents (Elt F) arg21.view.ty) (g22 : BufTy.Contents (Elt F) arg22.view.ty) (g23 : BufTy.Contents (Elt F) arg23.view.ty), ⌜st' (arg21.view.read (Elt F) g21) (arg22.view.read (Elt F) g22)⌝ ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21) ∗ (arg22.view.loc (c : Thread nD τ) ↦[arg22.view.set]{fullShare} g22) ∗ (arg23.view.loc (c : Thread nD τ) ↦[arg23.view.set]{fullShare} g23)))) := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%f15, %f16, %f17, %f18, %f19, %f20, %f21, %f22, %f23, %hst, H15, H16, H17, H18, H19, H20, H21, H22, H23⟩⟩
  have hb := body c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hne f1 f2 f3 f4 f5 f6 f7 f8 f9 f10 f11 f12 f13 f14 f15 f16 f17 f18 f19 f20 f21 f22 f23 (fun g13 g14 g21 g22 => P12 (arg13.view.read (Elt F) g13) ∧ (last i → P13 (arg14.view.read (Elt F) g14)) ∧ (¬last i → arg14.view.read (Elt F) g14 = arg14.view.read (Elt F) f14)
        ∧ st' (arg21.view.read (Elt F) g21) (arg22.view.read (Elt F) g22))
    (fun h0 h1 => have k := K.A arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23 hf1 hf2 hf3 hf4 hf5 hf6 hf7 hf8 hf9 hf10 hf11 hf12 hst
      ⟨k.1, fun h => absurd h h1, fun _ => rfl, k.2⟩)
    (fun h0 h1 => have k := K.B arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23 hf1 hf2 hf3 hf4 hf5 hf6 hf7 hf8 hf9 hf10 hf11 hf12 hst
      ⟨k.1, fun h => absurd h h1, fun _ => rfl, k.2⟩)
    (fun h0 h1 => have k := K.C arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23 hf1 hf2 hf3 hf4 hf5 hf6 hf7 hf8 hf9 hf10 hf11 hf12 hst
      ⟨k.1, fun _ => k.2.1, fun h => absurd h1 h, k.2.2⟩) E
  iapply (triple_restated hb rfl .rfl fun _ => (?_ : _ ⊢ iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, ⌜P12 d⌝ ∗ owns (c : Thread nD τ) arg13 fullShare d) ∗ (∃ d, ⌜(last i → P13 d) ∧ (¬last i → d = y)⌝ ∗ owns (c : Thread nD τ) arg14 fullShare d) ∗ (∃ (g15 : BufTy.Contents (Elt F) arg15.view.ty) (g16 : BufTy.Contents (Elt F) arg16.view.ty) (g17 : BufTy.Contents (Elt F) arg17.view.ty) (g18 : BufTy.Contents (Elt F) arg18.view.ty) (g19 : BufTy.Contents (Elt F) arg19.view.ty) (g20 : BufTy.Contents (Elt F) arg20.view.ty) (g21 : BufTy.Contents (Elt F) arg21.view.ty) (g22 : BufTy.Contents (Elt F) arg22.view.ty) (g23 : BufTy.Contents (Elt F) arg23.view.ty), ⌜st' (arg21.view.read (Elt F) g21) (arg22.view.read (Elt F) g22)⌝ ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21) ∗ (arg22.view.loc (c : Thread nD τ) ↦[arg22.view.set]{fullShare} g22) ∗ (arg23.view.loc (c : Thread nD τ) ↦[arg23.view.set]{fullShare} g23)))))
  on_goal 2 => sl_close
  · unfold owns
    iintro ⟨%g13, %g14, %g15, %g16, %g17, %g18, %g19, %g20, %g21, %g22, %g23, %hR, H1, H2, H3, H4, H5, H6, H7, H8, H9, H10, H11, H12, H13, H14, H15, H16, H17, H18, H19, H20, H21, H22, H23⟩
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    isplitl [H6]
    · iexists f6; isplitr; · ipureintro; exact hf6
      iexact H6
    isplitl [H7]
    · iexists f7; isplitr; · ipureintro; exact hf7
      iexact H7
    isplitl [H8]
    · iexists f8; isplitr; · ipureintro; exact hf8
      iexact H8
    isplitl [H9]
    · iexists f9; isplitr; · ipureintro; exact hf9
      iexact H9
    isplitl [H10]
    · iexists f10; isplitr; · ipureintro; exact hf10
      iexact H10
    isplitl [H11]
    · iexists f11; isplitr; · ipureintro; exact hf11
      iexact H11
    isplitl [H12]
    · iexists f12; isplitr; · ipureintro; exact hf12
      iexact H12
    isplitl [H13]
    · iexists _; isplitr; · ipureintro; exact hR.1
      iexists g13; isplitr; · ipureintro; rfl
      iexact H13
    isplitl [H14]
    · iexists _; isplitr; · ipureintro; exact ⟨hR.2.1, fun h => (hR.2.2.1 h).trans hf14⟩
      iexists g14; isplitr; · ipureintro; rfl
      iexact H14
    iexists g15, g16, g17, g18, g19, g20, g21, g22, g23
    isplitr; · ipureintro; exact hR.2.2.2
    sl_close

end Cert.KConvIdeal.Body
-- ==== Proof.Conv.Data.lean ====
module

public import proofs.«01_k».proof.Proof.Gen.KConvIdeal.Frame
public import proofs.«01_k».proof.Proof.Gen.KConvIdeal.Loops
public import proofs.«01_k».proof.Proof.Conv.Sound
public import Idealize.ShloMosaic.Lib.Claim

@[expose] public section

set_option maxRecDepth 16384

noncomputable section

namespace Cert.KConvIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KConvIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's condition, and the last's, at a point. -/
theorem first_iff : ∀ t : Fin cfg0.N, first (grid0.coords t) ↔ t.val = 0 := by
  have h : ∀ t : Fin 32, first (grid0.coords (t.cast N_0.symm)) ↔ t.val = 0 := by decide +kernel
  exact fun t => h (t.cast N_0)

theorem last_iff : ∀ t : Fin cfg0.N, last (grid0.coords t) ↔ t.val = 31 := by
  have h : ∀ t : Fin 32, last (grid0.coords (t.cast N_0.symm)) ↔ t.val = 31 := by decide +kernel
  exact fun t => h (t.cast N_0)

theorem first_last (t : Fin cfg0.N) (h : first (grid0.coords t)) : ¬last (grid0.coords t) := fun h' => by
  have := (first_iff t).mp h; have := (last_iff t).mp h'; omega

/-- The scratch buffers, the two accumulators at contents with `st`. -/
def scr (c : Dev nD) (st : Vec F S24x1024 .f32 → Vec F S248x1024 .f32 → Prop) : sProp 𝕄 :=
  iprop(∃ (f0 : BufTy.Contents (Elt F) (Memref.whole cc0_scratch0 : Memref sig .tc .vmem S256x1024 .f32).view.ty) (f1 : BufTy.Contents (Elt F) (Memref.whole cc0_scratch1 : Memref sig .tc .vmem S256x1024 .f32).view.ty) (f2 : BufTy.Contents (Elt F) (Memref.whole cc0_scratch2 : Memref sig .tc .vmem S264x1024 .f32).view.ty) (f3 : BufTy.Contents (Elt F) (Memref.whole cc0_scratch3 : Memref sig .tc .vmem S288x1024 .f32).view.ty) (f4 : BufTy.Contents (Elt F) (Memref.whole cc0_scratch4 : Memref sig .tc .vmem S256x1024 .f32).view.ty) (f5 : BufTy.Contents (Elt F) (Memref.whole cc0_scratch5 : Memref sig .tc .vmem S256x1024 .f32).view.ty) (f6 : BufTy.Contents (Elt F) (Memref.whole cc0_scratch6 : Memref sig .tc .vmem S24x1024 .f32).view.ty) (f7 : BufTy.Contents (Elt F) (Memref.whole cc0_scratch7 : Memref sig .tc .vmem S248x1024 .f32).view.ty) (f8 : BufTy.Contents (Elt F) (Memref.whole cc0_scratch8 : Memref sig .tc .vmem S8x288x128 .f32).view.ty), ⌜st ((Memref.whole cc0_scratch6 : Memref sig .tc .vmem S24x1024 .f32).view.read (Elt F) f6) ((Memref.whole cc0_scratch7 : Memref sig .tc .vmem S248x1024 .f32).view.read (Elt F) f7)⌝ ∗ ((Memref.whole cc0_scratch0 : Memref sig .tc .vmem S256x1024 .f32).view.loc (c : Thread nD τ) ↦[(Memref.whole cc0_scratch0 : Memref sig .tc .vmem S256x1024 .f32).view.set]{fullShare} f0) ∗ ((Memref.whole cc0_scratch1 : Memref sig .tc .vmem S256x1024 .f32).view.loc (c : Thread nD τ) ↦[(Memref.whole cc0_scratch1 : Memref sig .tc .vmem S256x1024 .f32).view.set]{fullShare} f1) ∗ ((Memref.whole cc0_scratch2 : Memref sig .tc .vmem S264x1024 .f32).view.loc (c : Thread nD τ) ↦[(Memref.whole cc0_scratch2 : Memref sig .tc .vmem S264x1024 .f32).view.set]{fullShare} f2) ∗ ((Memref.whole cc0_scratch3 : Memref sig .tc .vmem S288x1024 .f32).view.loc (c : Thread nD τ) ↦[(Memref.whole cc0_scratch3 : Memref sig .tc .vmem S288x1024 .f32).view.set]{fullShare} f3) ∗ ((Memref.whole cc0_scratch4 : Memref sig .tc .vmem S256x1024 .f32).view.loc (c : Thread nD τ) ↦[(Memref.whole cc0_scratch4 : Memref sig .tc .vmem S256x1024 .f32).view.set]{fullShare} f4) ∗ ((Memref.whole cc0_scratch5 : Memref sig .tc .vmem S256x1024 .f32).view.loc (c : Thread nD τ) ↦[(Memref.whole cc0_scratch5 : Memref sig .tc .vmem S256x1024 .f32).view.set]{fullShare} f5) ∗ ((Memref.whole cc0_scratch6 : Memref sig .tc .vmem S24x1024 .f32).view.loc (c : Thread nD τ) ↦[(Memref.whole cc0_scratch6 : Memref sig .tc .vmem S24x1024 .f32).view.set]{fullShare} f6) ∗ ((Memref.whole cc0_scratch7 : Memref sig .tc .vmem S248x1024 .f32).view.loc (c : Thread nD τ) ↦[(Memref.whole cc0_scratch7 : Memref sig .tc .vmem S248x1024 .f32).view.set]{fullShare} f7) ∗ ((Memref.whole cc0_scratch8 : Memref sig .tc .vmem S8x288x128 .f32).view.loc (c : Thread nD τ) ↦[(Memref.whole cc0_scratch8 : Memref sig .tc .vmem S8x288x128 .f32).view.set]{fullShare} f8))

/-- The proof data: `st` the accumulators' state before a point, `o12` the first output's block after it, `o13` the second output. -/
def dats (st : Dev nD → ℕ → Vec F S24x1024 .f32 → Vec F S248x1024 .f32 → Prop) (o12 : Dev nD → Fin cfg0.N → Vec F S256x7168 .bf16) (o13 : Dev nD → Vec F S40x1024 .f32) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => o12 c t
    | ⟨13, _⟩ => o13 c
  Φ t := iprop(scr c (st c t.val) ∗ ∃ r, prngReg c r)
  q w := Pipeline.shareOf spec0 w
  owed _ := 0

section
variable (st : Dev nD → ℕ → Vec F S24x1024 .f32 → Vec F S248x1024 .f32 → Prop) (o12 : Dev nD → Fin cfg0.N → Vec F S256x7168 .bf16) (o13 : Dev nD → Vec F S40x1024 .f32)

theorem A_eq (c : Dev nD) (w : Fin cfg0.W) : (dats m st o12 o13 0 c).A w = V m c (Pipeline.arrRef spec0 w) := by
  dsimp only [dats]
theorem after0_0 (c : Dev nD) (t : Fin cfg0.N) : (dats m st o12 o13 0 c).after 0 t = iblk m c 0 t := by dsimp only [dats]
theorem after0_1 (c : Dev nD) (t : Fin cfg0.N) : (dats m st o12 o13 0 c).after 1 t = iblk m c 1 t := by dsimp only [dats]
theorem after0_2 (c : Dev nD) (t : Fin cfg0.N) : (dats m st o12 o13 0 c).after 2 t = iblk m c 2 t := by dsimp only [dats]
theorem after0_3 (c : Dev nD) (t : Fin cfg0.N) : (dats m st o12 o13 0 c).after 3 t = iblk m c 3 t := by dsimp only [dats]
theorem after0_4 (c : Dev nD) (t : Fin cfg0.N) : (dats m st o12 o13 0 c).after 4 t = iblk m c 4 t := by dsimp only [dats]
theorem after0_5 (c : Dev nD) (t : Fin cfg0.N) : (dats m st o12 o13 0 c).after 5 t = iblk m c 5 t := by dsimp only [dats]
theorem after0_6 (c : Dev nD) (t : Fin cfg0.N) : (dats m st o12 o13 0 c).after 6 t = iblk m c 6 t := by dsimp only [dats]
theorem after0_7 (c : Dev nD) (t : Fin cfg0.N) : (dats m st o12 o13 0 c).after 7 t = iblk m c 7 t := by dsimp only [dats]
theorem after0_8 (c : Dev nD) (t : Fin cfg0.N) : (dats m st o12 o13 0 c).after 8 t = iblk m c 8 t := by dsimp only [dats]
theorem after0_9 (c : Dev nD) (t : Fin cfg0.N) : (dats m st o12 o13 0 c).after 9 t = iblk m c 9 t := by dsimp only [dats]
theorem after0_10 (c : Dev nD) (t : Fin cfg0.N) : (dats m st o12 o13 0 c).after 10 t = iblk m c 10 t := by dsimp only [dats]
theorem after0_11 (c : Dev nD) (t : Fin cfg0.N) : (dats m st o12 o13 0 c).after 11 t = iblk m c 11 t := by dsimp only [dats]
theorem after0_12 (c : Dev nD) (t : Fin cfg0.N) : (dats m st o12 o13 0 c).after 12 t = o12 c t := by dsimp only [dats]
theorem after0_13 (c : Dev nD) (t : Fin cfg0.N) : (dats m st o12 o13 0 c).after 13 t = o13 c := by dsimp only [dats]
theorem before0_0 (c : Dev nD) (t : Fin cfg0.N) (d) : (dats m st o12 o13 0 c).before 0 t d = iblk m c 0 t :=
  before0_0_of m (dats m st o12 o13 0 c) (A_eq m st o12 o13 c 0) (after0_0 m st o12 o13 c) t d
theorem before0_1 (c : Dev nD) (t : Fin cfg0.N) (d) : (dats m st o12 o13 0 c).before 1 t d = iblk m c 1 t :=
  before0_1_of m (dats m st o12 o13 0 c) (A_eq m st o12 o13 c 1) (after0_1 m st o12 o13 c) t d
theorem before0_2 (c : Dev nD) (t : Fin cfg0.N) (d) : (dats m st o12 o13 0 c).before 2 t d = iblk m c 2 t :=
  before0_2_of m (dats m st o12 o13 0 c) (A_eq m st o12 o13 c 2) (after0_2 m st o12 o13 c) t d
theorem before0_3 (c : Dev nD) (t : Fin cfg0.N) (d) : (dats m st o12 o13 0 c).before 3 t d = iblk m c 3 t :=
  before0_3_of m (dats m st o12 o13 0 c) (A_eq m st o12 o13 c 3) (after0_3 m st o12 o13 c) t d
theorem before0_4 (c : Dev nD) (t : Fin cfg0.N) (d) : (dats m st o12 o13 0 c).before 4 t d = iblk m c 4 t :=
  before0_4_of m (dats m st o12 o13 0 c) (A_eq m st o12 o13 c 4) (after0_4 m st o12 o13 c) t d
theorem before0_5 (c : Dev nD) (t : Fin cfg0.N) (d) : (dats m st o12 o13 0 c).before 5 t d = iblk m c 5 t :=
  before0_5_of m (dats m st o12 o13 0 c) (A_eq m st o12 o13 c 5) (after0_5 m st o12 o13 c) t d
theorem before0_6 (c : Dev nD) (t : Fin cfg0.N) (d) : (dats m st o12 o13 0 c).before 6 t d = iblk m c 6 t :=
  before0_6_of m (dats m st o12 o13 0 c) (A_eq m st o12 o13 c 6) (after0_6 m st o12 o13 c) t d
theorem before0_7 (c : Dev nD) (t : Fin cfg0.N) (d) : (dats m st o12 o13 0 c).before 7 t d = iblk m c 7 t :=
  before0_7_of m (dats m st o12 o13 0 c) (A_eq m st o12 o13 c 7) (after0_7 m st o12 o13 c) t d
theorem before0_8 (c : Dev nD) (t : Fin cfg0.N) (d) : (dats m st o12 o13 0 c).before 8 t d = iblk m c 8 t :=
  before0_8_of m (dats m st o12 o13 0 c) (A_eq m st o12 o13 c 8) (after0_8 m st o12 o13 c) t d
theorem before0_9 (c : Dev nD) (t : Fin cfg0.N) (d) : (dats m st o12 o13 0 c).before 9 t d = iblk m c 9 t :=
  before0_9_of m (dats m st o12 o13 0 c) (A_eq m st o12 o13 c 9) (after0_9 m st o12 o13 c) t d
theorem before0_10 (c : Dev nD) (t : Fin cfg0.N) (d) : (dats m st o12 o13 0 c).before 10 t d = iblk m c 10 t :=
  before0_10_of m (dats m st o12 o13 0 c) (A_eq m st o12 o13 c 10) (after0_10 m st o12 o13 c) t d
theorem before0_11 (c : Dev nD) (t : Fin cfg0.N) (d) : (dats m st o12 o13 0 c).before 11 t d = iblk m c 11 t :=
  before0_11_of m (dats m st o12 o13 0 c) (A_eq m st o12 o13 c 11) (after0_11 m st o12 o13 c) t d

theorem framed (c : Dev nD) {p : Prog (TpuEff nD τ sig (Elt F) Λ₀ .tc) PUnit} {P R : sProp 𝕄} {Q : PUnit → sProp 𝕄}
    (h : P ⊢ wp frame (wpE (defs₀ (F := F)) Variants.none c none) Set.univ p Q) :
    iprop(P ∗ R) ⊢ wp frame (wpE (defs₀ (F := F)) Variants.none c none) Set.univ p (fun a => iprop(Q a ∗ R)) :=
  (sep_mono_l h).trans (wp_frame_r _ _ _)

/-- The body at any point, between the invariant there and at the next. -/
theorem core (c : Dev nD) (t : Fin cfg0.N) (y : Vec F S40x1024 .f32) (P12 : Vec F S256x7168 .bf16 → Prop) (P13 : Vec F S40x1024 .f32 → Prop)
    (K : Keeps c (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) P12 P13 (st c t.val) (st c (t.val + 1))) :
    (iprop((dats m st o12 o13 0 c).Φ t.castSucc ∗ (dats m st o12 o13 0 c).owesAt () t.castSucc ∗ (∃ d, owns (c : Thread nD τ) (win0_0.stage (cfg0.slots t 0)) fullShare ((dats m st o12 o13 0 c).before 0 t d)) ∗ (∃ d, owns (c : Thread nD τ) (win0_1.stage (cfg0.slots t 1)) fullShare ((dats m st o12 o13 0 c).before 1 t d)) ∗ (∃ d, owns (c : Thread nD τ) (win0_2.stage (cfg0.slots t 2)) fullShare ((dats m st o12 o13 0 c).before 2 t d)) ∗ (∃ d, owns (c : Thread nD τ) (win0_3.stage (cfg0.slots t 3)) fullShare ((dats m st o12 o13 0 c).before 3 t d)) ∗ (∃ d, owns (c : Thread nD τ) (win0_4.stage (cfg0.slots t 4)) fullShare ((dats m st o12 o13 0 c).before 4 t d)) ∗ (∃ d, owns (c : Thread nD τ) (win0_5.stage (cfg0.slots t 5)) fullShare ((dats m st o12 o13 0 c).before 5 t d)) ∗ (∃ d, owns (c : Thread nD τ) (win0_6.stage (cfg0.slots t 6)) fullShare ((dats m st o12 o13 0 c).before 6 t d)) ∗ (∃ d, owns (c : Thread nD τ) (win0_7.stage (cfg0.slots t 7)) fullShare ((dats m st o12 o13 0 c).before 7 t d)) ∗ (∃ d, owns (c : Thread nD τ) (win0_8.stage (cfg0.slots t 8)) fullShare ((dats m st o12 o13 0 c).before 8 t d)) ∗ (∃ d, owns (c : Thread nD τ) (win0_9.stage (cfg0.slots t 9)) fullShare ((dats m st o12 o13 0 c).before 9 t d)) ∗ (∃ d, owns (c : Thread nD τ) (win0_10.stage (cfg0.slots t 10)) fullShare ((dats m st o12 o13 0 c).before 10 t d)) ∗ (∃ d, owns (c : Thread nD τ) (win0_11.stage (cfg0.slots t 11)) fullShare ((dats m st o12 o13 0 c).before 11 t d)) ∗ (∃ d, owns (c : Thread nD τ) (win0_12.stage (cfg0.slots t 12)) fullShare d) ∗ owns (c : Thread nD τ) (win0_13.stage (cfg0.slots t 13)) fullShare y) : sProp 𝕄)
      ⊢ wp frame (wpE (defs₀ (F := F)) Variants.none c none) Set.univ (bodyAt0 t)
        (fun _ => iprop((dats m st o12 o13 0 c).Φ t.succ ∗ (dats m st o12 o13 0 c).owesAt () t.succ ∗ owns (c : Thread nD τ) (win0_0.stage (cfg0.slots t 0)) fullShare ((dats m st o12 o13 0 c).after 0 t) ∗ owns (c : Thread nD τ) (win0_1.stage (cfg0.slots t 1)) fullShare ((dats m st o12 o13 0 c).after 1 t) ∗ owns (c : Thread nD τ) (win0_2.stage (cfg0.slots t 2)) fullShare ((dats m st o12 o13 0 c).after 2 t) ∗ owns (c : Thread nD τ) (win0_3.stage (cfg0.slots t 3)) fullShare ((dats m st o12 o13 0 c).after 3 t) ∗ owns (c : Thread nD τ) (win0_4.stage (cfg0.slots t 4)) fullShare ((dats m st o12 o13 0 c).after 4 t) ∗ owns (c : Thread nD τ) (win0_5.stage (cfg0.slots t 5)) fullShare ((dats m st o12 o13 0 c).after 5 t) ∗ owns (c : Thread nD τ) (win0_6.stage (cfg0.slots t 6)) fullShare ((dats m st o12 o13 0 c).after 6 t) ∗ owns (c : Thread nD τ) (win0_7.stage (cfg0.slots t 7)) fullShare ((dats m st o12 o13 0 c).after 7 t) ∗ owns (c : Thread nD τ) (win0_8.stage (cfg0.slots t 8)) fullShare ((dats m st o12 o13 0 c).after 8 t) ∗ owns (c : Thread nD τ) (win0_9.stage (cfg0.slots t 9)) fullShare ((dats m st o12 o13 0 c).after 9 t) ∗ owns (c : Thread nD τ) (win0_10.stage (cfg0.slots t 10)) fullShare ((dats m st o12 o13 0 c).after 10 t) ∗ owns (c : Thread nD τ) (win0_11.stage (cfg0.slots t 11)) fullShare ((dats m st o12 o13 0 c).after 11 t) ∗ (∃ d, ⌜P12 d⌝ ∗ owns (c : Thread nD τ) (win0_12.stage (cfg0.slots t 12)) fullShare d)
          ∗ (∃ d, ⌜(last (grid0.coords t) → P13 d) ∧ (¬last (grid0.coords t) → d = y)⌝ ∗ owns (c : Thread nD τ) (win0_13.stage (cfg0.slots t 13)) fullShare d))) := by
  unfold bodyAt0
  simp only [before0_0, before0_1, before0_2, before0_3, before0_4, before0_5, before0_6, before0_7, before0_8, before0_9, before0_10, before0_11, after0_0, after0_1, after0_2, after0_3, after0_4, after0_5, after0_6, after0_7, after0_8, after0_9, after0_10, after0_11]
  rw [show (dats m st o12 o13 0 c).owesAt () t.succ = (dats m st o12 o13 0 c).owesAt () t.castSucc from rfl,
    show (dats m st o12 o13 0 c).Φ t.succ = iprop(scr c (st c (t.val + 1)) ∗ ∃ r, prngReg c r) from rfl,
    show (dats m st o12 o13 0 c).Φ t.castSucc = iprop(scr c (st c t.val) ∗ ∃ r, prngReg c r) from rfl]
  unfold scr
  have hk := sound_kernel c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0 : Memref sig .tc .vmem S256x1024 .f32) (Memref.isWhole_whole _) (Memref.whole cc0_scratch1 : Memref sig .tc .vmem S256x1024 .f32) (Memref.isWhole_whole _) (Memref.whole cc0_scratch2 : Memref sig .tc .vmem S264x1024 .f32) (Memref.isWhole_whole _) (Memref.whole cc0_scratch3 : Memref sig .tc .vmem S288x1024 .f32) (Memref.isWhole_whole _) (Memref.whole cc0_scratch4 : Memref sig .tc .vmem S256x1024 .f32) (Memref.isWhole_whole _) (Memref.whole cc0_scratch5 : Memref sig .tc .vmem S256x1024 .f32) (Memref.isWhole_whole _) (Memref.whole cc0_scratch6 : Memref sig .tc .vmem S24x1024 .f32) (Memref.isWhole_whole _) (Memref.whole cc0_scratch7 : Memref sig .tc .vmem S248x1024 .f32) (Memref.isWhole_whole _) (Memref.whole cc0_scratch8 : Memref sig .tc .vmem S8x288x128 .f32) (Memref.isWhole_whole _) (first_last t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y P12 P13 (st c t.val) (st c (t.val + 1)) K
  refine triple_restated (framed c (R := iprop((∃ r, prngReg c r) ∗ (dats m st o12 o13 0 c).owesAt () t.castSucc)) hk) rfl ?_ fun _ => ?_
  · iintro ⟨⟨HS, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, H13⟩
    isplitr [HP Ho]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact HS
    · isplitl [HP]; · iexact HP
      iexact Ho
  · iintro ⟨⟨H0, H1, H2, H3, H4, H5, H6, H7, H8, H9, H10, H11, H12, H13, HS⟩, HP, Ho⟩
    isplitl [HS HP]
    · isplitl [HS]
      · iexact HS
      · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The scratch at entry is the nine buffers at any contents. -/
theorem scr_in (c : Dev nD) (st : Vec F S24x1024 .f32 → Vec F S248x1024 .f32 → Prop) (h : ∀ a b, st a b) :
    Pipeline.ΦA spec0 c ⊢ (iprop(scr c st ∗ ∃ r, prngReg c r) : sProp 𝕄) := by
  unfold Pipeline.ΦA scr
  rw [scopedRest0_eq]
  iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩⟩, HP⟩
  isplitr [HP]
  · iexists f0, f1, f2, f3, f4, f5, f6, f7, f8
    isplitr; · ipureintro; exact h _ _
    simp only [View.set_whole]
    sl_close
  · iexact HP

theorem scr_out (c : Dev nD) (st : Vec F S24x1024 .f32 → Vec F S248x1024 .f32 → Prop) :
    (iprop(scr c st ∗ ∃ r, prngReg c r) : sProp 𝕄) ⊢ Pipeline.ΦA spec0 c := by
  unfold Pipeline.ΦA scr
  rw [scopedRest0_eq]
  iintro ⟨⟨%f0, %f1, %f2, %f3, %f4, %f5, %f6, %f7, %f8, -, H0, H1, H2, H3, H4, H5, H6, H7, H8⟩, HP⟩
  isplitr [HP]
  · simp only [View.set_whole]
    sl_close
  · iexact HP
end

end Cert.KConvIdeal.Body
-- ==== Proof.Conv.Same.lean ====
module
public import proofs.«01_k».proof.KConv
public import proofs.«01_k».proof.KConvIdeal
@[expose] public section
open Idealize.ShloMosaic
namespace Cert.KConvIdeal.Same
set_option maxRecDepth 65536
set_option maxHeartbeats 4000000
variable {F : FTy → Type} [FloatOps F] [Cert.KConv.Facts] [Cert.KConvIdeal.Facts]
theorem p3 : @Cert.KConv.cc0_conv_bwd F _ _ = @Cert.KConvIdeal.cc0_conv_bwd F _ _ := rfl
theorem p4 : @Cert.KConv.defs₀ F _ _ = @Cert.KConvIdeal.defs₀ F _ _ := by
  unfold Cert.KConv.defs₀ Cert.KConvIdeal.defs₀
  refine congrArg Defs.onTc ?_
  funext l x
  match l, x with
  | 0, (i, s) => rfl
theorem p5 : @Cert.KConv.defs F _ _ = @Cert.KConvIdeal.defs F _ _ := by
  unfold Cert.KConv.defs Cert.KConvIdeal.defs
  exact congrArg (Pipeline.defs (Cert.KConvIdeal.pcfgs (F := F))) p4
end Cert.KConvIdeal.Same
-- ==== Proof.Conv.Frame.lean ====
module

public import proofs.«01_k».proof.Proof.Gen.KConvIdeal.Frame
public import proofs.«01_k».proof.Proof.Gen.KConvIdeal.Loops
public import proofs.«01_k».proof.Proof.Conv.Data
public import proofs.«01_k».proof.Proof.Conv.Same

@[expose] public section

set_option maxRecDepth 16384

noncomputable section

namespace Cert.KConvIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KConvIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def any12 (c : Dev nD) (t : Fin cfg0.N) : Vec F S256x7168 .bf16 := (win0_12.blk t).view.read (Elt F) (V m c main_v5_0)
def any13 (c : Dev nD) : Vec F S40x1024 .f32 := (win0_13.blk ⟨0, by decide⟩).view.read (Elt F) (V m c main_v5_1)

/-- Proof data that says nothing of the outputs. -/
def free (p : Fin 1) (c : Dev nD) : Dat τ (Elt F) Unit ℕ (UR sig nD τ) ℕ cfg0 c :=
  dats m (fun _ _ _ _ => True) (any12 m) (any13 m) p c

/-- The output windows. -/
def outw (w : Fin cfg0.W) : Bool := match w with
  | ⟨12, _⟩ => true
  | ⟨13, _⟩ => true
  | _ => false

theorem defs₀_row (t : Fin cfg0.N) : defs₀ (F := F) .tc cfg0.body (cfg0.bodyArgs t (cfg0.slots t)) = bodyAt0 t := by
  unfold defs₀; rw [Defs.onTc_tc]

theorem free_step (c : Dev nD) (t : Fin cfg0.N) :
    (iprop((free m 0 c).Φ t.castSucc ∗ (free m 0 c).owesAt () t.castSucc ∗ (∃ d, owns (c : Thread nD τ) (win0_0.stage (cfg0.slots t 0)) fullShare ((free m 0 c).before 0 t d)) ∗ (∃ d, owns (c : Thread nD τ) (win0_1.stage (cfg0.slots t 1)) fullShare ((free m 0 c).before 1 t d)) ∗ (∃ d, owns (c : Thread nD τ) (win0_2.stage (cfg0.slots t 2)) fullShare ((free m 0 c).before 2 t d)) ∗ (∃ d, owns (c : Thread nD τ) (win0_3.stage (cfg0.slots t 3)) fullShare ((free m 0 c).before 3 t d)) ∗ (∃ d, owns (c : Thread nD τ) (win0_4.stage (cfg0.slots t 4)) fullShare ((free m 0 c).before 4 t d)) ∗ (∃ d, owns (c : Thread nD τ) (win0_5.stage (cfg0.slots t 5)) fullShare ((free m 0 c).before 5 t d)) ∗ (∃ d, owns (c : Thread nD τ) (win0_6.stage (cfg0.slots t 6)) fullShare ((free m 0 c).before 6 t d)) ∗ (∃ d, owns (c : Thread nD τ) (win0_7.stage (cfg0.slots t 7)) fullShare ((free m 0 c).before 7 t d)) ∗ (∃ d, owns (c : Thread nD τ) (win0_8.stage (cfg0.slots t 8)) fullShare ((free m 0 c).before 8 t d)) ∗ (∃ d, owns (c : Thread nD τ) (win0_9.stage (cfg0.slots t 9)) fullShare ((free m 0 c).before 9 t d)) ∗ (∃ d, owns (c : Thread nD τ) (win0_10.stage (cfg0.slots t 10)) fullShare ((free m 0 c).before 10 t d)) ∗ (∃ d, owns (c : Thread nD τ) (win0_11.stage (cfg0.slots t 11)) fullShare ((free m 0 c).before 11 t d)) ∗ (∃ d, owns (c : Thread nD τ) (win0_12.stage (cfg0.slots t 12)) fullShare d) ∗ (∃ y, owns (c : Thread nD τ) (win0_13.stage (cfg0.slots t 13)) fullShare y)) : sProp 𝕄)
      ⊢ wp frame (wpE (defs₀ (F := F)) Variants.none c none) Set.univ (bodyAt0 t)
        (fun _ => iprop((free m 0 c).Φ t.succ ∗ (free m 0 c).owesAt () t.succ ∗ owns (c : Thread nD τ) (win0_0.stage (cfg0.slots t 0)) fullShare ((free m 0 c).after 0 t) ∗ owns (c : Thread nD τ) (win0_1.stage (cfg0.slots t 1)) fullShare ((free m 0 c).after 1 t) ∗ owns (c : Thread nD τ) (win0_2.stage (cfg0.slots t 2)) fullShare ((free m 0 c).after 2 t) ∗ owns (c : Thread nD τ) (win0_3.stage (cfg0.slots t 3)) fullShare ((free m 0 c).after 3 t) ∗ owns (c : Thread nD τ) (win0_4.stage (cfg0.slots t 4)) fullShare ((free m 0 c).after 4 t) ∗ owns (c : Thread nD τ) (win0_5.stage (cfg0.slots t 5)) fullShare ((free m 0 c).after 5 t) ∗ owns (c : Thread nD τ) (win0_6.stage (cfg0.slots t 6)) fullShare ((free m 0 c).after 6 t) ∗ owns (c : Thread nD τ) (win0_7.stage (cfg0.slots t 7)) fullShare ((free m 0 c).after 7 t) ∗ owns (c : Thread nD τ) (win0_8.stage (cfg0.slots t 8)) fullShare ((free m 0 c).after 8 t) ∗ owns (c : Thread nD τ) (win0_9.stage (cfg0.slots t 9)) fullShare ((free m 0 c).after 9 t) ∗ owns (c : Thread nD τ) (win0_10.stage (cfg0.slots t 10)) fullShare ((free m 0 c).after 10 t) ∗ owns (c : Thread nD τ) (win0_11.stage (cfg0.slots t 11)) fullShare ((free m 0 c).after 11 t) ∗ (∃ d, owns (c : Thread nD τ) (win0_12.stage (cfg0.slots t 12)) fullShare d) ∗ (∃ d, owns (c : Thread nD τ) (win0_13.stage (cfg0.slots t 13)) fullShare d))) := by
  unfold free
  have h : ∀ y, _ := fun y => core m (fun _ _ _ _ => True) (any12 m) (any13 m) c t y (fun _ => True) (fun _ => True)
    ⟨by intros; exact ⟨trivial, trivial⟩, by intros; exact ⟨trivial, trivial⟩, by intros; exact ⟨trivial, trivial, trivial⟩⟩
  iintro ⟨HS, Ho, H0, H1, H2, H3, H4, H5, H6, H7, H8, H9, H10, H11, H12, ⟨%y, H13⟩⟩
  iapply (triple_restated (h y) rfl .rfl fun _ => (?_ : _ ⊢ iprop((dats m (fun _ _ _ _ => True) (any12 m) (any13 m) 0 c).Φ t.succ ∗ (dats m (fun _ _ _ _ => True) (any12 m) (any13 m) 0 c).owesAt () t.succ ∗ owns (c : Thread nD τ) (win0_0.stage (cfg0.slots t 0)) fullShare ((dats m (fun _ _ _ _ => True) (any12 m) (any13 m) 0 c).after 0 t) ∗ owns (c : Thread nD τ) (win0_1.stage (cfg0.slots t 1)) fullShare ((dats m (fun _ _ _ _ => True) (any12 m) (any13 m) 0 c).after 1 t) ∗ owns (c : Thread nD τ) (win0_2.stage (cfg0.slots t 2)) fullShare ((dats m (fun _ _ _ _ => True) (any12 m) (any13 m) 0 c).after 2 t) ∗ owns (c : Thread nD τ) (win0_3.stage (cfg0.slots t 3)) fullShare ((dats m (fun _ _ _ _ => True) (any12 m) (any13 m) 0 c).after 3 t) ∗ owns (c : Thread nD τ) (win0_4.stage (cfg0.slots t 4)) fullShare ((dats m (fun _ _ _ _ => True) (any12 m) (any13 m) 0 c).after 4 t) ∗ owns (c : Thread nD τ) (win0_5.stage (cfg0.slots t 5)) fullShare ((dats m (fun _ _ _ _ => True) (any12 m) (any13 m) 0 c).after 5 t) ∗ owns (c : Thread nD τ) (win0_6.stage (cfg0.slots t 6)) fullShare ((dats m (fun _ _ _ _ => True) (any12 m) (any13 m) 0 c).after 6 t) ∗ owns (c : Thread nD τ) (win0_7.stage (cfg0.slots t 7)) fullShare ((dats m (fun _ _ _ _ => True) (any12 m) (any13 m) 0 c).after 7 t) ∗ owns (c : Thread nD τ) (win0_8.stage (cfg0.slots t 8)) fullShare ((dats m (fun _ _ _ _ => True) (any12 m) (any13 m) 0 c).after 8 t) ∗ owns (c : Thread nD τ) (win0_9.stage (cfg0.slots t 9)) fullShare ((dats m (fun _ _ _ _ => True) (any12 m) (any13 m) 0 c).after 9 t) ∗ owns (c : Thread nD τ) (win0_10.stage (cfg0.slots t 10)) fullShare ((dats m (fun _ _ _ _ => True) (any12 m) (any13 m) 0 c).after 10 t) ∗ owns (c : Thread nD τ) (win0_11.stage (cfg0.slots t 11)) fullShare ((dats m (fun _ _ _ _ => True) (any12 m) (any13 m) 0 c).after 11 t) ∗ (∃ d, owns (c : Thread nD τ) (win0_12.stage (cfg0.slots t 12)) fullShare d) ∗ (∃ d, owns (c : Thread nD τ) (win0_13.stage (cfg0.slots t 13)) fullShare d))))
  on_goal 2 =>
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro ⟨HS, Ho, H0, H1, H2, H3, H4, H5, H6, H7, H8, H9, H10, H11, ⟨%d12, -, H12⟩, ⟨%d13, -, H13⟩⟩
  isplitl [HS]; · iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iexists d12; iexact H12
  iexists d13; iexact H13

theorem free_body (c : Dev nD) : Pipeline.BodyObligationLoose (free m 0 c) defs₀ Variants.none () Set.univ outw := fun t => by
  rw [bigSep_W0, bigSep_W0, defs₀_row]
  exact triple_restated (free_step m c t) rfl .rfl fun _ => .rfl

set_option backward.isDefEq.respectTransparency.types false in
set_option maxHeartbeats 800000 in
/-- The launch, every semaphore at zero at every final state. -/
theorem run_free : θ_run defs (onTc (τ := τ) (main (F := F))) (s₀ m ρ)
    (fun r => (Pipeline.RDat.FramePost cfg0 (fun c => (free m 0 c).toRForget outw) (V m)) r ∧ r.2.sem = fun _ => 0) :=
  Pipeline.θ_run_frame_track_forget_shared (Q' := _) cfgs (free m) (0 : Fin 1) launch₀0 defs₀ Variants.none outw m ρ main
    (hbody := free_body m) (hq := fun _ _ _ => rfl) (howed := fun _ _ => rfl) (V := V m) (hmain := hmain m Variants.none)
    (hA := fun _ _ => rfl) (hin := fun c => scr_in c _ fun _ _ => trivial) (hout := fun c => scr_out c _)

/-- Every execution ends, no argument array changed and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6))
      ∧ r.2.sem = fun _ => 0) :=
  (θ_run defs _ _).mono (fun r h => ⟨fun c =>
    have k (w : Fin cfg0.W) (hw : (cfg0.win w).isOut = false) := h.1 c |>.1 w
    have rest (b) (hb) := (h.1 c).2 b hb
    ⟨(rest main_arg0 (Pipeline.mem_restRefs_of main_arg0 (by decide) (by decide))).trans (V_main_arg0 m c), (rest main_arg1 (Pipeline.mem_restRefs_of main_arg1 (by decide) (by decide))).trans (V_main_arg1 m c), (rest main_arg2 (Pipeline.mem_restRefs_of main_arg2 (by decide) (by decide))).trans (V_main_arg2 m c), (rest main_arg3 (Pipeline.mem_restRefs_of main_arg3 (by decide) (by decide))).trans (V_main_arg3 m c), ((congrFun (Pipeline.RDat.ArrAt_in _ 1 rfl _) _).mp ((h.1 c).1 1)).trans (V_main_arg4 m c), ((congrFun (Pipeline.RDat.ArrAt_in _ 3 rfl _) _).mp ((h.1 c).1 3)).trans (V_main_arg5 m c), (rest main_arg6 (Pipeline.mem_restRefs_of main_arg6 (by decide) (by decide))).trans (V_main_arg6 m c)⟩, h.2⟩) (run_free m ρ)

end Cert.KConvIdeal.Body
-- ==== Proof.Conv.FrameBits.lean ====
module
public import proofs.«01_k».proof.Proof.Conv.Frame
public import proofs.«01_k».proof.Proof.Gen.KConv

@[expose] public section

set_option maxRecDepth 65536
set_option maxHeartbeats 4000000

noncomputable section

namespace Cert.KConv.Body

open Idealize.ShloMosaic Idealize.ShloMosaic.TcCoe Idealize.SL.Sem

variable {F : FTy → Type} [FloatOps F]
  (m : (ℓ : Loc nD τ sig) → Buf (Elt F) ℓ) (ρ : Dev nD → PrngReg)

/-- The program as compiled is the same as the one over exact arithmetic, and so its frame is that one's. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6))
      ∧ r.2.sem = fun _ => 0) := by
  have h := Cert.KConvIdeal.Body.frame (F := F) m ρ
  rw [← Cert.KConvIdeal.Same.p5] at h
  exact h

end Cert.KConv.Body
-- ==== Proof.Conv.Steps.lean ====
/- What a chain of accumulating stores leaves, one store after another: the correlation of two matrices, row block by
   row block. Matrices are read at natural indices. -/
module

public import proofs.«01_k».proof.Proof.Gen.KConvIdeal.Loops
public import Idealize.ShloMosaic.Lib.Pipeline.ValueKit
public import Idealize.ShloMosaic.Lib.WritesUnit

@[expose] public section

set_option maxRecDepth 16384

noncomputable section

namespace Cert.KConvIdeal.Val

open Idealize.ShloMosaic Idealize.ShloMosaic.TcCoe Idealize.ShloMosaic.Tactic
open Cert.KConvIdeal Cert.KConvIdeal.Gen
open scoped BigOperators

/-- A matrix at natural indices, zero outside it. -/
def nat2 {a b : ℕ} (X : Vec Ideal ⟨2, ![a, b]⟩ .f32) (i j : ℕ) : EReal :=
  if h : i < a ∧ j < b then X (ix2 ⟨i, h.1⟩ ⟨j, h.2⟩) else 0

theorem nat2_of {a b : ℕ} (X : Vec Ideal ⟨2, ![a, b]⟩ .f32) {i j : ℕ} (hi : i < a) (hj : j < b) :
    nat2 X i j = X (ix2 ⟨i, hi⟩ ⟨j, hj⟩) := dif_pos ⟨hi, hj⟩

theorem nat2_at {a b : ℕ} (X : Vec Ideal ⟨2, ![a, b]⟩ .f32) {i j : ℕ} (y : (⟨2, ![a, b]⟩ : Shape).Idx)
    (hi : (y 0).val = i) (hj : (y 1).val = j) : nat2 X i j = X y := by
  subst hi; subst hj
  rw [nat2_of X (y 0).isLt (y 1).isLt]
  congr 1
  exact (eq_ix2 y).symm

/-- The rows of a block of 64 summed in eights. -/
def fold {F : FTy → Type} [FloatOps F] (v : Vec F S64x128 .f32) : Vec F S8x128 .f32 :=
  addf (addf (addf (addf (addf (addf (addf (extractStridedSlice S8x128 ![0, 0] v slices_S64x128_o0_0_S8x128)
    (extractStridedSlice S8x128 ![8, 0] v slices_S64x128_o8_0_S8x128))
    (extractStridedSlice S8x128 ![16, 0] v slices_S64x128_o16_0_S8x128))
    (extractStridedSlice S8x128 ![24, 0] v slices_S64x128_o24_0_S8x128))
    (extractStridedSlice S8x128 ![32, 0] v slices_S64x128_o32_0_S8x128))
    (extractStridedSlice S8x128 ![40, 0] v slices_S64x128_o40_0_S8x128))
    (extractStridedSlice S8x128 ![48, 0] v slices_S64x128_o48_0_S8x128))
    (extractStridedSlice S8x128 ![56, 0] v slices_S64x128_o56_0_S8x128)

/-- One accumulating store's payload. -/
def step {F : FTy → Type} [FloatOps F] (U D : Vec F S64x128 .f32) (A : Vec F S8x128 .f32) : Vec F S8x128 .f32 :=
  shapeCast S8x128 (addf A (fold (mulf U D))) shapeCasts_S8x128_S8x128

theorem step_at (U D : Vec Ideal S64x128 .f32) (A : Vec Ideal S8x128 .f32) {q l : ℕ} (hq : q < 8) (hl : l < 128) :
    nat2 (step U D A) q l = nat2 A q l + ∑ i ∈ Finset.range 8, nat2 U (8 * i + q) l * nat2 D (8 * i + q) l := by
  have h : ∀ (q : Fin 8) (l : Fin 128), step U D A (ix2 q l) = A (ix2 q l) + (U (ix2 ⟨q, by omega⟩ l) * D (ix2 ⟨q, by omega⟩ l)
      + U (ix2 ⟨8 + q, by omega⟩ l) * D (ix2 ⟨8 + q, by omega⟩ l) + U (ix2 ⟨16 + q, by omega⟩ l) * D (ix2 ⟨16 + q, by omega⟩ l)
      + U (ix2 ⟨24 + q, by omega⟩ l) * D (ix2 ⟨24 + q, by omega⟩ l) + U (ix2 ⟨32 + q, by omega⟩ l) * D (ix2 ⟨32 + q, by omega⟩ l)
      + U (ix2 ⟨40 + q, by omega⟩ l) * D (ix2 ⟨40 + q, by omega⟩ l) + U (ix2 ⟨48 + q, by omega⟩ l) * D (ix2 ⟨48 + q, by omega⟩ l)
      + U (ix2 ⟨56 + q, by omega⟩ l) * D (ix2 ⟨56 + q, by omega⟩ l)) := by
    intro q l
    pointwise [step, fold]
  rw [nat2_of _ hq hl, nat2_of _ hq hl, h]
  simp only [Finset.sum_range_succ, Finset.sum_range_zero, zero_add]
  have e : ∀ (X : Vec Ideal S64x128 .f32) (i : ℕ) (hi : i < 64), X (ix2 ⟨i, hi⟩ ⟨l, hl⟩) = nat2 X i l := fun X i hi => (nat2_of X hi hl).symm
  simp only [e]
  norm_num

/-- Reading a matrix after one more store. -/
theorem nat2_store {sig : RefSig} {κ : Kind} {sp : Space} {a b : ℕ} (v : View sig κ sp ⟨2, ![a, b]⟩ .f32) (f : v.ty.Contents (Elt Ideal))
    {c d p r : ℕ} (inb : ∀ x, (![c, d] : Fin 2 → ℕ) x + (![p, r] : Fin 2 → ℕ) x ≤ (![a, b] : Fin 2 → ℕ) x)
    (W : Vec Ideal ⟨2, ![p, r]⟩ .f32) (L : List (View.Piece (Elt Ideal) ⟨2, ![a, b]⟩ .f32)) (i j : ℕ) :
    nat2 (v.read (Elt Ideal) (v.writes (Elt Ideal) f (⟨Rect.unit ![c, d] ![p, r] inb, W⟩ :: L))) i j
      = if (c ≤ i ∧ i < c + p) ∧ (d ≤ j ∧ j < d + r) then nat2 W (i - c) (j - d)
        else nat2 (v.read (Elt Ideal) (v.writes (Elt Ideal) f L)) i j := by
  have h0 := inb 0; have h1 := inb 1
  simp only [Matrix.cons_val_zero, Matrix.cons_val_one] at h0 h1
  by_cases hij : i < a ∧ j < b
  · by_cases hc : (c ≤ i ∧ i < c + p) ∧ (d ≤ j ∧ j < d + r)
    · rw [if_pos hc, nat2_of _ hij.1 hij.2, nat2_of W (i := i - c) (j := j - d) (by omega) (by omega)]
      refine View.read_writes_cons_unit_of_mem v f inb W L _ (ix2 ⟨i - c, by omega⟩ ⟨j - d, by omega⟩) rfl fun x => ?_
      match x with
      | ⟨0, _⟩ => show i = c + (i - c); omega
      | ⟨1, _⟩ => show j = d + (j - d); omega
    · rw [if_neg hc, nat2_of _ hij.1 hij.2, nat2_of _ hij.1 hij.2]
      by_cases hi : c ≤ i ∧ i < c + p
      · exact View.read_writes_cons_unit_of_not_mem v f inb W L _ rfl 1 (by show j < d ∨ d + r ≤ j; omega)
      · exact View.read_writes_cons_unit_of_not_mem v f inb W L _ rfl 0 (by show i < c ∨ c + p ≤ i; omega)
  · rw [if_neg (by omega)]
    unfold nat2; rw [dif_neg hij, dif_neg hij]

/-- Reading a block of a matrix. -/
theorem nat2_block {sig : RefSig} {κ : Kind} {sp : Space} {a b : ℕ} (v : View sig κ sp ⟨2, ![a, b]⟩ .f32) (f : v.ty.Contents (Elt Ideal))
    {c d p r : ℕ} (inb : ∀ x, (![c, d] : Fin 2 → ℕ) x + (![p, r] : Fin 2 → ℕ) x ≤ (![a, b] : Fin 2 → ℕ) x) {i j : ℕ} (hi : i < p) (hj : j < r) :
    nat2 (a := p) (b := r) (v.readAt (Elt Ideal) (Rect.unit (s := ⟨2, ![a, b]⟩) ![c, d] ![p, r] inb).toLoadRect f) i j
      = nat2 (v.read (Elt Ideal) f) (c + i) (d + j) := by
  rw [nat2_of _ hi hj]
  refine (nat2_at (v.read (Elt Ideal) f) ((Rect.unit (s := ⟨2, ![a, b]⟩) ![c, d] ![p, r] inb).idx (ix2 ⟨i, hi⟩ ⟨j, hj⟩)) ?_ ?_).symm
  · show c + 1 * i = c + i; omega
  · show d + 1 * j = d + j; omega

/-- After `n` of the stores into the blocks of eight rows, taken cyclically among `J`, at the 128 lanes from `lane`:
    block `j` has grown by the terms `e m` of the stores made into it, the other lanes are as they were. -/
structure Acc {sig : RefSig} {κ : Kind} {sp : Space} {H : ℕ} (v : View sig κ sp ⟨2, ![H, 1024]⟩ .f32) (f : v.ty.Contents (Elt Ideal))
    (J lane : ℕ) (e : ℕ → ℕ → ℕ → EReal) (n : ℕ) (L : List (View.Piece (Elt Ideal) ⟨2, ![H, 1024]⟩ .f32)) : Prop where
  val : ∀ j < J, ∀ q < 8, ∀ l < 128, nat2 (v.read (Elt Ideal) (v.writes (Elt Ideal) f L)) (8 * j + q) (lane + l)
    = nat2 (v.read (Elt Ideal) f) (8 * j + q) (lane + l) + ∑ m ∈ (Finset.range n).filter (· % J = j), e m q l
  off : ∀ i j, (j < lane ∨ lane + 128 ≤ j) → nat2 (v.read (Elt Ideal) (v.writes (Elt Ideal) f L)) i j = nat2 (v.read (Elt Ideal) f) i j
  cov : ∀ j < J, j < n → ∀ y : (⟨2, ![H, 1024]⟩ : Shape).Idx, 8 * j ≤ (y 0).val → (y 0).val < 8 * j + 8 → lane ≤ (y 1).val → (y 1).val < lane + 128 →
    ∃ p ∈ L, y ∈ p.1.set

section
variable {sig : RefSig} {κ : Kind} {sp : Space} {H : ℕ} {v : View sig κ sp ⟨2, ![H, 1024]⟩ .f32} {f : v.ty.Contents (Elt Ideal)}
  {J lane : ℕ} {e : ℕ → ℕ → ℕ → EReal} {n : ℕ} {L : List (View.Piece (Elt Ideal) ⟨2, ![H, 1024]⟩ .f32)}

theorem Acc.nil : Acc v f J lane e 0 [] where
  val := by intro j _ q _ l _; simp
  off _ _ _ := rfl
  cov _ _ h := absurd h (Nat.not_lt_zero _)

theorem Acc.cons (h : Acc v f J lane e n L) (hJ : 0 < J) {c : ℕ} (hc : c = 8 * (n % J)) {inb}
    {W : Vec Ideal S8x128 .f32}
    (hW : ∀ q < 8, ∀ l < 128, nat2 W q l = nat2 (v.read (Elt Ideal) (v.writes (Elt Ideal) f L)) (c + q) (lane + l) + e n q l) :
    Acc v f J lane e (n + 1) (⟨Rect.unit ![c, lane] ![8, 128] inb, W⟩ :: L) where
  val j hj q hq l hl := by
    have hn := Nat.mod_lt n hJ
    rw [nat2_store, Finset.range_add_one, Finset.filter_insert]
    by_cases hjn : n % J = j
    · rw [if_pos (by omega), if_pos hjn, Finset.sum_insert (by simp), show 8 * j + q - c = q by omega, show lane + l - lane = l by omega,
        hW q hq l hl, hc, hjn, h.val j hj q hq l hl, add_assoc, add_comm (∑ m ∈ _, _)]
    · rw [if_neg (by omega), if_neg hjn, h.val j hj q hq l hl]
  off i j hj := by
    rw [nat2_store, if_neg (by omega), h.off i j hj]
  cov j hj hjn y h0 h0' h1 h1' := by
    by_cases hn : j = n % J
    · refine ⟨_, List.mem_cons_self, (Rect.mem_set_unit (inb := inb)).mpr fun x => ?_⟩
      match x with
      | ⟨0, _⟩ => show c ≤ (y 0).val ∧ (y 0).val < c + 8; omega
      | ⟨1, _⟩ => show lane ≤ (y 1).val ∧ (y 1).val < lane + 128; omega
    · have : j < n := by
        rcases Nat.lt_or_ge n J with hlt | hge
        · rw [Nat.mod_eq_of_lt hlt] at hn; omega
        · omega
      obtain ⟨p, hp, hy⟩ := h.cov j hj this y h0 h0' h1 h1'
      exact ⟨p, List.mem_cons_of_mem _ hp, hy⟩

/-- A block not yet written reads as at first; -/
theorem Acc.fresh (h : Acc v f J lane e n L) (hn : n < J) {c : ℕ} (hc : c = 8 * (n % J)) {inb} {q l : ℕ} (hq : q < 8) (hl : l < 128) :
    nat2 (a := 8) (b := 128) (v.readAt (Elt Ideal) (Rect.unit (s := ⟨2, ![H, 1024]⟩) ![c, lane] ![8, 128] inb).toLoadRect f) q l
      = nat2 (v.read (Elt Ideal) (v.writes (Elt Ideal) f L)) (c + q) (lane + l) := by
  rw [nat2_block v f inb hq hl, hc, Nat.mod_eq_of_lt hn, h.val n hn q hq l hl, Finset.sum_filter, Finset.sum_eq_zero, add_zero]
  intro m hm
  rw [if_neg]
  have := Finset.mem_range.mp hm
  rw [Nat.mod_eq_of_lt (by omega)]; omega

/-- one written before reads what the stores so far left. -/
theorem Acc.again (h : Acc v f J lane e n L) (hJ : 0 < J) (hn : J ≤ n) {c : ℕ} (hc : c = 8 * (n % J)) {inb} {q l : ℕ} (hq : q < 8) (hl : l < 128) :
    nat2 (a := 8) (b := 128) (v.readCov L (Rect.unit (s := ⟨2, ![H, 1024]⟩) ![c, lane] ![8, 128] inb).toLoadRect) q l
      = nat2 (v.read (Elt Ideal) (v.writes (Elt Ideal) f L)) (c + q) (lane + l) := by
  have hJn := Nat.mod_lt n hJ
  rw [nat2_of _ hq hl, View.readCov_eq_canon']
  have hy : ∀ y : (⟨2, ![H, 1024]⟩ : Shape).Idx, (y 0).val = c + q → (y 1).val = lane + l →
      View.canon L y = nat2 (v.read (Elt Ideal) (v.writes (Elt Ideal) f L)) (c + q) (lane + l) := fun y h0 h1 => by
    rw [nat2_at _ y h0 h1, View.read_writes_apply_eq_canon v f y L (h.cov (n % J) hJn (by omega) y (by omega) (by omega) (by omega) (by omega))]
  refine hy _ ?_ ?_
  · show c + 1 * q = c + q; omega
  · show lane + 1 * l = lane + l; omega
end

/-- A block of 64 rows and 128 lanes of a matrix, from row `row` and lane `lane`. -/
def Blk {a b : ℕ} (D : Vec Ideal S64x128 .f32) (X : Vec Ideal ⟨2, ![a, b]⟩ .f32) (row lane : ℕ) : Prop :=
  ∀ i < 64, ∀ l < 128, nat2 D i l = nat2 X (row + i) (lane + l)

theorem Blk.read {sig : RefSig} {κ : Kind} {sp : Space} {a b : ℕ} (v : View sig κ sp ⟨2, ![a, b]⟩ .f32) (f : v.ty.Contents (Elt Ideal))
    {c d : ℕ} {inb} : Blk (v.readAt (Elt Ideal) (Rect.unit (s := ⟨2, ![a, b]⟩) ![c, d] S64x128.size inb).toLoadRect f) (v.read (Elt Ideal) f) c d :=
  fun _ hi _ hl => nat2_block v f inb hi hl

/-- Slab `s` of the list's stores, for `1 ≤ s ≤ n`, is the matrix moved by `s` rows. -/
def Slabs {b : ℕ} (L : List (View.Piece (Elt Ideal) S8x288x128 .f32)) (X : Vec Ideal ⟨2, ![288, b]⟩ .f32) (lane n : ℕ) : Prop :=
  ∀ y : S8x288x128.Idx, 1 ≤ (y 0).val → (y 0).val ≤ n → (y 1).val < 280 →
    View.canon L y = nat2 X ((y 0).val + (y 1).val) (lane + (y 2).val)

theorem Slabs.nil {b : ℕ} {X : Vec Ideal ⟨2, ![288, b]⟩ .f32} {lane : ℕ} : Slabs [] X lane 0 := fun y h1 h2 => absurd h2 (by omega)

theorem Slabs.cons {sig : RefSig} {κ : Kind} {sp : Space} {b : ℕ} {v : View sig κ sp ⟨2, ![288, b]⟩ .f32} {f : v.ty.Contents (Elt Ideal)}
    {lane n : ℕ} {L : List (View.Piece (Elt Ideal) S8x288x128 .f32)} (h : Slabs L (v.read (Elt Ideal) f) lane n)
    {s : ℕ} (hs : s = n + 1) {inb i2} {hc : S280x128.ShapeCasts S1x280x128} :
    Slabs (⟨Rect.unit ![s, 0, 0] S1x280x128.size inb, shapeCast S1x280x128 (v.readAt (Elt Ideal) (Rect.unit (s := ⟨2, ![288, b]⟩) ![s, lane] S280x128.size i2).toLoadRect f) hc⟩ :: L)
      (v.read (Elt Ideal) f) lane (n + 1) := by
  intro y h1 h2 h3
  by_cases hy : (y 0).val = s
  · have he : (Rect.unit (s := S8x288x128) ![s, 0, 0] S1x280x128.size inb).emb (ix3 0 ⟨(y 1).val, h3⟩ (y 2)) = y := by
      funext x; apply Fin.ext
      match x with
      | ⟨0, _⟩ => show s + 1 * 0 = (y 0).val; omega
      | ⟨1, _⟩ => show 0 + 1 * (y 1).val = (y 1).val; omega
      | ⟨2, _⟩ => show 0 + 1 * (y 2).val = (y 2).val; omega
    conv_lhs => rw [← he]
    rw [View.canon_cons_emb]
    have hr : ∀ W : Vec Ideal S280x128 .f32, shapeCast S1x280x128 W hc (ix3 0 ⟨(y 1).val, h3⟩ (y 2)) = W (ix2 ⟨(y 1).val, h3⟩ (y 2)) := by
      intro W; pointwise
    have hb := nat2_block (p := 280) (r := 128) v f i2 h3 (y 2).isLt
    have hb := (nat2_of _ h3 (y 2).isLt).symm.trans hb
    exact (hr _).trans (hb.trans (by rw [hy]))
  · rw [View.canon_cons_of_not_mem]
    · exact h y h1 (by omega) h3
    · rw [Rect.mem_set_unit]
      intro hall
      have h0 : s ≤ (y 0).val ∧ (y 0).val < s + 1 := hall 0
      omega

theorem Blk.slab {sig : RefSig} {κ : Kind} {sp : Space} {b : ℕ} (v : View sig κ sp S8x288x128 .f32) {L : List (View.Piece (Elt Ideal) S8x288x128 .f32)}
    {X : Vec Ideal ⟨2, ![288, b]⟩ .f32} {lane : ℕ} (h : Slabs L X lane 7) {s o : ℕ} {inb} {hc : S1x64x128.ShapeCasts S64x128}
    (hs : 1 ≤ s ∧ s ≤ 7 ∧ o + 64 ≤ 280) :
    Blk (shapeCast S64x128 (v.readCov L (Rect.unit (s := S8x288x128) ![s, o, 0] S1x64x128.size inb).toLoadRect) hc) X (s + o) lane := by
  intro i hi l hl
  have hr : ∀ W : Vec Ideal S1x64x128 .f32, shapeCast S64x128 W hc (ix2 ⟨i, hi⟩ ⟨l, hl⟩) = W (ix3 0 ⟨i, hi⟩ ⟨l, hl⟩) := by
    intro W; pointwise
  rw [nat2_of _ hi hl, hr, View.readCov_eq_canon']
  have hy : ∀ y : S8x288x128.Idx, (y 0).val = s → (y 1).val = o + i → (y 2).val = l → View.canon L y = nat2 X (s + o + i) (lane + l) := fun y h0 h1 h2 => by
    rw [h y (by omega) (by omega) (by omega), h0, h1, h2, add_assoc]
  refine hy _ ?_ ?_ ?_
  · show s + 1 * 0 = s; omega
  · show o + 1 * i = o + i; omega
  · show 0 + 1 * l = l; omega

/-- The growth of block `m % J` at store `m`. -/
def term {a a' b b' : ℕ} (J : ℕ) (Xu : Vec Ideal ⟨2, ![a, b]⟩ .f32) (Xd : Vec Ideal ⟨2, ![a', b']⟩ .f32) (lane m q l : ℕ) : EReal :=
  ∑ i ∈ Finset.range 8, nat2 Xu (64 * (m / J) + (8 * i + q)) (lane + l) * nat2 Xd (64 * (m / J) + (J - 1 - m % J) + (8 * i + q)) (lane + l)

section
variable {sig : RefSig} {κ : Kind} {sp : Space} {H : ℕ} {v : View sig κ sp ⟨2, ![H, 1024]⟩ .f32} {f : v.ty.Contents (Elt Ideal)}
  {J lane : ℕ} {a a' b b' : ℕ} {Xu : Vec Ideal ⟨2, ![a, b]⟩ .f32} {Xd : Vec Ideal ⟨2, ![a', b']⟩ .f32} {n : ℕ} {L : List (View.Piece (Elt Ideal) ⟨2, ![H, 1024]⟩ .f32)}

theorem Acc.first {U D : Vec Ideal S64x128 .f32} {c r d : ℕ} {inb inb'} (hU : Blk U Xu r lane) (hD : Blk D Xd d lane)
    (hc : c = 8 * (n % J)) (hr : r = 64 * (n / J)) (hd : d = 64 * (n / J) + (J - 1 - n % J)) (hn : n < J)
    (h : Acc v f J lane (term J Xu Xd lane) n L) :
    Acc v f J lane (term J Xu Xd lane) (n + 1)
      (⟨Rect.unit ![c, lane] S8x128.size inb, step U D (v.readAt (Elt Ideal) (Rect.unit (s := ⟨2, ![H, 1024]⟩) ![c, lane] S8x128.size inb').toLoadRect f)⟩ :: L) := by
  refine h.cons (by omega) hc fun q hq l hl => ?_
  rw [step_at _ _ _ hq hl]
  refine congrArg₂ (· + ·) (h.fresh hn hc hq hl) (Finset.sum_congr rfl fun i hi => ?_)
  have := Finset.mem_range.mp hi
  rw [hU _ (by omega) l hl, hD _ (by omega) l hl, hr, hd]

theorem Acc.next {U D : Vec Ideal S64x128 .f32} {c r d : ℕ} {inb inb'} (hU : Blk U Xu r lane) (hD : Blk D Xd d lane)
    (hc : c = 8 * (n % J)) (hr : r = 64 * (n / J)) (hd : d = 64 * (n / J) + (J - 1 - n % J)) (hn : 0 < J ∧ J ≤ n)
    (h : Acc v f J lane (term J Xu Xd lane) n L) :
    Acc v f J lane (term J Xu Xd lane) (n + 1)
      (⟨Rect.unit ![c, lane] S8x128.size inb, step U D (v.readCov L (Rect.unit (s := ⟨2, ![H, 1024]⟩) ![c, lane] S8x128.size inb').toLoadRect)⟩ :: L) := by
  refine h.cons hn.1 hc fun q hq l hl => ?_
  rw [step_at _ _ _ hq hl]
  refine congrArg₂ (· + ·) (h.again hn.1 hn.2 hc hq hl) (Finset.sum_congr rfl fun i hi => ?_)
  have := Finset.mem_range.mp hi
  rw [hU _ (by omega) l hl, hD _ (by omega) l hl, hr, hd]
end

/-- A block of the correlation of a matrix with the first `n` of `J` rows of another. -/
def Sums {a a' b b' : ℕ} (J : ℕ) (Xw : Vec Ideal ⟨2, ![a, b]⟩ .f32) (Xd : Vec Ideal ⟨2, ![a', b']⟩ .f32) (row lane n : ℕ) (V : Vec Ideal S64x128 .f32) : Prop :=
  ∀ i < 64, ∀ l < 128, nat2 V i l = ∑ j ∈ Finset.range n, nat2 Xw j (lane + l) * nat2 Xd (row + (J - 1 - j) + i) (lane + l)

section
variable {sig : RefSig} {κ : Kind} {sp : Space} {a a' b b' : ℕ} {v : View sig κ sp ⟨2, ![a, b]⟩ .f32} {f : v.ty.Contents (Elt Ideal)}
  {J row lane n : ℕ} {Xd : Vec Ideal ⟨2, ![a', b']⟩ .f32}

theorem Sums.zero : Sums J (v.read (Elt Ideal) f) Xd row lane 0 (broadcast S64x128 (FloatOps.ofBits (F := Ideal) .f32 0#32)) := by
  intro i hi l hl
  rw [nat2_of _ hi hl]
  show Ideal.ofBits .f32 0#32 = _
  simp [Ideal.ofBits, Ideal.ieee]

theorem Sums.add {D V : Vec Ideal S64x128 .f32} {c d : ℕ} {iw} {h1 : S1x128.ShapeCasts S1x128} {h2} (hD : Blk D Xd d lane) (hd : d = row + (J - 1 - n)) (hc : c = n)
    (h : Sums J (v.read (Elt Ideal) f) Xd row lane n V) :
    Sums J (v.read (Elt Ideal) f) Xd row lane (n + 1)
      (addf (F := Ideal) (φ := .f32) V (mulf (broadcastTo S64x128 (shapeCast S1x128 (v.readAt (Elt Ideal) (Rect.unit (s := ⟨2, ![a, b]⟩) ![c, lane] S1x128.size iw).toLoadRect f) h1) h2) D)) := by
  intro i hi l hl
  have hp : ∀ W : Vec Ideal S1x128 .f32, addf (F := Ideal) (φ := .f32) V (mulf (broadcastTo S64x128 (shapeCast S1x128 W h1) h2) D) (ix2 ⟨i, hi⟩ ⟨l, hl⟩)
      = V (ix2 ⟨i, hi⟩ ⟨l, hl⟩) + W (ix2 0 ⟨l, hl⟩) * D (ix2 ⟨i, hi⟩ ⟨l, hl⟩) := by
    intro W; pointwise
  have hb := nat2_block (p := 1) (r := 128) v f iw (i := 0) (by omega) hl
  rw [nat2_of _ (by omega : 0 < 1) hl] at hb
  rw [nat2_of _ hi hl, hp, Finset.sum_range_succ, ← h i hi l hl, ← hd, ← hD i hi l hl, nat2_of V hi hl, nat2_of D hi hl]
  clear hd h
  rw [Nat.add_zero] at hb
  rw [← hc, ← hb]
  rfl
end

end Cert.KConvIdeal.Val
-- ==== Proof.Conv.Trip.lean ====
module

public import proofs.«01_k».proof.Proof.Conv.Steps

@[expose] public section

set_option maxRecDepth 65536

noncomputable section

namespace Cert.KConvIdeal.Val

open Idealize.ShloMosaic Idealize.ShloMosaic.TcCoe Idealize.ShloMosaic.Tactic
open Cert.KConvIdeal.Gen

/-- The first lane of a trip. -/
def lanes (k : Fin k0_t1_loop.trips) : ℕ := BitVec.toNat (Scalar.indexCast (Scalar.muli (Scf.iv 0#32 1#32 k.val) 128#32))

theorem lanes_eq : ∀ k : Fin k0_t1_loop.trips, lanes k = 128 * k.val := by decide +kernel

/-- The slabs of a trip. -/
theorem slabs (arg18 : Memref sig .tc .vmem S288x1024 .f32) (X : BufTy.Contents (Elt Ideal) arg18.view.ty) (k : Fin k0_t1_loop.trips) :
    Slabs (trip_k0_t1.sl.HW_arg23_7 arg18 X k) (arg18.view.read (Elt Ideal) X) (lanes k) 7 := by
  unfold trip_k0_t1.sl.HW_arg23_7
  iterate 7 refine Slabs.cons (v := arg18.view) (f := X) (lane := lanes k) ?_ rfl
  exact Slabs.nil

/-- A trip's stores of the first accumulator. -/
theorem acc21 (arg15 : Memref sig .tc .vmem S256x1024 .f32) (arg17 : Memref sig .tc .vmem S264x1024 .f32) (arg21 : Memref sig .tc .vmem S24x1024 .f32)
    (X15 : BufTy.Contents (Elt Ideal) arg15.view.ty) (X17 : BufTy.Contents (Elt Ideal) arg17.view.ty) (k : Fin k0_t1_loop.trips) (f : BufTy.Contents (Elt Ideal) arg21.view.ty) :
    Acc arg21.view f 3 (lanes k) (term 3 (arg15.view.read (Elt Ideal) X15) (arg17.view.read (Elt Ideal) X17) (lanes k)) 11
      (trip_k0_t1.sl.HW_arg21_11 arg15 arg17 arg21 X15 X17 k f) := by
  iterate 8
    refine Acc.next (lane := lanes k) (Blk.read arg15.view X15) (Blk.read arg17.view X17) rfl rfl rfl (by decide) ?_
  iterate 3
    refine Acc.first (lane := lanes k) (Blk.read arg15.view X15) (Blk.read arg17.view X17) rfl rfl rfl (by decide) ?_
  exact Acc.nil

end Cert.KConvIdeal.Val
-- ==== Proof.Conv.Chain.lean ====
module

public import proofs.«01_k».proof.Proof.Conv.Trip

@[expose] public section

set_option maxRecDepth 65536

noncomputable section

namespace Cert.KConvIdeal.Val

open Idealize.ShloMosaic Idealize.ShloMosaic.TcCoe Idealize.ShloMosaic.Tactic
open Cert.KConvIdeal.Gen

set_option maxHeartbeats 40000000 in
/-- A trip's stores of the second accumulator. -/
theorem acc22 (arg16 : Memref sig .tc .vmem S256x1024 .f32) (arg18 : Memref sig .tc .vmem S288x1024 .f32) (arg22 : Memref sig .tc .vmem S248x1024 .f32) (arg23 : Memref sig .tc .vmem S8x288x128 .f32)
    (X16 : BufTy.Contents (Elt Ideal) arg16.view.ty) (X18 : BufTy.Contents (Elt Ideal) arg18.view.ty) (k : Fin k0_t1_loop.trips) (f : BufTy.Contents (Elt Ideal) arg22.view.ty) :
    Acc arg22.view f 31 (lanes k) (term 31 (arg16.view.read (Elt Ideal) X16) (arg18.view.read (Elt Ideal) X18) (lanes k)) 123
      (trip_k0_t1.sl.HW_arg22_123 arg16 arg18 arg22 arg23 X16 X18 k f) := by
  have hS := slabs arg18 X18 k
  iterate 3
    iterate 7
      refine Acc.next (lane := lanes k) (d := ?_) (Blk.read arg16.view X16) ?_ rfl rfl ?_ (by decide) ?_
      on_goal 2 => refine Blk.slab arg23.view hS ?_
      · decide
      · rfl
    refine Acc.next (lane := lanes k) (Blk.read arg16.view X16) (Blk.read arg18.view X18) rfl rfl rfl (by decide) ?_
  iterate 6
    refine Acc.next (lane := lanes k) (d := ?_) (Blk.read arg16.view X16) ?_ rfl rfl ?_ (by decide) ?_
    on_goal 2 => refine Blk.slab arg23.view hS ?_
    · decide
    · rfl
  iterate 2
    iterate 3
      refine Acc.next (lane := lanes k) (Blk.read arg16.view X16) (Blk.read arg18.view X18) rfl rfl rfl (by decide) ?_
      iterate 7
        refine Acc.next (lane := lanes k) (d := ?_) (Blk.read arg16.view X16) ?_ rfl rfl ?_ (by decide) ?_
        on_goal 2 => refine Blk.slab arg23.view hS ?_
        · decide
        · rfl
    refine Acc.next (lane := lanes k) (Blk.read arg16.view X16) (Blk.read arg18.view X18) rfl rfl rfl (by decide) ?_
    iterate 6
      refine Acc.next (lane := lanes k) (d := ?_) (Blk.read arg16.view X16) ?_ rfl rfl ?_ (by decide) ?_
      on_goal 2 => refine Blk.slab arg23.view hS ?_
      · decide
      · rfl
  iterate 3
    refine Acc.first (lane := lanes k) (Blk.read arg16.view X16) (Blk.read arg18.view X18) rfl rfl rfl (by decide) ?_
    iterate 7
      refine Acc.first (lane := lanes k) (d := ?_) (Blk.read arg16.view X16) ?_ rfl rfl ?_ (by decide) ?_
      on_goal 2 => refine Blk.slab arg23.view hS ?_
      · decide
      · rfl
  refine Acc.first (lane := lanes k) (Blk.read arg16.view X16) (Blk.read arg18.view X18) rfl rfl rfl (by decide) ?_
  iterate 6
    refine Acc.first (lane := lanes k) (d := ?_) (Blk.read arg16.view X16) ?_ rfl rfl ?_ (by decide) ?_
    on_goal 2 => refine Blk.slab arg23.view hS ?_
    · decide
    · rfl
  exact Acc.nil

end Cert.KConvIdeal.Val
-- ==== Proof.Conv.Rows.lean ====
module

public import proofs.«01_k».proof.Proof.Conv.Trip

@[expose] public section

set_option maxRecDepth 65536

noncomputable section

namespace Cert.KConvIdeal.Val

open Idealize.ShloMosaic Idealize.ShloMosaic.TcCoe Idealize.ShloMosaic.Tactic
open Cert.KConvIdeal.Gen

/-- The columns of a trip written with the correlation, up to row `64 * n`. -/
structure Cols {sig : RefSig} {κ : Kind} {sp : Space} {H a a' b b' : ℕ} (v : View sig κ sp ⟨2, ![H, 1024]⟩ .f32) (f : v.ty.Contents (Elt Ideal))
    (J lane : ℕ) (Xw : Vec Ideal ⟨2, ![a, b]⟩ .f32) (Xd : Vec Ideal ⟨2, ![a', b']⟩ .f32) (n : ℕ) (L : List (View.Piece (Elt Ideal) ⟨2, ![H, 1024]⟩ .f32)) : Prop where
  val : ∀ i < 64 * n, ∀ l < 128, nat2 (v.read (Elt Ideal) (v.writes (Elt Ideal) f L)) i (lane + l)
    = ∑ j ∈ Finset.range J, nat2 Xw j (lane + l) * nat2 Xd (i + (J - 1 - j)) (lane + l)
  off : ∀ i j, (j < lane ∨ lane + 128 ≤ j) → nat2 (v.read (Elt Ideal) (v.writes (Elt Ideal) f L)) i j = nat2 (v.read (Elt Ideal) f) i j

theorem Sums.cast {a a' b b' J row lane n : ℕ} {Xw : Vec Ideal ⟨2, ![a, b]⟩ .f32} {Xd : Vec Ideal ⟨2, ![a', b']⟩ .f32} {V : Vec Ideal S64x128 .f32} {h : S64x128.ShapeCasts S64x128}
    (hV : Sums J Xw Xd row lane n V) : Sums J Xw Xd row lane n (shapeCast S64x128 V h) := by
  intro i hi l hl
  rw [← hV i hi l hl, nat2_of _ hi hl, nat2_of V hi hl]
  pointwise

section
variable {sig : RefSig} {κ : Kind} {sp : Space} {H a a' b b' : ℕ} {v : View sig κ sp ⟨2, ![H, 1024]⟩ .f32} {f : v.ty.Contents (Elt Ideal)}
  {J lane : ℕ} {Xw : Vec Ideal ⟨2, ![a, b]⟩ .f32} {Xd : Vec Ideal ⟨2, ![a', b']⟩ .f32} {n : ℕ} {L : List (View.Piece (Elt Ideal) ⟨2, ![H, 1024]⟩ .f32)}

theorem Cols.nil : Cols v f J lane Xw Xd 0 [] where
  val i hi := absurd hi (by omega)
  off _ _ _ := rfl

theorem Cols.cons {c : ℕ} {inb} {V : Vec Ideal S64x128 .f32} (hc : c = 64 * n) (hV : Sums J Xw Xd c lane J V) (h : Cols v f J lane Xw Xd n L) :
    Cols v f J lane Xw Xd (n + 1) (⟨Rect.unit ![c, lane] S64x128.size inb, V⟩ :: L) where
  val i hi l hl := by
    refine (nat2_store (p := 64) (r := 128) v f inb V L i (lane + l)).trans ?_
    by_cases hi' : c ≤ i
    · rw [if_pos (by omega), hV _ (by omega) _ (by omega), show lane + (lane + l - lane) = lane + l by omega]
      refine Finset.sum_congr rfl fun j _ => ?_
      rw [show c + (J - 1 - j) + (i - c) = i + (J - 1 - j) by omega]
    · rw [if_neg (by omega), h.val i (by omega) l hl]
  off i j hj := by
    refine (nat2_store (p := 64) (r := 128) v f inb V L i j).trans ?_
    rw [if_neg (by omega), h.off i j hj]
end

section
variable  (𝒱 : Variants) (c : Dev nD) (bd : Option 𝒱.V) (i : grid0.Coords) (arg1 : Memref sig .tc .vmem S256x1024 .f32) (harg1 : arg1.IsWhole) (arg2 : Memref sig .tc .vmem S8x1024 .f32) (harg2 : arg2.IsWhole) (arg3 : Memref sig .tc .vmem S256x1024 .f32) (harg3 : arg3.IsWhole) (arg4 : Memref sig .tc .vmem S32x1024 .f32) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S8x1024 .f32) (harg11 : arg11.IsWhole) (arg12 : Memref sig .tc .vmem S32x1024 .f32) (harg12 : arg12.IsWhole) (arg13 : Memref sig .tc .vmem S256x7168 .bf16) (harg13 : arg13.IsWhole) (arg14 : Memref sig .tc .vmem S40x1024 .f32) (harg14 : arg14.IsWhole) (arg15 : Memref sig .tc .vmem S256x1024 .f32) (harg15 : arg15.IsWhole) (arg16 : Memref sig .tc .vmem S256x1024 .f32) (harg16 : arg16.IsWhole) (arg17 : Memref sig .tc .vmem S264x1024 .f32) (harg17 : arg17.IsWhole) (arg18 : Memref sig .tc .vmem S288x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S24x1024 .f32) (harg21 : arg21.IsWhole) (arg22 : Memref sig .tc .vmem S248x1024 .f32) (harg22 : arg22.IsWhole) (arg23 : Memref sig .tc .vmem S8x288x128 .f32) (harg23 : arg23.IsWhole) (v1 : BitVec 1) (v9 : FVec Ideal S256x1024 .f32) (v31 : Vec Ideal S256x1024 .f32) (X_arg11 : BufTy.Contents (Elt Ideal) arg11.view.ty) (X_arg12 : BufTy.Contents (Elt Ideal) arg12.view.ty) (X_arg15 : BufTy.Contents (Elt Ideal) arg15.view.ty) (X_arg16 : BufTy.Contents (Elt Ideal) arg16.view.ty) (X_arg17 : BufTy.Contents (Elt Ideal) arg17.view.ty) (X_arg18 : BufTy.Contents (Elt Ideal) arg18.view.ty) (k : Fin k0_t1_loop.trips) (f_arg19 : BufTy.Contents (Elt Ideal) arg19.view.ty) (f_arg20 : BufTy.Contents (Elt Ideal) arg20.view.ty) (f_arg21 : BufTy.Contents (Elt Ideal) arg21.view.ty) (f_arg22 : BufTy.Contents (Elt Ideal) arg22.view.ty) (f_arg23 : BufTy.Contents (Elt Ideal) arg23.view.ty)

theorem cols19 : Cols arg19.view f_arg19 3 (lanes k) (arg11.view.read (Elt Ideal) X_arg11) (arg17.view.read (Elt Ideal) X_arg17) 4
    (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v9 v31 X_arg11 X_arg12 X_arg15 X_arg16 X_arg17 X_arg18 k f_arg19 f_arg20 f_arg21 f_arg22 f_arg23).1 := by
  unfold tripL_k0_t1 trip_k0_t1; dsimp only
  iterate 4
    refine Cols.cons (lane := lanes k) rfl (Sums.cast ?_) ?_
    iterate 3
      refine Sums.add (lane := lanes k) (h2 := broadcasts_S1x128_S64x128) (v := arg11.view) (f := X_arg11) (Blk.read arg17.view X_arg17) rfl rfl ?_
    exact Sums.zero
  exact Cols.nil

set_option maxHeartbeats 8000000 in
theorem cols20 : Cols arg20.view f_arg20 31 (lanes k) (arg12.view.read (Elt Ideal) X_arg12) (arg18.view.read (Elt Ideal) X_arg18) 4
    (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v9 v31 X_arg11 X_arg12 X_arg15 X_arg16 X_arg17 X_arg18 k f_arg19 f_arg20 f_arg21 f_arg22 f_arg23).2.1 := by
  unfold tripL_k0_t1 trip_k0_t1; dsimp only
  have hS := slabs arg18 X_arg18 k
  clear cols20 harg1 harg2 harg3 harg4 harg5 harg6 harg7 harg8 harg9 harg10 harg11 harg12 harg13 harg14 harg15 harg16 harg17 harg18 harg19 harg20 harg21 harg22 harg23 arg1 arg2 arg3 arg4 arg5 arg6 arg7 arg8 arg9 arg10 arg13 arg14 v1 v9 v31 X_arg11 X_arg15 X_arg16 X_arg17 f_arg19 f_arg21 f_arg22 f_arg23 arg11 arg15 arg16 arg17 arg19 arg21 arg22 bd c i
  iterate 4
    refine Cols.cons (lane := lanes k) rfl (Sums.cast ?_) ?_
    refine Sums.add (lane := lanes k) (h2 := broadcasts_S1x128_S64x128) (v := arg12.view) (f := X_arg12) (Blk.read arg18.view X_arg18) rfl rfl ?_
    iterate 3
      iterate 7
        refine Sums.add (lane := lanes k) (h2 := broadcasts_S1x128_S64x128) (v := arg12.view) (f := X_arg12) (d := ?_) ?_ ?_ rfl ?_
        on_goal 2 => refine Blk.slab arg23.view hS ?_
        · decide
        · rfl
      refine Sums.add (lane := lanes k) (h2 := broadcasts_S1x128_S64x128) (v := arg12.view) (f := X_arg12) (Blk.read arg18.view X_arg18) rfl rfl ?_
    iterate 6
      refine Sums.add (lane := lanes k) (h2 := broadcasts_S1x128_S64x128) (v := arg12.view) (f := X_arg12) (d := ?_) ?_ ?_ rfl ?_
      on_goal 2 => refine Blk.slab arg23.view hS ?_
      · decide
      · rfl
    exact Sums.zero
  exact Cols.nil
end

end Cert.KConvIdeal.Val
-- ==== Proof.Conv.Loop.lean ====
module

public import proofs.«01_k».proof.Proof.Conv.Chain
public import proofs.«01_k».proof.Proof.Conv.Rows

@[expose] public section

set_option maxRecDepth 65536

noncomputable section

namespace Cert.KConvIdeal.Val

open Idealize.ShloMosaic Idealize.ShloMosaic.TcCoe Idealize.ShloMosaic.Tactic
open Cert.KConvIdeal.Gen

/-- A row and column of the correlation of a matrix with the `J` rows of another. -/
def corr {a a' b b' : ℕ} (J : ℕ) (Xw : Vec Ideal ⟨2, ![a, b]⟩ .f32) (Xd : Vec Ideal ⟨2, ![a', b']⟩ .f32) (i col : ℕ) : EReal :=
  ∑ j ∈ Finset.range J, nat2 Xw j col * nat2 Xd (i + (J - 1 - j)) col

/-- What a point adds to row `8 * j + q` of an accumulator. -/
def grow {a a' b b' : ℕ} (J : ℕ) (Xu : Vec Ideal ⟨2, ![a, b]⟩ .f32) (Xd : Vec Ideal ⟨2, ![a', b']⟩ .f32) (j q col : ℕ) : EReal :=
  ∑ r ∈ Finset.range 4, ∑ i ∈ Finset.range 8, nat2 Xu (64 * r + (8 * i + q)) col * nat2 Xd (64 * r + (J - 1 - j) + (8 * i + q)) col

theorem grow_of {a a' b b' : ℕ} {J : ℕ} (Xu : Vec Ideal ⟨2, ![a, b]⟩ .f32) (Xd : Vec Ideal ⟨2, ![a', b']⟩ .f32) {lane j q l : ℕ} (hj : j < J) :
    ∑ m ∈ (Finset.range (J * 4)).filter (· % J = j), term J Xu Xd lane m q l = grow J Xu Xd j q (lane + l) := by
  have hJ : 0 < J := by omega
  unfold grow
  refine Finset.sum_nbij' (fun m => m / J) (fun r => J * r + j) ?_ ?_ ?_ ?_ ?_
  · intro m hm
    rw [Finset.mem_filter, Finset.mem_range] at hm
    exact Finset.mem_range.mpr (Nat.div_lt_of_lt_mul hm.1)
  · intro r hr
    have hr := Finset.mem_range.mp hr
    rw [Finset.mem_filter, Finset.mem_range]
    refine ⟨?_, by rw [Nat.mul_add_mod, Nat.mod_eq_of_lt hj]⟩
    calc J * r + j < J * r + J := by omega
      _ = J * (r + 1) := by ring
      _ ≤ J * 4 := Nat.mul_le_mul_left _ (by omega)
  · intro m hm
    rw [Finset.mem_filter] at hm
    show J * (m / J) + j = m
    have := Nat.div_add_mod m J
    omega
  · intro r _
    show (J * r + j) / J = r
    rw [Nat.mul_add_div hJ, Nat.div_eq_of_lt hj, Nat.add_zero]
  · intro m hm
    rw [Finset.mem_filter] at hm
    unfold term
    rw [hm.2]

section
variable {sig : RefSig} {κ : Kind} {sp : Space} {H : ℕ} (v : View sig κ sp ⟨2, ![H, 1024]⟩ .f32) (G : v.ty.Contents (Elt Ideal))
  (J : ℕ) {a a' b b' : ℕ} (Xu : Vec Ideal ⟨2, ![a, b]⟩ .f32) (Xd : Vec Ideal ⟨2, ![a', b']⟩ .f32) (k : ℕ) (L : List (View.Piece (Elt Ideal) ⟨2, ![H, 1024]⟩ .f32))

/-- The accumulator after the first `k` trips. -/
def Grown : Prop := ∀ j < J, ∀ q < 8, ∀ col, nat2 (v.read (Elt Ideal) (v.writes (Elt Ideal) G L)) (8 * j + q) col
  = nat2 (v.read (Elt Ideal) G) (8 * j + q) col + if col < 128 * k then grow J Xu Xd j q col else 0

/-- The correlation written by the first `k` trips. -/
def Filled : Prop := ∀ i < 256, ∀ col < 128 * k, nat2 (v.read (Elt Ideal) (v.writes (Elt Ideal) G L)) i col = corr J Xu Xd i col
end

section
variable {sig : RefSig} {κ : Kind} {sp : Space} {H : ℕ} {v : View sig κ sp ⟨2, ![H, 1024]⟩ .f32} {G : v.ty.Contents (Elt Ideal)}
  {J : ℕ} {a a' b b' : ℕ} {Xu : Vec Ideal ⟨2, ![a, b]⟩ .f32} {Xd : Vec Ideal ⟨2, ![a', b']⟩ .f32} {k : ℕ} {L M : List (View.Piece (Elt Ideal) ⟨2, ![H, 1024]⟩ .f32)}

theorem Grown.nil : Grown v G J Xu Xd 0 [] := by
  intro j _ q _ col
  rw [if_neg (by omega), add_zero]
  rfl

theorem Filled.nil : Filled v G J Xu Xd 0 [] := fun _ _ _ h => absurd h (by omega)

theorem Grown.trip (h : Acc v (v.writes (Elt Ideal) G M) J (128 * k) (term J Xu Xd (128 * k)) (J * 4) L) (ih : Grown v G J Xu Xd k M) :
    Grown v G J Xu Xd (k + 1) (L ++ M) := by
  intro j hj q hq col
  rw [View.writes_append]
  by_cases hc : 128 * k ≤ col ∧ col < 128 * k + 128
  · obtain ⟨l, rfl⟩ := Nat.exists_eq_add_of_le hc.1
    rw [h.val j hj q hq l (by omega), ih j hj q hq, grow_of Xu Xd hj, if_neg (by omega), if_pos (by omega), add_zero]
  · rw [h.off _ _ (by omega), ih j hj q hq]
    by_cases hk : col < 128 * k
    · rw [if_pos hk, if_pos (by omega)]
    · rw [if_neg hk, if_neg (by omega)]

theorem Filled.trip (h : Cols v (v.writes (Elt Ideal) G M) J (128 * k) Xu Xd 4 L) (ih : Filled v G J Xu Xd k M) :
    Filled v G J Xu Xd (k + 1) (L ++ M) := by
  intro i hi col hcol
  rw [View.writes_append]
  by_cases hc : 128 * k ≤ col
  · obtain ⟨l, rfl⟩ := Nat.exists_eq_add_of_le hc
    exact h.val i (by omega) l (by omega)
  · rw [h.off _ _ (by omega), ih i hi col (by omega)]
end

section
variable  (𝒱 : Variants) (c : Dev nD) (bd : Option 𝒱.V) (i : grid0.Coords) (arg1 : Memref sig .tc .vmem S256x1024 .f32) (harg1 : arg1.IsWhole) (arg2 : Memref sig .tc .vmem S8x1024 .f32) (harg2 : arg2.IsWhole) (arg3 : Memref sig .tc .vmem S256x1024 .f32) (harg3 : arg3.IsWhole) (arg4 : Memref sig .tc .vmem S32x1024 .f32) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S8x1024 .f32) (harg11 : arg11.IsWhole) (arg12 : Memref sig .tc .vmem S32x1024 .f32) (harg12 : arg12.IsWhole) (arg13 : Memref sig .tc .vmem S256x7168 .bf16) (harg13 : arg13.IsWhole) (arg14 : Memref sig .tc .vmem S40x1024 .f32) (harg14 : arg14.IsWhole) (arg15 : Memref sig .tc .vmem S256x1024 .f32) (harg15 : arg15.IsWhole) (arg16 : Memref sig .tc .vmem S256x1024 .f32) (harg16 : arg16.IsWhole) (arg17 : Memref sig .tc .vmem S264x1024 .f32) (harg17 : arg17.IsWhole) (arg18 : Memref sig .tc .vmem S288x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S24x1024 .f32) (harg21 : arg21.IsWhole) (arg22 : Memref sig .tc .vmem S248x1024 .f32) (harg22 : arg22.IsWhole) (arg23 : Memref sig .tc .vmem S8x288x128 .f32) (harg23 : arg23.IsWhole) (v1 : BitVec 1) (v9 : FVec Ideal S256x1024 .f32) (v31 : Vec Ideal S256x1024 .f32) (X_arg11 : BufTy.Contents (Elt Ideal) arg11.view.ty) (X_arg12 : BufTy.Contents (Elt Ideal) arg12.view.ty) (X_arg15 : BufTy.Contents (Elt Ideal) arg15.view.ty) (X_arg16 : BufTy.Contents (Elt Ideal) arg16.view.ty) (X_arg17 : BufTy.Contents (Elt Ideal) arg17.view.ty) (X_arg18 : BufTy.Contents (Elt Ideal) arg18.view.ty) (k : Fin k0_t1_loop.trips) (f_arg19 : BufTy.Contents (Elt Ideal) arg19.view.ty) (f_arg20 : BufTy.Contents (Elt Ideal) arg20.view.ty) (f_arg21 : BufTy.Contents (Elt Ideal) arg21.view.ty) (f_arg22 : BufTy.Contents (Elt Ideal) arg22.view.ty) (f_arg23 : BufTy.Contents (Elt Ideal) arg23.view.ty)

theorem all21 : Acc arg21.view f_arg21 3 (lanes k) (term 3 (arg15.view.read (Elt Ideal) X_arg15) (arg17.view.read (Elt Ideal) X_arg17) (lanes k)) 12
    (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v9 v31 X_arg11 X_arg12 X_arg15 X_arg16 X_arg17 X_arg18 k f_arg19 f_arg20 f_arg21 f_arg22 f_arg23).2.2.1 := by
  unfold tripL_k0_t1 trip_k0_t1; dsimp only
  exact Acc.next (lane := lanes k) (Blk.read arg15.view X_arg15) (Blk.read arg17.view X_arg17) rfl rfl rfl (by decide) (acc21 arg15 arg17 arg21 X_arg15 X_arg17 k f_arg21)

theorem all22 : Acc arg22.view f_arg22 31 (lanes k) (term 31 (arg16.view.read (Elt Ideal) X_arg16) (arg18.view.read (Elt Ideal) X_arg18) (lanes k)) 124
    (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v9 v31 X_arg11 X_arg12 X_arg15 X_arg16 X_arg17 X_arg18 k f_arg19 f_arg20 f_arg21 f_arg22 f_arg23).2.2.2.1 := by
  unfold tripL_k0_t1 trip_k0_t1; dsimp only
  exact Acc.next (lane := lanes k) (Blk.read arg16.view X_arg16) (Blk.read arg18.view X_arg18) rfl rfl rfl (by decide) (acc22 arg16 arg18 arg22 arg23 X_arg16 X_arg18 k f_arg22)
end

section
variable  (𝒱 : Variants) (c : Dev nD) (bd : Option 𝒱.V) (i : grid0.Coords) (arg1 : Memref sig .tc .vmem S256x1024 .f32) (harg1 : arg1.IsWhole) (arg2 : Memref sig .tc .vmem S8x1024 .f32) (harg2 : arg2.IsWhole) (arg3 : Memref sig .tc .vmem S256x1024 .f32) (harg3 : arg3.IsWhole) (arg4 : Memref sig .tc .vmem S32x1024 .f32) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S8x1024 .f32) (harg11 : arg11.IsWhole) (arg12 : Memref sig .tc .vmem S32x1024 .f32) (harg12 : arg12.IsWhole) (arg13 : Memref sig .tc .vmem S256x7168 .bf16) (harg13 : arg13.IsWhole) (arg14 : Memref sig .tc .vmem S40x1024 .f32) (harg14 : arg14.IsWhole) (arg15 : Memref sig .tc .vmem S256x1024 .f32) (harg15 : arg15.IsWhole) (arg16 : Memref sig .tc .vmem S256x1024 .f32) (harg16 : arg16.IsWhole) (arg17 : Memref sig .tc .vmem S264x1024 .f32) (harg17 : arg17.IsWhole) (arg18 : Memref sig .tc .vmem S288x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S24x1024 .f32) (harg21 : arg21.IsWhole) (arg22 : Memref sig .tc .vmem S248x1024 .f32) (harg22 : arg22.IsWhole) (arg23 : Memref sig .tc .vmem S8x288x128 .f32) (harg23 : arg23.IsWhole) (v1 : BitVec 1) (v9 : FVec Ideal S256x1024 .f32) (v31 : Vec Ideal S256x1024 .f32) (X_arg11 : BufTy.Contents (Elt Ideal) arg11.view.ty) (X_arg12 : BufTy.Contents (Elt Ideal) arg12.view.ty) (X_arg15 : BufTy.Contents (Elt Ideal) arg15.view.ty) (X_arg16 : BufTy.Contents (Elt Ideal) arg16.view.ty) (X_arg17 : BufTy.Contents (Elt Ideal) arg17.view.ty) (X_arg18 : BufTy.Contents (Elt Ideal) arg18.view.ty) (G_arg19 : BufTy.Contents (Elt Ideal) arg19.view.ty) (G_arg20 : BufTy.Contents (Elt Ideal) arg20.view.ty) (G_arg21 : BufTy.Contents (Elt Ideal) arg21.view.ty) (G_arg22 : BufTy.Contents (Elt Ideal) arg22.view.ty) (G_arg23 : BufTy.Contents (Elt Ideal) arg23.view.ty)

theorem loop_upto (n : ℕ) (hn : n ≤ 8) :
    Filled arg19.view G_arg19 3 (arg11.view.read (Elt Ideal) X_arg11) (arg17.view.read (Elt Ideal) X_arg17) n (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v9 v31 X_arg11 X_arg12 X_arg15 X_arg16 X_arg17 X_arg18 G_arg19 G_arg20 G_arg21 G_arg22 G_arg23 n).1
    ∧ Filled arg20.view G_arg20 31 (arg12.view.read (Elt Ideal) X_arg12) (arg18.view.read (Elt Ideal) X_arg18) n (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v9 v31 X_arg11 X_arg12 X_arg15 X_arg16 X_arg17 X_arg18 G_arg19 G_arg20 G_arg21 G_arg22 G_arg23 n).2.1
    ∧ Grown arg21.view G_arg21 3 (arg15.view.read (Elt Ideal) X_arg15) (arg17.view.read (Elt Ideal) X_arg17) n (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v9 v31 X_arg11 X_arg12 X_arg15 X_arg16 X_arg17 X_arg18 G_arg19 G_arg20 G_arg21 G_arg22 G_arg23 n).2.2.1
    ∧ Grown arg22.view G_arg22 31 (arg16.view.read (Elt Ideal) X_arg16) (arg18.view.read (Elt Ideal) X_arg18) n (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v9 v31 X_arg11 X_arg12 X_arg15 X_arg16 X_arg17 X_arg18 G_arg19 G_arg20 G_arg21 G_arg22 G_arg23 n).2.2.2.1 := by
  induction n with
  | zero => exact ⟨Filled.nil, Filled.nil, Grown.nil, Grown.nil⟩
  | succ n ih =>
    obtain ⟨h1, h2, h3, h4⟩ := ih (by omega)
    have hk : n < k0_t1_loop.trips := Nat.lt_of_lt_of_le (by omega : n < 8) (by decide)
    have hl : lanes ⟨n, hk⟩ = 128 * n := lanes_eq ⟨n, hk⟩
    rw [pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v9 v31 X_arg11 X_arg12 X_arg15 X_arg16 X_arg17 X_arg18 G_arg19 G_arg20 G_arg21 G_arg22 G_arg23 ⟨n, hk⟩]
    refine ⟨Filled.trip ?_ h1, Filled.trip ?_ h2, Grown.trip ?_ h3, Grown.trip ?_ h4⟩ <;> rw [← hl]
    · exact cols19 ..
    · exact cols20 ..
    · exact all21 ..
    · exact all22 ..
end

end Cert.KConvIdeal.Val
-- ==== Proof.Conv.Vals.lean ====
/- The rows a point works on, as rows of whole arrays: what its scratch holds when the loop starts, and what its stores
   into the outputs leave. -/
module

public import proofs.«01_k».proof.Proof.Conv.Loop
public import Idealize.ShloMosaic.Lib.VecWindow

@[expose] public section

set_option maxRecDepth 16384

noncomputable section

namespace Cert.KConvIdeal.Val

open Idealize.ShloMosaic Idealize.ShloMosaic.TcCoe Idealize.ShloMosaic.Tactic
open Cert.KConvIdeal Cert.KConvIdeal.Gen
open scoped BigOperators

/-! ## The expressions -/

/-- The logistic function through the hyperbolic tangent. -/
def sgm (x : EReal) : EReal :=
  Ideal.ofBits .f32 0x3F000000#32 * Ideal.tanh (Ideal.ofBits .f32 0x3F000000#32 * x) + Ideal.ofBits .f32 0x3F000000#32

/-- A matrix of the narrow format as one of the wide format. -/
def wide {s : Shape} (X : Vec Ideal s .bf16) : Vec Ideal s .f32 := fun y => X y

/-- The arrays the call reads: the padded weights, the two cotangents of the convolutions, the saved projection, and the
    two cotangents handed through. -/
structure Arrs where
  W3 : Vec Ideal S8x1024 .f32
  W31 : Vec Ideal S32x1024 .f32
  D3 : Vec Ideal S8192x1024 .f32
  D31 : Vec Ideal S8192x1024 .f32
  P : Vec Ideal S8192x7168 .bf16
  DBA : Vec Ideal S8192x1024 .bf16
  DG : Vec Ideal S8192x2048 .bf16

variable (G : Arrs)

/-- The saved projection at natural indices. -/
def pn (n k : ℕ) : EReal := nat2 (a := 8192) (b := 7168) (wide G.P) n k

/-- The inputs of the two convolutions. -/
def U3 : Vec Ideal S8192x1024 .f32 := fun y => pn G (y 0).val (1024 + (y 1).val) * pn G (y 0).val (2048 + (y 1).val)
def U31 : Vec Ideal S8192x1024 .f32 := fun y => pn G (y 0).val (3072 + (y 1).val) * sgm (pn G (y 0).val (4096 + (y 1).val))

/-- The transposed convolutions. -/
def c3 (n k : ℕ) : EReal := corr (a := 8) (b := 1024) (a' := 8192) (b' := 1024) 3 G.W3 G.D3 n k
def c31 (n k : ℕ) : EReal := corr (a := 32) (b := 1024) (a' := 8192) (b' := 1024) 31 G.W31 G.D31 n k

/-- The gradient of the projection. -/
def dpv (n k : ℕ) : EReal :=
  if k < 1024 then nat2 (a := 8192) (b := 1024) (wide G.DBA) n k
  else if k < 2048 then c3 G n (k - 1024) * pn G n (k + 1024)
  else if k < 3072 then c3 G n (k - 2048) * pn G n (k - 1024)
  else if k < 4096 then c31 G n (k - 3072) * sgm (pn G n (k + 1024))
  else if k < 5120 then c31 G n (k - 4096) * pn G n (k - 1024) * (sgm (pn G n k) * (Ideal.ofBits .f32 0x3F800000#32 - sgm (pn G n k)))
  else nat2 (a := 8192) (b := 2048) (wide G.DG) n (k - 5120)

/-- What point `t` adds to row `8 * j + q` of an accumulator. -/
def gr {a b a' b' : ℕ} (J : ℕ) (U : Vec Ideal ⟨2, ![a, b]⟩ .f32) (D : Vec Ideal ⟨2, ![a', b']⟩ .f32) (t j q col : ℕ) : EReal :=
  ∑ r ∈ Finset.range 4, ∑ i ∈ Finset.range 8,
    nat2 U (256 * t + (64 * r + (8 * i + q))) col * nat2 D (256 * t + (64 * r + (J - 1 - j) + (8 * i + q))) col

def g3 (t j q col : ℕ) : EReal := gr (a := 8192) (b := 1024) (a' := 8192) (b' := 1024) 3 (U3 G) G.D3 t j q col
def g31 (t j q col : ℕ) : EReal := gr (a := 8192) (b := 1024) (a' := 8192) (b' := 1024) 31 (U31 G) G.D31 t j q col

/-- The gradient of the two weights, one above the other. -/
def gwv (k col : ℕ) : EReal :=
  if k < 3 then ∑ q ∈ Finset.range 8, ∑ t ∈ Finset.range 32, g3 G t k q col
  else if 8 ≤ k ∧ k < 39 then ∑ q ∈ Finset.range 8, ∑ t ∈ Finset.range 32, g31 G t (k - 8) q col
  else 0

/-- A matrix whose first rows are the rows of another from `n0` on. -/
def Rows {a b : ℕ} (n0 p : ℕ) (x : Vec Ideal ⟨2, ![a, 1024]⟩ .f32) (X : Vec Ideal ⟨2, ![b, 1024]⟩ .f32) : Prop :=
  ∀ i < p, ∀ col < 1024, nat2 x i col = nat2 X (n0 + i) col

/-- The loop's results as rows of the whole. -/
theorem Filled.whole {sig : RefSig} {κ : Kind} {sp : Space} {v : View sig κ sp S256x1024 .f32} {B : v.ty.Contents (Elt Ideal)}
    {J : ℕ} {a a' a'' b'' : ℕ} {Xw : Vec Ideal ⟨2, ![a, 1024]⟩ .f32} {Xd : Vec Ideal ⟨2, ![a', 1024]⟩ .f32} {n t : ℕ}
    {L : List (View.Piece (Elt Ideal) S256x1024 .f32)} {D : Vec Ideal ⟨2, ![a'', 1024]⟩ .f32} {W : Vec Ideal ⟨2, ![b'', 1024]⟩ .f32}
    (h : Filled (H := 256) v B J Xw Xd n L) (hn : 8 ≤ n) (hw : Rows 0 J Xw W) (hd : Rows (256 * t) (256 + (J - 1)) Xd D)
    (inb : ∀ x, (![0, 0] : Fin 2 → ℕ) x + S256x1024.size x ≤ S256x1024.size x) (i : Fin 256) (col : Fin 1024) :
    (v.readAt (Elt Ideal) (Rect.unit ![0, 0] S256x1024.size inb).toLoadRect (v.writes (Elt Ideal) B L)) (ix2 i col)
      = corr J W D (256 * t + i.val) col.val := by
  rw [View.readAt_full, ← nat2_at (a := 256) (b := 1024) (v.read (Elt Ideal) (v.writes (Elt Ideal) B L)) (ix2 i col) rfl rfl]
  refine (h i.val i.isLt col.val (by have := col.isLt; omega)).trans ?_
  refine Finset.sum_congr rfl fun j hj => ?_
  have hj := Finset.mem_range.mp hj
  have hi := i.isLt
  rw [hw j hj col.val col.isLt, hd (i.val + (J - 1 - j)) (by omega) col.val col.isLt, Nat.zero_add, Nat.add_assoc]

theorem Grown.whole {sig : RefSig} {κ : Kind} {sp : Space} {H : ℕ} {v : View sig κ sp ⟨2, ![H, 1024]⟩ .f32} {B : v.ty.Contents (Elt Ideal)}
    {J : ℕ} {a a' a'' b'' : ℕ} {Xu : Vec Ideal ⟨2, ![a, 1024]⟩ .f32} {Xd : Vec Ideal ⟨2, ![a', 1024]⟩ .f32} {n t : ℕ}
    {L : List (View.Piece (Elt Ideal) ⟨2, ![H, 1024]⟩ .f32)} {D : Vec Ideal ⟨2, ![a'', 1024]⟩ .f32} {U : Vec Ideal ⟨2, ![b'', 1024]⟩ .f32}
    (h : Grown v B J Xu Xd n L) (hn : 8 ≤ n) (hu : Rows (256 * t) 256 Xu U) (hd : Rows (256 * t) (256 + (J - 1)) Xd D)
    {j q col : ℕ} (hj : j < J) (hq : q < 8) (hc : col < 1024) :
    nat2 (v.read (Elt Ideal) (v.writes (Elt Ideal) B L)) (8 * j + q) col
      = nat2 (v.read (Elt Ideal) B) (8 * j + q) col + gr J U D t j q col := by
  rw [h j hj q hq col, if_pos (by omega)]
  congr 1
  refine Finset.sum_congr rfl fun r hr => Finset.sum_congr rfl fun i hi => ?_
  have hr := Finset.mem_range.mp hr
  have hi := Finset.mem_range.mp hi
  rw [hu _ (by omega) col hc, hd _ (by omega) col hc]

/-! ## The scratch when the loop starts -/

theorem out_of {a b : ℕ} (X : Vec Ideal ⟨2, ![a, b]⟩ .f32) {i j : ℕ} (h : a ≤ i) : nat2 X i j = 0 :=
  dif_neg fun hh => absurd hh.1 (by omega)

theorem stored {sig : RefSig} {κ : Kind} {sp : Space} (v : View sig κ sp S256x1024 .f32) (f : v.ty.Contents (Elt Ideal))
    (inb : ∀ x, (![0, 0] : Fin 2 → ℕ) x + S256x1024.size x ≤ S256x1024.size x) (W : Vec Ideal S256x1024 .f32) {i col : ℕ}
    (hi : i < 256) (hc : col < 1024) :
    nat2 (a := 256) (b := 1024) (v.read (Elt Ideal) (v.writes (Elt Ideal) f [⟨Rect.unit ![0, 0] S256x1024.size inb, W⟩])) i col
      = nat2 (a := 256) (b := 1024) W i col := by
  refine (nat2_store v f inb W [] i col).trans ?_
  rw [if_pos (by omega), Nat.sub_zero, Nat.sub_zero]

theorem prod3 (x y : Vec Ideal S256x1024 .bf16) {i col : ℕ} (hi : i < 256) (hc : col < 1024) :
    nat2 (a := 256) (b := 1024) (k0_pay511 x y) i col = nat2 (a := 256) (b := 1024) (wide x) i col * nat2 (a := 256) (b := 1024) (wide y) i col := by
  rw [nat2_of _ hi hc, nat2_of _ hi hc, nat2_of _ hi hc]
  have h : ∀ (i : Fin 256) (col : Fin 1024), k0_pay511 x y (ix2 i col) = x (ix2 i col) * y (ix2 i col) := by
    intro i col
    pointwise [k0_pay511, k0_pay508, k0_pay509]
  exact h _ _

theorem gate (y : Vec Ideal S256x1024 .bf16) (i : Fin 256) (col : Fin 1024) : k0_pay512 y (ix2 i col) = sgm (y (ix2 i col)) := by
  pointwise [k0_pay512, sgm]

theorem prod31 (x y : Vec Ideal S256x1024 .bf16) {i col : ℕ} (hi : i < 256) (hc : col < 1024) :
    nat2 (a := 256) (b := 1024) (k0_pay513 x y) i col = nat2 (a := 256) (b := 1024) (wide x) i col * sgm (nat2 (a := 256) (b := 1024) (wide y) i col) := by
  rw [nat2_of _ hi hc, nat2_of _ hi hc, nat2_of _ hi hc]
  have h : ∀ (i : Fin 256) (col : Fin 1024), k0_pay513 x y (ix2 i col) = x (ix2 i col) * sgm (y (ix2 i col)) := by
    intro i col
    rw [← gate]
    pointwise [k0_pay513, k0_pay510]
  exact h _ _

/-- The two stores that lay a block of 256 rows and a tail of the next rows one above the other. -/
theorem stacked {sig : RefSig} {κ : Kind} {sp : Space} {a p : ℕ} (v : View sig κ sp ⟨2, ![a, 1024]⟩ .f32) (f : v.ty.Contents (Elt Ideal))
    (inb : ∀ x, (![256, 0] : Fin 2 → ℕ) x + (![p, 1024] : Fin 2 → ℕ) x ≤ (![a, 1024] : Fin 2 → ℕ) x)
    (inb' : ∀ x, (![0, 0] : Fin 2 → ℕ) x + (![256, 1024] : Fin 2 → ℕ) x ≤ (![a, 1024] : Fin 2 → ℕ) x)
    (T : Vec Ideal ⟨2, ![p, 1024]⟩ .f32) (W : Vec Ideal ⟨2, ![256, 1024]⟩ .f32) {b : ℕ} {D : Vec Ideal ⟨2, ![b, 1024]⟩ .f32} {n0 p' : ℕ} (hp : p' ≤ p)
    (hW : Rows n0 256 W D) (hT : Rows (n0 + 256) p' T D) :
    Rows n0 (256 + p') (v.read (Elt Ideal) (v.writes (Elt Ideal) f [⟨Rect.unit ![256, 0] ![p, 1024] inb, T⟩, ⟨Rect.unit ![0, 0] ![256, 1024] inb', W⟩])) D := by
  intro i hi col hc
  rw [nat2_store]
  by_cases h : 256 ≤ i
  · rw [if_pos (by omega), hT (i - 256) (by omega) _ (by omega)]
    congr 1 <;> omega
  · rw [if_neg (by omega), nat2_store, if_pos (by omega), hW (i - 0) (by omega) _ (by omega), Nat.sub_zero, Nat.sub_zero]

theorem tok3 (x : Vec Ideal S256x1024 .f32) : k0_pay514 x = x := by
  funext y
  pointwise [k0_pay514]

theorem tok31 (x : Vec Ideal S256x1024 .f32) : k0_pay516 x = x := by
  funext y
  pointwise [k0_pay516]

theorem next3 (b : BitVec 1) (y : Vec Ideal S8x1024 .f32) : k0_pay515 b y = fun z => if b = 1#1 then 0 else y z := by
  funext z
  by_cases h : b = 1#1
  · subst h
    pointwise [k0_pay515, Scalar.select]
    exact congrFun (if_pos rfl) z
  · pointwise [k0_pay515, Scalar.select, h]
    exact congrFun (if_neg h) z

theorem next31 (b : BitVec 1) (y : Vec Ideal S32x1024 .f32) : k0_pay517 b y = fun z => if b = 1#1 then 0 else y z := by
  funext z
  by_cases h : b = 1#1
  · subst h
    pointwise [k0_pay517, Scalar.select]
    exact congrFun (if_pos rfl) z
  · pointwise [k0_pay517, Scalar.select, h]
    exact congrFun (if_neg h) z

/-- The tail of the rows is masked at the last point. -/
theorem tail {p b : ℕ} {y : Vec Ideal ⟨2, ![p, 1024]⟩ .f32} {D : Vec Ideal ⟨2, ![b, 1024]⟩ .f32} {c : BitVec 1} {n0 : ℕ}
    (h0 : c = 1#1 → b ≤ n0) (h1 : c ≠ 1#1 → Rows n0 p y D) :
    Rows n0 p (fun z => if c = 1#1 then 0 else y z) D := by
  intro i hi col hc
  rw [nat2_of _ hi hc]
  by_cases h : c = 1#1
  · rw [if_pos h, out_of D (by have := h0 h; omega)]
  · rw [if_neg h, ← nat2_of y hi hc, h1 h i hi col hc]

theorem zeros3 : (k0_pay506 (F := Ideal)) = fun _ => 0 := by
  funext y
  pointwise [k0_pay506]

theorem zeros31 : (k0_pay507 (F := Ideal)) = fun _ => 0 := by
  funext y
  pointwise [k0_pay507]

/-! ## The stores into the gradient of the projection -/

theorem col_store {sig : RefSig} {κ : Kind} {sp : Space} (v : View sig κ sp S256x7168 .bf16) (f : v.ty.Contents (Elt Ideal))
    {d r : ℕ} (inb : ∀ x, (![0, d] : Fin 2 → ℕ) x + (![256, r] : Fin 2 → ℕ) x ≤ S256x7168.size x)
    (W : Vec Ideal ⟨2, ![256, r]⟩ .bf16) (L : List (View.Piece (Elt Ideal) S256x7168 .bf16)) (i : Fin 256) (k : Fin 7168)
    {z : EReal} (hin : ∀ h : d ≤ k.val ∧ k.val < d + r, W (ix2 i ⟨k.val - d, by omega⟩) = z)
    (hout : ¬(d ≤ k.val ∧ k.val < d + r) → v.read (Elt Ideal) (v.writes (Elt Ideal) f L) (ix2 i k) = z) :
    v.read (Elt Ideal) (v.writes (Elt Ideal) f (⟨Rect.unit ![0, d] ![256, r] inb, W⟩ :: L)) (ix2 i k) = z := by
  by_cases h : d ≤ k.val ∧ k.val < d + r
  · rw [← hin h]
    refine View.read_writes_cons_unit_of_mem v f inb W L _ (ix2 i ⟨k.val - d, by omega⟩) rfl fun x => ?_
    match x with
    | ⟨0, _⟩ => show i.val = 0 + i.val; omega
    | ⟨1, _⟩ => show k.val = d + (k.val - d); omega
  · refine (View.read_writes_cons_unit_of_not_mem v f inb W L _ rfl 1 ?_).trans (hout h)
    show k.val < d ∨ d + r ≤ k.val
    omega

theorem six {sig : RefSig} {κ : Kind} {sp : Space} (v : View sig κ sp S256x7168 .bf16) (f : v.ty.Contents (Elt Ideal))
    (inb5 : ∀ x, (![0, 5120] : Fin 2 → ℕ) x + (![256, 2048] : Fin 2 → ℕ) x ≤ S256x7168.size x)
    (inb4 : ∀ x, (![0, 4096] : Fin 2 → ℕ) x + (![256, 1024] : Fin 2 → ℕ) x ≤ S256x7168.size x)
    (inb3 : ∀ x, (![0, 3072] : Fin 2 → ℕ) x + (![256, 1024] : Fin 2 → ℕ) x ≤ S256x7168.size x)
    (inb2 : ∀ x, (![0, 2048] : Fin 2 → ℕ) x + (![256, 1024] : Fin 2 → ℕ) x ≤ S256x7168.size x)
    (inb1 : ∀ x, (![0, 1024] : Fin 2 → ℕ) x + (![256, 1024] : Fin 2 → ℕ) x ≤ S256x7168.size x)
    (inb0 : ∀ x, (![0, 0] : Fin 2 → ℕ) x + (![256, 1024] : Fin 2 → ℕ) x ≤ S256x7168.size x)
    (x5 x6 x7 x8 x9 : Vec Ideal S256x1024 .bf16) (x10 : Vec Ideal S256x2048 .bf16) (v52 v53 : Vec Ideal S256x1024 .f32) {t : ℕ}
    (h5 : ∀ i k, x5 (ix2 i k) = pn G (256 * t + i.val) (1024 + k.val)) (h6 : ∀ i k, x6 (ix2 i k) = pn G (256 * t + i.val) (2048 + k.val))
    (h7 : ∀ i k, x7 (ix2 i k) = pn G (256 * t + i.val) (3072 + k.val)) (h8 : ∀ i k, x8 (ix2 i k) = pn G (256 * t + i.val) (4096 + k.val))
    (h9 : ∀ i k, x9 (ix2 i k) = nat2 (a := 8192) (b := 1024) (wide G.DBA) (256 * t + i.val) k.val)
    (h10 : ∀ i k, x10 (ix2 i k) = nat2 (a := 8192) (b := 2048) (wide G.DG) (256 * t + i.val) k.val)
    (h52 : ∀ (i : Fin 256) (k : Fin 1024), v52 (ix2 i k) = c3 G (256 * t + i.val) k.val)
    (h53 : ∀ (i : Fin 256) (k : Fin 1024), v53 (ix2 i k) = c31 G (256 * t + i.val) k.val) :
    v.read (Elt Ideal) (v.writes (Elt Ideal) f [⟨Rect.unit ![0, 5120] ![256, 2048] inb5, k0_pay4 x10⟩,
      ⟨Rect.unit ![0, 4096] ![256, 1024] inb4, k0_pay3 (k0_pay510 x7) (k0_pay512 x8) v53⟩,
      ⟨Rect.unit ![0, 3072] ![256, 1024] inb3, k0_pay2 (k0_pay512 x8) v53⟩,
      ⟨Rect.unit ![0, 2048] ![256, 1024] inb2, k0_pay1 (k0_pay508 x5) v52⟩,
      ⟨Rect.unit ![0, 1024] ![256, 1024] inb1, k0_pay521 (k0_pay509 x6) v52⟩,
      ⟨Rect.unit ![0, 0] ![256, 1024] inb0, k0_pay520 x9⟩])
      = fun y => dpv G (256 * t + (y 0).val) (y 1).val := by
  have p4 : ∀ i k, k0_pay4 x10 (ix2 i k) = x10 (ix2 i k) := by intro i k; pointwise [k0_pay4]
  have p3 : ∀ i k, k0_pay3 (k0_pay510 x7) (k0_pay512 x8) v53 (ix2 i k)
      = v53 (ix2 i k) * x7 (ix2 i k) * (sgm (x8 (ix2 i k)) * (Ideal.ofBits .f32 0x3F800000#32 - sgm (x8 (ix2 i k)))) := by
    intro i k; rw [← gate]; pointwise [k0_pay3, k0_pay510]
  have p2 : ∀ i k, k0_pay2 (k0_pay512 x8) v53 (ix2 i k) = v53 (ix2 i k) * sgm (x8 (ix2 i k)) := by
    intro i k; rw [← gate]; pointwise [k0_pay2]
  have p1 : ∀ i k, k0_pay1 (k0_pay508 x5) v52 (ix2 i k) = v52 (ix2 i k) * x5 (ix2 i k) := by intro i k; pointwise [k0_pay1, k0_pay508]
  have p521 : ∀ i k, k0_pay521 (k0_pay509 x6) v52 (ix2 i k) = v52 (ix2 i k) * x6 (ix2 i k) := by intro i k; pointwise [k0_pay521, k0_pay509]
  have p520 : ∀ i k, k0_pay520 x9 (ix2 i k) = x9 (ix2 i k) := by intro i k; pointwise [k0_pay520]
  funext y
  rw [eq_ix2 y]
  generalize hi : y 0 = i
  generalize hk : y 1 = k
  clear hi hk y
  change Fin 256 at i
  change Fin 7168 at k
  have hkl := k.isLt
  refine col_store v f inb5 _ _ i k (fun h => ?_) fun n5 => ?_
  · rw [p4, h10]
    show _ = dpv G (256 * t + i.val) k.val
    unfold dpv
    iterate 5 rw [if_neg (by omega)]
  refine col_store v f inb4 _ _ i k (fun h => ?_) fun n4 => ?_
  · rw [p3, h53, h7, h8]
    show _ = dpv G (256 * t + i.val) k.val
    unfold dpv
    iterate 4 rw [if_neg (by omega)]
    rw [if_pos (by omega)]
    show c31 G _ (k.val - 4096) * pn G _ (3072 + (k.val - 4096)) * (sgm (pn G _ (4096 + (k.val - 4096))) * (_ - sgm (pn G _ (4096 + (k.val - 4096))))) = _
    rw [show 3072 + (k.val - 4096) = k.val - 1024 by omega, show 4096 + (k.val - 4096) = k.val by omega]
  refine col_store v f inb3 _ _ i k (fun h => ?_) fun n3 => ?_
  · rw [p2, h53, h8]
    show _ = dpv G (256 * t + i.val) k.val
    unfold dpv
    iterate 3 rw [if_neg (by omega)]
    rw [if_pos (by omega)]
    show c31 G _ (k.val - 3072) * sgm (pn G _ (4096 + (k.val - 3072))) = _
    rw [show 4096 + (k.val - 3072) = k.val + 1024 by omega]
  refine col_store v f inb2 _ _ i k (fun h => ?_) fun n2 => ?_
  · rw [p1, h52, h5]
    show _ = dpv G (256 * t + i.val) k.val
    unfold dpv
    iterate 2 rw [if_neg (by omega)]
    rw [if_pos (by omega)]
    show c3 G _ (k.val - 2048) * pn G _ (1024 + (k.val - 2048)) = _
    rw [show 1024 + (k.val - 2048) = k.val - 1024 by omega]
  refine col_store v f inb1 _ _ i k (fun h => ?_) fun n1 => ?_
  · rw [p521, h52, h6]
    show _ = dpv G (256 * t + i.val) k.val
    unfold dpv
    rw [if_neg (by omega), if_pos (by omega)]
    show c3 G _ (k.val - 1024) * pn G _ (2048 + (k.val - 1024)) = _
    rw [show 2048 + (k.val - 1024) = k.val + 1024 by omega]
  refine col_store v f inb0 _ _ i k (fun h => ?_) fun n0 => absurd (⟨by omega, by omega⟩ : 0 ≤ k.val ∧ k.val < 0 + 1024) n0
  rw [p520, h9]
  show _ = dpv G (256 * t + i.val) k.val
  unfold dpv
  rw [if_pos (by omega)]
  rfl

/-! ## The stores into the gradient of the weights -/

theorem colsum (W : Vec Ideal S8x1024 .f32) {col : ℕ} (hc : col < 1024) :
    nat2 (a := 1) (b := 1024) (k0_pay505 W) 0 col = ∑ q ∈ Finset.range 8, nat2 (a := 8) (b := 1024) W q col := by
  rw [nat2_of _ (by omega) hc, ← Fin.sum_univ_eq_sum_range (fun q => nat2 (a := 8) (b := 1024) W q col) 8]
  have h : ∀ (col : Fin 1024), k0_pay505 W (ix2 0 col) = ∑ q : Fin 8, W (ix2 q col) := by
    intro col
    pointwise [k0_pay505]
  refine (h ⟨col, hc⟩).trans (Finset.sum_congr rfl fun q _ => ?_)
  rw [nat2_of _ q.isLt hc]

/-- After some of the row stores: the rows stored hold `g`, the others are zero. -/
def Put {sig : RefSig} {κ : Kind} {sp : Space} (v : View sig κ sp S40x1024 .f32) (f : v.ty.Contents (Elt Ideal)) (g : ℕ → ℕ → EReal)
    (ok : List ℕ) (L : List (View.Piece (Elt Ideal) S40x1024 .f32)) : Prop :=
  ∀ k < 40, ∀ col < 1024, (k ∈ ok → nat2 (a := 40) (b := 1024) (v.read (Elt Ideal) (v.writes (Elt Ideal) f L)) k col = g k col)
    ∧ (k ∉ ok → nat2 (a := 40) (b := 1024) (v.read (Elt Ideal) (v.writes (Elt Ideal) f L)) k col = 0)

section
variable {sig : RefSig} {κ : Kind} {sp : Space} {v : View sig κ sp S40x1024 .f32} {f : v.ty.Contents (Elt Ideal)} {g : ℕ → ℕ → EReal}

theorem Put.zero (inb : ∀ x, (![0, 0] : Fin 2 → ℕ) x + S40x1024.size x ≤ S40x1024.size x) :
    Put v f g [] [⟨Rect.unit ![0, 0] S40x1024.size inb, k0_pay476 (F := Ideal)⟩] := by
  have h0 : (k0_pay476 (F := Ideal)) = fun _ => 0 := by
    funext y
    pointwise [k0_pay476]
  intro k hk col hc
  refine ⟨fun h => absurd h (List.not_mem_nil), fun _ => (nat2_store v f inb _ [] k col).trans ?_⟩
  rw [if_pos (by omega), h0, Nat.sub_zero, Nat.sub_zero, nat2_of _ hk hc]

theorem Put.row {κ' : Kind} {sp' : Space} {H o c : ℕ} {w : View sig κ' sp' ⟨2, ![H, 1024]⟩ .f32} {B : w.ty.Contents (Elt Ideal)} {ok : List ℕ}
    {L : List (View.Piece (Elt Ideal) S40x1024 .f32)} (h : Put v f g ok L)
    {inb : ∀ x, (![c, 0] : Fin 2 → ℕ) x + (![1, 1024] : Fin 2 → ℕ) x ≤ S40x1024.size x}
    {inb' : ∀ x, (![o, 0] : Fin 2 → ℕ) x + S8x1024.size x ≤ (![H, 1024] : Fin 2 → ℕ) x}
    (hW : ∀ col < 1024, ∑ q ∈ Finset.range 8, nat2 (w.read (Elt Ideal) B) (o + q) col = g c col) :
    Put v f g (c :: ok) (⟨Rect.unit ![c, 0] ![1, 1024] inb,
      k0_pay505 (F := Ideal) (w.readAt (Elt Ideal) (Rect.unit (s := ⟨2, ![H, 1024]⟩) ![o, 0] S8x1024.size inb').toLoadRect B)⟩ :: L) := by
  intro k hk col hc
  have hs := nat2_store v f inb (k0_pay505 (F := Ideal) (w.readAt (Elt Ideal) (Rect.unit (s := ⟨2, ![H, 1024]⟩) ![o, 0] S8x1024.size inb').toLoadRect B)) L k col
  have hw : nat2 (a := 1) (b := 1024) (k0_pay505 (F := Ideal) (w.readAt (Elt Ideal) (Rect.unit (s := ⟨2, ![H, 1024]⟩) ![o, 0] S8x1024.size inb').toLoadRect B)) 0 col = g c col := by
    rw [colsum _ hc, ← hW col hc]
    refine Finset.sum_congr rfl fun q hq => ?_
    refine (nat2_block w B inb' (Finset.mem_range.mp hq) hc).trans ?_
    rw [Nat.zero_add]
  by_cases e : k = c
  · subst e
    refine ⟨fun _ => hs.trans ?_, fun hn => absurd List.mem_cons_self hn⟩
    rw [if_pos (by omega), Nat.sub_self, Nat.sub_zero, hw]
  · refine ⟨fun ho => hs.trans ?_, fun hn => hs.trans ?_⟩
    · rw [if_neg (by omega)]
      exact (h k hk col hc).1 ((List.mem_cons.mp ho).resolve_left e)
    · rw [if_neg (by omega)]
      exact (h k hk col hc).2 fun ho => hn (List.mem_cons_of_mem _ ho)

end

end Cert.KConvIdeal.Val
-- ==== Proof.Conv.Point.lean ====
module

public import proofs.«01_k».proof.Proof.Conv.Vals
public import proofs.«01_k».proof.Proof.Conv.Data

@[expose] public section

set_option maxRecDepth 65536

noncomputable section

namespace Cert.KConvIdeal.Val

open Idealize.ShloMosaic Idealize.ShloMosaic.TcCoe Idealize.ShloMosaic.Tactic
open Cert.KConvIdeal.Gen

open Cert.KConvIdeal.Body (first last endsA endsB endsC Keeps)

/-- The loop's results at the buffers' contents. -/
def lp (c : Dev nD) (i : grid0.Coords) (arg1 : Memref sig .tc .vmem S256x1024 .f32) (harg1 : arg1.IsWhole) (arg2 : Memref sig .tc .vmem S8x1024 .f32) (harg2 : arg2.IsWhole) (arg3 : Memref sig .tc .vmem S256x1024 .f32) (harg3 : arg3.IsWhole) (arg4 : Memref sig .tc .vmem S32x1024 .f32) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S8x1024 .f32) (harg11 : arg11.IsWhole) (arg12 : Memref sig .tc .vmem S32x1024 .f32) (harg12 : arg12.IsWhole) (arg13 : Memref sig .tc .vmem S256x7168 .bf16) (harg13 : arg13.IsWhole) (arg14 : Memref sig .tc .vmem S40x1024 .f32) (harg14 : arg14.IsWhole) (arg15 : Memref sig .tc .vmem S256x1024 .f32) (harg15 : arg15.IsWhole) (arg16 : Memref sig .tc .vmem S256x1024 .f32) (harg16 : arg16.IsWhole) (arg17 : Memref sig .tc .vmem S264x1024 .f32) (harg17 : arg17.IsWhole) (arg18 : Memref sig .tc .vmem S288x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S24x1024 .f32) (harg21 : arg21.IsWhole) (arg22 : Memref sig .tc .vmem S248x1024 .f32) (harg22 : arg22.IsWhole) (arg23 : Memref sig .tc .vmem S8x288x128 .f32) (harg23 : arg23.IsWhole) (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f11 : BufTy.Contents (Elt Ideal) arg11.view.ty) (f12 : BufTy.Contents (Elt Ideal) arg12.view.ty) (f19 : BufTy.Contents (Elt Ideal) arg19.view.ty) (f20 : BufTy.Contents (Elt Ideal) arg20.view.ty) (f23 : BufTy.Contents (Elt Ideal) arg23.view.ty) (B21 : BufTy.Contents (Elt Ideal) arg21.view.ty) (B22 : BufTy.Contents (Elt Ideal) arg22.view.ty) :=
  pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (Scalar.cmpi .eq (BitVec.ofNat 32 (i 0).val) 31#32) (k0_pay509 (arg6.view.readAt (Elt Ideal) (Rect.unit ![0, 0] S256x1024.size inb_S256x1024_S256x1024_0_0).toLoadRect f6)) (arg1.view.readAt (Elt Ideal) (Rect.unit ![0, 0] S256x1024.size inb_S256x1024_S256x1024_0_0).toLoadRect f1) f11 f12
    (arg15.view.writes (Elt Ideal) arg15.view.junk [⟨Rect.unit ![0, 0] S256x1024.size inb_S256x1024_S256x1024_0_0, k0_pay511 (arg5.view.readAt (Elt Ideal) (Rect.unit ![0, 0] S256x1024.size inb_S256x1024_S256x1024_0_0).toLoadRect f5) (arg6.view.readAt (Elt Ideal) (Rect.unit ![0, 0] S256x1024.size inb_S256x1024_S256x1024_0_0).toLoadRect f6)⟩])
    (arg16.view.writes (Elt Ideal) arg16.view.junk [⟨Rect.unit ![0, 0] S256x1024.size inb_S256x1024_S256x1024_0_0, k0_pay513 (arg7.view.readAt (Elt Ideal) (Rect.unit ![0, 0] S256x1024.size inb_S256x1024_S256x1024_0_0).toLoadRect f7) (arg8.view.readAt (Elt Ideal) (Rect.unit ![0, 0] S256x1024.size inb_S256x1024_S256x1024_0_0).toLoadRect f8)⟩])
    (arg17.view.writes (Elt Ideal) arg17.view.junk [⟨Rect.unit ![256, 0] S8x1024.size inb_S264x1024_S8x1024_256_0, k0_pay515 (Scalar.cmpi .eq (BitVec.ofNat 32 (i 0).val) 31#32) (arg2.view.readAt (Elt Ideal) (Rect.unit ![0, 0] S8x1024.size inb_S8x1024_S8x1024_0_0).toLoadRect f2)⟩, ⟨Rect.unit ![0, 0] S256x1024.size inb_S264x1024_S256x1024_0_0, k0_pay514 (arg1.view.readAt (Elt Ideal) (Rect.unit ![0, 0] S256x1024.size inb_S256x1024_S256x1024_0_0).toLoadRect f1)⟩])
    (arg18.view.writes (Elt Ideal) arg18.view.junk [⟨Rect.unit ![256, 0] S32x1024.size inb_S288x1024_S32x1024_256_0, k0_pay517 (Scalar.cmpi .eq (BitVec.ofNat 32 (i 0).val) 31#32) (arg4.view.readAt (Elt Ideal) (Rect.unit ![0, 0] S32x1024.size inb_S32x1024_S32x1024_0_0).toLoadRect f4)⟩, ⟨Rect.unit ![0, 0] S256x1024.size inb_S288x1024_S256x1024_0_0, k0_pay516 (arg3.view.readAt (Elt Ideal) (Rect.unit ![0, 0] S256x1024.size inb_S256x1024_S256x1024_0_0).toLoadRect f3)⟩])
    f19 f20 B21 B22 f23 (Scf.trips k0_t1_loop.lb k0_t1_loop.ub k0_t1_loop.st)

/-- The blocks of point `t` are rows of the arrays. -/
structure At (G : Arrs) (t : ℕ) (x1 : Vec Ideal S256x1024 .f32) (x2 : Vec Ideal S8x1024 .f32) (x3 : Vec Ideal S256x1024 .f32) (x4 : Vec Ideal S32x1024 .f32) (x5 : Vec Ideal S256x1024 .bf16) (x6 : Vec Ideal S256x1024 .bf16) (x7 : Vec Ideal S256x1024 .bf16) (x8 : Vec Ideal S256x1024 .bf16) (x9 : Vec Ideal S256x1024 .bf16) (x10 : Vec Ideal S256x2048 .bf16) (x11 : Vec Ideal S8x1024 .f32) (x12 : Vec Ideal S32x1024 .f32) : Prop where
  h1 : Rows (a := 256) (b := 8192) (256 * t) 256 x1 G.D3
  h2 : t ≠ 31 → Rows (a := 8) (b := 8192) (256 * t + 256) 8 x2 G.D3
  h3 : Rows (a := 256) (b := 8192) (256 * t) 256 x3 G.D31
  h4 : t ≠ 31 → Rows (a := 32) (b := 8192) (256 * t + 256) 32 x4 G.D31
  h5 : ∀ i k, x5 (ix2 i k) = pn G (256 * t + i.val) (1024 + k.val)
  h6 : ∀ i k, x6 (ix2 i k) = pn G (256 * t + i.val) (2048 + k.val)
  h7 : ∀ i k, x7 (ix2 i k) = pn G (256 * t + i.val) (3072 + k.val)
  h8 : ∀ i k, x8 (ix2 i k) = pn G (256 * t + i.val) (4096 + k.val)
  h9 : ∀ i k, x9 (ix2 i k) = nat2 (a := 8192) (b := 1024) (wide G.DBA) (256 * t + i.val) k.val
  h10 : ∀ i k, x10 (ix2 i k) = nat2 (a := 8192) (b := 2048) (wide G.DG) (256 * t + i.val) k.val
  h11 : Rows (a := 8) (b := 8) 0 3 x11 G.W3
  h12 : Rows (a := 32) (b := 32) 0 31 x12 G.W31

/-- The accumulators' state before point `t`. -/
def st (G : Arrs) (t : ℕ) (a : Vec Ideal S24x1024 .f32) (b : Vec Ideal S248x1024 .f32) : Prop :=
  0 < t → (∀ j < 3, ∀ q < 8, ∀ col < 1024, nat2 (a := 24) (b := 1024) a (8 * j + q) col = ∑ t' ∈ Finset.range t, g3 G t' j q col)
    ∧ ∀ j < 31, ∀ q < 8, ∀ col < 1024, nat2 (a := 248) (b := 1024) b (8 * j + q) col = ∑ t' ∈ Finset.range t, g31 G t' j q col

theorem rows3 (G : Arrs) {t : ℕ} (ht : t < 32) {x5 x6 : Vec Ideal S256x1024 .bf16} (h5 : ∀ i k, x5 (ix2 i k) = pn G (256 * t + i.val) (1024 + k.val))
    (h6 : ∀ i k, x6 (ix2 i k) = pn G (256 * t + i.val) (2048 + k.val)) : Rows (a := 256) (b := 8192) (256 * t) 256 (k0_pay511 x5 x6) (U3 G) := by
  intro i hi col hc
  rw [prod3 _ _ hi hc, nat2_of _ hi hc, nat2_of _ hi hc, nat2_of (U3 G) (by omega) hc]
  exact congrArg₂ (· * ·) (h5 _ _) (h6 _ _)

theorem rows31 (G : Arrs) {t : ℕ} (ht : t < 32) {x7 x8 : Vec Ideal S256x1024 .bf16} (h7 : ∀ i k, x7 (ix2 i k) = pn G (256 * t + i.val) (3072 + k.val))
    (h8 : ∀ i k, x8 (ix2 i k) = pn G (256 * t + i.val) (4096 + k.val)) : Rows (a := 256) (b := 8192) (256 * t) 256 (k0_pay513 x7 x8) (U31 G) := by
  intro i hi col hc
  rw [prod31 _ _ hi hc, nat2_of _ hi hc, nat2_of _ hi hc, nat2_of (U31 G) (by omega) hc]
  exact congrArg₂ (fun a b => a * sgm b) (h7 _ _) (h8 _ _)

theorem rows_stored {b n0 : ℕ} {sig : RefSig} {κ : Kind} {sp : Space} {v : View sig κ sp S256x1024 .f32} {f : v.ty.Contents (Elt Ideal)}
    {inb : ∀ x, (![0, 0] : Fin 2 → ℕ) x + S256x1024.size x ≤ S256x1024.size x} {W : Vec Ideal S256x1024 .f32} {X : Vec Ideal ⟨2, ![b, 1024]⟩ .f32}
    (h : Rows (a := 256) n0 256 W X) :
    Rows (a := 256) n0 256 (v.read (Elt Ideal) (v.writes (Elt Ideal) f [⟨Rect.unit ![0, 0] S256x1024.size inb, W⟩])) X :=
  fun i hi col hc => (stored v f inb W hi hc).trans (h i hi col hc)

section
variable (G : Arrs) (c : Dev nD) (i : grid0.Coords) (arg1 : Memref sig .tc .vmem S256x1024 .f32) (harg1 : arg1.IsWhole) (arg2 : Memref sig .tc .vmem S8x1024 .f32) (harg2 : arg2.IsWhole) (arg3 : Memref sig .tc .vmem S256x1024 .f32) (harg3 : arg3.IsWhole) (arg4 : Memref sig .tc .vmem S32x1024 .f32) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S8x1024 .f32) (harg11 : arg11.IsWhole) (arg12 : Memref sig .tc .vmem S32x1024 .f32) (harg12 : arg12.IsWhole) (arg13 : Memref sig .tc .vmem S256x7168 .bf16) (harg13 : arg13.IsWhole) (arg14 : Memref sig .tc .vmem S40x1024 .f32) (harg14 : arg14.IsWhole) (arg15 : Memref sig .tc .vmem S256x1024 .f32) (harg15 : arg15.IsWhole) (arg16 : Memref sig .tc .vmem S256x1024 .f32) (harg16 : arg16.IsWhole) (arg17 : Memref sig .tc .vmem S264x1024 .f32) (harg17 : arg17.IsWhole) (arg18 : Memref sig .tc .vmem S288x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S24x1024 .f32) (harg21 : arg21.IsWhole) (arg22 : Memref sig .tc .vmem S248x1024 .f32) (harg22 : arg22.IsWhole) (arg23 : Memref sig .tc .vmem S8x288x128 .f32) (harg23 : arg23.IsWhole) (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f11 : BufTy.Contents (Elt Ideal) arg11.view.ty) (f12 : BufTy.Contents (Elt Ideal) arg12.view.ty) (f19 : BufTy.Contents (Elt Ideal) arg19.view.ty) (f20 : BufTy.Contents (Elt Ideal) arg20.view.ty) (f23 : BufTy.Contents (Elt Ideal) arg23.view.ty) (B21 : BufTy.Contents (Elt Ideal) arg21.view.ty) (B22 : BufTy.Contents (Elt Ideal) arg22.view.ty)

/-- What a point leaves: its block of the projection's gradient, and the accumulators grown by the point. -/
theorem point (f9 : BufTy.Contents (Elt Ideal) arg9.view.ty) (f10 : BufTy.Contents (Elt Ideal) arg10.view.ty) (f13 : BufTy.Contents (Elt Ideal) arg13.view.ty) (t : ℕ) (ht : t < 32) (hv : (Scalar.cmpi .eq (BitVec.ofNat 32 (i 0).val) 31#32) = 1#1 ↔ t = 31)
    (h : At G t (arg1.view.read (Elt Ideal) f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (arg9.view.read (Elt Ideal) f9) (arg10.view.read (Elt Ideal) f10) (arg11.view.read (Elt Ideal) f11) (arg12.view.read (Elt Ideal) f12)) :
    arg13.view.read (Elt Ideal) (arg13.view.writes (Elt Ideal) f13 [⟨Rect.unit ![0, 5120] ![256, 2048] inb_S256x7168_S256x2048_0_5120, k0_pay4 (F := Ideal) (arg10.view.readAt (Elt Ideal) (Rect.unit ![0, 0] S256x2048.size inb_S256x2048_S256x2048_0_0).toLoadRect f10)⟩,
      ⟨Rect.unit ![0, 4096] ![256, 1024] inb_S256x7168_S256x1024_0_4096, k0_pay3 (F := Ideal) (k0_pay510 (arg7.view.readAt (Elt Ideal) (Rect.unit ![0, 0] S256x1024.size inb_S256x1024_S256x1024_0_0).toLoadRect f7)) (k0_pay512 (arg8.view.readAt (Elt Ideal) (Rect.unit ![0, 0] S256x1024.size inb_S256x1024_S256x1024_0_0).toLoadRect f8)) (arg20.view.readAt (Elt Ideal) (Rect.unit ![0, 0] S256x1024.size inb_S256x1024_S256x1024_0_0).toLoadRect (arg20.view.writes (Elt Ideal) f20 (lp c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 f1 f2 f3 f4 f5 f6 f7 f8 f11 f12 f19 f20 f23 B21 B22).2.1))⟩,
      ⟨Rect.unit ![0, 3072] ![256, 1024] inb_S256x7168_S256x1024_0_3072, k0_pay2 (F := Ideal) (k0_pay512 (arg8.view.readAt (Elt Ideal) (Rect.unit ![0, 0] S256x1024.size inb_S256x1024_S256x1024_0_0).toLoadRect f8)) (arg20.view.readAt (Elt Ideal) (Rect.unit ![0, 0] S256x1024.size inb_S256x1024_S256x1024_0_0).toLoadRect (arg20.view.writes (Elt Ideal) f20 (lp c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 f1 f2 f3 f4 f5 f6 f7 f8 f11 f12 f19 f20 f23 B21 B22).2.1))⟩,
      ⟨Rect.unit ![0, 2048] ![256, 1024] inb_S256x7168_S256x1024_0_2048, k0_pay1 (F := Ideal) (k0_pay508 (arg5.view.readAt (Elt Ideal) (Rect.unit ![0, 0] S256x1024.size inb_S256x1024_S256x1024_0_0).toLoadRect f5)) (arg19.view.readAt (Elt Ideal) (Rect.unit ![0, 0] S256x1024.size inb_S256x1024_S256x1024_0_0).toLoadRect (arg19.view.writes (Elt Ideal) f19 (lp c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 f1 f2 f3 f4 f5 f6 f7 f8 f11 f12 f19 f20 f23 B21 B22).1))⟩,
      ⟨Rect.unit ![0, 1024] ![256, 1024] inb_S256x7168_S256x1024_0_1024, k0_pay521 (F := Ideal) (k0_pay509 (arg6.view.readAt (Elt Ideal) (Rect.unit ![0, 0] S256x1024.size inb_S256x1024_S256x1024_0_0).toLoadRect f6)) (arg19.view.readAt (Elt Ideal) (Rect.unit ![0, 0] S256x1024.size inb_S256x1024_S256x1024_0_0).toLoadRect (arg19.view.writes (Elt Ideal) f19 (lp c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 f1 f2 f3 f4 f5 f6 f7 f8 f11 f12 f19 f20 f23 B21 B22).1))⟩,
      ⟨Rect.unit ![0, 0] S256x1024.size inb_S256x7168_S256x1024_0_0, k0_pay520 (F := Ideal) (arg9.view.readAt (Elt Ideal) (Rect.unit ![0, 0] S256x1024.size inb_S256x1024_S256x1024_0_0).toLoadRect f9)⟩]) = (fun y => dpv G (256 * t + (y 0).val) (y 1).val)
    ∧ (∀ j < 3, ∀ q < 8, ∀ col < 1024, nat2 (a := 24) (b := 1024) (arg21.view.read (Elt Ideal) (arg21.view.writes (Elt Ideal) B21 (lp c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 f1 f2 f3 f4 f5 f6 f7 f8 f11 f12 f19 f20 f23 B21 B22).2.2.1)) (8 * j + q) col
      = nat2 (a := 24) (b := 1024) (arg21.view.read (Elt Ideal) B21) (8 * j + q) col + g3 G t j q col)
    ∧ ∀ j < 31, ∀ q < 8, ∀ col < 1024, nat2 (a := 248) (b := 1024) (arg22.view.read (Elt Ideal) (arg22.view.writes (Elt Ideal) B22 (lp c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 f1 f2 f3 f4 f5 f6 f7 f8 f11 f12 f19 f20 f23 B21 B22).2.2.2.1)) (8 * j + q) col
      = nat2 (a := 248) (b := 1024) (arg22.view.read (Elt Ideal) B22) (8 * j + q) col + g31 G t j q col := by
  obtain ⟨k1, k2, k3, k4⟩ := loop_upto Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (Scalar.cmpi .eq (BitVec.ofNat 32 (i 0).val) 31#32) (k0_pay509 (arg6.view.readAt (Elt Ideal) (Rect.unit ![0, 0] S256x1024.size inb_S256x1024_S256x1024_0_0).toLoadRect f6)) (arg1.view.readAt (Elt Ideal) (Rect.unit ![0, 0] S256x1024.size inb_S256x1024_S256x1024_0_0).toLoadRect f1) f11 f12
    (arg15.view.writes (Elt Ideal) arg15.view.junk [⟨Rect.unit ![0, 0] S256x1024.size inb_S256x1024_S256x1024_0_0, k0_pay511 (arg5.view.readAt (Elt Ideal) (Rect.unit ![0, 0] S256x1024.size inb_S256x1024_S256x1024_0_0).toLoadRect f5) (arg6.view.readAt (Elt Ideal) (Rect.unit ![0, 0] S256x1024.size inb_S256x1024_S256x1024_0_0).toLoadRect f6)⟩])
    (arg16.view.writes (Elt Ideal) arg16.view.junk [⟨Rect.unit ![0, 0] S256x1024.size inb_S256x1024_S256x1024_0_0, k0_pay513 (arg7.view.readAt (Elt Ideal) (Rect.unit ![0, 0] S256x1024.size inb_S256x1024_S256x1024_0_0).toLoadRect f7) (arg8.view.readAt (Elt Ideal) (Rect.unit ![0, 0] S256x1024.size inb_S256x1024_S256x1024_0_0).toLoadRect f8)⟩])
    (arg17.view.writes (Elt Ideal) arg17.view.junk [⟨Rect.unit ![256, 0] S8x1024.size inb_S264x1024_S8x1024_256_0, k0_pay515 (Scalar.cmpi .eq (BitVec.ofNat 32 (i 0).val) 31#32) (arg2.view.readAt (Elt Ideal) (Rect.unit ![0, 0] S8x1024.size inb_S8x1024_S8x1024_0_0).toLoadRect f2)⟩, ⟨Rect.unit ![0, 0] S256x1024.size inb_S264x1024_S256x1024_0_0, k0_pay514 (arg1.view.readAt (Elt Ideal) (Rect.unit ![0, 0] S256x1024.size inb_S256x1024_S256x1024_0_0).toLoadRect f1)⟩])
    (arg18.view.writes (Elt Ideal) arg18.view.junk [⟨Rect.unit ![256, 0] S32x1024.size inb_S288x1024_S32x1024_256_0, k0_pay517 (Scalar.cmpi .eq (BitVec.ofNat 32 (i 0).val) 31#32) (arg4.view.readAt (Elt Ideal) (Rect.unit ![0, 0] S32x1024.size inb_S32x1024_S32x1024_0_0).toLoadRect f4)⟩, ⟨Rect.unit ![0, 0] S256x1024.size inb_S288x1024_S256x1024_0_0, k0_pay516 (arg3.view.readAt (Elt Ideal) (Rect.unit ![0, 0] S256x1024.size inb_S256x1024_S256x1024_0_0).toLoadRect f3)⟩])
    f19 f20 B21 B22 f23 (Scf.trips k0_t1_loop.lb k0_t1_loop.ub k0_t1_loop.st) (by decide)
  have hn : 8 ≤ (Scf.trips k0_t1_loop.lb k0_t1_loop.ub k0_t1_loop.st) := by decide
  have e : ∀ {sig : RefSig} {κ : Kind} {sp : Space} {s : Shape} {ty : EltTy} (v : View sig κ sp s ty) (f : v.ty.Contents (Elt Ideal))
      (off : Fin s.rank → ℕ) (inb : ∀ a, off a + s.size a ≤ s.size a), v.readAt (Elt Ideal) (Rect.unit off s.size inb).toLoadRect f = v.read (Elt Ideal) f :=
    fun v f off inb => View.readAt_full v f inb
  have r15 := rows_stored (v := arg15.view) (f := arg15.view.junk) (inb := inb_S256x1024_S256x1024_0_0) (rows3 G ht (x5 := (arg5.view.readAt (Elt Ideal) (Rect.unit ![0, 0] S256x1024.size inb_S256x1024_S256x1024_0_0).toLoadRect f5)) (x6 := (arg6.view.readAt (Elt Ideal) (Rect.unit ![0, 0] S256x1024.size inb_S256x1024_S256x1024_0_0).toLoadRect f6)) (by rw [e]; exact h.h5) (by rw [e]; exact h.h6))
  have r16 := rows_stored (v := arg16.view) (f := arg16.view.junk) (inb := inb_S256x1024_S256x1024_0_0) (rows31 G ht (x7 := (arg7.view.readAt (Elt Ideal) (Rect.unit ![0, 0] S256x1024.size inb_S256x1024_S256x1024_0_0).toLoadRect f7)) (x8 := (arg8.view.readAt (Elt Ideal) (Rect.unit ![0, 0] S256x1024.size inb_S256x1024_S256x1024_0_0).toLoadRect f8)) (by rw [e]; exact h.h7) (by rw [e]; exact h.h8))
  have r17 := stacked (D := G.D3) (n0 := 256 * t) (p' := 8) arg17.view arg17.view.junk inb_S264x1024_S8x1024_256_0 inb_S264x1024_S256x1024_0_0
    (k0_pay515 (Scalar.cmpi .eq (BitVec.ofNat 32 (i 0).val) 31#32) (arg2.view.readAt (Elt Ideal) (Rect.unit ![0, 0] S8x1024.size inb_S8x1024_S8x1024_0_0).toLoadRect f2)) (k0_pay514 (arg1.view.readAt (Elt Ideal) (Rect.unit ![0, 0] S256x1024.size inb_S256x1024_S256x1024_0_0).toLoadRect f1)) (by omega) (by rw [tok3, e]; exact h.h1)
    (by rw [next3, e]; exact tail (fun hl => by have := hv.mp hl; omega) fun hl => h.h2 fun ht' => hl (hv.mpr ht'))
  have r18 := stacked (D := G.D31) (n0 := 256 * t) (p' := 32) arg18.view arg18.view.junk inb_S288x1024_S32x1024_256_0 inb_S288x1024_S256x1024_0_0
    (k0_pay517 (Scalar.cmpi .eq (BitVec.ofNat 32 (i 0).val) 31#32) (arg4.view.readAt (Elt Ideal) (Rect.unit ![0, 0] S32x1024.size inb_S32x1024_S32x1024_0_0).toLoadRect f4)) (k0_pay516 (arg3.view.readAt (Elt Ideal) (Rect.unit ![0, 0] S256x1024.size inb_S256x1024_S256x1024_0_0).toLoadRect f3)) (by omega) (by rw [tok31, e]; exact h.h3)
    (by rw [next31, e]; exact tail (fun hl => by have := hv.mp hl; omega) fun hl => h.h4 fun ht' => hl (hv.mpr ht'))
  have r17' : Rows (256 * t) (256 + (3 - 1)) _ G.D3 := fun i hi => r17 i (by omega)
  have r18' : Rows (256 * t) (256 + (31 - 1)) _ G.D31 := fun i hi => r18 i (by omega)
  refine ⟨?_, fun j hj q hq col hc => ?_, fun j hj q hq col hc => ?_⟩
  · exact six G arg13.view f13 _ _ _ _ _ _ _ _ _ _ _ _ _ _ (by rw [e]; exact h.h5) (by rw [e]; exact h.h6) (by rw [e]; exact h.h7)
      (by rw [e]; exact h.h8) (by rw [e]; exact h.h9) (by rw [e]; exact h.h10) (fun i k => Filled.whole k1 hn h.h11 r17' _ i k) (fun i k => Filled.whole k2 hn h.h12 r18' _ i k)
  · exact Grown.whole k3 hn r15 r17' hj hq hc
  · exact Grown.whole k4 hn r16 r18' hj hq hc
end

end Cert.KConvIdeal.Val
-- ==== Proof.Conv.Keep.lean ====
module

public import proofs.«01_k».proof.Proof.Conv.Point

@[expose] public section

set_option maxRecDepth 65536

noncomputable section

namespace Cert.KConvIdeal.Val

open Idealize.ShloMosaic Idealize.ShloMosaic.TcCoe Idealize.ShloMosaic.Tactic
open Cert.KConvIdeal.Gen

open Cert.KConvIdeal.Body (first last endsA endsB endsC Keeps first_iff last_iff)

theorem v1_iff : ∀ t : Fin cfg0.N, (Scalar.cmpi .eq (BitVec.ofNat 32 ((grid0.coords t) 0).val) 31#32) = 1#1 ↔ t.val = 31 := by
  have h : ∀ t : Fin 32, (Scalar.cmpi .eq (BitVec.ofNat 32 ((grid0.coords (t.cast N_0.symm)) 0).val) 31#32) = 1#1 ↔ t.val = 31 := by decide +kernel
  exact fun t => h (t.cast N_0)

/-- A buffer just cleared is zero. -/
theorem cleared {sig : RefSig} {κ : Kind} {sp : Space} {H : ℕ} (v : View sig κ sp ⟨2, ![H, 1024]⟩ .f32) (f : v.ty.Contents (Elt Ideal))
    (inb : ∀ x, (![0, 0] : Fin 2 → ℕ) x + (![H, 1024] : Fin 2 → ℕ) x ≤ (![H, 1024] : Fin 2 → ℕ) x) {W : Vec Ideal ⟨2, ![H, 1024]⟩ .f32} (hW : W = fun _ => 0)
    {i col : ℕ} (hi : i < H) (hc : col < 1024) :
    nat2 (v.read (Elt Ideal) (v.writes (Elt Ideal) f [⟨Rect.unit ![0, 0] ![H, 1024] inb, W⟩])) i col = 0 := by
  rw [nat2_store, if_pos (by omega), hW, Nat.sub_zero, Nat.sub_zero, nat2_of _ hi hc]

/-- The last point's row stores. -/
theorem summed (g : ℕ → ℕ → EReal) {sig : RefSig} {κ κ1 κ2 : Kind} {sp sp1 sp2 : Space} (v : View sig κ sp S40x1024 .f32) (f : v.ty.Contents (Elt Ideal))
    (w21 : View sig κ1 sp1 S24x1024 .f32) (B21 : w21.ty.Contents (Elt Ideal)) (w22 : View sig κ2 sp2 S248x1024 .f32) (B22 : w22.ty.Contents (Elt Ideal))
    (h21 : ∀ k < 3, ∀ col < 1024, ∑ q ∈ Finset.range 8, nat2 (a := 24) (b := 1024) (w21.read (Elt Ideal) B21) (8 * k + q) col = g k col)
    (h22 : ∀ k < 31, ∀ col < 1024, ∑ q ∈ Finset.range 8, nat2 (a := 248) (b := 1024) (w22.read (Elt Ideal) B22) (8 * k + q) col = g (8 + k) col) :
    Put v f g [38, 37, 36, 35, 34, 33, 32, 31, 30, 29, 28, 27, 26, 25, 24, 23, 22, 21, 20, 19, 18, 17, 16, 15, 14, 13, 12, 11, 10, 9, 8, 2, 1, 0] [⟨Rect.unit ![38, 0] ![1, 1024] inb_S40x1024_S1x1024_38_0, k0_pay9 (F := Ideal) (w22.readAt (Elt Ideal) (Rect.unit (s := S248x1024) ![240, 0] S8x1024.size inb_S248x1024_S8x1024_240_0).toLoadRect B22)⟩,
      ⟨Rect.unit ![37, 0] ![1, 1024] inb_S40x1024_S1x1024_37_0, k0_pay8 (F := Ideal) (w22.readAt (Elt Ideal) (Rect.unit (s := S248x1024) ![232, 0] S8x1024.size inb_S248x1024_S8x1024_232_0).toLoadRect B22)⟩,
      ⟨Rect.unit ![36, 0] ![1, 1024] inb_S40x1024_S1x1024_36_0, k0_pay7 (F := Ideal) (w22.readAt (Elt Ideal) (Rect.unit (s := S248x1024) ![224, 0] S8x1024.size inb_S248x1024_S8x1024_224_0).toLoadRect B22)⟩,
      ⟨Rect.unit ![35, 0] ![1, 1024] inb_S40x1024_S1x1024_35_0, k0_pay6 (F := Ideal) (w22.readAt (Elt Ideal) (Rect.unit (s := S248x1024) ![216, 0] S8x1024.size inb_S248x1024_S8x1024_216_0).toLoadRect B22)⟩,
      ⟨Rect.unit ![34, 0] ![1, 1024] inb_S40x1024_S1x1024_34_0, k0_pay5 (F := Ideal) (w22.readAt (Elt Ideal) (Rect.unit (s := S248x1024) ![208, 0] S8x1024.size inb_S248x1024_S8x1024_208_0).toLoadRect B22)⟩,
      ⟨Rect.unit ![33, 0] ![1, 1024] inb_S40x1024_S1x1024_33_0, k0_pay505 (F := Ideal) (w22.readAt (Elt Ideal) (Rect.unit (s := S248x1024) ![200, 0] S8x1024.size inb_S248x1024_S8x1024_200_0).toLoadRect B22)⟩,
      ⟨Rect.unit ![32, 0] ![1, 1024] inb_S40x1024_S1x1024_32_0, k0_pay504 (F := Ideal) (w22.readAt (Elt Ideal) (Rect.unit (s := S248x1024) ![192, 0] S8x1024.size inb_S248x1024_S8x1024_192_0).toLoadRect B22)⟩,
      ⟨Rect.unit ![31, 0] ![1, 1024] inb_S40x1024_S1x1024_31_0, k0_pay503 (F := Ideal) (w22.readAt (Elt Ideal) (Rect.unit (s := S248x1024) ![184, 0] S8x1024.size inb_S248x1024_S8x1024_184_0).toLoadRect B22)⟩,
      ⟨Rect.unit ![30, 0] ![1, 1024] inb_S40x1024_S1x1024_30_0, k0_pay502 (F := Ideal) (w22.readAt (Elt Ideal) (Rect.unit (s := S248x1024) ![176, 0] S8x1024.size inb_S248x1024_S8x1024_176_0).toLoadRect B22)⟩,
      ⟨Rect.unit ![29, 0] ![1, 1024] inb_S40x1024_S1x1024_29_0, k0_pay501 (F := Ideal) (w22.readAt (Elt Ideal) (Rect.unit (s := S248x1024) ![168, 0] S8x1024.size inb_S248x1024_S8x1024_168_0).toLoadRect B22)⟩,
      ⟨Rect.unit ![28, 0] ![1, 1024] inb_S40x1024_S1x1024_28_0, k0_pay500 (F := Ideal) (w22.readAt (Elt Ideal) (Rect.unit (s := S248x1024) ![160, 0] S8x1024.size inb_S248x1024_S8x1024_160_0).toLoadRect B22)⟩,
      ⟨Rect.unit ![27, 0] ![1, 1024] inb_S40x1024_S1x1024_27_0, k0_pay499 (F := Ideal) (w22.readAt (Elt Ideal) (Rect.unit (s := S248x1024) ![152, 0] S8x1024.size inb_S248x1024_S8x1024_152_0).toLoadRect B22)⟩,
      ⟨Rect.unit ![26, 0] ![1, 1024] inb_S40x1024_S1x1024_26_0, k0_pay498 (F := Ideal) (w22.readAt (Elt Ideal) (Rect.unit (s := S248x1024) ![144, 0] S8x1024.size inb_S248x1024_S8x1024_144_0).toLoadRect B22)⟩,
      ⟨Rect.unit ![25, 0] ![1, 1024] inb_S40x1024_S1x1024_25_0, k0_pay497 (F := Ideal) (w22.readAt (Elt Ideal) (Rect.unit (s := S248x1024) ![136, 0] S8x1024.size inb_S248x1024_S8x1024_136_0).toLoadRect B22)⟩,
      ⟨Rect.unit ![24, 0] ![1, 1024] inb_S40x1024_S1x1024_24_0, k0_pay496 (F := Ideal) (w22.readAt (Elt Ideal) (Rect.unit (s := S248x1024) ![128, 0] S8x1024.size inb_S248x1024_S8x1024_128_0).toLoadRect B22)⟩,
      ⟨Rect.unit ![23, 0] ![1, 1024] inb_S40x1024_S1x1024_23_0, k0_pay495 (F := Ideal) (w22.readAt (Elt Ideal) (Rect.unit (s := S248x1024) ![120, 0] S8x1024.size inb_S248x1024_S8x1024_120_0).toLoadRect B22)⟩,
      ⟨Rect.unit ![22, 0] ![1, 1024] inb_S40x1024_S1x1024_22_0, k0_pay494 (F := Ideal) (w22.readAt (Elt Ideal) (Rect.unit (s := S248x1024) ![112, 0] S8x1024.size inb_S248x1024_S8x1024_112_0).toLoadRect B22)⟩,
      ⟨Rect.unit ![21, 0] ![1, 1024] inb_S40x1024_S1x1024_21_0, k0_pay493 (F := Ideal) (w22.readAt (Elt Ideal) (Rect.unit (s := S248x1024) ![104, 0] S8x1024.size inb_S248x1024_S8x1024_104_0).toLoadRect B22)⟩,
      ⟨Rect.unit ![20, 0] ![1, 1024] inb_S40x1024_S1x1024_20_0, k0_pay492 (F := Ideal) (w22.readAt (Elt Ideal) (Rect.unit (s := S248x1024) ![96, 0] S8x1024.size inb_S248x1024_S8x1024_96_0).toLoadRect B22)⟩,
      ⟨Rect.unit ![19, 0] ![1, 1024] inb_S40x1024_S1x1024_19_0, k0_pay491 (F := Ideal) (w22.readAt (Elt Ideal) (Rect.unit (s := S248x1024) ![88, 0] S8x1024.size inb_S248x1024_S8x1024_88_0).toLoadRect B22)⟩,
      ⟨Rect.unit ![18, 0] ![1, 1024] inb_S40x1024_S1x1024_18_0, k0_pay490 (F := Ideal) (w22.readAt (Elt Ideal) (Rect.unit (s := S248x1024) ![80, 0] S8x1024.size inb_S248x1024_S8x1024_80_0).toLoadRect B22)⟩,
      ⟨Rect.unit ![17, 0] ![1, 1024] inb_S40x1024_S1x1024_17_0, k0_pay489 (F := Ideal) (w22.readAt (Elt Ideal) (Rect.unit (s := S248x1024) ![72, 0] S8x1024.size inb_S248x1024_S8x1024_72_0).toLoadRect B22)⟩,
      ⟨Rect.unit ![16, 0] ![1, 1024] inb_S40x1024_S1x1024_16_0, k0_pay488 (F := Ideal) (w22.readAt (Elt Ideal) (Rect.unit (s := S248x1024) ![64, 0] S8x1024.size inb_S248x1024_S8x1024_64_0).toLoadRect B22)⟩,
      ⟨Rect.unit ![15, 0] ![1, 1024] inb_S40x1024_S1x1024_15_0, k0_pay487 (F := Ideal) (w22.readAt (Elt Ideal) (Rect.unit (s := S248x1024) ![56, 0] S8x1024.size inb_S248x1024_S8x1024_56_0).toLoadRect B22)⟩,
      ⟨Rect.unit ![14, 0] ![1, 1024] inb_S40x1024_S1x1024_14_0, k0_pay486 (F := Ideal) (w22.readAt (Elt Ideal) (Rect.unit (s := S248x1024) ![48, 0] S8x1024.size inb_S248x1024_S8x1024_48_0).toLoadRect B22)⟩,
      ⟨Rect.unit ![13, 0] ![1, 1024] inb_S40x1024_S1x1024_13_0, k0_pay485 (F := Ideal) (w22.readAt (Elt Ideal) (Rect.unit (s := S248x1024) ![40, 0] S8x1024.size inb_S248x1024_S8x1024_40_0).toLoadRect B22)⟩,
      ⟨Rect.unit ![12, 0] ![1, 1024] inb_S40x1024_S1x1024_12_0, k0_pay484 (F := Ideal) (w22.readAt (Elt Ideal) (Rect.unit (s := S248x1024) ![32, 0] S8x1024.size inb_S248x1024_S8x1024_32_0).toLoadRect B22)⟩,
      ⟨Rect.unit ![11, 0] ![1, 1024] inb_S40x1024_S1x1024_11_0, k0_pay483 (F := Ideal) (w22.readAt (Elt Ideal) (Rect.unit (s := S248x1024) ![24, 0] S8x1024.size inb_S248x1024_S8x1024_24_0).toLoadRect B22)⟩,
      ⟨Rect.unit ![10, 0] ![1, 1024] inb_S40x1024_S1x1024_10_0, k0_pay482 (F := Ideal) (w22.readAt (Elt Ideal) (Rect.unit (s := S248x1024) ![16, 0] S8x1024.size inb_S248x1024_S8x1024_16_0).toLoadRect B22)⟩,
      ⟨Rect.unit ![9, 0] ![1, 1024] inb_S40x1024_S1x1024_9_0, k0_pay481 (F := Ideal) (w22.readAt (Elt Ideal) (Rect.unit (s := S248x1024) ![8, 0] S8x1024.size inb_S248x1024_S8x1024_8_0).toLoadRect B22)⟩,
      ⟨Rect.unit ![8, 0] ![1, 1024] inb_S40x1024_S1x1024_8_0, k0_pay480 (F := Ideal) (w22.readAt (Elt Ideal) (Rect.unit (s := S248x1024) ![0, 0] S8x1024.size inb_S248x1024_S8x1024_0_0).toLoadRect B22)⟩,
      ⟨Rect.unit ![2, 0] ![1, 1024] inb_S40x1024_S1x1024_2_0, k0_pay479 (F := Ideal) (w21.readAt (Elt Ideal) (Rect.unit (s := S24x1024) ![16, 0] S8x1024.size inb_S24x1024_S8x1024_16_0).toLoadRect B21)⟩,
      ⟨Rect.unit ![1, 0] ![1, 1024] inb_S40x1024_S1x1024_1_0, k0_pay478 (F := Ideal) (w21.readAt (Elt Ideal) (Rect.unit (s := S24x1024) ![8, 0] S8x1024.size inb_S24x1024_S8x1024_8_0).toLoadRect B21)⟩,
      ⟨Rect.unit ![0, 0] ![1, 1024] inb_S40x1024_S1x1024_0_0, k0_pay477 (F := Ideal) (w21.readAt (Elt Ideal) (Rect.unit (s := S24x1024) ![0, 0] S8x1024.size inb_S24x1024_S8x1024_0_0).toLoadRect B21)⟩,
      ⟨Rect.unit ![0, 0] S40x1024.size inb_S40x1024_S40x1024_0_0, k0_pay476 (F := Ideal)⟩] := by
  refine Put.row (w := w22) (B := B22) ?_ (h22 30 (by decide))
  refine Put.row (w := w22) (B := B22) ?_ (h22 29 (by decide))
  refine Put.row (w := w22) (B := B22) ?_ (h22 28 (by decide))
  refine Put.row (w := w22) (B := B22) ?_ (h22 27 (by decide))
  refine Put.row (w := w22) (B := B22) ?_ (h22 26 (by decide))
  refine Put.row (w := w22) (B := B22) ?_ (h22 25 (by decide))
  refine Put.row (w := w22) (B := B22) ?_ (h22 24 (by decide))
  refine Put.row (w := w22) (B := B22) ?_ (h22 23 (by decide))
  refine Put.row (w := w22) (B := B22) ?_ (h22 22 (by decide))
  refine Put.row (w := w22) (B := B22) ?_ (h22 21 (by decide))
  refine Put.row (w := w22) (B := B22) ?_ (h22 20 (by decide))
  refine Put.row (w := w22) (B := B22) ?_ (h22 19 (by decide))
  refine Put.row (w := w22) (B := B22) ?_ (h22 18 (by decide))
  refine Put.row (w := w22) (B := B22) ?_ (h22 17 (by decide))
  refine Put.row (w := w22) (B := B22) ?_ (h22 16 (by decide))
  refine Put.row (w := w22) (B := B22) ?_ (h22 15 (by decide))
  refine Put.row (w := w22) (B := B22) ?_ (h22 14 (by decide))
  refine Put.row (w := w22) (B := B22) ?_ (h22 13 (by decide))
  refine Put.row (w := w22) (B := B22) ?_ (h22 12 (by decide))
  refine Put.row (w := w22) (B := B22) ?_ (h22 11 (by decide))
  refine Put.row (w := w22) (B := B22) ?_ (h22 10 (by decide))
  refine Put.row (w := w22) (B := B22) ?_ (h22 9 (by decide))
  refine Put.row (w := w22) (B := B22) ?_ (h22 8 (by decide))
  refine Put.row (w := w22) (B := B22) ?_ (h22 7 (by decide))
  refine Put.row (w := w22) (B := B22) ?_ (h22 6 (by decide))
  refine Put.row (w := w22) (B := B22) ?_ (h22 5 (by decide))
  refine Put.row (w := w22) (B := B22) ?_ (h22 4 (by decide))
  refine Put.row (w := w22) (B := B22) ?_ (h22 3 (by decide))
  refine Put.row (w := w22) (B := B22) ?_ (h22 2 (by decide))
  refine Put.row (w := w22) (B := B22) ?_ (h22 1 (by decide))
  refine Put.row (w := w22) (B := B22) ?_ (h22 0 (by decide))
  refine Put.row (w := w21) (B := B21) ?_ (h21 2 (by decide))
  refine Put.row (w := w21) (B := B21) ?_ (h21 1 (by decide))
  refine Put.row (w := w21) (B := B21) ?_ (h21 0 (by decide))
  exact Put.zero _

theorem stored_rows : ∀ k < 40, k ∈ [38, 37, 36, 35, 34, 33, 32, 31, 30, 29, 28, 27, 26, 25, 24, 23, 22, 21, 20, 19, 18, 17, 16, 15, 14, 13, 12, 11, 10, 9, 8, 2, 1, 0] ↔ k < 3 ∨ 8 ≤ k ∧ k < 39 := by decide

set_option maxHeartbeats 1000000 in
/-- The whole of a point. -/
theorem keeps (G : Arrs) (c : Dev nD) (t : Fin cfg0.N) (x1 : Vec Ideal S256x1024 .f32) (x2 : Vec Ideal S8x1024 .f32) (x3 : Vec Ideal S256x1024 .f32) (x4 : Vec Ideal S32x1024 .f32) (x5 : Vec Ideal S256x1024 .bf16) (x6 : Vec Ideal S256x1024 .bf16) (x7 : Vec Ideal S256x1024 .bf16) (x8 : Vec Ideal S256x1024 .bf16) (x9 : Vec Ideal S256x1024 .bf16) (x10 : Vec Ideal S256x2048 .bf16) (x11 : Vec Ideal S8x1024 .f32) (x12 : Vec Ideal S32x1024 .f32) (h : At G t.val x1 x2 x3 x4 x5 x6 x7 x8 x9 x10 x11 x12) :
    Keeps (F := Ideal) c (grid0.coords t) x1 x2 x3 x4 x5 x6 x7 x8 x9 x10 x11 x12 (fun X => X = fun y => dpv G (256 * t.val + (y 0).val) (y 1).val)
      (fun X => X = fun y => gwv G (y 0).val (y 1).val) (st G t.val) (st G (t.val + 1)) := by
  have ht : t.val < 32 := (t.cast N_0).isLt
  refine ⟨?_, ?_, ?_⟩
  · intro arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23 hf1 hf2 hf3 hf4 hf5 hf6 hf7 hf8 hf9 hf10 hf11 hf12 hst
    have p := point G c _ arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 f1 f2 f3 f4 f5 f6 f7 f8 f11 f12 f19 f20 f23 (arg21.view.writes (Elt Ideal) arg21.view.junk [⟨Rect.unit ![0, 0] S24x1024.size inb_S24x1024_S24x1024_0_0, k0_pay506 (F := Ideal)⟩]) (arg22.view.writes (Elt Ideal) arg22.view.junk [⟨Rect.unit ![0, 0] S248x1024.size inb_S248x1024_S248x1024_0_0, k0_pay507 (F := Ideal)⟩]) f9 f10 f13 t.val ht (v1_iff t)
      (by rw [hf1, hf2, hf3, hf4, hf5, hf6, hf7, hf8, hf9, hf10, hf11, hf12]; exact h)
    unfold lp at p
    unfold endsA Cert.KConvIdeal.Body.runA
    dsimp only
    refine ⟨p.1, fun _ => ?_⟩
    have h0 := (first_iff t).mp h0
    refine ⟨fun j hj q hq col hc => ?_, fun j hj q hq col hc => ?_⟩
    · refine (congrArg (fun z => nat2 (a := 24) (b := 1024) (arg21.view.read (Elt Ideal) z) (8 * j + q) col) (View.writes_append ..)).trans ((p.2.1 j hj q hq col hc).trans ?_)
      rw [Finset.sum_range_succ, h0, Finset.sum_range_zero, cleared _ _ _ zeros3 (by omega) hc]
    · refine (congrArg (fun z => nat2 (a := 248) (b := 1024) (arg22.view.read (Elt Ideal) z) (8 * j + q) col) (View.writes_append ..)).trans ((p.2.2 j hj q hq col hc).trans ?_)
      rw [Finset.sum_range_succ, h0, Finset.sum_range_zero, cleared _ _ _ zeros31 (by omega) hc]
  · intro arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0 h1 f1 f2 f3 f4 f5 f6 f7 f8 f9 f10 f11 f12 f13 f14 f15 f16 f17 f18 f19 f20 f21 f22 f23 hf1 hf2 hf3 hf4 hf5 hf6 hf7 hf8 hf9 hf10 hf11 hf12 hst
    have p := point G c _ arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 f1 f2 f3 f4 f5 f6 f7 f8 f11 f12 f19 f20 f23 f21 f22 f9 f10 f13 t.val ht (v1_iff t)
      (by rw [hf1, hf2, hf3, hf4, hf5, hf6, hf7, hf8, hf9, hf10, hf11, hf12]; exact h)
    have h0 : 0 < t.val := Nat.pos_of_ne_zero fun e => h0 ((first_iff t).mpr e)
    unfold lp at p
    unfold endsB Cert.KConvIdeal.Body.runB
    dsimp only
    refine ⟨p.1, fun _ => ⟨fun j hj q hq col hc => ?_, fun j hj q hq col hc => ?_⟩⟩
    · refine (p.2.1 j hj q hq col hc).trans ?_
      rw [Finset.sum_range_succ, (hst h0).1 j hj q hq col hc]
    · refine (p.2.2 j hj q hq col hc).trans ?_
      rw [Finset.sum_range_succ, (hst h0).2 j hj q hq col hc]
  · intro arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h0' h1' f1 f2 f3 f4 f5 f6 f7 f8 f9 f10 f11 f12 f13 f14 f15 f16 f17 f18 f19 f20 f21 f22 f23 hf1 hf2 hf3 hf4 hf5 hf6 hf7 hf8 hf9 hf10 hf11 hf12 hst
    have p := point G c _ arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 f1 f2 f3 f4 f5 f6 f7 f8 f11 f12 f19 f20 f23 f21 f22 f9 f10 f13 t.val ht (v1_iff t)
      (by rw [hf1, hf2, hf3, hf4, hf5, hf6, hf7, hf8, hf9, hf10, hf11, hf12]; exact h)
    have h0 : 0 < t.val := Nat.pos_of_ne_zero fun e => h0' ((first_iff t).mpr e)
    have h1 : t.val + 1 = 32 := by rw [(last_iff t).mp h1']
    have a21 : ∀ j < 3, ∀ q < 8, ∀ col < 1024, nat2 (a := 24) (b := 1024) (arg21.view.read (Elt Ideal) (arg21.view.writes (Elt Ideal) f21 (lp c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 f1 f2 f3 f4 f5 f6 f7 f8 f11 f12 f19 f20 f23 f21 f22).2.2.1)) (8 * j + q) col
        = ∑ t' ∈ Finset.range (t.val + 1), g3 G t' j q col := by
      intro j hj q hq col hc
      rw [p.2.1 j hj q hq col hc, Finset.sum_range_succ, (hst h0).1 j hj q hq col hc]
    have a22 : ∀ j < 31, ∀ q < 8, ∀ col < 1024, nat2 (a := 248) (b := 1024) (arg22.view.read (Elt Ideal) (arg22.view.writes (Elt Ideal) f22 (lp c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 f1 f2 f3 f4 f5 f6 f7 f8 f11 f12 f19 f20 f23 f21 f22).2.2.2.1)) (8 * j + q) col
        = ∑ t' ∈ Finset.range (t.val + 1), g31 G t' j q col := by
      intro j hj q hq col hc
      rw [p.2.2 j hj q hq col hc, Finset.sum_range_succ, (hst h0).2 j hj q hq col hc]
    have s := summed (gwv G) arg14.view f14 arg21.view (arg21.view.writes (Elt Ideal) f21 (lp c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 f1 f2 f3 f4 f5 f6 f7 f8 f11 f12 f19 f20 f23 f21 f22).2.2.1) arg22.view (arg22.view.writes (Elt Ideal) f22 (lp c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 f1 f2 f3 f4 f5 f6 f7 f8 f11 f12 f19 f20 f23 f21 f22).2.2.2.1)
      (fun k hk col hc => by
        unfold gwv
        rw [if_pos hk]
        exact Finset.sum_congr rfl fun q hq => by rw [a21 k hk q (Finset.mem_range.mp hq) col hc, h1])
      (fun k hk col hc => by
        unfold gwv
        rw [if_neg (by omega), if_pos (by omega), Nat.add_sub_cancel_left]
        exact Finset.sum_congr rfl fun q hq => by rw [a22 k hk q (Finset.mem_range.mp hq) col hc, h1])
    unfold lp at p a21 a22 s
    unfold endsC Cert.KConvIdeal.Body.runC
    dsimp only
    refine ⟨p.1, funext fun y => (nat2_at (a := 40) (b := 1024) _ y rfl rfl).symm.trans ?_, fun _ => ⟨a21, a22⟩⟩
    have hk := (y 0).isLt
    by_cases ok : (y 0).val < 3 ∨ 8 ≤ (y 0).val ∧ (y 0).val < 39
    · exact (s _ hk _ (y 1).isLt).1 ((stored_rows _ hk).mpr ok)
    · refine ((s _ hk _ (y 1).isLt).2 fun h => ok ((stored_rows _ hk).mp h)).trans ?_
      unfold gwv
      rw [if_neg (by omega), if_neg (by omega)]

end Cert.KConvIdeal.Val
-- ==== Proof.Conv.Blocks.lean ====
/- The blocks of a grid point as rows of the call's arrays. -/
module

public import proofs.«01_k».proof.Proof.Conv.Keep

@[expose] public section

set_option maxRecDepth 16384

noncomputable section

namespace Cert.KConvIdeal.Val

open Idealize.ShloMosaic Idealize.ShloMosaic.TcCoe Idealize.SL.Sem
open Cert.KConvIdeal Cert.KConvIdeal.Gen

variable (m : (ℓ : Loc nD τ sig) → Buf (Elt Ideal) ℓ)

/-- The arrays the call reads. -/
def arrs (c : Dev nD) : Arrs where
  W3 := V m c main_v3
  W31 := V m c main_v4
  D3 := V m c main_arg4
  D31 := V m c main_arg5
  P := V m c main_v0
  DBA := V m c main_v1
  DG := V m c main_v2

theorem idx : ∀ t : Fin cfg0.N, win0_0.index t = ![t.val, 0] ∧ win0_2.index t = ![t.val, 0] ∧ win0_4.index t = ![t.val, 1]
    ∧ win0_5.index t = ![t.val, 2] ∧ win0_6.index t = ![t.val, 3] ∧ win0_7.index t = ![t.val, 4] ∧ win0_8.index t = ![t.val, 0]
    ∧ win0_9.index t = ![t.val, 0] ∧ win0_10.index t = ![0, 0] ∧ win0_11.index t = ![0, 0] ∧ win0_12.index t = ![t.val, 0]
    ∧ win0_13.index t = ![0, 0] :=
  (by decide +kernel : ∀ t : Fin grid0.N, _)

theorem idx_next : ∀ t : Fin cfg0.N, t.val ≠ 31 → win0_1.index t = ![32 * (t.val + 1), 0] ∧ win0_3.index t = ![8 * (t.val + 1), 0] :=
  (by decide +kernel : ∀ t : Fin grid0.N, t.val ≠ 31 → _)

theorem lt32 (t : Fin cfg0.N) : t.val < 32 := (t.cast N_0).isLt

/-- Row `r` of the block at `t`. -/
def tok (t : Fin cfg0.N) (r : Fin 256) : Fin 8192 := ⟨256 * t.val + r.val, by have := lt32 t; omega⟩

section
variable (c : Dev nD) (t : Fin cfg0.N) (r : Fin 256) (k : Fin 1024)

theorem blk0 : (iblk m c 0 t : Vec Ideal S256x1024 _) (ix2 r k) = V m c main_arg4 (ix2 (tok t r) k) := by
  blk_point [iblk, tok, idx t]
theorem blk2 : (iblk m c 2 t : Vec Ideal S256x1024 _) (ix2 r k) = V m c main_arg5 (ix2 (tok t r) k) := by
  blk_point [iblk, tok, idx t]
theorem blk4 : (iblk m c 4 t : Vec Ideal S256x1024 _) (ix2 r k) = V m c main_v0 (ix2 (tok t r) ⟨1024 + k.val, by omega⟩) := by
  blk_point [iblk, tok, idx t]
theorem blk5 : (iblk m c 5 t : Vec Ideal S256x1024 _) (ix2 r k) = V m c main_v0 (ix2 (tok t r) ⟨2048 + k.val, by omega⟩) := by
  blk_point [iblk, tok, idx t]
theorem blk6 : (iblk m c 6 t : Vec Ideal S256x1024 _) (ix2 r k) = V m c main_v0 (ix2 (tok t r) ⟨3072 + k.val, by omega⟩) := by
  blk_point [iblk, tok, idx t]
theorem blk7 : (iblk m c 7 t : Vec Ideal S256x1024 _) (ix2 r k) = V m c main_v0 (ix2 (tok t r) ⟨4096 + k.val, by omega⟩) := by
  blk_point [iblk, tok, idx t]
theorem blk8 : (iblk m c 8 t : Vec Ideal S256x1024 _) (ix2 r k) = V m c main_v1 (ix2 (tok t r) k) := by
  blk_point [iblk, tok, idx t]
theorem blk9 (k : Fin 2048) : (iblk m c 9 t : Vec Ideal S256x2048 _) (ix2 r k) = V m c main_v2 (ix2 (tok t r) k) := by
  blk_point [iblk, tok, idx t]
theorem blk10 : (iblk m c 10 t : Vec Ideal S8x1024 _) = V m c main_v3 := by
  funext i; blk_point [iblk, idx t]
theorem blk11 : (iblk m c 11 t : Vec Ideal S32x1024 _) = V m c main_v4 := by
  funext i; blk_point [iblk, idx t]
theorem blk1 (ht : t.val ≠ 31) (r : Fin 8) : (iblk m c 1 t : Vec Ideal S8x1024 _) (ix2 r k)
    = V m c main_arg4 (ix2 ⟨256 * t.val + 256 + r.val, by have := lt32 t; omega⟩ k) := by
  blk_point [iblk, idx_next t ht]
theorem blk3 (ht : t.val ≠ 31) (r : Fin 32) : (iblk m c 3 t : Vec Ideal S32x1024 _) (ix2 r k)
    = V m c main_arg5 (ix2 ⟨256 * t.val + 256 + r.val, by have := lt32 t; omega⟩ k) := by
  blk_point [iblk, idx_next t ht]
end

/-- Each block is rows of its array. -/
theorem at_point (c : Dev nD) (t : Fin cfg0.N) : At (arrs m c) t.val (iblk m c 0 t) (iblk m c 1 t) (iblk m c 2 t) (iblk m c 3 t)
    (iblk m c 4 t) (iblk m c 5 t) (iblk m c 6 t) (iblk m c 7 t) (iblk m c 8 t) (iblk m c 9 t) (iblk m c 10 t) (iblk m c 11 t) where
  h1 i hi col hc := by
    rw [nat2_of _ hi hc, nat2_of _ (by have := lt32 t; omega) hc]
    exact blk0 m c t _ _
  h2 ht i hi col hc := by
    rw [nat2_of _ hi hc, nat2_of _ (by have := lt32 t; omega) hc]
    exact blk1 m c t _ ht _
  h3 i hi col hc := by
    rw [nat2_of _ hi hc, nat2_of _ (by have := lt32 t; omega) hc]
    exact blk2 m c t _ _
  h4 ht i hi col hc := by
    rw [nat2_of _ hi hc, nat2_of _ (by have := lt32 t; omega) hc]
    exact blk3 m c t _ ht _
  h5 i k := (blk4 m c t i k).trans (nat2_of _ _ _).symm
  h6 i k := (blk5 m c t i k).trans (nat2_of _ _ _).symm
  h7 i k := (blk6 m c t i k).trans (nat2_of _ _ _).symm
  h8 i k := (blk7 m c t i k).trans (nat2_of _ _ _).symm
  h9 i k := (blk8 m c t i k).trans (nat2_of _ _ _).symm
  h10 i k := (blk9 m c t i k).trans (nat2_of _ _ _).symm
  h11 i hi col hc := by
    rw [blk10, Nat.zero_add]
    rfl
  h12 i hi col hc := by
    rw [blk11, Nat.zero_add]
    rfl

end Cert.KConvIdeal.Val
-- ==== Proof.Conv.Exact.lean ====
/- The launch of the call with both outputs at their values. -/
module

public import proofs.«01_k».proof.Proof.Gen.KConvIdeal.Frame
public import proofs.«01_k».proof.Proof.Gen.KConvIdeal.Loops
public import proofs.«01_k».proof.Proof.Conv.Blocks
public import proofs.«01_k».proof.Proof.Conv.Frame

@[expose] public section

set_option maxRecDepth 16384

noncomputable section

namespace Cert.KConvIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KConvIdeal.Gen
open Cert.KConvIdeal.Body (first last first_iff last_iff dats core defs₀_row scr_in scr_out)

local notation "𝕄" => MT nD τ sig Unit (Elt Ideal) ℕ (UR sig nD τ) ℕ

variable (m : (ℓ : Loc nD τ sig) → Buf (Elt Ideal) ℓ) (ρ : Dev nD → PrngReg)

/-- What the running sums hold before each point. -/
def states (c : Dev nD) : ℕ → Vec Ideal S24x1024 .f32 → Vec Ideal S248x1024 .f32 → Prop := st (arrs m c)

/-- The rows of the first result a point writes. -/
def rows12 (c : Dev nD) (t : Fin cfg0.N) : Vec Ideal S256x7168 .bf16 := fun y => dpv (arrs m c) (256 * t.val + (y 0).val) (y 1).val

/-- The second result. -/
def rows13 (c : Dev nD) : Vec Ideal S40x1024 .f32 := fun y => gwv (arrs m c) (y 0).val (y 1).val

/-- Proof data that names both outputs. -/
def sure (p : Fin 1) (c : Dev nD) : Dat τ (Elt Ideal) Unit ℕ (UR sig nD τ) ℕ cfg0 c := dats m (states m) (rows12 m) (rows13 m) p c

/-- What a point leaves in the second output's block: the result at the last point, what it found at the others. -/
def left13 (c : Dev nD) (t : Fin cfg0.N) : sProp 𝕄 := match cfg0.idle 13 (cfg0.grid.coords t) with
  | true => match (cfg0.win 13).flush t with
    | false => iprop(∃ d, owns (c : Thread nD τ) (win0_13.stage (cfg0.slots t 13)) fullShare ((sure m 0 c).before 13 t d))
    | true => owns (c : Thread nD τ) (win0_13.stage (cfg0.slots t 13)) fullShare ((sure m 0 c).after 13 t)
  | false => owns (c : Thread nD τ) (win0_13.stage (cfg0.slots t 13)) fullShare ((sure m 0 c).after 13 t)

theorem idle_last : ∀ t : Fin cfg0.N, cfg0.idle 13 (cfg0.grid.coords t) = !decide (t.val = 31) := by
  have h : ∀ t : Fin 32, cfg0.idle 13 (cfg0.grid.coords (t.cast N_0.symm)) = !decide (t.val = 31) := by decide +kernel
  exact fun t => h (t.cast N_0)

theorem flush_last (t : Fin cfg0.N) : (cfg0.win 13).flush t = decide (t.val = 31) := by
  have := lt32 t
  rw [Bool.eq_iff_iff, flush0_13, decide_eq_true_iff]
  omega

theorem left_last (c : Dev nD) (t : Fin cfg0.N) (h : t.val = 31) : left13 m c t = owns (c : Thread nD τ) (win0_13.stage (cfg0.slots t 13)) fullShare (rows13 m c) := by
  unfold left13
  rw [idle_last, decide_eq_true h]
  rfl

theorem left_before (c : Dev nD) (t : Fin cfg0.N) (h : t.val ≠ 31) :
    left13 m c t = iprop(∃ d, owns (c : Thread nD τ) (win0_13.stage (cfg0.slots t 13)) fullShare ((sure m 0 c).before 13 t d)) := by
  unfold left13
  rw [idle_last, flush_last, decide_eq_false h]
  rfl

/-- The second output's block after a point. -/
theorem leaves (c : Dev nD) (t : Fin cfg0.N) (y : _) :
    (iprop(∃ d, ⌜(last (grid0.coords t) → d = rows13 m c) ∧ (¬last (grid0.coords t) → d = (sure m 0 c).before 13 t y)⌝ ∗ owns (c : Thread nD τ) (win0_13.stage (cfg0.slots t 13)) fullShare d) : sProp 𝕄)
      ⊢ left13 m c t := by
  by_cases hl : t.val = 31
  · rw [left_last m c t hl]
    iintro ⟨%d, %hd, H⟩
    have e := hd.1 ((last_iff t).mpr hl)
    subst e
    iexact H
  · rw [left_before m c t hl]
    iintro ⟨%d, %hd, H⟩
    have e := hd.2 fun h => hl ((last_iff t).mp h)
    subst e
    iexists y
    iexact H

theorem sure_step (c : Dev nD) (t : Fin cfg0.N) :
    (iprop((sure m 0 c).Φ t.castSucc ∗ (sure m 0 c).owesAt () t.castSucc ∗ (∃ d, owns (c : Thread nD τ) (win0_0.stage (cfg0.slots t 0)) fullShare ((sure m 0 c).before 0 t d)) ∗ (∃ d, owns (c : Thread nD τ) (win0_1.stage (cfg0.slots t 1)) fullShare ((sure m 0 c).before 1 t d)) ∗ (∃ d, owns (c : Thread nD τ) (win0_2.stage (cfg0.slots t 2)) fullShare ((sure m 0 c).before 2 t d)) ∗ (∃ d, owns (c : Thread nD τ) (win0_3.stage (cfg0.slots t 3)) fullShare ((sure m 0 c).before 3 t d)) ∗ (∃ d, owns (c : Thread nD τ) (win0_4.stage (cfg0.slots t 4)) fullShare ((sure m 0 c).before 4 t d)) ∗ (∃ d, owns (c : Thread nD τ) (win0_5.stage (cfg0.slots t 5)) fullShare ((sure m 0 c).before 5 t d)) ∗ (∃ d, owns (c : Thread nD τ) (win0_6.stage (cfg0.slots t 6)) fullShare ((sure m 0 c).before 6 t d)) ∗ (∃ d, owns (c : Thread nD τ) (win0_7.stage (cfg0.slots t 7)) fullShare ((sure m 0 c).before 7 t d)) ∗ (∃ d, owns (c : Thread nD τ) (win0_8.stage (cfg0.slots t 8)) fullShare ((sure m 0 c).before 8 t d)) ∗ (∃ d, owns (c : Thread nD τ) (win0_9.stage (cfg0.slots t 9)) fullShare ((sure m 0 c).before 9 t d)) ∗ (∃ d, owns (c : Thread nD τ) (win0_10.stage (cfg0.slots t 10)) fullShare ((sure m 0 c).before 10 t d)) ∗ (∃ d, owns (c : Thread nD τ) (win0_11.stage (cfg0.slots t 11)) fullShare ((sure m 0 c).before 11 t d)) ∗ (∃ d, owns (c : Thread nD τ) (win0_12.stage (cfg0.slots t 12)) fullShare ((sure m 0 c).before 12 t d)) ∗ (∃ y, owns (c : Thread nD τ) (win0_13.stage (cfg0.slots t 13)) fullShare ((sure m 0 c).before 13 t y))) : sProp 𝕄)
      ⊢ wp frame (wpE (defs₀ (F := Ideal)) Variants.none c none) Set.univ (bodyAt0 t)
        (fun _ => iprop((sure m 0 c).Φ t.succ ∗ (sure m 0 c).owesAt () t.succ ∗ owns (c : Thread nD τ) (win0_0.stage (cfg0.slots t 0)) fullShare ((sure m 0 c).after 0 t) ∗ owns (c : Thread nD τ) (win0_1.stage (cfg0.slots t 1)) fullShare ((sure m 0 c).after 1 t) ∗ owns (c : Thread nD τ) (win0_2.stage (cfg0.slots t 2)) fullShare ((sure m 0 c).after 2 t) ∗ owns (c : Thread nD τ) (win0_3.stage (cfg0.slots t 3)) fullShare ((sure m 0 c).after 3 t) ∗ owns (c : Thread nD τ) (win0_4.stage (cfg0.slots t 4)) fullShare ((sure m 0 c).after 4 t) ∗ owns (c : Thread nD τ) (win0_5.stage (cfg0.slots t 5)) fullShare ((sure m 0 c).after 5 t) ∗ owns (c : Thread nD τ) (win0_6.stage (cfg0.slots t 6)) fullShare ((sure m 0 c).after 6 t) ∗ owns (c : Thread nD τ) (win0_7.stage (cfg0.slots t 7)) fullShare ((sure m 0 c).after 7 t) ∗ owns (c : Thread nD τ) (win0_8.stage (cfg0.slots t 8)) fullShare ((sure m 0 c).after 8 t) ∗ owns (c : Thread nD τ) (win0_9.stage (cfg0.slots t 9)) fullShare ((sure m 0 c).after 9 t) ∗ owns (c : Thread nD τ) (win0_10.stage (cfg0.slots t 10)) fullShare ((sure m 0 c).after 10 t) ∗ owns (c : Thread nD τ) (win0_11.stage (cfg0.slots t 11)) fullShare ((sure m 0 c).after 11 t) ∗ owns (c : Thread nD τ) (win0_12.stage (cfg0.slots t 12)) fullShare ((sure m 0 c).after 12 t) ∗ left13 m c t)) := by
  unfold sure
  have h : ∀ y, _ := fun y => core m (states m) (rows12 m) (rows13 m) c t ((sure m 0 c).before 13 t y) (fun d => d = rows12 m c t) (fun d => d = rows13 m c)
    (keeps (arrs m c) c t _ _ _ _ _ _ _ _ _ _ _ _ (at_point m c t))
  iintro ⟨HS, Ho, H0, H1, H2, H3, H4, H5, H6, H7, H8, H9, H10, H11, ⟨%d12, H12⟩, ⟨%y, H13⟩⟩
  iapply (triple_restated (h y) rfl .rfl fun _ => (?_ : _ ⊢ iprop((dats m (states m) (rows12 m) (rows13 m) 0 c).Φ t.succ ∗ (dats m (states m) (rows12 m) (rows13 m) 0 c).owesAt () t.succ ∗ owns (c : Thread nD τ) (win0_0.stage (cfg0.slots t 0)) fullShare ((dats m (states m) (rows12 m) (rows13 m) 0 c).after 0 t) ∗ owns (c : Thread nD τ) (win0_1.stage (cfg0.slots t 1)) fullShare ((dats m (states m) (rows12 m) (rows13 m) 0 c).after 1 t) ∗ owns (c : Thread nD τ) (win0_2.stage (cfg0.slots t 2)) fullShare ((dats m (states m) (rows12 m) (rows13 m) 0 c).after 2 t) ∗ owns (c : Thread nD τ) (win0_3.stage (cfg0.slots t 3)) fullShare ((dats m (states m) (rows12 m) (rows13 m) 0 c).after 3 t) ∗ owns (c : Thread nD τ) (win0_4.stage (cfg0.slots t 4)) fullShare ((dats m (states m) (rows12 m) (rows13 m) 0 c).after 4 t) ∗ owns (c : Thread nD τ) (win0_5.stage (cfg0.slots t 5)) fullShare ((dats m (states m) (rows12 m) (rows13 m) 0 c).after 5 t) ∗ owns (c : Thread nD τ) (win0_6.stage (cfg0.slots t 6)) fullShare ((dats m (states m) (rows12 m) (rows13 m) 0 c).after 6 t) ∗ owns (c : Thread nD τ) (win0_7.stage (cfg0.slots t 7)) fullShare ((dats m (states m) (rows12 m) (rows13 m) 0 c).after 7 t) ∗ owns (c : Thread nD τ) (win0_8.stage (cfg0.slots t 8)) fullShare ((dats m (states m) (rows12 m) (rows13 m) 0 c).after 8 t) ∗ owns (c : Thread nD τ) (win0_9.stage (cfg0.slots t 9)) fullShare ((dats m (states m) (rows12 m) (rows13 m) 0 c).after 9 t) ∗ owns (c : Thread nD τ) (win0_10.stage (cfg0.slots t 10)) fullShare ((dats m (states m) (rows12 m) (rows13 m) 0 c).after 10 t) ∗ owns (c : Thread nD τ) (win0_11.stage (cfg0.slots t 11)) fullShare ((dats m (states m) (rows12 m) (rows13 m) 0 c).after 11 t) ∗ owns (c : Thread nD τ) (win0_12.stage (cfg0.slots t 12)) fullShare ((dats m (states m) (rows12 m) (rows13 m) 0 c).after 12 t) ∗ left13 m c t)))
  on_goal 2 =>
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · iexists _; iexact H12
    iexact H13
  iintro ⟨HS, Ho, H0, H1, H2, H3, H4, H5, H6, H7, H8, H9, H10, H11, ⟨%d, %hd, H12⟩, H13⟩
  subst hd
  isplitl [HS]; · iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iapply (leaves m c t y)
  iexact H13

theorem sure_body (c : Dev nD) : Pipeline.BodyObligationLoose (sure m 0 c) defs₀ Variants.none () Set.univ := fun t => by
  rw [bigSep_W0, bigSep_W0, defs₀_row]
  exact triple_restated (sure_step m c t) rfl .rfl fun _ => .rfl

set_option backward.isDefEq.respectTransparency.types false in
set_option maxHeartbeats 800000 in
/-- The launch. -/
theorem run_sure : θ_run defs (onTc (τ := τ) (main (F := Ideal))) (s₀ m ρ) (Pipeline.FramePost cfgs (sure m) (0 : Fin 1) (V m)) :=
  Pipeline.θ_run_frame_track_shared cfgs (sure m) (0 : Fin 1) launch₀0 defs₀ Variants.none m ρ main
    (hbody := sure_body m) (hq := fun _ _ _ => rfl) (howed := fun _ _ => rfl) (V := V m) (hmain := hmain m Variants.none)
    (hA := fun _ _ => rfl) (hin := fun c => scr_in c _ fun _ _ h => absurd h (Nat.lt_irrefl 0)) (hout := fun c => scr_out c _)

/-- The first result after the last point. -/
theorem dp_final (c : Dev nD) : (sure m 0 c).arrAt 12 cfg0.N = fun y => dpv (arrs m c) (y 0).val (y 1).val := by
  refine (sure m 0 c).arrAt_eq_of_covers 12 _ (by decide +kernel) fun t _ y => ?_
  change dpv (arrs m c) (256 * t.val + (y 0).val) (y 1).val = _
  rw [Nat.mul_comm 256]
  blk_simp [idx t]

/-- The second result after the last point. -/
theorem gw_final (c : Dev nD) : (sure m 0 c).arrAt 13 cfg0.N = fun y => gwv (arrs m c) (y 0).val (y 1).val := by
  refine (sure m 0 c).arrAt_eq_of_covers 13 _ (by decide +kernel) fun t _ y => ?_
  change gwv (arrs m c) (y 0).val (y 1).val = _
  blk_simp [idx t]

/-- The two results and the arguments of every run. -/
theorem finals : θ_run defs (onTc (τ := τ) (main (F := Ideal))) ⟨m, fun _ => 0, ρ⟩ (fun r => ∀ c : Dev nD,
      r.2.mem ((c.tc : Thread nD τ).loc main_v5_0) = (fun y => dpv (arrs m c) (y 0).val (y 1).val)
      ∧ r.2.mem ((c.tc : Thread nD τ).loc main_v5_1) = (fun y => gwv (arrs m c) (y 0).val (y 1).val)
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) :=
  (θ_run defs _ _).mono (fun r h c => ⟨((h c).1 12).trans (dp_final m c), ((h c).1 13).trans (gw_final m c), ((h c).2 main_arg0 (Pipeline.mem_restRefs_of main_arg0 (by decide) (by decide))).trans (V_main_arg0 m c), ((h c).2 main_arg1 (Pipeline.mem_restRefs_of main_arg1 (by decide) (by decide))).trans (V_main_arg1 m c), ((h c).2 main_arg2 (Pipeline.mem_restRefs_of main_arg2 (by decide) (by decide))).trans (V_main_arg2 m c), ((h c).2 main_arg3 (Pipeline.mem_restRefs_of main_arg3 (by decide) (by decide))).trans (V_main_arg3 m c), (((h c).1 1).trans ((sure m 0 c).arrAt_in 1 rfl _)).trans (V_main_arg4 m c), (((h c).1 3).trans ((sure m 0 c).arrAt_in 3 rfl _)).trans (V_main_arg5 m c), ((h c).2 main_arg6 (Pipeline.mem_restRefs_of main_arg6 (by decide) (by decide))).trans (V_main_arg6 m c)⟩) (run_sure m ρ)

end Cert.KConvIdeal.Val
-- ==== Proof.Conv.Sums.lean ====
/- Sums that a zero-one array picks one term of, and a sum over all rows taken in the order of the grid and of the loop. -/
module

public import proofs.«01_k».proof.Proof.Conv.Vals

@[expose] public section

noncomputable section

namespace Cert.KConvIdeal.Val

open Idealize.ShloMosaic Idealize.ShloMosaic.TcCoe
open scoped BigOperators

/-! ## Picks -/

/-- The term of a family at a natural index, zero outside. -/
def cell {N : ℕ} (f : Fin N → EReal) (k : ℕ) : EReal := if h : k < N then f ⟨k, h⟩ else 0

theorem sum_pick {N : ℕ} (k : ℕ) (f : Fin N → EReal) (p : Fin N → Prop) [DecidablePred p] (hp : ∀ t, p t ↔ t.val = k) :
    (∑ t, if p t then f t else 0) = cell f k := by
  unfold cell
  split_ifs with h
  · rw [Finset.sum_eq_single ⟨k, h⟩ (fun b _ hb => if_neg fun e => hb (Fin.ext ((hp b).mp e))) (fun h => absurd (Finset.mem_univ _) h),
      if_pos ((hp _).mpr rfl)]
  · exact Finset.sum_eq_zero fun b _ => if_neg fun e => h ((hp b).mp e ▸ b.isLt)

theorem cell_mul {N : ℕ} (f : Fin N → EReal) (k : ℕ) (w : EReal) : cell (fun t => w * f t) k = w * cell f k := by
  unfold cell
  split_ifs
  · rfl
  · rw [mul_zero]

theorem cell_row {a b : ℕ} (X : Vec Ideal ⟨2, ![a, b]⟩ .f32) (k : ℕ) (col : Fin b) :
    cell (fun t : Fin a => X (ix2 t col)) k = nat2 X k col.val := by
  unfold cell nat2
  by_cases h : k < a
  · rw [dif_pos h, dif_pos ⟨h, col.isLt⟩]
  · rw [dif_neg h, dif_neg fun e => h e.1]

/-- A row of the transposed convolution: the picks leave one row of the cotangent for each tap. -/
theorem picks_row {a b b' c : ℕ} (J : ℕ) (W : Vec Ideal ⟨2, ![c, b]⟩ .f32) (D : Vec Ideal ⟨2, ![a, b]⟩ .f32) (x : Fin J → Fin b → EReal)
    (hW : ∀ j : Fin J, ∀ k : Fin b, nat2 W j.val k.val = x j k) (s : ℕ) (col : Fin b) :
    (∑ t : Fin a, ∑ j : Fin J, x j col * D (ix2 t col) * (if s + (J - 1) = t.val + j.val then (1 : EReal) else 0))
      = corr J W D s col.val := by
  rw [Finset.sum_comm]
  unfold corr
  rw [← Fin.sum_univ_eq_sum_range (fun j => nat2 W j col.val * nat2 D (s + (J - 1 - j)) col.val)]
  refine Finset.sum_congr rfl fun j _ => ?_
  have hj := j.isLt
  rw [hW j col, ← cell_row D _ col, ← cell_mul, ← sum_pick (s + (J - 1 - j.val)) _ (fun t : Fin a => s + (J - 1) = t.val + j.val)
    (fun t => by constructor <;> intro h <;> omega)]
  exact Finset.sum_congr rfl fun t _ => by rw [mul_ite, mul_one, mul_zero]

/-- A tap's weight gradient: summed over the cotangent's rows or over the input's rows it is the same. -/
theorem picks_grad {a b : ℕ} (J : ℕ) (U D : Vec Ideal ⟨2, ![a, b]⟩ .f32) (j : ℕ) (hj : j < J) (col : Fin b) :
    (∑ t : Fin a, D (ix2 t col) * ∑ s : Fin a, (if s.val + (J - 1) = t.val + j then (1 : EReal) else 0) * U (ix2 s col))
      = ∑ n ∈ Finset.range a, nat2 U n col.val * nat2 D (n + (J - 1 - j)) col.val := by
  have h1 : ∀ t : Fin a, D (ix2 t col) * ∑ s : Fin a, (if s.val + (J - 1) = t.val + j then (1 : EReal) else 0) * U (ix2 s col)
      = ∑ s : Fin a, if s.val + (J - 1) = t.val + j then U (ix2 s col) * D (ix2 t col) else 0 := fun t => by
    by_cases h0 : J - 1 ≤ t.val + j
    · have hp : ∀ s : Fin a, s.val + (J - 1) = t.val + j ↔ s.val = t.val + j - (J - 1) := fun s => by omega
      have e : (∑ s : Fin a, if s.val + (J - 1) = t.val + j then U (ix2 s col) * D (ix2 t col) else 0)
          = cell (fun s : Fin a => D (ix2 t col) * U (ix2 s col)) (t.val + j - (J - 1)) := by
        rw [← sum_pick _ _ (fun s : Fin a => s.val + (J - 1) = t.val + j) hp]
        exact Finset.sum_congr rfl fun s _ => by rw [mul_comm (U _)]
      rw [e, cell_mul, ← sum_pick _ _ (fun s : Fin a => s.val + (J - 1) = t.val + j) hp]
      refine congrArg _ (Finset.sum_congr rfl fun s _ => ?_)
      rw [ite_mul, one_mul, zero_mul]
    · rw [Finset.sum_eq_zero fun s _ => by rw [if_neg (by omega), zero_mul], mul_zero]
      exact (Finset.sum_eq_zero fun s _ => if_neg (by omega)).symm
  rw [Finset.sum_congr rfl fun t _ => h1 t, Finset.sum_comm,
    ← Fin.sum_univ_eq_sum_range (fun n => nat2 U n col.val * nat2 D (n + (J - 1 - j)) col.val)]
  refine Finset.sum_congr rfl fun s _ => ?_
  rw [sum_pick (s.val + (J - 1 - j)) _ (fun t : Fin a => s.val + (J - 1) = t.val + j) (fun t => by constructor <;> intro h <;> omega),
    cell_mul, cell_row D, nat2_of U s.isLt col.isLt]

/-! ## The order of a sum over all rows -/

theorem sum_blocks (b : ℕ) (f : ℕ → EReal) : ∀ a : ℕ, ∑ n ∈ Finset.range (a * b), f n = ∑ i ∈ Finset.range a, ∑ q ∈ Finset.range b, f (b * i + q)
  | 0 => by rw [Nat.zero_mul, Finset.sum_range_zero, Finset.sum_range_zero]
  | a + 1 => by rw [Nat.succ_mul, Finset.sum_range_add, sum_blocks b f a, Finset.sum_range_succ, Nat.mul_comm a b]

/-- Every row once: by the lane within a group of eight, then by point, slab and group. -/
theorem sum_rows (f : ℕ → EReal) : (∑ q ∈ Finset.range 8, ∑ t ∈ Finset.range 32, ∑ r ∈ Finset.range 4, ∑ i ∈ Finset.range 8,
      f (256 * t + (64 * r + (8 * i + q)))) = ∑ n ∈ Finset.range 8192, f n := by
  have h1 := sum_blocks 256 f 32
  have h2 : ∀ t, _ := fun t => sum_blocks 64 (fun n => f (256 * t + n)) 4
  have h3 : ∀ t r, _ := fun t r => sum_blocks 8 (fun n => f (256 * t + (64 * r + n))) 8
  rw [show 8192 = 32 * 256 from rfl, h1, Finset.sum_comm]
  refine Finset.sum_congr rfl fun t _ => ?_
  refine Eq.trans ?_ (h2 t).symm
  rw [Finset.sum_comm]
  refine Finset.sum_congr rfl fun r _ => ?_
  refine Eq.trans ?_ (h3 t r).symm
  rw [Finset.sum_comm]

theorem grad_rows (J : ℕ) (U D : Vec Ideal ⟨2, ![8192, 1024]⟩ .f32) (j : ℕ) (hj : j < J) (col : Fin 1024) :
    (∑ q ∈ Finset.range 8, ∑ t ∈ Finset.range 32, gr J U D t j q col.val)
      = ∑ n ∈ Finset.range 8192, nat2 U n col.val * nat2 D (n + (J - 1 - j)) col.val := by
  rw [← sum_rows]
  unfold gr
  refine Finset.sum_congr rfl fun q _ => Finset.sum_congr rfl fun t _ => Finset.sum_congr rfl fun r _ => Finset.sum_congr rfl fun i _ => ?_
  rw [show 256 * t + (64 * r + (J - 1 - j) + (8 * i + q)) = 256 * t + (64 * r + (8 * i + q)) + (J - 1 - j) by omega]

end Cert.KConvIdeal.Val
-- ==== Proof.Norm.lean ====
/- Facts about extended reals that are real numbers, and the one identity of real numbers behind the gradient of a layer
   normalization: what automatic differentiation writes, term by term, is what the kernels compute. -/
module

public import Idealize.ShloMosaic.Lib.Claim
public import Idealize.ShloMosaic.Lib.Pipeline.ValueKit

@[expose] public section

noncomputable section

namespace Cert.Norm

open Idealize.ShloMosaic

/-! ## Extended reals that are real -/

theorem coe_sum {n : ℕ} (f : Fin n → ℝ) : (∑ k, ((f k : ℝ) : EReal)) = ((∑ k, f k : ℝ) : EReal) :=
  (map_sum (⟨⟨fun x : ℝ => (x : EReal), EReal.coe_zero⟩, EReal.coe_add⟩ : ℝ →+ EReal) f Finset.univ).symm

theorem coe_div {x y : ℝ} (h : y ≠ 0) : Ideal.div (x : EReal) (y : EReal) = ((x / y : ℝ) : EReal) := by
  rw [Ideal.div_coe h, ← EReal.coe_mul, mul_one_div]

theorem coe_rsqrt {x : ℝ} (h : 0 < x) : Ideal.rsqrt (x : EReal) = (((Real.sqrt x)⁻¹ : ℝ) : EReal) := by
  rw [Ideal.rsqrt_coe, if_neg (not_lt.mpr h.le), if_neg h.ne']

/-- The literal words the programs divide and multiply by. -/
theorem half_f32 : Ideal.ofBits .f32 0x3F000000#32 = ((1 / 2 : ℝ) : EReal) := by
  simp [Ideal.ofBits, Ideal.ieee]; rw [← EReal.coe_mul]; norm_num
theorem neg_half_f32 : Ideal.ofBits .f32 0xBF000000#32 = ((-(1 / 2) : ℝ) : EReal) := by
  simp [Ideal.ofBits, Ideal.ieee]; rw [← EReal.coe_mul]; norm_num
theorem two_f32 : Ideal.ofBits .f32 0x40000000#32 = ((2 : ℝ) : EReal) := by
  simp [Ideal.ofBits, Ideal.ieee]; rw [← EReal.coe_mul]; norm_num
theorem lanes_f32 : Ideal.ofBits .f32 0x44800000#32 = ((1024 : ℝ) : EReal) := by
  simp [Ideal.ofBits, Ideal.ieee]; rw [← EReal.coe_mul]; norm_num
theorem one_f32 : Ideal.ofBits .f32 0x3F800000#32 = ((1 : ℝ) : EReal) := by
  simp [Ideal.ofBits, Ideal.ieee]; rw [← EReal.coe_mul]; norm_num

/-- The number the literal word of the variance's guard stands for. -/
def eps : ℝ := 10995116 / 1099511627776
theorem eps_pos : 0 < eps := by norm_num [eps]
theorem eps_f32 : Ideal.ofBits .f32 0x3727C5AC#32 = ((eps : ℝ) : EReal) := by
  simp [Ideal.ofBits, Ideal.ieee, eps]; rw [← EReal.coe_mul]; norm_num

theorem sigmoid_real (x : ℝ) : 1 / 2 * Real.tanh (1 / 2 * x) + 1 / 2 = 1 / (1 + Real.exp (-x)) := by
  rw [Real.tanh_eq_sinh_div_cosh, Real.sinh_eq, Real.cosh_eq]
  have h1 : Real.exp (-x) = Real.exp (-(1 / 2 * x)) * Real.exp (-(1 / 2 * x)) := by rw [← Real.exp_add]; ring_nf
  have h2 : Real.exp (1 / 2 * x) * Real.exp (-(1 / 2 * x)) = 1 := by rw [← Real.exp_add]; simp
  have p1 := Real.exp_pos (1 / 2 * x)
  have p2 := Real.exp_pos (-(1 / 2 * x))
  rw [h1]
  generalize Real.exp (1 / 2 * x) = a at *
  generalize Real.exp (-(1 / 2 * x)) = b at *
  field_simp
  linear_combination (2 * b) * h2

/-- The logistic function in the two forms the programs write it. -/
theorem sigmoid_eq (x : EReal) :
    Ideal.ofBits .f32 0x3F000000#32 * Ideal.tanh (Ideal.ofBits .f32 0x3F000000#32 * x) + Ideal.ofBits .f32 0x3F000000#32
      = Ideal.div (Ideal.ofBits .f32 0x3F800000#32) (Ideal.ofBits .f32 0x3F800000#32 + Ideal.exp (-x)) := by
  rw [half_f32, one_f32]
  induction x with
  | bot =>
    rw [EReal.coe_mul_bot_of_pos (by norm_num)]
    rw [EReal.coe_one]
    refine Eq.trans ?_ Ideal.logistic_bot.symm
    rw [Ideal.tanh_bot, ← EReal.coe_one, ← EReal.coe_neg, ← EReal.coe_mul, ← EReal.coe_add]
    norm_num
  | top =>
    rw [EReal.coe_mul_top_of_pos (by norm_num)]
    rw [EReal.coe_one]
    refine Eq.trans ?_ Ideal.logistic_top.symm
    rw [Ideal.tanh_top, ← EReal.coe_one, ← EReal.coe_mul, ← EReal.coe_add]
    norm_num
  | coe x =>
    rw [← EReal.coe_mul, Ideal.tanh_coe, ← EReal.coe_neg, Ideal.exp_coe, ← EReal.coe_mul, ← EReal.coe_add, ← EReal.coe_add,
      coe_div (by positivity), sigmoid_real]

/-- The predicates' test `|x| < ∞` leaves real numbers only. -/
theorem real_of_lt (v : EReal) (h : Ideal.cmp .olt (max v (-v)) (Ideal.ofBits .f32 0x7F800000#32) = 1#1) : ∃ y : ℝ, v = (y : EReal) := by
  have ht : Ideal.ofBits .f32 0x7F800000#32 = ⊤ := by simp [Ideal.ofBits, Ideal.ieee]
  rw [ht] at h
  induction v with
  | bot => simp [Ideal.cmp] at h
  | top => simp [Ideal.cmp] at h
  | coe v => exact ⟨v, rfl⟩

theorem real_of_mask {S₀ S : Shape} {d : Fin S₀.rank → Fin S.rank} (hb : S₀.BroadcastsInDim S d) (x : FVec Ideal S .f32)
    (h : cmpf .olt (Host.absf x) (broadcastInDim S d hb (constant (F := Ideal) S₀ .f32 0x7F800000#32)) = fun _ => 1#1) (i : S.Idx) :
    ∃ y : ℝ, x i = (y : EReal) := real_of_lt (x i) (congrFun h i)

/-! ## One row of a layer normalization -/

section Row

variable (z d : Fin 1024 → ℝ)

def mean : ℝ := (∑ k, z k) / 1024
def var : ℝ := (∑ k, (z k - mean z) * (z k - mean z)) / 1024
def rstd : ℝ := (Real.sqrt (var z + eps))⁻¹
def xhat (k : Fin 1024) : ℝ := (z k - mean z) * rstd z

theorem var_nonneg : 0 ≤ var z := div_nonneg (Finset.sum_nonneg fun k _ => mul_self_nonneg _) (by norm_num)
theorem guard_pos : 0 < var z + eps := add_pos_of_nonneg_of_pos (var_nonneg z) eps_pos

/-- The gradient of the normalized row as the kernels compute it. -/
def grad (k : Fin 1024) : ℝ := rstd z * (d k - (∑ k, d k) / 1024 - xhat z k * ((∑ k, d k * xhat z k) / 1024))

/-- The coefficient of the centred row in the gradient that automatic differentiation writes. -/
def varCoeff : ℝ := (∑ k, (z k - mean z) * d k) * (-(1 / 2) * (rstd z / (var z + eps))) / 1024

theorem rstd_cube : rstd z / (var z + eps) = rstd z * (rstd z * rstd z) := by
  have h := Real.mul_self_sqrt (guard_pos z).le
  have hp := Real.sqrt_pos.mpr (guard_pos z)
  have hr : rstd z * rstd z = (var z + eps)⁻¹ := by
    unfold rstd
    rw [← mul_inv, h]
  rw [hr, div_eq_mul_inv]

theorem sum_centred : ∑ k, (z k - mean z) = 0 := by
  rw [Finset.sum_sub_distrib, Finset.sum_const, Finset.card_univ, Fintype.card_fin, mean]
  simp
  ring

/-- … equals what automatic differentiation writes. -/
theorem grad_eq (k : Fin 1024) : grad z d k
    = d k * rstd z + varCoeff z d * (2 * (z k - mean z))
      + ((∑ k, -(d k * rstd z)) + ∑ k, -(varCoeff z d * (2 * (z k - mean z)))) / 1024 := by
  have h0 : ∑ k, -(varCoeff z d * (2 * (z k - mean z))) = 0 := by
    rw [Finset.sum_neg_distrib, ← Finset.mul_sum, ← Finset.mul_sum, sum_centred]; ring
  have h1 : ∑ k, -(d k * rstd z) = -((∑ k, d k) * rstd z) := by
    rw [Finset.sum_neg_distrib, Finset.sum_mul]
  have h2 : (∑ k, (z k - mean z) * d k) * rstd z = ∑ k, d k * xhat z k := by
    rw [Finset.sum_mul]; exact Finset.sum_congr rfl fun k _ => by unfold xhat; ring
  rw [h0, h1]
  unfold varCoeff grad
  rw [rstd_cube, ← h2]
  unfold xhat
  ring

end Row

end Cert.Norm

end
-- ==== Proof.Conv.Ref.lean ====
/- The reference of the call at an index: the zero-one arrays pick rows, the transposed convolutions and the weight
   gradients are the kernel's sums. -/
module

public import proofs.«01_k».proof.Proof.Conv.Sums
public import proofs.«01_k».proof.Proof.Norm
public import proofs.«01_k».proof.Proof.Gen.RConvIdeal.Run
public import proofs.«01_k».proof.Proof.Gen.RConvIdeal.Read
public import Idealize.ShloMosaic.Lib.Pipeline.ValueKit
public import Idealize.ShloMosaic.Lib.TwoAxisContraction

@[expose] public section

set_option maxRecDepth 16384

noncomputable section

namespace Cert.RConvIdeal.Val

open Idealize.ShloMosaic Idealize.ShloMosaic.TcCoe
open Cert.RConvIdeal Cert.RConvIdeal.Gen Cert.RConvIdeal.Read
open Cert.KConvIdeal.Val (Arrs picks_row picks_grad grad_rows sgm wide pn U3 U31 c3 c31 dpv gwv gr g3 g31 nat2 nat2_of nat2_at corr)
open scoped BigOperators

variable (x0 : (⟨S8192x7168, .f32⟩ : BufTy).Contents (Elt Ideal)) (x1 : (⟨S3x1024, .f32⟩ : BufTy).Contents (Elt Ideal))
  (x2 : (⟨S31x1024, .f32⟩ : BufTy).Contents (Elt Ideal)) (x3 x4 x5 : (⟨S8192x1024, .f32⟩ : BufTy).Contents (Elt Ideal))
  (x6 : (⟨S8192x2048, .f32⟩ : BufTy).Contents (Elt Ideal))

/-! ## The zero-one arrays -/

theorem one_word : Ideal.ofBits .f32 0x3F800000#32 = 1 := by
  rw [Cert.Norm.one_f32, EReal.coe_one]
theorem zero_word : Ideal.ofBits .f32 0x00000000#32 = 0 := by simp [Ideal.ofBits, Ideal.ieee]

theorem word_eq (c s t j : ℕ) (hc : c < 64) (hs : s < 8192) (ht : t < 8192) (hj : j < 64) :
    (BitVec.ofNat 32 s + BitVec.ofNat 32 c = BitVec.ofNat 32 t + BitVec.ofNat 32 j) ↔ s + c = t + j := by
  rw [← BitVec.ofNat_add, ← BitVec.ofNat_add]
  constructor
  · intro h
    have := congrArg BitVec.toNat h
    rw [BitVec.toNat_ofNat, BitVec.toNat_ofNat] at this
    omega
  · intro h; rw [h]

theorem picked (c s t j : ℕ) (hc : c < 64) (hs : s < 8192) (ht : t < 8192) (hj : j < 64) :
    Scalar.select (IntOp.cmpi .eq (IntOp.addi (BitVec.ofNat 32 s) (BitVec.ofNat 32 c)) (IntOp.addi (BitVec.ofNat 32 t) (BitVec.ofNat 32 j)))
      (Ideal.ofBits .f32 0x3F800000#32) (Ideal.ofBits .f32 0x00000000#32) = if s + c = t + j then (1 : EReal) else 0 := by
  rw [one_word, zero_word]
  by_cases h : s + c = t + j
  · rw [if_pos h]
    have e := (word_eq c s t j hc hs ht hj).mpr h
    simp [Scalar.select, IntOp.cmpi, IntOp.addi, e]
  · rw [if_neg h]
    have e : (BitVec.ofNat 32 s + BitVec.ofNat 32 c == BitVec.ofNat 32 t + BitVec.ofNat 32 j) = false :=
      beq_eq_false_iff_ne.mpr fun q => h ((word_eq c s t j hc hs ht hj).mp q)
    simp only [Scalar.select, IntOp.cmpi, IntOp.addi, e]
    exact if_neg (by decide)

theorem pick3 (t : Fin 8192) (j : Fin 3) (s : Fin 8192) :
    val_main_v15 (F := Ideal) (ix3 t j s) = if s.val + 2 = t.val + j.val then (1 : EReal) else 0 :=
  picked 2 s.val t.val j.val (by omega) s.isLt t.isLt (by omega)

theorem pick31 (t : Fin 8192) (j : Fin 31) (s : Fin 8192) :
    val_main_v38 (F := Ideal) (ix3 t j s) = if s.val + 30 = t.val + j.val then (1 : EReal) else 0 :=
  picked 30 s.val t.val j.val (by omega) s.isLt t.isLt (by omega)

/-! ## The products with them -/

theorem u3_at (s : Fin 8192) (col : Fin 1024) : val_main_v7 (F := Ideal) x0 (ix2 s col)
    = x0 (ix2 s ⟨1024 + col.val, by omega⟩) * x0 (ix2 s ⟨2048 + col.val, by omega⟩) := by
  pointwise [val_main_v7, val_main_v1, val_main_v2]

theorem gate_at (s : Fin 8192) (col : Fin 1024) : val_main_v26 (F := Ideal) x0 (ix2 s col) = sgm (x0 (ix2 s ⟨4096 + col.val, by omega⟩)) := by
  have h : val_main_v26 (F := Ideal) x0 (ix2 s col) = Ideal.div (Ideal.ofBits .f32 0x3F800000#32)
      (Ideal.ofBits .f32 0x3F800000#32 + Ideal.exp (-x0 (ix2 s ⟨4096 + col.val, by omega⟩))) := by
    pointwise [val_main_v26, val_main_v25, val_main_v24, val_main_v23, val_main_v22, val_main_v21, val_main_v4, val_main_cst_2, val_main_cst_3]
  rw [h, ← Cert.Norm.sigmoid_eq]
  rfl

theorem u31_at (s : Fin 8192) (col : Fin 1024) : val_main_v30 (F := Ideal) x0 (ix2 s col)
    = x0 (ix2 s ⟨3072 + col.val, by omega⟩) * sgm (x0 (ix2 s ⟨4096 + col.val, by omega⟩)) := by
  rw [← gate_at]
  pointwise [val_main_v30, val_main_v3]

theorem back3 (n : Fin 8192) (col : Fin 1024) : val_main_v66 (F := Ideal) x1 x4 (ix2 n col)
    = ∑ t : Fin 8192, ∑ j : Fin 3, x1 (ix2 j col) * x4 (ix2 t col) * (if n.val + 2 = t.val + j.val then (1 : EReal) else 0) := by
  have h : val_main_v65 (F := Ideal) x1 x4 (ix2 col n) = ∑ t : Fin 8192, ∑ j : Fin 3,
      val_main_v61 (F := Ideal) x1 x4 (ix3 t j col) * val_main_v15 (F := Ideal) (ix3 t j n) := by
    pointwise [val_main_v65]
  have e : val_main_v66 (F := Ideal) x1 x4 (ix2 n col) = val_main_v65 (F := Ideal) x1 x4 (ix2 col n) := by
    pointwise [val_main_v66]
  rw [e]
  refine Eq.trans h (Finset.sum_congr rfl fun t _ => Finset.sum_congr rfl fun j _ => ?_)
  rw [pick3]
  refine congrArg (· * _) ?_
  pointwise [val_main_v61, val_main_v60, val_main_v59, val_main_v16]

theorem back31 (n : Fin 8192) (col : Fin 1024) : val_main_v54 (F := Ideal) x2 x5 (ix2 n col)
    = ∑ t : Fin 8192, ∑ j : Fin 31, x2 (ix2 j col) * x5 (ix2 t col) * (if n.val + 30 = t.val + j.val then (1 : EReal) else 0) := by
  have h : val_main_v53 (F := Ideal) x2 x5 (ix2 col n) = ∑ t : Fin 8192, ∑ j : Fin 31,
      val_main_v49 (F := Ideal) x2 x5 (ix3 t j col) * val_main_v38 (F := Ideal) (ix3 t j n) := by
    pointwise [val_main_v53]
  have e : val_main_v54 (F := Ideal) x2 x5 (ix2 n col) = val_main_v53 (F := Ideal) x2 x5 (ix2 col n) := by
    pointwise [val_main_v54]
  rw [e]
  refine Eq.trans h (Finset.sum_congr rfl fun t _ => Finset.sum_congr rfl fun j _ => ?_)
  rw [pick31]
  refine congrArg (· * _) ?_
  pointwise [val_main_v49, val_main_v48, val_main_v47, val_main_v39]

theorem grad3 (j : Fin 3) (col : Fin 1024) : val_main_v67 (F := Ideal) x0 x4 (ix2 j col)
    = ∑ t : Fin 8192, x4 (ix2 t col) * ∑ s : Fin 8192, (if s.val + 2 = t.val + j.val then (1 : EReal) else 0) * val_main_v7 (F := Ideal) x0 (ix2 s col) := by
  have h : val_main_v67 (F := Ideal) x0 x4 (ix2 j col) = ∑ t : Fin 8192, val_main_v62 (F := Ideal) x0 x4 (ix3 t j col) := by
    have h1 : val_main_v64 (F := Ideal) x0 x4 (ix3 0 j col) = val_main_v63 (F := Ideal) x0 x4 (ix2 j col) := by
      pointwise [val_main_v64]
    have h2 : val_main_v63 (F := Ideal) x0 x4 (ix2 j col) = 0 + ∑ t : Fin 8192, val_main_v62 (F := Ideal) x0 x4 (ix3 t j col) := by
      rw [← zero_word]
      pointwise [val_main_v63, val_main_cst_11]
    have h3 : val_main_v67 (F := Ideal) x0 x4 (ix2 j col) = 0 + ∑ k : Fin 1, val_main_v64 (F := Ideal) x0 x4 (ix3 k j col) := by
      rw [← zero_word]
      pointwise [val_main_v67, val_main_cst_12]
    rw [h3, Fin.sum_univ_one, zero_add, h1, h2, zero_add]
  rw [h]
  refine Finset.sum_congr rfl fun t _ => ?_
  have h4 : val_main_v17 (F := Ideal) x0 (ix3 t j col) = ∑ s : Fin 8192, val_main_v15 (F := Ideal) (ix3 t j s) * val_main_v7 (F := Ideal) x0 (ix2 s col) := by
    pointwise [val_main_v17]
  have h5 : val_main_v62 (F := Ideal) x0 x4 (ix3 t j col) = x4 (ix2 t col) * val_main_v17 (F := Ideal) x0 (ix3 t j col) := by
    pointwise [val_main_v62, val_main_v59]
  rw [h5, h4]
  exact congrArg _ (Finset.sum_congr rfl fun s _ => by rw [pick3])

theorem grad31 (j : Fin 31) (col : Fin 1024) : val_main_v55 (F := Ideal) x0 x5 (ix2 j col)
    = ∑ t : Fin 8192, x5 (ix2 t col) * ∑ s : Fin 8192, (if s.val + 30 = t.val + j.val then (1 : EReal) else 0) * val_main_v30 (F := Ideal) x0 (ix2 s col) := by
  have h : val_main_v55 (F := Ideal) x0 x5 (ix2 j col) = ∑ t : Fin 8192, val_main_v50 (F := Ideal) x0 x5 (ix3 t j col) := by
    have h1 : val_main_v52 (F := Ideal) x0 x5 (ix3 0 j col) = val_main_v51 (F := Ideal) x0 x5 (ix2 j col) := by
      pointwise [val_main_v52]
    have h2 : val_main_v51 (F := Ideal) x0 x5 (ix2 j col) = 0 + ∑ t : Fin 8192, val_main_v50 (F := Ideal) x0 x5 (ix3 t j col) := by
      rw [← zero_word]
      pointwise [val_main_v51, val_main_cst_9]
    have h3 : val_main_v55 (F := Ideal) x0 x5 (ix2 j col) = 0 + ∑ k : Fin 1, val_main_v52 (F := Ideal) x0 x5 (ix3 k j col) := by
      rw [← zero_word]
      pointwise [val_main_v55, val_main_cst_10]
    rw [h3, Fin.sum_univ_one, zero_add, h1, h2, zero_add]
  rw [h]
  refine Finset.sum_congr rfl fun t _ => ?_
  have h4 : val_main_v40 (F := Ideal) x0 (ix3 t j col) = ∑ s : Fin 8192, val_main_v38 (F := Ideal) (ix3 t j s) * val_main_v30 (F := Ideal) x0 (ix2 s col) := by
    pointwise [val_main_v40]
  have h5 : val_main_v50 (F := Ideal) x0 x5 (ix3 t j col) = x5 (ix2 t col) * val_main_v40 (F := Ideal) x0 (ix3 t j col) := by
    pointwise [val_main_v50, val_main_v47]
  rw [h5, h4]
  exact congrArg _ (Finset.sum_congr rfl fun s _ => by rw [pick31])

end Cert.RConvIdeal.Val
-- ==== Proof.Conv.Last.lean ====
/- The two results of the reference are the kernel's expressions of the same arrays. -/
module

public import proofs.«01_k».proof.Proof.Conv.Ref

@[expose] public section

set_option maxRecDepth 16384

noncomputable section

namespace Cert.RConvIdeal.Val

open Idealize.ShloMosaic Idealize.ShloMosaic.TcCoe
open Cert.RConvIdeal Cert.RConvIdeal.Gen Cert.RConvIdeal.Read
open Cert.KConvIdeal.Val (Arrs picks_row picks_grad grad_rows sgm wide pn U3 U31 c3 c31 dpv gwv gr g3 g31 nat2 nat2_of nat2_at corr)
open scoped BigOperators

variable (x0 : (⟨S8192x7168, .f32⟩ : BufTy).Contents (Elt Ideal)) (x1 : (⟨S3x1024, .f32⟩ : BufTy).Contents (Elt Ideal))
  (x2 : (⟨S31x1024, .f32⟩ : BufTy).Contents (Elt Ideal)) (x3 x4 x5 : (⟨S8192x1024, .f32⟩ : BufTy).Contents (Elt Ideal))
  (x6 : (⟨S8192x2048, .f32⟩ : BufTy).Contents (Elt Ideal))

theorem zero_int : FloatOps.sitofp (F := Ideal) .f32 (0#32) = (0 : EReal) := by
  simp [FloatOps.sitofp]

/-- The kernel's arrays are those of the arguments; of the padded weights only the taps are asked. -/
structure Is (G : Arrs) : Prop where
  p : wide G.P = x0
  w3 : ∀ (j : Fin 3) (col : Fin 1024), nat2 (a := 8) (b := 1024) G.W3 j.val col.val = x1 (ix2 j col)
  w31 : ∀ (j : Fin 31) (col : Fin 1024), nat2 (a := 32) (b := 1024) G.W31 j.val col.val = x2 (ix2 j col)
  dba : wide G.DBA = x3
  d3 : G.D3 = x4
  d31 : G.D31 = x5
  dg : wide G.DG = x6

variable {x0 x1 x2 x3 x4 x5 x6} {G : Arrs} (h : Is x0 x1 x2 x3 x4 x5 x6 G)

include h

theorem pn_at (n : Fin 8192) {k : ℕ} (hk : k < 7168) : pn G n.val k = x0 (ix2 n ⟨k, hk⟩) := by
  unfold pn
  rw [h.p, nat2_of _ n.isLt hk]

theorem c3_at (n : Fin 8192) (col : Fin 1024) : val_main_v66 (F := Ideal) x1 x4 (ix2 n col) = c3 G n.val col.val := by
  unfold c3
  rw [back3, h.d3]
  exact picks_row (a := 8192) (b := 1024) (b' := 1024) (c := 8) 3 G.W3 x4 (fun j k => x1 (ix2 j k)) h.w3 n.val col

theorem c31_at (n : Fin 8192) (col : Fin 1024) : val_main_v54 (F := Ideal) x2 x5 (ix2 n col) = c31 G n.val col.val := by
  unfold c31
  rw [back31, h.d31]
  exact picks_row (a := 8192) (b := 1024) (b' := 1024) (c := 32) 31 G.W31 x5 (fun j k => x2 (ix2 j k)) h.w31 n.val col

theorem U3_at (n : Fin 8192) (col : Fin 1024) : U3 G (ix2 n col) = val_main_v7 (F := Ideal) x0 (ix2 n col) := by
  rw [u3_at, ← pn_at h n, ← pn_at h n]
  rfl

theorem U31_at (n : Fin 8192) (col : Fin 1024) : U31 G (ix2 n col) = val_main_v30 (F := Ideal) x0 (ix2 n col) := by
  rw [u31_at, ← pn_at h n, ← pn_at h n]
  rfl

theorem gw3_at (j : Fin 3) (col : Fin 1024) : val_main_v67 (F := Ideal) x0 x4 (ix2 j col) = gwv G j.val col.val := by
  unfold gwv g3
  rw [grad3, if_pos j.isLt, grad_rows 3 _ _ _ j.isLt, h.d3]
  refine Eq.trans ?_ (picks_grad (a := 8192) (b := 1024) 3 (U3 G) x4 j.val j.isLt col)
  exact Finset.sum_congr rfl fun t _ => congrArg _ (Finset.sum_congr rfl fun s _ => by rw [U3_at h])

theorem gw31_at (j : Fin 31) (col : Fin 1024) : val_main_v55 (F := Ideal) x0 x5 (ix2 j col) = gwv G (8 + j.val) col.val := by
  have hj := j.isLt
  unfold gwv g31
  rw [grad31, if_neg (by omega), if_pos (by omega), Nat.add_sub_cancel_left, grad_rows 31 _ _ _ j.isLt, h.d31]
  refine Eq.trans ?_ (picks_grad (a := 8192) (b := 1024) 31 (U31 G) x5 j.val j.isLt col)
  exact Finset.sum_congr rfl fun t _ => congrArg _ (Finset.sum_congr rfl fun s _ => by rw [U31_at h])

/-- The gradient of the two weights. -/
theorem gw_at (k : Fin 40) (col : Fin 1024) : val_main_v74 (F := Ideal) x0 x4 x5 (ix2 k col) = gwv G k.val col.val := by
  have z2 : ∀ i, val_main_call2_v0 (F := Ideal) i = 0 := fun i => zero_int
  have z3 : ∀ i, val_main_call3_v0 (F := Ideal) i = 0 := fun i => zero_int
  have hk := k.isLt
  pointwise [val_main_v74, val_main_v73, val_main_v72]
  by_cases h1 : k.val < 8
  · rw [dif_pos h1]
    by_cases h2 : k.val < 3
    · rw [dif_pos h2]
      exact gw3_at h ⟨k.val, h2⟩ col
    · rw [dif_neg h2, z2]
      unfold gwv
      rw [if_neg h2, if_neg (by omega)]
  · rw [dif_neg h1]
    by_cases h3 : k.val - 8 < 31
    · rw [dif_pos h3]
      refine (gw31_at h ⟨k.val - 8, h3⟩ col).trans ?_
      rw [show 8 + (⟨k.val - 8, h3⟩ : Fin 31).val = k.val from Nat.add_sub_cancel' (Nat.not_lt.mp h1)]
    · rw [dif_neg h3, z3]
      unfold gwv
      rw [if_neg (by omega), if_neg (by omega)]

section
variable (n : Fin 8192) (k : Fin 1024)

theorem seg1 : val_main_v69 (F := Ideal) x0 x1 x4 (ix2 n k) = c3 G n.val k.val * pn G n.val (2048 + k.val) := by
  rw [← c3_at h, pn_at h n (by omega)]
  pointwise [val_main_v69, val_main_v2]

theorem seg2 : val_main_v68 (F := Ideal) x0 x1 x4 (ix2 n k) = c3 G n.val k.val * pn G n.val (1024 + k.val) := by
  rw [← c3_at h, pn_at h n (by omega), mul_comm]
  pointwise [val_main_v68, val_main_v1]

theorem seg3 : val_main_v57 (F := Ideal) x0 x2 x5 (ix2 n k) = c31 G n.val k.val * sgm (pn G n.val (4096 + k.val)) := by
  rw [← c31_at h, pn_at h n (by omega), ← gate_at]
  pointwise [val_main_v57]

theorem seg4 : val_main_v58 (F := Ideal) x0 x2 x5 (ix2 n k) = c31 G n.val k.val * pn G n.val (3072 + k.val)
    * (sgm (pn G n.val (4096 + k.val)) * (Ideal.ofBits .f32 0x3F800000#32 - sgm (pn G n.val (4096 + k.val)))) := by
  rw [← c31_at h, pn_at h n (by omega), pn_at h n (by omega), ← gate_at, mul_comm (val_main_v54 (F := Ideal) x2 x5 (ix2 n k))]
  pointwise [val_main_v58, val_main_v56, val_main_v29, val_main_v28, val_main_v27, val_main_cst_4, val_main_v3]

end

/-- The gradient of the projection. -/
theorem dp_at (n : Fin 8192) (k : Fin 7168) : val_main_v71 (F := Ideal) x0 x1 x2 x3 x4 x5 x6 (ix2 n k) = dpv G n.val k.val := by
  have hk := k.isLt
  have e1 : ∀ j : Fin 1024, val_main_v45 (F := Ideal) x6 (ix2 n j) = x6 (ix2 n ⟨j.val, by omega⟩) := fun j => by
    pointwise [val_main_v45]
  have e2 : ∀ j : Fin 1024, val_main_v46 (F := Ideal) x6 (ix2 n j) = x6 (ix2 n ⟨1024 + j.val, by omega⟩) := fun j => by
    pointwise [val_main_v46]
  pointwise [val_main_v71, val_main_v70]
  unfold dpv
  by_cases h1 : k.val < 1024
  · rw [dif_pos h1, if_pos h1, h.dba, nat2_of _ n.isLt h1]
  rw [dif_neg h1, if_neg h1]
  by_cases h2 : k.val < 2048
  · have q : k.val - 1024 < 1024 := by omega
    rw [dif_pos q, if_pos h2]
    refine (seg1 h n ⟨k.val - 1024, q⟩).trans ?_
    dsimp only
    rw [show k.val - 1024 = k.val - 1024 by omega, show 2048 + (k.val - 1024) = k.val + 1024 by omega]
  rw [dif_neg (show ¬k.val - 1024 < 1024 by omega), if_neg h2]
  by_cases h3 : k.val < 3072
  · have q : k.val - 1024 - 1024 < 1024 := by omega
    rw [dif_pos q, if_pos h3]
    refine (seg2 h n ⟨k.val - 1024 - 1024, q⟩).trans ?_
    dsimp only
    rw [show k.val - 1024 - 1024 = k.val - 2048 by omega, show 1024 + (k.val - 2048) = k.val - 1024 by omega]
  rw [dif_neg (show ¬k.val - 1024 - 1024 < 1024 by omega), if_neg h3]
  by_cases h4 : k.val < 4096
  · have q : k.val - 1024 - 1024 - 1024 < 1024 := by omega
    rw [dif_pos q, if_pos h4]
    refine (seg3 h n ⟨k.val - 1024 - 1024 - 1024, q⟩).trans ?_
    dsimp only
    rw [show k.val - 1024 - 1024 - 1024 = k.val - 3072 by omega, show 4096 + (k.val - 3072) = k.val + 1024 by omega]
  rw [dif_neg (show ¬k.val - 1024 - 1024 - 1024 < 1024 by omega), if_neg h4]
  by_cases h5 : k.val < 5120
  · have q : k.val - 1024 - 1024 - 1024 - 1024 < 1024 := by omega
    rw [dif_pos q, if_pos h5]
    refine (seg4 h n ⟨k.val - 1024 - 1024 - 1024 - 1024, q⟩).trans ?_
    dsimp only
    rw [show k.val - 1024 - 1024 - 1024 - 1024 = k.val - 4096 by omega, show 3072 + (k.val - 4096) = k.val - 1024 by omega, show 4096 + (k.val - 4096) = k.val by omega]
  rw [dif_neg (show ¬k.val - 1024 - 1024 - 1024 - 1024 < 1024 by omega), if_neg h5]
  by_cases h6 : k.val < 6144
  · have q : k.val - 1024 - 1024 - 1024 - 1024 - 1024 < 1024 := by omega
    rw [dif_pos q, e1, h.dg, nat2_of _ n.isLt (by omega)]
    exact congrArg x6 (congrArg (ix2 n) (Fin.ext (by show k.val - 1024 - 1024 - 1024 - 1024 - 1024 = k.val - 5120; omega)))
  · rw [dif_neg (show ¬k.val - 1024 - 1024 - 1024 - 1024 - 1024 < 1024 by omega), e2, h.dg, nat2_of _ n.isLt (by omega)]
    exact congrArg x6 (congrArg (ix2 n) (Fin.ext (by show 1024 + (k.val - 1024 - 1024 - 1024 - 1024 - 1024 - 1024) = k.val - 5120; omega)))

end Cert.RConvIdeal.Val
-- ==== Proof.Conv.Pair.lean ====
/- The pair of the call `_conv_bwd`: the gradients of the projection and of the two convolution weights. -/
module

public import proofs.«01_k».proof.Proof.Conv.Exact
public import proofs.«01_k».proof.Proof.Conv.Last
public import proofs.«01_k».proof.Defs
public import Idealize.ShloMosaic.Lib.Claim

@[expose] public section

set_option maxRecDepth 16384

noncomputable section

namespace Cert.KConvIdeal.Val

open Idealize.ShloMosaic Idealize.ShloMosaic.TcCoe Idealize.SL.Sem
open Cert.KConvIdeal Cert.KConvIdeal.Gen

variable (m : (ℓ : Loc nD τ sig) → Buf (Elt Ideal) ℓ) (ρ : Dev nD → PrngReg)

theorem padded3 (x : FVec Ideal S3x1024 .f32) (z : FVec Ideal S_ .f32) (j : Fin 3) (col : Fin 1024) :
    pad S8x1024 ![0, 0] ![5, 0] ![0, 0] x z pads_S3x1024_S8x1024_050_000 h_S_ (ix2 ⟨j.val, by omega⟩ col) = x (ix2 j col) := by
  pointwise []

theorem padded31 (x : FVec Ideal S31x1024 .f32) (z : FVec Ideal S_ .f32) (j : Fin 31) (col : Fin 1024) :
    pad S32x1024 ![0, 0] ![1, 0] ![0, 0] x z pads_S31x1024_S32x1024_010_000 h_S_ (ix2 ⟨j.val, by omega⟩ col) = x (ix2 j col) := by
  pointwise []

/-- What the call finds in its arrays: the arguments, the weights padded. -/
theorem arrs_is (c : Dev nD) : Cert.RConvIdeal.Val.Is (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (arrs m c) where
  p := by
    show V m c main_v0 = _
    entry_read
    rfl
  w3 j col := by
    refine (nat2_of (a := 8) (b := 1024) _ (by omega) col.isLt).trans ?_
    have e : V m c main_v3 = pad S8x1024 ![0, 0] ![5, 0] ![0, 0] (m ((c : Thread nD τ).loc main_arg1)) (sitofp (F := Ideal) .f32 (constantI S_ 32 0#32))
        pads_S3x1024_S8x1024_050_000 h_S_ := by
      entry_read
      rfl
    show V m c main_v3 _ = _
    rw [e]
    exact padded3 _ _ _ _
  w31 j col := by
    refine (nat2_of (a := 32) (b := 1024) _ (by omega) col.isLt).trans ?_
    have e : V m c main_v4 = pad S32x1024 ![0, 0] ![1, 0] ![0, 0] (m ((c : Thread nD τ).loc main_arg2)) (sitofp (F := Ideal) .f32 (constantI S_ 32 0#32))
        pads_S31x1024_S32x1024_010_000 h_S_ := by
      entry_read
      rfl
    show V m c main_v4 _ = _
    rw [e]
    exact padded31 _ _ _ _
  dba := by
    show V m c main_v1 = _
    entry_read
    rfl
  d3 := V_main_arg4 m c
  d31 := V_main_arg5 m c
  dg := by
    show V m c main_v2 = _
    entry_read
    rfl

theorem dp_value (c : Dev nD) : (fun y => dpv (arrs m c) (y 0).val (y 1).val : Vec Ideal S8192x7168 .bf16)
    = Cert.RConvIdeal.Read.val_main_v71 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  funext y
  refine Eq.trans (Cert.RConvIdeal.Val.dp_at (arrs_is m c) (y 0) (y 1)).symm (congrArg _ ?_)
  pointwise []

theorem gw_value (c : Dev nD) : (fun y => gwv (arrs m c) (y 0).val (y 1).val : Vec Ideal S40x1024 .f32)
    = Cert.RConvIdeal.Read.val_main_v74 (F := Ideal) (m ((c : Thread nD τ).loc main_arg0)) (m ((c : Thread nD τ).loc main_arg4))
      (m ((c : Thread nD τ).loc main_arg5)) := by
  funext y
  refine Eq.trans (Cert.RConvIdeal.Val.gw_at (arrs_is m c) (y 0) (y 1)).symm (congrArg _ ?_)
  pointwise []

theorem run : θ_run defs (onTc (τ := τ) (main (F := Ideal))) ⟨m, fun _ => 0, ρ⟩ (fun r => ∀ c : Dev nD,
      r.2.mem ((c.tc : Thread nD τ).loc main_v5_0) = Cert.RConvIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v5_1) = Cert.RConvIdeal.Read.val_main_v74 (F := Ideal) (m ((c : Thread nD τ).loc main_arg0)) (m ((c : Thread nD τ).loc main_arg4)) (m ((c : Thread nD τ).loc main_arg5))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) :=
  (θ_run defs _ _).mono (fun r h c => ⟨(h c).1.trans (dp_value m c), (h c).2.1.trans (gw_value m c), (h c).2.2⟩) (finals m ρ)

/-- The reference's run, its results as expressions of its arguments. -/
theorem runR (m' : (ℓ : Loc Cert.RConvIdeal.nD Cert.RConvIdeal.τ Cert.RConvIdeal.sig) → Buf (Elt Ideal) ℓ) (ρ' : Dev Cert.RConvIdeal.nD → PrngReg) :
    θ_run (Cert.RConvIdeal.defs (F := Ideal)) (onTc (τ := Cert.RConvIdeal.τ) (Cert.RConvIdeal.main (F := Ideal))) ⟨m', fun _ => 0, ρ'⟩ fun r => ∀ c : Dev Cert.RConvIdeal.nD,
      r.2.mem ((c.tc : Thread Cert.RConvIdeal.nD Cert.RConvIdeal.τ).loc Cert.RConvIdeal.main_v71) = Cert.RConvIdeal.Read.val_main_v71 (F := Ideal) (m' ((c.tc : Thread Cert.RConvIdeal.nD Cert.RConvIdeal.τ).loc Cert.RConvIdeal.main_arg0)) (m' ((c.tc : Thread Cert.RConvIdeal.nD Cert.RConvIdeal.τ).loc Cert.RConvIdeal.main_arg1)) (m' ((c.tc : Thread Cert.RConvIdeal.nD Cert.RConvIdeal.τ).loc Cert.RConvIdeal.main_arg2)) (m' ((c.tc : Thread Cert.RConvIdeal.nD Cert.RConvIdeal.τ).loc Cert.RConvIdeal.main_arg3)) (m' ((c.tc : Thread Cert.RConvIdeal.nD Cert.RConvIdeal.τ).loc Cert.RConvIdeal.main_arg4)) (m' ((c.tc : Thread Cert.RConvIdeal.nD Cert.RConvIdeal.τ).loc Cert.RConvIdeal.main_arg5)) (m' ((c.tc : Thread Cert.RConvIdeal.nD Cert.RConvIdeal.τ).loc Cert.RConvIdeal.main_arg6))
      ∧ r.2.mem ((c.tc : Thread Cert.RConvIdeal.nD Cert.RConvIdeal.τ).loc Cert.RConvIdeal.main_v74) = Cert.RConvIdeal.Read.val_main_v74 (F := Ideal) (m' ((c.tc : Thread Cert.RConvIdeal.nD Cert.RConvIdeal.τ).loc Cert.RConvIdeal.main_arg0)) (m' ((c.tc : Thread Cert.RConvIdeal.nD Cert.RConvIdeal.τ).loc Cert.RConvIdeal.main_arg4)) (m' ((c.tc : Thread Cert.RConvIdeal.nD Cert.RConvIdeal.τ).loc Cert.RConvIdeal.main_arg5))
      ∧ r.2.mem ((c.tc : Thread Cert.RConvIdeal.nD Cert.RConvIdeal.τ).loc Cert.RConvIdeal.main_arg0) = m' ((c.tc : Thread Cert.RConvIdeal.nD Cert.RConvIdeal.τ).loc Cert.RConvIdeal.main_arg0)
      ∧ r.2.mem ((c.tc : Thread Cert.RConvIdeal.nD Cert.RConvIdeal.τ).loc Cert.RConvIdeal.main_arg1) = m' ((c.tc : Thread Cert.RConvIdeal.nD Cert.RConvIdeal.τ).loc Cert.RConvIdeal.main_arg1)
      ∧ r.2.mem ((c.tc : Thread Cert.RConvIdeal.nD Cert.RConvIdeal.τ).loc Cert.RConvIdeal.main_arg2) = m' ((c.tc : Thread Cert.RConvIdeal.nD Cert.RConvIdeal.τ).loc Cert.RConvIdeal.main_arg2)
      ∧ r.2.mem ((c.tc : Thread Cert.RConvIdeal.nD Cert.RConvIdeal.τ).loc Cert.RConvIdeal.main_arg3) = m' ((c.tc : Thread Cert.RConvIdeal.nD Cert.RConvIdeal.τ).loc Cert.RConvIdeal.main_arg3)
      ∧ r.2.mem ((c.tc : Thread Cert.RConvIdeal.nD Cert.RConvIdeal.τ).loc Cert.RConvIdeal.main_arg4) = m' ((c.tc : Thread Cert.RConvIdeal.nD Cert.RConvIdeal.τ).loc Cert.RConvIdeal.main_arg4)
      ∧ r.2.mem ((c.tc : Thread Cert.RConvIdeal.nD Cert.RConvIdeal.τ).loc Cert.RConvIdeal.main_arg5) = m' ((c.tc : Thread Cert.RConvIdeal.nD Cert.RConvIdeal.τ).loc Cert.RConvIdeal.main_arg5)
      ∧ r.2.mem ((c.tc : Thread Cert.RConvIdeal.nD Cert.RConvIdeal.τ).loc Cert.RConvIdeal.main_arg6) = m' ((c.tc : Thread Cert.RConvIdeal.nD Cert.RConvIdeal.τ).loc Cert.RConvIdeal.main_arg6) := by
  refine (θ_run _ _ _).mono (fun r h c => ?_) (Cert.RConvIdeal.Value.run m' ρ')
  obtain ⟨h0, h1, hk⟩ := h c
  exact ⟨h0.trans (Cert.RConvIdeal.Read.val_main_v71_eq _ _), h1.trans (Cert.RConvIdeal.Read.val_main_v74_eq _ _ _), hk⟩

/-- The pair's value claim. -/
theorem pair : Cert.algebraic_KConvIdeal_RConvIdeal := by
  pair_intro
  · run_from run m g
  · refine (θ_run _ _ _).mono (fun r h c => ?_) (runR m' g')
    obtain ⟨e0, e1, e2, e3, e4, e5, e6⟩ := hagree c
    obtain ⟨h0, h1, hk⟩ := h c
    exact ⟨h0.trans (by rw [e0, e1, e2, e3, e4, e5, e6]), h1.trans (by rw [e0, e4, e5]), hk⟩

end Cert.KConvIdeal.Val

end
-- ==== Proof.Merge.Pay.lean ====
/- The call `merge_bwd`: each result array as one expression of the arrays the call reads. -/
module

public import proofs.«01_k».proof.Proof.Gen.KMergeIdeal.Value
public import Idealize.ShloMosaic.Lib.Pipeline.ValueKit
public import Idealize.ShloMosaic.Lib.Claim

@[expose] public section

set_option maxRecDepth 16384

noncomputable section

namespace Cert.KMergeIdeal.Val

open Idealize.ShloMosaic Idealize.ShloMosaic.TcCoe Idealize.SL.Sem
open Idealize.ShloMosaic.Pipeline (Dat)
open Cert.KMergeIdeal Cert.KMergeIdeal.Gen

/-! ## The expressions -/

/-- The logistic function through the hyperbolic tangent. -/
def sgm (x : EReal) : EReal :=
  Ideal.ofBits .f32 0x3F000000#32 * Ideal.tanh (Ideal.ofBits .f32 0x3F000000#32 * x) + Ideal.ofBits .f32 0x3F000000#32

/-- A row pulled back through a product with `W`. -/
def pull (z : Fin 1024 → EReal) (W : FVec Ideal S1024x1024 .bf16) (k : Fin 1024) : EReal :=
  ∑ j : Fin 1024, z j * W (ix2 k j)

/-- A row of a branch's cotangent: the pulled-back cotangent times the branch's gate. -/
def branch (z g : Fin 1024 → EReal) (W : FVec Ideal S1024x1024 .bf16) (k : Fin 1024) : EReal := pull z W k * sgm (g k)

/-- A row of a gate's cotangent. -/
def gate (z g y : Fin 1024 → EReal) (W : FVec Ideal S1024x1024 .bf16) (k : Fin 1024) : EReal :=
  pull z W k * y k * (sgm (g k) * (Ideal.ofBits .f32 0x3F800000#32 - sgm (g k)))

/-- The derivative of `x · logistic x`. -/
def dsilu (x : EReal) : EReal := sgm x * (Ideal.ofBits .f32 0x3F800000#32 + x * (Ideal.ofBits .f32 0x3F800000#32 - sgm x))

/-- A row of the cotangent at the normalization's output. -/
def du2 (z g xh gam bet : Fin 1024 → EReal) (WO WB : FVec Ideal S1024x1024 .bf16) (k : Fin 1024) : EReal :=
  pull (branch z g WO) WB k * dsilu (xh k * gam k + bet k)

/-- A row of the normalization's gradient, from the cotangent `d` at its output. -/
def du1 (rs : EReal) (xh gam d : Fin 1024 → EReal) (k : Fin 1024) : EReal :=
  rs * (d k * gam k - Ideal.div (∑ j : Fin 1024, d j * gam j) (Ideal.ofBits .f32 0x44800000#32)
    - xh k * Ideal.div (∑ j : Fin 1024, d j * gam j * xh j) (Ideal.ofBits .f32 0x44800000#32))

/-! ## The values the body computes, at variable blocks -/

section Payloads

variable (v3 v8 v18 v34 v44 v61 : Vec Ideal S256x1024 .bf16) (v5 v54 v66 : Vec Ideal S1024x1024 .bf16)
variable (v57 v69 : Vec Ideal S256x1024 .f32) (v71 v75 v93 : Vec Ideal S1x1024 .f32) (v106 : Vec Ideal S256x1 .f32)
variable (r : Fin 256) (k : Fin 1024)

theorem pay4_at : k0_pay4 v3 v5 (ix2 r k) = pull (fun j => v3 (ix2 r j)) v5 k := by
  pointwise [k0_pay4, pull]
theorem pay5_at : k0_pay5 v8 (ix2 r k) = sgm (v8 (ix2 r k)) := by
  pointwise [k0_pay5, sgm]
theorem pay6_at : k0_pay6 v18 (ix2 r k) = sgm (v18 (ix2 r k)) := by
  pointwise [k0_pay6, sgm]
theorem pay7_at : k0_pay7 v3 v5 v8 (ix2 r k) = branch (fun j => v3 (ix2 r j)) (fun j => v8 (ix2 r j)) v5 k := by
  pointwise [k0_pay7, pay4_at, pay5_at, branch]
theorem pay8_at : k0_pay8 v3 v5 v18 (ix2 r k) = branch (fun j => v3 (ix2 r j)) (fun j => v18 (ix2 r j)) v5 k := by
  pointwise [k0_pay8, pay4_at, pay6_at, branch]
theorem pay9_at : k0_pay9 (k0_pay4 v3 v5) (k0_pay5 v8) v34 (ix2 r k)
    = gate (fun j => v3 (ix2 r j)) (fun j => v8 (ix2 r j)) (fun j => v34 (ix2 r j)) v5 k := by
  pointwise [k0_pay9, pay4_at, pay5_at, gate]
theorem pay10_at : k0_pay10 (k0_pay4 v3 v5) (k0_pay6 v18) v44 (ix2 r k)
    = gate (fun j => v3 (ix2 r j)) (fun j => v18 (ix2 r j)) (fun j => v44 (ix2 r j)) v5 k := by
  pointwise [k0_pay10, pay4_at, pay6_at, gate]
theorem pay12_at : k0_pay12 (k0_pay7 v3 v5 v8) v54 v57 (ix2 r k)
    = pull (branch (fun j => v3 (ix2 r j)) (fun j => v8 (ix2 r j)) v5) v54 k * v57 (ix2 r k) := by
  pointwise [k0_pay12, k0_pay11, pay7_at, pull]
theorem pay13_at : k0_pay13 (k0_pay7 v3 v5 v8) v54 v61 (ix2 r k)
    = pull (branch (fun j => v3 (ix2 r j)) (fun j => v8 (ix2 r j)) v5) v54 k * v61 (ix2 r k) := by
  pointwise [k0_pay13, k0_pay11, pay7_at, pull]
theorem pay17_at : k0_pay17 (k0_pay8 v3 v5 v18) (k0_pay14 v66) v69 v71 v75 (ix2 r k)
    = du2 (fun j => v3 (ix2 r j)) (fun j => v18 (ix2 r j)) (fun j => v69 (ix2 r j)) (fun j => v71 (ix2 0 j)) (fun j => v75 (ix2 0 j)) v5 v66 k := by
  pointwise [k0_pay17, k0_pay14, k0_pay15, k0_pay16, pay8_at, du2, pull, dsilu, sgm]
theorem pay18_at : k0_pay18 (k0_pay8 v3 v5 v18) (k0_pay14 v66) v69 v71 v75 v93 (ix2 0 k) = v93 (ix2 0 k) + ∑ r : Fin 256,
    du2 (fun j => v3 (ix2 r j)) (fun j => v18 (ix2 r j)) (fun j => v69 (ix2 r j)) (fun j => v71 (ix2 0 j)) (fun j => v75 (ix2 0 j)) v5 v66 k * v69 (ix2 r k) := by
  pointwise [k0_pay18, k0_pay15, pay17_at]
theorem pay19_at : k0_pay19 (k0_pay8 v3 v5 v18) (k0_pay14 v66) v69 v71 v75 v93 (ix2 0 k) = v93 (ix2 0 k) + ∑ r : Fin 256,
    du2 (fun j => v3 (ix2 r j)) (fun j => v18 (ix2 r j)) (fun j => v69 (ix2 r j)) (fun j => v71 (ix2 0 j)) (fun j => v75 (ix2 0 j)) v5 v66 k := by
  pointwise [k0_pay19, pay17_at]
theorem pay1_at (D : FVec Ideal S256x1024 .f32) : k0_pay1 (k0_pay15 v69) (k0_pay16 v71) D v106 (ix2 r k)
    = du1 (v106 (ix2 r 0)) (fun j => v69 (ix2 r j)) (fun j => v71 (ix2 0 j)) (fun j => D (ix2 r j)) k := by
  pointwise [k0_pay1, k0_pay15, k0_pay16, du1]
theorem pay2_at (D : FVec Ideal S256x1024 .f32) : k0_pay2 (k0_pay15 v69) (k0_pay16 v71) D v106 v93 (ix2 0 k) = v93 (ix2 0 k) + ∑ r : Fin 256,
    du1 (v106 (ix2 r 0)) (fun j => v69 (ix2 r j)) (fun j => v71 (ix2 0 j)) (fun j => D (ix2 r j)) k := by
  pointwise [k0_pay2, pay1_at]

end Payloads

end Cert.KMergeIdeal.Val

end
-- ==== Proof.Merge.Blocks.lean ====
/- The call `merge_bwd`: each result array as one expression of the arrays the call reads. -/
module

public import proofs.«01_k».proof.Proof.Merge.Pay
public import Idealize.ShloMosaic.Lib.Pipeline.ValueKit
public import Idealize.ShloMosaic.Lib.Claim

@[expose] public section

set_option maxRecDepth 16384

noncomputable section

namespace Cert.KMergeIdeal.Val

open Idealize.ShloMosaic Idealize.ShloMosaic.TcCoe Idealize.SL.Sem
open Idealize.ShloMosaic.Pipeline (Dat)
open Cert.KMergeIdeal Cert.KMergeIdeal.Gen

variable (m : (ℓ : Loc nD τ sig) → Buf (Elt Ideal) ℓ)

theorem idx : ∀ t : Fin cfg0.N, (win0_0.index t = ![t.val, 0] ∧ win0_1.index t = ![t.val, 5] ∧ win0_2.index t = ![t.val, 6]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![0, 0] ∧ win0_10.index t = ![0, 0]
    ∧ win0_11.index t = ![0, 0] ∧ win0_12.index t = ![0, 0]) ∧ (win0_13.index t = ![t.val, 0] ∧ win0_14.index t = ![t.val, 0]
    ∧ win0_15.index t = ![t.val, 0] ∧ win0_16.index t = ![t.val, 0] ∧ win0_17.index t = ![t.val, 0]
    ∧ win0_18.index t = ![t.val, 0] ∧ win0_19.index t = ![0, 0]) :=
  (by decide +kernel : ∀ t : Fin grid0.N, _)

/-- Token `r` of the block at `t`. -/
def tok (t : Fin cfg0.N) (r : Fin 256) : Fin 8192 := ⟨t.val * 256 + r.val, by
  have h : t.val < 32 := t.isLt
  omega⟩

/-! ## The blocks the body reads -/

variable (c : Dev nD) (t : Fin cfg0.N) (r : Fin 256) (k : Fin 1024)

theorem blk0 : (iblk m c 0 t : Vec Ideal S256x1024 _) (ix2 r k) = V m c main_v47 (ix2 (tok t r) k) := by
  blk_point [iblk, tok, idx t]
theorem blk4 : (iblk m c 4 t : Vec Ideal S256x1024 _) (ix2 r k) = V m c main_v48 (ix2 (tok t r) k) := by
  blk_point [iblk, tok, idx t]
theorem blk5 : (iblk m c 5 t : Vec Ideal S256x1024 _) (ix2 r k) = V m c main_v49 (ix2 (tok t r) k) := by
  blk_point [iblk, tok, idx t]
theorem blk6 : (iblk m c 6 t : Vec Ideal S256x1024 _) (ix2 r k) = V m c main_arg1 (ix2 (tok t r) k) := by
  blk_point [iblk, tok, idx t]
theorem blk7 : (iblk m c 7 t : Vec Ideal S256x1024 _) (ix2 r k) = V m c main_v34 (ix2 (tok t r) k) := by
  blk_point [iblk, tok, idx t]
theorem blk8 : (iblk m c 8 t : Vec Ideal S256x1 _) (ix2 r 0) = V m c main_v30 (ix2 (tok t r) 0) := by
  blk_point [iblk, tok, idx t]
theorem blk1 : (iblk m c 1 t : Vec Ideal S256x1024 _) (ix2 r k) = V m c main_v0 (ix2 (tok t r) ⟨5120 + k.val, by omega⟩) := by
  blk_point [iblk, tok, idx t]
theorem blk2 : (iblk m c 2 t : Vec Ideal S256x1024 _) (ix2 r k) = V m c main_v0 (ix2 (tok t r) ⟨6144 + k.val, by omega⟩) := by
  blk_point [iblk, tok, idx t]
theorem blk3 : (iblk m c 3 t : Vec Ideal S256x1024 _) (ix2 r k) = V m c main_v0 (ix2 (tok t r) ⟨0 + k.val, by omega⟩) := by
  blk_point [iblk, tok, idx t]
theorem blk9 : (iblk m c 9 t : Vec Ideal S1024x1024 _) = V m c main_v1 := by
  funext i; blk_point [iblk, idx t]
theorem blk10 : (iblk m c 10 t : Vec Ideal S1024x1024 _) = V m c main_v2 := by
  funext i; blk_point [iblk, idx t]
theorem blk11 : (iblk m c 11 t : Vec Ideal S1024x1024 _) = V m c main_v3 := by
  funext i; blk_point [iblk, idx t]
theorem blk12 : (iblk m c 12 t : Vec Ideal S8x1024 _) = V m c main_v13 := by
  funext i; blk_point [iblk, idx t]

end Cert.KMergeIdeal.Val

end
-- ==== Proof.Merge.Windows.lean ====
/- The call `merge_bwd`: the results that carry nothing from one block of tokens to the next. -/
module

public import proofs.«01_k».proof.Proof.Merge.Blocks
public import Idealize.ShloMosaic.Lib.Pipeline.ValueKit
public import Idealize.ShloMosaic.Lib.Claim

@[expose] public section

set_option maxRecDepth 16384

noncomputable section

namespace Cert.KMergeIdeal.Val

open Idealize.ShloMosaic Idealize.ShloMosaic.TcCoe Idealize.SL.Sem
open Idealize.ShloMosaic.Pipeline (Dat)
open Cert.KMergeIdeal Cert.KMergeIdeal.Gen

/-! ## The expressions -/

section Expr

variable (Z : FVec Ideal S8192x1024 .bf16) (P : FVec Ideal S8192x7168 .bf16) (YA YB : FVec Ideal S8192x1024 .bf16)
variable (CA XH : FVec Ideal S8192x1024 .f32) (RS : FVec Ideal S8192x1 .f32)
variable (WA WB WO : FVec Ideal S1024x1024 .bf16) (VEC : FVec Ideal S8x1024 .f32)

abbrev lineZ (r : Fin 8192) (j : Fin 1024) : EReal := Z (ix2 r j)
abbrev gateA (r : Fin 8192) (j : Fin 1024) : EReal := P (ix2 r ⟨5120 + j.val, by omega⟩)
abbrev gateB (r : Fin 8192) (j : Fin 1024) : EReal := P (ix2 r ⟨6144 + j.val, by omega⟩)

def dya : FVec Ideal S8192x1024 .bf16 := fun i => branch (lineZ Z (i 0)) (gateA P (i 0)) WO (i 1)
def dyb : FVec Ideal S8192x1024 .bf16 := fun i => branch (lineZ Z (i 0)) (gateB P (i 0)) WO (i 1)
def dba : FVec Ideal S8192x1024 .bf16 := fun i => pull (branch (lineZ Z (i 0)) (gateA P (i 0)) WO) WA (i 1) * CA (ix2 (i 0) (i 1))
def dconva : FVec Ideal S8192x1024 .f32 := fun i => pull (branch (lineZ Z (i 0)) (gateA P (i 0)) WO) WA (i 1)
  * P (ix2 (i 0) ⟨0 + (i 1).val, by have h : (i 1).val < 1024 := (i 1).isLt; omega⟩)
def du2A (r : Fin 8192) (k : Fin 1024) : EReal :=
  du2 (lineZ Z r) (gateB P r) (fun j => XH (ix2 r j)) (fun j => VEC (ix2 1 j)) (fun j => VEC (ix2 2 j)) WO WB k
def du1A (r : Fin 8192) (k : Fin 1024) : EReal :=
  du1 (RS (ix2 r 0)) (fun j => XH (ix2 r j)) (fun j => VEC (ix2 1 j)) (du2A Z P XH WB WO VEC r) k

end Expr

variable (m : (ℓ : Loc nD τ sig) → Buf (Elt Ideal) ℓ)

theorem dya_final (c : Dev nD) : (dats m 0 c).arrAt 13 cfg0.N = dya (V m c main_v47) (V m c main_v0) (V m c main_v3) := by
  refine (dats m 0 c).arrAt_eq_of_covers 13 _ (by decide +kernel) fun t _ y => ?_
  have he : ((cfg0.win 13).blk t).view.emb y = ix2 (tok t (y 0)) (y 1) := by blk_ext [tok, idx t]
  have key (y : S256x1024.Idx) : k0_pay7 (iblk m c 0 t) (iblk m c 11 t) (iblk m c 1 t) y
      = dya (V m c main_v47) (V m c main_v0) (V m c main_v3) (ix2 (tok t (y 0)) (y 1)) := by
    obtain ⟨r, k, rfl⟩ : ∃ r k, y = ix2 r k := ⟨y 0, y 1, by blk_ext⟩
    rw [pay7_at]
    simp only [blk0, blk1, blk11]
    rfl
  blk_simp
  rw [after0_13]
  rcases Decidable.em (t.val % 32 = 0) with h0 | h0
  · rw [outsAt0_A m c t h0]
    frame_out
    exact (key y).trans (congrArg _ he.symm)
  · rw [outsAt0_B m c t h0]
    frame_out
    exact (key y).trans (congrArg _ he.symm)

theorem dyb_final (c : Dev nD) : (dats m 0 c).arrAt 14 cfg0.N = dyb (V m c main_v47) (V m c main_v0) (V m c main_v3) := by
  refine (dats m 0 c).arrAt_eq_of_covers 14 _ (by decide +kernel) fun t _ y => ?_
  have he : ((cfg0.win 14).blk t).view.emb y = ix2 (tok t (y 0)) (y 1) := by blk_ext [tok, idx t]
  have key (y : S256x1024.Idx) : k0_pay8 (iblk m c 0 t) (iblk m c 11 t) (iblk m c 2 t) y
      = dyb (V m c main_v47) (V m c main_v0) (V m c main_v3) (ix2 (tok t (y 0)) (y 1)) := by
    obtain ⟨r, k, rfl⟩ : ∃ r k, y = ix2 r k := ⟨y 0, y 1, by blk_ext⟩
    rw [pay8_at]
    simp only [blk0, blk2, blk11]
    rfl
  blk_simp
  rw [after0_14]
  rcases Decidable.em (t.val % 32 = 0) with h0 | h0
  · rw [outsAt0_A m c t h0]
    frame_out
    exact (key y).trans (congrArg _ he.symm)
  · rw [outsAt0_B m c t h0]
    frame_out
    exact (key y).trans (congrArg _ he.symm)

theorem dba_final (c : Dev nD) : (dats m 0 c).arrAt 16 cfg0.N = dba (V m c main_v47) (V m c main_v0) (V m c main_arg1) (V m c main_v1) (V m c main_v3) := by
  refine (dats m 0 c).arrAt_eq_of_covers 16 _ (by decide +kernel) fun t _ y => ?_
  have he : ((cfg0.win 16).blk t).view.emb y = ix2 (tok t (y 0)) (y 1) := by blk_ext [tok, idx t]
  have key (y : S256x1024.Idx) : k0_pay12 (k0_pay7 (iblk m c 0 t) (iblk m c 11 t) (iblk m c 1 t)) (iblk m c 9 t) (iblk m c 6 t) y
      = dba (V m c main_v47) (V m c main_v0) (V m c main_arg1) (V m c main_v1) (V m c main_v3) (ix2 (tok t (y 0)) (y 1)) := by
    obtain ⟨r, k, rfl⟩ : ∃ r k, y = ix2 r k := ⟨y 0, y 1, by blk_ext⟩
    rw [pay12_at]
    simp only [blk0, blk1, blk11, blk9, blk6]
    rfl
  blk_simp
  rw [after0_16]
  rcases Decidable.em (t.val % 32 = 0) with h0 | h0
  · rw [outsAt0_A m c t h0]
    frame_out
    exact (key y).trans (congrArg _ he.symm)
  · rw [outsAt0_B m c t h0]
    frame_out
    exact (key y).trans (congrArg _ he.symm)

theorem dconva_final (c : Dev nD) : (dats m 0 c).arrAt 17 cfg0.N = dconva (V m c main_v47) (V m c main_v0) (V m c main_v1) (V m c main_v3) := by
  refine (dats m 0 c).arrAt_eq_of_covers 17 _ (by decide +kernel) fun t _ y => ?_
  have he : ((cfg0.win 17).blk t).view.emb y = ix2 (tok t (y 0)) (y 1) := by blk_ext [tok, idx t]
  have key (y : S256x1024.Idx) : k0_pay13 (k0_pay7 (iblk m c 0 t) (iblk m c 11 t) (iblk m c 1 t)) (iblk m c 9 t) (iblk m c 3 t) y
      = dconva (V m c main_v47) (V m c main_v0) (V m c main_v1) (V m c main_v3) (ix2 (tok t (y 0)) (y 1)) := by
    obtain ⟨r, k, rfl⟩ : ∃ r k, y = ix2 r k := ⟨y 0, y 1, by blk_ext⟩
    rw [pay13_at]
    simp only [blk0, blk1, blk11, blk9, blk3]
    rfl
  blk_simp
  rw [after0_17]
  rcases Decidable.em (t.val % 32 = 0) with h0 | h0
  · rw [outsAt0_A m c t h0]
    frame_out
    exact (key y).trans (congrArg _ he.symm)
  · rw [outsAt0_B m c t h0]
    frame_out
    exact (key y).trans (congrArg _ he.symm)

end Cert.KMergeIdeal.Val

end
-- ==== Proof.Merge.Sums.lean ====
/- The call `merge_bwd`: the gradients of the normalization and of the gates. -/
module

public import proofs.«01_k».proof.Proof.Merge.Windows
public import Idealize.ShloMosaic.Lib.Pipeline.ValueKit
public import Idealize.ShloMosaic.Lib.Claim

@[expose] public section

set_option maxRecDepth 16384

noncomputable section

namespace Cert.KMergeIdeal.Val

open Idealize.ShloMosaic Idealize.ShloMosaic.TcCoe Idealize.SL.Sem
open Idealize.ShloMosaic.Pipeline (Dat)
open Cert.KMergeIdeal Cert.KMergeIdeal.Gen

variable (m : (ℓ : Loc nD τ sig) → Buf (Elt Ideal) ℓ)

/-- Row `n` of the packed vectors, as the body loads it. -/
abbrev vecRow1 (X : Vec Ideal S8x1024 .f32) : Vec Ideal S1x1024 .f32 := View.ld X (Rect.unit (s := S8x1024) ![1, 0] S1x1024.size inb_S8x1024_S1x1024_1_0)
abbrev vecRow2 (X : Vec Ideal S8x1024 .f32) : Vec Ideal S1x1024 .f32 := View.ld X (Rect.unit (s := S8x1024) ![2, 0] S1x1024.size inb_S8x1024_S1x1024_2_0)

theorem vecRow1_at (X : Vec Ideal S8x1024 .f32) (k : Fin 1024) : vecRow1 X (ix2 0 k) = X (ix2 1 k) := by
  show X _ = _
  refine congrArg X ?_
  blk_ext
  all_goals first | rfl | simp [Rect.unit, LoadRect.idx]
theorem vecRow2_at (X : Vec Ideal S8x1024 .f32) (k : Fin 1024) : vecRow2 X (ix2 0 k) = X (ix2 2 k) := by
  show X _ = _
  refine congrArg X ?_
  blk_ext
  all_goals first | rfl | simp [Rect.unit, LoadRect.idx]

theorem vecRow1_blk (c : Dev nD) (t : Fin cfg0.N) (k : Fin 1024) : vecRow1 (iblk m c 12 t) (ix2 0 k) = V m c main_v13 (ix2 1 k) :=
  (vecRow1_at _ k).trans (congrFun (blk12 m c t) _)
theorem vecRow2_blk (c : Dev nD) (t : Fin cfg0.N) (k : Fin 1024) : vecRow2 (iblk m c 12 t) (ix2 0 k) = V m c main_v13 (ix2 2 k) :=
  (vecRow2_at _ k).trans (congrFun (blk12 m c t) _)

theorem du2_congr {z z' g g' x x' a a' b b' : Fin 1024 → EReal} {W W' U U' : FVec Ideal S1024x1024 .bf16} (h1 : z = z') (h2 : g = g')
    (h3 : x = x') (h4 : a = a') (h5 : b = b') (h6 : W = W') (h7 : U = U') (k : Fin 1024) : du2 z g x a b W U k = du2 z' g' x' a' b' W' U' k := by
  subst h1 h2 h3 h4 h5 h6 h7; rfl
theorem du1_congr {s s' : EReal} {x x' a a' d d' : Fin 1024 → EReal} (h1 : s = s') (h2 : x = x') (h3 : a = a') (h4 : d = d') (k : Fin 1024) :
    du1 s x a d k = du1 s' x' a' d' k := by
  subst h1 h2 h3 h4; rfl
theorem gate_congr {z z' g g' y y' : Fin 1024 → EReal} {W W' : FVec Ideal S1024x1024 .bf16} (h1 : z = z') (h2 : g = g') (h3 : y = y') (h4 : W = W')
    (k : Fin 1024) : gate z g y W k = gate z' g' y' W' k := by
  subst h1 h2 h3 h4; rfl

theorem du2_blk (c : Dev nD) (t : Fin cfg0.N) (r : Fin 256) :
    (fun k => k0_pay17 (k0_pay8 (iblk m c 0 t) (iblk m c 11 t) (iblk m c 2 t)) (k0_pay14 (iblk m c 10 t)) (iblk m c 7 t)
      (vecRow1 (iblk m c 12 t)) (vecRow2 (iblk m c 12 t)) (ix2 r k))
      = du2A (V m c main_v47) (V m c main_v0) (V m c main_v34) (V m c main_v2) (V m c main_v3) (V m c main_v13) (tok t r) := by
  funext k
  exact (pay17_at _ _ _ _ _ _ _ r k).trans (du2_congr (funext (blk0 m c t r)) (funext (blk2 m c t r)) (funext (blk7 m c t r))
    (funext (vecRow1_blk m c t)) (funext (vecRow2_blk m c t)) (blk11 m c t) (blk10 m c t) k)

def du1Arr (Z : FVec Ideal S8192x1024 .bf16) (P : FVec Ideal S8192x7168 .bf16) (XH : FVec Ideal S8192x1024 .f32) (RS : FVec Ideal S8192x1 .f32)
    (WB WO : FVec Ideal S1024x1024 .bf16) (VEC : FVec Ideal S8x1024 .f32) : FVec Ideal S8192x1024 .f32 :=
  fun i => du1A Z P XH RS WB WO VEC (i 0) (i 1)

theorem du1_blk (c : Dev nD) (t : Fin cfg0.N) (y : S256x1024.Idx) :
    k0_pay1 (k0_pay15 (iblk m c 7 t)) (k0_pay16 (vecRow1 (iblk m c 12 t)))
      (k0_pay17 (k0_pay8 (iblk m c 0 t) (iblk m c 11 t) (iblk m c 2 t)) (k0_pay14 (iblk m c 10 t)) (iblk m c 7 t)
        (vecRow1 (iblk m c 12 t)) (vecRow2 (iblk m c 12 t))) (iblk m c 8 t) y
      = du1Arr (V m c main_v47) (V m c main_v0) (V m c main_v34) (V m c main_v30) (V m c main_v2) (V m c main_v3) (V m c main_v13) (ix2 (tok t (y 0)) (y 1)) := by
  obtain ⟨r, k, rfl⟩ : ∃ r k, y = ix2 r k := ⟨y 0, y 1, by blk_ext⟩
  exact (pay1_at _ _ _ r k _).trans (du1_congr (blk8 m c t r) (funext (blk7 m c t r)) (funext (vecRow1_blk m c t)) (du2_blk m c t r) k)

theorem du1_final (c : Dev nD) : (dats m 0 c).arrAt 18 cfg0.N
    = du1Arr (V m c main_v47) (V m c main_v0) (V m c main_v34) (V m c main_v30) (V m c main_v2) (V m c main_v3) (V m c main_v13) := by
  refine (dats m 0 c).arrAt_eq_of_covers 18 _ (by decide +kernel) fun t _ y => ?_
  have he : ((cfg0.win 18).blk t).view.emb y = ix2 (tok t (y 0)) (y 1) := by blk_ext [tok, idx t]
  blk_simp
  rw [after0_18]
  rcases Decidable.em (t.val % 32 = 0) with h0 | h0
  · rw [outsAt0_A m c t h0]
    frame_out
    exact (du1_blk m c t y).trans (congrArg (du1Arr _ _ _ _ _ _ _) he.symm)
  · rw [outsAt0_B m c t h0]
    frame_out
    exact (du1_blk m c t y).trans (congrArg (du1Arr _ _ _ _ _ _ _) he.symm)

/-- The cotangents of the two gates, side by side. -/
def dg (Z : FVec Ideal S8192x1024 .bf16) (P : FVec Ideal S8192x7168 .bf16) (YA YB : FVec Ideal S8192x1024 .bf16)
    (WO : FVec Ideal S1024x1024 .bf16) : FVec Ideal S8192x2048 .bf16 := fun i =>
  if h : (i 1).val < 1024 then gate (lineZ Z (i 0)) (gateA P (i 0)) (fun j => YA (ix2 (i 0) j)) WO ⟨(i 1).val, h⟩
  else gate (lineZ Z (i 0)) (gateB P (i 0)) (fun j => YB (ix2 (i 0) j)) WO
    ⟨(i 1).val - 1024, by have h' : (i 1).val < 2048 := (i 1).isLt; omega⟩

theorem dg_blk (c : Dev nD) (t : Fin cfg0.N) (y : S256x2048.Idx) : View.canon (Val := Elt Ideal) (e := .bf16) [⟨Rect.unit (s := S256x2048) ![0, 1024] S256x1024.size inb_S256x2048_S256x1024_0_1024,
      k0_pay10 (k0_pay4 (iblk m c 0 t) (iblk m c 11 t)) (k0_pay6 (iblk m c 2 t)) (iblk m c 5 t)⟩,
      ⟨Rect.unit (s := S256x2048) ![0, 0] S256x1024.size inb_S256x2048_S256x1024_0_0,
      k0_pay9 (k0_pay4 (iblk m c 0 t) (iblk m c 11 t)) (k0_pay5 (iblk m c 1 t)) (iblk m c 4 t)⟩] y
      = dg (V m c main_v47) (V m c main_v0) (V m c main_v48) (V m c main_v49) (V m c main_v3) (ix2 (tok t (y 0)) (y 1)) := by
  canon_tiles x h
  · obtain ⟨r, k, rfl⟩ : ∃ r k, x = ix2 r k := ⟨x 0, x 1, by blk_ext⟩
    have hr : y 0 = r := Fin.ext h0
    have hk : (y 1).val = 1024 + k.val := h1
    have hn : ¬ (y 1).val < 1024 := by omega
    refine (pay10_at _ _ _ _ r k).trans ?_
    show _ = dite _ _ _
    rw [dif_neg (show ¬ ((ix2 (tok t (y 0)) (y 1) : S8192x2048.Idx) 1).val < 1024 from hn)]
    refine (gate_congr (funext (blk0 m c t r)) (funext (blk2 m c t r)) (funext (blk5 m c t r)) (blk11 m c t) k).trans ?_
    rw [← hr]
    refine congrArg _ (Fin.ext ?_)
    show k.val = (y 1).val - 1024
    omega
  · obtain ⟨r, k, rfl⟩ : ∃ r k, x = ix2 r k := ⟨x 0, x 1, by blk_ext⟩
    have hr : y 0 = r := Fin.ext h0
    have hk : (y 1).val = k.val := h1
    have hn : (y 1).val < 1024 := by omega
    refine (pay9_at _ _ _ _ r k).trans ?_
    show _ = dite _ _ _
    rw [dif_pos (show ((ix2 (tok t (y 0)) (y 1) : S8192x2048.Idx) 1).val < 1024 from hn)]
    refine (gate_congr (funext (blk0 m c t r)) (funext (blk1 m c t r)) (funext (blk4 m c t r)) (blk11 m c t) k).trans ?_
    rw [← hr]
    exact congrArg _ (Fin.ext hk.symm)

theorem dg_final (c : Dev nD) : (dats m 0 c).arrAt 15 cfg0.N
    = dg (V m c main_v47) (V m c main_v0) (V m c main_v48) (V m c main_v49) (V m c main_v3) := by
  refine (dats m 0 c).arrAt_eq_of_covers 15 _ (by decide +kernel) fun t _ y => ?_
  have he : ((cfg0.win 15).blk t).view.emb y = ix2 (tok t (y 0)) (y 1) := by blk_ext [tok, idx t]
  blk_simp
  rw [after0_15]
  rcases Decidable.em (t.val % 32 = 0) with h0 | h0
  · rw [outsAt0_A m c t h0]
    frame_out
    exact (dg_blk m c t y).trans (congrArg (dg _ _ _ _ _) he.symm)
  · rw [outsAt0_B m c t h0]
    frame_out
    exact (dg_blk m c t y).trans (congrArg (dg _ _ _ _ _) he.symm)

end Cert.KMergeIdeal.Val

end
-- ==== Proof.Merge.Rows.lean ====
/- The call `merge_bwd`: the sums over tokens. -/
module

public import proofs.«01_k».proof.Proof.Merge.Sums
public import Idealize.ShloMosaic.Lib.Pipeline.ValueKit
public import Idealize.ShloMosaic.Lib.Claim
public import Idealize.ShloMosaic.Lib.WritesUnit

@[expose] public section

set_option maxRecDepth 16384

noncomputable section

namespace Cert.KMergeIdeal.Val

open Idealize.ShloMosaic Idealize.ShloMosaic.TcCoe Idealize.SL.Sem
open Idealize.ShloMosaic.Pipeline (Dat)
open Cert.KMergeIdeal Cert.KMergeIdeal.Gen

variable (m : (ℓ : Loc nD τ sig) → Buf (Elt Ideal) ℓ)

section Part
variable (Z : FVec Ideal S8192x1024 .bf16) (P : FVec Ideal S8192x7168 .bf16)
variable (XH : FVec Ideal S8192x1024 .f32) (RS : FVec Ideal S8192x1 .f32)
variable (WB WO : FVec Ideal S1024x1024 .bf16) (VEC : FVec Ideal S8x1024 .f32)

/-- What token `r` adds to entry `(q, k)` of the sums. -/
def stTok (r : Fin 8192) (q : Fin 8) (k : Fin 1024) : EReal :=
  if q.val = 0 then du2A Z P XH WB WO VEC r k * XH (ix2 r k) else if q.val = 1 then du2A Z P XH WB WO VEC r k
  else if q.val = 2 then du1A Z P XH RS WB WO VEC r k else 0

end Part

/-! ## Three rows stored over a buffer's contents -/

section Rows
variable (v : View sig .tc .vmem S8x1024 .f32) (f : v.ty.Contents (Elt Ideal))

theorem skip_row (b : ℕ) (inb) (w : Vec Ideal S1x1024 .f32) (L) (q : Fin 8) (k : Fin 1024) (h : q.val ≠ b) :
    v.read (Elt Ideal) (v.writes (Elt Ideal) f ((⟨Rect.unit (s := S8x1024) ![b, 0] S1x1024.size inb, w⟩ : View.Piece (Elt Ideal) S8x1024 .f32) :: L)) (ix2 q k)
      = v.read (Elt Ideal) (v.writes (Elt Ideal) f L) (ix2 q k) :=
  View.read_writes_cons_rows_of_not_mem v f inb w L (ix2 q k) rfl rfl (by show q.val < b ∨ b + 1 ≤ q.val; omega)

theorem hit_row (b : ℕ) (inb) (w : Vec Ideal S1x1024 .f32) (L) (q : Fin 8) (k : Fin 1024) (h : q.val = b) :
    v.read (Elt Ideal) (v.writes (Elt Ideal) f ((⟨Rect.unit (s := S8x1024) ![b, 0] S1x1024.size inb, w⟩ : View.Piece (Elt Ideal) S8x1024 .f32) :: L)) (ix2 q k)
      = w (ix2 0 k) :=
  View.read_writes_cons_rows_of_mem v f inb w L (ix2 q k) (ix2 0 k) rfl (by show q.val = b + 0; omega) rfl

theorem stack (L : List (View.Piece (Elt Ideal) S8x1024 .f32)) (inb0 inb1 inb2) (w0 w1 w2 : Vec Ideal S1x1024 .f32) (g0 g1 g2 : Fin 1024 → EReal)
    (h0 : ∀ k, w0 (ix2 0 k) = (show EReal from v.read (Elt Ideal) (v.writes (Elt Ideal) f L) (ix2 0 k)) + g0 k)
    (h1 : ∀ k, w1 (ix2 0 k) = (show EReal from v.read (Elt Ideal) (v.writes (Elt Ideal) f L) (ix2 1 k)) + g1 k)
    (h2 : ∀ k, w2 (ix2 0 k) = (show EReal from v.read (Elt Ideal) (v.writes (Elt Ideal) f L) (ix2 2 k)) + g2 k) (q : Fin 8) (k : Fin 1024) :
    v.read (Elt Ideal) (v.writes (Elt Ideal) f ((⟨Rect.unit (s := S8x1024) ![2, 0] S1x1024.size inb2, w2⟩ : View.Piece (Elt Ideal) S8x1024 .f32)
      :: ⟨Rect.unit (s := S8x1024) ![1, 0] S1x1024.size inb1, w1⟩ :: ⟨Rect.unit (s := S8x1024) ![0, 0] S1x1024.size inb0, w0⟩ :: L)) (ix2 q k)
      = (show EReal from v.read (Elt Ideal) (v.writes (Elt Ideal) f L) (ix2 q k))
        + (if q.val = 0 then g0 k else if q.val = 1 then g1 k else if q.val = 2 then g2 k else 0) := by
  by_cases e2 : q.val = 2
  · rw [hit_row v f 2 inb2 w2 _ q k e2, h2, if_neg (by omega), if_neg (by omega), if_pos e2, show q = 2 from Fin.ext e2]
  rw [skip_row v f 2 inb2 w2 _ q k e2]
  by_cases e1 : q.val = 1
  · rw [hit_row v f 1 inb1 w1 _ q k e1, h1, if_neg (by omega), if_pos e1, show q = 1 from Fin.ext e1]
  rw [skip_row v f 1 inb1 w1 _ q k e1]
  by_cases e0 : q.val = 0
  · rw [hit_row v f 0 inb0 w0 _ q k e0, h0, if_pos e0, show q = 0 from Fin.ext e0]
  rw [skip_row v f 0 inb0 w0 _ q k e0, if_neg e0, if_neg e1, if_neg e2]
  exact (add_zero _).symm

theorem ld_row (b : ℕ) (inb) (X : Vec Ideal S8x1024 .f32) (q : Fin 8) (k : Fin 1024) (h : q.val = b) :
    View.ld X (Rect.unit (s := S8x1024) ![b, 0] S1x1024.size inb) (ix2 0 k) = X (ix2 q k) := by
  show X _ = _
  refine congrArg X ?_
  blk_ext
  · show b + 1 * 0 = q.val
    omega
  · show 0 + 1 * k.val = k.val
    omega

theorem readCov_row (b : ℕ) (inb) (L : List (View.Piece (Elt Ideal) S8x1024 .f32)) (q : Fin 8) (k : Fin 1024) (h : q.val = b) :
    v.readCov L (Rect.unit (s := S8x1024) ![b, 0] S1x1024.size inb).toLoadRect (ix2 0 k)
      = v.read (Elt Ideal) (v.writes (Elt Ideal) v.junk L) (ix2 q k) :=
  ld_row b inb (v.read (Elt Ideal) (v.writes (Elt Ideal) v.junk L)) q k h

end Rows

/-- What the block at `t` adds to entry `(q, k)`, row by row. -/
theorem part_eq (c : Dev nD) (t : Fin cfg0.N) (q : Fin 8) (k : Fin 1024) :
    (if q.val = 0 then ∑ r : Fin 256, du2A (V m c main_v47) (V m c main_v0) (V m c main_v34) (V m c main_v2) (V m c main_v3) (V m c main_v13) (tok t r) k * V m c main_v34 (ix2 (tok t r) k)
      else if q.val = 1 then ∑ r : Fin 256, du2A (V m c main_v47) (V m c main_v0) (V m c main_v34) (V m c main_v2) (V m c main_v3) (V m c main_v13) (tok t r) k
      else if q.val = 2 then ∑ r : Fin 256, du1A (V m c main_v47) (V m c main_v0) (V m c main_v34) (V m c main_v30) (V m c main_v2) (V m c main_v3) (V m c main_v13) (tok t r) k else 0)
      = ∑ r : Fin 256, stTok (V m c main_v47) (V m c main_v0) (V m c main_v34) (V m c main_v30) (V m c main_v2) (V m c main_v3) (V m c main_v13) (tok t r) q k := by
  unfold stTok
  split_ifs <;> first | rfl | exact Finset.sum_const_zero.symm

section Loads
variable (c : Dev nD) (t : Fin cfg0.N) (a : Vec Ideal S1x1024 .f32) (k : Fin 1024)

theorem row0 : k0_pay18 (k0_pay8 (iblk m c 0 t) (iblk m c 11 t) (iblk m c 2 t)) (k0_pay14 (iblk m c 10 t)) (iblk m c 7 t)
      (vecRow1 (iblk m c 12 t)) (vecRow2 (iblk m c 12 t)) a (ix2 0 k)
    = a (ix2 0 k) + ∑ r : Fin 256, du2A (V m c main_v47) (V m c main_v0) (V m c main_v34) (V m c main_v2) (V m c main_v3) (V m c main_v13) (tok t r) k * V m c main_v34 (ix2 (tok t r) k) :=
  (pay18_at _ _ _ _ _ _ _ a k).trans (congrArg (a (ix2 0 k) + ·) (Finset.sum_congr rfl fun r _ => congrArg₂ (· * ·)
    (du2_congr (funext (blk0 m c t r)) (funext (blk2 m c t r)) (funext (blk7 m c t r))
      (funext (vecRow1_blk m c t)) (funext (vecRow2_blk m c t)) (blk11 m c t) (blk10 m c t) k) (blk7 m c t r k)))

theorem row1 : k0_pay19 (k0_pay8 (iblk m c 0 t) (iblk m c 11 t) (iblk m c 2 t)) (k0_pay14 (iblk m c 10 t)) (iblk m c 7 t)
      (vecRow1 (iblk m c 12 t)) (vecRow2 (iblk m c 12 t)) a (ix2 0 k)
    = a (ix2 0 k) + ∑ r : Fin 256, du2A (V m c main_v47) (V m c main_v0) (V m c main_v34) (V m c main_v2) (V m c main_v3) (V m c main_v13) (tok t r) k :=
  (pay19_at _ _ _ _ _ _ _ a k).trans (congrArg (a (ix2 0 k) + ·) (Finset.sum_congr rfl fun r _ =>
    (du2_congr (funext (blk0 m c t r)) (funext (blk2 m c t r)) (funext (blk7 m c t r))
      (funext (vecRow1_blk m c t)) (funext (vecRow2_blk m c t)) (blk11 m c t) (blk10 m c t) k)))

theorem row2 : k0_pay2 (k0_pay15 (iblk m c 7 t)) (k0_pay16 (vecRow1 (iblk m c 12 t)))
      (k0_pay17 (k0_pay8 (iblk m c 0 t) (iblk m c 11 t) (iblk m c 2 t)) (k0_pay14 (iblk m c 10 t)) (iblk m c 7 t)
      (vecRow1 (iblk m c 12 t)) (vecRow2 (iblk m c 12 t))) (iblk m c 8 t) a (ix2 0 k)
    = a (ix2 0 k) + ∑ r : Fin 256, du1A (V m c main_v47) (V m c main_v0) (V m c main_v34) (V m c main_v30) (V m c main_v2) (V m c main_v3) (V m c main_v13) (tok t r) k :=
  (pay2_at _ _ a _ k _).trans (congrArg (a (ix2 0 k) + ·) (Finset.sum_congr rfl fun r _ =>
    du1_congr (blk8 m c t r) (funext (blk7 m c t r)) (funext (vecRow1_blk m c t)) (du2_blk m c t r) k))

end Loads

theorem st_B (c : Dev nD) (t : Fin cfg0.N) (h0 : ¬ t.val % 32 = 0) (q : Fin 8) (k : Fin 1024) :
    ((outsAt0 m c t.val t.isLt).2.2.2.2.2.2 : Vec Ideal S8x1024 .f32) (ix2 q k)
      = ((outsAt0 m c (t.val - 1) (by omega)).2.2.2.2.2.2 : Vec Ideal S8x1024 .f32) (ix2 q k) +
      ∑ r : Fin 256, stTok (V m c main_v47) (V m c main_v0) (V m c main_v34) (V m c main_v30) (V m c main_v2) (V m c main_v3) (V m c main_v13) (tok t r) q k := by
  rw [outsAt0_B m c t h0]
  frame_out
  refine (stack _ _ [] _ _ _ _ _ _
    (fun k => ∑ r : Fin 256, du2A (V m c main_v47) (V m c main_v0) (V m c main_v34) (V m c main_v2) (V m c main_v3) (V m c main_v13) (tok t r) k * V m c main_v34 (ix2 (tok t r) k))
    (fun k => ∑ r : Fin 256, du2A (V m c main_v47) (V m c main_v0) (V m c main_v34) (V m c main_v2) (V m c main_v3) (V m c main_v13) (tok t r) k)
    (fun k => ∑ r : Fin 256, du1A (V m c main_v47) (V m c main_v0) (V m c main_v34) (V m c main_v30) (V m c main_v2) (V m c main_v3) (V m c main_v13) (tok t r) k) (fun k => ?_) (fun k => ?_) (fun k => ?_) q k).trans ?_
  · refine (row0 m c t _ k).trans (congrArg (· + _) ?_)
    refine (ld_row 0 _ _ 0 k rfl).trans ?_
    exact (congrFun ((hs0_19 t).read_unread _) _).symm
  · refine (row1 m c t _ k).trans (congrArg (· + _) ?_)
    refine (ld_row 1 _ _ 1 k rfl).trans ?_
    exact (congrFun ((hs0_19 t).read_unread _) _).symm
  · refine (row2 m c t _ k).trans (congrArg (· + _) ?_)
    refine (ld_row 2 _ _ 2 k rfl).trans ?_
    exact (congrFun ((hs0_19 t).read_unread _) _).symm
  · exact congrArg₂ (· + ·) (congrFun ((hs0_19 t).read_unread _) _) (part_eq m c t q k)

theorem st_A (c : Dev nD) (t : Fin cfg0.N) (h0 : t.val % 32 = 0) (q : Fin 8) (k : Fin 1024) :
    ((outsAt0 m c t.val t.isLt).2.2.2.2.2.2 : Vec Ideal S8x1024 .f32) (ix2 q k) = 0 +
      ∑ r : Fin 256, stTok (V m c main_v47) (V m c main_v0) (V m c main_v34) (V m c main_v30) (V m c main_v2) (V m c main_v3) (V m c main_v13) (tok t r) q k := by
  rw [outsAt0_A m c t h0]
  frame_out
  rw [← View.read_writes_junk_eq_canon (ms0_19 t).view]
  refine (stack _ _ _ _ _ _ _ _ _
    (fun k => ∑ r : Fin 256, du2A (V m c main_v47) (V m c main_v0) (V m c main_v34) (V m c main_v2) (V m c main_v3) (V m c main_v13) (tok t r) k * V m c main_v34 (ix2 (tok t r) k))
    (fun k => ∑ r : Fin 256, du2A (V m c main_v47) (V m c main_v0) (V m c main_v34) (V m c main_v2) (V m c main_v3) (V m c main_v13) (tok t r) k)
    (fun k => ∑ r : Fin 256, du1A (V m c main_v47) (V m c main_v0) (V m c main_v34) (V m c main_v30) (V m c main_v2) (V m c main_v3) (V m c main_v13) (tok t r) k) (fun k => ?_) (fun k => ?_) (fun k => ?_) q k).trans ?_
  · refine (row0 m c t _ k).trans (congrArg (· + _) ?_)
    exact readCov_row _ 0 _ _ 0 k rfl
  · refine (row1 m c t _ k).trans (congrArg (· + _) ?_)
    exact (readCov_row _ 1 _ _ 1 k rfl).trans (skip_row _ _ 0 _ _ _ 1 k (by decide))
  · refine (row2 m c t _ k).trans (congrArg (· + _) ?_)
    exact (readCov_row _ 2 _ _ 2 k rfl).trans ((skip_row _ _ 1 _ _ _ 2 k (by decide)).trans (skip_row _ _ 0 _ _ _ 2 k (by decide)))
  · refine congrArg₂ (· + ·) ?_ (part_eq m c t q k)
    refine (View.read_writes_cons_rows_of_mem _ _ (o := 0) _ _ _ (ix2 q k) (ix2 q k) rfl (by show q.val = 0 + q.val; omega) rfl).trans ?_
    pointwise [k0_pay3]

/-- The sums over all tokens. -/
def st (Z : FVec Ideal S8192x1024 .bf16) (P : FVec Ideal S8192x7168 .bf16) (XH : FVec Ideal S8192x1024 .f32) (RS : FVec Ideal S8192x1 .f32)
    (WB WO : FVec Ideal S1024x1024 .bf16) (VEC : FVec Ideal S8x1024 .f32) : FVec Ideal S8x1024 .f32 :=
  fun i => ∑ r : Fin 8192, stTok Z P XH RS WB WO VEC r (i 0) (i 1)

theorem st_flush (c : Dev nD) (t : Fin cfg0.N) (hf : (cfg0.win 19).flush t = true) (q : Fin 8) (k : Fin 1024) :
    ((outsAt0 m c t.val t.isLt).2.2.2.2.2.2 : Vec Ideal S8x1024 .f32) (ix2 q k) = st (V m c main_v47) (V m c main_v0) (V m c main_v34) (V m c main_v30) (V m c main_v2) (V m c main_v3) (V m c main_v13) (ix2 q k) := by
  have hs := Pipeline.eq_sum_fin_of_reset_step_apply_of_flush
    (fun n h => ((outsAt0 m c n h).2.2.2.2.2.2 : Vec Ideal S8x1024 .f32)) 32 (fun _ => (0 : EReal))
    (fun t i => ∑ r : Fin 256, stTok (V m c main_v47) (V m c main_v0) (V m c main_v34) (V m c main_v30) (V m c main_v2) (V m c main_v3) (V m c main_v13) (tok t r) (i 0) (i 1))
    (fun t h j => (congrArg _ (show j = ix2 (j 0) (j 1) by blk_ext)).trans (st_A m c t h (j 0) (j 1)))
    (fun t h j => by
      obtain ⟨q, k, rfl⟩ : ∃ q k, j = ix2 q k := ⟨j 0, j 1, by blk_ext⟩
      exact st_B m c t h q k) t ((flush0_19 t).mp hf) (ix2 q k)
  refine (hs.trans (zero_add _)).trans ?_
  show _ = ∑ r : Fin 8192, stTok _ _ _ _ _ _ _ r _ _
  refine Fin.sum_mul_add_congr fun s r hl => ?_
  refine congrArg (fun z => stTok _ _ _ _ _ _ _ z _ _) (Fin.ext ?_)
  show (32 * (t.val / 32) + s.val) * 256 + r.val = s.val * 256 + r.val
  have h : t.val < 32 := t.isLt
  omega

theorem st_final (c : Dev nD) : (dats m 0 c).arrAt 19 cfg0.N
    = st (V m c main_v47) (V m c main_v0) (V m c main_v34) (V m c main_v30) (V m c main_v2) (V m c main_v3) (V m c main_v13) := by
  refine (dats m 0 c).arrAt_eq_of_covers 19 _ (by decide +kernel) fun t hf y => ?_
  have he : ((cfg0.win 19).blk t).view.emb y = ix2 (y 0) (y 1) := by blk_ext [idx t]
  have hy : (y : S8x1024.Idx) = ix2 (y 0) (y 1) := by blk_ext
  have hs := st_flush m c t hf
  blk_simp
  rw [after0_19]
  refine (congrArg ((outsAt0 m c t.val t.isLt).2.2.2.2.2.2 : Vec Ideal S8x1024 .f32) hy).trans ((hs (y 0) (y 1)).trans (congrArg (st _ _ _ _ _ _ _) he.symm))

end Cert.KMergeIdeal.Val

end
-- ==== Proof.Merge.Entry.lean ====
/- The call `merge_bwd`: the arrays the call is given, in terms of the program's arguments. -/
module

public import proofs.«01_k».proof.Proof.Merge.Rows
public import proofs.«01_k».proof.Proof.Gen.RMergeIdeal.Run
public import proofs.«01_k».proof.Proof.Gen.RMergeIdeal.Read
public import Idealize.ShloMosaic.Lib.Pipeline.ValueKit
public import Idealize.ShloMosaic.Lib.Claim

@[expose] public section

set_option maxRecDepth 16384

noncomputable section

namespace Cert.KMergeIdeal.Val

open Idealize.ShloMosaic Idealize.ShloMosaic.TcCoe Idealize.SL.Sem
open Cert.KMergeIdeal Cert.KMergeIdeal.Gen

variable (m : (ℓ : Loc nD τ sig) → Buf (Elt Ideal) ℓ)

abbrev arg (c : Dev nD) (b : Ref sig .tc) : Buf (Elt Ideal) ((c : Thread nD τ).loc b) := m ((c : Thread nD τ).loc b)

theorem in_v47 (c : Dev nD) : (V m c main_v47 : S8192x1024.Idx → EReal) = m ((c : Thread nD τ).loc main_arg9) := by
  entry_read
  rfl

theorem in_v0 (c : Dev nD) : (V m c main_v0 : S8192x7168.Idx → EReal) = m ((c : Thread nD τ).loc main_arg0) := by
  entry_read
  rfl

theorem in_v1 (c : Dev nD) : (V m c main_v1 : S1024x1024.Idx → EReal) = m ((c : Thread nD τ).loc main_arg3) := by
  entry_read
  rfl

theorem in_v2 (c : Dev nD) : (V m c main_v2 : S1024x1024.Idx → EReal) = m ((c : Thread nD τ).loc main_arg4) := by
  entry_read
  rfl

theorem in_v3 (c : Dev nD) : (V m c main_v3 : S1024x1024.Idx → EReal) = m ((c : Thread nD τ).loc main_arg5) := by
  entry_read
  rfl

theorem in_arg1 (c : Dev nD) : (V m c main_arg1 : S8192x1024.Idx → EReal) = m ((c : Thread nD τ).loc main_arg1) := by
  entry_read
  rfl

theorem in_v34 (c : Dev nD) : (V m c main_v34 : S8192x1024.Idx → EReal) = Cert.RMergeIdeal.Read.val_main_v28 (F := Ideal) (m ((c : Thread nD τ).loc main_arg2)) (m ((c : Thread nD τ).loc main_arg8)) := by
  entry_read
  rfl

theorem in_v30 (c : Dev nD) : (V m c main_v30 : S8192x1.Idx → EReal) = Cert.RMergeIdeal.Read.val_main_v23 (F := Ideal) (m ((c : Thread nD τ).loc main_arg2)) (m ((c : Thread nD τ).loc main_arg8)) := by
  entry_read
  rfl

theorem in_v48 (c : Dev nD) : (V m c main_v48 : S8192x1024.Idx → EReal) = Cert.RMergeIdeal.Read.val_main_v2 (F := Ideal) (m ((c : Thread nD τ).loc main_arg0)) (m ((c : Thread nD τ).loc main_arg1)) (m ((c : Thread nD τ).loc main_arg3)) := by
  entry_read
  rfl

theorem in_v49 (c : Dev nD) : (V m c main_v49 : S8192x1024.Idx → EReal) = Cert.RMergeIdeal.Read.val_main_v36 (F := Ideal) (m ((c : Thread nD τ).loc main_arg2)) (m ((c : Thread nD τ).loc main_arg4)) (m ((c : Thread nD τ).loc main_arg6)) (m ((c : Thread nD τ).loc main_arg7)) (m ((c : Thread nD τ).loc main_arg8)) := by
  entry_read
  rfl

theorem in_v13_0 (c : Dev nD) (k : Fin 1024) : (V m c main_v13 : S8x1024.Idx → EReal) (ix2 0 k) = m ((c : Thread nD τ).loc main_arg8) (ix1 k) := by
  unfold V
  simp only [List.flatten_cons, List.flatten_nil, List.append_nil, hostOps0, hostOps0_1, hostOps0_2, List.cons_append, List.nil_append]
  after_results
  pointwise
  repeat (rw [StableHlo.unary_result_ne]; rotate_left; decide)
  rw [StableHlo.unary_result]
  repeat (rw [StableHlo.unary_result_ne]; rotate_left; decide)
  rw [StableHlo.nullary_result_ne]; rotate_left; decide
  repeat (rw [StableHlo.unary_result_ne]; rotate_left; decide)
  pointwise

theorem in_v13_1 (c : Dev nD) (k : Fin 1024) : (V m c main_v13 : S8x1024.Idx → EReal) (ix2 1 k) = m ((c : Thread nD τ).loc main_arg6) (ix1 k) := by
  unfold V
  simp only [List.flatten_cons, List.flatten_nil, List.append_nil, hostOps0, hostOps0_1, hostOps0_2, List.cons_append, List.nil_append]
  after_results
  pointwise
  repeat (rw [StableHlo.unary_result_ne]; rotate_left; decide)
  rw [StableHlo.unary_result]
  repeat (rw [StableHlo.unary_result_ne]; rotate_left; decide)
  rw [StableHlo.nullary_result_ne]; rotate_left; decide
  repeat (rw [StableHlo.unary_result_ne]; rotate_left; decide)
  pointwise

theorem in_v13_2 (c : Dev nD) (k : Fin 1024) : (V m c main_v13 : S8x1024.Idx → EReal) (ix2 2 k) = m ((c : Thread nD τ).loc main_arg7) (ix1 k) := by
  unfold V
  simp only [List.flatten_cons, List.flatten_nil, List.append_nil, hostOps0, hostOps0_1, hostOps0_2, List.cons_append, List.nil_append]
  after_results
  pointwise
  repeat (rw [StableHlo.unary_result_ne]; rotate_left; decide)
  rw [StableHlo.unary_result]
  repeat (rw [StableHlo.unary_result_ne]; rotate_left; decide)
  rw [StableHlo.nullary_result_ne]; rotate_left; decide
  repeat (rw [StableHlo.unary_result_ne]; rotate_left; decide)
  pointwise

end Cert.KMergeIdeal.Val

end
-- ==== Proof.Merge.Ref.lean ====
/- The call `merge_bwd`: the results that need no assumption on the arguments equal the reference's. -/
module

public import proofs.«01_k».proof.Proof.Merge.Entry
public import proofs.«01_k».proof.Proof.Norm
public import Idealize.ShloMosaic.Lib.Pipeline.ValueKit
public import Idealize.ShloMosaic.Lib.Claim

@[expose] public section

set_option maxRecDepth 16384

noncomputable section

namespace Cert.KMergeIdeal.Val

open Idealize.ShloMosaic Idealize.ShloMosaic.TcCoe Idealize.SL.Sem
open Cert.RMergeIdeal

variable (x0 : FVec Ideal S8192x7168 .f32) (x1 x2 x9 : FVec Ideal S8192x1024 .f32) (x3 x4 x5 : FVec Ideal S1024x1024 .f32) (x6 x7 x8 : FVec Ideal S1024 .f32)

/-- The reference's gates are the logistic function in the form the call writes. -/
theorem gateA_eq (r : Fin 8192) (k : Fin 1024) : Read.val_main_v44 (F := Ideal) x0 (ix2 r k) = sgm (x0 (ix2 r ⟨5120 + k.val, by omega⟩)) := by
  refine Eq.trans ?_ (Norm.sigmoid_eq _).symm
  pointwise [Read.val_main_v44, Read.val_main_v43, Read.val_main_v42, Read.val_main_v41, Read.val_main_v40, Read.val_main_v39, Read.val_main_v38, Read.val_main_v37, Read.val_main_cst_6, Read.val_main_cst_7]
theorem gateB_eq (r : Fin 8192) (k : Fin 1024) : Read.val_main_v55 (F := Ideal) x0 (ix2 r k) = sgm (x0 (ix2 r ⟨6144 + k.val, by omega⟩)) := by
  refine Eq.trans ?_ (Norm.sigmoid_eq _).symm
  pointwise [Read.val_main_v55, Read.val_main_v54, Read.val_main_v53, Read.val_main_v52, Read.val_main_v51, Read.val_main_v50, Read.val_main_v49, Read.val_main_v37, Read.val_main_cst_9, Read.val_main_cst_10]
  blk_point []

theorem pull_eq (r : Fin 8192) (k : Fin 1024) : Read.val_main_v62 (F := Ideal) x5 x9 (ix2 r k) = pull (lineZ x9 r) x5 k := by
  pointwise [Read.val_main_v62, pull]

theorem v67_at (r : Fin 8192) (k : Fin 1024) : Read.val_main_v67 (F := Ideal) x0 x5 x9 (ix2 r k) = branch (lineZ x9 r) (gateA x0 r) x5 k := by
  show Read.val_main_v44 (F := Ideal) x0 (ix2 r k) * Read.val_main_v62 (F := Ideal) x5 x9 (ix2 r k) = _
  rw [gateA_eq, pull_eq]
  exact mul_comm _ _
theorem v63_at (r : Fin 8192) (k : Fin 1024) : Read.val_main_v63 (F := Ideal) x0 x5 x9 (ix2 r k) = branch (lineZ x9 r) (gateB x0 r) x5 k := by
  show Read.val_main_v55 (F := Ideal) x0 (ix2 r k) * Read.val_main_v62 (F := Ideal) x5 x9 (ix2 r k) = _
  rw [gateB_eq, pull_eq]
  exact mul_comm _ _

theorem dya_ref : (dya x9 x0 x5 : S8192x1024.Idx → EReal) = Read.val_main_v123 (F := Ideal) x0 x5 x9 := by
  funext i
  obtain ⟨r, k, rfl⟩ : ∃ r k, i = ix2 r k := ⟨i 0, i 1, by blk_ext⟩
  exact (v67_at _ _ _ _ _).symm
theorem dyb_ref : (dyb x9 x0 x5 : S8192x1024.Idx → EReal) = Read.val_main_v124 (F := Ideal) x0 x5 x9 := by
  funext i
  obtain ⟨r, k, rfl⟩ : ∃ r k, i = ix2 r k := ⟨i 0, i 1, by blk_ext⟩
  exact (v63_at _ _ _ _ _).symm

theorem v110_at (r : Fin 8192) (k : Fin 1024) : Read.val_main_v110 (F := Ideal) x0 x3 x5 x9 (ix2 r k) = pull (branch (lineZ x9 r) (gateA x0 r) x5) x3 k := by
  have h : Read.val_main_v110 (F := Ideal) x0 x3 x5 x9 (ix2 r k) = ∑ j : Fin 1024, Read.val_main_v67 (F := Ideal) x0 x5 x9 (ix2 r j) * x3 (ix2 k j) := by
    pointwise [Read.val_main_v110]
  exact h.trans (Finset.sum_congr rfl fun j _ => congrArg (· * _) (v67_at _ _ _ _ _))
theorem dba_ref : (dba x9 x0 x1 x3 x5 : S8192x1024.Idx → EReal) = Read.val_main_v126 (F := Ideal) x0 x1 x3 x5 x9 := by
  funext i
  obtain ⟨r, k, rfl⟩ : ∃ r k, i = ix2 r k := ⟨i 0, i 1, by blk_ext⟩
  exact congrArg (· * _) (v110_at _ _ _ _ _ _).symm
theorem dconva_ref : (dconva x9 x0 x3 x5 : S8192x1024.Idx → EReal) = Read.val_main_v111 (F := Ideal) x0 x3 x5 x9 := by
  funext i
  obtain ⟨r, k, rfl⟩ : ∃ r k, i = ix2 r k := ⟨i 0, i 1, by blk_ext⟩
  refine (mul_comm _ _).trans (congrArg₂ (· * ·) ?_ (v110_at _ _ _ _ _ _).symm)
  pointwise [Read.val_main_v0]

/-- The gradients of the two gates. -/
theorem v65_at (r : Fin 8192) (k : Fin 1024) : Read.val_main_v65 (F := Ideal) x0 x2 x4 x5 x6 x7 x8 x9 (ix2 r k)
    = gate (lineZ x9 r) (gateB x0 r) (fun j => Read.val_main_v36 (F := Ideal) x2 x4 x6 x7 x8 (ix2 r j)) x5 k := by
  have h : Read.val_main_v58 (F := Ideal) x0 (ix2 r k) = Read.val_main_v55 (F := Ideal) x0 (ix2 r k) * (Ideal.ofBits .f32 0x3F800000#32 - Read.val_main_v55 (F := Ideal) x0 (ix2 r k)) := by
    pointwise [Read.val_main_v58, Read.val_main_v57, Read.val_main_v56, Read.val_main_cst_11]
  show Read.val_main_v62 (F := Ideal) x5 x9 (ix2 r k) * Read.val_main_v36 (F := Ideal) x2 x4 x6 x7 x8 (ix2 r k) * Read.val_main_v58 (F := Ideal) x0 (ix2 r k) = _
  rw [h, gateB_eq, pull_eq]
  rfl
theorem v69_at (r : Fin 8192) (k : Fin 1024) : Read.val_main_v69 (F := Ideal) x0 x1 x3 x5 x9 (ix2 r k)
    = gate (lineZ x9 r) (gateA x0 r) (fun j => Read.val_main_v2 (F := Ideal) x0 x1 x3 (ix2 r j)) x5 k := by
  have h : Read.val_main_v47 (F := Ideal) x0 (ix2 r k) = Read.val_main_v44 (F := Ideal) x0 (ix2 r k) * (Ideal.ofBits .f32 0x3F800000#32 - Read.val_main_v44 (F := Ideal) x0 (ix2 r k)) := by
    pointwise [Read.val_main_v47, Read.val_main_v46, Read.val_main_v45, Read.val_main_cst_8]
  show Read.val_main_v62 (F := Ideal) x5 x9 (ix2 r k) * Read.val_main_v2 (F := Ideal) x0 x1 x3 (ix2 r k) * Read.val_main_v47 (F := Ideal) x0 (ix2 r k) = _
  rw [h, gateA_eq, pull_eq]
  rfl

theorem dg_ref : (dg x9 x0 (Read.val_main_v2 (F := Ideal) x0 x1 x3) (Read.val_main_v36 (F := Ideal) x2 x4 x6 x7 x8) x5 : S8192x2048.Idx → EReal) = Read.val_main_v125 (F := Ideal) x0 x1 x2 x3 x4 x5 x6 x7 x8 x9 := by
  funext i
  obtain ⟨r, k, rfl⟩ : ∃ r k, i = ix2 r k := ⟨i 0, i 1, by blk_ext⟩
  show _ = Read.val_main_v66 (F := Ideal) x0 x2 x4 x5 x6 x7 x8 x9 (ix2 r k) + Read.val_main_v70 (F := Ideal) x0 x1 x3 x5 x9 (ix2 r k)
  by_cases hk : k.val < 1024
  · have h1 : Read.val_main_v66 (F := Ideal) x0 x2 x4 x5 x6 x7 x8 x9 (ix2 r k) = 0 := by
      pointwise [Read.val_main_v66, Read.val_main_cst_12, hk]
      exact dif_neg (by omega)
    have h2 : Read.val_main_v70 (F := Ideal) x0 x1 x3 x5 x9 (ix2 r k) = Read.val_main_v69 (F := Ideal) x0 x1 x3 x5 x9 (ix2 r ⟨k.val, hk⟩) := by
      pointwise [Read.val_main_v70, hk]
    rw [h1, h2, zero_add, v69_at]
    exact dif_pos hk
  · have h1 : Read.val_main_v66 (F := Ideal) x0 x2 x4 x5 x6 x7 x8 x9 (ix2 r k) = Read.val_main_v65 (F := Ideal) x0 x2 x4 x5 x6 x7 x8 x9 (ix2 r ⟨k.val - 1024, by omega⟩) := by
      pointwise [Read.val_main_v66, Read.val_main_cst_12, hk]
      exact dif_pos ⟨by omega, by omega⟩
    have h2 : Read.val_main_v70 (F := Ideal) x0 x1 x3 x5 x9 (ix2 r k) = 0 := by
      pointwise [Read.val_main_v70, Read.val_main_cst_13, hk]
    rw [h1, h2, add_zero, v65_at]
    exact dif_neg hk

end Cert.KMergeIdeal.Val

end
-- ==== Proof.Merge.Real.lean ====
/- The call `merge_bwd`: the reference's stages over arguments that are real numbers. -/
module

public import proofs.«01_k».proof.Proof.Merge.Ref
public import Idealize.ShloMosaic.Lib.Pipeline.ValueKit
public import Idealize.ShloMosaic.Lib.Claim

@[expose] public section

set_option maxRecDepth 16384

noncomputable section

namespace Cert.KMergeIdeal.Val

open Idealize.ShloMosaic Idealize.ShloMosaic.TcCoe Idealize.SL.Sem
open Cert.RMergeIdeal

variable (x0 : FVec Ideal S8192x7168 .f32) (x1 x2 x9 : FVec Ideal S8192x1024 .f32) (x3 x4 x5 : FVec Ideal S1024x1024 .f32) (x6 x7 x8 : FVec Ideal S1024 .f32)

section Norm

variable (z : Fin 8192 → Fin 1024 → ℝ) (hz : ∀ r k, x2 (ix2 r k) + x8 (ix1 k) = ((z r k : ℝ) : EReal))
include hz

theorem v5_at (r : Fin 8192) (k : Fin 1024) : Read.val_main_v5 (F := Ideal) x2 x8 (ix2 r k) = ((z r k : ℝ) : EReal) := by
  refine Eq.trans ?_ (hz r k)
  pointwise [Read.val_main_v5, Read.val_main_v4, Read.val_main_v3]

theorem v9_at (r : Fin 8192) : Read.val_main_v9 (F := Ideal) x2 x8 (ix2 r 0) = ((Norm.mean (z r) : ℝ) : EReal) := by
  have h : Read.val_main_v9 (F := Ideal) x2 x8 (ix2 r 0) = Ideal.div (∑ k : Fin 1024, Read.val_main_v5 (F := Ideal) x2 x8 (ix2 r k)) (Ideal.ofBits .f32 0x44800000#32) := by
    pointwise [Read.val_main_v9, Read.val_main_v8, Read.val_main_v7, Read.val_main_v6, Read.val_main_cst, Read.val_main_cst_0]
  rw [h, Finset.sum_congr rfl fun k _ => v5_at x2 x8 z hz r k, Norm.coe_sum, Norm.lanes_f32, Norm.coe_div (by norm_num)]
  rfl

theorem v20_at (r : Fin 8192) (k : Fin 1024) : Read.val_main_v20 (F := Ideal) x2 x8 (ix2 r k) = ((z r k - Norm.mean (z r) : ℝ) : EReal) := by
  have h : Read.val_main_v20 (F := Ideal) x2 x8 (ix2 r k) = Read.val_main_v5 (F := Ideal) x2 x8 (ix2 r k) - Read.val_main_v9 (F := Ideal) x2 x8 (ix2 r 0) := by
    pointwise [Read.val_main_v20, Read.val_main_v19]
  rw [h, v5_at x2 x8 z hz, v9_at x2 x8 z hz, ← EReal.coe_sub]

theorem v18_at (r : Fin 8192) : Read.val_main_v18 (F := Ideal) x2 x8 (ix2 r 0) = ((Norm.var (z r) : ℝ) : EReal) := by
  have h : Read.val_main_v18 (F := Ideal) x2 x8 (ix2 r 0) = Ideal.div (∑ k : Fin 1024, Read.val_main_v20 (F := Ideal) x2 x8 (ix2 r k) * Read.val_main_v20 (F := Ideal) x2 x8 (ix2 r k)) (Ideal.ofBits .f32 0x44800000#32) := by
    pointwise [Read.val_main_v18, Read.val_main_v17, Read.val_main_v16, Read.val_main_v15, Read.val_main_v12, Read.val_main_v11, Read.val_main_v10, Read.val_main_v20, Read.val_main_v19, Read.val_main_cst_2, Read.val_main_cst_3]
  rw [h, Finset.sum_congr rfl fun k _ => (congrArg₂ (· * ·) (v20_at x2 x8 z hz r k) (v20_at x2 x8 z hz r k)).trans (EReal.coe_mul _ _).symm,
    Norm.coe_sum, Norm.lanes_f32, Norm.coe_div (by norm_num)]
  rfl

theorem v22_at (r : Fin 8192) : Read.val_main_v22 (F := Ideal) x2 x8 (ix2 r 0) = ((Norm.var (z r) + Norm.eps : ℝ) : EReal) := by
  have h : Read.val_main_v22 (F := Ideal) x2 x8 (ix2 r 0) = Read.val_main_v18 (F := Ideal) x2 x8 (ix2 r 0) + Ideal.ofBits .f32 0x3727C5AC#32 := by
    pointwise [Read.val_main_v22, Read.val_main_v21, Read.val_main_cst_4]
  rw [h, v18_at x2 x8 z hz, Norm.eps_f32, ← EReal.coe_add]

theorem v23_at (r : Fin 8192) : Read.val_main_v23 (F := Ideal) x2 x8 (ix2 r 0) = ((Norm.rstd (z r) : ℝ) : EReal) := by
  show Ideal.rsqrt (Read.val_main_v22 (F := Ideal) x2 x8 (ix2 r 0)) = _
  rw [v22_at x2 x8 z hz, Norm.coe_rsqrt (Norm.guard_pos _)]
  rfl

theorem v26_at (r : Fin 8192) : Read.val_main_v26 (F := Ideal) x2 x8 (ix2 r 0) = ((-(1 / 2) * (Norm.rstd (z r) / (Norm.var (z r) + Norm.eps)) : ℝ) : EReal) := by
  have h : Read.val_main_v26 (F := Ideal) x2 x8 (ix2 r 0) = Ideal.ofBits .f32 0xBF000000#32 * Ideal.div (Read.val_main_v23 (F := Ideal) x2 x8 (ix2 r 0)) (Read.val_main_v22 (F := Ideal) x2 x8 (ix2 r 0)) := by
    pointwise [Read.val_main_v26, Read.val_main_v25, Read.val_main_v24, Read.val_main_cst_5]
  rw [h, v22_at x2 x8 z hz, v23_at x2 x8 z hz, Norm.neg_half_f32, Norm.coe_div (Norm.guard_pos _).ne', ← EReal.coe_mul]

theorem v28_at (r : Fin 8192) (k : Fin 1024) : Read.val_main_v28 (F := Ideal) x2 x8 (ix2 r k) = ((Norm.xhat (z r) k : ℝ) : EReal) := by
  have h : Read.val_main_v28 (F := Ideal) x2 x8 (ix2 r k) = Read.val_main_v20 (F := Ideal) x2 x8 (ix2 r k) * Read.val_main_v23 (F := Ideal) x2 x8 (ix2 r 0) := by
    pointwise [Read.val_main_v28, Read.val_main_v27]
  rw [h, v20_at x2 x8 z hz, v23_at x2 x8 z hz, ← EReal.coe_mul]
  rfl

variable (gam : Fin 1024 → ℝ) (hg : ∀ k, x6 (ix1 k) = ((gam k : ℝ) : EReal))
variable (D : Fin 8192 → Fin 1024 → ℝ) (hD : ∀ r k, Read.val_main_v73 (F := Ideal) x0 x2 x4 x5 x6 x7 x8 x9 (ix2 r k) = ((D r k : ℝ) : EReal))
include hg hD

theorem v81_at (r : Fin 8192) (k : Fin 1024) : Read.val_main_v81 (F := Ideal) x0 x2 x4 x5 x6 x7 x8 x9 (ix2 r k) = ((D r k * gam k : ℝ) : EReal) := by
  have h : Read.val_main_v81 (F := Ideal) x0 x2 x4 x5 x6 x7 x8 x9 (ix2 r k) = Read.val_main_v73 (F := Ideal) x0 x2 x4 x5 x6 x7 x8 x9 (ix2 r k) * x6 (ix1 k) := by
    pointwise [Read.val_main_v81, Read.val_main_v80, Read.val_main_v29]
  rw [h, hD, hg, ← EReal.coe_mul]

theorem v87_at (r : Fin 8192) (k : Fin 1024) : Read.val_main_v87 (F := Ideal) x0 x2 x4 x5 x6 x7 x8 x9 (ix2 r k) = ((D r k * gam k * Norm.rstd (z r) : ℝ) : EReal) := by
  have h : Read.val_main_v87 (F := Ideal) x0 x2 x4 x5 x6 x7 x8 x9 (ix2 r k) = Read.val_main_v81 (F := Ideal) x0 x2 x4 x5 x6 x7 x8 x9 (ix2 r k) * Read.val_main_v23 (F := Ideal) x2 x8 (ix2 r 0) := by
    pointwise [Read.val_main_v87, Read.val_main_v86]
  rw [h, v81_at x0 x2 x9 x4 x5 x6 x7 x8 z hz gam hg D hD, v23_at x2 x8 z hz, ← EReal.coe_mul]

theorem v93_at (r : Fin 8192) : Read.val_main_v93 (F := Ideal) x0 x2 x4 x5 x6 x7 x8 x9 (ix2 r 0) = ((Norm.varCoeff (z r) (fun k => D r k * gam k) : ℝ) : EReal) := by
  have h : Read.val_main_v93 (F := Ideal) x0 x2 x4 x5 x6 x7 x8 x9 (ix2 r 0) = Ideal.div ((∑ k : Fin 1024, Read.val_main_v20 (F := Ideal) x2 x8 (ix2 r k) * Read.val_main_v81 (F := Ideal) x0 x2 x4 x5 x6 x7 x8 x9 (ix2 r k)) * Read.val_main_v26 (F := Ideal) x2 x8 (ix2 r 0)) (Ideal.ofBits .f32 0x44800000#32) := by
    pointwise [Read.val_main_v93, Read.val_main_v92, Read.val_main_v88, Read.val_main_v85, Read.val_main_v84, Read.val_main_v83, Read.val_main_cst_18, Read.val_main_cst_20]
  rw [h, v26_at x2 x8 z hz, Finset.sum_congr rfl fun k _ => (congrArg₂ (· * ·) (v20_at x2 x8 z hz r k)
    (v81_at x0 x2 x9 x4 x5 x6 x7 x8 z hz gam hg D hD r k)).trans (EReal.coe_mul _ _).symm,
    Norm.coe_sum, ← EReal.coe_mul, Norm.lanes_f32, Norm.coe_div (by norm_num)]
  rfl

theorem v96_at (r : Fin 8192) (k : Fin 1024) : Read.val_main_v96 (F := Ideal) x0 x2 x4 x5 x6 x7 x8 x9 (ix2 r k)
    = ((Norm.varCoeff (z r) (fun k => D r k * gam k) * (2 * (z r k - Norm.mean (z r))) : ℝ) : EReal) := by
  have h : Read.val_main_v96 (F := Ideal) x0 x2 x4 x5 x6 x7 x8 x9 (ix2 r k) = Read.val_main_v93 (F := Ideal) x0 x2 x4 x5 x6 x7 x8 x9 (ix2 r 0) * (Ideal.ofBits .f32 0x40000000#32 * Read.val_main_v20 (F := Ideal) x2 x8 (ix2 r k)) := by
    pointwise [Read.val_main_v96, Read.val_main_v95, Read.val_main_v94, Read.val_main_v14, Read.val_main_v13, Read.val_main_v11, Read.val_main_v10, Read.val_main_v20, Read.val_main_v19, Read.val_main_cst_1, Read.val_main_cst_21]
    rw [Fin.sum_univ_one]
  rw [h, v93_at x0 x2 x9 x4 x5 x6 x7 x8 z hz gam hg D hD, v20_at x2 x8 z hz, Norm.two_f32, ← EReal.coe_mul, ← EReal.coe_mul]

theorem v106_at (r : Fin 8192) (k : Fin 1024) : Read.val_main_v106 (F := Ideal) x0 x2 x4 x5 x6 x7 x8 x9 (ix2 r k) = ((Norm.grad (z r) (fun k => D r k * gam k) k : ℝ) : EReal) := by
  have h : Read.val_main_v106 (F := Ideal) x0 x2 x4 x5 x6 x7 x8 x9 (ix2 r k) = (Read.val_main_v87 (F := Ideal) x0 x2 x4 x5 x6 x7 x8 x9 (ix2 r k) + Read.val_main_v96 (F := Ideal) x0 x2 x4 x5 x6 x7 x8 x9 (ix2 r k))
      + Ideal.div ((∑ k : Fin 1024, -(Read.val_main_v87 (F := Ideal) x0 x2 x4 x5 x6 x7 x8 x9 (ix2 r k))) + ∑ k : Fin 1024, -(Read.val_main_v96 (F := Ideal) x0 x2 x4 x5 x6 x7 x8 x9 (ix2 r k))) (Ideal.ofBits .f32 0x44800000#32) := by
    pointwise [Read.val_main_v106, Read.val_main_v105, Read.val_main_v104, Read.val_main_v103, Read.val_main_v102, Read.val_main_v101, Read.val_main_v100, Read.val_main_v99, Read.val_main_v98, Read.val_main_v97, Read.val_main_v91, Read.val_main_v90, Read.val_main_v89, Read.val_main_cst_19, Read.val_main_cst_22, Read.val_main_cst_23, Read.val_main_cst_24]
    rw [Fin.sum_univ_one]
  rw [h, v87_at x0 x2 x9 x4 x5 x6 x7 x8 z hz gam hg D hD, v96_at x0 x2 x9 x4 x5 x6 x7 x8 z hz gam hg D hD,
    Finset.sum_congr rfl fun k _ => (congrArg (- ·) (v87_at x0 x2 x9 x4 x5 x6 x7 x8 z hz gam hg D hD r k)).trans (EReal.coe_neg _).symm,
    Finset.sum_congr rfl fun k _ => (congrArg (- ·) (v96_at x0 x2 x9 x4 x5 x6 x7 x8 z hz gam hg D hD r k)).trans (EReal.coe_neg _).symm,
    Norm.coe_sum, Norm.coe_sum, ← EReal.coe_add, ← EReal.coe_add, Norm.lanes_f32, Norm.coe_div (by norm_num), ← EReal.coe_add, Norm.grad_eq]

end Norm

section Gate

variable (hz : ∀ i, ∃ y : ℝ, x2 i = (y : EReal)) (hb : ∀ i, ∃ y : ℝ, x8 i = (y : EReal)) (hct : ∀ i, ∃ y : ℝ, x9 i = (y : EReal))
variable (h4 : ∀ i, ∃ y : ℝ, x4 i = (y : EReal)) (h5 : ∀ i, ∃ y : ℝ, x5 i = (y : EReal))
variable (h6 : ∀ i, ∃ y : ℝ, x6 i = (y : EReal)) (h7 : ∀ i, ∃ y : ℝ, x7 i = (y : EReal))
variable (VEC : FVec Ideal S8x1024 .f32) (hv1 : ∀ k, VEC (ix2 1 k) = x6 (ix1 k)) (hv2 : ∀ k, VEC (ix2 2 k) = x7 (ix1 k))

/-- The logistic function is real everywhere. -/
theorem sgm_real (x : EReal) : ∃ s : ℝ, sgm x = (s : EReal) := by
  unfold sgm
  rw [Norm.half_f32]
  induction x with
  | bot => exact ⟨1 / 2 * (-1) + 1 / 2, by rw [EReal.coe_mul_bot_of_pos (by norm_num), Ideal.tanh_bot, ← EReal.coe_one, ← EReal.coe_neg, ← EReal.coe_mul, ← EReal.coe_add]⟩
  | top => exact ⟨1 / 2 * 1 + 1 / 2, by rw [EReal.coe_mul_top_of_pos (by norm_num), Ideal.tanh_top]; norm_cast⟩
  | coe x => exact ⟨1 / 2 * Real.tanh (1 / 2 * x) + 1 / 2, by rw [← EReal.coe_mul, Ideal.tanh_coe, ← EReal.coe_mul, ← EReal.coe_add]⟩

theorem sum_real (f : Fin 1024 → EReal) (h : ∀ k, ∃ y : ℝ, f k = (y : EReal)) : ∃ y : ℝ, (∑ k, f k) = (y : EReal) := by
  choose g hg using h
  exact ⟨∑ k, g k, by rw [Finset.sum_congr rfl fun k _ => hg k, Norm.coe_sum]⟩
theorem mul_real {x y : EReal} (hx : ∃ a : ℝ, x = (a : EReal)) (hy : ∃ a : ℝ, y = (a : EReal)) : ∃ a : ℝ, x * y = (a : EReal) := by
  obtain ⟨a, rfl⟩ := hx
  obtain ⟨b, rfl⟩ := hy
  exact ⟨a * b, (EReal.coe_mul _ _).symm⟩

theorem pull_real (f : Fin 1024 → EReal) (W : FVec Ideal S1024x1024 .f32) (hf : ∀ k, ∃ y : ℝ, f k = (y : EReal))
    (hW : ∀ i, ∃ y : ℝ, W i = (y : EReal)) (k : Fin 1024) : ∃ y : ℝ, pull f W k = (y : EReal) :=
  sum_real _ fun j => mul_real (hf j) (hW _)

theorem v72_at (r : Fin 8192) (k : Fin 1024) : Read.val_main_v72 (F := Ideal) x0 x4 x5 x9 (ix2 r k) = pull (branch (lineZ x9 r) (gateB x0 r) x5) x4 k := by
  have h : Read.val_main_v72 (F := Ideal) x0 x4 x5 x9 (ix2 r k) = ∑ j : Fin 1024, Read.val_main_v63 (F := Ideal) x0 x5 x9 (ix2 r j) * x4 (ix2 k j) := by
    pointwise [Read.val_main_v72]
  exact h.trans (Finset.sum_congr rfl fun j _ => congrArg (· * _) (v63_at _ _ _ _ _))

theorem v34_at (r : Fin 8192) (k : Fin 1024) : Read.val_main_v34 (F := Ideal) x2 x6 x7 x8 (ix2 r k) = Read.val_main_v28 (F := Ideal) x2 x8 (ix2 r k) * x6 (ix1 k) + x7 (ix1 k) := by
  pointwise [Read.val_main_v34, Read.val_main_v33, Read.val_main_v32, Read.val_main_v31, Read.val_main_v30, Read.val_main_v29]

theorem v35_2_at (r : Fin 8192) (k : Fin 1024) : Read.val_main_v35_2 (F := Ideal) x2 x6 x7 x8 (ix2 r k) = sgm (Read.val_main_v34 (F := Ideal) x2 x6 x7 x8 (ix2 r k)) := by
  refine Eq.trans ?_ (Norm.sigmoid_eq _).symm
  pointwise [Read.val_main_v35_2, Read.val_main_call0_v4, Read.val_main_call0_v3, Read.val_main_call0_v2, Read.val_main_call0_v1, Read.val_main_call0_v0, Read.val_main_call0_cst, Read.val_main_call0_cst_0]

theorem v73_eq (r : Fin 8192) (k : Fin 1024) : Read.val_main_v73 (F := Ideal) x0 x2 x4 x5 x6 x7 x8 x9 (ix2 r k)
    = Read.val_main_v72 (F := Ideal) x0 x4 x5 x9 (ix2 r k) * Read.val_main_v35_2 (F := Ideal) x2 x6 x7 x8 (ix2 r k) + Read.val_main_v34 (F := Ideal) x2 x6 x7 x8 (ix2 r k) * Read.val_main_v72 (F := Ideal) x0 x4 x5 x9 (ix2 r k) * (Read.val_main_v35_2 (F := Ideal) x2 x6 x7 x8 (ix2 r k) * (Ideal.ofBits .f32 0x3F800000#32 - Read.val_main_v35_2 (F := Ideal) x2 x6 x7 x8 (ix2 r k))) := by
  have h : Read.val_main_v35_1 (F := Ideal) x2 x6 x7 x8 (ix2 r k) = Read.val_main_v35_2 (F := Ideal) x2 x6 x7 x8 (ix2 r k) * (Ideal.ofBits .f32 0x3F800000#32 - Read.val_main_v35_2 (F := Ideal) x2 x6 x7 x8 (ix2 r k)) := by
    pointwise [Read.val_main_v35_1, Read.val_main_call0_v7, Read.val_main_call0_v6, Read.val_main_call0_cst_1]
  show Read.val_main_v72 (F := Ideal) x0 x4 x5 x9 (ix2 r k) * Read.val_main_v35_2 (F := Ideal) x2 x6 x7 x8 (ix2 r k) + Read.val_main_v34 (F := Ideal) x2 x6 x7 x8 (ix2 r k) * Read.val_main_v72 (F := Ideal) x0 x4 x5 x9 (ix2 r k) * Read.val_main_v35_1 (F := Ideal) x2 x6 x7 x8 (ix2 r k) = _
  rw [h]

include hz hb in
theorem v28_real (r : Fin 8192) (k : Fin 1024) : ∃ y : ℝ, Read.val_main_v28 (F := Ideal) x2 x8 (ix2 r k) = (y : EReal) := by
  choose u hu using hz
  choose b hb' using hb
  exact ⟨_, v28_at x2 x8 (fun r k => u (ix2 r k) + b (ix1 k)) (fun r k => by rw [hu, hb', ← EReal.coe_add]) r k⟩

include hz hb hct h4 h5 h6 h7 hv1 hv2 in
/-- The gradient of the normalized and scaled row, as the call and as the reference write it. -/
theorem du2_real (r : Fin 8192) (k : Fin 1024) : ∃ d : ℝ, Read.val_main_v73 (F := Ideal) x0 x2 x4 x5 x6 x7 x8 x9 (ix2 r k) = (d : EReal) ∧ du2A x9 x0 (Read.val_main_v28 (F := Ideal) x2 x8) x4 x5 VEC r k = (d : EReal) := by
  obtain ⟨g, hg⟩ := pull_real (branch (lineZ x9 r) (gateB x0 r) x5) x4
    (fun j => mul_real (pull_real _ _ (fun j => hct _) h5 j) (sgm_real _)) h4 k
  obtain ⟨xh, hxh⟩ := v28_real x2 x8 hz hb r k
  obtain ⟨ga, hga⟩ := h6 (ix1 k)
  obtain ⟨be, hbe⟩ := h7 (ix1 k)
  have ha : Read.val_main_v34 (F := Ideal) x2 x6 x7 x8 (ix2 r k) = ((xh * ga + be : ℝ) : EReal) := by
    rw [v34_at, hxh, hga, hbe, ← EReal.coe_mul, ← EReal.coe_add]
  obtain ⟨s, hs⟩ := sgm_real ((xh * ga + be : ℝ) : EReal)
  refine ⟨g * (s * (1 + (xh * ga + be) * (1 - s))), ?_, ?_⟩
  · rw [v73_eq, v72_at, v35_2_at, ha, hs, hg, Norm.one_f32]
    rw [← EReal.coe_mul, ← EReal.coe_mul, ← EReal.coe_sub, ← EReal.coe_mul, ← EReal.coe_mul, ← EReal.coe_add]
    exact congrArg (fun y : ℝ => (y : EReal)) (by ring)
  · show pull _ _ _ * dsilu (Read.val_main_v28 (F := Ideal) x2 x8 (ix2 r k) * VEC (ix2 1 k) + VEC (ix2 2 k)) = _
    rw [hg, hxh, hv1, hv2, hga, hbe, ← EReal.coe_mul, ← EReal.coe_add, dsilu, hs, Norm.one_f32]
    norm_cast

include hz hb hct h4 h5 h6 h7 hv1 hv2 in
theorem du2_ref (r : Fin 8192) (k : Fin 1024) : du2A x9 x0 (Read.val_main_v28 (F := Ideal) x2 x8) x4 x5 VEC r k = Read.val_main_v73 (F := Ideal) x0 x2 x4 x5 x6 x7 x8 x9 (ix2 r k) := by
  obtain ⟨d, h1, h2⟩ := du2_real x0 x2 x9 x4 x5 x6 x7 x8 hz hb hct h4 h5 h6 h7 VEC hv1 hv2 r k
  rw [h1, h2]

include hz hb hct h4 h5 h6 h7 hv1 hv2 in
/-- The gradient of the row before its normalization. -/
theorem du1_at (r : Fin 8192) (k : Fin 1024) : du1A x9 x0 (Read.val_main_v28 (F := Ideal) x2 x8) (Read.val_main_v23 (F := Ideal) x2 x8) x4 x5 VEC r k = Read.val_main_v106 (F := Ideal) x0 x2 x4 x5 x6 x7 x8 x9 (ix2 r k) := by
  have hD := du2_real x0 x2 x9 x4 x5 x6 x7 x8 hz hb hct h4 h5 h6 h7 VEC hv1 hv2
  choose D hD1 hD2 using hD
  choose u hu using hz
  choose b hb' using hb
  choose ga hga using h6
  have hz' : ∀ r k, x2 (ix2 r k) + x8 (ix1 k) = ((u (ix2 r k) + b (ix1 k) : ℝ) : EReal) := fun r k => by rw [hu, hb', ← EReal.coe_add]
  rw [v106_at x0 x2 x9 x4 x5 x6 x7 x8 (fun r k => u (ix2 r k) + b (ix1 k)) hz' (fun k => ga (ix1 k)) (fun k => hga _) D hD1 r k]
  have hx := v28_at x2 x8 (fun r k => u (ix2 r k) + b (ix1 k)) hz' r
  have hr := v23_at x2 x8 (fun r k => u (ix2 r k) + b (ix1 k)) hz' r
  generalize (fun k => u (ix2 r k) + b (ix1 k)) = z at hx hr ⊢
  have hd : ∀ k, du2A x9 x0 (Read.val_main_v28 (F := Ideal) x2 x8) x4 x5 VEC r k * VEC (ix2 1 k) = ((D r k * ga (ix1 k) : ℝ) : EReal) :=
    fun k => by rw [hD2, hv1, hga, ← EReal.coe_mul]
  have hdx : ∀ k, du2A x9 x0 (Read.val_main_v28 (F := Ideal) x2 x8) x4 x5 VEC r k * VEC (ix2 1 k) * Read.val_main_v28 (F := Ideal) x2 x8 (ix2 r k) = ((D r k * ga (ix1 k) * Norm.xhat z k : ℝ) : EReal) :=
    fun k => by rw [hd, hx, ← EReal.coe_mul]
  show Read.val_main_v23 (F := Ideal) x2 x8 (ix2 r 0) * (du2A x9 x0 (Read.val_main_v28 (F := Ideal) x2 x8) x4 x5 VEC r k * VEC (ix2 1 k)
    - Ideal.div (∑ k, du2A x9 x0 (Read.val_main_v28 (F := Ideal) x2 x8) x4 x5 VEC r k * VEC (ix2 1 k)) (Ideal.ofBits .f32 0x44800000#32)
    - Read.val_main_v28 (F := Ideal) x2 x8 (ix2 r k) * Ideal.div (∑ k, du2A x9 x0 (Read.val_main_v28 (F := Ideal) x2 x8) x4 x5 VEC r k * VEC (ix2 1 k) * Read.val_main_v28 (F := Ideal) x2 x8 (ix2 r k)) (Ideal.ofBits .f32 0x44800000#32)) = _
  rw [Finset.sum_congr rfl fun k _ => hd k, Finset.sum_congr rfl fun k _ => hdx k, hd, hx, hr, Norm.coe_sum, Norm.coe_sum, Norm.lanes_f32,
    Norm.coe_div (by norm_num), Norm.coe_div (by norm_num), ← EReal.coe_mul, ← EReal.coe_sub, ← EReal.coe_sub, ← EReal.coe_mul]
  rfl

include hz hb hct h4 h5 h6 h7 hv1 hv2 in
theorem du1_ref : (du1Arr x9 x0 (Read.val_main_v28 (F := Ideal) x2 x8) (Read.val_main_v23 (F := Ideal) x2 x8) x4 x5 VEC : S8192x1024.Idx → EReal) = Read.val_main_v106 (F := Ideal) x0 x2 x4 x5 x6 x7 x8 x9 := by
  funext i
  obtain ⟨r, k, rfl⟩ : ∃ r k, i = ix2 r k := ⟨i 0, i 1, by blk_ext⟩
  exact du1_at x0 x2 x9 x4 x5 x6 x7 x8 hz hb hct h4 h5 h6 h7 VEC hv1 hv2 r k

/-- The rows of the reference's last result: three sums over all tokens, then zeros. -/
theorem v122_0 (k : Fin 1024) : Read.val_main_v122 (F := Ideal) x0 x2 x4 x5 x6 x7 x8 x9 (ix2 0 k) = ∑ r : Fin 8192, Read.val_main_v28 (F := Ideal) x2 x8 (ix2 r k) * Read.val_main_v73 (F := Ideal) x0 x2 x4 x5 x6 x7 x8 x9 (ix2 r k) := by
  pointwise [Read.val_main_v122, Read.val_main_v114, Read.val_main_v82, Read.val_main_v79, Read.val_main_v78, Read.val_main_v77, Read.val_main_cst_16, Read.val_main_cst_17]
  rw [Fin.sum_univ_one]
theorem v122_1 (k : Fin 1024) : Read.val_main_v122 (F := Ideal) x0 x2 x4 x5 x6 x7 x8 x9 (ix2 1 k) = ∑ r : Fin 8192, Read.val_main_v73 (F := Ideal) x0 x2 x4 x5 x6 x7 x8 x9 (ix2 r k) := by
  pointwise [Read.val_main_v122, Read.val_main_v115, Read.val_main_v76, Read.val_main_v75, Read.val_main_v74, Read.val_main_cst_14, Read.val_main_cst_15]
  rw [Fin.sum_univ_one]
theorem v122_2 (k : Fin 1024) : Read.val_main_v122 (F := Ideal) x0 x2 x4 x5 x6 x7 x8 x9 (ix2 2 k) = ∑ r : Fin 8192, Read.val_main_v106 (F := Ideal) x0 x2 x4 x5 x6 x7 x8 x9 (ix2 r k) := by
  pointwise [Read.val_main_v122, Read.val_main_v116, Read.val_main_v109, Read.val_main_v108, Read.val_main_v107, Read.val_main_cst_25, Read.val_main_cst_26]
  rw [Fin.sum_univ_one]
theorem v122_3 (q : Fin 8) (hq : 3 ≤ q.val) (k : Fin 1024) : Read.val_main_v122 (F := Ideal) x0 x2 x4 x5 x6 x7 x8 x9 (ix2 q k) = 0 := by
  pointwise [Read.val_main_v122, Read.val_main_v117, Read.val_main_v118, Read.val_main_v119, Read.val_main_v120, Read.val_main_v121, Read.val_main_v113, Read.val_main_cst_27]
  rw [dif_neg (by omega), dif_neg (by omega), dif_neg (by omega)]
  split_ifs <;> rfl

include hz hb hct h4 h5 h6 h7 hv1 hv2 in
theorem st_ref : (st x9 x0 (Read.val_main_v28 (F := Ideal) x2 x8) (Read.val_main_v23 (F := Ideal) x2 x8) x4 x5 VEC : S8x1024.Idx → EReal) = Read.val_main_v122 (F := Ideal) x0 x2 x4 x5 x6 x7 x8 x9 := by
  funext i
  obtain ⟨q, k, rfl⟩ : ∃ q k, i = ix2 q k := ⟨i 0, i 1, by blk_ext⟩
  have h2 := du2_ref x0 x2 x9 x4 x5 x6 x7 x8 hz hb hct h4 h5 h6 h7 VEC hv1 hv2
  have h1 := du1_at x0 x2 x9 x4 x5 x6 x7 x8 hz hb hct h4 h5 h6 h7 VEC hv1 hv2
  show (∑ r : Fin 8192, stTok _ _ _ _ _ _ _ r q k) = _
  unfold stTok
  by_cases q0 : q.val = 0
  · obtain rfl : q = 0 := Fin.ext q0
    rw [v122_0]
    exact Finset.sum_congr rfl fun r _ => (if_pos rfl).trans ((congrArg (· * _) (h2 r k)).trans (mul_comm _ _))
  by_cases q1 : q.val = 1
  · obtain rfl : q = 1 := Fin.ext q1
    rw [v122_1]
    exact Finset.sum_congr rfl fun r _ => (if_neg q0).trans ((if_pos rfl).trans (h2 r k))
  by_cases q2 : q.val = 2
  · obtain rfl : q = 2 := Fin.ext q2
    rw [v122_2]
    exact Finset.sum_congr rfl fun r _ => (if_neg q0).trans ((if_neg q1).trans ((if_pos rfl).trans (h1 r k)))
  rw [v122_3 _ _ _ _ _ _ _ _ q (by omega)]
  exact Finset.sum_eq_zero fun r _ => (if_neg q0).trans ((if_neg q1).trans (if_neg q2))

end Gate

end Cert.KMergeIdeal.Val

end
-- ==== Proof.Merge.Pair.lean ====
/- The pair of the call `merge_bwd`: all seven results. -/
module

public import proofs.«01_k».proof.Proof.Merge.Real
public import proofs.«01_k».proof.Proof.Gen.KMergeIdeal.Value
public import proofs.«01_k».proof.Proof.Gen.RMergeIdeal
public import proofs.«01_k».proof.Defs
public import Idealize.ShloMosaic.Lib.Pipeline.ValueKit
public import Idealize.ShloMosaic.Lib.Claim

@[expose] public section

set_option maxRecDepth 16384

noncomputable section

namespace Cert.KMergeIdeal.Val

open Idealize.ShloMosaic Idealize.ShloMosaic.TcCoe Idealize.SL.Sem
open Cert.KMergeIdeal Cert.KMergeIdeal.Gen

instance finiteFacts : Cert.Pre_finite_merge.Facts := ⟨by decide, by decide, by decide⟩

variable (m : (ℓ : Loc nD τ sig) → Buf (Elt Ideal) ℓ)

section Free

theorem fin_dya (c : Dev nD) : (dats m 0 c).arrAt 13 cfg0.N = Cert.RMergeIdeal.Read.val_main_v123 (F := Ideal) (m ((c : Thread nD τ).loc main_arg0)) (m ((c : Thread nD τ).loc main_arg5)) (m ((c : Thread nD τ).loc main_arg9)) := by
  refine (dya_final m c).trans ?_
  have h_v47 := in_v47 m c
  have h_v0 := in_v0 m c
  have h_v3 := in_v3 m c
  rw [h_v47, h_v0, h_v3]
  exact dya_ref _ _ _

theorem fin_dyb (c : Dev nD) : (dats m 0 c).arrAt 14 cfg0.N = Cert.RMergeIdeal.Read.val_main_v124 (F := Ideal) (m ((c : Thread nD τ).loc main_arg0)) (m ((c : Thread nD τ).loc main_arg5)) (m ((c : Thread nD τ).loc main_arg9)) := by
  refine (dyb_final m c).trans ?_
  have h_v47 := in_v47 m c
  have h_v0 := in_v0 m c
  have h_v3 := in_v3 m c
  rw [h_v47, h_v0, h_v3]
  exact dyb_ref _ _ _

theorem fin_dg (c : Dev nD) : (dats m 0 c).arrAt 15 cfg0.N = Cert.RMergeIdeal.Read.val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dg_final m c).trans ?_
  have h_v47 := in_v47 m c
  have h_v0 := in_v0 m c
  have h_v48 := in_v48 m c
  have h_v49 := in_v49 m c
  have h_v3 := in_v3 m c
  rw [h_v47, h_v0, h_v48, h_v49, h_v3]
  exact dg_ref _ _ _ _ _ _ _ _ _ _

theorem fin_dba (c : Dev nD) : (dats m 0 c).arrAt 16 cfg0.N = Cert.RMergeIdeal.Read.val_main_v126 (F := Ideal) (m ((c : Thread nD τ).loc main_arg0)) (m ((c : Thread nD τ).loc main_arg1)) (m ((c : Thread nD τ).loc main_arg3)) (m ((c : Thread nD τ).loc main_arg5)) (m ((c : Thread nD τ).loc main_arg9)) := by
  refine (dba_final m c).trans ?_
  have h_v47 := in_v47 m c
  have h_v0 := in_v0 m c
  have h_arg1 := in_arg1 m c
  have h_v1 := in_v1 m c
  have h_v3 := in_v3 m c
  rw [h_v47, h_v0, h_arg1, h_v1, h_v3]
  exact dba_ref _ _ _ _ _

theorem fin_dconva (c : Dev nD) : (dats m 0 c).arrAt 17 cfg0.N = Cert.RMergeIdeal.Read.val_main_v111 (F := Ideal) (m ((c : Thread nD τ).loc main_arg0)) (m ((c : Thread nD τ).loc main_arg3)) (m ((c : Thread nD τ).loc main_arg5)) (m ((c : Thread nD τ).loc main_arg9)) := by
  refine (dconva_final m c).trans ?_
  have h_v47 := in_v47 m c
  have h_v0 := in_v0 m c
  have h_v1 := in_v1 m c
  have h_v3 := in_v3 m c
  rw [h_v47, h_v0, h_v1, h_v3]
  exact dconva_ref _ _ _ _

theorem fin_du1 (c : Dev nD) (hp : Pre_KMergeIdeal_finite_merge m) : (dats m 0 c).arrAt 18 cfg0.N = Cert.RMergeIdeal.Read.val_main_v106 (F := Ideal) (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (du1_final m c).trans ?_
  have h_v47 := in_v47 m c
  have h_v0 := in_v0 m c
  have h_v34 := in_v34 m c
  have h_v30 := in_v30 m c
  have h_v2 := in_v2 m c
  have h_v3 := in_v3 m c
  rw [h_v47, h_v0, h_v34, h_v30, h_v2, h_v3]
  obtain ⟨p2, p4, p5, p6, p7, p8, p9⟩ := hp c
  exact du1_ref _ _ _ _ _ _ _ _ (Norm.real_of_mask _ _ p2) (Norm.real_of_mask _ _ p8) (Norm.real_of_mask _ _ p9) (Norm.real_of_mask _ _ p4) (Norm.real_of_mask _ _ p5) (Norm.real_of_mask _ _ p6) (Norm.real_of_mask _ _ p7) _ (in_v13_1 m c) (in_v13_2 m c)

theorem fin_st (c : Dev nD) (hp : Pre_KMergeIdeal_finite_merge m) : (dats m 0 c).arrAt 19 cfg0.N = Cert.RMergeIdeal.Read.val_main_v122 (F := Ideal) (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (st_final m c).trans ?_
  have h_v47 := in_v47 m c
  have h_v0 := in_v0 m c
  have h_v34 := in_v34 m c
  have h_v30 := in_v30 m c
  have h_v2 := in_v2 m c
  have h_v3 := in_v3 m c
  rw [h_v47, h_v0, h_v34, h_v30, h_v2, h_v3]
  obtain ⟨p2, p4, p5, p6, p7, p8, p9⟩ := hp c
  exact st_ref _ _ _ _ _ _ _ _ (Norm.real_of_mask _ _ p2) (Norm.real_of_mask _ _ p8) (Norm.real_of_mask _ _ p9) (Norm.real_of_mask _ _ p4) (Norm.real_of_mask _ _ p5) (Norm.real_of_mask _ _ p6) (Norm.real_of_mask _ _ p7) _ (in_v13_1 m c) (in_v13_2 m c)

end Free

variable (ρ : Dev nD → PrngReg)

/-- The run of the call, its seven results as the reference's expressions of the arguments. -/
theorem run (hp : Pre_KMergeIdeal_finite_merge m) : θ_run defs (onTc (τ := τ) (main (F := Ideal))) ⟨m, fun _ => 0, ρ⟩ fun r => ∀ c : Dev nD,
      r.2.mem ((c : Thread nD τ).loc main_v50_0) = Cert.RMergeIdeal.Read.val_main_v123 (F := Ideal) (m ((c : Thread nD τ).loc main_arg0)) (m ((c : Thread nD τ).loc main_arg5)) (m ((c : Thread nD τ).loc main_arg9))
      ∧ r.2.mem ((c : Thread nD τ).loc main_v50_1) = Cert.RMergeIdeal.Read.val_main_v124 (F := Ideal) (m ((c : Thread nD τ).loc main_arg0)) (m ((c : Thread nD τ).loc main_arg5)) (m ((c : Thread nD τ).loc main_arg9))
      ∧ r.2.mem ((c : Thread nD τ).loc main_v50_2) = Cert.RMergeIdeal.Read.val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_v50_3) = Cert.RMergeIdeal.Read.val_main_v126 (F := Ideal) (m ((c : Thread nD τ).loc main_arg0)) (m ((c : Thread nD τ).loc main_arg1)) (m ((c : Thread nD τ).loc main_arg3)) (m ((c : Thread nD τ).loc main_arg5)) (m ((c : Thread nD τ).loc main_arg9))
      ∧ r.2.mem ((c : Thread nD τ).loc main_v50_4) = Cert.RMergeIdeal.Read.val_main_v111 (F := Ideal) (m ((c : Thread nD τ).loc main_arg0)) (m ((c : Thread nD τ).loc main_arg3)) (m ((c : Thread nD τ).loc main_arg5)) (m ((c : Thread nD τ).loc main_arg9))
      ∧ r.2.mem ((c : Thread nD τ).loc main_v50_5) = Cert.RMergeIdeal.Read.val_main_v106 (F := Ideal) (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_v50_6) = Cert.RMergeIdeal.Read.val_main_v122 (F := Ideal) (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_arg0) = (m ((c : Thread nD τ).loc main_arg0))
      ∧ r.2.mem ((c : Thread nD τ).loc main_arg1) = (m ((c : Thread nD τ).loc main_arg1))
      ∧ r.2.mem ((c : Thread nD τ).loc main_arg2) = (m ((c : Thread nD τ).loc main_arg2))
      ∧ r.2.mem ((c : Thread nD τ).loc main_arg3) = (m ((c : Thread nD τ).loc main_arg3))
      ∧ r.2.mem ((c : Thread nD τ).loc main_arg4) = (m ((c : Thread nD τ).loc main_arg4))
      ∧ r.2.mem ((c : Thread nD τ).loc main_arg5) = (m ((c : Thread nD τ).loc main_arg5))
      ∧ r.2.mem ((c : Thread nD τ).loc main_arg6) = (m ((c : Thread nD τ).loc main_arg6))
      ∧ r.2.mem ((c : Thread nD τ).loc main_arg7) = (m ((c : Thread nD τ).loc main_arg7))
      ∧ r.2.mem ((c : Thread nD τ).loc main_arg8) = (m ((c : Thread nD τ).loc main_arg8))
      ∧ r.2.mem ((c : Thread nD τ).loc main_arg9) = (m ((c : Thread nD τ).loc main_arg9)) := by
  refine (θ_run defs _ _).mono (fun r h c => ?_) (Value.run_blocks m ρ)
  obtain ⟨h0, h1, h2, h3, h4, h5, h6, hk⟩ := h c
  exact ⟨h0.trans (fin_dya m c), h1.trans (fin_dyb m c), h2.trans (fin_dg m c), h3.trans (fin_dba m c), h4.trans (fin_dconva m c), h5.trans (fin_du1 m c hp), h6.trans (fin_st m c hp), hk⟩

/-- The reference's run, its results as expressions of its arguments. -/
theorem runR (m' : (ℓ : Loc Cert.RMergeIdeal.nD Cert.RMergeIdeal.τ Cert.RMergeIdeal.sig) → Buf (Elt Ideal) ℓ) (ρ' : Dev Cert.RMergeIdeal.nD → PrngReg) :
    θ_run (Cert.RMergeIdeal.defs (F := Ideal)) (onTc (τ := Cert.RMergeIdeal.τ) (Cert.RMergeIdeal.main (F := Ideal))) ⟨m', fun _ => 0, ρ'⟩ fun r => ∀ c : Dev Cert.RMergeIdeal.nD,
      r.2.mem ((c.tc : Thread Cert.RMergeIdeal.nD Cert.RMergeIdeal.τ).loc Cert.RMergeIdeal.main_v123) = Cert.RMergeIdeal.Read.val_main_v123 (F := Ideal) (m' ((c.tc : Thread Cert.RMergeIdeal.nD Cert.RMergeIdeal.τ).loc Cert.RMergeIdeal.main_arg0)) (m' ((c.tc : Thread Cert.RMergeIdeal.nD Cert.RMergeIdeal.τ).loc Cert.RMergeIdeal.main_arg5)) (m' ((c.tc : Thread Cert.RMergeIdeal.nD Cert.RMergeIdeal.τ).loc Cert.RMergeIdeal.main_arg9))
      ∧ r.2.mem ((c.tc : Thread Cert.RMergeIdeal.nD Cert.RMergeIdeal.τ).loc Cert.RMergeIdeal.main_v124) = Cert.RMergeIdeal.Read.val_main_v124 (F := Ideal) (m' ((c.tc : Thread Cert.RMergeIdeal.nD Cert.RMergeIdeal.τ).loc Cert.RMergeIdeal.main_arg0)) (m' ((c.tc : Thread Cert.RMergeIdeal.nD Cert.RMergeIdeal.τ).loc Cert.RMergeIdeal.main_arg5)) (m' ((c.tc : Thread Cert.RMergeIdeal.nD Cert.RMergeIdeal.τ).loc Cert.RMergeIdeal.main_arg9))
      ∧ r.2.mem ((c.tc : Thread Cert.RMergeIdeal.nD Cert.RMergeIdeal.τ).loc Cert.RMergeIdeal.main_v125) = Cert.RMergeIdeal.Read.val_main_v125 (F := Ideal) (m' ((c.tc : Thread Cert.RMergeIdeal.nD Cert.RMergeIdeal.τ).loc Cert.RMergeIdeal.main_arg0)) (m' ((c.tc : Thread Cert.RMergeIdeal.nD Cert.RMergeIdeal.τ).loc Cert.RMergeIdeal.main_arg1)) (m' ((c.tc : Thread Cert.RMergeIdeal.nD Cert.RMergeIdeal.τ).loc Cert.RMergeIdeal.main_arg2)) (m' ((c.tc : Thread Cert.RMergeIdeal.nD Cert.RMergeIdeal.τ).loc Cert.RMergeIdeal.main_arg3)) (m' ((c.tc : Thread Cert.RMergeIdeal.nD Cert.RMergeIdeal.τ).loc Cert.RMergeIdeal.main_arg4)) (m' ((c.tc : Thread Cert.RMergeIdeal.nD Cert.RMergeIdeal.τ).loc Cert.RMergeIdeal.main_arg5)) (m' ((c.tc : Thread Cert.RMergeIdeal.nD Cert.RMergeIdeal.τ).loc Cert.RMergeIdeal.main_arg6)) (m' ((c.tc : Thread Cert.RMergeIdeal.nD Cert.RMergeIdeal.τ).loc Cert.RMergeIdeal.main_arg7)) (m' ((c.tc : Thread Cert.RMergeIdeal.nD Cert.RMergeIdeal.τ).loc Cert.RMergeIdeal.main_arg8)) (m' ((c.tc : Thread Cert.RMergeIdeal.nD Cert.RMergeIdeal.τ).loc Cert.RMergeIdeal.main_arg9))
      ∧ r.2.mem ((c.tc : Thread Cert.RMergeIdeal.nD Cert.RMergeIdeal.τ).loc Cert.RMergeIdeal.main_v126) = Cert.RMergeIdeal.Read.val_main_v126 (F := Ideal) (m' ((c.tc : Thread Cert.RMergeIdeal.nD Cert.RMergeIdeal.τ).loc Cert.RMergeIdeal.main_arg0)) (m' ((c.tc : Thread Cert.RMergeIdeal.nD Cert.RMergeIdeal.τ).loc Cert.RMergeIdeal.main_arg1)) (m' ((c.tc : Thread Cert.RMergeIdeal.nD Cert.RMergeIdeal.τ).loc Cert.RMergeIdeal.main_arg3)) (m' ((c.tc : Thread Cert.RMergeIdeal.nD Cert.RMergeIdeal.τ).loc Cert.RMergeIdeal.main_arg5)) (m' ((c.tc : Thread Cert.RMergeIdeal.nD Cert.RMergeIdeal.τ).loc Cert.RMergeIdeal.main_arg9))
      ∧ r.2.mem ((c.tc : Thread Cert.RMergeIdeal.nD Cert.RMergeIdeal.τ).loc Cert.RMergeIdeal.main_v111) = Cert.RMergeIdeal.Read.val_main_v111 (F := Ideal) (m' ((c.tc : Thread Cert.RMergeIdeal.nD Cert.RMergeIdeal.τ).loc Cert.RMergeIdeal.main_arg0)) (m' ((c.tc : Thread Cert.RMergeIdeal.nD Cert.RMergeIdeal.τ).loc Cert.RMergeIdeal.main_arg3)) (m' ((c.tc : Thread Cert.RMergeIdeal.nD Cert.RMergeIdeal.τ).loc Cert.RMergeIdeal.main_arg5)) (m' ((c.tc : Thread Cert.RMergeIdeal.nD Cert.RMergeIdeal.τ).loc Cert.RMergeIdeal.main_arg9))
      ∧ r.2.mem ((c.tc : Thread Cert.RMergeIdeal.nD Cert.RMergeIdeal.τ).loc Cert.RMergeIdeal.main_v106) = Cert.RMergeIdeal.Read.val_main_v106 (F := Ideal) (m' ((c.tc : Thread Cert.RMergeIdeal.nD Cert.RMergeIdeal.τ).loc Cert.RMergeIdeal.main_arg0)) (m' ((c.tc : Thread Cert.RMergeIdeal.nD Cert.RMergeIdeal.τ).loc Cert.RMergeIdeal.main_arg2)) (m' ((c.tc : Thread Cert.RMergeIdeal.nD Cert.RMergeIdeal.τ).loc Cert.RMergeIdeal.main_arg4)) (m' ((c.tc : Thread Cert.RMergeIdeal.nD Cert.RMergeIdeal.τ).loc Cert.RMergeIdeal.main_arg5)) (m' ((c.tc : Thread Cert.RMergeIdeal.nD Cert.RMergeIdeal.τ).loc Cert.RMergeIdeal.main_arg6)) (m' ((c.tc : Thread Cert.RMergeIdeal.nD Cert.RMergeIdeal.τ).loc Cert.RMergeIdeal.main_arg7)) (m' ((c.tc : Thread Cert.RMergeIdeal.nD Cert.RMergeIdeal.τ).loc Cert.RMergeIdeal.main_arg8)) (m' ((c.tc : Thread Cert.RMergeIdeal.nD Cert.RMergeIdeal.τ).loc Cert.RMergeIdeal.main_arg9))
      ∧ r.2.mem ((c.tc : Thread Cert.RMergeIdeal.nD Cert.RMergeIdeal.τ).loc Cert.RMergeIdeal.main_v122) = Cert.RMergeIdeal.Read.val_main_v122 (F := Ideal) (m' ((c.tc : Thread Cert.RMergeIdeal.nD Cert.RMergeIdeal.τ).loc Cert.RMergeIdeal.main_arg0)) (m' ((c.tc : Thread Cert.RMergeIdeal.nD Cert.RMergeIdeal.τ).loc Cert.RMergeIdeal.main_arg2)) (m' ((c.tc : Thread Cert.RMergeIdeal.nD Cert.RMergeIdeal.τ).loc Cert.RMergeIdeal.main_arg4)) (m' ((c.tc : Thread Cert.RMergeIdeal.nD Cert.RMergeIdeal.τ).loc Cert.RMergeIdeal.main_arg5)) (m' ((c.tc : Thread Cert.RMergeIdeal.nD Cert.RMergeIdeal.τ).loc Cert.RMergeIdeal.main_arg6)) (m' ((c.tc : Thread Cert.RMergeIdeal.nD Cert.RMergeIdeal.τ).loc Cert.RMergeIdeal.main_arg7)) (m' ((c.tc : Thread Cert.RMergeIdeal.nD Cert.RMergeIdeal.τ).loc Cert.RMergeIdeal.main_arg8)) (m' ((c.tc : Thread Cert.RMergeIdeal.nD Cert.RMergeIdeal.τ).loc Cert.RMergeIdeal.main_arg9))
      ∧ r.2.mem ((c.tc : Thread Cert.RMergeIdeal.nD Cert.RMergeIdeal.τ).loc Cert.RMergeIdeal.main_arg0) = (m' ((c.tc : Thread Cert.RMergeIdeal.nD Cert.RMergeIdeal.τ).loc Cert.RMergeIdeal.main_arg0))
      ∧ r.2.mem ((c.tc : Thread Cert.RMergeIdeal.nD Cert.RMergeIdeal.τ).loc Cert.RMergeIdeal.main_arg1) = (m' ((c.tc : Thread Cert.RMergeIdeal.nD Cert.RMergeIdeal.τ).loc Cert.RMergeIdeal.main_arg1))
      ∧ r.2.mem ((c.tc : Thread Cert.RMergeIdeal.nD Cert.RMergeIdeal.τ).loc Cert.RMergeIdeal.main_arg2) = (m' ((c.tc : Thread Cert.RMergeIdeal.nD Cert.RMergeIdeal.τ).loc Cert.RMergeIdeal.main_arg2))
      ∧ r.2.mem ((c.tc : Thread Cert.RMergeIdeal.nD Cert.RMergeIdeal.τ).loc Cert.RMergeIdeal.main_arg3) = (m' ((c.tc : Thread Cert.RMergeIdeal.nD Cert.RMergeIdeal.τ).loc Cert.RMergeIdeal.main_arg3))
      ∧ r.2.mem ((c.tc : Thread Cert.RMergeIdeal.nD Cert.RMergeIdeal.τ).loc Cert.RMergeIdeal.main_arg4) = (m' ((c.tc : Thread Cert.RMergeIdeal.nD Cert.RMergeIdeal.τ).loc Cert.RMergeIdeal.main_arg4))
      ∧ r.2.mem ((c.tc : Thread Cert.RMergeIdeal.nD Cert.RMergeIdeal.τ).loc Cert.RMergeIdeal.main_arg5) = (m' ((c.tc : Thread Cert.RMergeIdeal.nD Cert.RMergeIdeal.τ).loc Cert.RMergeIdeal.main_arg5))
      ∧ r.2.mem ((c.tc : Thread Cert.RMergeIdeal.nD Cert.RMergeIdeal.τ).loc Cert.RMergeIdeal.main_arg6) = (m' ((c.tc : Thread Cert.RMergeIdeal.nD Cert.RMergeIdeal.τ).loc Cert.RMergeIdeal.main_arg6))
      ∧ r.2.mem ((c.tc : Thread Cert.RMergeIdeal.nD Cert.RMergeIdeal.τ).loc Cert.RMergeIdeal.main_arg7) = (m' ((c.tc : Thread Cert.RMergeIdeal.nD Cert.RMergeIdeal.τ).loc Cert.RMergeIdeal.main_arg7))
      ∧ r.2.mem ((c.tc : Thread Cert.RMergeIdeal.nD Cert.RMergeIdeal.τ).loc Cert.RMergeIdeal.main_arg8) = (m' ((c.tc : Thread Cert.RMergeIdeal.nD Cert.RMergeIdeal.τ).loc Cert.RMergeIdeal.main_arg8))
      ∧ r.2.mem ((c.tc : Thread Cert.RMergeIdeal.nD Cert.RMergeIdeal.τ).loc Cert.RMergeIdeal.main_arg9) = (m' ((c.tc : Thread Cert.RMergeIdeal.nD Cert.RMergeIdeal.τ).loc Cert.RMergeIdeal.main_arg9)) := by
  refine (θ_run _ _ _).mono (fun r h c => ?_) (Cert.RMergeIdeal.Value.run m' ρ')
  obtain ⟨h0, h1, h2, h3, h4, h5, h6, hk⟩ := h c
  exact ⟨h0.trans (Cert.RMergeIdeal.Read.val_main_v123_eq _), h1.trans (Cert.RMergeIdeal.Read.val_main_v124_eq _), h2.trans (Cert.RMergeIdeal.Read.val_main_v125_eq _), h3.trans (Cert.RMergeIdeal.Read.val_main_v126_eq _), h4.trans (Cert.RMergeIdeal.Read.val_main_v111_eq _), h5.trans (Cert.RMergeIdeal.Read.val_main_v106_eq _), h6.trans (Cert.RMergeIdeal.Read.val_main_v122_eq _), hk⟩

/-- The pair's value claim. -/
theorem pair : Cert.algebraic_KMergeIdeal_RMergeIdeal_pre_finite_merge := by
  pair_intro
  · run_from run m g hpre
  · refine (θ_run _ _ _).mono (fun r h c => ?_) (runR m' g')
    obtain ⟨e0, e1, e2, e3, e4, e5, e6, e7, e8, e9⟩ := hagree c
    obtain ⟨h0, h1, h2, h3, h4, h5, h6, hk⟩ := h c
    exact ⟨h0.trans (by rw [e0, e5, e9]), h1.trans (by rw [e0, e5, e9]), h2.trans (by rw [e0, e1, e2, e3, e4, e5, e6, e7, e8, e9]),
      h3.trans (by rw [e0, e1, e3, e5, e9]), h4.trans (by rw [e0, e3, e5, e9]), h5.trans (by rw [e0, e2, e4, e5, e6, e7, e8, e9]),
      h6.trans (by rw [e0, e2, e4, e5, e6, e7, e8, e9]), hk⟩

end Cert.KMergeIdeal.Val

end
-- ==== Proof.Mlp.Pay.lean ====
/- The calls of the multilayer perceptron: what each body computes, row by row. -/
module

public import proofs.«01_k».proof.Proof.Gen.KMlpIdeal.Frame
public import Idealize.ShloMosaic.Lib.Pipeline.ValueKit
public import Idealize.ShloMosaic.Lib.Claim

@[expose] public section

set_option maxRecDepth 16384

noncomputable section

namespace Cert.KMlpIdeal.Val

open Idealize.ShloMosaic Idealize.ShloMosaic.TcCoe Idealize.SL.Sem
open Cert.KMlpIdeal Cert.KMlpIdeal.Gen

/-! ## The expressions -/

/-- The residual's scale. -/
abbrev alpha : EReal := Ideal.ofBits .f32 0x3F9837F0#32
/-- The number of lanes of a row. -/
abbrev lanes : EReal := Ideal.ofBits .f32 0x44800000#32

/-- The logistic function through the hyperbolic tangent. -/
def sgm (x : EReal) : EReal :=
  Ideal.ofBits .f32 0x3F000000#32 * Ideal.tanh (Ideal.ofBits .f32 0x3F000000#32 * x) + Ideal.ofBits .f32 0x3F000000#32

/-- A row times a matrix. -/
def dot (x : Fin 1024 → EReal) (W : FVec Ideal S1024x1024 .bf16) (k : Fin 1024) : EReal := ∑ j : Fin 1024, x j * W (ix2 j k)
def dotW (x : Fin 4096 → EReal) (W : FVec Ideal S4096x1024 .bf16) (k : Fin 1024) : EReal := ∑ j : Fin 4096, x j * W (ix2 j k)

/-- A row of the two branches merged by their gates. -/
def mix (y u a b : Fin 1024 → EReal) (WA WB : FVec Ideal S1024x1024 .bf16) (k : Fin 1024) : EReal :=
  sgm (a k) * dot y WA k + sgm (b k) * dot u WB k

/-- A row of the first residual. -/
def res1 (x y u a b : Fin 1024 → EReal) (WA WB WO : FVec Ideal S1024x1024 .bf16) (k : Fin 1024) : EReal :=
  alpha * x k + dot (mix y u a b WA WB) WO k

/-- A row less its mean, the reciprocal deviation, and the normalized row. -/
def cen (z : Fin 1024 → EReal) (k : Fin 1024) : EReal := z k - Ideal.div (∑ j : Fin 1024, z j) lanes
def dev (z : Fin 1024 → EReal) : EReal :=
  Ideal.rsqrt (Ideal.div (∑ j : Fin 1024, cen z j * cen z j) lanes + Ideal.ofBits .f32 0x3727C5AC#32)
def nrm (z : Fin 1024 → EReal) (k : Fin 1024) : EReal := cen z k * dev z

/-- A row of the second residual. -/
def res2 (h : Fin 4096 → EReal) (x g b : Fin 1024 → EReal) (W : FVec Ideal S4096x1024 .bf16) (k : Fin 1024) : EReal :=
  alpha * (x k * g k + b k) + dotW h W k

/-- A row of the difference of the output and the target, and of the loss's cotangent. -/
def off (z g b y : Fin 1024 → EReal) (k : Fin 1024) : EReal := nrm z k * g k + b k - y k
def cot (z g b y : Fin 1024 → EReal) (k : Fin 1024) : EReal := off z g b y k * Ideal.ofBits .f32 0x3A800000#32

/-- A row of the normalization's gradient, from the cotangent `d` at its output. -/
def lng (rs : EReal) (xh gam d : Fin 1024 → EReal) (k : Fin 1024) : EReal :=
  rs * (d k * gam k - Ideal.div (∑ j : Fin 1024, d j * gam j) lanes
    - xh k * Ideal.div (∑ j : Fin 1024, d j * gam j * xh j) lanes)

/-- A row of the cotangent at the first normalization's output. -/
def dx1 (u : Fin 4096 → EReal) (z : Fin 1024 → EReal) (W : FVec Ideal S4096x1024 .bf16) (k : Fin 1024) : EReal :=
  dotW u W k + alpha * z k

/-! ## The values the bodies compute, at variable blocks -/

section First

variable (v0 v5 v14 v25 : Vec Ideal S512x1024 .bf16) (v2 v7 v39 : Vec Ideal S1024x1024 .bf16) (v42 : Vec Ideal S512x1024 .f32)
variable (v64 v68 : Vec Ideal S1x1024 .f32) (r : Fin 512) (k : Fin 1024)

theorem q0_2 : k0_pay2 v0 v2 (ix2 r k) = dot (fun j => v0 (ix2 r j)) v2 k := by
  pointwise [k0_pay2, dot]
theorem q0_3 : k0_pay3 v5 v7 (ix2 r k) = dot (fun j => v5 (ix2 r j)) v7 k := by
  pointwise [k0_pay3, dot]
theorem q0_4 : k0_pay4 v0 v2 (ix2 r k) = dot (fun j => v0 (ix2 r j)) v2 k := by
  pointwise [k0_pay4, q0_2]
theorem q0_5 : k0_pay5 v5 v7 (ix2 r k) = dot (fun j => v5 (ix2 r j)) v7 k := by
  pointwise [k0_pay5, q0_3]
/-- The merged block's text, once. -/
abbrev p8 : FVec Ideal S512x1024 .bf16 := k0_pay8 (k0_pay3 v5 v7) (k0_pay6 v0 v2 v14) (k0_pay7 v25) (Ideal.ofBits .f32 0x3F000000#32)
theorem q0_8 : p8 v0 v5 v14 v25 v2 v7 (ix2 r k)
    = mix (fun j => v0 (ix2 r j)) (fun j => v5 (ix2 r j)) (fun j => v14 (ix2 r j)) (fun j => v25 (ix2 r j)) v2 v7 k := by
  pointwise [p8, k0_pay8, k0_pay6, k0_pay7, q0_2, q0_3, mix, sgm]
/-- The first residual's row. -/
abbrev zr1 (r : Fin 512) : Fin 1024 → EReal := res1 (fun j => v42 (ix2 r j)) (fun j => v0 (ix2 r j)) (fun j => v5 (ix2 r j))
  (fun j => v14 (ix2 r j)) (fun j => v25 (ix2 r j)) v2 v7 v39
theorem q0_9 : k0_pay9 (k0_pay3 v5 v7) (k0_pay6 v0 v2 v14) (k0_pay7 v25) (Ideal.ofBits .f32 0x3F000000#32) v39 v42 (ix2 r k)
    = cen (zr1 v0 v5 v14 v25 v2 v7 v39 v42 r) k := by
  have h := q0_8 v0 v5 v14 v25 v2 v7
  simp only [p8] at h
  pointwise [k0_pay9, h, cen, res1, dot]
theorem q0_10 : k0_pay10 (k0_pay3 v5 v7) (k0_pay6 v0 v2 v14) (k0_pay7 v25) (Ideal.ofBits .f32 0x3F000000#32) v39 v42 (ix2 r 0)
    = dev (zr1 v0 v5 v14 v25 v2 v7 v39 v42 r) := by
  pointwise [k0_pay10, q0_9, dev]
theorem q0_11 : k0_pay11 (k0_pay3 v5 v7) (k0_pay6 v0 v2 v14) (k0_pay7 v25) (Ideal.ofBits .f32 0x3F000000#32) v39 v42 (ix2 r k)
    = nrm (zr1 v0 v5 v14 v25 v2 v7 v39 v42 r) k := by
  pointwise [k0_pay11, q0_9, q0_10, nrm]
theorem q0_1 : k0_pay1 (k0_pay12 (k0_pay3 v5 v7) (k0_pay6 v0 v2 v14) (k0_pay7 v25) (Ideal.ofBits .f32 0x3F000000#32) v39 v42 v64) v68 (ix2 r k)
    = nrm (zr1 v0 v5 v14 v25 v2 v7 v39 v42 r) k * v64 (ix2 0 k) + v68 (ix2 0 k) := by
  pointwise [k0_pay1, k0_pay12, q0_11]

end First

section Loss

variable (v3 : Vec Ideal S512x4096 .bf16) (v5 : Vec Ideal S4096x1024 .bf16) (v8 v45 : Vec Ideal S512x1024 .f32)
variable (v10 v14 v37 v41 a : Vec Ideal S1x1024 .f32) (r : Fin 512) (k : Fin 1024)

/-- The second residual's row. -/
abbrev zr2 (r : Fin 512) : Fin 1024 → EReal := res2 (fun j => v3 (ix2 r j)) (fun j => v8 (ix2 r j)) (fun j => v10 (ix2 0 j)) (fun j => v14 (ix2 0 j)) v5

theorem q2_3 : k2_pay3 v3 v5 v8 v10 v14 (ix2 r k) = cen (zr2 v3 v5 v8 v10 v14 r) k := by
  pointwise [k2_pay3, cen, res2, dotW]
theorem q2_4 : k2_pay4 v3 v5 v8 v10 v14 (ix2 r 0) = dev (zr2 v3 v5 v8 v10 v14 r) := by
  pointwise [k2_pay4, q2_3, dev]
theorem q2_5 : k2_pay5 v3 v5 v8 v10 v14 (ix2 r k) = nrm (zr2 v3 v5 v8 v10 v14 r) k := by
  pointwise [k2_pay5, q2_3, q2_4, nrm]
theorem q2_7 : k2_pay7 (k2_pay5 v3 v5 v8 v10 v14) v37 v41 v45 (ix2 r k)
    = off (zr2 v3 v5 v8 v10 v14 r) (fun j => v37 (ix2 0 j)) (fun j => v41 (ix2 0 j)) (fun j => v45 (ix2 r j)) k := by
  pointwise [k2_pay7, k2_pay6, q2_5, off]
theorem q2_8 : k2_pay8 (k2_pay5 v3 v5 v8 v10 v14) v37 v41 v45 (ix2 r k)
    = cot (zr2 v3 v5 v8 v10 v14 r) (fun j => v37 (ix2 0 j)) (fun j => v41 (ix2 0 j)) (fun j => v45 (ix2 r j)) k := by
  pointwise [k2_pay8, q2_7, cot]
theorem q2_9 : k2_pay9 (k2_pay5 v3 v5 v8 v10 v14) v37 v41 v45 a (ix2 0 k) = a (ix2 0 k) + ∑ r : Fin 512,
    cot (zr2 v3 v5 v8 v10 v14 r) (fun j => v37 (ix2 0 j)) (fun j => v41 (ix2 0 j)) (fun j => v45 (ix2 r j)) k * nrm (zr2 v3 v5 v8 v10 v14 r) k := by
  pointwise [k2_pay9, q2_8, q2_5]
theorem q2_10 : k2_pay10 (k2_pay5 v3 v5 v8 v10 v14) v37 v41 v45 a (ix2 0 k) = a (ix2 0 k) + ∑ r : Fin 512,
    cot (zr2 v3 v5 v8 v10 v14 r) (fun j => v37 (ix2 0 j)) (fun j => v41 (ix2 0 j)) (fun j => v45 (ix2 r j)) k := by
  pointwise [k2_pay10, q2_8]
theorem q2_11 : k2_pay11 (k2_pay5 v3 v5 v8 v10 v14) v37 v41 v45 a (ix2 0 k) = a (ix2 0 k) + ∑ r : Fin 512,
    off (zr2 v3 v5 v8 v10 v14 r) (fun j => v37 (ix2 0 j)) (fun j => v41 (ix2 0 j)) (fun j => v45 (ix2 r j)) k
      * off (zr2 v3 v5 v8 v10 v14 r) (fun j => v37 (ix2 0 j)) (fun j => v41 (ix2 0 j)) (fun j => v45 (ix2 r j)) k := by
  pointwise [k2_pay11, q2_7]
theorem q2_12 : k2_pay12 (k2_pay5 v3 v5 v8 v10 v14) v37 v41 v45 (ix2 r k)
    = cot (zr2 v3 v5 v8 v10 v14 r) (fun j => v37 (ix2 0 j)) (fun j => v41 (ix2 0 j)) (fun j => v45 (ix2 r j)) k * v37 (ix2 0 k) := by
  pointwise [k2_pay12, k2_pay6, q2_8]
theorem q2_1 : k2_pay1 (k2_pay4 v3 v5 v8 v10 v14) (k2_pay5 v3 v5 v8 v10 v14) (k2_pay12 (k2_pay5 v3 v5 v8 v10 v14) v37 v41 v45)
      (k2_pay13 (k2_pay5 v3 v5 v8 v10 v14) v37 v41 v45) (ix2 r k)
    = lng (dev (zr2 v3 v5 v8 v10 v14 r)) (nrm (zr2 v3 v5 v8 v10 v14 r)) (fun j => v37 (ix2 0 j))
      (cot (zr2 v3 v5 v8 v10 v14 r) (fun j => v37 (ix2 0 j)) (fun j => v41 (ix2 0 j)) (fun j => v45 (ix2 r j))) k := by
  pointwise [k2_pay1, k2_pay13, q2_12, q2_5, q2_4, lng]

end Loss

section Back

variable (v3 : Vec Ideal S512x4096 .bf16) (v5 : Vec Ideal S4096x1024 .bf16) (v8 : Vec Ideal S512x1024 .bf16) (v14 : Vec Ideal S512x1024 .f32)
variable (v29 : Vec Ideal S512x1 .f32) (v31 a : Vec Ideal S1x1024 .f32) (r : Fin 512) (k : Fin 1024)

theorem q3_3 : k3_pay3 v3 v5 v8 (ix2 r k) = dx1 (fun j => v3 (ix2 r j)) (fun j => v8 (ix2 r j)) v5 k := by
  pointwise [k3_pay3, dx1, dotW]
theorem q3_5 : k3_pay5 v3 v5 v8 v14 a (ix2 0 k) = a (ix2 0 k) + ∑ r : Fin 512,
    dx1 (fun j => v3 (ix2 r j)) (fun j => v8 (ix2 r j)) v5 k * v14 (ix2 r k) := by
  pointwise [k3_pay5, k3_pay4, q3_3]
theorem q3_6 : k3_pay6 v3 v5 v8 a (ix2 0 k) = a (ix2 0 k) + ∑ r : Fin 512,
    dx1 (fun j => v3 (ix2 r j)) (fun j => v8 (ix2 r j)) v5 k := by
  pointwise [k3_pay6, q3_3]
theorem q3_1 : k3_pay1 (k3_pay3 v3 v5 v8) (k3_pay4 v14) (k3_pay7 v29) v31 (ix2 r k)
    = lng (v29 (ix2 r 0)) (fun j => v14 (ix2 r j)) (fun j => v31 (ix2 0 j)) (dx1 (fun j => v3 (ix2 r j)) (fun j => v8 (ix2 r j)) v5) k := by
  pointwise [k3_pay1, k3_pay4, k3_pay7, q3_3, lng]

end Back

end Cert.KMlpIdeal.Val

end
-- ==== Proof.Mlp.First.lean ====
/- The calls of the multilayer perceptron: the arrays the forward calls leave. -/
module

public import proofs.«01_k».proof.Proof.Mlp.Pay
public import Idealize.ShloMosaic.Lib.Pipeline.ValueKit
public import Idealize.ShloMosaic.Lib.Claim

@[expose] public section

set_option maxRecDepth 16384

noncomputable section

namespace Cert.KMlpIdeal.Val

open Idealize.ShloMosaic Idealize.ShloMosaic.TcCoe Idealize.SL.Sem
open Cert.KMlpIdeal Cert.KMlpIdeal.Gen
open Idealize.ShloMosaic.Pipeline (Dat)

/-! ## The arrays -/

section Expr

variable (Y U : FVec Ideal S8192x1024 .bf16) (P : FVec Ideal S8192x7168 .bf16) (X : FVec Ideal S8192x1024 .f32)
variable (WA WB WO : FVec Ideal S1024x1024 .bf16) (VEC : FVec Ideal S8x1024 .f32)

/-- Row `r` of an array. -/
abbrev ln (A : FVec Ideal S8192x1024 .bf16) (r : Fin 8192) (j : Fin 1024) : EReal := A (ix2 r j)
def gA (r : Fin 8192) (j : Fin 1024) : EReal := P (ix2 r ⟨5120 + j.val, by omega⟩)
def gB (r : Fin 8192) (j : Fin 1024) : EReal := P (ix2 r ⟨6144 + j.val, by omega⟩)
def vrow (q : Fin 8) (j : Fin 1024) : EReal := VEC (ix2 q j)

/-- Row `r` of the first residual. -/
def zA (r : Fin 8192) : Fin 1024 → EReal := res1 (fun j => X (ix2 r j)) (ln Y r) (ln U r) (gA P r) (gB P r) WA WB WO

def brA : FVec Ideal S8192x1024 .bf16 := fun i => dot (ln Y (i 0)) WA (i 1)
def mixA : FVec Ideal S8192x1024 .bf16 := fun i => mix (ln Y (i 0)) (ln U (i 0)) (gA P (i 0)) (gB P (i 0)) WA WB (i 1)
def xhA : FVec Ideal S8192x1024 .f32 := fun i => nrm (zA Y U P X WA WB WO (i 0)) (i 1)
def rsA : FVec Ideal S8192x1 .f32 := fun i => dev (zA Y U P X WA WB WO (i 0))
def x1A : FVec Ideal S8192x1024 .bf16 := fun i => nrm (zA Y U P X WA WB WO (i 0)) (i 1) * vrow VEC 3 (i 1) + vrow VEC 4 (i 1)

end Expr

/-- The positive part of the product with the up weights, squared. -/
def hid (X1 : FVec Ideal S8192x1024 .bf16) (WU : FVec Ideal S1024x4096 .bf16) : FVec Ideal S8192x4096 .bf16 := fun i =>
  (fun p : EReal => p * p) (max (∑ j : Fin 1024, X1 (ix2 (i 0) j) * WU (ix2 j (i 1))) (Ideal.ofBits .f32 0x00000000#32))

theorem res1_congr {x x' y y' u u' a a' b b' : Fin 1024 → EReal} {A A' B B' O O' : FVec Ideal S1024x1024 .bf16} (h1 : x = x') (h2 : y = y')
    (h3 : u = u') (h4 : a = a') (h5 : b = b') (h6 : A = A') (h7 : B = B') (h8 : O = O') : res1 x y u a b A B O = res1 x' y' u' a' b' A' B' O' := by
  subst h1 h2 h3 h4 h5 h6 h7 h8; rfl
theorem mix_congr {y y' u u' a a' b b' : Fin 1024 → EReal} {A A' B B' : FVec Ideal S1024x1024 .bf16} (h2 : y = y')
    (h3 : u = u') (h4 : a = a') (h5 : b = b') (h6 : A = A') (h7 : B = B') (k : Fin 1024) : mix y u a b A B k = mix y' u' a' b' A' B' k := by
  subst h2 h3 h4 h5 h6 h7; rfl

section First

variable (V : (c : Dev nD) → (b : Ref sig .tc) → Buf (Elt Ideal) ((c : Thread nD τ).loc b))

theorem idx0 : ∀ t : Fin cfg0.N, (win0_0.index t = ![t.val, 0] ∧ win0_1.index t = ![t.val, 0] ∧ win0_2.index t = ![t.val, 5]
    ∧ win0_3.index t = ![t.val, 6] ∧ win0_4.index t = ![t.val, 0] ∧ win0_5.index t = ![0, 0] ∧ win0_6.index t = ![0, 0]
    ∧ win0_7.index t = ![0, 0] ∧ win0_8.index t = ![0, 0]) ∧ (win0_9.index t = ![t.val, 0] ∧ win0_10.index t = ![t.val, 0]
    ∧ win0_11.index t = ![t.val, 0] ∧ win0_12.index t = ![t.val, 0] ∧ win0_13.index t = ![t.val, 0] ∧ win0_14.index t = ![t.val, 0]) :=
  (by decide +kernel : ∀ t : Fin grid0.N, _)

/-- Token `r` of the block at `t`. -/
def tok0 (t : Fin cfg0.N) (r : Fin 512) : Fin 8192 := ⟨t.val * 512 + r.val, by
  have h : t.val < 16 := t.isLt
  omega⟩

variable (c : Dev nD) (t : Fin cfg0.N) (r : Fin 512) (k : Fin 1024)

theorem b0_0 : (iblk0 V c 0 t : Vec Ideal S512x1024 _) (ix2 r k) = V c main_v10 (ix2 (tok0 t r) k) := by
  blk_point [iblk0, tok0, idx0 t]
theorem b0_1 : (iblk0 V c 1 t : Vec Ideal S512x1024 _) (ix2 r k) = V c main_v11 (ix2 (tok0 t r) k) := by
  blk_point [iblk0, tok0, idx0 t]
theorem b0_2 : (iblk0 V c 2 t : Vec Ideal S512x1024 _) (ix2 r k) = gA (V c main_v12) (tok0 t r) k := by
  unfold gA
  blk_point [iblk0, tok0, idx0 t]
theorem b0_3 : (iblk0 V c 3 t : Vec Ideal S512x1024 _) (ix2 r k) = gB (V c main_v12) (tok0 t r) k := by
  unfold gB
  blk_point [iblk0, tok0, idx0 t]
theorem b0_4 : (iblk0 V c 4 t : Vec Ideal S512x1024 _) (ix2 r k) = V c main_arg3 (ix2 (tok0 t r) k) := by
  blk_point [iblk0, tok0, idx0 t]
theorem b0_5 : (iblk0 V c 5 t : Vec Ideal S1024x1024 _) = V c main_v13 := by
  funext i
  blk_point [iblk0, idx0 t]
theorem b0_6 : (iblk0 V c 6 t : Vec Ideal S1024x1024 _) = V c main_v14 := by
  funext i
  blk_point [iblk0, idx0 t]
theorem b0_7 : (iblk0 V c 7 t : Vec Ideal S1024x1024 _) = V c main_v15 := by
  funext i
  blk_point [iblk0, idx0 t]
theorem b0_8 : (iblk0 V c 8 t : Vec Ideal S8x1024 _) = V c main_v9 := by
  funext i
  blk_point [iblk0, idx0 t]

theorem z0 : zr1 (iblk0 V c 0 t) (iblk0 V c 1 t) (iblk0 V c 2 t) (iblk0 V c 3 t) (iblk0 V c 5 t) (iblk0 V c 6 t) (iblk0 V c 7 t) (iblk0 V c 4 t) r
    = zA (V c main_v10) (V c main_v11) (V c main_v12) (V c main_arg3) (V c main_v13) (V c main_v14) (V c main_v15) (tok0 t r) :=
  res1_congr (funext (b0_4 V c t r)) (funext (b0_0 V c t r)) (funext (b0_1 V c t r)) (funext (b0_2 V c t r)) (funext (b0_3 V c t r))
    (b0_5 V c t) (b0_6 V c t) (b0_7 V c t)

/-- Row `n` of the packed vectors, as the bodies load it. -/
abbrev vec3 (X : Vec Ideal S8x1024 .f32) : Vec Ideal S1x1024 .f32 := View.ld X (Rect.unit (s := S8x1024) ![3, 0] S1x1024.size inb_S8x1024_S1x1024_3_0)
abbrev vec4 (X : Vec Ideal S8x1024 .f32) : Vec Ideal S1x1024 .f32 := View.ld X (Rect.unit (s := S8x1024) ![4, 0] S1x1024.size inb_S8x1024_S1x1024_4_0)
theorem vec3_at (X : Vec Ideal S8x1024 .f32) (k : Fin 1024) : vec3 X (ix2 0 k) = X (ix2 3 k) := by
  show X _ = _
  refine congrArg X ?_
  blk_ext
  all_goals first | rfl | simp [Rect.unit, LoadRect.idx]
theorem vec4_at (X : Vec Ideal S8x1024 .f32) (k : Fin 1024) : vec4 X (ix2 0 k) = X (ix2 4 k) := by
  show X _ = _
  refine congrArg X ?_
  blk_ext
  all_goals first | rfl | simp [Rect.unit, LoadRect.idx]

theorem k9 (y : S512x1024.Idx) : k0_pay4 (iblk0 V c 0 t) (iblk0 V c 5 t) y = brA (V c main_v10) (V c main_v13) (ix2 (tok0 t (y 0)) (y 1)) := by
  obtain ⟨r, k, rfl⟩ : ∃ r k, y = ix2 r k := ⟨y 0, y 1, by blk_ext⟩
  exact (q0_4 _ _ r k).trans (congrArg₂ (fun a W => dot a W k) (funext (b0_0 V c t r)) (b0_5 V c t))
theorem k10 (y : S512x1024.Idx) : k0_pay5 (iblk0 V c 1 t) (iblk0 V c 6 t) y = brA (V c main_v11) (V c main_v14) (ix2 (tok0 t (y 0)) (y 1)) := by
  obtain ⟨r, k, rfl⟩ : ∃ r k, y = ix2 r k := ⟨y 0, y 1, by blk_ext⟩
  exact (q0_5 _ _ r k).trans (congrArg₂ (fun a W => dot a W k) (funext (b0_1 V c t r)) (b0_6 V c t))
theorem k11 (y : S512x1024.Idx) : p8 (iblk0 V c 0 t) (iblk0 V c 1 t) (iblk0 V c 2 t) (iblk0 V c 3 t) (iblk0 V c 5 t) (iblk0 V c 6 t) y
    = mixA (V c main_v10) (V c main_v11) (V c main_v12) (V c main_v13) (V c main_v14) (ix2 (tok0 t (y 0)) (y 1)) := by
  obtain ⟨r, k, rfl⟩ : ∃ r k, y = ix2 r k := ⟨y 0, y 1, by blk_ext⟩
  exact (q0_8 _ _ _ _ _ _ r k).trans (mix_congr (funext (b0_0 V c t r)) (funext (b0_1 V c t r)) (funext (b0_2 V c t r)) (funext (b0_3 V c t r))
    (b0_5 V c t) (b0_6 V c t) k)
theorem k12 (y : S512x1024.Idx) : k0_pay11 (k0_pay3 (iblk0 V c 1 t) (iblk0 V c 6 t)) (k0_pay6 (iblk0 V c 0 t) (iblk0 V c 5 t) (iblk0 V c 2 t))
      (k0_pay7 (iblk0 V c 3 t)) (Ideal.ofBits .f32 0x3F000000#32) (iblk0 V c 7 t) (iblk0 V c 4 t) y
    = xhA (V c main_v10) (V c main_v11) (V c main_v12) (V c main_arg3) (V c main_v13) (V c main_v14) (V c main_v15) (ix2 (tok0 t (y 0)) (y 1)) := by
  obtain ⟨r, k, rfl⟩ : ∃ r k, y = ix2 r k := ⟨y 0, y 1, by blk_ext⟩
  exact (q0_11 _ _ _ _ _ _ _ _ r k).trans (congrArg (fun z => nrm z k) (z0 V c t r))
theorem k13 (y : S512x1.Idx) : k0_pay10 (k0_pay3 (iblk0 V c 1 t) (iblk0 V c 6 t)) (k0_pay6 (iblk0 V c 0 t) (iblk0 V c 5 t) (iblk0 V c 2 t))
      (k0_pay7 (iblk0 V c 3 t)) (Ideal.ofBits .f32 0x3F000000#32) (iblk0 V c 7 t) (iblk0 V c 4 t) y
    = rsA (V c main_v10) (V c main_v11) (V c main_v12) (V c main_arg3) (V c main_v13) (V c main_v14) (V c main_v15) (ix2 (tok0 t (y 0)) (y 1)) := by
  obtain ⟨r, rfl⟩ : ∃ r, y = ix2 r 0 := ⟨y 0, by
    blk_ext⟩
  exact (q0_10 _ _ _ _ _ _ _ _ r).trans (congrArg dev (z0 V c t r))
theorem k14 (y : S512x1024.Idx) : k0_pay1 (k0_pay12 (k0_pay3 (iblk0 V c 1 t) (iblk0 V c 6 t)) (k0_pay6 (iblk0 V c 0 t) (iblk0 V c 5 t) (iblk0 V c 2 t))
      (k0_pay7 (iblk0 V c 3 t)) (Ideal.ofBits .f32 0x3F000000#32) (iblk0 V c 7 t) (iblk0 V c 4 t) (vec3 (iblk0 V c 8 t))) (vec4 (iblk0 V c 8 t)) y
    = x1A (V c main_v10) (V c main_v11) (V c main_v12) (V c main_arg3) (V c main_v13) (V c main_v14) (V c main_v15) (V c main_v9) (ix2 (tok0 t (y 0)) (y 1)) := by
  obtain ⟨r, k, rfl⟩ : ∃ r k, y = ix2 r k := ⟨y 0, y 1, by blk_ext⟩
  refine (q0_1 _ _ _ _ _ _ _ _ _ _ r k).trans (congrArg₂ (· + ·) (congrArg₂ (· * ·) (congrArg (fun z => nrm z k) (z0 V c t r)) ?_) ?_)
  · exact (vec3_at _ k).trans (congrFun (b0_8 V c t) _)
  · exact (vec4_at _ k).trans (congrFun (b0_8 V c t) _)

/-- The values the body names, over the whole blocks. -/
theorem n13 (x0 x1 x2 x3) (x4 : Vec Ideal S512x1024 .f32) (x5 x6 x7) (x8 : Vec Ideal S8x1024 .f32) : k0_pay13 (F := Ideal) x0 x1 x2 x3 x4 x5 x6 x7 x8 = k0_pay3 x1 x6 := by
  unfold k0_pay13
  simp (disch := decide) only [View.ld_unit_lit']
theorem n14 (x0 x1 x2 x3) (x4 : Vec Ideal S512x1024 .f32) (x5 x6 x7) (x8 : Vec Ideal S8x1024 .f32) : k0_pay14 (F := Ideal) x0 x1 x2 x3 x4 x5 x6 x7 x8 = k0_pay6 x0 x5 x2 := by
  unfold k0_pay14
  simp (disch := decide) only [View.ld_unit_lit']
theorem n15 (x0 x1 x2 x3) (x4 : Vec Ideal S512x1024 .f32) (x5 x6 x7) (x8 : Vec Ideal S8x1024 .f32) : k0_pay15 (F := Ideal) x0 x1 x2 x3 x4 x5 x6 x7 x8 = k0_pay7 x3 := by
  unfold k0_pay15
  simp (disch := decide) only [View.ld_unit_lit']

theorem f0_9 (c : Dev nD) : (dat0 V c).arrAt 9 cfg0.N = brA (V c main_v10) (V c main_v13) := by
  refine (dat0 V c).arrAt_eq_of_covers 9 _ (by decide +kernel) fun t _ y => ?_
  have he : ((cfg0.win 9).blk t).view.emb y = ix2 (tok0 t (y 0)) (y 1) := by blk_ext [tok0, idx0 t]
  blk_simp
  rw [after0_9]
  frame_out
  exact (k9 V c t y).trans (congrArg (brA (V c main_v10) (V c main_v13)) he.symm)
theorem f0_10 (c : Dev nD) : (dat0 V c).arrAt 10 cfg0.N = brA (V c main_v11) (V c main_v14) := by
  refine (dat0 V c).arrAt_eq_of_covers 10 _ (by decide +kernel) fun t _ y => ?_
  have he : ((cfg0.win 10).blk t).view.emb y = ix2 (tok0 t (y 0)) (y 1) := by blk_ext [tok0, idx0 t]
  blk_simp
  rw [after0_10]
  frame_out
  exact (k10 V c t y).trans (congrArg (brA (V c main_v11) (V c main_v14)) he.symm)
theorem f0_11 (c : Dev nD) : (dat0 V c).arrAt 11 cfg0.N = mixA (V c main_v10) (V c main_v11) (V c main_v12) (V c main_v13) (V c main_v14) := by
  refine (dat0 V c).arrAt_eq_of_covers 11 _ (by decide +kernel) fun t _ y => ?_
  have he : ((cfg0.win 11).blk t).view.emb y = ix2 (tok0 t (y 0)) (y 1) := by blk_ext [tok0, idx0 t]
  blk_simp
  rw [after0_11]
  frame_out [n13, n14, n15]
  exact (k11 V c t y).trans (congrArg (mixA (V c main_v10) (V c main_v11) (V c main_v12) (V c main_v13) (V c main_v14)) he.symm)
theorem f0_12 (c : Dev nD) : (dat0 V c).arrAt 12 cfg0.N = xhA (V c main_v10) (V c main_v11) (V c main_v12) (V c main_arg3) (V c main_v13) (V c main_v14) (V c main_v15) := by
  refine (dat0 V c).arrAt_eq_of_covers 12 _ (by decide +kernel) fun t _ y => ?_
  have he : ((cfg0.win 12).blk t).view.emb y = ix2 (tok0 t (y 0)) (y 1) := by blk_ext [tok0, idx0 t]
  blk_simp
  rw [after0_12]
  frame_out [n13, n14, n15]
  exact (k12 V c t y).trans (congrArg (xhA (V c main_v10) (V c main_v11) (V c main_v12) (V c main_arg3) (V c main_v13) (V c main_v14) (V c main_v15)) he.symm)
theorem f0_13 (c : Dev nD) : (dat0 V c).arrAt 13 cfg0.N = rsA (V c main_v10) (V c main_v11) (V c main_v12) (V c main_arg3) (V c main_v13) (V c main_v14) (V c main_v15) := by
  refine (dat0 V c).arrAt_eq_of_covers 13 _ (by decide +kernel) fun t _ y => ?_
  have he : ((cfg0.win 13).blk t).view.emb y = ix2 (tok0 t (y 0)) (y 1) := by blk_ext [tok0, idx0 t]
  blk_simp
  rw [after0_13]
  frame_out [n13, n14, n15]
  exact (k13 V c t y).trans (congrArg (rsA (V c main_v10) (V c main_v11) (V c main_v12) (V c main_arg3) (V c main_v13) (V c main_v14) (V c main_v15)) he.symm)
theorem f0_14 (c : Dev nD) : (dat0 V c).arrAt 14 cfg0.N = x1A (V c main_v10) (V c main_v11) (V c main_v12) (V c main_arg3) (V c main_v13) (V c main_v14) (V c main_v15) (V c main_v9) := by
  refine (dat0 V c).arrAt_eq_of_covers 14 _ (by decide +kernel) fun t _ y => ?_
  have he : ((cfg0.win 14).blk t).view.emb y = ix2 (tok0 t (y 0)) (y 1) := by blk_ext [tok0, idx0 t]
  blk_simp
  rw [after0_14]
  frame_out [n13, n14, n15]
  exact (k14 V c t y).trans (congrArg (x1A (V c main_v10) (V c main_v11) (V c main_v12) (V c main_arg3) (V c main_v13) (V c main_v14) (V c main_v15) (V c main_v9)) he.symm)

end First

section Up

variable (V : (c : Dev nD) → (b : Ref sig .tc) → Buf (Elt Ideal) ((c : Thread nD τ).loc b))

theorem idx1 : ∀ t : Fin cfg1.N, win1_0.index t = ![t.val % 8, 0] ∧ win1_1.index t = ![0, t.val / 8]
    ∧ win1_2.index t = ![t.val % 8, t.val / 8] ∧ win1_3.index t = ![t.val % 8, t.val / 8] :=
  (by decide +kernel : ∀ t : Fin grid1.N, _)

theorem f1_3 (c : Dev nD) : (dat1 V c).arrAt 3 cfg1.N = hid (V c main_v16_5) (V c main_v17) := by
  refine (dat1 V c).arrAt_eq_of_covers 3 _ (by decide +kernel) fun t _ y => ?_
  blk_simp
  rw [after1_3]
  frame_out
  pointwise [k1_pay3, k1_pay1, hid]
  blk_point [iblk1, idx1 t]

end Up

end Cert.KMlpIdeal.Val

end
-- ==== Proof.Mlp.Second.lean ====
/- The calls of the multilayer perceptron: the arrays the backward calls leave. -/
module

public import proofs.«01_k».proof.Proof.Mlp.First
public import Idealize.ShloMosaic.Lib.WritesUnit
public import Idealize.ShloMosaic.Lib.Pipeline.ValueKit
public import Idealize.ShloMosaic.Lib.Claim

@[expose] public section

set_option maxRecDepth 16384

noncomputable section

namespace Cert.KMlpIdeal.Val

open Idealize.ShloMosaic Idealize.ShloMosaic.TcCoe Idealize.SL.Sem
open Cert.KMlpIdeal Cert.KMlpIdeal.Gen
open Idealize.ShloMosaic.Pipeline (Dat)

/-! ## Rows stored over a buffer's contents -/

section Rows
variable (v : View sig .tc .vmem S8x1024 .f32) (f : v.ty.Contents (Elt Ideal))

theorem skip_row (b : ℕ) (inb) (w : Vec Ideal S1x1024 .f32) (L) (q : Fin 8) (k : Fin 1024) (h : q.val ≠ b) :
    v.read (Elt Ideal) (v.writes (Elt Ideal) f ((⟨Rect.unit (s := S8x1024) ![b, 0] S1x1024.size inb, w⟩ : View.Piece (Elt Ideal) S8x1024 .f32) :: L)) (ix2 q k)
      = v.read (Elt Ideal) (v.writes (Elt Ideal) f L) (ix2 q k) :=
  View.read_writes_cons_rows_of_not_mem v f inb w L (ix2 q k) rfl rfl (by show q.val < b ∨ b + 1 ≤ q.val; omega)

theorem hit_row (b : ℕ) (inb) (w : Vec Ideal S1x1024 .f32) (L) (q : Fin 8) (k : Fin 1024) (h : q.val = b) :
    v.read (Elt Ideal) (v.writes (Elt Ideal) f ((⟨Rect.unit (s := S8x1024) ![b, 0] S1x1024.size inb, w⟩ : View.Piece (Elt Ideal) S8x1024 .f32) :: L)) (ix2 q k)
      = w (ix2 0 k) :=
  View.read_writes_cons_rows_of_mem v f inb w L (ix2 q k) (ix2 0 k) rfl (by show q.val = b + 0; omega) rfl

theorem stack (L : List (View.Piece (Elt Ideal) S8x1024 .f32)) (inb0 inb1 inb2) (w0 w1 w2 : Vec Ideal S1x1024 .f32) (g0 g1 g2 : Fin 1024 → EReal)
    (h0 : ∀ k, w0 (ix2 0 k) = (show EReal from v.read (Elt Ideal) (v.writes (Elt Ideal) f L) (ix2 0 k)) + g0 k)
    (h1 : ∀ k, w1 (ix2 0 k) = (show EReal from v.read (Elt Ideal) (v.writes (Elt Ideal) f L) (ix2 1 k)) + g1 k)
    (h2 : ∀ k, w2 (ix2 0 k) = (show EReal from v.read (Elt Ideal) (v.writes (Elt Ideal) f L) (ix2 2 k)) + g2 k) (q : Fin 8) (k : Fin 1024) :
    v.read (Elt Ideal) (v.writes (Elt Ideal) f ((⟨Rect.unit (s := S8x1024) ![2, 0] S1x1024.size inb2, w2⟩ : View.Piece (Elt Ideal) S8x1024 .f32)
      :: ⟨Rect.unit (s := S8x1024) ![1, 0] S1x1024.size inb1, w1⟩ :: ⟨Rect.unit (s := S8x1024) ![0, 0] S1x1024.size inb0, w0⟩ :: L)) (ix2 q k)
      = (show EReal from v.read (Elt Ideal) (v.writes (Elt Ideal) f L) (ix2 q k))
        + (if q.val = 0 then g0 k else if q.val = 1 then g1 k else if q.val = 2 then g2 k else 0) := by
  by_cases e2 : q.val = 2
  · rw [hit_row v f 2 inb2 w2 _ q k e2, h2, if_neg (by omega), if_neg (by omega), if_pos e2, show q = 2 from Fin.ext e2]
  rw [skip_row v f 2 inb2 w2 _ q k e2]
  by_cases e1 : q.val = 1
  · rw [hit_row v f 1 inb1 w1 _ q k e1, h1, if_neg (by omega), if_pos e1, show q = 1 from Fin.ext e1]
  rw [skip_row v f 1 inb1 w1 _ q k e1]
  by_cases e0 : q.val = 0
  · rw [hit_row v f 0 inb0 w0 _ q k e0, h0, if_pos e0, show q = 0 from Fin.ext e0]
  rw [skip_row v f 0 inb0 w0 _ q k e0, if_neg e0, if_neg e1, if_neg e2]
  exact (add_zero _).symm

theorem stack2 (L : List (View.Piece (Elt Ideal) S8x1024 .f32)) (inb0 inb1) (w0 w1 : Vec Ideal S1x1024 .f32) (g0 g1 : Fin 1024 → EReal)
    (h0 : ∀ k, w0 (ix2 0 k) = (show EReal from v.read (Elt Ideal) (v.writes (Elt Ideal) f L) (ix2 0 k)) + g0 k)
    (h1 : ∀ k, w1 (ix2 0 k) = (show EReal from v.read (Elt Ideal) (v.writes (Elt Ideal) f L) (ix2 1 k)) + g1 k) (q : Fin 8) (k : Fin 1024) :
    v.read (Elt Ideal) (v.writes (Elt Ideal) f ((⟨Rect.unit (s := S8x1024) ![1, 0] S1x1024.size inb1, w1⟩ : View.Piece (Elt Ideal) S8x1024 .f32)
      :: ⟨Rect.unit (s := S8x1024) ![0, 0] S1x1024.size inb0, w0⟩ :: L)) (ix2 q k)
      = (show EReal from v.read (Elt Ideal) (v.writes (Elt Ideal) f L) (ix2 q k)) + (if q.val = 0 then g0 k else if q.val = 1 then g1 k else 0) := by
  by_cases e1 : q.val = 1
  · rw [hit_row v f 1 inb1 w1 _ q k e1, h1, if_neg (by omega), if_pos e1, show q = 1 from Fin.ext e1]
  rw [skip_row v f 1 inb1 w1 _ q k e1]
  by_cases e0 : q.val = 0
  · rw [hit_row v f 0 inb0 w0 _ q k e0, h0, if_pos e0, show q = 0 from Fin.ext e0]
  rw [skip_row v f 0 inb0 w0 _ q k e0, if_neg e0, if_neg e1]
  exact (add_zero _).symm

theorem ld_row (b : ℕ) (inb) (X : Vec Ideal S8x1024 .f32) (q : Fin 8) (k : Fin 1024) (h : q.val = b) :
    View.ld X (Rect.unit (s := S8x1024) ![b, 0] S1x1024.size inb) (ix2 0 k) = X (ix2 q k) := by
  show X _ = _
  refine congrArg X ?_
  blk_ext
  · show b + 1 * 0 = q.val
    omega
  · show 0 + 1 * k.val = k.val
    omega

theorem readCov_row (b : ℕ) (inb) (L : List (View.Piece (Elt Ideal) S8x1024 .f32)) (q : Fin 8) (k : Fin 1024) (h : q.val = b) :
    v.readCov L (Rect.unit (s := S8x1024) ![b, 0] S1x1024.size inb).toLoadRect (ix2 0 k)
      = v.read (Elt Ideal) (v.writes (Elt Ideal) v.junk L) (ix2 q k) :=
  ld_row b inb (v.read (Elt Ideal) (v.writes (Elt Ideal) v.junk L)) q k h

end Rows

/-! ## The arrays -/

section Expr

variable (H : FVec Ideal S8192x4096 .bf16) (WD : FVec Ideal S4096x1024 .bf16) (XH Y : FVec Ideal S8192x1024 .f32) (VEC : FVec Ideal S8x1024 .f32)

abbrev lnH (r : Fin 8192) (j : Fin 4096) : EReal := H (ix2 r j)
abbrev lnF (A : FVec Ideal S8192x1024 .f32) (r : Fin 8192) (j : Fin 1024) : EReal := A (ix2 r j)

/-- Row `r` of the second residual, the output's difference from the target, and the loss's cotangent. -/
def zB (r : Fin 8192) : Fin 1024 → EReal := res2 (lnH H r) (lnF XH r) (vrow VEC 3) (vrow VEC 4) WD
def offA (r : Fin 8192) : Fin 1024 → EReal := off (zB H WD XH VEC r) (vrow VEC 5) (vrow VEC 6) (lnF Y r)
def cotA (r : Fin 8192) : Fin 1024 → EReal := cot (zB H WD XH VEC r) (vrow VEC 5) (vrow VEC 6) (lnF Y r)

def dz2A : FVec Ideal S8192x1024 .bf16 := fun i =>
  lng (dev (zB H WD XH VEC (i 0))) (nrm (zB H WD XH VEC (i 0))) (vrow VEC 5) (cotA H WD XH Y VEC (i 0)) (i 1)

/-- What token `r` adds to entry `(q, k)` of the loss's sums. -/
def tok2A (r : Fin 8192) (q : Fin 8) (k : Fin 1024) : EReal :=
  if q.val = 0 then cotA H WD XH Y VEC r k * nrm (zB H WD XH VEC r) k else if q.val = 1 then cotA H WD XH Y VEC r k
  else if q.val = 2 then offA H WD XH Y VEC r k * offA H WD XH Y VEC r k else 0
def st2A : FVec Ideal S8x1024 .f32 := fun i => ∑ r : Fin 8192, tok2A H WD XH Y VEC r (i 0) (i 1)

variable (Z : FVec Ideal S8192x1024 .bf16) (RS : FVec Ideal S8192x1 .f32)

def dx1A (r : Fin 8192) : Fin 1024 → EReal := dx1 (lnH H r) (ln Z r) WD
def dz1A : FVec Ideal S8192x1024 .bf16 := fun i => lng (RS (ix2 (i 0) 0)) (lnF XH (i 0)) (vrow VEC 3) (dx1A H WD Z (i 0)) (i 1)
/-- What token `r` adds to entry `(q, k)` of the first normalization's sums. -/
def tok1A (r : Fin 8192) (q : Fin 8) (k : Fin 1024) : EReal :=
  if q.val = 0 then dx1A H WD Z r k * XH (ix2 r k) else if q.val = 1 then dx1A H WD Z r k else 0
def st1A : FVec Ideal S8x1024 .f32 := fun i => ∑ r : Fin 8192, tok1A H WD XH Z r (i 0) (i 1)

end Expr

theorem res2_congr {h h' : Fin 4096 → EReal} {x x' g g' b b' : Fin 1024 → EReal} {W W' : FVec Ideal S4096x1024 .bf16} (e1 : h = h') (e2 : x = x')
    (e3 : g = g') (e4 : b = b') (e5 : W = W') : res2 h x g b W = res2 h' x' g' b' W' := by
  subst e1 e2 e3 e4 e5; rfl
theorem off_congr {z z' g g' b b' y y' : Fin 1024 → EReal} (e1 : z = z') (e2 : g = g') (e3 : b = b') (e4 : y = y') : off z g b y = off z' g' b' y' := by
  subst e1 e2 e3 e4; rfl
theorem cot_congr {z z' g g' b b' y y' : Fin 1024 → EReal} (e1 : z = z') (e2 : g = g') (e3 : b = b') (e4 : y = y') : cot z g b y = cot z' g' b' y' := by
  subst e1 e2 e3 e4; rfl
theorem lng_congr {s s' : EReal} {x x' a a' d d' : Fin 1024 → EReal} (h1 : s = s') (h2 : x = x') (h3 : a = a') (h4 : d = d') (k : Fin 1024) :
    lng s x a d k = lng s' x' a' d' k := by
  subst h1 h2 h3 h4; rfl
theorem dx1_congr {u u' : Fin 4096 → EReal} {z z' : Fin 1024 → EReal} {W W' : FVec Ideal S4096x1024 .bf16} (e1 : u = u') (e2 : z = z') (e3 : W = W') :
    dx1 u z W = dx1 u' z' W' := by
  subst e1 e2 e3; rfl

abbrev vec5 (X : Vec Ideal S8x1024 .f32) : Vec Ideal S1x1024 .f32 := View.ld X (Rect.unit (s := S8x1024) ![5, 0] S1x1024.size inb_S8x1024_S1x1024_5_0)
abbrev vec6 (X : Vec Ideal S8x1024 .f32) : Vec Ideal S1x1024 .f32 := View.ld X (Rect.unit (s := S8x1024) ![6, 0] S1x1024.size inb_S8x1024_S1x1024_6_0)
theorem vec5_at (X : Vec Ideal S8x1024 .f32) (k : Fin 1024) : vec5 X (ix2 0 k) = X (ix2 5 k) := ld_row 5 _ X 5 k rfl
theorem vec6_at (X : Vec Ideal S8x1024 .f32) (k : Fin 1024) : vec6 X (ix2 0 k) = X (ix2 6 k) := ld_row 6 _ X 6 k rfl

variable (V : (c : Dev nD) → (b : Ref sig .tc) → Buf (Elt Ideal) ((c : Thread nD τ).loc b))

section Loss

theorem idx2 : ∀ t : Fin cfg2.N, win2_0.index t = ![t.val, 0] ∧ win2_1.index t = ![0, 0] ∧ win2_2.index t = ![t.val, 0]
    ∧ win2_3.index t = ![t.val, 0] ∧ win2_4.index t = ![0, 0] ∧ win2_5.index t = ![t.val, 0] ∧ win2_6.index t = ![0, 0] :=
  (by decide +kernel : ∀ t : Fin grid2.N, _)

def tok2 (t : Fin cfg2.N) (r : Fin 512) : Fin 8192 := ⟨t.val * 512 + r.val, by
  have h : t.val < 16 := t.isLt
  omega⟩

variable (c : Dev nD) (t : Fin cfg2.N) (r : Fin 512) (k : Fin 1024)

theorem b2_0 (j : Fin 4096) : (iblk2 V c 0 t : Vec Ideal S512x4096 _) (ix2 r j) = V c main_v18_1 (ix2 (tok2 t r) j) := by
  blk_point [iblk2, tok2, idx2 t]
theorem b2_1 : (iblk2 V c 1 t : Vec Ideal S4096x1024 _) = V c main_v19 := by
  funext i
  blk_point [iblk2, idx2 t]
theorem b2_2 : (iblk2 V c 2 t : Vec Ideal S512x1024 _) (ix2 r k) = V c main_v16_3 (ix2 (tok2 t r) k) := by
  blk_point [iblk2, tok2, idx2 t]
theorem b2_3 : (iblk2 V c 3 t : Vec Ideal S512x1024 _) (ix2 r k) = V c main_arg13 (ix2 (tok2 t r) k) := by
  blk_point [iblk2, tok2, idx2 t]
theorem b2_4 : (iblk2 V c 4 t : Vec Ideal S8x1024 _) = V c main_v9 := by
  funext i
  blk_point [iblk2, idx2 t]

theorem w2_3 : vec3 (iblk2 V c 4 t) (ix2 0 k) = vrow (V c main_v9) 3 k := (vec3_at _ k).trans (congrFun (b2_4 V c t) _)
theorem w2_4 : vec4 (iblk2 V c 4 t) (ix2 0 k) = vrow (V c main_v9) 4 k := (vec4_at _ k).trans (congrFun (b2_4 V c t) _)
theorem w2_5 : vec5 (iblk2 V c 4 t) (ix2 0 k) = vrow (V c main_v9) 5 k := (vec5_at _ k).trans (congrFun (b2_4 V c t) _)
theorem w2_6 : vec6 (iblk2 V c 4 t) (ix2 0 k) = vrow (V c main_v9) 6 k := (vec6_at _ k).trans (congrFun (b2_4 V c t) _)

theorem z2 : zr2 (iblk2 V c 0 t) (iblk2 V c 1 t) (iblk2 V c 2 t) (vec3 (iblk2 V c 4 t)) (vec4 (iblk2 V c 4 t)) r
    = zB (V c main_v18_1) (V c main_v19) (V c main_v16_3) (V c main_v9) (tok2 t r) :=
  res2_congr (funext (b2_0 V c t r)) (funext (b2_2 V c t r)) (funext (w2_3 V c t)) (funext (w2_4 V c t)) (b2_1 V c t)
theorem off2 : off (zr2 (iblk2 V c 0 t) (iblk2 V c 1 t) (iblk2 V c 2 t) (vec3 (iblk2 V c 4 t)) (vec4 (iblk2 V c 4 t)) r)
      (fun j => vec5 (iblk2 V c 4 t) (ix2 0 j)) (fun j => vec6 (iblk2 V c 4 t) (ix2 0 j)) (fun j => (iblk2 V c 3 t : Vec Ideal S512x1024 .f32) (ix2 r j))
    = offA (V c main_v18_1) (V c main_v19) (V c main_v16_3) (V c main_arg13) (V c main_v9) (tok2 t r) :=
  off_congr (z2 V c t r) (funext (w2_5 V c t)) (funext (w2_6 V c t)) (funext (b2_3 V c t r))
theorem cot2 : cot (zr2 (iblk2 V c 0 t) (iblk2 V c 1 t) (iblk2 V c 2 t) (vec3 (iblk2 V c 4 t)) (vec4 (iblk2 V c 4 t)) r)
      (fun j => vec5 (iblk2 V c 4 t) (ix2 0 j)) (fun j => vec6 (iblk2 V c 4 t) (ix2 0 j)) (fun j => (iblk2 V c 3 t : Vec Ideal S512x1024 .f32) (ix2 r j))
    = cotA (V c main_v18_1) (V c main_v19) (V c main_v16_3) (V c main_arg13) (V c main_v9) (tok2 t r) :=
  cot_congr (z2 V c t r) (funext (w2_5 V c t)) (funext (w2_6 V c t)) (funext (b2_3 V c t r))

/-- The normalized block's text, once. -/
abbrev n2 : FVec Ideal S512x1024 .f32 := k2_pay5 (iblk2 V c 0 t) (iblk2 V c 1 t) (iblk2 V c 2 t) (vec3 (iblk2 V c 4 t)) (vec4 (iblk2 V c 4 t))

theorem k5 (y : S512x1024.Idx) : k2_pay1 (k2_pay4 (iblk2 V c 0 t) (iblk2 V c 1 t) (iblk2 V c 2 t) (vec3 (iblk2 V c 4 t)) (vec4 (iblk2 V c 4 t))) (n2 V c t)
      (k2_pay12 (n2 V c t) (vec5 (iblk2 V c 4 t)) (vec6 (iblk2 V c 4 t)) (iblk2 V c 3 t)) (k2_pay13 (n2 V c t) (vec5 (iblk2 V c 4 t)) (vec6 (iblk2 V c 4 t)) (iblk2 V c 3 t)) y
    = dz2A (V c main_v18_1) (V c main_v19) (V c main_v16_3) (V c main_arg13) (V c main_v9) (ix2 (tok2 t (y 0)) (y 1)) := by
  obtain ⟨r, k, rfl⟩ : ∃ r k, y = ix2 r k := ⟨y 0, y 1, by blk_ext⟩
  exact (q2_1 _ _ _ _ _ _ _ _ r k).trans (lng_congr (congrArg dev (z2 V c t r)) (congrArg nrm (z2 V c t r)) (funext (w2_5 V c t)) (cot2 V c t r) k)

theorem f2_5 (c : Dev nD) : (dat2 V c).arrAt 5 cfg2.N = dz2A (V c main_v18_1) (V c main_v19) (V c main_v16_3) (V c main_arg13) (V c main_v9) := by
  refine (dat2 V c).arrAt_eq_of_covers 5 _ (by decide +kernel) fun t _ y => ?_
  have he : ((cfg2.win 5).blk t).view.emb y = ix2 (tok2 t (y 0)) (y 1) := by blk_ext [tok2, idx2 t]
  blk_simp
  rw [after2_5]
  rcases Decidable.em (t.val % 16 = 0) with h0 | h0
  · rw [outsAt2_A V c t h0]
    frame_out
    exact (k5 V c t y).trans (congrArg (dz2A _ _ _ _ _) he.symm)
  · rw [outsAt2_B V c t h0]
    frame_out
    exact (k5 V c t y).trans (congrArg (dz2A _ _ _ _ _) he.symm)

section Loads
variable (a : Vec Ideal S1x1024 .f32)

theorem row2_0 : k2_pay9 (n2 V c t) (vec5 (iblk2 V c 4 t)) (vec6 (iblk2 V c 4 t)) (iblk2 V c 3 t) a (ix2 0 k) = a (ix2 0 k) + ∑ r : Fin 512,
    cotA (V c main_v18_1) (V c main_v19) (V c main_v16_3) (V c main_arg13) (V c main_v9) (tok2 t r) k * nrm (zB (V c main_v18_1) (V c main_v19) (V c main_v16_3) (V c main_v9) (tok2 t r)) k :=
  (q2_9 _ _ _ _ _ _ _ _ a k).trans (congrArg (a (ix2 0 k) + ·) (Finset.sum_congr rfl fun r _ => congrArg₂ (· * ·) (congrFun (cot2 V c t r) k)
    (congrArg (fun z => nrm z k) (z2 V c t r))))
theorem row2_1 : k2_pay10 (n2 V c t) (vec5 (iblk2 V c 4 t)) (vec6 (iblk2 V c 4 t)) (iblk2 V c 3 t) a (ix2 0 k) = a (ix2 0 k) + ∑ r : Fin 512,
    cotA (V c main_v18_1) (V c main_v19) (V c main_v16_3) (V c main_arg13) (V c main_v9) (tok2 t r) k :=
  (q2_10 _ _ _ _ _ _ _ _ a k).trans (congrArg (a (ix2 0 k) + ·) (Finset.sum_congr rfl fun r _ => congrFun (cot2 V c t r) k))
theorem row2_2 : k2_pay11 (n2 V c t) (vec5 (iblk2 V c 4 t)) (vec6 (iblk2 V c 4 t)) (iblk2 V c 3 t) a (ix2 0 k) = a (ix2 0 k) + ∑ r : Fin 512,
    offA (V c main_v18_1) (V c main_v19) (V c main_v16_3) (V c main_arg13) (V c main_v9) (tok2 t r) k * offA (V c main_v18_1) (V c main_v19) (V c main_v16_3) (V c main_arg13) (V c main_v9) (tok2 t r) k :=
  (q2_11 _ _ _ _ _ _ _ _ a k).trans (congrArg (a (ix2 0 k) + ·) (Finset.sum_congr rfl fun r _ => congrArg₂ (· * ·) (congrFun (off2 V c t r) k) (congrFun (off2 V c t r) k)))
end Loads

theorem part2 (q : Fin 8) :
    (if q.val = 0 then ∑ r : Fin 512, cotA (V c main_v18_1) (V c main_v19) (V c main_v16_3) (V c main_arg13) (V c main_v9) (tok2 t r) k * nrm (zB (V c main_v18_1) (V c main_v19) (V c main_v16_3) (V c main_v9) (tok2 t r)) k
      else if q.val = 1 then ∑ r : Fin 512, cotA (V c main_v18_1) (V c main_v19) (V c main_v16_3) (V c main_arg13) (V c main_v9) (tok2 t r) k
      else if q.val = 2 then ∑ r : Fin 512, offA (V c main_v18_1) (V c main_v19) (V c main_v16_3) (V c main_arg13) (V c main_v9) (tok2 t r) k * offA (V c main_v18_1) (V c main_v19) (V c main_v16_3) (V c main_arg13) (V c main_v9) (tok2 t r) k else 0)
      = ∑ r : Fin 512, tok2A (V c main_v18_1) (V c main_v19) (V c main_v16_3) (V c main_arg13) (V c main_v9) (tok2 t r) q k := by
  unfold tok2A
  split_ifs <;> first | rfl | exact Finset.sum_const_zero.symm

theorem s2_B (c : Dev nD) (t : Fin cfg2.N) (h0 : ¬ t.val % 16 = 0) (q : Fin 8) (k : Fin 1024) :
    ((outsAt2 V c t.val t.isLt).2 : Vec Ideal S8x1024 .f32) (ix2 q k)
      = ((outsAt2 V c (t.val - 1) (by omega)).2 : Vec Ideal S8x1024 .f32) (ix2 q k) + ∑ r : Fin 512, tok2A (V c main_v18_1) (V c main_v19) (V c main_v16_3) (V c main_arg13) (V c main_v9) (tok2 t r) q k := by
  rw [outsAt2_B V c t h0]
  frame_out
  refine (stack _ _ [] _ _ _ _ _ _
    (fun k => ∑ r : Fin 512, cotA (V c main_v18_1) (V c main_v19) (V c main_v16_3) (V c main_arg13) (V c main_v9) (tok2 t r) k * nrm (zB (V c main_v18_1) (V c main_v19) (V c main_v16_3) (V c main_v9) (tok2 t r)) k) (fun k => ∑ r : Fin 512, cotA (V c main_v18_1) (V c main_v19) (V c main_v16_3) (V c main_arg13) (V c main_v9) (tok2 t r) k) (fun k => ∑ r : Fin 512, offA (V c main_v18_1) (V c main_v19) (V c main_v16_3) (V c main_arg13) (V c main_v9) (tok2 t r) k * offA (V c main_v18_1) (V c main_v19) (V c main_v16_3) (V c main_arg13) (V c main_v9) (tok2 t r) k) (fun k => ?_) (fun k => ?_) (fun k => ?_) q k).trans ?_
  · refine (row2_0 V c t k _).trans (congrArg (· + _) ?_)
    refine (ld_row 0 _ _ 0 k rfl).trans ?_
    exact (congrFun ((hs2_6 t).read_unread _) _).symm
  · refine (row2_1 V c t k _).trans (congrArg (· + _) ?_)
    refine (ld_row 1 _ _ 1 k rfl).trans ?_
    exact (congrFun ((hs2_6 t).read_unread _) _).symm
  · refine (row2_2 V c t k _).trans (congrArg (· + _) ?_)
    refine (ld_row 2 _ _ 2 k rfl).trans ?_
    exact (congrFun ((hs2_6 t).read_unread _) _).symm
  · exact congrArg₂ (· + ·) (congrFun ((hs2_6 t).read_unread _) _) (part2 V c t k q)

theorem s2_A (c : Dev nD) (t : Fin cfg2.N) (h0 : t.val % 16 = 0) (q : Fin 8) (k : Fin 1024) :
    ((outsAt2 V c t.val t.isLt).2 : Vec Ideal S8x1024 .f32) (ix2 q k) = 0 + ∑ r : Fin 512, tok2A (V c main_v18_1) (V c main_v19) (V c main_v16_3) (V c main_arg13) (V c main_v9) (tok2 t r) q k := by
  rw [outsAt2_A V c t h0]
  frame_out
  rw [← View.read_writes_junk_eq_canon (ms2_6 t).view]
  refine (stack _ _ _ _ _ _ _ _ _
    (fun k => ∑ r : Fin 512, cotA (V c main_v18_1) (V c main_v19) (V c main_v16_3) (V c main_arg13) (V c main_v9) (tok2 t r) k * nrm (zB (V c main_v18_1) (V c main_v19) (V c main_v16_3) (V c main_v9) (tok2 t r)) k) (fun k => ∑ r : Fin 512, cotA (V c main_v18_1) (V c main_v19) (V c main_v16_3) (V c main_arg13) (V c main_v9) (tok2 t r) k) (fun k => ∑ r : Fin 512, offA (V c main_v18_1) (V c main_v19) (V c main_v16_3) (V c main_arg13) (V c main_v9) (tok2 t r) k * offA (V c main_v18_1) (V c main_v19) (V c main_v16_3) (V c main_arg13) (V c main_v9) (tok2 t r) k) (fun k => ?_) (fun k => ?_) (fun k => ?_) q k).trans ?_
  · refine (row2_0 V c t k _).trans (congrArg (· + _) ?_)
    exact readCov_row _ 0 _ _ 0 k rfl
  · refine (row2_1 V c t k _).trans (congrArg (· + _) ?_)
    exact (readCov_row _ 1 _ _ 1 k rfl).trans (skip_row _ _ 0 _ _ _ 1 k (by decide))
  · refine (row2_2 V c t k _).trans (congrArg (· + _) ?_)
    exact ((readCov_row _ 2 _ _ 2 k rfl).trans (skip_row _ _ 1 _ _ _ 2 k (by decide))).trans (skip_row _ _ 0 _ _ _ 2 k (by decide))
  · refine congrArg₂ (· + ·) ?_ (part2 V c t k q)
    refine (View.read_writes_cons_rows_of_mem _ _ (o := 0) _ _ _ (ix2 q k) (ix2 q k) rfl (by show q.val = 0 + q.val; omega) rfl).trans ?_
    pointwise [k2_pay2]

theorem s2_flush (c : Dev nD) (t : Fin cfg2.N) (hf : (cfg2.win 6).flush t = true) (q : Fin 8) (k : Fin 1024) :
    ((outsAt2 V c t.val t.isLt).2 : Vec Ideal S8x1024 .f32) (ix2 q k) = st2A (V c main_v18_1) (V c main_v19) (V c main_v16_3) (V c main_arg13) (V c main_v9) (ix2 q k) := by
  have hs := Pipeline.eq_sum_fin_of_reset_step_apply_of_flush
    (fun n h => ((outsAt2 V c n h).2 : Vec Ideal S8x1024 .f32)) 16 (fun _ => (0 : EReal))
    (fun t i => ∑ r : Fin 512, tok2A (V c main_v18_1) (V c main_v19) (V c main_v16_3) (V c main_arg13) (V c main_v9) (tok2 t r) (i 0) (i 1))
    (fun t h j => (congrArg _ (show j = ix2 (j 0) (j 1) by blk_ext)).trans (s2_A V c t h (j 0) (j 1)))
    (fun t h j => by
      obtain ⟨q, k, rfl⟩ : ∃ q k, j = ix2 q k := ⟨j 0, j 1, by blk_ext⟩
      exact s2_B V c t h q k) t ((flush2_6 t).mp hf) (ix2 q k)
  refine (hs.trans (zero_add _)).trans ?_
  show _ = ∑ r : Fin 8192, tok2A (V c main_v18_1) (V c main_v19) (V c main_v16_3) (V c main_arg13) (V c main_v9) r q k
  refine Fin.sum_mul_add_congr fun s r hl => ?_
  refine congrArg (fun z => tok2A (V c main_v18_1) (V c main_v19) (V c main_v16_3) (V c main_arg13) (V c main_v9) z q k) (Fin.ext ?_)
  show (16 * (t.val / 16) + s.val) * 512 + r.val = s.val * 512 + r.val
  have h : t.val < 16 := t.isLt
  omega

theorem f2_6 (c : Dev nD) : (dat2 V c).arrAt 6 cfg2.N = st2A (V c main_v18_1) (V c main_v19) (V c main_v16_3) (V c main_arg13) (V c main_v9) := by
  refine (dat2 V c).arrAt_eq_of_covers 6 _ (by decide +kernel) fun t hf y => ?_
  have he : ((cfg2.win 6).blk t).view.emb y = ix2 (y 0) (y 1) := by blk_ext [idx2 t]
  have hy : (y : S8x1024.Idx) = ix2 (y 0) (y 1) := by blk_ext
  have hs := s2_flush V c t hf
  blk_simp
  rw [after2_6]
  refine (congrArg ((outsAt2 V c t.val t.isLt).2 : Vec Ideal S8x1024 .f32) hy).trans ((hs (y 0) (y 1)).trans (congrArg (st2A (V c main_v18_1) (V c main_v19) (V c main_v16_3) (V c main_arg13) (V c main_v9)) he.symm))

end Loss

section Back

theorem idx3 : ∀ t : Fin cfg3.N, win3_0.index t = ![t.val, 0] ∧ win3_1.index t = ![0, 0] ∧ win3_2.index t = ![t.val, 0]
    ∧ win3_3.index t = ![t.val, 0] ∧ win3_4.index t = ![t.val, 0] ∧ win3_5.index t = ![0, 0] ∧ win3_6.index t = ![t.val, 0] ∧ win3_7.index t = ![0, 0] :=
  (by decide +kernel : ∀ t : Fin grid3.N, _)

def tok3 (t : Fin cfg3.N) (r : Fin 512) : Fin 8192 := ⟨t.val * 512 + r.val, by
  have h : t.val < 16 := t.isLt
  omega⟩

variable (c : Dev nD) (t : Fin cfg3.N) (r : Fin 512) (k : Fin 1024)

theorem b3_0 (j : Fin 4096) : (iblk3 V c 0 t : Vec Ideal S512x4096 _) (ix2 r j) = V c main_v21 (ix2 (tok3 t r) j) := by
  blk_point [iblk3, tok3, idx3 t]
theorem b3_1 : (iblk3 V c 1 t : Vec Ideal S4096x1024 _) = V c main_v23 := by
  funext i
  blk_point [iblk3, idx3 t]
theorem b3_2 : (iblk3 V c 2 t : Vec Ideal S512x1024 _) (ix2 r k) = V c main_v24 (ix2 (tok3 t r) k) := by
  blk_point [iblk3, tok3, idx3 t]
theorem b3_3 : (iblk3 V c 3 t : Vec Ideal S512x1024 _) (ix2 r k) = V c main_v16_3 (ix2 (tok3 t r) k) := by
  blk_point [iblk3, tok3, idx3 t]
theorem b3_4 : (iblk3 V c 4 t : Vec Ideal S512x1 _) (ix2 r 0) = V c main_v16_4 (ix2 (tok3 t r) 0) := by
  blk_point [iblk3, tok3, idx3 t]
theorem b3_5 : (iblk3 V c 5 t : Vec Ideal S8x1024 _) = V c main_v9 := by
  funext i
  blk_point [iblk3, idx3 t]

theorem w3_3 : vec3 (iblk3 V c 5 t) (ix2 0 k) = vrow (V c main_v9) 3 k := (vec3_at _ k).trans (congrFun (b3_5 V c t) _)

theorem d3 : dx1 (fun j => (iblk3 V c 0 t : Vec Ideal S512x4096 .bf16) (ix2 r j)) (fun j => (iblk3 V c 2 t : Vec Ideal S512x1024 .bf16) (ix2 r j)) (iblk3 V c 1 t)
    = dx1A (V c main_v21) (V c main_v23) (V c main_v24) (tok3 t r) :=
  dx1_congr (funext (b3_0 V c t r)) (funext (b3_2 V c t r)) (b3_1 V c t)

theorem k6 (y : S512x1024.Idx) : k3_pay1 (k3_pay3 (iblk3 V c 0 t) (iblk3 V c 1 t) (iblk3 V c 2 t)) (k3_pay4 (iblk3 V c 3 t)) (k3_pay7 (iblk3 V c 4 t)) (vec3 (iblk3 V c 5 t)) y
    = dz1A (V c main_v21) (V c main_v23) (V c main_v16_3) (V c main_v9) (V c main_v24) (V c main_v16_4) (ix2 (tok3 t (y 0)) (y 1)) := by
  obtain ⟨r, k, rfl⟩ : ∃ r k, y = ix2 r k := ⟨y 0, y 1, by blk_ext⟩
  exact (q3_1 _ _ _ _ _ _ r k).trans (lng_congr (b3_4 V c t r) (funext (b3_3 V c t r)) (funext (w3_3 V c t)) (d3 V c t r) k)

theorem f3_6 (c : Dev nD) : (dat3 V c).arrAt 6 cfg3.N = dz1A (V c main_v21) (V c main_v23) (V c main_v16_3) (V c main_v9) (V c main_v24) (V c main_v16_4) := by
  refine (dat3 V c).arrAt_eq_of_covers 6 _ (by decide +kernel) fun t _ y => ?_
  have he : ((cfg3.win 6).blk t).view.emb y = ix2 (tok3 t (y 0)) (y 1) := by blk_ext [tok3, idx3 t]
  blk_simp
  rw [after3_6]
  rcases Decidable.em (t.val % 16 = 0) with h0 | h0
  · rw [outsAt3_A V c t h0]
    frame_out
    exact (k6 V c t y).trans (congrArg (dz1A _ _ _ _ _ _) he.symm)
  · rw [outsAt3_B V c t h0]
    frame_out
    exact (k6 V c t y).trans (congrArg (dz1A _ _ _ _ _ _) he.symm)

section Loads
variable (a : Vec Ideal S1x1024 .f32)

theorem row3_0 : k3_pay5 (iblk3 V c 0 t) (iblk3 V c 1 t) (iblk3 V c 2 t) (iblk3 V c 3 t) a (ix2 0 k) = a (ix2 0 k) + ∑ r : Fin 512,
    dx1A (V c main_v21) (V c main_v23) (V c main_v24) (tok3 t r) k * V c main_v16_3 (ix2 (tok3 t r) k) :=
  (q3_5 _ _ _ _ a k).trans (congrArg (a (ix2 0 k) + ·) (Finset.sum_congr rfl fun r _ => congrArg₂ (· * ·) (congrFun (d3 V c t r) k) (b3_3 V c t r k)))
theorem row3_1 : k3_pay6 (iblk3 V c 0 t) (iblk3 V c 1 t) (iblk3 V c 2 t) a (ix2 0 k) = a (ix2 0 k) + ∑ r : Fin 512,
    dx1A (V c main_v21) (V c main_v23) (V c main_v24) (tok3 t r) k :=
  (q3_6 _ _ _ a k).trans (congrArg (a (ix2 0 k) + ·) (Finset.sum_congr rfl fun r _ => congrFun (d3 V c t r) k))
end Loads

theorem part3 (q : Fin 8) :
    (if q.val = 0 then ∑ r : Fin 512, dx1A (V c main_v21) (V c main_v23) (V c main_v24) (tok3 t r) k * V c main_v16_3 (ix2 (tok3 t r) k)
      else if q.val = 1 then ∑ r : Fin 512, dx1A (V c main_v21) (V c main_v23) (V c main_v24) (tok3 t r) k else 0)
      = ∑ r : Fin 512, tok1A (V c main_v21) (V c main_v23) (V c main_v16_3) (V c main_v24) (tok3 t r) q k := by
  unfold tok1A
  split_ifs <;> first | rfl | exact Finset.sum_const_zero.symm

theorem s3_B (c : Dev nD) (t : Fin cfg3.N) (h0 : ¬ t.val % 16 = 0) (q : Fin 8) (k : Fin 1024) :
    ((outsAt3 V c t.val t.isLt).2 : Vec Ideal S8x1024 .f32) (ix2 q k)
      = ((outsAt3 V c (t.val - 1) (by omega)).2 : Vec Ideal S8x1024 .f32) (ix2 q k) + ∑ r : Fin 512, tok1A (V c main_v21) (V c main_v23) (V c main_v16_3) (V c main_v24) (tok3 t r) q k := by
  rw [outsAt3_B V c t h0]
  frame_out
  refine (stack2 _ _ [] _ _ _ _
    (fun k => ∑ r : Fin 512, dx1A (V c main_v21) (V c main_v23) (V c main_v24) (tok3 t r) k * V c main_v16_3 (ix2 (tok3 t r) k)) (fun k => ∑ r : Fin 512, dx1A (V c main_v21) (V c main_v23) (V c main_v24) (tok3 t r) k) (fun k => ?_) (fun k => ?_) q k).trans ?_
  · refine (row3_0 V c t k _).trans (congrArg (· + _) ?_)
    refine (ld_row 0 _ _ 0 k rfl).trans ?_
    exact (congrFun ((hs3_7 t).read_unread _) _).symm
  · refine (row3_1 V c t k _).trans (congrArg (· + _) ?_)
    refine (ld_row 1 _ _ 1 k rfl).trans ?_
    exact (congrFun ((hs3_7 t).read_unread _) _).symm
  · exact congrArg₂ (· + ·) (congrFun ((hs3_7 t).read_unread _) _) (part3 V c t k q)

theorem s3_A (c : Dev nD) (t : Fin cfg3.N) (h0 : t.val % 16 = 0) (q : Fin 8) (k : Fin 1024) :
    ((outsAt3 V c t.val t.isLt).2 : Vec Ideal S8x1024 .f32) (ix2 q k) = 0 + ∑ r : Fin 512, tok1A (V c main_v21) (V c main_v23) (V c main_v16_3) (V c main_v24) (tok3 t r) q k := by
  rw [outsAt3_A V c t h0]
  frame_out
  rw [← View.read_writes_junk_eq_canon (ms3_7 t).view]
  refine (stack2 _ _ _ _ _ _ _
    (fun k => ∑ r : Fin 512, dx1A (V c main_v21) (V c main_v23) (V c main_v24) (tok3 t r) k * V c main_v16_3 (ix2 (tok3 t r) k)) (fun k => ∑ r : Fin 512, dx1A (V c main_v21) (V c main_v23) (V c main_v24) (tok3 t r) k) (fun k => ?_) (fun k => ?_) q k).trans ?_
  · refine (row3_0 V c t k _).trans (congrArg (· + _) ?_)
    exact readCov_row _ 0 _ _ 0 k rfl
  · refine (row3_1 V c t k _).trans (congrArg (· + _) ?_)
    exact (readCov_row _ 1 _ _ 1 k rfl).trans (skip_row _ _ 0 _ _ _ 1 k (by decide))
  · refine congrArg₂ (· + ·) ?_ (part3 V c t k q)
    refine (View.read_writes_cons_rows_of_mem _ _ (o := 0) _ _ _ (ix2 q k) (ix2 q k) rfl (by show q.val = 0 + q.val; omega) rfl).trans ?_
    pointwise [k3_pay2]

theorem s3_flush (c : Dev nD) (t : Fin cfg3.N) (hf : (cfg3.win 7).flush t = true) (q : Fin 8) (k : Fin 1024) :
    ((outsAt3 V c t.val t.isLt).2 : Vec Ideal S8x1024 .f32) (ix2 q k) = st1A (V c main_v21) (V c main_v23) (V c main_v16_3) (V c main_v24) (ix2 q k) := by
  have hs := Pipeline.eq_sum_fin_of_reset_step_apply_of_flush
    (fun n h => ((outsAt3 V c n h).2 : Vec Ideal S8x1024 .f32)) 16 (fun _ => (0 : EReal))
    (fun t i => ∑ r : Fin 512, tok1A (V c main_v21) (V c main_v23) (V c main_v16_3) (V c main_v24) (tok3 t r) (i 0) (i 1))
    (fun t h j => (congrArg _ (show j = ix2 (j 0) (j 1) by blk_ext)).trans (s3_A V c t h (j 0) (j 1)))
    (fun t h j => by
      obtain ⟨q, k, rfl⟩ : ∃ q k, j = ix2 q k := ⟨j 0, j 1, by blk_ext⟩
      exact s3_B V c t h q k) t ((flush3_7 t).mp hf) (ix2 q k)
  refine (hs.trans (zero_add _)).trans ?_
  show _ = ∑ r : Fin 8192, tok1A (V c main_v21) (V c main_v23) (V c main_v16_3) (V c main_v24) r q k
  refine Fin.sum_mul_add_congr fun s r hl => ?_
  refine congrArg (fun z => tok1A (V c main_v21) (V c main_v23) (V c main_v16_3) (V c main_v24) z q k) (Fin.ext ?_)
  show (16 * (t.val / 16) + s.val) * 512 + r.val = s.val * 512 + r.val
  have h : t.val < 16 := t.isLt
  omega

theorem f3_7 (c : Dev nD) : (dat3 V c).arrAt 7 cfg3.N = st1A (V c main_v21) (V c main_v23) (V c main_v16_3) (V c main_v24) := by
  refine (dat3 V c).arrAt_eq_of_covers 7 _ (by decide +kernel) fun t hf y => ?_
  have he : ((cfg3.win 7).blk t).view.emb y = ix2 (y 0) (y 1) := by blk_ext [idx3 t]
  have hy : (y : S8x1024.Idx) = ix2 (y 0) (y 1) := by blk_ext
  have hs := s3_flush V c t hf
  blk_simp
  rw [after3_7]
  refine (congrArg ((outsAt3 V c t.val t.isLt).2 : Vec Ideal S8x1024 .f32) hy).trans ((hs (y 0) (y 1)).trans (congrArg (st1A (V c main_v21) (V c main_v23) (V c main_v16_3) (V c main_v24)) he.symm))

end Back

end Cert.KMlpIdeal.Val

end
-- ==== Proof.Mlp.Ref.lean ====
/- The calls of the multilayer perceptron: the reference's stages, in the terms of the calls. -/
module

public import proofs.«01_k».proof.Proof.Mlp.Second
public import proofs.«01_k».proof.Proof.Norm
public import proofs.«01_k».proof.Proof.Gen.RMlpIdeal.Run
public import proofs.«01_k».proof.Proof.Gen.RMlpIdeal.Read
public import Idealize.ShloMosaic.Lib.Pipeline.ValueKit
public import Idealize.ShloMosaic.Lib.Claim

@[expose] public section

set_option maxRecDepth 16384

noncomputable section

namespace Cert.KMlpIdeal.Val

open Idealize.ShloMosaic Idealize.ShloMosaic.TcCoe Idealize.SL.Sem
open Cert.RMlpIdeal

variable (x0 x1 : FVec Ideal S8192x1024 .f32) (x2 : FVec Ideal S8192x7168 .f32) (x3 : FVec Ideal S8192x1024 .f32) (x4 x5 x6 : FVec Ideal S1024x1024 .f32)
variable (x7 x8 : FVec Ideal S1024 .f32) (x9 : FVec Ideal S1024x4096 .f32) (x10 : FVec Ideal S4096x1024 .f32) (x11 x12 : FVec Ideal S1024 .f32)
variable (x13 : FVec Ideal S8192x1024 .f32) (x14 : FVec Ideal S8192x4096 .f32) (x15 : FVec Ideal S8192x1024 .f32)

theorem v0_at (r : Fin 8192) (k : Fin 1024) : Read.val_main_v0 (F := Ideal) x0 x4 (ix2 r k) = dot (ln x0 r) x4 k := by
  pointwise [Read.val_main_v0, dot]
theorem v1_at (r : Fin 8192) (k : Fin 1024) : Read.val_main_v1 (F := Ideal) x1 x5 (ix2 r k) = dot (ln x1 r) x5 k := by
  pointwise [Read.val_main_v1, dot]
theorem v8_at (r : Fin 8192) (k : Fin 1024) : Read.val_main_v8 (F := Ideal) x2 (ix2 r k) = sgm (gA x2 r k) := by
  refine Eq.trans ?_ (Norm.sigmoid_eq _).symm
  pointwise [Read.val_main_v8, Read.val_main_v7, Read.val_main_v6, Read.val_main_v5, Read.val_main_v4, Read.val_main_v3, Read.val_main_v2, Read.val_main_cst, Read.val_main_cst_0, gA]
theorem v16_at (r : Fin 8192) (k : Fin 1024) : Read.val_main_v16 (F := Ideal) x2 (ix2 r k) = sgm (gB x2 r k) := by
  refine Eq.trans ?_ (Norm.sigmoid_eq _).symm
  pointwise [Read.val_main_v16, Read.val_main_v15, Read.val_main_v14, Read.val_main_v13, Read.val_main_v12, Read.val_main_v11, Read.val_main_v10, Read.val_main_cst_1, Read.val_main_cst_2, gB]
theorem v18_at (r : Fin 8192) (k : Fin 1024) : Read.val_main_v18 (F := Ideal) x0 x1 x2 x4 x5 (ix2 r k) = mix (ln x0 r) (ln x1 r) (gA x2 r) (gB x2 r) x4 x5 k := by
  show Read.val_main_v8 (F := Ideal) x2 (ix2 r k) * Read.val_main_v0 (F := Ideal) x0 x4 (ix2 r k) + Read.val_main_v16 (F := Ideal) x2 (ix2 r k) * Read.val_main_v1 (F := Ideal) x1 x5 (ix2 r k) = _
  rw [v0_at, v1_at, v8_at, v16_at]
  rfl
theorem v22_at (r : Fin 8192) (k : Fin 1024) : Read.val_main_v22 (F := Ideal) x0 x1 x2 x3 x4 x5 x6 (ix2 r k) = zA x0 x1 x2 x3 x4 x5 x6 r k := by
  have h : Read.val_main_v22 (F := Ideal) x0 x1 x2 x3 x4 x5 x6 (ix2 r k) = alpha * x3 (ix2 r k) + ∑ j : Fin 1024, Read.val_main_v18 (F := Ideal) x0 x1 x2 x4 x5 (ix2 r j) * x6 (ix2 j k) := by
    pointwise [Read.val_main_v22, Read.val_main_v21, Read.val_main_v20, Read.val_main_v19, Read.val_main_cst_3]
  rw [h, Finset.sum_congr rfl fun j _ => congrArg (· * _) (v18_at x0 x1 x2 x4 x5 r j)]
  rfl

theorem v37_at (r : Fin 8192) (k : Fin 1024) : Read.val_main_v37 (F := Ideal) x0 x1 x2 x3 x4 x5 x6 (ix2 r k) = cen (zA x0 x1 x2 x3 x4 x5 x6 r) k := by
  have h : Read.val_main_v37 (F := Ideal) x0 x1 x2 x3 x4 x5 x6 (ix2 r k) = cen (fun k => Read.val_main_v22 (F := Ideal) x0 x1 x2 x3 x4 x5 x6 (ix2 r k)) k := by
    pointwise [Read.val_main_v37, Read.val_main_v36, Read.val_main_v26, Read.val_main_v25, Read.val_main_v24, Read.val_main_v23, Read.val_main_cst_4, Read.val_main_cst_5, cen]
  rw [h]
  exact congrArg (cen · k) (funext (v22_at x0 x1 x2 x3 x4 x5 x6 r))
theorem v28_at (r : Fin 8192) (k : Fin 1024) : Read.val_main_v28 (F := Ideal) x0 x1 x2 x3 x4 x5 x6 (ix2 r k) = cen (zA x0 x1 x2 x3 x4 x5 x6 r) k := v37_at x0 x1 x2 x3 x4 x5 x6 r k
/-- The guarded variance of a row. -/
def gvar (z : Fin 1024 → EReal) : EReal := Ideal.div (∑ j : Fin 1024, cen z j * cen z j) lanes + Ideal.ofBits .f32 0x3727C5AC#32
theorem v39_at (r : Fin 8192) : Read.val_main_v39 (F := Ideal) x0 x1 x2 x3 x4 x5 x6 (ix2 r 0) = gvar (zA x0 x1 x2 x3 x4 x5 x6 r) := by
  have h : Read.val_main_v39 (F := Ideal) x0 x1 x2 x3 x4 x5 x6 (ix2 r 0) = Ideal.div (∑ k : Fin 1024, Read.val_main_v28 (F := Ideal) x0 x1 x2 x3 x4 x5 x6 (ix2 r k) * Read.val_main_v28 (F := Ideal) x0 x1 x2 x3 x4 x5 x6 (ix2 r k)) lanes + Ideal.ofBits .f32 0x3727C5AC#32 := by
    pointwise [Read.val_main_v39, Read.val_main_v38, Read.val_main_v35, Read.val_main_v34, Read.val_main_v33, Read.val_main_v32, Read.val_main_v29, Read.val_main_cst_7, Read.val_main_cst_8, Read.val_main_cst_9]
  rw [h, Finset.sum_congr rfl fun k _ => congrArg₂ (· * ·) (v28_at x0 x1 x2 x3 x4 x5 x6 r k) (v28_at x0 x1 x2 x3 x4 x5 x6 r k)]
  rfl
theorem v40_at (r : Fin 8192) : Read.val_main_v40 (F := Ideal) x0 x1 x2 x3 x4 x5 x6 (ix2 r 0) = dev (zA x0 x1 x2 x3 x4 x5 x6 r) := by
  show Ideal.rsqrt (Read.val_main_v39 (F := Ideal) x0 x1 x2 x3 x4 x5 x6 (ix2 r 0)) = _
  rw [v39_at]
  rfl
theorem v45_at (r : Fin 8192) (k : Fin 1024) : Read.val_main_v45 (F := Ideal) x0 x1 x2 x3 x4 x5 x6 (ix2 r k) = nrm (zA x0 x1 x2 x3 x4 x5 x6 r) k := by
  have h : Read.val_main_v45 (F := Ideal) x0 x1 x2 x3 x4 x5 x6 (ix2 r k) = Read.val_main_v37 (F := Ideal) x0 x1 x2 x3 x4 x5 x6 (ix2 r k) * Read.val_main_v40 (F := Ideal) x0 x1 x2 x3 x4 x5 x6 (ix2 r 0) := by
    pointwise [Read.val_main_v45, Read.val_main_v44]
  rw [h, v37_at, v40_at]
  rfl

theorem ya_ref : (brA x0 x4 : S8192x1024.Idx → EReal) = Read.val_main_v198 (F := Ideal) x0 x4 := by
  funext i
  obtain ⟨r, k, rfl⟩ : ∃ r k, i = ix2 r k := ⟨i 0, i 1, by blk_ext⟩
  exact (v0_at _ _ _ _).symm
theorem yb_ref : (brA x1 x5 : S8192x1024.Idx → EReal) = Read.val_main_v199 (F := Ideal) x1 x5 := by
  funext i
  obtain ⟨r, k, rfl⟩ : ∃ r k, i = ix2 r k := ⟨i 0, i 1, by blk_ext⟩
  exact (v1_at _ _ _ _).symm
theorem mix_ref : (mixA x0 x1 x2 x4 x5 : S8192x1024.Idx → EReal) = Read.val_main_v200 (F := Ideal) x0 x1 x2 x4 x5 := by
  funext i
  obtain ⟨r, k, rfl⟩ : ∃ r k, i = ix2 r k := ⟨i 0, i 1, by blk_ext⟩
  exact (v18_at _ _ _ _ _ _ _).symm
theorem xh_ref : (xhA x0 x1 x2 x3 x4 x5 x6 : S8192x1024.Idx → EReal) = Read.val_main_v45 (F := Ideal) x0 x1 x2 x3 x4 x5 x6 := by
  funext i
  obtain ⟨r, k, rfl⟩ : ∃ r k, i = ix2 r k := ⟨i 0, i 1, by blk_ext⟩
  exact (v45_at _ _ _ _ _ _ _ _ _).symm
theorem rs_ref : (rsA x0 x1 x2 x3 x4 x5 x6 : S8192x1.Idx → EReal) = Read.val_main_v40 (F := Ideal) x0 x1 x2 x3 x4 x5 x6 := by
  funext i
  obtain ⟨r, rfl⟩ : ∃ r, i = ix2 r 0 := ⟨i 0, by blk_ext⟩
  exact (v40_at _ _ _ _ _ _ _ _).symm

section Vec

variable (VEC : FVec Ideal S8x1024 .f32) (h3 : ∀ k, vrow VEC 3 k = x7 (ix1 k)) (h4 : ∀ k, vrow VEC 4 k = x8 (ix1 k))
variable (h5 : ∀ k, vrow VEC 5 k = x11 (ix1 k)) (h6 : ∀ k, vrow VEC 6 k = x12 (ix1 k))

theorem v51_at (r : Fin 8192) (k : Fin 1024) : Read.val_main_v51 (F := Ideal) x0 x1 x2 x3 x4 x5 x6 x7 x8 (ix2 r k) = Read.val_main_v45 (F := Ideal) x0 x1 x2 x3 x4 x5 x6 (ix2 r k) * x7 (ix1 k) + x8 (ix1 k) := by
  pointwise [Read.val_main_v51, Read.val_main_v50, Read.val_main_v49, Read.val_main_v48, Read.val_main_v47, Read.val_main_v46]

include h3 h4 in
theorem x1_ref : (x1A x0 x1 x2 x3 x4 x5 x6 VEC : S8192x1024.Idx → EReal) = Read.val_main_v201 (F := Ideal) x0 x1 x2 x3 x4 x5 x6 x7 x8 := by
  funext i
  obtain ⟨r, k, rfl⟩ : ∃ r k, i = ix2 r k := ⟨i 0, i 1, by blk_ext⟩
  refine Eq.trans ?_ (v51_at x0 x1 x2 x3 x4 x5 x6 x7 x8 r k).symm
  rw [v45_at, ← h3, ← h4]
  rfl

theorem hid_ref : (hid (Read.val_main_v201 (F := Ideal) x0 x1 x2 x3 x4 x5 x6 x7 x8) x9 : S8192x4096.Idx → EReal) = Read.val_main_v202 (F := Ideal) x0 x1 x2 x3 x4 x5 x6 x7 x8 x9 := by
  funext i
  obtain ⟨r, k, rfl⟩ : ∃ r k, i = ix2 r k := ⟨i 0, i 1, by blk_ext⟩
  have h : Read.val_main_v52 (F := Ideal) x0 x1 x2 x3 x4 x5 x6 x7 x8 x9 (ix2 r k) = ∑ j : Fin 1024, Read.val_main_v201 (F := Ideal) x0 x1 x2 x3 x4 x5 x6 x7 x8 (ix2 r j) * x9 (ix2 j k) := by
    pointwise [Read.val_main_v52, Read.val_main_v201]
  have h' : Read.val_main_v55 (F := Ideal) x0 x1 x2 x3 x4 x5 x6 x7 x8 x9 (ix2 r k) = max (Read.val_main_v52 (F := Ideal) x0 x1 x2 x3 x4 x5 x6 x7 x8 x9 (ix2 r k)) (Ideal.ofBits .f32 0x00000000#32) := by
    pointwise [Read.val_main_v55, Read.val_main_call0_v0, Read.val_main_call0_cst]
  show _ = Read.val_main_v55 (F := Ideal) x0 x1 x2 x3 x4 x5 x6 x7 x8 x9 (ix2 r k) * Read.val_main_v55 (F := Ideal) x0 x1 x2 x3 x4 x5 x6 x7 x8 x9 (ix2 r k)
  rw [h', h]
  rfl

include h3 h4 in
theorem v58_at (r : Fin 8192) (k : Fin 1024) : Read.val_main_v58 (F := Ideal) x0 x1 x2 x3 x4 x5 x6 x7 x8 x9 x10 (ix2 r k) = zB (Read.val_main_v202 (F := Ideal) x0 x1 x2 x3 x4 x5 x6 x7 x8 x9) x10 (Read.val_main_v45 (F := Ideal) x0 x1 x2 x3 x4 x5 x6) VEC r k := by
  have h : Read.val_main_v58 (F := Ideal) x0 x1 x2 x3 x4 x5 x6 x7 x8 x9 x10 (ix2 r k) = alpha * Read.val_main_v51 (F := Ideal) x0 x1 x2 x3 x4 x5 x6 x7 x8 (ix2 r k) + ∑ j : Fin 4096, Read.val_main_v202 (F := Ideal) x0 x1 x2 x3 x4 x5 x6 x7 x8 x9 (ix2 r j) * x10 (ix2 j k) := by
    pointwise [Read.val_main_v58, Read.val_main_v57, Read.val_main_v54, Read.val_main_v53, Read.val_main_v202, Read.val_main_cst_11]
  rw [h, v51_at, ← h3, ← h4]
  rfl

include h3 h4 in
theorem v73_at (r : Fin 8192) (k : Fin 1024) : Read.val_main_v73 (F := Ideal) x0 x1 x2 x3 x4 x5 x6 x7 x8 x9 x10 (ix2 r k) = cen (zB (Read.val_main_v202 (F := Ideal) x0 x1 x2 x3 x4 x5 x6 x7 x8 x9) x10 (Read.val_main_v45 (F := Ideal) x0 x1 x2 x3 x4 x5 x6) VEC r) k := by
  have h : Read.val_main_v73 (F := Ideal) x0 x1 x2 x3 x4 x5 x6 x7 x8 x9 x10 (ix2 r k) = cen (fun k => Read.val_main_v58 (F := Ideal) x0 x1 x2 x3 x4 x5 x6 x7 x8 x9 x10 (ix2 r k)) k := by
    pointwise [Read.val_main_v73, Read.val_main_v72, Read.val_main_v62, Read.val_main_v61, Read.val_main_v60, Read.val_main_v59, Read.val_main_cst_12, Read.val_main_cst_13, cen]
  rw [h]
  exact congrArg (cen · k) (funext (v58_at x0 x1 x2 x3 x4 x5 x6 x7 x8 x9 x10 VEC h3 h4 r))
include h3 h4 in
theorem v64_at (r : Fin 8192) (k : Fin 1024) : Read.val_main_v64 (F := Ideal) x0 x1 x2 x3 x4 x5 x6 x7 x8 x9 x10 (ix2 r k) = cen (zB (Read.val_main_v202 (F := Ideal) x0 x1 x2 x3 x4 x5 x6 x7 x8 x9) x10 (Read.val_main_v45 (F := Ideal) x0 x1 x2 x3 x4 x5 x6) VEC r) k := v73_at x0 x1 x2 x3 x4 x5 x6 x7 x8 x9 x10 VEC h3 h4 r k
include h3 h4 in
theorem v75_at (r : Fin 8192) : Read.val_main_v75 (F := Ideal) x0 x1 x2 x3 x4 x5 x6 x7 x8 x9 x10 (ix2 r 0) = gvar (zB (Read.val_main_v202 (F := Ideal) x0 x1 x2 x3 x4 x5 x6 x7 x8 x9) x10 (Read.val_main_v45 (F := Ideal) x0 x1 x2 x3 x4 x5 x6) VEC r) := by
  have h : Read.val_main_v75 (F := Ideal) x0 x1 x2 x3 x4 x5 x6 x7 x8 x9 x10 (ix2 r 0) = Ideal.div (∑ k : Fin 1024, Read.val_main_v64 (F := Ideal) x0 x1 x2 x3 x4 x5 x6 x7 x8 x9 x10 (ix2 r k) * Read.val_main_v64 (F := Ideal) x0 x1 x2 x3 x4 x5 x6 x7 x8 x9 x10 (ix2 r k)) lanes + Ideal.ofBits .f32 0x3727C5AC#32 := by
    pointwise [Read.val_main_v75, Read.val_main_v74, Read.val_main_v71, Read.val_main_v70, Read.val_main_v69, Read.val_main_v68, Read.val_main_v65, Read.val_main_cst_15, Read.val_main_cst_16, Read.val_main_cst_17]
  rw [h, Finset.sum_congr rfl fun k _ => congrArg₂ (· * ·) (v64_at x0 x1 x2 x3 x4 x5 x6 x7 x8 x9 x10 VEC h3 h4 r k) (v64_at x0 x1 x2 x3 x4 x5 x6 x7 x8 x9 x10 VEC h3 h4 r k)]
  rfl
include h3 h4 in
theorem v76_at (r : Fin 8192) : Read.val_main_v76 (F := Ideal) x0 x1 x2 x3 x4 x5 x6 x7 x8 x9 x10 (ix2 r 0) = dev (zB (Read.val_main_v202 (F := Ideal) x0 x1 x2 x3 x4 x5 x6 x7 x8 x9) x10 (Read.val_main_v45 (F := Ideal) x0 x1 x2 x3 x4 x5 x6) VEC r) := by
  show Ideal.rsqrt (Read.val_main_v75 (F := Ideal) x0 x1 x2 x3 x4 x5 x6 x7 x8 x9 x10 (ix2 r 0)) = _
  rw [v75_at x0 x1 x2 x3 x4 x5 x6 x7 x8 x9 x10 VEC h3 h4]
  rfl
include h3 h4 in
theorem v81_at (r : Fin 8192) (k : Fin 1024) : Read.val_main_v81 (F := Ideal) x0 x1 x2 x3 x4 x5 x6 x7 x8 x9 x10 (ix2 r k) = nrm (zB (Read.val_main_v202 (F := Ideal) x0 x1 x2 x3 x4 x5 x6 x7 x8 x9) x10 (Read.val_main_v45 (F := Ideal) x0 x1 x2 x3 x4 x5 x6) VEC r) k := by
  have h : Read.val_main_v81 (F := Ideal) x0 x1 x2 x3 x4 x5 x6 x7 x8 x9 x10 (ix2 r k) = Read.val_main_v73 (F := Ideal) x0 x1 x2 x3 x4 x5 x6 x7 x8 x9 x10 (ix2 r k) * Read.val_main_v76 (F := Ideal) x0 x1 x2 x3 x4 x5 x6 x7 x8 x9 x10 (ix2 r 0) := by
    pointwise [Read.val_main_v81, Read.val_main_v80]
  rw [h, v73_at x0 x1 x2 x3 x4 x5 x6 x7 x8 x9 x10 VEC h3 h4, v76_at x0 x1 x2 x3 x4 x5 x6 x7 x8 x9 x10 VEC h3 h4]
  rfl

abbrev Off (r : Fin 8192) : Fin 1024 → EReal := offA (Read.val_main_v202 (F := Ideal) x0 x1 x2 x3 x4 x5 x6 x7 x8 x9) x10 (Read.val_main_v45 (F := Ideal) x0 x1 x2 x3 x4 x5 x6) x13 VEC r
abbrev Cot (r : Fin 8192) : Fin 1024 → EReal := cotA (Read.val_main_v202 (F := Ideal) x0 x1 x2 x3 x4 x5 x6 x7 x8 x9) x10 (Read.val_main_v45 (F := Ideal) x0 x1 x2 x3 x4 x5 x6) x13 VEC r

include h3 h4 h5 h6 in
theorem v88_at (r : Fin 8192) (k : Fin 1024) : Read.val_main_v88 (F := Ideal) x0 x1 x2 x3 x4 x5 x6 x7 x8 x9 x10 x11 x12 x13 (ix2 r k) = Off x0 x1 x2 x3 x4 x5 x6 x7 x8 x9 x10 x13 VEC r k := by
  have h : Read.val_main_v88 (F := Ideal) x0 x1 x2 x3 x4 x5 x6 x7 x8 x9 x10 x11 x12 x13 (ix2 r k) = Read.val_main_v81 (F := Ideal) x0 x1 x2 x3 x4 x5 x6 x7 x8 x9 x10 (ix2 r k) * x11 (ix1 k) + x12 (ix1 k) - x13 (ix2 r k) := by
    pointwise [Read.val_main_v88, Read.val_main_v87, Read.val_main_v86, Read.val_main_v85, Read.val_main_v84, Read.val_main_v83, Read.val_main_v82]
  rw [h, v81_at x0 x1 x2 x3 x4 x5 x6 x7 x8 x9 x10 VEC h3 h4, ← h5, ← h6]
  rfl

/-- Half the mean's weight times twice a number is the number divided by the lanes. -/
theorem half_mean (x : EReal) : ((0 : EReal) + Ideal.div (Ideal.ofBits .f32 0x3F000000#32 * Ideal.ofBits .f32 0x3F800000#32) lanes) * (Ideal.ofBits .f32 0x40000000#32 * x)
    = x * Ideal.ofBits .f32 0x3A800000#32 := by
  have h : Ideal.ofBits .f32 0x3A800000#32 = ((1 / 1024 : ℝ) : EReal) := by
    simp [Ideal.ofBits, Ideal.ieee]; rw [← EReal.coe_mul]; norm_num
  rw [h, lanes, Norm.lanes_f32, Norm.half_f32, Norm.one_f32, Norm.two_f32, ← EReal.coe_mul, Norm.coe_div (by norm_num), zero_add, ← mul_assoc, ← EReal.coe_mul, mul_comm x]
  exact congrArg (fun y : ℝ => (y : EReal) * x) (by norm_num)

include h3 h4 h5 h6 in
theorem v106_at (r : Fin 8192) (k : Fin 1024) : Read.val_main_v106 (F := Ideal) x0 x1 x2 x3 x4 x5 x6 x7 x8 x9 x10 x11 x12 x13 (ix2 r k) = Cot x0 x1 x2 x3 x4 x5 x6 x7 x8 x9 x10 x13 VEC r k := by
  have h : Read.val_main_v106 (F := Ideal) x0 x1 x2 x3 x4 x5 x6 x7 x8 x9 x10 x11 x12 x13 (ix2 r k) = ((0 : EReal) + Ideal.div (Ideal.ofBits .f32 0x3F000000#32 * Ideal.ofBits .f32 0x3F800000#32) lanes) * (Ideal.ofBits .f32 0x40000000#32 * Read.val_main_v88 (F := Ideal) x0 x1 x2 x3 x4 x5 x6 x7 x8 x9 x10 x11 x12 x13 (ix2 r k)) := by
    pointwise [Read.val_main_v106, Read.val_main_v105, Read.val_main_v104, Read.val_main_v103, Read.val_main_v102, Read.val_main_v101, Read.val_main_v100, Read.val_main_v99, Read.val_main_v98, Read.val_main_v91, Read.val_main_v90, Read.val_main_cst_25, Read.val_main_cst_26, Read.val_main_cst_27, Read.val_main_cst_28, Read.val_main_cst_19]
  rw [h, half_mean, v88_at x0 x1 x2 x3 x4 x5 x6 x7 x8 x9 x10 x11 x12 x13 VEC h3 h4 h5 h6]
  rfl

variable (WT : FVec Ideal S4096x1024 .f32) (hT : ∀ j k, WT (ix2 j k) = x9 (ix2 k j))
include hT in
theorem v145_at (r : Fin 8192) (k : Fin 1024) : Read.val_main_v145 (F := Ideal) x9 x14 x15 (ix2 r k) = dx1A x14 WT x15 r k := by
  have h : Read.val_main_v145 (F := Ideal) x9 x14 x15 (ix2 r k) = ((0 : EReal) + alpha * x15 (ix2 r k)) + ∑ j : Fin 4096, x14 (ix2 r j) * x9 (ix2 k j) := by
    pointwise [Read.val_main_v145, Read.val_main_v144, Read.val_main_v143, Read.val_main_v142, Read.val_main_v141, Read.val_main_v140, Read.val_main_cst_40, Read.val_main_cst_41]
  rw [h, zero_add, add_comm, Finset.sum_congr rfl fun j _ => congrArg _ (hT j k).symm]
  rfl

/-- The rows of the reference's two stacks of sums. -/
theorem v188_0 (k : Fin 1024) : Read.val_main_v188 (F := Ideal) x0 x1 x2 x3 x4 x5 x6 x7 x8 x9 x10 x11 x12 x13 (ix2 0 k) = ∑ r : Fin 8192, Read.val_main_v81 (F := Ideal) x0 x1 x2 x3 x4 x5 x6 x7 x8 x9 x10 (ix2 r k) * Read.val_main_v106 (F := Ideal) x0 x1 x2 x3 x4 x5 x6 x7 x8 x9 x10 x11 x12 x13 (ix2 r k) := by
  pointwise [Read.val_main_v188, Read.val_main_v180, Read.val_main_v115, Read.val_main_v112, Read.val_main_v111, Read.val_main_v110, Read.val_main_cst_31, Read.val_main_cst_32]
  rw [Fin.sum_univ_one]
theorem v188_1 (k : Fin 1024) : Read.val_main_v188 (F := Ideal) x0 x1 x2 x3 x4 x5 x6 x7 x8 x9 x10 x11 x12 x13 (ix2 1 k) = ∑ r : Fin 8192, Read.val_main_v106 (F := Ideal) x0 x1 x2 x3 x4 x5 x6 x7 x8 x9 x10 x11 x12 x13 (ix2 r k) := by
  pointwise [Read.val_main_v188, Read.val_main_v181, Read.val_main_v109, Read.val_main_v108, Read.val_main_v107, Read.val_main_cst_29, Read.val_main_cst_30]
  rw [Fin.sum_univ_one]
theorem v188_2 (k : Fin 1024) : Read.val_main_v188 (F := Ideal) x0 x1 x2 x3 x4 x5 x6 x7 x8 x9 x10 x11 x12 x13 (ix2 2 k) = ∑ r : Fin 8192, Read.val_main_v88 (F := Ideal) x0 x1 x2 x3 x4 x5 x6 x7 x8 x9 x10 x11 x12 x13 (ix2 r k) * Read.val_main_v88 (F := Ideal) x0 x1 x2 x3 x4 x5 x6 x7 x8 x9 x10 x11 x12 x13 (ix2 r k) := by
  pointwise [Read.val_main_v188, Read.val_main_v182, Read.val_main_v97, Read.val_main_v89, Read.val_main_cst_24]
theorem v188_3 (q : Fin 8) (hq : 3 ≤ q.val) (k : Fin 1024) : Read.val_main_v188 (F := Ideal) x0 x1 x2 x3 x4 x5 x6 x7 x8 x9 x10 x11 x12 x13 (ix2 q k) = 0 := by
  pointwise [Read.val_main_v188, Read.val_main_v183, Read.val_main_v184, Read.val_main_v185, Read.val_main_v186, Read.val_main_v187, Read.val_main_v179, Read.val_main_cst_53]
  rw [dif_neg (by omega), dif_neg (by omega), dif_neg (by omega)]
  split_ifs <;> rfl
theorem v197_0 (k : Fin 1024) : Read.val_main_v197 (F := Ideal) x0 x1 x2 x3 x4 x5 x6 x9 x14 x15 (ix2 0 k) = ∑ r : Fin 8192, Read.val_main_v45 (F := Ideal) x0 x1 x2 x3 x4 x5 x6 (ix2 r k) * Read.val_main_v145 (F := Ideal) x9 x14 x15 (ix2 r k) := by
  pointwise [Read.val_main_v197, Read.val_main_v189, Read.val_main_v154, Read.val_main_v151, Read.val_main_v150, Read.val_main_v149, Read.val_main_cst_44, Read.val_main_cst_45]
  rw [Fin.sum_univ_one]
theorem v197_1 (k : Fin 1024) : Read.val_main_v197 (F := Ideal) x0 x1 x2 x3 x4 x5 x6 x9 x14 x15 (ix2 1 k) = ∑ r : Fin 8192, Read.val_main_v145 (F := Ideal) x9 x14 x15 (ix2 r k) := by
  pointwise [Read.val_main_v197, Read.val_main_v190, Read.val_main_v148, Read.val_main_v147, Read.val_main_v146, Read.val_main_cst_42, Read.val_main_cst_43]
  rw [Fin.sum_univ_one]
theorem v197_2 (q : Fin 8) (hq : 2 ≤ q.val) (k : Fin 1024) : Read.val_main_v197 (F := Ideal) x0 x1 x2 x3 x4 x5 x6 x9 x14 x15 (ix2 q k) = 0 := by
  pointwise [Read.val_main_v197, Read.val_main_v191, Read.val_main_v192, Read.val_main_v193, Read.val_main_v194, Read.val_main_v195, Read.val_main_v196, Read.val_main_v179, Read.val_main_cst_53]
  rw [dif_neg (by omega), dif_neg (by omega)]
  split_ifs <;> rfl

include h3 h4 h5 h6 in
theorem st2_ref : (st2A (Read.val_main_v202 (F := Ideal) x0 x1 x2 x3 x4 x5 x6 x7 x8 x9) x10 (Read.val_main_v45 (F := Ideal) x0 x1 x2 x3 x4 x5 x6) x13 VEC : S8x1024.Idx → EReal) = Read.val_main_v188 (F := Ideal) x0 x1 x2 x3 x4 x5 x6 x7 x8 x9 x10 x11 x12 x13 := by
  funext i
  obtain ⟨q, k, rfl⟩ : ∃ q k, i = ix2 q k := ⟨i 0, i 1, by blk_ext⟩
  have e1 := v88_at x0 x1 x2 x3 x4 x5 x6 x7 x8 x9 x10 x11 x12 x13 VEC h3 h4 h5 h6
  have e2 := v106_at x0 x1 x2 x3 x4 x5 x6 x7 x8 x9 x10 x11 x12 x13 VEC h3 h4 h5 h6
  have e3 := v81_at x0 x1 x2 x3 x4 x5 x6 x7 x8 x9 x10 VEC h3 h4
  show (∑ r : Fin 8192, tok2A _ _ _ _ _ r q k) = _
  unfold tok2A
  by_cases q0 : q.val = 0
  · obtain rfl : q = 0 := Fin.ext q0
    rw [v188_0]
    exact Finset.sum_congr rfl fun r _ => (if_pos rfl).trans ((congrArg₂ (· * ·) (e2 r k).symm (e3 r k).symm).trans (mul_comm _ _))
  by_cases q1 : q.val = 1
  · obtain rfl : q = 1 := Fin.ext q1
    rw [v188_1]
    exact Finset.sum_congr rfl fun r _ => (if_neg q0).trans ((if_pos rfl).trans (e2 r k).symm)
  by_cases q2 : q.val = 2
  · obtain rfl : q = 2 := Fin.ext q2
    rw [v188_2]
    exact Finset.sum_congr rfl fun r _ => (if_neg q0).trans ((if_neg q1).trans ((if_pos rfl).trans (congrArg₂ (· * ·) (e1 r k).symm (e1 r k).symm)))
  rw [v188_3 _ _ _ _ _ _ _ _ _ _ _ _ _ _ q (by omega)]
  exact Finset.sum_eq_zero fun r _ => (if_neg q0).trans ((if_neg q1).trans (if_neg q2))

include hT in
theorem st1_ref : (st1A x14 WT (Read.val_main_v45 (F := Ideal) x0 x1 x2 x3 x4 x5 x6) x15 : S8x1024.Idx → EReal) = Read.val_main_v197 (F := Ideal) x0 x1 x2 x3 x4 x5 x6 x9 x14 x15 := by
  funext i
  obtain ⟨q, k, rfl⟩ : ∃ q k, i = ix2 q k := ⟨i 0, i 1, by blk_ext⟩
  have e2 := v145_at x9 x14 x15 WT hT
  show (∑ r : Fin 8192, tok1A _ _ _ _ r q k) = _
  unfold tok1A
  by_cases q0 : q.val = 0
  · obtain rfl : q = 0 := Fin.ext q0
    rw [v197_0]
    exact Finset.sum_congr rfl fun r _ => (if_pos rfl).trans ((congrArg (· * _) (e2 r k).symm).trans (mul_comm _ _))
  by_cases q1 : q.val = 1
  · obtain rfl : q = 1 := Fin.ext q1
    rw [v197_1]
    exact Finset.sum_congr rfl fun r _ => (if_neg q0).trans ((if_pos rfl).trans (e2 r k).symm)
  rw [v197_2 _ _ _ _ _ _ _ _ _ _ q (by omega)]
  exact Finset.sum_eq_zero fun r _ => (if_neg q0).trans (if_neg q1)

end Vec

end Cert.KMlpIdeal.Val

end
-- ==== Proof.Mlp.Real.lean ====
/- The calls of the multilayer perceptron: the gradients of the two normalizations, over arguments that are real numbers. -/
module

public import proofs.«01_k».proof.Proof.Mlp.Ref
public import proofs.«01_k».proof.Proof.Merge.Real
public import Idealize.ShloMosaic.Lib.Pipeline.ValueKit
public import Idealize.ShloMosaic.Lib.Claim

@[expose] public section

set_option maxRecDepth 16384

noncomputable section

namespace Cert.KMlpIdeal.Val

open Idealize.ShloMosaic Idealize.ShloMosaic.TcCoe Idealize.SL.Sem
open Cert.RMlpIdeal
open Cert.KMergeIdeal.Val (mul_real)

/-! ## Rows of real numbers -/

section Row

variable (z : Fin 1024 → ℝ)

theorem cen_coe (k : Fin 1024) : cen (fun k => ((z k : ℝ) : EReal)) k = ((z k - Norm.mean z : ℝ) : EReal) := by
  unfold cen lanes
  rw [Norm.coe_sum, Norm.lanes_f32, Norm.coe_div (by norm_num), ← EReal.coe_sub]
  rfl
theorem gvar_coe : gvar (fun k => ((z k : ℝ) : EReal)) = ((Norm.var z + Norm.eps : ℝ) : EReal) := by
  unfold gvar lanes
  rw [Finset.sum_congr rfl fun k _ => (congrArg₂ (· * ·) (cen_coe z k) (cen_coe z k)).trans (EReal.coe_mul _ _).symm,
    Norm.coe_sum, Norm.lanes_f32, Norm.coe_div (by norm_num), Norm.eps_f32, ← EReal.coe_add]
  rfl
theorem dev_coe : dev (fun k => ((z k : ℝ) : EReal)) = ((Norm.rstd z : ℝ) : EReal) := by
  show Ideal.rsqrt (gvar _) = _
  rw [gvar_coe, Norm.coe_rsqrt (Norm.guard_pos _)]
  rfl
theorem nrm_coe (k : Fin 1024) : nrm (fun k => ((z k : ℝ) : EReal)) k = ((Norm.xhat z k : ℝ) : EReal) := by
  unfold nrm
  rw [cen_coe, dev_coe, ← EReal.coe_mul]
  rfl

end Row

/-- The coefficient of the centred row, and the gradient, as automatic differentiation writes them. -/
def vco (z d : Fin 1024 → EReal) : EReal :=
  Ideal.div ((∑ k : Fin 1024, cen z k * d k) * (Ideal.ofBits .f32 0xBF000000#32 * Ideal.div (dev z) (gvar z))) lanes
def adg (z d : Fin 1024 → EReal) (k : Fin 1024) : EReal :=
  (d k * dev z + vco z d * (Ideal.ofBits .f32 0x40000000#32 * cen z k))
    + Ideal.div ((∑ k : Fin 1024, -(d k * dev z)) + ∑ k : Fin 1024, -(vco z d * (Ideal.ofBits .f32 0x40000000#32 * cen z k))) lanes

/-- The gradient the calls write is the one automatic differentiation writes, where the row and the cotangent are real. -/
theorem lng_eq (z gam d : Fin 1024 → EReal) (hz : ∀ k, ∃ y : ℝ, z k = (y : EReal)) (hd : ∀ k, ∃ y : ℝ, d k * gam k = (y : EReal)) (k : Fin 1024) :
    lng (dev z) (nrm z) gam d k = adg z (fun k => d k * gam k) k := by
  choose u hu using hz
  choose e he using hd
  obtain rfl : z = fun k => ((u k : ℝ) : EReal) := funext hu
  have hv : vco (fun k => ((u k : ℝ) : EReal)) (fun k => d k * gam k) = ((Norm.varCoeff u e : ℝ) : EReal) := by
    unfold vco lanes
    rw [Finset.sum_congr rfl fun k _ => (congrArg₂ (· * ·) (cen_coe u k) (he k)).trans (EReal.coe_mul _ _).symm, Norm.coe_sum,
      dev_coe, gvar_coe, Norm.neg_half_f32, Norm.coe_div (Norm.guard_pos _).ne', ← EReal.coe_mul, ← EReal.coe_mul, Norm.lanes_f32, Norm.coe_div (by norm_num)]
    rfl
  have ha : ∀ k, d k * gam k * dev (fun k => ((u k : ℝ) : EReal)) = ((e k * Norm.rstd u : ℝ) : EReal) := fun k => by
    rw [he, dev_coe, ← EReal.coe_mul]
  have hb : ∀ k, vco (fun k => ((u k : ℝ) : EReal)) (fun k => d k * gam k) * (Ideal.ofBits .f32 0x40000000#32 * cen (fun k => ((u k : ℝ) : EReal)) k)
      = ((Norm.varCoeff u e * (2 * (u k - Norm.mean u)) : ℝ) : EReal) := fun k => by
    rw [hv, cen_coe, Norm.two_f32, ← EReal.coe_mul, ← EReal.coe_mul]
  have hx : ∀ k, d k * gam k * nrm (fun k => ((u k : ℝ) : EReal)) k = ((e k * Norm.xhat u k : ℝ) : EReal) := fun k => by
    rw [he, nrm_coe, ← EReal.coe_mul]
  refine Eq.trans (b := ((Norm.grad u e k : ℝ) : EReal)) ?_ ?_
  · unfold lng lanes
    rw [Finset.sum_congr rfl fun k _ => he k, Finset.sum_congr rfl fun k _ => hx k, he, dev_coe, nrm_coe, Norm.coe_sum, Norm.coe_sum, Norm.lanes_f32,
      Norm.coe_div (by norm_num), Norm.coe_div (by norm_num), ← EReal.coe_mul, ← EReal.coe_sub, ← EReal.coe_sub, ← EReal.coe_mul]
    rfl
  · unfold adg lanes
    rw [Finset.sum_congr rfl fun k _ => (congrArg (- ·) (ha k)).trans (EReal.coe_neg _).symm,
      Finset.sum_congr rfl fun k _ => (congrArg (- ·) (hb k)).trans (EReal.coe_neg _).symm, ha, hb,
      Norm.coe_sum, Norm.coe_sum, ← EReal.coe_add, ← EReal.coe_add, Norm.lanes_f32, Norm.coe_div (by norm_num), ← EReal.coe_add, Norm.grad_eq]

/-! ## What is real -/

theorem total_real {n : ℕ} (f : Fin n → EReal) (h : ∀ k, ∃ y : ℝ, f k = (y : EReal)) : ∃ y : ℝ, (∑ k, f k) = (y : EReal) := by
  choose g hg using h
  exact ⟨∑ k, g k, by rw [Finset.sum_congr rfl fun k _ => hg k, Norm.coe_sum]⟩
theorem add_real {x y : EReal} (hx : ∃ a : ℝ, x = (a : EReal)) (hy : ∃ a : ℝ, y = (a : EReal)) : ∃ a : ℝ, x + y = (a : EReal) := by
  obtain ⟨a, rfl⟩ := hx
  obtain ⟨b, rfl⟩ := hy
  exact ⟨a + b, (EReal.coe_add _ _).symm⟩
theorem sub_real {x y : EReal} (hx : ∃ a : ℝ, x = (a : EReal)) (hy : ∃ a : ℝ, y = (a : EReal)) : ∃ a : ℝ, x - y = (a : EReal) := by
  obtain ⟨a, rfl⟩ := hx
  obtain ⟨b, rfl⟩ := hy
  exact ⟨a - b, (EReal.coe_sub _ _).symm⟩
theorem alpha_real : ∃ a : ℝ, alpha = (a : EReal) := by
  refine ⟨(9975792 / 8388608 : ℝ), ?_⟩
  unfold alpha
  simp [Ideal.ofBits, Ideal.ieee]; rw [← EReal.coe_mul]; norm_num
theorem tiny_real : ∃ a : ℝ, Ideal.ofBits .f32 0x3A800000#32 = (a : EReal) := by
  refine ⟨(1 / 1024 : ℝ), ?_⟩
  simp [Ideal.ofBits, Ideal.ieee]; rw [← EReal.coe_mul]; norm_num
theorem nrm_real (z : Fin 1024 → EReal) (hz : ∀ k, ∃ y : ℝ, z k = (y : EReal)) (k : Fin 1024) : ∃ y : ℝ, nrm z k = (y : EReal) := by
  choose u hu using hz
  obtain rfl : z = fun k => ((u k : ℝ) : EReal) := funext hu
  exact ⟨_, nrm_coe u k⟩

variable (x0 x1 : FVec Ideal S8192x1024 .f32) (x2 : FVec Ideal S8192x7168 .f32) (x3 : FVec Ideal S8192x1024 .f32) (x4 x5 x6 : FVec Ideal S1024x1024 .f32)
variable (x7 x8 : FVec Ideal S1024 .f32) (x9 : FVec Ideal S1024x4096 .f32) (x10 : FVec Ideal S4096x1024 .f32) (x11 x12 : FVec Ideal S1024 .f32)
variable (x13 : FVec Ideal S8192x1024 .f32) (x14 : FVec Ideal S8192x4096 .f32) (x15 : FVec Ideal S8192x1024 .f32)
variable (a0 : ∀ i, ∃ y : ℝ, x0 i = (y : EReal)) (a1 : ∀ i, ∃ y : ℝ, x1 i = (y : EReal)) (a3 : ∀ i, ∃ y : ℝ, x3 i = (y : EReal)) (a4 : ∀ i, ∃ y : ℝ, x4 i = (y : EReal)) (a5 : ∀ i, ∃ y : ℝ, x5 i = (y : EReal)) (a6 : ∀ i, ∃ y : ℝ, x6 i = (y : EReal)) (a7 : ∀ i, ∃ y : ℝ, x7 i = (y : EReal)) (a8 : ∀ i, ∃ y : ℝ, x8 i = (y : EReal))
variable (a9 : ∀ i, ∃ y : ℝ, x9 i = (y : EReal)) (a10 : ∀ i, ∃ y : ℝ, x10 i = (y : EReal)) (a11 : ∀ i, ∃ y : ℝ, x11 i = (y : EReal)) (a12 : ∀ i, ∃ y : ℝ, x12 i = (y : EReal)) (a13 : ∀ i, ∃ y : ℝ, x13 i = (y : EReal)) (a14 : ∀ i, ∃ y : ℝ, x14 i = (y : EReal)) (a15 : ∀ i, ∃ y : ℝ, x15 i = (y : EReal))

include a0 a1 a3 a4 a5 a6 in
theorem zA_real (r : Fin 8192) (k : Fin 1024) : ∃ y : ℝ, zA x0 x1 x2 x3 x4 x5 x6 r k = (y : EReal) := by
  have dot_real : ∀ (f : Fin 1024 → EReal) (W : FVec Ideal S1024x1024 .f32), (∀ k, ∃ y : ℝ, f k = (y : EReal)) → (∀ i, ∃ y : ℝ, W i = (y : EReal)) →
      ∀ k, ∃ y : ℝ, dot f W k = (y : EReal) := fun f W hf hW k => total_real _ fun j => mul_real (hf j) (hW _)
  exact add_real (mul_real alpha_real (a3 _)) (dot_real _ _ (fun j => add_real
    (mul_real (Cert.KMergeIdeal.Val.sgm_real _) (dot_real _ _ (fun j => a0 _) a4 j))
    (mul_real (Cert.KMergeIdeal.Val.sgm_real _) (dot_real _ _ (fun j => a1 _) a5 j))) a6 k)

section Vec

variable (VEC : FVec Ideal S8x1024 .f32) (h3 : ∀ k, vrow VEC 3 k = x7 (ix1 k)) (h4 : ∀ k, vrow VEC 4 k = x8 (ix1 k))
variable (h5 : ∀ k, vrow VEC 5 k = x11 (ix1 k)) (h6 : ∀ k, vrow VEC 6 k = x12 (ix1 k))

include a0 a1 a3 a4 a5 a6 a7 a8 in
theorem v51_real (r : Fin 8192) (k : Fin 1024) : ∃ y : ℝ, Read.val_main_v51 (F := Ideal) x0 x1 x2 x3 x4 x5 x6 x7 x8 (ix2 r k) = (y : EReal) := by
  rw [v51_at, v45_at]
  exact add_real (mul_real (nrm_real _ (zA_real x0 x1 x2 x3 x4 x5 x6 a0 a1 a3 a4 a5 a6 r) k) (a7 _)) (a8 _)

include a0 a1 a3 a4 a5 a6 a7 a8 a9 in
theorem v202_real (r : Fin 8192) (k : Fin 4096) : ∃ y : ℝ, Read.val_main_v202 (F := Ideal) x0 x1 x2 x3 x4 x5 x6 x7 x8 x9 (ix2 r k) = (y : EReal) := by
  rw [← hid_ref]
  have hm : ∃ y : ℝ, max (∑ j : Fin 1024, Read.val_main_v201 (F := Ideal) x0 x1 x2 x3 x4 x5 x6 x7 x8 (ix2 r j) * x9 (ix2 j k)) (Ideal.ofBits .f32 0x00000000#32) = (y : EReal) := by
    rcases max_choice (∑ j : Fin 1024, Read.val_main_v201 (F := Ideal) x0 x1 x2 x3 x4 x5 x6 x7 x8 (ix2 r j) * x9 (ix2 j k)) (Ideal.ofBits .f32 0x00000000#32) with h | h
    · rw [h]
      exact total_real _ fun j => mul_real (v51_real x0 x1 x2 x3 x4 x5 x6 x7 x8 a0 a1 a3 a4 a5 a6 a7 a8 r j) (a9 _)
    · rw [h]
      exact ⟨0, by simp [Ideal.ofBits, Ideal.ieee]⟩
  exact mul_real hm hm

include a0 a1 a3 a4 a5 a6 a7 a8 a9 a10 h3 h4 in
theorem zB_real (r : Fin 8192) (k : Fin 1024) : ∃ y : ℝ, zB (Read.val_main_v202 (F := Ideal) x0 x1 x2 x3 x4 x5 x6 x7 x8 x9) x10 (Read.val_main_v45 (F := Ideal) x0 x1 x2 x3 x4 x5 x6) VEC r k = (y : EReal) := by
  rw [← v58_at x0 x1 x2 x3 x4 x5 x6 x7 x8 x9 x10 VEC h3 h4 r k, v58_at x0 x1 x2 x3 x4 x5 x6 x7 x8 x9 x10 VEC h3 h4 r k]
  refine add_real (mul_real alpha_real ?_) (total_real _ fun j => mul_real (v202_real x0 x1 x2 x3 x4 x5 x6 x7 x8 x9 a0 a1 a3 a4 a5 a6 a7 a8 a9 r j) (a10 _))
  have h := v51_real x0 x1 x2 x3 x4 x5 x6 x7 x8 a0 a1 a3 a4 a5 a6 a7 a8 r k
  rw [v51_at, ← h3, ← h4] at h
  exact h

include h3 h4 h5 h6 in
theorem v114_at (r : Fin 8192) (k : Fin 1024) : Read.val_main_v114 (F := Ideal) x0 x1 x2 x3 x4 x5 x6 x7 x8 x9 x10 x11 x12 x13 (ix2 r k) = Cot x0 x1 x2 x3 x4 x5 x6 x7 x8 x9 x10 x13 VEC r k * vrow VEC 5 k := by
  have h : Read.val_main_v114 (F := Ideal) x0 x1 x2 x3 x4 x5 x6 x7 x8 x9 x10 x11 x12 x13 (ix2 r k) = Read.val_main_v106 (F := Ideal) x0 x1 x2 x3 x4 x5 x6 x7 x8 x9 x10 x11 x12 x13 (ix2 r k) * x11 (ix1 k) := by
    pointwise [Read.val_main_v114, Read.val_main_v113, Read.val_main_v82]
  rw [h, v106_at x0 x1 x2 x3 x4 x5 x6 x7 x8 x9 x10 x11 x12 x13 VEC h3 h4 h5 h6, ← h5]
include h3 h4 h5 h6 in
theorem v126_at (r : Fin 8192) : Read.val_main_v126 (F := Ideal) x0 x1 x2 x3 x4 x5 x6 x7 x8 x9 x10 x11 x12 x13 (ix2 r 0) = vco (zB (Read.val_main_v202 (F := Ideal) x0 x1 x2 x3 x4 x5 x6 x7 x8 x9) x10 (Read.val_main_v45 (F := Ideal) x0 x1 x2 x3 x4 x5 x6) VEC r) (fun k => Cot x0 x1 x2 x3 x4 x5 x6 x7 x8 x9 x10 x13 VEC r k * vrow VEC 5 k) := by
  have h : Read.val_main_v126 (F := Ideal) x0 x1 x2 x3 x4 x5 x6 x7 x8 x9 x10 x11 x12 x13 (ix2 r 0) = Ideal.div ((∑ k : Fin 1024, Read.val_main_v73 (F := Ideal) x0 x1 x2 x3 x4 x5 x6 x7 x8 x9 x10 (ix2 r k) * Read.val_main_v114 (F := Ideal) x0 x1 x2 x3 x4 x5 x6 x7 x8 x9 x10 x11 x12 x13 (ix2 r k)) * (Ideal.ofBits .f32 0xBF000000#32 * Ideal.div (Read.val_main_v76 (F := Ideal) x0 x1 x2 x3 x4 x5 x6 x7 x8 x9 x10 (ix2 r 0)) (Read.val_main_v75 (F := Ideal) x0 x1 x2 x3 x4 x5 x6 x7 x8 x9 x10 (ix2 r 0)))) lanes := by
    pointwise [Read.val_main_v126, Read.val_main_v121, Read.val_main_v118, Read.val_main_v117, Read.val_main_v116, Read.val_main_v79, Read.val_main_v78, Read.val_main_v77, Read.val_main_cst_18, Read.val_main_cst_33, Read.val_main_cst_35, Read.val_main_v125]
  rw [h, Finset.sum_congr rfl fun k _ => congrArg₂ (· * ·) (v73_at x0 x1 x2 x3 x4 x5 x6 x7 x8 x9 x10 VEC h3 h4 r k) (v114_at x0 x1 x2 x3 x4 x5 x6 x7 x8 x9 x10 x11 x12 x13 VEC h3 h4 h5 h6 r k), v76_at x0 x1 x2 x3 x4 x5 x6 x7 x8 x9 x10 VEC h3 h4, v75_at x0 x1 x2 x3 x4 x5 x6 x7 x8 x9 x10 VEC h3 h4]
  rfl
include h3 h4 h5 h6 in
theorem v129_at (r : Fin 8192) (k : Fin 1024) : Read.val_main_v129 (F := Ideal) x0 x1 x2 x3 x4 x5 x6 x7 x8 x9 x10 x11 x12 x13 (ix2 r k) = vco (zB (Read.val_main_v202 (F := Ideal) x0 x1 x2 x3 x4 x5 x6 x7 x8 x9) x10 (Read.val_main_v45 (F := Ideal) x0 x1 x2 x3 x4 x5 x6) VEC r) (fun k => Cot x0 x1 x2 x3 x4 x5 x6 x7 x8 x9 x10 x13 VEC r k * vrow VEC 5 k) * (Ideal.ofBits .f32 0x40000000#32 * cen (zB (Read.val_main_v202 (F := Ideal) x0 x1 x2 x3 x4 x5 x6 x7 x8 x9) x10 (Read.val_main_v45 (F := Ideal) x0 x1 x2 x3 x4 x5 x6) VEC r) k) := by
  have h : Read.val_main_v129 (F := Ideal) x0 x1 x2 x3 x4 x5 x6 x7 x8 x9 x10 x11 x12 x13 (ix2 r k) = Read.val_main_v126 (F := Ideal) x0 x1 x2 x3 x4 x5 x6 x7 x8 x9 x10 x11 x12 x13 (ix2 r 0) * (Ideal.ofBits .f32 0x40000000#32 * Read.val_main_v64 (F := Ideal) x0 x1 x2 x3 x4 x5 x6 x7 x8 x9 x10 (ix2 r k)) := by
    pointwise [Read.val_main_v129, Read.val_main_v128, Read.val_main_v127, Read.val_main_v67, Read.val_main_v66, Read.val_main_cst_14, Read.val_main_cst_36]
    rw [Fin.sum_univ_one]
  rw [h, v126_at x0 x1 x2 x3 x4 x5 x6 x7 x8 x9 x10 x11 x12 x13 VEC h3 h4 h5 h6, v64_at x0 x1 x2 x3 x4 x5 x6 x7 x8 x9 x10 VEC h3 h4]
include h3 h4 h5 h6 in
theorem v120_at (r : Fin 8192) (k : Fin 1024) : Read.val_main_v120 (F := Ideal) x0 x1 x2 x3 x4 x5 x6 x7 x8 x9 x10 x11 x12 x13 (ix2 r k) = Cot x0 x1 x2 x3 x4 x5 x6 x7 x8 x9 x10 x13 VEC r k * vrow VEC 5 k * dev (zB (Read.val_main_v202 (F := Ideal) x0 x1 x2 x3 x4 x5 x6 x7 x8 x9) x10 (Read.val_main_v45 (F := Ideal) x0 x1 x2 x3 x4 x5 x6) VEC r) := by
  have h : Read.val_main_v120 (F := Ideal) x0 x1 x2 x3 x4 x5 x6 x7 x8 x9 x10 x11 x12 x13 (ix2 r k) = Read.val_main_v114 (F := Ideal) x0 x1 x2 x3 x4 x5 x6 x7 x8 x9 x10 x11 x12 x13 (ix2 r k) * Read.val_main_v76 (F := Ideal) x0 x1 x2 x3 x4 x5 x6 x7 x8 x9 x10 (ix2 r 0) := by
    pointwise [Read.val_main_v120, Read.val_main_v119]
  rw [h, v114_at x0 x1 x2 x3 x4 x5 x6 x7 x8 x9 x10 x11 x12 x13 VEC h3 h4 h5 h6, v76_at x0 x1 x2 x3 x4 x5 x6 x7 x8 x9 x10 VEC h3 h4]
include h3 h4 h5 h6 in
theorem v139_at (r : Fin 8192) (k : Fin 1024) : Read.val_main_v139 (F := Ideal) x0 x1 x2 x3 x4 x5 x6 x7 x8 x9 x10 x11 x12 x13 (ix2 r k) = adg (zB (Read.val_main_v202 (F := Ideal) x0 x1 x2 x3 x4 x5 x6 x7 x8 x9) x10 (Read.val_main_v45 (F := Ideal) x0 x1 x2 x3 x4 x5 x6) VEC r) (fun k => Cot x0 x1 x2 x3 x4 x5 x6 x7 x8 x9 x10 x13 VEC r k * vrow VEC 5 k) k := by
  have h : Read.val_main_v139 (F := Ideal) x0 x1 x2 x3 x4 x5 x6 x7 x8 x9 x10 x11 x12 x13 (ix2 r k) = (Read.val_main_v120 (F := Ideal) x0 x1 x2 x3 x4 x5 x6 x7 x8 x9 x10 x11 x12 x13 (ix2 r k) + Read.val_main_v129 (F := Ideal) x0 x1 x2 x3 x4 x5 x6 x7 x8 x9 x10 x11 x12 x13 (ix2 r k)) + Ideal.div ((∑ k : Fin 1024, -(Read.val_main_v120 (F := Ideal) x0 x1 x2 x3 x4 x5 x6 x7 x8 x9 x10 x11 x12 x13 (ix2 r k))) + ∑ k : Fin 1024, -(Read.val_main_v129 (F := Ideal) x0 x1 x2 x3 x4 x5 x6 x7 x8 x9 x10 x11 x12 x13 (ix2 r k))) lanes := by
    pointwise [Read.val_main_v139, Read.val_main_v138, Read.val_main_v137, Read.val_main_v136, Read.val_main_v135, Read.val_main_v134, Read.val_main_v133, Read.val_main_v132, Read.val_main_v131, Read.val_main_v130, Read.val_main_v124, Read.val_main_v123, Read.val_main_v122, Read.val_main_cst_34, Read.val_main_cst_37, Read.val_main_cst_38, Read.val_main_cst_39]
    rw [Fin.sum_univ_one]
  rw [h, Finset.sum_congr rfl fun k _ => congrArg (- ·) (v120_at x0 x1 x2 x3 x4 x5 x6 x7 x8 x9 x10 x11 x12 x13 VEC h3 h4 h5 h6 r k), Finset.sum_congr rfl fun k _ => congrArg (- ·) (v129_at x0 x1 x2 x3 x4 x5 x6 x7 x8 x9 x10 x11 x12 x13 VEC h3 h4 h5 h6 r k),
    v120_at x0 x1 x2 x3 x4 x5 x6 x7 x8 x9 x10 x11 x12 x13 VEC h3 h4 h5 h6, v129_at x0 x1 x2 x3 x4 x5 x6 x7 x8 x9 x10 x11 x12 x13 VEC h3 h4 h5 h6]
  rfl

variable (WT : FVec Ideal S4096x1024 .f32) (hT : ∀ j k, WT (ix2 j k) = x9 (ix2 k j))

include h3 hT in
theorem v153_at (r : Fin 8192) (k : Fin 1024) : Read.val_main_v153 (F := Ideal) x7 x9 x14 x15 (ix2 r k) = dx1A x14 WT x15 r k * vrow VEC 3 k := by
  have h : Read.val_main_v153 (F := Ideal) x7 x9 x14 x15 (ix2 r k) = Read.val_main_v145 (F := Ideal) x9 x14 x15 (ix2 r k) * x7 (ix1 k) := by
    pointwise [Read.val_main_v153, Read.val_main_v152, Read.val_main_v46]
  rw [h, v145_at x9 x14 x15 WT hT, ← h3]
include h3 hT in
theorem v165_at (r : Fin 8192) : Read.val_main_v165 (F := Ideal) x0 x1 x2 x3 x4 x5 x6 x7 x9 x14 x15 (ix2 r 0) = vco (zA x0 x1 x2 x3 x4 x5 x6 r) (fun k => dx1A x14 WT x15 r k * vrow VEC 3 k) := by
  have h : Read.val_main_v165 (F := Ideal) x0 x1 x2 x3 x4 x5 x6 x7 x9 x14 x15 (ix2 r 0) = Ideal.div ((∑ k : Fin 1024, Read.val_main_v37 (F := Ideal) x0 x1 x2 x3 x4 x5 x6 (ix2 r k) * Read.val_main_v153 (F := Ideal) x7 x9 x14 x15 (ix2 r k)) * (Ideal.ofBits .f32 0xBF000000#32 * Ideal.div (Read.val_main_v40 (F := Ideal) x0 x1 x2 x3 x4 x5 x6 (ix2 r 0)) (Read.val_main_v39 (F := Ideal) x0 x1 x2 x3 x4 x5 x6 (ix2 r 0)))) lanes := by
    pointwise [Read.val_main_v165, Read.val_main_v160, Read.val_main_v157, Read.val_main_v156, Read.val_main_v155, Read.val_main_v43, Read.val_main_v42, Read.val_main_v41, Read.val_main_cst_10, Read.val_main_cst_46, Read.val_main_cst_48, Read.val_main_v164]
  rw [h, Finset.sum_congr rfl fun k _ => congrArg₂ (· * ·) (v37_at x0 x1 x2 x3 x4 x5 x6 r k) (v153_at x7 x9 x14 x15 VEC h3 WT hT r k), v40_at x0 x1 x2 x3 x4 x5 x6, v39_at x0 x1 x2 x3 x4 x5 x6]
  rfl
include h3 hT in
theorem v168_at (r : Fin 8192) (k : Fin 1024) : Read.val_main_v168 (F := Ideal) x0 x1 x2 x3 x4 x5 x6 x7 x9 x14 x15 (ix2 r k) = vco (zA x0 x1 x2 x3 x4 x5 x6 r) (fun k => dx1A x14 WT x15 r k * vrow VEC 3 k) * (Ideal.ofBits .f32 0x40000000#32 * cen (zA x0 x1 x2 x3 x4 x5 x6 r) k) := by
  have h : Read.val_main_v168 (F := Ideal) x0 x1 x2 x3 x4 x5 x6 x7 x9 x14 x15 (ix2 r k) = Read.val_main_v165 (F := Ideal) x0 x1 x2 x3 x4 x5 x6 x7 x9 x14 x15 (ix2 r 0) * (Ideal.ofBits .f32 0x40000000#32 * Read.val_main_v28 (F := Ideal) x0 x1 x2 x3 x4 x5 x6 (ix2 r k)) := by
    pointwise [Read.val_main_v168, Read.val_main_v167, Read.val_main_v166, Read.val_main_v31, Read.val_main_v30, Read.val_main_cst_6, Read.val_main_cst_49]
    rw [Fin.sum_univ_one]
  rw [h, v165_at x0 x1 x2 x3 x4 x5 x6 x7 x9 x14 x15 VEC h3 WT hT, v28_at x0 x1 x2 x3 x4 x5 x6]
include h3 hT in
theorem v159_at (r : Fin 8192) (k : Fin 1024) : Read.val_main_v159 (F := Ideal) x0 x1 x2 x3 x4 x5 x6 x7 x9 x14 x15 (ix2 r k) = dx1A x14 WT x15 r k * vrow VEC 3 k * dev (zA x0 x1 x2 x3 x4 x5 x6 r) := by
  have h : Read.val_main_v159 (F := Ideal) x0 x1 x2 x3 x4 x5 x6 x7 x9 x14 x15 (ix2 r k) = Read.val_main_v153 (F := Ideal) x7 x9 x14 x15 (ix2 r k) * Read.val_main_v40 (F := Ideal) x0 x1 x2 x3 x4 x5 x6 (ix2 r 0) := by
    pointwise [Read.val_main_v159, Read.val_main_v158]
  rw [h, v153_at x7 x9 x14 x15 VEC h3 WT hT, v40_at x0 x1 x2 x3 x4 x5 x6]
include h3 hT in
theorem v178_at (r : Fin 8192) (k : Fin 1024) : Read.val_main_v178 (F := Ideal) x0 x1 x2 x3 x4 x5 x6 x7 x9 x14 x15 (ix2 r k) = adg (zA x0 x1 x2 x3 x4 x5 x6 r) (fun k => dx1A x14 WT x15 r k * vrow VEC 3 k) k := by
  have h : Read.val_main_v178 (F := Ideal) x0 x1 x2 x3 x4 x5 x6 x7 x9 x14 x15 (ix2 r k) = (Read.val_main_v159 (F := Ideal) x0 x1 x2 x3 x4 x5 x6 x7 x9 x14 x15 (ix2 r k) + Read.val_main_v168 (F := Ideal) x0 x1 x2 x3 x4 x5 x6 x7 x9 x14 x15 (ix2 r k)) + Ideal.div ((∑ k : Fin 1024, -(Read.val_main_v159 (F := Ideal) x0 x1 x2 x3 x4 x5 x6 x7 x9 x14 x15 (ix2 r k))) + ∑ k : Fin 1024, -(Read.val_main_v168 (F := Ideal) x0 x1 x2 x3 x4 x5 x6 x7 x9 x14 x15 (ix2 r k))) lanes := by
    pointwise [Read.val_main_v178, Read.val_main_v177, Read.val_main_v176, Read.val_main_v175, Read.val_main_v174, Read.val_main_v173, Read.val_main_v172, Read.val_main_v171, Read.val_main_v170, Read.val_main_v169, Read.val_main_v163, Read.val_main_v162, Read.val_main_v161, Read.val_main_cst_47, Read.val_main_cst_50, Read.val_main_cst_51, Read.val_main_cst_52]
    rw [Fin.sum_univ_one]
  rw [h, Finset.sum_congr rfl fun k _ => congrArg (- ·) (v159_at x0 x1 x2 x3 x4 x5 x6 x7 x9 x14 x15 VEC h3 WT hT r k), Finset.sum_congr rfl fun k _ => congrArg (- ·) (v168_at x0 x1 x2 x3 x4 x5 x6 x7 x9 x14 x15 VEC h3 WT hT r k),
    v159_at x0 x1 x2 x3 x4 x5 x6 x7 x9 x14 x15 VEC h3 WT hT, v168_at x0 x1 x2 x3 x4 x5 x6 x7 x9 x14 x15 VEC h3 WT hT]
  rfl

include a0 a1 a3 a4 a5 a6 a7 a8 a9 a10 a11 a12 a13 h3 h4 h5 h6 in
theorem dz2_ref : (dz2A (Read.val_main_v202 (F := Ideal) x0 x1 x2 x3 x4 x5 x6 x7 x8 x9) x10 (Read.val_main_v45 (F := Ideal) x0 x1 x2 x3 x4 x5 x6) x13 VEC : S8192x1024.Idx → EReal) = Read.val_main_v203 (F := Ideal) x0 x1 x2 x3 x4 x5 x6 x7 x8 x9 x10 x11 x12 x13 := by
  funext i
  obtain ⟨r, k, rfl⟩ : ∃ r k, i = ix2 r k := ⟨i 0, i 1, by blk_ext⟩
  refine Eq.trans ?_ (v139_at x0 x1 x2 x3 x4 x5 x6 x7 x8 x9 x10 x11 x12 x13 VEC h3 h4 h5 h6 r k).symm
  have hz := zB_real x0 x1 x2 x3 x4 x5 x6 x7 x8 x9 x10 a0 a1 a3 a4 a5 a6 a7 a8 a9 a10 VEC h3 h4 r
  refine lng_eq _ (vrow VEC 5) (Cot x0 x1 x2 x3 x4 x5 x6 x7 x8 x9 x10 x13 VEC r) hz (fun j => mul_real (mul_real (sub_real (add_real (mul_real (nrm_real _ hz j) ?_) ?_) (a13 _)) tiny_real) ?_) k
  · rw [h5]; exact a11 _
  · rw [h6]; exact a12 _
  · rw [h5]; exact a11 _

include a0 a1 a3 a4 a5 a6 a7 a9 a14 a15 h3 hT in
theorem dz1_ref : (dz1A x14 WT (Read.val_main_v45 (F := Ideal) x0 x1 x2 x3 x4 x5 x6) VEC x15 (Read.val_main_v40 (F := Ideal) x0 x1 x2 x3 x4 x5 x6) : S8192x1024.Idx → EReal) = Read.val_main_v204 (F := Ideal) x0 x1 x2 x3 x4 x5 x6 x7 x9 x14 x15 := by
  funext i
  obtain ⟨r, k, rfl⟩ : ∃ r k, i = ix2 r k := ⟨i 0, i 1, by blk_ext⟩
  refine Eq.trans ?_ (v178_at x0 x1 x2 x3 x4 x5 x6 x7 x9 x14 x15 VEC h3 WT hT r k).symm
  have hz := zA_real x0 x1 x2 x3 x4 x5 x6 a0 a1 a3 a4 a5 a6 r
  refine Eq.trans ?_ (lng_eq _ (vrow VEC 3) (dx1A x14 WT x15 r) hz (fun j => mul_real (add_real (total_real _ fun l => mul_real (a14 _) ?_) (mul_real alpha_real (a15 _))) ?_) k)
  · exact lng_congr (v40_at x0 x1 x2 x3 x4 x5 x6 r) (funext (v45_at x0 x1 x2 x3 x4 x5 x6 r)) rfl rfl k
  · rw [hT]; exact a9 _
  · rw [h3]; exact a7 _

end Vec

end Cert.KMlpIdeal.Val

end
-- ==== Proof.Mlp.Pair.lean ====
/- The run of the four calls of the multilayer perceptron: the arrays each call starts from, and the nine results as the
reference's expressions of the arguments. -/
module

public import proofs.«01_k».proof.Proof.Mlp.Real
public import proofs.«01_k».proof.Proof.Gen.RMlpIdeal
public import proofs.«01_k».proof.Defs
public import Idealize.ShloMosaic.Lib.Pipeline.ValueKit
public import Idealize.ShloMosaic.Lib.Claim

@[expose] public section

set_option maxRecDepth 16384

noncomputable section

namespace Cert.KMlpIdeal.Val

open Idealize.ShloMosaic Idealize.ShloMosaic.TcCoe Idealize.SL.Sem
open Idealize.ShloMosaic.Tactic Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)
open Cert.KMlpIdeal Cert.KMlpIdeal.Gen

instance finiteFacts : Cert.Pre_finite_mlp.Facts := ⟨by decide, by decide, by decide, by decide, by decide, by decide⟩

variable (m : (ℓ : Loc nD τ sig) → Buf (Elt Ideal) ℓ) (ρ : Dev nD → PrngReg)

theorem e_v10 (c : Dev nD) : (V1 m ρ c main_v10 : S8192x1024.Idx → EReal) = (m ((c : Thread nD τ).loc main_arg0)) := by
  show StableHlo.after hostOps0 (W0 m ρ c) _ = _
  after_results
  rfl
theorem e_v11 (c : Dev nD) : (V1 m ρ c main_v11 : S8192x1024.Idx → EReal) = (m ((c : Thread nD τ).loc main_arg1)) := by
  show StableHlo.after hostOps0 (W0 m ρ c) _ = _
  after_results
  rfl
theorem e_v12 (c : Dev nD) : (V1 m ρ c main_v12 : S8192x7168.Idx → EReal) = (m ((c : Thread nD τ).loc main_arg2)) := by
  show StableHlo.after hostOps0 (W0 m ρ c) _ = _
  after_results
  rfl
theorem e_v13 (c : Dev nD) : (V1 m ρ c main_v13 : S1024x1024.Idx → EReal) = (m ((c : Thread nD τ).loc main_arg4)) := by
  show StableHlo.after hostOps0 (W0 m ρ c) _ = _
  after_results
  rfl
theorem e_v14 (c : Dev nD) : (V1 m ρ c main_v14 : S1024x1024.Idx → EReal) = (m ((c : Thread nD τ).loc main_arg5)) := by
  show StableHlo.after hostOps0 (W0 m ρ c) _ = _
  after_results
  rfl
theorem e_v15 (c : Dev nD) : (V1 m ρ c main_v15 : S1024x1024.Idx → EReal) = (m ((c : Thread nD τ).loc main_arg6)) := by
  show StableHlo.after hostOps0 (W0 m ρ c) _ = _
  after_results
  rfl
theorem e_v17 (c : Dev nD) : (V3 m ρ c main_v17 : S1024x4096.Idx → EReal) = (m ((c : Thread nD τ).loc main_arg9)) := by
  show StableHlo.after hostOps1 (W2 m ρ c) _ = _
  after_results
  rw [W2_args m ρ c main_arg9 (by decide)]
  rfl
theorem e_v19 (c : Dev nD) : (V5 m ρ c main_v19 : S4096x1024.Idx → EReal) = (m ((c : Thread nD τ).loc main_arg10)) := by
  show StableHlo.after hostOps2 (W4 m ρ c) _ = _
  after_results
  rw [W4_args m ρ c main_arg10 (by decide)]
  rfl
theorem e_v21 (c : Dev nD) : (V7 m ρ c main_v21 : S8192x4096.Idx → EReal) = (m ((c : Thread nD τ).loc main_arg14)) := by
  show StableHlo.after hostOps3 (W6 m ρ c) _ = _
  after_results
  rw [W6_args m ρ c main_arg14 (by decide)]
  rfl
theorem e_v24 (c : Dev nD) : (V7 m ρ c main_v24 : S8192x1024.Idx → EReal) = (m ((c : Thread nD τ).loc main_arg15)) := by
  show StableHlo.after hostOps3 (W6 m ρ c) _ = _
  after_results
  rw [W6_args m ρ c main_arg15 (by decide)]
  rfl
theorem e_arg3 (c : Dev nD) : V1 m ρ c main_arg3 = (m ((c : Thread nD τ).loc main_arg3)) := W1_args m ρ c main_arg3 (by decide)
theorem e_arg13 (c : Dev nD) : V5 m ρ c main_arg13 = (m ((c : Thread nD τ).loc main_arg13)) := W5_args m ρ c main_arg13 (by decide)
theorem e_v23 (c : Dev nD) (j : Fin 4096) (k : Fin 1024) : (V7 m ρ c main_v23 : S4096x1024.Idx → EReal) (ix2 j k) = (m ((c : Thread nD τ).loc main_arg9)) (ix2 k j) := by
  show StableHlo.after hostOps3 (W6 m ρ c) (Proc.devRef .tc main_v23) (ix2 j k) = _
  after_results
  rw [W6_args m ρ c main_arg9 (by decide)]
  pointwise
theorem e_row3 (c : Dev nD) (k : Fin 1024) : vrow (V1 m ρ c main_v9) 3 k = (m ((c : Thread nD τ).loc main_arg7)) (ix1 k) := by
  show StableHlo.after hostOps0 (W0 m ρ c) (Proc.devRef .tc main_v9) (ix2 3 k) = _
  after_results
  pointwise
  repeat (rw [StableHlo.unary_result_ne]; rotate_left; decide)
  rw [StableHlo.unary_result]
  repeat (rw [StableHlo.unary_result_ne]; rotate_left; decide)
  rw [StableHlo.nullary_result_ne]; rotate_left; decide
  repeat (rw [StableHlo.unary_result_ne]; rotate_left; decide)
  pointwise
theorem e_row4 (c : Dev nD) (k : Fin 1024) : vrow (V1 m ρ c main_v9) 4 k = (m ((c : Thread nD τ).loc main_arg8)) (ix1 k) := by
  show StableHlo.after hostOps0 (W0 m ρ c) (Proc.devRef .tc main_v9) (ix2 4 k) = _
  after_results
  pointwise
  repeat (rw [StableHlo.unary_result_ne]; rotate_left; decide)
  rw [StableHlo.unary_result]
  repeat (rw [StableHlo.unary_result_ne]; rotate_left; decide)
  rw [StableHlo.nullary_result_ne]; rotate_left; decide
  repeat (rw [StableHlo.unary_result_ne]; rotate_left; decide)
  pointwise
theorem e_row5 (c : Dev nD) (k : Fin 1024) : vrow (V1 m ρ c main_v9) 5 k = (m ((c : Thread nD τ).loc main_arg11)) (ix1 k) := by
  show StableHlo.after hostOps0 (W0 m ρ c) (Proc.devRef .tc main_v9) (ix2 5 k) = _
  after_results
  pointwise
  repeat (rw [StableHlo.unary_result_ne]; rotate_left; decide)
  rw [StableHlo.unary_result]
  repeat (rw [StableHlo.unary_result_ne]; rotate_left; decide)
  rw [StableHlo.nullary_result_ne]; rotate_left; decide
  repeat (rw [StableHlo.unary_result_ne]; rotate_left; decide)
  pointwise
theorem e_row6 (c : Dev nD) (k : Fin 1024) : vrow (V1 m ρ c main_v9) 6 k = (m ((c : Thread nD τ).loc main_arg12)) (ix1 k) := by
  show StableHlo.after hostOps0 (W0 m ρ c) (Proc.devRef .tc main_v9) (ix2 6 k) = _
  after_results
  pointwise
  repeat (rw [StableHlo.unary_result_ne]; rotate_left; decide)
  rw [StableHlo.unary_result]
  repeat (rw [StableHlo.unary_result_ne]; rotate_left; decide)
  rw [StableHlo.nullary_result_ne]; rotate_left; decide
  repeat (rw [StableHlo.unary_result_ne]; rotate_left; decide)
  pointwise

theorem keep5 (c : Dev nD) : V5 m ρ c main_v9 = V1 m ρ c main_v9 := (((W5_of m ρ c main_v9 (by decide)).trans (W4_of m ρ c main_v9 (by decide))).trans (W3_of m ρ c main_v9 (by decide))).trans (W2_of m ρ c main_v9 (by decide))
theorem keep7 (c : Dev nD) : V7 m ρ c main_v9 = V1 m ρ c main_v9 := (((((W7_of m ρ c main_v9 (by decide)).trans (W6_of m ρ c main_v9 (by decide))).trans (W5_of m ρ c main_v9 (by decide))).trans (W4_of m ρ c main_v9 (by decide))).trans (W3_of m ρ c main_v9 (by decide))).trans (W2_of m ρ c main_v9 (by decide))
theorem r_v16_0 (c : Dev nD) : V2 m ρ c main_v16_0 = Cert.RMlpIdeal.Read.val_main_v198 (F := Ideal) (m ((c : Thread nD τ).loc main_arg0)) (m ((c : Thread nD τ).loc main_arg4)) := by
  refine (hF0 m ρ c 9).symm.trans ((f0_9 (V1 m ρ) c).trans ?_)
  rw [e_v10, e_v13]
  exact ya_ref _ _
theorem r_v16_1 (c : Dev nD) : V2 m ρ c main_v16_1 = Cert.RMlpIdeal.Read.val_main_v199 (F := Ideal) (m ((c : Thread nD τ).loc main_arg1)) (m ((c : Thread nD τ).loc main_arg5)) := by
  refine (hF0 m ρ c 10).symm.trans ((f0_10 (V1 m ρ) c).trans ?_)
  rw [e_v11, e_v14]
  exact yb_ref _ _
theorem r_v16_2 (c : Dev nD) : V2 m ρ c main_v16_2 = Cert.RMlpIdeal.Read.val_main_v200 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  refine (hF0 m ρ c 11).symm.trans ((f0_11 (V1 m ρ) c).trans ?_)
  rw [e_v10, e_v11, e_v12, e_v13, e_v14]
  exact mix_ref _ _ _ _ _
theorem r_v16_3 (c : Dev nD) : V2 m ρ c main_v16_3 = Cert.RMlpIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (hF0 m ρ c 12).symm.trans ((f0_12 (V1 m ρ) c).trans ?_)
  rw [e_v10, e_v11, e_v12, e_arg3, e_v13, e_v14, e_v15]
  exact xh_ref _ _ _ _ _ _ _
theorem r_v16_4 (c : Dev nD) : V2 m ρ c main_v16_4 = Cert.RMlpIdeal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (hF0 m ρ c 13).symm.trans ((f0_13 (V1 m ρ) c).trans ?_)
  rw [e_v10, e_v11, e_v12, e_arg3, e_v13, e_v14, e_v15]
  exact rs_ref _ _ _ _ _ _ _
theorem r_v16_5 (c : Dev nD) : V2 m ρ c main_v16_5 = Cert.RMlpIdeal.Read.val_main_v201 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (hF0 m ρ c 14).symm.trans ((f0_14 (V1 m ρ) c).trans ?_)
  rw [e_v10, e_v11, e_v12, e_arg3, e_v13, e_v14, e_v15]
  exact x1_ref _ _ _ _ _ _ _ _ _ _ (e_row3 m ρ c) (e_row4 m ρ c)
theorem r_v18_1 (c : Dev nD) : V4 m ρ c main_v18_1 = Cert.RMlpIdeal.Read.val_main_v202 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (hF1 m ρ c 3).symm.trans ((f1_3 (V3 m ρ) c).trans ?_)
  have h : V3 m ρ c main_v16_5 = _ := (W3_of m ρ c main_v16_5 (by decide)).trans (r_v16_5 m ρ c)
  rw [h, e_v17]
  exact hid_ref _ _ _ _ _ _ _ _ _ _
theorem r_v20_1 (c : Dev nD) : V6 m ρ c main_v20_1 = Cert.RMlpIdeal.Read.val_main_v188 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (hF2 m ρ c 6).symm.trans ((f2_6 (V5 m ρ) c).trans ?_)
  have h1 : V5 m ρ c main_v18_1 = _ := (W5_of m ρ c main_v18_1 (by decide)).trans (r_v18_1 m ρ c)
  have h2 : V5 m ρ c main_v16_3 = _ := (((W5_of m ρ c main_v16_3 (by decide)).trans (W4_of m ρ c main_v16_3 (by decide))).trans (W3_of m ρ c main_v16_3 (by decide))).trans (r_v16_3 m ρ c)
  rw [h1, e_v19, h2, e_arg13, keep5 m ρ c]
  exact st2_ref _ _ _ _ _ _ _ _ _ _ _ _ _ _ _ (e_row3 m ρ c) (e_row4 m ρ c) (e_row5 m ρ c) (e_row6 m ρ c)
theorem r_v25_1 (c : Dev nD) : V8 m ρ c main_v25_1 = Cert.RMlpIdeal.Read.val_main_v197 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg14)) (m ((c : Thread nD τ).loc main_arg15)) := by
  refine (hF3 m ρ c 7).symm.trans ((f3_7 (V7 m ρ) c).trans ?_)
  have h2 : V7 m ρ c main_v16_3 = _ := (((((W7_of m ρ c main_v16_3 (by decide)).trans (W6_of m ρ c main_v16_3 (by decide))).trans (W5_of m ρ c main_v16_3 (by decide))).trans (W4_of m ρ c main_v16_3 (by decide))).trans (W3_of m ρ c main_v16_3 (by decide))).trans (r_v16_3 m ρ c)
  rw [e_v21, h2, e_v24]
  exact st1_ref _ _ _ _ _ _ _ _ _ _ _ (e_v23 m ρ c)
theorem r_v20_0 (c : Dev nD) (hp : Pre_KMlpIdeal_finite_mlp m) : V6 m ρ c main_v20_0 = Cert.RMlpIdeal.Read.val_main_v203 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (hF2 m ρ c 5).symm.trans ((f2_5 (V5 m ρ) c).trans ?_)
  have h1 : V5 m ρ c main_v18_1 = _ := (W5_of m ρ c main_v18_1 (by decide)).trans (r_v18_1 m ρ c)
  have h2 : V5 m ρ c main_v16_3 = _ := (((W5_of m ρ c main_v16_3 (by decide)).trans (W4_of m ρ c main_v16_3 (by decide))).trans (W3_of m ρ c main_v16_3 (by decide))).trans (r_v16_3 m ρ c)
  rw [h1, e_v19, h2, e_arg13, keep5 m ρ c]
  obtain ⟨p0, p1, p3, p4, p5, p6, p7, p8, p9, p10, p11, p12, p13, p14, p15⟩ := hp c
  exact dz2_ref _ _ _ _ _ _ _ _ _ _ _ _ _ _ (Norm.real_of_mask _ _ p0) (Norm.real_of_mask _ _ p1) (Norm.real_of_mask _ _ p3) (Norm.real_of_mask _ _ p4) (Norm.real_of_mask _ _ p5) (Norm.real_of_mask _ _ p6) (Norm.real_of_mask _ _ p7) (Norm.real_of_mask _ _ p8) (Norm.real_of_mask _ _ p9) (Norm.real_of_mask _ _ p10) (Norm.real_of_mask _ _ p11) (Norm.real_of_mask _ _ p12) (Norm.real_of_mask _ _ p13) _ (e_row3 m ρ c) (e_row4 m ρ c) (e_row5 m ρ c) (e_row6 m ρ c)
theorem r_v25_0 (c : Dev nD) (hp : Pre_KMlpIdeal_finite_mlp m) : V8 m ρ c main_v25_0 = Cert.RMlpIdeal.Read.val_main_v204 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg14)) (m ((c : Thread nD τ).loc main_arg15)) := by
  refine (hF3 m ρ c 6).symm.trans ((f3_6 (V7 m ρ) c).trans ?_)
  have h2 : V7 m ρ c main_v16_3 = _ := (((((W7_of m ρ c main_v16_3 (by decide)).trans (W6_of m ρ c main_v16_3 (by decide))).trans (W5_of m ρ c main_v16_3 (by decide))).trans (W4_of m ρ c main_v16_3 (by decide))).trans (W3_of m ρ c main_v16_3 (by decide))).trans (r_v16_3 m ρ c)
  have h4 : V7 m ρ c main_v16_4 = _ := (((((W7_of m ρ c main_v16_4 (by decide)).trans (W6_of m ρ c main_v16_4 (by decide))).trans (W5_of m ρ c main_v16_4 (by decide))).trans (W4_of m ρ c main_v16_4 (by decide))).trans (W3_of m ρ c main_v16_4 (by decide))).trans (r_v16_4 m ρ c)
  rw [e_v21, h2, e_v24, h4, keep7 m ρ c]
  obtain ⟨p0, p1, p3, p4, p5, p6, p7, p8, p9, p10, p11, p12, p13, p14, p15⟩ := hp c
  exact dz1_ref _ _ _ _ _ _ _ _ _ _ _ (Norm.real_of_mask _ _ p0) (Norm.real_of_mask _ _ p1) (Norm.real_of_mask _ _ p3) (Norm.real_of_mask _ _ p4) (Norm.real_of_mask _ _ p5) (Norm.real_of_mask _ _ p6) (Norm.real_of_mask _ _ p7) (Norm.real_of_mask _ _ p9) (Norm.real_of_mask _ _ p14) (Norm.real_of_mask _ _ p15) _ (e_row3 m ρ c) _ (e_v23 m ρ c)

set_option maxHeartbeats 4000000 in
/-- The run of the four calls. -/
theorem run (hp : Pre_KMlpIdeal_finite_mlp m) : θ_run defs (onTc (τ := τ) (main (F := Ideal))) ⟨m, fun _ => 0, ρ⟩ (fun r => ∀ c : Dev nD,
      r.2.mem ((c.tc : Thread nD τ).loc main_v16_0) = Cert.RMlpIdeal.Read.val_main_v198 (F := Ideal) (m ((c : Thread nD τ).loc main_arg0)) (m ((c : Thread nD τ).loc main_arg4))
      ∧ r.2.mem ((c.tc : Thread nD τ).loc main_v16_1) = Cert.RMlpIdeal.Read.val_main_v199 (F := Ideal) (m ((c : Thread nD τ).loc main_arg1)) (m ((c : Thread nD τ).loc main_arg5))
      ∧ r.2.mem ((c.tc : Thread nD τ).loc main_v16_2) = Cert.RMlpIdeal.Read.val_main_v200 (F := Ideal) (m ((c : Thread nD τ).loc main_arg0)) (m ((c : Thread nD τ).loc main_arg1)) (m ((c : Thread nD τ).loc main_arg2)) (m ((c : Thread nD τ).loc main_arg4)) (m ((c : Thread nD τ).loc main_arg5))
      ∧ r.2.mem ((c.tc : Thread nD τ).loc main_v16_5) = Cert.RMlpIdeal.Read.val_main_v201 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_v18_1) = Cert.RMlpIdeal.Read.val_main_v202 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_v20_0) = Cert.RMlpIdeal.Read.val_main_v203 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c.tc : Thread nD τ).loc main_v20_1) = Cert.RMlpIdeal.Read.val_main_v188 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c.tc : Thread nD τ).loc main_v25_0) = Cert.RMlpIdeal.Read.val_main_v204 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg14)) (m ((c : Thread nD τ).loc main_arg15))
      ∧ r.2.mem ((c.tc : Thread nD τ).loc main_v25_1) = Cert.RMlpIdeal.Read.val_main_v197 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg14)) (m ((c : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => fun c => ⟨(h c _ (mem_uc main_v16_0 (by decide))).trans (((((((W8_of m ρ c main_v16_0 (by decide)).trans (W7_of m ρ c main_v16_0 (by decide))).trans (W6_of m ρ c main_v16_0 (by decide))).trans (W5_of m ρ c main_v16_0 (by decide))).trans (W4_of m ρ c main_v16_0 (by decide))).trans (W3_of m ρ c main_v16_0 (by decide))).trans (r_v16_0 m ρ c)),
      (h c _ (mem_uc main_v16_1 (by decide))).trans (((((((W8_of m ρ c main_v16_1 (by decide)).trans (W7_of m ρ c main_v16_1 (by decide))).trans (W6_of m ρ c main_v16_1 (by decide))).trans (W5_of m ρ c main_v16_1 (by decide))).trans (W4_of m ρ c main_v16_1 (by decide))).trans (W3_of m ρ c main_v16_1 (by decide))).trans (r_v16_1 m ρ c)),
      (h c _ (mem_uc main_v16_2 (by decide))).trans (((((((W8_of m ρ c main_v16_2 (by decide)).trans (W7_of m ρ c main_v16_2 (by decide))).trans (W6_of m ρ c main_v16_2 (by decide))).trans (W5_of m ρ c main_v16_2 (by decide))).trans (W4_of m ρ c main_v16_2 (by decide))).trans (W3_of m ρ c main_v16_2 (by decide))).trans (r_v16_2 m ρ c)),
      (h c _ (mem_uc main_v16_5 (by decide))).trans (((((((W8_of m ρ c main_v16_5 (by decide)).trans (W7_of m ρ c main_v16_5 (by decide))).trans (W6_of m ρ c main_v16_5 (by decide))).trans (W5_of m ρ c main_v16_5 (by decide))).trans (W4_of m ρ c main_v16_5 (by decide))).trans (W3_of m ρ c main_v16_5 (by decide))).trans (r_v16_5 m ρ c)),
      (h c _ (mem_uc main_v18_1 (by decide))).trans (((((W8_of m ρ c main_v18_1 (by decide)).trans (W7_of m ρ c main_v18_1 (by decide))).trans (W6_of m ρ c main_v18_1 (by decide))).trans (W5_of m ρ c main_v18_1 (by decide))).trans (r_v18_1 m ρ c)),
      (h c _ (mem_uc main_v20_0 (by decide))).trans (((W8_of m ρ c main_v20_0 (by decide)).trans (W7_of m ρ c main_v20_0 (by decide))).trans (r_v20_0 m ρ c hp)),
      (h c _ (mem_uc main_v20_1 (by decide))).trans (((W8_of m ρ c main_v20_1 (by decide)).trans (W7_of m ρ c main_v20_1 (by decide))).trans (r_v20_1 m ρ c)),
      (h c _ (mem_uc main_v25_0 (by decide))).trans (r_v25_0 m ρ c hp),
      (h c _ (mem_uc main_v25_1 (by decide))).trans (r_v25_1 m ρ c),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c),
      (h c _ (mem_uc main_arg13 (by decide))).trans (W8_main_arg13 m ρ c),
      (h c _ (mem_uc main_arg14 (by decide))).trans (W8_main_arg14 m ρ c),
      (h c _ (mem_uc main_arg15 (by decide))).trans (W8_main_arg15 m ρ c)⟩)

/-- The reference's run, its results as expressions of its arguments. -/
theorem runR (m' : (ℓ : Loc Cert.RMlpIdeal.nD Cert.RMlpIdeal.τ Cert.RMlpIdeal.sig) → Buf (Elt Ideal) ℓ) (ρ' : Dev Cert.RMlpIdeal.nD → PrngReg) :
    θ_run (Cert.RMlpIdeal.defs (F := Ideal)) (onTc (τ := Cert.RMlpIdeal.τ) (Cert.RMlpIdeal.main (F := Ideal))) ⟨m', fun _ => 0, ρ'⟩ fun r => ∀ c : Dev Cert.RMlpIdeal.nD,
      r.2.mem ((c.tc : Thread Cert.RMlpIdeal.nD Cert.RMlpIdeal.τ).loc Cert.RMlpIdeal.main_v198) = Cert.RMlpIdeal.Read.val_main_v198 (F := Ideal) (m' ((c.tc : Thread Cert.RMlpIdeal.nD Cert.RMlpIdeal.τ).loc Cert.RMlpIdeal.main_arg0)) (m' ((c.tc : Thread Cert.RMlpIdeal.nD Cert.RMlpIdeal.τ).loc Cert.RMlpIdeal.main_arg4))
      ∧ r.2.mem ((c.tc : Thread Cert.RMlpIdeal.nD Cert.RMlpIdeal.τ).loc Cert.RMlpIdeal.main_v199) = Cert.RMlpIdeal.Read.val_main_v199 (F := Ideal) (m' ((c.tc : Thread Cert.RMlpIdeal.nD Cert.RMlpIdeal.τ).loc Cert.RMlpIdeal.main_arg1)) (m' ((c.tc : Thread Cert.RMlpIdeal.nD Cert.RMlpIdeal.τ).loc Cert.RMlpIdeal.main_arg5))
      ∧ r.2.mem ((c.tc : Thread Cert.RMlpIdeal.nD Cert.RMlpIdeal.τ).loc Cert.RMlpIdeal.main_v200) = Cert.RMlpIdeal.Read.val_main_v200 (F := Ideal) (m' ((c.tc : Thread Cert.RMlpIdeal.nD Cert.RMlpIdeal.τ).loc Cert.RMlpIdeal.main_arg0)) (m' ((c.tc : Thread Cert.RMlpIdeal.nD Cert.RMlpIdeal.τ).loc Cert.RMlpIdeal.main_arg1)) (m' ((c.tc : Thread Cert.RMlpIdeal.nD Cert.RMlpIdeal.τ).loc Cert.RMlpIdeal.main_arg2)) (m' ((c.tc : Thread Cert.RMlpIdeal.nD Cert.RMlpIdeal.τ).loc Cert.RMlpIdeal.main_arg4)) (m' ((c.tc : Thread Cert.RMlpIdeal.nD Cert.RMlpIdeal.τ).loc Cert.RMlpIdeal.main_arg5))
      ∧ r.2.mem ((c.tc : Thread Cert.RMlpIdeal.nD Cert.RMlpIdeal.τ).loc Cert.RMlpIdeal.main_v201) = Cert.RMlpIdeal.Read.val_main_v201 (F := Ideal) (m' ((c.tc : Thread Cert.RMlpIdeal.nD Cert.RMlpIdeal.τ).loc Cert.RMlpIdeal.main_arg0)) (m' ((c.tc : Thread Cert.RMlpIdeal.nD Cert.RMlpIdeal.τ).loc Cert.RMlpIdeal.main_arg1)) (m' ((c.tc : Thread Cert.RMlpIdeal.nD Cert.RMlpIdeal.τ).loc Cert.RMlpIdeal.main_arg2)) (m' ((c.tc : Thread Cert.RMlpIdeal.nD Cert.RMlpIdeal.τ).loc Cert.RMlpIdeal.main_arg3)) (m' ((c.tc : Thread Cert.RMlpIdeal.nD Cert.RMlpIdeal.τ).loc Cert.RMlpIdeal.main_arg4)) (m' ((c.tc : Thread Cert.RMlpIdeal.nD Cert.RMlpIdeal.τ).loc Cert.RMlpIdeal.main_arg5)) (m' ((c.tc : Thread Cert.RMlpIdeal.nD Cert.RMlpIdeal.τ).loc Cert.RMlpIdeal.main_arg6)) (m' ((c.tc : Thread Cert.RMlpIdeal.nD Cert.RMlpIdeal.τ).loc Cert.RMlpIdeal.main_arg7)) (m' ((c.tc : Thread Cert.RMlpIdeal.nD Cert.RMlpIdeal.τ).loc Cert.RMlpIdeal.main_arg8))
      ∧ r.2.mem ((c.tc : Thread Cert.RMlpIdeal.nD Cert.RMlpIdeal.τ).loc Cert.RMlpIdeal.main_v202) = Cert.RMlpIdeal.Read.val_main_v202 (F := Ideal) (m' ((c.tc : Thread Cert.RMlpIdeal.nD Cert.RMlpIdeal.τ).loc Cert.RMlpIdeal.main_arg0)) (m' ((c.tc : Thread Cert.RMlpIdeal.nD Cert.RMlpIdeal.τ).loc Cert.RMlpIdeal.main_arg1)) (m' ((c.tc : Thread Cert.RMlpIdeal.nD Cert.RMlpIdeal.τ).loc Cert.RMlpIdeal.main_arg2)) (m' ((c.tc : Thread Cert.RMlpIdeal.nD Cert.RMlpIdeal.τ).loc Cert.RMlpIdeal.main_arg3)) (m' ((c.tc : Thread Cert.RMlpIdeal.nD Cert.RMlpIdeal.τ).loc Cert.RMlpIdeal.main_arg4)) (m' ((c.tc : Thread Cert.RMlpIdeal.nD Cert.RMlpIdeal.τ).loc Cert.RMlpIdeal.main_arg5)) (m' ((c.tc : Thread Cert.RMlpIdeal.nD Cert.RMlpIdeal.τ).loc Cert.RMlpIdeal.main_arg6)) (m' ((c.tc : Thread Cert.RMlpIdeal.nD Cert.RMlpIdeal.τ).loc Cert.RMlpIdeal.main_arg7)) (m' ((c.tc : Thread Cert.RMlpIdeal.nD Cert.RMlpIdeal.τ).loc Cert.RMlpIdeal.main_arg8)) (m' ((c.tc : Thread Cert.RMlpIdeal.nD Cert.RMlpIdeal.τ).loc Cert.RMlpIdeal.main_arg9))
      ∧ r.2.mem ((c.tc : Thread Cert.RMlpIdeal.nD Cert.RMlpIdeal.τ).loc Cert.RMlpIdeal.main_v203) = Cert.RMlpIdeal.Read.val_main_v203 (F := Ideal) (m' ((c.tc : Thread Cert.RMlpIdeal.nD Cert.RMlpIdeal.τ).loc Cert.RMlpIdeal.main_arg0)) (m' ((c.tc : Thread Cert.RMlpIdeal.nD Cert.RMlpIdeal.τ).loc Cert.RMlpIdeal.main_arg1)) (m' ((c.tc : Thread Cert.RMlpIdeal.nD Cert.RMlpIdeal.τ).loc Cert.RMlpIdeal.main_arg2)) (m' ((c.tc : Thread Cert.RMlpIdeal.nD Cert.RMlpIdeal.τ).loc Cert.RMlpIdeal.main_arg3)) (m' ((c.tc : Thread Cert.RMlpIdeal.nD Cert.RMlpIdeal.τ).loc Cert.RMlpIdeal.main_arg4)) (m' ((c.tc : Thread Cert.RMlpIdeal.nD Cert.RMlpIdeal.τ).loc Cert.RMlpIdeal.main_arg5)) (m' ((c.tc : Thread Cert.RMlpIdeal.nD Cert.RMlpIdeal.τ).loc Cert.RMlpIdeal.main_arg6)) (m' ((c.tc : Thread Cert.RMlpIdeal.nD Cert.RMlpIdeal.τ).loc Cert.RMlpIdeal.main_arg7)) (m' ((c.tc : Thread Cert.RMlpIdeal.nD Cert.RMlpIdeal.τ).loc Cert.RMlpIdeal.main_arg8)) (m' ((c.tc : Thread Cert.RMlpIdeal.nD Cert.RMlpIdeal.τ).loc Cert.RMlpIdeal.main_arg9)) (m' ((c.tc : Thread Cert.RMlpIdeal.nD Cert.RMlpIdeal.τ).loc Cert.RMlpIdeal.main_arg10)) (m' ((c.tc : Thread Cert.RMlpIdeal.nD Cert.RMlpIdeal.τ).loc Cert.RMlpIdeal.main_arg11)) (m' ((c.tc : Thread Cert.RMlpIdeal.nD Cert.RMlpIdeal.τ).loc Cert.RMlpIdeal.main_arg12)) (m' ((c.tc : Thread Cert.RMlpIdeal.nD Cert.RMlpIdeal.τ).loc Cert.RMlpIdeal.main_arg13))
      ∧ r.2.mem ((c.tc : Thread Cert.RMlpIdeal.nD Cert.RMlpIdeal.τ).loc Cert.RMlpIdeal.main_v188) = Cert.RMlpIdeal.Read.val_main_v188 (F := Ideal) (m' ((c.tc : Thread Cert.RMlpIdeal.nD Cert.RMlpIdeal.τ).loc Cert.RMlpIdeal.main_arg0)) (m' ((c.tc : Thread Cert.RMlpIdeal.nD Cert.RMlpIdeal.τ).loc Cert.RMlpIdeal.main_arg1)) (m' ((c.tc : Thread Cert.RMlpIdeal.nD Cert.RMlpIdeal.τ).loc Cert.RMlpIdeal.main_arg2)) (m' ((c.tc : Thread Cert.RMlpIdeal.nD Cert.RMlpIdeal.τ).loc Cert.RMlpIdeal.main_arg3)) (m' ((c.tc : Thread Cert.RMlpIdeal.nD Cert.RMlpIdeal.τ).loc Cert.RMlpIdeal.main_arg4)) (m' ((c.tc : Thread Cert.RMlpIdeal.nD Cert.RMlpIdeal.τ).loc Cert.RMlpIdeal.main_arg5)) (m' ((c.tc : Thread Cert.RMlpIdeal.nD Cert.RMlpIdeal.τ).loc Cert.RMlpIdeal.main_arg6)) (m' ((c.tc : Thread Cert.RMlpIdeal.nD Cert.RMlpIdeal.τ).loc Cert.RMlpIdeal.main_arg7)) (m' ((c.tc : Thread Cert.RMlpIdeal.nD Cert.RMlpIdeal.τ).loc Cert.RMlpIdeal.main_arg8)) (m' ((c.tc : Thread Cert.RMlpIdeal.nD Cert.RMlpIdeal.τ).loc Cert.RMlpIdeal.main_arg9)) (m' ((c.tc : Thread Cert.RMlpIdeal.nD Cert.RMlpIdeal.τ).loc Cert.RMlpIdeal.main_arg10)) (m' ((c.tc : Thread Cert.RMlpIdeal.nD Cert.RMlpIdeal.τ).loc Cert.RMlpIdeal.main_arg11)) (m' ((c.tc : Thread Cert.RMlpIdeal.nD Cert.RMlpIdeal.τ).loc Cert.RMlpIdeal.main_arg12)) (m' ((c.tc : Thread Cert.RMlpIdeal.nD Cert.RMlpIdeal.τ).loc Cert.RMlpIdeal.main_arg13))
      ∧ r.2.mem ((c.tc : Thread Cert.RMlpIdeal.nD Cert.RMlpIdeal.τ).loc Cert.RMlpIdeal.main_v204) = Cert.RMlpIdeal.Read.val_main_v204 (F := Ideal) (m' ((c.tc : Thread Cert.RMlpIdeal.nD Cert.RMlpIdeal.τ).loc Cert.RMlpIdeal.main_arg0)) (m' ((c.tc : Thread Cert.RMlpIdeal.nD Cert.RMlpIdeal.τ).loc Cert.RMlpIdeal.main_arg1)) (m' ((c.tc : Thread Cert.RMlpIdeal.nD Cert.RMlpIdeal.τ).loc Cert.RMlpIdeal.main_arg2)) (m' ((c.tc : Thread Cert.RMlpIdeal.nD Cert.RMlpIdeal.τ).loc Cert.RMlpIdeal.main_arg3)) (m' ((c.tc : Thread Cert.RMlpIdeal.nD Cert.RMlpIdeal.τ).loc Cert.RMlpIdeal.main_arg4)) (m' ((c.tc : Thread Cert.RMlpIdeal.nD Cert.RMlpIdeal.τ).loc Cert.RMlpIdeal.main_arg5)) (m' ((c.tc : Thread Cert.RMlpIdeal.nD Cert.RMlpIdeal.τ).loc Cert.RMlpIdeal.main_arg6)) (m' ((c.tc : Thread Cert.RMlpIdeal.nD Cert.RMlpIdeal.τ).loc Cert.RMlpIdeal.main_arg7)) (m' ((c.tc : Thread Cert.RMlpIdeal.nD Cert.RMlpIdeal.τ).loc Cert.RMlpIdeal.main_arg9)) (m' ((c.tc : Thread Cert.RMlpIdeal.nD Cert.RMlpIdeal.τ).loc Cert.RMlpIdeal.main_arg14)) (m' ((c.tc : Thread Cert.RMlpIdeal.nD Cert.RMlpIdeal.τ).loc Cert.RMlpIdeal.main_arg15))
      ∧ r.2.mem ((c.tc : Thread Cert.RMlpIdeal.nD Cert.RMlpIdeal.τ).loc Cert.RMlpIdeal.main_v197) = Cert.RMlpIdeal.Read.val_main_v197 (F := Ideal) (m' ((c.tc : Thread Cert.RMlpIdeal.nD Cert.RMlpIdeal.τ).loc Cert.RMlpIdeal.main_arg0)) (m' ((c.tc : Thread Cert.RMlpIdeal.nD Cert.RMlpIdeal.τ).loc Cert.RMlpIdeal.main_arg1)) (m' ((c.tc : Thread Cert.RMlpIdeal.nD Cert.RMlpIdeal.τ).loc Cert.RMlpIdeal.main_arg2)) (m' ((c.tc : Thread Cert.RMlpIdeal.nD Cert.RMlpIdeal.τ).loc Cert.RMlpIdeal.main_arg3)) (m' ((c.tc : Thread Cert.RMlpIdeal.nD Cert.RMlpIdeal.τ).loc Cert.RMlpIdeal.main_arg4)) (m' ((c.tc : Thread Cert.RMlpIdeal.nD Cert.RMlpIdeal.τ).loc Cert.RMlpIdeal.main_arg5)) (m' ((c.tc : Thread Cert.RMlpIdeal.nD Cert.RMlpIdeal.τ).loc Cert.RMlpIdeal.main_arg6)) (m' ((c.tc : Thread Cert.RMlpIdeal.nD Cert.RMlpIdeal.τ).loc Cert.RMlpIdeal.main_arg9)) (m' ((c.tc : Thread Cert.RMlpIdeal.nD Cert.RMlpIdeal.τ).loc Cert.RMlpIdeal.main_arg14)) (m' ((c.tc : Thread Cert.RMlpIdeal.nD Cert.RMlpIdeal.τ).loc Cert.RMlpIdeal.main_arg15))
      ∧ r.2.mem ((c.tc : Thread Cert.RMlpIdeal.nD Cert.RMlpIdeal.τ).loc Cert.RMlpIdeal.main_arg0) = (m' ((c.tc : Thread Cert.RMlpIdeal.nD Cert.RMlpIdeal.τ).loc Cert.RMlpIdeal.main_arg0))
      ∧ r.2.mem ((c.tc : Thread Cert.RMlpIdeal.nD Cert.RMlpIdeal.τ).loc Cert.RMlpIdeal.main_arg1) = (m' ((c.tc : Thread Cert.RMlpIdeal.nD Cert.RMlpIdeal.τ).loc Cert.RMlpIdeal.main_arg1))
      ∧ r.2.mem ((c.tc : Thread Cert.RMlpIdeal.nD Cert.RMlpIdeal.τ).loc Cert.RMlpIdeal.main_arg2) = (m' ((c.tc : Thread Cert.RMlpIdeal.nD Cert.RMlpIdeal.τ).loc Cert.RMlpIdeal.main_arg2))
      ∧ r.2.mem ((c.tc : Thread Cert.RMlpIdeal.nD Cert.RMlpIdeal.τ).loc Cert.RMlpIdeal.main_arg3) = (m' ((c.tc : Thread Cert.RMlpIdeal.nD Cert.RMlpIdeal.τ).loc Cert.RMlpIdeal.main_arg3))
      ∧ r.2.mem ((c.tc : Thread Cert.RMlpIdeal.nD Cert.RMlpIdeal.τ).loc Cert.RMlpIdeal.main_arg4) = (m' ((c.tc : Thread Cert.RMlpIdeal.nD Cert.RMlpIdeal.τ).loc Cert.RMlpIdeal.main_arg4))
      ∧ r.2.mem ((c.tc : Thread Cert.RMlpIdeal.nD Cert.RMlpIdeal.τ).loc Cert.RMlpIdeal.main_arg5) = (m' ((c.tc : Thread Cert.RMlpIdeal.nD Cert.RMlpIdeal.τ).loc Cert.RMlpIdeal.main_arg5))
      ∧ r.2.mem ((c.tc : Thread Cert.RMlpIdeal.nD Cert.RMlpIdeal.τ).loc Cert.RMlpIdeal.main_arg6) = (m' ((c.tc : Thread Cert.RMlpIdeal.nD Cert.RMlpIdeal.τ).loc Cert.RMlpIdeal.main_arg6))
      ∧ r.2.mem ((c.tc : Thread Cert.RMlpIdeal.nD Cert.RMlpIdeal.τ).loc Cert.RMlpIdeal.main_arg7) = (m' ((c.tc : Thread Cert.RMlpIdeal.nD Cert.RMlpIdeal.τ).loc Cert.RMlpIdeal.main_arg7))
      ∧ r.2.mem ((c.tc : Thread Cert.RMlpIdeal.nD Cert.RMlpIdeal.τ).loc Cert.RMlpIdeal.main_arg8) = (m' ((c.tc : Thread Cert.RMlpIdeal.nD Cert.RMlpIdeal.τ).loc Cert.RMlpIdeal.main_arg8))
      ∧ r.2.mem ((c.tc : Thread Cert.RMlpIdeal.nD Cert.RMlpIdeal.τ).loc Cert.RMlpIdeal.main_arg9) = (m' ((c.tc : Thread Cert.RMlpIdeal.nD Cert.RMlpIdeal.τ).loc Cert.RMlpIdeal.main_arg9))
      ∧ r.2.mem ((c.tc : Thread Cert.RMlpIdeal.nD Cert.RMlpIdeal.τ).loc Cert.RMlpIdeal.main_arg10) = (m' ((c.tc : Thread Cert.RMlpIdeal.nD Cert.RMlpIdeal.τ).loc Cert.RMlpIdeal.main_arg10))
      ∧ r.2.mem ((c.tc : Thread Cert.RMlpIdeal.nD Cert.RMlpIdeal.τ).loc Cert.RMlpIdeal.main_arg11) = (m' ((c.tc : Thread Cert.RMlpIdeal.nD Cert.RMlpIdeal.τ).loc Cert.RMlpIdeal.main_arg11))
      ∧ r.2.mem ((c.tc : Thread Cert.RMlpIdeal.nD Cert.RMlpIdeal.τ).loc Cert.RMlpIdeal.main_arg12) = (m' ((c.tc : Thread Cert.RMlpIdeal.nD Cert.RMlpIdeal.τ).loc Cert.RMlpIdeal.main_arg12))
      ∧ r.2.mem ((c.tc : Thread Cert.RMlpIdeal.nD Cert.RMlpIdeal.τ).loc Cert.RMlpIdeal.main_arg13) = (m' ((c.tc : Thread Cert.RMlpIdeal.nD Cert.RMlpIdeal.τ).loc Cert.RMlpIdeal.main_arg13))
      ∧ r.2.mem ((c.tc : Thread Cert.RMlpIdeal.nD Cert.RMlpIdeal.τ).loc Cert.RMlpIdeal.main_arg14) = (m' ((c.tc : Thread Cert.RMlpIdeal.nD Cert.RMlpIdeal.τ).loc Cert.RMlpIdeal.main_arg14))
      ∧ r.2.mem ((c.tc : Thread Cert.RMlpIdeal.nD Cert.RMlpIdeal.τ).loc Cert.RMlpIdeal.main_arg15) = (m' ((c.tc : Thread Cert.RMlpIdeal.nD Cert.RMlpIdeal.τ).loc Cert.RMlpIdeal.main_arg15)) := by
  refine (θ_run _ _ _).mono (fun r h c => ?_) (Cert.RMlpIdeal.Value.run m' ρ')
  obtain ⟨h0, h1, h2, h3, h4, h5, h6, h7, h8, hk⟩ := h c
  exact ⟨h0.trans (Cert.RMlpIdeal.Read.val_main_v198_eq _), h1.trans (Cert.RMlpIdeal.Read.val_main_v199_eq _), h2.trans (Cert.RMlpIdeal.Read.val_main_v200_eq _), h3.trans (Cert.RMlpIdeal.Read.val_main_v201_eq _), h4.trans (Cert.RMlpIdeal.Read.val_main_v202_eq _), h5.trans (Cert.RMlpIdeal.Read.val_main_v203_eq _), h6.trans (Cert.RMlpIdeal.Read.val_main_v188_eq _), h7.trans (Cert.RMlpIdeal.Read.val_main_v204_eq _), h8.trans (Cert.RMlpIdeal.Read.val_main_v197_eq _), hk⟩

set_option maxHeartbeats 4000000 in
/-- The pair's value claim. -/
theorem pair : Cert.algebraic_KMlpIdeal_RMlpIdeal_pre_finite_mlp := by
  pair_intro
  · run_from run m g hpre
  · refine (θ_run _ _ _).mono (fun r h c => ?_) (runR m' g')
    obtain ⟨e0, e1, e2, e3, e4, e5, e6, e7, e8, e9, e10, e11, e12, e13, e14, e15⟩ := hagree c
    obtain ⟨h0, h1, h2, h3, h4, h5, h6, h7, h8, hk⟩ := h c
    exact ⟨h0.trans (by rw [e0, e4]),
      h1.trans (by rw [e1, e5]),
      h2.trans (by rw [e0, e1, e2, e4, e5]),
      h3.trans (by rw [e0, e1, e2, e3, e4, e5, e6, e7, e8]),
      h4.trans (by rw [e0, e1, e2, e3, e4, e5, e6, e7, e8, e9]),
      h5.trans (by rw [e0, e1, e2, e3, e4, e5, e6, e7, e8, e9, e10, e11, e12, e13]),
      h6.trans (by rw [e0, e1, e2, e3, e4, e5, e6, e7, e8, e9, e10, e11, e12, e13]),
      h7.trans (by rw [e0, e1, e2, e3, e4, e5, e6, e7, e9, e14, e15]),
      h8.trans (by rw [e0, e1, e2, e3, e4, e5, e6, e9, e14, e15]), hk⟩

end Cert.KMlpIdeal.Val

end
-- ==== Proof.Inproj.Pair.lean ====
/- The pair of the call `inproj_bwd`: the cotangent of the projection pulled back through the input weight, plus the
   residual's share. -/
module

public import proofs.«01_k».proof.Proof.Gen.KInprojIdeal.Value
public import proofs.«01_k».proof.Proof.Gen.RInprojIdeal.Run
public import proofs.«01_k».proof.Proof.Gen.RInprojIdeal.Read
public import proofs.«01_k».proof.Defs
public import Idealize.ShloMosaic.Lib.Pipeline.ValueKit
public import Idealize.ShloMosaic.Lib.Claim

@[expose] public section

set_option maxRecDepth 16384

noncomputable section

namespace Cert.KInprojIdeal.Val

open Idealize.ShloMosaic Idealize.ShloMosaic.TcCoe Idealize.SL.Sem
open Cert.KInprojIdeal Cert.KInprojIdeal.Gen

variable (m : (ℓ : Loc nD τ sig) → Buf (Elt Ideal) ℓ) (ρ : Dev nD → PrngReg)

/-- The gradient of the layer's input. -/
def pullIn (P : FVec Ideal S8192x7168 .bf16) (W : FVec Ideal S7168x1024 .bf16) (Z : FVec Ideal S8192x1024 .bf16) :
    FVec Ideal S8192x1024 .f32 :=
  fun i => Ideal.ofBits .f32 0x3F9837F0#32 * Z i + ∑ k : Fin 7168, P (ix2 (i 0) k) * W (ix2 k (i 1))

theorem idx0 : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

theorem dx_final (c : Dev nD) :
    (dats m 0 c).arrAt 3 cfg0.N = pullIn (V m c main_v0) (V m c main_v2) (V m c main_v3) := by
  refine (dats m 0 c).arrAt_eq_of_covers 3 _ (by decide +kernel) fun t _ y => ?_
  blk_simp
  rw [after0_3]
  frame_out
  pointwise [k0_pay1, pullIn]
  blk_point [iblk, idx0 t]

/-- The call's result is the reference's expression of the arguments. -/
theorem value (c : Dev nD) : (dats m 0 c).arrAt 3 cfg0.N
    = Cert.RInprojIdeal.Read.val_main_v6 (F := Ideal) (m ((c : Thread nD τ).loc main_arg1))
        (m ((c : Thread nD τ).loc main_arg2)) (m ((c : Thread nD τ).loc main_arg3)) := by
  have h0 : V m c main_v0 = m ((c : Thread nD τ).loc main_arg2) := by
    entry_read
    rfl
  have h3 : V m c main_v3 = m ((c : Thread nD τ).loc main_arg3) := by
    entry_read
    rfl
  have h2 : (V m c main_v2 : S7168x1024.Idx → EReal)
      = fun i => (m ((c : Thread nD τ).loc main_arg1) : S1024x7168.Idx → EReal) (ix2 (i 1) (i 0)) := by
    entry_read
    funext i
    pointwise []
  rw [dx_final, h0, h3, h2]
  funext i
  rw [← Cert.RInprojIdeal.Read.val_main_v6_eq]
  pointwise [pullIn]

theorem run : θ_run defs (onTc (τ := τ) (main (F := Ideal))) ⟨m, fun _ => 0, ρ⟩ fun r => ∀ c : Dev nD,
      r.2.mem ((c : Thread nD τ).loc main_v4)
        = Cert.RInprojIdeal.Read.val_main_v6 (F := Ideal) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (value m c), (h c).2⟩) (Value.run_blocks m ρ)

/-- The pair's value claim. -/
theorem pair : Cert.algebraic_KInprojIdeal_RInprojIdeal := by
  pair_intro
  · run_from run m g
  · run_from Cert.RInprojIdeal.Value.run m' g'
    exact Cert.RInprojIdeal.Read.val_main_v6_eq _ _ _

end Cert.KInprojIdeal.Val

end
-- ==== Proof.Mixer.Run.lean ====
/- The body of the call: what it leaves in each buffer, and what it says of its blocks. -/
module

public import proofs.«01_k».proof.Proof.Gen.KMixerIdeal.Frame
public import proofs.«01_k».proof.Proof.Gen.KMixerIdeal.Loops

@[expose] public section

set_option maxRecDepth 16384

noncomputable section

namespace Cert.KMixerIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KMixerIdeal.Gen

variable {F : FTy → Type} [FloatOps F]

local notation "𝕄" => MT nD τ sig Unit (Elt F) ℕ (UR sig nD τ) ℕ

/-- The body at any point: what it leaves in each buffer that it writes, as a function of what it finds. -/
def run (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S16x1024 .bf16) (harg6 : arg6.IsWhole) (arg7 : Memref sig .tc .vmem S16x1024 .bf16) (harg7 : arg7.IsWhole) (arg8 : Memref sig .tc .vmem S32x1024 .bf16) (harg8 : arg8.IsWhole) (arg9 : Memref sig .tc .vmem S32x1024 .bf16) (harg9 : arg9.IsWhole) (arg10 : Memref sig .tc .vmem S8x1024 .f32) (harg10 : arg10.IsWhole) (arg11 : Memref sig .tc .vmem S32x1024 .f32) (harg11 : arg11.IsWhole) (arg12 : Memref sig .tc .vmem S8x1024 .f32) (harg12 : arg12.IsWhole) (arg13 : Memref sig .tc .vmem S256x1024 .bf16) (harg13 : arg13.IsWhole) (arg14 : Memref sig .tc .vmem S256x1024 .f32) (harg14 : arg14.IsWhole) (arg15 : Memref sig .tc .vmem S256x1024 .f32) (harg15 : arg15.IsWhole) (arg16 : Memref sig .tc .vmem S256x1 .f32) (harg16 : arg16.IsWhole) (arg17 : Memref sig .tc .vmem S256x1024 .bf16) (harg17 : arg17.IsWhole) (arg18 : Memref sig .tc .vmem S272x1024 .f32) (harg18 : arg18.IsWhole) (arg19 : Memref sig .tc .vmem S288x1024 .f32) (harg19 : arg19.IsWhole) (arg20 : Memref sig .tc .vmem S256x1024 .f32) (harg20 : arg20.IsWhole) (arg21 : Memref sig .tc .vmem S8x288x128 .f32) (harg21 : arg21.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) :
    Σ' (g13 : BufTy.Contents (Elt F) arg13.view.ty), Σ' (g14 : BufTy.Contents (Elt F) arg14.view.ty), Σ' (g15 : BufTy.Contents (Elt F) arg15.view.ty), Σ' (g16 : BufTy.Contents (Elt F) arg16.view.ty), Σ' (g17 : BufTy.Contents (Elt F) arg17.view.ty), Σ' (g18 : BufTy.Contents (Elt F) arg18.view.ty), Σ' (g19 : BufTy.Contents (Elt F) arg19.view.ty), Σ' (g20 : BufTy.Contents (Elt F) arg20.view.ty),
    { g21 : BufTy.Contents (Elt F) arg21.view.ty // ∀ (E : Set ℕ),
      (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21)) : sProp 𝕄)
      ⊢ wp frame (wpE (defs₀ (F := F)) Variants.none c none) E (cc0_mixer_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
        (fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21))) } := by
  refine ⟨?_, ?_, ?_, ?_, ?_, ?_, ?_, ?_, ?_, fun E => ?run⟩
  case run =>
    simp only [cc0_mixer_fwd_eq_skeleton]; unfold cc0_mixer_fwd_skel
    simp only [k0_part29_eq_skeleton, k0_part30_eq_skeleton, k0_part31_eq_skeleton]
    iintro ⟨H1, H2, H3, H4, H5, H6, H7, H8, H9, H10, H11, H12, H13, H14, H15, H16, H17, H18, H19, H20, H21⟩
    sl_exec
    sl_step
    sl_close

/-- What the body leaves in the outputs' blocks at a point with blocks `x1` to `x12` has `Q`. -/
def Leaves (c : Dev nD) (i : grid0.Coords) (x1 : Vec F S256x1024 .bf16) (x2 : Vec F S256x1024 .bf16) (x3 : Vec F S256x1024 .bf16) (x4 : Vec F S256x1024 .bf16) (x5 : Vec F S256x1024 .bf16) (x6 : Vec F S16x1024 .bf16) (x7 : Vec F S16x1024 .bf16) (x8 : Vec F S32x1024 .bf16) (x9 : Vec F S32x1024 .bf16) (x10 : Vec F S8x1024 .f32) (x11 : Vec F S32x1024 .f32) (x12 : Vec F S8x1024 .f32) (Q : Vec F S256x1024 .bf16 → Vec F S256x1024 .f32 → Vec F S256x1024 .f32 → Vec F S256x1 .f32 → Vec F S256x1024 .bf16 → Prop) : Prop :=
  ∀ (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S16x1024 .bf16) (harg6 : arg6.IsWhole) (arg7 : Memref sig .tc .vmem S16x1024 .bf16) (harg7 : arg7.IsWhole) (arg8 : Memref sig .tc .vmem S32x1024 .bf16) (harg8 : arg8.IsWhole) (arg9 : Memref sig .tc .vmem S32x1024 .bf16) (harg9 : arg9.IsWhole) (arg10 : Memref sig .tc .vmem S8x1024 .f32) (harg10 : arg10.IsWhole) (arg11 : Memref sig .tc .vmem S32x1024 .f32) (harg11 : arg11.IsWhole) (arg12 : Memref sig .tc .vmem S8x1024 .f32) (harg12 : arg12.IsWhole) (arg13 : Memref sig .tc .vmem S256x1024 .bf16) (harg13 : arg13.IsWhole) (arg14 : Memref sig .tc .vmem S256x1024 .f32) (harg14 : arg14.IsWhole) (arg15 : Memref sig .tc .vmem S256x1024 .f32) (harg15 : arg15.IsWhole) (arg16 : Memref sig .tc .vmem S256x1 .f32) (harg16 : arg16.IsWhole) (arg17 : Memref sig .tc .vmem S256x1024 .bf16) (harg17 : arg17.IsWhole) (arg18 : Memref sig .tc .vmem S272x1024 .f32) (harg18 : arg18.IsWhole) (arg19 : Memref sig .tc .vmem S288x1024 .f32) (harg19 : arg19.IsWhole) (arg20 : Memref sig .tc .vmem S256x1024 .f32) (harg20 : arg20.IsWhole) (arg21 : Memref sig .tc .vmem S8x288x128 .f32) (harg21 : arg21.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty), arg1.view.read (Elt F) f1 = x1 → arg2.view.read (Elt F) f2 = x2 → arg3.view.read (Elt F) f3 = x3 → arg4.view.read (Elt F) f4 = x4 → arg5.view.read (Elt F) f5 = x5 → arg6.view.read (Elt F) f6 = x6 → arg7.view.read (Elt F) f7 = x7 → arg8.view.read (Elt F) f8 = x8 → arg9.view.read (Elt F) f9 = x9 → arg10.view.read (Elt F) f10 = x10 → arg11.view.read (Elt F) f11 = x11 → arg12.view.read (Elt F) f12 = x12 →
    Q (arg13.view.read (Elt F) (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f3 f4 f5 f6 f7 f8 f9 f10 f11 f12 f13 f14 f15 f16 f17 f18 f19 f20 f21).1) (arg14.view.read (Elt F) (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f3 f4 f5 f6 f7 f8 f9 f10 f11 f12 f13 f14 f15 f16 f17 f18 f19 f20 f21).2.1) (arg15.view.read (Elt F) (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f3 f4 f5 f6 f7 f8 f9 f10 f11 f12 f13 f14 f15 f16 f17 f18 f19 f20 f21).2.2.1) (arg16.view.read (Elt F) (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f3 f4 f5 f6 f7 f8 f9 f10 f11 f12 f13 f14 f15 f16 f17 f18 f19 f20 f21).2.2.2.1) (arg17.view.read (Elt F) (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f3 f4 f5 f6 f7 f8 f9 f10 f11 f12 f13 f14 f15 f16 f17 f18 f19 f20 f21).2.2.2.2.1)

/-- The same with the ends of the run named by variables. -/
theorem ends (c : Dev nD) (i : grid0.Coords) (x1 : Vec F S256x1024 .bf16) (x2 : Vec F S256x1024 .bf16) (x3 : Vec F S256x1024 .bf16) (x4 : Vec F S256x1024 .bf16) (x5 : Vec F S256x1024 .bf16) (x6 : Vec F S16x1024 .bf16) (x7 : Vec F S16x1024 .bf16) (x8 : Vec F S32x1024 .bf16) (x9 : Vec F S32x1024 .bf16) (x10 : Vec F S8x1024 .f32) (x11 : Vec F S32x1024 .f32) (x12 : Vec F S8x1024 .f32) (Q : Vec F S256x1024 .bf16 → Vec F S256x1024 .f32 → Vec F S256x1024 .f32 → Vec F S256x1 .f32 → Vec F S256x1024 .bf16 → Prop) (K : Leaves c i x1 x2 x3 x4 x5 x6 x7 x8 x9 x10 x11 x12 Q) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S16x1024 .bf16) (harg6 : arg6.IsWhole) (arg7 : Memref sig .tc .vmem S16x1024 .bf16) (harg7 : arg7.IsWhole) (arg8 : Memref sig .tc .vmem S32x1024 .bf16) (harg8 : arg8.IsWhole) (arg9 : Memref sig .tc .vmem S32x1024 .bf16) (harg9 : arg9.IsWhole) (arg10 : Memref sig .tc .vmem S8x1024 .f32) (harg10 : arg10.IsWhole) (arg11 : Memref sig .tc .vmem S32x1024 .f32) (harg11 : arg11.IsWhole) (arg12 : Memref sig .tc .vmem S8x1024 .f32) (harg12 : arg12.IsWhole) (arg13 : Memref sig .tc .vmem S256x1024 .bf16) (harg13 : arg13.IsWhole) (arg14 : Memref sig .tc .vmem S256x1024 .f32) (harg14 : arg14.IsWhole) (arg15 : Memref sig .tc .vmem S256x1024 .f32) (harg15 : arg15.IsWhole) (arg16 : Memref sig .tc .vmem S256x1 .f32) (harg16 : arg16.IsWhole) (arg17 : Memref sig .tc .vmem S256x1024 .bf16) (harg17 : arg17.IsWhole) (arg18 : Memref sig .tc .vmem S272x1024 .f32) (harg18 : arg18.IsWhole) (arg19 : Memref sig .tc .vmem S288x1024 .f32) (harg19 : arg19.IsWhole) (arg20 : Memref sig .tc .vmem S256x1024 .f32) (harg20 : arg20.IsWhole) (arg21 : Memref sig .tc .vmem S8x288x128 .f32) (harg21 : arg21.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty)
    (h1 : arg1.view.read (Elt F) f1 = x1) (h2 : arg2.view.read (Elt F) f2 = x2) (h3 : arg3.view.read (Elt F) f3 = x3) (h4 : arg4.view.read (Elt F) f4 = x4) (h5 : arg5.view.read (Elt F) f5 = x5) (h6 : arg6.view.read (Elt F) f6 = x6) (h7 : arg7.view.read (Elt F) f7 = x7) (h8 : arg8.view.read (Elt F) f8 = x8) (h9 : arg9.view.read (Elt F) f9 = x9) (h10 : arg10.view.read (Elt F) f10 = x10) (h11 : arg11.view.read (Elt F) f11 = x11) (h12 : arg12.view.read (Elt F) f12 = x12) :
    ∃ (g13 : BufTy.Contents (Elt F) arg13.view.ty) (g14 : BufTy.Contents (Elt F) arg14.view.ty) (g15 : BufTy.Contents (Elt F) arg15.view.ty) (g16 : BufTy.Contents (Elt F) arg16.view.ty) (g17 : BufTy.Contents (Elt F) arg17.view.ty) (g18 : BufTy.Contents (Elt F) arg18.view.ty) (g19 : BufTy.Contents (Elt F) arg19.view.ty) (g20 : BufTy.Contents (Elt F) arg20.view.ty) (g21 : BufTy.Contents (Elt F) arg21.view.ty),
      Q (arg13.view.read (Elt F) g13) (arg14.view.read (Elt F) g14) (arg15.view.read (Elt F) g15) (arg16.view.read (Elt F) g16) (arg17.view.read (Elt F) g17) ∧ ∀ (E : Set ℕ),
      (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21)) : sProp 𝕄)
      ⊢ wp frame (wpE (defs₀ (F := F)) Variants.none c none) E (cc0_mixer_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
        (fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21))) :=
  ⟨_, _, _, _, _, _, _, _, _, K arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f3 f4 f5 f6 f7 f8 f9 f10 f11 f12 f13 f14 f15 f16 f17 f18 f19 f20 f21 h1 h2 h3 h4 h5 h6 h7 h8 h9 h10 h11 h12, (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f3 f4 f5 f6 f7 f8 f9 f10 f11 f12 f13 f14 f15 f16 f17 f18 f19 f20 f21).2.2.2.2.2.2.2.2.2⟩

end Cert.KMixerIdeal.Body
-- ==== Proof.Mixer.Sound.lean ====
/- One run of the body over blocks. -/
module

public import proofs.«01_k».proof.Proof.Gen.KMixerIdeal.Frame
public import proofs.«01_k».proof.Proof.Gen.KMixerIdeal.Loops
public import proofs.«01_k».proof.Proof.Mixer.Run

@[expose] public section

set_option maxRecDepth 16384

noncomputable section

namespace Cert.KMixerIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KMixerIdeal.Gen

variable {F : FTy → Type} [FloatOps F]

local notation "𝕄" => MT nD τ sig Unit (Elt F) ℕ (UR sig nD τ) ℕ

/-- One run of the body, from blocks `x1` to `x12` to outputs that have `Q`. -/
theorem sound (c : Dev nD) (E : Set ℕ) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S16x1024 .bf16) (harg6 : arg6.IsWhole) (arg7 : Memref sig .tc .vmem S16x1024 .bf16) (harg7 : arg7.IsWhole) (arg8 : Memref sig .tc .vmem S32x1024 .bf16) (harg8 : arg8.IsWhole) (arg9 : Memref sig .tc .vmem S32x1024 .bf16) (harg9 : arg9.IsWhole) (arg10 : Memref sig .tc .vmem S8x1024 .f32) (harg10 : arg10.IsWhole) (arg11 : Memref sig .tc .vmem S32x1024 .f32) (harg11 : arg11.IsWhole) (arg12 : Memref sig .tc .vmem S8x1024 .f32) (harg12 : arg12.IsWhole) (arg13 : Memref sig .tc .vmem S256x1024 .bf16) (harg13 : arg13.IsWhole) (arg14 : Memref sig .tc .vmem S256x1024 .f32) (harg14 : arg14.IsWhole) (arg15 : Memref sig .tc .vmem S256x1024 .f32) (harg15 : arg15.IsWhole) (arg16 : Memref sig .tc .vmem S256x1 .f32) (harg16 : arg16.IsWhole) (arg17 : Memref sig .tc .vmem S256x1024 .bf16) (harg17 : arg17.IsWhole) (arg18 : Memref sig .tc .vmem S272x1024 .f32) (harg18 : arg18.IsWhole) (arg19 : Memref sig .tc .vmem S288x1024 .f32) (harg19 : arg19.IsWhole) (arg20 : Memref sig .tc .vmem S256x1024 .f32) (harg20 : arg20.IsWhole) (arg21 : Memref sig .tc .vmem S8x288x128 .f32) (harg21 : arg21.IsWhole) (x1 : Vec F S256x1024 .bf16) (x2 : Vec F S256x1024 .bf16) (x3 : Vec F S256x1024 .bf16) (x4 : Vec F S256x1024 .bf16) (x5 : Vec F S256x1024 .bf16) (x6 : Vec F S16x1024 .bf16) (x7 : Vec F S16x1024 .bf16) (x8 : Vec F S32x1024 .bf16) (x9 : Vec F S32x1024 .bf16) (x10 : Vec F S8x1024 .f32) (x11 : Vec F S32x1024 .f32) (x12 : Vec F S8x1024 .f32) (Q : Vec F S256x1024 .bf16 → Vec F S256x1024 .f32 → Vec F S256x1024 .f32 → Vec F S256x1 .f32 → Vec F S256x1024 .bf16 → Prop)
    (K : Leaves c i x1 x2 x3 x4 x5 x6 x7 x8 x9 x10 x11 x12 Q) :
    (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ (f18 : BufTy.Contents (Elt F) arg18.view.ty) (f19 : BufTy.Contents (Elt F) arg19.view.ty) (f20 : BufTy.Contents (Elt F) arg20.view.ty) (f21 : BufTy.Contents (Elt F) arg21.view.ty), (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21))) : sProp 𝕄)
      ⊢ wp frame (wpE (defs₀ (F := F)) Variants.none c none) E (cc0_mixer_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
        (fun _ => iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ (f18 : BufTy.Contents (Elt F) arg18.view.ty) (f19 : BufTy.Contents (Elt F) arg19.view.ty) (f20 : BufTy.Contents (Elt F) arg20.view.ty) (f21 : BufTy.Contents (Elt F) arg21.view.ty), (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21)) ∗ (∃ d13 d14 d15 d16 d17, ⌜Q d13 d14 d15 d16 d17⌝ ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17))) := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%f18, %f19, %f20, %f21, H18, H19, H20, H21⟩⟩
  obtain ⟨g13, g14, g15, g16, g17, g18, g19, g20, g21, k, hb⟩ := ends c i x1 x2 x3 x4 x5 x6 x7 x8 x9 x10 x11 x12 Q K arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f3 f4 f5 f6 f7 f8 f9 f10 f11 f12 f13 f14 f15 f16 f17 f18 f19 f20 f21 hf1 hf2 hf3 hf4 hf5 hf6 hf7 hf8 hf9 hf10 hf11 hf12
  iapply (triple_restated (hb E) rfl .rfl fun _ => (?_ : _ ⊢ iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ (f18 : BufTy.Contents (Elt F) arg18.view.ty) (f19 : BufTy.Contents (Elt F) arg19.view.ty) (f20 : BufTy.Contents (Elt F) arg20.view.ty) (f21 : BufTy.Contents (Elt F) arg21.view.ty), (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21)) ∗ (∃ d13 d14 d15 d16 d17, ⌜Q d13 d14 d15 d16 d17⌝ ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17))))
  on_goal 2 => sl_close
  · unfold owns
    iintro ⟨H1, H2, H3, H4, H5, H6, H7, H8, H9, H10, H11, H12, H13, H14, H15, H16, H17, H18, H19, H20, H21⟩
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    isplitl [H6]
    · iexists f6; isplitr; · ipureintro; exact hf6
      iexact H6
    isplitl [H7]
    · iexists f7; isplitr; · ipureintro; exact hf7
      iexact H7
    isplitl [H8]
    · iexists f8; isplitr; · ipureintro; exact hf8
      iexact H8
    isplitl [H9]
    · iexists f9; isplitr; · ipureintro; exact hf9
      iexact H9
    isplitl [H10]
    · iexists f10; isplitr; · ipureintro; exact hf10
      iexact H10
    isplitl [H11]
    · iexists f11; isplitr; · ipureintro; exact hf11
      iexact H11
    isplitl [H12]
    · iexists f12; isplitr; · ipureintro; exact hf12
      iexact H12
    isplitl [H18 H19 H20 H21]
    · iexists _, _, _, _
      sl_close
    iexists _, _, _, _, _
    isplitr; · ipureintro; exact k
    isplitl [H13]
    · iexists _; isplitr; · ipureintro; rfl
      iexact H13
    isplitl [H14]
    · iexists _; isplitr; · ipureintro; rfl
      iexact H14
    isplitl [H15]
    · iexists _; isplitr; · ipureintro; rfl
      iexact H15
    isplitl [H16]
    · iexists _; isplitr; · ipureintro; rfl
      iexact H16
    iexists _; isplitr; · ipureintro; rfl
    iexact H17

end Cert.KMixerIdeal.Body
-- ==== Proof.Mixer.Data.lean ====
/- The proof data of the launch, and the body between two points. -/
module

public import proofs.«01_k».proof.Proof.Gen.KMixerIdeal.Frame
public import proofs.«01_k».proof.Proof.Gen.KMixerIdeal.Loops
public import proofs.«01_k».proof.Proof.Mixer.Sound
public import Idealize.ShloMosaic.Lib.Claim

@[expose] public section

set_option maxRecDepth 16384

noncomputable section

namespace Cert.KMixerIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KMixerIdeal.Gen

variable {F : FTy → Type} [FloatOps F]

local notation "𝕄" => MT nD τ sig Unit (Elt F) ℕ (UR sig nD τ) ℕ

variable (m : (ℓ : Loc nD τ sig) → Buf (Elt F) ℓ)

/-- The five outputs' blocks after each point. -/
structure Outs (F : FTy → Type) where
  o12 : Dev nD → Fin cfg0.N → Vec F S256x1024 .bf16
  o13 : Dev nD → Fin cfg0.N → Vec F S256x1024 .f32
  o14 : Dev nD → Fin cfg0.N → Vec F S256x1024 .f32
  o15 : Dev nD → Fin cfg0.N → Vec F S256x1 .f32
  o16 : Dev nD → Fin cfg0.N → Vec F S256x1024 .bf16

/-- The proof data: the inputs' blocks stay, the outputs' are `o`, the scratch is at any contents. -/
def dats (o : Outs F) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => o.o12 c t
    | ⟨13, _⟩ => o.o13 c t
    | ⟨14, _⟩ => o.o14 c t
    | ⟨15, _⟩ => o.o15 c t
    | ⟨16, _⟩ => o.o16 c t
    | ⟨n + 17, h⟩ => absurd h (Nat.not_lt.2 (Nat.le_add_left _ _))
  Φ _ := Pipeline.ΦA spec0 c
  q w := Pipeline.shareOf spec0 w
  owed _ := 0

theorem defs₀_row (t : Fin cfg0.N) : defs₀ (F := F) .tc cfg0.body (cfg0.bodyArgs t (cfg0.slots t)) = bodyAt0 t := by
  unfold defs₀; rw [Defs.onTc_tc]

section
variable (o : Outs F)

theorem before0_0 (c : Dev nD) (t : Fin cfg0.N) (d) : (dats m o 0 c).before 0 t d = iblk m c 0 t :=
  before0_0_of m (dats m o 0 c) (by dsimp only [dats]) (fun t => by dsimp only [dats]) t d
theorem before0_1 (c : Dev nD) (t : Fin cfg0.N) (d) : (dats m o 0 c).before 1 t d = iblk m c 1 t :=
  before0_1_of m (dats m o 0 c) (by dsimp only [dats]) (fun t => by dsimp only [dats]) t d
theorem before0_2 (c : Dev nD) (t : Fin cfg0.N) (d) : (dats m o 0 c).before 2 t d = iblk m c 2 t :=
  before0_2_of m (dats m o 0 c) (by dsimp only [dats]) (fun t => by dsimp only [dats]) t d
theorem before0_3 (c : Dev nD) (t : Fin cfg0.N) (d) : (dats m o 0 c).before 3 t d = iblk m c 3 t :=
  before0_3_of m (dats m o 0 c) (by dsimp only [dats]) (fun t => by dsimp only [dats]) t d
theorem before0_4 (c : Dev nD) (t : Fin cfg0.N) (d) : (dats m o 0 c).before 4 t d = iblk m c 4 t :=
  before0_4_of m (dats m o 0 c) (by dsimp only [dats]) (fun t => by dsimp only [dats]) t d
theorem before0_5 (c : Dev nD) (t : Fin cfg0.N) (d) : (dats m o 0 c).before 5 t d = iblk m c 5 t :=
  before0_5_of m (dats m o 0 c) (by dsimp only [dats]) (fun t => by dsimp only [dats]) t d
theorem before0_6 (c : Dev nD) (t : Fin cfg0.N) (d) : (dats m o 0 c).before 6 t d = iblk m c 6 t :=
  before0_6_of m (dats m o 0 c) (by dsimp only [dats]) (fun t => by dsimp only [dats]) t d
theorem before0_7 (c : Dev nD) (t : Fin cfg0.N) (d) : (dats m o 0 c).before 7 t d = iblk m c 7 t :=
  before0_7_of m (dats m o 0 c) (by dsimp only [dats]) (fun t => by dsimp only [dats]) t d
theorem before0_8 (c : Dev nD) (t : Fin cfg0.N) (d) : (dats m o 0 c).before 8 t d = iblk m c 8 t :=
  before0_8_of m (dats m o 0 c) (by dsimp only [dats]) (fun t => by dsimp only [dats]) t d
theorem before0_9 (c : Dev nD) (t : Fin cfg0.N) (d) : (dats m o 0 c).before 9 t d = iblk m c 9 t :=
  before0_9_of m (dats m o 0 c) (by dsimp only [dats]) (fun t => by dsimp only [dats]) t d
theorem before0_10 (c : Dev nD) (t : Fin cfg0.N) (d) : (dats m o 0 c).before 10 t d = iblk m c 10 t :=
  before0_10_of m (dats m o 0 c) (by dsimp only [dats]) (fun t => by dsimp only [dats]) t d
theorem before0_11 (c : Dev nD) (t : Fin cfg0.N) (d) : (dats m o 0 c).before 11 t d = iblk m c 11 t :=
  before0_11_of m (dats m o 0 c) (by dsimp only [dats]) (fun t => by dsimp only [dats]) t d

theorem framed (c : Dev nD) {p : Prog (TpuEff nD τ sig (Elt F) Λ₀ .tc) PUnit} {P R : sProp 𝕄} {Q : PUnit → sProp 𝕄}
    (h : P ⊢ wp frame (wpE (defs₀ (F := F)) Variants.none c none) Set.univ p Q) :
    iprop(P ∗ R) ⊢ wp frame (wpE (defs₀ (F := F)) Variants.none c none) Set.univ p (fun a => iprop(Q a ∗ R)) :=
  (sep_mono_l h).trans (wp_frame_r _ _ _)

set_option maxHeartbeats 1000000 in
/-- The body at any point: `O` gives it the outputs' blocks, and `R` follows from what it leaves there. -/
theorem core (c : Dev nD) (t : Fin cfg0.N) (Q : Vec F S256x1024 .bf16 → Vec F S256x1024 .f32 → Vec F S256x1024 .f32 → Vec F S256x1 .f32 → Vec F S256x1024 .bf16 → Prop)
    (K : Leaves c (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Q) (O R : sProp 𝕄)
    (hO : O ⊢ iprop((∃ d, owns (c : Thread nD τ) (win0_12.stage (cfg0.slots t 12)) fullShare d) ∗ (∃ d, owns (c : Thread nD τ) (win0_13.stage (cfg0.slots t 13)) fullShare d) ∗ (∃ d, owns (c : Thread nD τ) (win0_14.stage (cfg0.slots t 14)) fullShare d) ∗ (∃ d, owns (c : Thread nD τ) (win0_15.stage (cfg0.slots t 15)) fullShare d) ∗ (∃ d, owns (c : Thread nD τ) (win0_16.stage (cfg0.slots t 16)) fullShare d)))
    (hR : iprop((∃ d12 d13 d14 d15 d16, ⌜Q d12 d13 d14 d15 d16⌝ ∗ owns (c : Thread nD τ) (win0_12.stage (cfg0.slots t 12)) fullShare d12 ∗ owns (c : Thread nD τ) (win0_13.stage (cfg0.slots t 13)) fullShare d13 ∗ owns (c : Thread nD τ) (win0_14.stage (cfg0.slots t 14)) fullShare d14 ∗ owns (c : Thread nD τ) (win0_15.stage (cfg0.slots t 15)) fullShare d15 ∗ owns (c : Thread nD τ) (win0_16.stage (cfg0.slots t 16)) fullShare d16)) ⊢ R) :
    (iprop((dats m o 0 c).Φ t.castSucc ∗ (dats m o 0 c).owesAt () t.castSucc ∗ (∃ d, owns (c : Thread nD τ) (win0_0.stage (cfg0.slots t 0)) fullShare ((dats m o 0 c).before 0 t d)) ∗ (∃ d, owns (c : Thread nD τ) (win0_1.stage (cfg0.slots t 1)) fullShare ((dats m o 0 c).before 1 t d)) ∗ (∃ d, owns (c : Thread nD τ) (win0_2.stage (cfg0.slots t 2)) fullShare ((dats m o 0 c).before 2 t d)) ∗ (∃ d, owns (c : Thread nD τ) (win0_3.stage (cfg0.slots t 3)) fullShare ((dats m o 0 c).before 3 t d)) ∗ (∃ d, owns (c : Thread nD τ) (win0_4.stage (cfg0.slots t 4)) fullShare ((dats m o 0 c).before 4 t d)) ∗ (∃ d, owns (c : Thread nD τ) (win0_5.stage (cfg0.slots t 5)) fullShare ((dats m o 0 c).before 5 t d)) ∗ (∃ d, owns (c : Thread nD τ) (win0_6.stage (cfg0.slots t 6)) fullShare ((dats m o 0 c).before 6 t d)) ∗ (∃ d, owns (c : Thread nD τ) (win0_7.stage (cfg0.slots t 7)) fullShare ((dats m o 0 c).before 7 t d)) ∗ (∃ d, owns (c : Thread nD τ) (win0_8.stage (cfg0.slots t 8)) fullShare ((dats m o 0 c).before 8 t d)) ∗ (∃ d, owns (c : Thread nD τ) (win0_9.stage (cfg0.slots t 9)) fullShare ((dats m o 0 c).before 9 t d)) ∗ (∃ d, owns (c : Thread nD τ) (win0_10.stage (cfg0.slots t 10)) fullShare ((dats m o 0 c).before 10 t d)) ∗ (∃ d, owns (c : Thread nD τ) (win0_11.stage (cfg0.slots t 11)) fullShare ((dats m o 0 c).before 11 t d)) ∗ O) : sProp 𝕄)
      ⊢ wp frame (wpE (defs₀ (F := F)) Variants.none c none) Set.univ (bodyAt0 t)
        (fun _ => iprop((dats m o 0 c).Φ t.succ ∗ (dats m o 0 c).owesAt () t.succ ∗ owns (c : Thread nD τ) (win0_0.stage (cfg0.slots t 0)) fullShare ((dats m o 0 c).after 0 t) ∗ owns (c : Thread nD τ) (win0_1.stage (cfg0.slots t 1)) fullShare ((dats m o 0 c).after 1 t) ∗ owns (c : Thread nD τ) (win0_2.stage (cfg0.slots t 2)) fullShare ((dats m o 0 c).after 2 t) ∗ owns (c : Thread nD τ) (win0_3.stage (cfg0.slots t 3)) fullShare ((dats m o 0 c).after 3 t) ∗ owns (c : Thread nD τ) (win0_4.stage (cfg0.slots t 4)) fullShare ((dats m o 0 c).after 4 t) ∗ owns (c : Thread nD τ) (win0_5.stage (cfg0.slots t 5)) fullShare ((dats m o 0 c).after 5 t) ∗ owns (c : Thread nD τ) (win0_6.stage (cfg0.slots t 6)) fullShare ((dats m o 0 c).after 6 t) ∗ owns (c : Thread nD τ) (win0_7.stage (cfg0.slots t 7)) fullShare ((dats m o 0 c).after 7 t) ∗ owns (c : Thread nD τ) (win0_8.stage (cfg0.slots t 8)) fullShare ((dats m o 0 c).after 8 t) ∗ owns (c : Thread nD τ) (win0_9.stage (cfg0.slots t 9)) fullShare ((dats m o 0 c).after 9 t) ∗ owns (c : Thread nD τ) (win0_10.stage (cfg0.slots t 10)) fullShare ((dats m o 0 c).after 10 t) ∗ owns (c : Thread nD τ) (win0_11.stage (cfg0.slots t 11)) fullShare ((dats m o 0 c).after 11 t) ∗ R)) := by
  unfold bodyAt0
  simp only [before0_0, before0_1, before0_2, before0_3, before0_4, before0_5, before0_6, before0_7, before0_8, before0_9, before0_10, before0_11]
  rw [show (dats m o 0 c).owesAt () t.succ = (dats m o 0 c).owesAt () t.castSucc from rfl,
    show (dats m o 0 c).Φ t.succ = Pipeline.ΦA spec0 c from rfl, show (dats m o 0 c).Φ t.castSucc = Pipeline.ΦA spec0 c from rfl]
  unfold Pipeline.ΦA
  rw [scopedRest0_eq]
  have hk := sound c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (Memref.whole cc0_scratch0 : Memref sig .tc .vmem S272x1024 .f32) (Memref.isWhole_whole _) (Memref.whole cc0_scratch1 : Memref sig .tc .vmem S288x1024 .f32) (Memref.isWhole_whole _) (Memref.whole cc0_scratch2 : Memref sig .tc .vmem S256x1024 .f32) (Memref.isWhole_whole _) (Memref.whole cc0_scratch3 : Memref sig .tc .vmem S8x288x128 .f32) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Q K
  simp only [View.set_whole] at hk
  refine triple_restated (framed c (R := iprop((∃ r, prngReg c r) ∗ (dats m o 0 c).owesAt () t.castSucc)) hk) rfl ?_ fun _ => ?_
  · iintro ⟨⟨⟨⟨%f0, HS0⟩, ⟨%f1, HS1⟩, ⟨%f2, HS2⟩, ⟨%f3, HS3⟩⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, HO⟩
    isplitr [HP Ho]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      ihave HO := hO $$ HO
      icases HO with ⟨H12, H13, H14, H15, H16⟩
      isplitl [H12]; · iexact H12
      isplitl [H13]; · iexact H13
      isplitl [H14]; · iexact H14
      isplitl [H15]; · iexact H15
      isplitl [H16]; · iexact H16
      iexists f0, f1, f2, f3
      sl_close
    · isplitl [HP]; · iexact HP
      iexact Ho
  · iintro ⟨⟨H0, H1, H2, H3, H4, H5, H6, H7, H8, H9, H10, H11, ⟨%f0, %f1, %f2, %f3, HS0, HS1, HS2, HS3⟩, HR⟩, HP, Ho⟩
    isplitl [HS0 HS1 HS2 HS3 HP]
    · isplitr [HP]
      · sl_close
      · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iapply hR
    iexact HR
end

end Cert.KMixerIdeal.Body
-- ==== Proof.Mixer.Same.lean ====
module
public import proofs.«01_k».proof.KMixer
public import proofs.«01_k».proof.KMixerIdeal
@[expose] public section
open Idealize.ShloMosaic
namespace Cert.KMixerIdeal.Same
set_option maxRecDepth 65536
set_option maxHeartbeats 4000000
variable {F : FTy → Type} [FloatOps F] [Cert.KMixer.Facts] [Cert.KMixerIdeal.Facts]
theorem p3 : @Cert.KMixer.cc0_mixer_fwd F _ _ = @Cert.KMixerIdeal.cc0_mixer_fwd F _ _ := rfl
theorem p4 : @Cert.KMixer.defs₀ F _ _ = @Cert.KMixerIdeal.defs₀ F _ _ := by
  unfold Cert.KMixer.defs₀ Cert.KMixerIdeal.defs₀
  refine congrArg Defs.onTc ?_
  funext l x
  match l, x with
  | 0, (i, s) => rfl
theorem p5 : @Cert.KMixer.defs F _ _ = @Cert.KMixerIdeal.defs F _ _ := by
  unfold Cert.KMixer.defs Cert.KMixerIdeal.defs
  exact congrArg (Pipeline.defs (Cert.KMixerIdeal.pcfgs (F := F))) p4
end Cert.KMixerIdeal.Same
-- ==== Proof.Mixer.Frame.lean ====
/- The frame of the call: its arguments stay and its semaphores end at zero. -/
module

public import proofs.«01_k».proof.Proof.Gen.KMixerIdeal.Frame
public import proofs.«01_k».proof.Proof.Gen.KMixerIdeal.Loops
public import proofs.«01_k».proof.Proof.Mixer.Data
public import proofs.«01_k».proof.Proof.Mixer.Same

@[expose] public section

set_option maxRecDepth 16384

noncomputable section

namespace Cert.KMixerIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KMixerIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The outputs' blocks as the launch finds them. -/
def found : Outs F where
  o12 c t := (win0_12.blk t).view.read (Elt F) (V m c (Pipeline.arrRef spec0 12))
  o13 c t := (win0_13.blk t).view.read (Elt F) (V m c (Pipeline.arrRef spec0 13))
  o14 c t := (win0_14.blk t).view.read (Elt F) (V m c (Pipeline.arrRef spec0 14))
  o15 c t := (win0_15.blk t).view.read (Elt F) (V m c (Pipeline.arrRef spec0 15))
  o16 c t := (win0_16.blk t).view.read (Elt F) (V m c (Pipeline.arrRef spec0 16))

/-- Proof data that says nothing of the outputs. -/
def free (p : Fin 1) (c : Dev nD) : Dat τ (Elt F) Unit ℕ (UR sig nD τ) ℕ cfg0 c := dats m (found m) p c

/-- The output windows. -/
def outw (w : Fin cfg0.W) : Bool := decide (12 ≤ w.val)

theorem free_body (c : Dev nD) : Pipeline.BodyObligationLoose (free m 0 c) defs₀ Variants.none () Set.univ outw := fun t => by
  rw [bigSep_W0, bigSep_W0, defs₀_row]
  refine triple_restated (core m (found m) c t (fun _ _ _ _ _ => True) (by unfold Leaves; intros; trivial)
    iprop((∃ d, owns (c : Thread nD τ) (win0_12.stage (cfg0.slots t 12)) fullShare d) ∗ (∃ d, owns (c : Thread nD τ) (win0_13.stage (cfg0.slots t 13)) fullShare d) ∗ (∃ d, owns (c : Thread nD τ) (win0_14.stage (cfg0.slots t 14)) fullShare d) ∗ (∃ d, owns (c : Thread nD τ) (win0_15.stage (cfg0.slots t 15)) fullShare d) ∗ (∃ d, owns (c : Thread nD τ) (win0_16.stage (cfg0.slots t 16)) fullShare d)) iprop((∃ d, owns (c : Thread nD τ) (win0_12.stage (cfg0.slots t 12)) fullShare d) ∗ (∃ d, owns (c : Thread nD τ) (win0_13.stage (cfg0.slots t 13)) fullShare d) ∗ (∃ d, owns (c : Thread nD τ) (win0_14.stage (cfg0.slots t 14)) fullShare d) ∗ (∃ d, owns (c : Thread nD τ) (win0_15.stage (cfg0.slots t 15)) fullShare d) ∗ (∃ d, owns (c : Thread nD τ) (win0_16.stage (cfg0.slots t 16)) fullShare d)) .rfl ?_) rfl .rfl fun _ => .rfl
  iintro ⟨%d12, %d13, %d14, %d15, %d16, -, H12, H13, H14, H15, H16⟩
  isplitl [H12]; · iexists d12; iexact H12
  isplitl [H13]; · iexists d13; iexact H13
  isplitl [H14]; · iexists d14; iexact H14
  isplitl [H15]; · iexists d15; iexact H15
  iexists d16; iexact H16

set_option backward.isDefEq.respectTransparency.types false in
set_option maxHeartbeats 800000 in
/-- The launch, every semaphore at zero at every final state. -/
theorem run_free : θ_run defs (onTc (τ := τ) (main (F := F))) (s₀ m ρ)
    (fun r => (Pipeline.RDat.FramePost cfg0 (fun c => (free m 0 c).toRForget outw) (V m)) r ∧ r.2.sem = fun _ => 0) :=
  Pipeline.θ_run_frame_track_forget_shared (Q' := _) cfgs (free m) (0 : Fin 1) launch₀0 defs₀ Variants.none outw m ρ main
    (hbody := free_body m) (hq := fun _ _ _ => rfl) (howed := fun _ _ => rfl) (V := V m) (hmain := hmain m Variants.none)
    (hA := fun _ _ => rfl) (hin := fun _ => .rfl) (hout := fun _ => .rfl)

/-- Every execution ends, no argument array changed and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5))
      ∧ r.2.sem = fun _ => 0) :=
  (θ_run defs _ _).mono (fun r h => ⟨fun c => ⟨((h.1 c).2 main_arg0 (Pipeline.mem_restRefs_of main_arg0 (by decide) (by decide))).trans (V_main_arg0 m c), ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c), ((h.1 c).2 main_arg5 (Pipeline.mem_restRefs_of main_arg5 (by decide) (by decide))).trans (V_main_arg5 m c)⟩, h.2⟩) (run_free m ρ)

end Cert.KMixerIdeal.Body
-- ==== Proof.Mixer.FrameBits.lean ====
module
public import proofs.«01_k».proof.Proof.Mixer.Frame
public import proofs.«01_k».proof.Proof.Gen.KMixer

@[expose] public section

set_option maxRecDepth 65536
set_option maxHeartbeats 4000000

noncomputable section

namespace Cert.KMixer.Body

open Idealize.ShloMosaic Idealize.ShloMosaic.TcCoe Idealize.SL.Sem

variable {F : FTy → Type} [FloatOps F]
  (m : (ℓ : Loc nD τ sig) → Buf (Elt F) ℓ) (ρ : Dev nD → PrngReg)

/-- The program as compiled is the same as the one over exact arithmetic, and so its frame is that one's. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5))
      ∧ r.2.sem = fun _ => 0) := by
  have h := Cert.KMixerIdeal.Body.frame (F := F) m ρ
  rw [← Cert.KMixerIdeal.Same.p5] at h
  exact h

end Cert.KMixer.Body
-- ==== Proof.Mixer.Loop.lean ====
/- What the loop over the blocks of 128 columns leaves: the two sums of shifted products. -/
module

public import proofs.«01_k».proof.Proof.Gen.KMixerIdeal.Frame
public import proofs.«01_k».proof.Proof.Gen.KMixerIdeal.Loops
public import proofs.«01_k».proof.Proof.Conv.Steps

@[expose] public section

set_option maxRecDepth 65536

noncomputable section

namespace Cert.KMixerIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KMixerIdeal.Gen
open scoped BigOperators
open Cert.KConvIdeal.Val (nat2 nat2_of nat2_at nat2_store nat2_block Blk Blk.read Blk.slab Slabs Slabs.nil Slabs.cons)

/-- A block of the sum of `n` shifted products. -/
def Taps {a a' b b' : ℕ} (Xw : Vec Ideal ⟨2, ![a, b]⟩ .f32) (Xd : Vec Ideal ⟨2, ![a', b']⟩ .f32) (row lane n : ℕ) (V : Vec Ideal S64x128 .f32) : Prop :=
  ∀ i < 64, ∀ l < 128, nat2 V i l = ∑ j ∈ Finset.range n, nat2 Xw j (lane + l) * nat2 Xd (row + j + i) (lane + l)

section
variable {sig : RefSig} {κ : Kind} {sp : Space} {a a' b b' : ℕ} {v : View sig κ sp ⟨2, ![a, b]⟩ .f32} {f : v.ty.Contents (Elt Ideal)}
  {row lane n : ℕ} {Xd : Vec Ideal ⟨2, ![a', b']⟩ .f32}

theorem Taps.zero : Taps (v.read (Elt Ideal) f) Xd row lane 0 (broadcast S64x128 (FloatOps.ofBits (F := Ideal) .f32 0#32)) := by
  intro i hi l hl
  rw [nat2_of _ hi hl]
  show Ideal.ofBits .f32 0#32 = _
  simp [Ideal.ofBits, Ideal.ieee]

theorem Taps.add {D V : Vec Ideal S64x128 .f32} {c d : ℕ} {iw} {h1 : S1x128.ShapeCasts S1x128} {h2} (hD : Blk D Xd d lane) (hd : d = row + n) (hc : c = n)
    (h : Taps (v.read (Elt Ideal) f) Xd row lane n V) :
    Taps (v.read (Elt Ideal) f) Xd row lane (n + 1)
      (addf (F := Ideal) (φ := .f32) V (mulf (broadcastTo S64x128 (shapeCast S1x128 (v.readAt (Elt Ideal) (Rect.unit (s := ⟨2, ![a, b]⟩) ![c, lane] S1x128.size iw).toLoadRect f) h1) h2) D)) := by
  intro i hi l hl
  have hp : ∀ W : Vec Ideal S1x128 .f32, addf (F := Ideal) (φ := .f32) V (mulf (broadcastTo S64x128 (shapeCast S1x128 W h1) h2) D) (ix2 ⟨i, hi⟩ ⟨l, hl⟩)
      = V (ix2 ⟨i, hi⟩ ⟨l, hl⟩) + W (ix2 0 ⟨l, hl⟩) * D (ix2 ⟨i, hi⟩ ⟨l, hl⟩) := by
    intro W; pointwise
  have hb := nat2_block (p := 1) (r := 128) v f iw (i := 0) (by omega) hl
  rw [nat2_of _ (by omega : 0 < 1) hl, Nat.add_zero] at hb
  rw [nat2_of _ hi hl, hp, Finset.sum_range_succ, ← h i hi l hl, ← hd, ← hD i hi l hl, nat2_of V hi hl, nat2_of D hi hl]
  clear hd h
  rw [← hc, ← hb]
  rfl

theorem Taps.cast {Xw : Vec Ideal ⟨2, ![a, b]⟩ .f32} {V : Vec Ideal S64x128 .f32} {h : S64x128.ShapeCasts S64x128}
    (hV : Taps Xw Xd row lane n V) : Taps Xw Xd row lane n (shapeCast S64x128 V h) := by
  intro i hi l hl
  rw [← hV i hi l hl, nat2_of _ hi hl, nat2_of V hi hl]
  pointwise
end

/-- The sum of `J` shifted products, the rows taken from row `o` on. -/
def taps {a a' b b' : ℕ} (o J : ℕ) (Xw : Vec Ideal ⟨2, ![a, b]⟩ .f32) (Xd : Vec Ideal ⟨2, ![a', b']⟩ .f32) (i col : ℕ) : EReal :=
  ∑ j ∈ Finset.range J, nat2 Xw j col * nat2 Xd (o + i + j) col

/-- The columns of a trip written with the sum, up to row `64 * n`. -/
structure Cols {sig : RefSig} {κ : Kind} {sp : Space} {H a a' b b' : ℕ} (v : View sig κ sp ⟨2, ![H, 1024]⟩ .f32) (f : v.ty.Contents (Elt Ideal))
    (o J lane : ℕ) (Xw : Vec Ideal ⟨2, ![a, b]⟩ .f32) (Xd : Vec Ideal ⟨2, ![a', b']⟩ .f32) (n : ℕ) (L : List (View.Piece (Elt Ideal) ⟨2, ![H, 1024]⟩ .f32)) : Prop where
  val : ∀ i < 64 * n, ∀ l < 128, nat2 (v.read (Elt Ideal) (v.writes (Elt Ideal) f L)) i (lane + l) = taps o J Xw Xd i (lane + l)
  off : ∀ i j, (j < lane ∨ lane + 128 ≤ j) → nat2 (v.read (Elt Ideal) (v.writes (Elt Ideal) f L)) i j = nat2 (v.read (Elt Ideal) f) i j

/-- The sum written by the first `n` trips. -/
def Filled {sig : RefSig} {κ : Kind} {sp : Space} {H a a' b b' : ℕ} (v : View sig κ sp ⟨2, ![H, 1024]⟩ .f32) (f : v.ty.Contents (Elt Ideal))
    (o J : ℕ) (Xw : Vec Ideal ⟨2, ![a, b]⟩ .f32) (Xd : Vec Ideal ⟨2, ![a', b']⟩ .f32) (n : ℕ) (L : List (View.Piece (Elt Ideal) ⟨2, ![H, 1024]⟩ .f32)) : Prop :=
  ∀ i < 256, ∀ col < 128 * n, nat2 (v.read (Elt Ideal) (v.writes (Elt Ideal) f L)) i col = taps o J Xw Xd i col

section
variable {sig : RefSig} {κ : Kind} {sp : Space} {H a a' b b' : ℕ} {v : View sig κ sp ⟨2, ![H, 1024]⟩ .f32} {f : v.ty.Contents (Elt Ideal)}
  {o J lane : ℕ} {Xw : Vec Ideal ⟨2, ![a, b]⟩ .f32} {Xd : Vec Ideal ⟨2, ![a', b']⟩ .f32} {n : ℕ} {L M : List (View.Piece (Elt Ideal) ⟨2, ![H, 1024]⟩ .f32)}

theorem Cols.nil : Cols v f o J lane Xw Xd 0 [] where
  val i hi := absurd hi (by omega)
  off _ _ _ := rfl

theorem Cols.cons {c : ℕ} {inb} {V : Vec Ideal S64x128 .f32} (hc : c = 64 * n) (hV : Taps Xw Xd (o + c) lane J V) (h : Cols v f o J lane Xw Xd n L) :
    Cols v f o J lane Xw Xd (n + 1) (⟨Rect.unit ![c, lane] S64x128.size inb, V⟩ :: L) where
  val i hi l hl := by
    refine (nat2_store (p := 64) (r := 128) v f inb V L i (lane + l)).trans ?_
    by_cases hi' : c ≤ i
    · rw [if_pos (by omega), hV _ (by omega) _ (by omega), show lane + (lane + l - lane) = lane + l by omega]
      refine Finset.sum_congr rfl fun j _ => ?_
      rw [show o + c + j + (i - c) = o + i + j by omega]
    · rw [if_neg (by omega), h.val i (by omega) l hl]
  off i j hj := by
    refine (nat2_store (p := 64) (r := 128) v f inb V L i j).trans ?_
    rw [if_neg (by omega), h.off i j hj]

theorem Filled.nil : Filled v f o J Xw Xd 0 [] := fun _ _ _ h => absurd h (by omega)

theorem Filled.trip (h : Cols v (v.writes (Elt Ideal) f M) o J (128 * n) Xw Xd 4 L) (ih : Filled v f o J Xw Xd n M) :
    Filled v f o J Xw Xd (n + 1) (L ++ M) := by
  intro i hi col hcol
  rw [View.writes_append]
  by_cases hc : 128 * n ≤ col
  · obtain ⟨l, rfl⟩ := Nat.exists_eq_add_of_le hc
    exact h.val i (by omega) l (by omega)
  · rw [h.off _ _ (by omega), ih i hi col (by omega)]
end

/-- The first lane of a trip. -/
def lanes (k : Fin k0_t1_loop.trips) : ℕ := BitVec.toNat (Scalar.indexCast (Scalar.muli (Scf.iv 0#32 1#32 k.val) 128#32))

theorem lanes_eq : ∀ k : Fin k0_t1_loop.trips, lanes k = 128 * k.val := by decide +kernel

/-- The slabs of a trip. -/
theorem slabs (arg19 : Memref sig .tc .vmem S288x1024 .f32) (X : BufTy.Contents (Elt Ideal) arg19.view.ty) (k : Fin k0_t1_loop.trips) :
    Slabs (trip_k0_t1.sl.HW_arg21_7 arg19 X k) (arg19.view.read (Elt Ideal) X) (lanes k) 7 := by
  unfold trip_k0_t1.sl.HW_arg21_7
  iterate 7 refine Slabs.cons (v := arg19.view) (f := X) (lane := lanes k) ?_ rfl
  exact Slabs.nil

section
variable (𝒱 : Variants) (c : Dev nD) (bd : Option 𝒱.V) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S16x1024 .bf16) (harg6 : arg6.IsWhole) (arg7 : Memref sig .tc .vmem S16x1024 .bf16) (harg7 : arg7.IsWhole) (arg8 : Memref sig .tc .vmem S32x1024 .bf16) (harg8 : arg8.IsWhole) (arg9 : Memref sig .tc .vmem S32x1024 .bf16) (harg9 : arg9.IsWhole) (arg10 : Memref sig .tc .vmem S8x1024 .f32) (harg10 : arg10.IsWhole) (arg11 : Memref sig .tc .vmem S32x1024 .f32) (harg11 : arg11.IsWhole) (arg12 : Memref sig .tc .vmem S8x1024 .f32) (harg12 : arg12.IsWhole) (arg13 : Memref sig .tc .vmem S256x1024 .bf16) (harg13 : arg13.IsWhole) (arg14 : Memref sig .tc .vmem S256x1024 .f32) (harg14 : arg14.IsWhole) (arg15 : Memref sig .tc .vmem S256x1024 .f32) (harg15 : arg15.IsWhole) (arg16 : Memref sig .tc .vmem S256x1 .f32) (harg16 : arg16.IsWhole) (arg17 : Memref sig .tc .vmem S256x1024 .bf16) (harg17 : arg17.IsWhole) (arg18 : Memref sig .tc .vmem S272x1024 .f32) (harg18 : arg18.IsWhole) (arg19 : Memref sig .tc .vmem S288x1024 .f32) (harg19 : arg19.IsWhole) (arg20 : Memref sig .tc .vmem S256x1024 .f32) (harg20 : arg20.IsWhole) (arg21 : Memref sig .tc .vmem S8x288x128 .f32) (harg21 : arg21.IsWhole) (v0 : BitVec 1) (v25 : FVec Ideal S32x1024 .f32) (v35 : FVec Ideal S32x1024 .f32) (X_arg10 : BufTy.Contents (Elt Ideal) arg10.view.ty) (X_arg11 : BufTy.Contents (Elt Ideal) arg11.view.ty) (X_arg18 : BufTy.Contents (Elt Ideal) arg18.view.ty) (X_arg19 : BufTy.Contents (Elt Ideal) arg19.view.ty) (k : Fin k0_t1_loop.trips) (f_arg14 : BufTy.Contents (Elt Ideal) arg14.view.ty) (f_arg20 : BufTy.Contents (Elt Ideal) arg20.view.ty) (f_arg21 : BufTy.Contents (Elt Ideal) arg21.view.ty)

set_option maxHeartbeats 8000000 in
theorem cols14 : Cols arg14.view f_arg14 14 3 (lanes k) (arg10.view.read (Elt Ideal) X_arg10) (arg18.view.read (Elt Ideal) X_arg18) 4
    (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v0 v25 v35 X_arg10 X_arg11 X_arg18 X_arg19 k f_arg14 f_arg20 f_arg21).1 := by
  unfold tripL_k0_t1 trip_k0_t1; dsimp only
  iterate 4
    refine Cols.cons (lane := lanes k) rfl ?_ ?_
    iterate 3
      refine Taps.add (lane := lanes k) (h2 := broadcasts_S1x128_S64x128) (v := arg10.view) (f := X_arg10) (Blk.read arg18.view X_arg18) rfl rfl ?_
    exact Taps.zero
  exact Cols.nil

set_option maxHeartbeats 8000000 in
theorem cols20 : Cols arg20.view f_arg20 2 31 (lanes k) (arg11.view.read (Elt Ideal) X_arg11) (arg19.view.read (Elt Ideal) X_arg19) 4
    (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v0 v25 v35 X_arg10 X_arg11 X_arg18 X_arg19 k f_arg14 f_arg20 f_arg21).2.1 := by
  unfold tripL_k0_t1 trip_k0_t1; dsimp only
  have hS := slabs arg19 X_arg19 k
  clear cols20 harg1 harg2 harg3 harg4 harg5 harg6 harg7 harg8 harg9 harg10 harg11 harg12 harg13 harg14 harg15 harg16 harg17 harg18 harg19 harg20 harg21 X_arg10 X_arg18 f_arg14 f_arg21
  iterate 4
    refine Cols.cons (lane := lanes k) rfl (Taps.cast ?_) ?_
    refine Taps.add (lane := lanes k) (h2 := broadcasts_S1x128_S64x128) (v := arg11.view) (f := X_arg11) (Blk.read arg19.view X_arg19) rfl rfl ?_
    iterate 3
      iterate 7
        refine Taps.add (lane := lanes k) (h2 := broadcasts_S1x128_S64x128) (v := arg11.view) (f := X_arg11) (d := ?_) ?_ ?_ rfl ?_
        on_goal 2 => refine Blk.slab arg21.view hS ?_
        · decide
        · rfl
      refine Taps.add (lane := lanes k) (h2 := broadcasts_S1x128_S64x128) (v := arg11.view) (f := X_arg11) (Blk.read arg19.view X_arg19) rfl rfl ?_
    iterate 6
      refine Taps.add (lane := lanes k) (h2 := broadcasts_S1x128_S64x128) (v := arg11.view) (f := X_arg11) (d := ?_) ?_ ?_ rfl ?_
      on_goal 2 => refine Blk.slab arg21.view hS ?_
      · decide
      · rfl
    exact Taps.zero
  exact Cols.nil
end

section
variable (𝒱 : Variants) (c : Dev nD) (bd : Option 𝒱.V) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S16x1024 .bf16) (harg6 : arg6.IsWhole) (arg7 : Memref sig .tc .vmem S16x1024 .bf16) (harg7 : arg7.IsWhole) (arg8 : Memref sig .tc .vmem S32x1024 .bf16) (harg8 : arg8.IsWhole) (arg9 : Memref sig .tc .vmem S32x1024 .bf16) (harg9 : arg9.IsWhole) (arg10 : Memref sig .tc .vmem S8x1024 .f32) (harg10 : arg10.IsWhole) (arg11 : Memref sig .tc .vmem S32x1024 .f32) (harg11 : arg11.IsWhole) (arg12 : Memref sig .tc .vmem S8x1024 .f32) (harg12 : arg12.IsWhole) (arg13 : Memref sig .tc .vmem S256x1024 .bf16) (harg13 : arg13.IsWhole) (arg14 : Memref sig .tc .vmem S256x1024 .f32) (harg14 : arg14.IsWhole) (arg15 : Memref sig .tc .vmem S256x1024 .f32) (harg15 : arg15.IsWhole) (arg16 : Memref sig .tc .vmem S256x1 .f32) (harg16 : arg16.IsWhole) (arg17 : Memref sig .tc .vmem S256x1024 .bf16) (harg17 : arg17.IsWhole) (arg18 : Memref sig .tc .vmem S272x1024 .f32) (harg18 : arg18.IsWhole) (arg19 : Memref sig .tc .vmem S288x1024 .f32) (harg19 : arg19.IsWhole) (arg20 : Memref sig .tc .vmem S256x1024 .f32) (harg20 : arg20.IsWhole) (arg21 : Memref sig .tc .vmem S8x288x128 .f32) (harg21 : arg21.IsWhole) (v0 : BitVec 1) (v25 : FVec Ideal S32x1024 .f32) (v35 : FVec Ideal S32x1024 .f32) (X_arg10 : BufTy.Contents (Elt Ideal) arg10.view.ty) (X_arg11 : BufTy.Contents (Elt Ideal) arg11.view.ty) (X_arg18 : BufTy.Contents (Elt Ideal) arg18.view.ty) (X_arg19 : BufTy.Contents (Elt Ideal) arg19.view.ty) (G_arg14 : BufTy.Contents (Elt Ideal) arg14.view.ty) (G_arg20 : BufTy.Contents (Elt Ideal) arg20.view.ty) (G_arg21 : BufTy.Contents (Elt Ideal) arg21.view.ty)

theorem loop_upto (n : ℕ) (hn : n ≤ 8) :
    Filled arg14.view G_arg14 14 3 (arg10.view.read (Elt Ideal) X_arg10) (arg18.view.read (Elt Ideal) X_arg18) n (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v0 v25 v35 X_arg10 X_arg11 X_arg18 X_arg19 G_arg14 G_arg20 G_arg21 n).1
    ∧ Filled arg20.view G_arg20 2 31 (arg11.view.read (Elt Ideal) X_arg11) (arg19.view.read (Elt Ideal) X_arg19) n (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v0 v25 v35 X_arg10 X_arg11 X_arg18 X_arg19 G_arg14 G_arg20 G_arg21 n).2.1 := by
  induction n with
  | zero => exact ⟨Filled.nil, Filled.nil⟩
  | succ n ih =>
    obtain ⟨h1, h2⟩ := ih (by omega)
    have hk : n < k0_t1_loop.trips := Nat.lt_of_lt_of_le (by omega : n < 8) (by decide)
    have hl : lanes ⟨n, hk⟩ = 128 * n := lanes_eq ⟨n, hk⟩
    rw [pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v0 v25 v35 X_arg10 X_arg11 X_arg18 X_arg19 G_arg14 G_arg20 G_arg21 ⟨n, hk⟩]
    refine ⟨Filled.trip ?_ h1, Filled.trip ?_ h2⟩ <;> rw [← hl]
    · exact cols14 ..
    · exact cols20 ..
end

end Cert.KMixerIdeal.Val
-- ==== Proof.Mixer.Vals.lean ====
/- The results of a point of the mixer's call, from the arrays it reads. -/
module

public import proofs.«01_k».proof.Proof.Gen.KMixerIdeal.Frame
public import proofs.«01_k».proof.Proof.Mixer.Loop
public import Idealize.ShloMosaic.Lib.VecWindow

@[expose] public section

set_option maxRecDepth 65536

noncomputable section

namespace Cert.KMixerIdeal.Val

open Idealize.ShloMosaic Idealize.ShloMosaic.TcCoe
open Cert.KMixerIdeal.Gen
open scoped BigOperators
open Cert.KConvIdeal.Val (nat2 nat2_of nat2_at nat2_store nat2_block)

/-- The arrays the call reads: the two padded weights, the rows of the normalization's vectors, the projection. -/
structure Arrs where
  W3 : Vec Ideal S8x1024 .f32
  W31 : Vec Ideal S32x1024 .f32
  VS : Vec Ideal S8x1024 .f32
  P : Vec Ideal S8192x7168 .bf16

variable (G : Arrs)

def sgm (x : EReal) : EReal :=
  Ideal.ofBits .f32 0x3F000000#32 * Ideal.tanh (Ideal.ofBits .f32 0x3F000000#32 * x) + Ideal.ofBits .f32 0x3F000000#32

/-- The projection at a row and a column. -/
def pn (n k : ℕ) : EReal := nat2 (a := 8192) (b := 7168) (fun y => G.P y) n k

/-- The inputs of the two convolutions. -/
def U3 (col n : ℕ) : EReal := pn G n (1024 + col) * pn G n (2048 + col)
def U31 (col n : ℕ) : EReal := pn G n (3072 + col) * sgm (pn G n (4096 + col))

/-- A causal convolution with `J` taps: nothing stands before the first row. -/
def conv (J : ℕ) (w U : ℕ → EReal) (n : ℕ) : EReal := ∑ j ∈ Finset.range J, w j * if n + j < J - 1 then 0 else U (n + j - (J - 1))

def c3 (n col : ℕ) : EReal := conv 3 (fun j => nat2 (a := 8) (b := 1024) G.W3 j col) (U3 G col) n
def c31 (n col : ℕ) : EReal := conv 31 (fun j => nat2 (a := 32) (b := 1024) G.W31 j col) (U31 G col) n
def vec (r k : ℕ) : EReal := nat2 (a := 8) (b := 1024) G.VS r k

/-- A row's deviation from its mean, the reciprocal deviation, the normalized row. -/
def cen (z : ℕ → EReal) (k : ℕ) : EReal := z k - Ideal.div (∑ j : Fin 1024, z j.val) (Ideal.ofBits .f32 0x44800000#32)
def rs (z : ℕ → EReal) : EReal :=
  Ideal.rsqrt (Ideal.div (∑ j : Fin 1024, cen z j.val * cen z j.val) (Ideal.ofBits .f32 0x44800000#32) + Ideal.ofBits .f32 0x3727C5AC#32)
def xh (z : ℕ → EReal) (k : ℕ) : EReal := cen z k * rs z

/-- The row the normalization takes. -/
def zn (n k : ℕ) : EReal := c31 G n k + vec G 0 k

/-- The five results. -/
def r12 (n k : ℕ) : EReal := pn G n k * c3 G n k
def r14 (n k : ℕ) : EReal := xh (zn G n) k
def r15 (n : ℕ) : EReal := rs (zn G n)
def u2 (n k : ℕ) : EReal := r14 G n k * vec G 1 k + vec G 2 k
def r16 (n k : ℕ) : EReal := u2 G n k * sgm (u2 G n k)

theorem zero_word : Ideal.ofBits .f32 0x00000000#32 = 0 := by simp [Ideal.ofBits, Ideal.ieee]

/-! ## The payloads -/

theorem sel {α : Type} {n : ℕ} (hn : n < 32) (a b : α) : Scalar.select (Scalar.cmpi .eq (BitVec.ofNat 32 n) 0#32) a b = if n = 0 then a else b := by
  by_cases h : n = 0
  · subst h; rfl
  · rw [if_neg h]
    have e : (BitVec.ofNat 32 n == 0#32) = false := beq_eq_false_iff_ne.mpr fun q => h (by
      have := congrArg BitVec.toNat q
      rw [BitVec.toNat_ofNat] at this
      have e0 : (0#32).toNat = 0 := rfl
      omega)
    simp only [Scalar.select, Scalar.cmpi, IntOp.cmpi, e]
    exact if_neg (by decide)

theorem pay61_at (i : grid0.Coords) (hi : (i 0).val < 32) (x y : Vec Ideal S16x1024 .bf16) (r : Fin 16) (k : Fin 1024) :
    k0_pay61 i x y (ix2 r k) = if (i 0).val = 0 then 0 else x (ix2 r k) * y (ix2 r k) := by
  unfold k0_pay61
  dsimp only
  rw [sel hi]
  by_cases h : (i 0).val = 0
  · rw [if_pos h, if_pos h, ← zero_word]
    pointwise
  · rw [if_neg h, if_neg h]
    pointwise

theorem pay65_at (n : ℕ) (hn : n < 32) (x y : Vec Ideal S32x1024 .bf16) (r : Fin 32) (k : Fin 1024) :
    k0_pay65 (Scalar.cmpi .eq (BitVec.ofNat 32 n) 0#32) (k0_pay63 (F := Ideal) x) (k0_pay64 y) (ix2 r k) = if n = 0 then 0 else x (ix2 r k) * sgm (y (ix2 r k)) := by
  unfold k0_pay65
  rw [sel hn]
  by_cases h : n = 0
  · rw [if_pos h, if_pos h, ← zero_word]
    pointwise
  · rw [if_neg h, if_neg h]
    pointwise [k0_pay63, k0_pay64, sgm]

section
variable (x y : Vec Ideal S256x1024 .bf16) (V : Vec Ideal S256x1024 .f32) (b g s : Vec Ideal S1x1024 .f32) (i : Fin 256) (k : Fin 1024)

theorem pay62_at : k0_pay62 x y (ix2 i k) = x (ix2 i k) * y (ix2 i k) := by pointwise [k0_pay62]
theorem pay66_at : k0_pay66 x y (ix2 i k) = x (ix2 i k) * sgm (y (ix2 i k)) := by pointwise [k0_pay66, sgm]
theorem pay68_at : k0_pay68 x V (ix2 i k) = x (ix2 i k) * V (ix2 i k) := by pointwise [k0_pay68]

variable {z : ℕ → EReal} (hz : ∀ k : Fin 1024, V (ix2 i k) + b (ix2 0 k) = z k.val)
include hz

theorem pay69_at : k0_pay69 V b (ix2 i k) = cen z k.val := by
  have h : k0_pay69 V b (ix2 i k) = V (ix2 i k) + b (ix2 0 k) - Ideal.div (∑ j : Fin 1024, (V (ix2 i j) + b (ix2 0 j))) (Ideal.ofBits .f32 0x44800000#32) := by
    pointwise [k0_pay69]
  rw [h]
  simp only [hz]
  rfl

theorem pay70_at : k0_pay70 V b (ix2 i 0) = rs z := by
  have h : k0_pay70 V b (ix2 i 0) = Ideal.rsqrt (Ideal.div (∑ j : Fin 1024, k0_pay69 V b (ix2 i j) * k0_pay69 V b (ix2 i j)) (Ideal.ofBits .f32 0x44800000#32) + Ideal.ofBits .f32 0x3727C5AC#32) := by
    pointwise [k0_pay70]
  rw [h]
  simp only [pay69_at V b i _ hz]
  rfl

theorem pay71_at : k0_pay71 V b (ix2 i k) = xh z k.val := by
  unfold xh
  rw [← pay69_at V b i k hz, ← pay70_at V b i hz]
  pointwise [k0_pay71]

theorem pay72_at : k0_pay72 V b g s (ix2 i k) = (xh z k.val * g (ix2 0 k) + s (ix2 0 k)) * sgm (xh z k.val * g (ix2 0 k) + s (ix2 0 k)) := by
  rw [← pay71_at V b i k hz]
  pointwise [k0_pay72, sgm]
end

/-! ## A point -/

/-- The blocks of a point are these rows of the arrays. -/
structure At (t : ℕ) (x1 : Vec Ideal S256x1024 .bf16) (x2 : Vec Ideal S256x1024 .bf16) (x3 : Vec Ideal S256x1024 .bf16) (x4 : Vec Ideal S256x1024 .bf16) (x5 : Vec Ideal S256x1024 .bf16) (x6 : Vec Ideal S16x1024 .bf16) (x7 : Vec Ideal S16x1024 .bf16) (x8 : Vec Ideal S32x1024 .bf16) (x9 : Vec Ideal S32x1024 .bf16) (x10 : Vec Ideal S8x1024 .f32) (x11 : Vec Ideal S32x1024 .f32) (x12 : Vec Ideal S8x1024 .f32) : Prop where
  h1 : ∀ i k, x1 (ix2 i k) = pn G (256 * t + i.val) k.val
  h2 : ∀ i k, x2 (ix2 i k) = pn G (256 * t + i.val) (1024 + k.val)
  h3 : ∀ i k, x3 (ix2 i k) = pn G (256 * t + i.val) (2048 + k.val)
  h4 : ∀ i k, x4 (ix2 i k) = pn G (256 * t + i.val) (3072 + k.val)
  h5 : ∀ i k, x5 (ix2 i k) = pn G (256 * t + i.val) (4096 + k.val)
  h6 : t ≠ 0 → ∀ i k, x6 (ix2 i k) = pn G (256 * t + i.val - 16) (1024 + k.val)
  h7 : t ≠ 0 → ∀ i k, x7 (ix2 i k) = pn G (256 * t + i.val - 16) (2048 + k.val)
  h8 : t ≠ 0 → ∀ i k, x8 (ix2 i k) = pn G (256 * t + i.val - 32) (3072 + k.val)
  h9 : t ≠ 0 → ∀ i k, x9 (ix2 i k) = pn G (256 * t + i.val - 32) (4096 + k.val)
  h10 : x10 = G.W3
  h11 : x11 = G.W31
  h12 : x12 = G.VS

section
variable {sig : RefSig} {κ : Kind} {sp : Space}

/-- What a buffer with `p` rows above the block holds. -/
def held (p : ℕ) (U : ℕ → EReal) (t r : ℕ) : EReal := if 256 * t + r < p then 0 else U (256 * t + r - p)

theorem stacked {a p t col : ℕ} (hp : p ≤ 256) (hc : col < 1024) (v : View sig κ sp ⟨2, ![a, 1024]⟩ .f32) (f : v.ty.Contents (Elt Ideal)) (inb inb')
    (X : Vec Ideal ⟨2, ![p, 1024]⟩ .f32) (Y : Vec Ideal ⟨2, ![256, 1024]⟩ .f32) (U : ℕ → EReal)
    (hX : ∀ (r : Fin p), X (ix2 r ⟨col, hc⟩) = if t = 0 then 0 else U (256 * t + r.val - p)) (hY : ∀ r : Fin 256, Y (ix2 r ⟨col, hc⟩) = U (256 * t + r.val))
    (r : ℕ) (hr : r < p + 256) :
    nat2 (v.read (Elt Ideal) (v.writes (Elt Ideal) f [⟨Rect.unit ![p, 0] ![256, 1024] inb, Y⟩, ⟨Rect.unit ![0, 0] ![p, 1024] inb', X⟩])) r col = held p U t r := by
  unfold held
  rw [nat2_store]
  by_cases h : p ≤ r
  · rw [if_pos (by omega), if_neg (by omega), nat2_of _ (by omega) (by omega)]
    refine (hY ⟨r - p, by omega⟩).trans ?_
    rw [show 256 * t + (⟨r - p, by omega⟩ : Fin 256).val = 256 * t + r - p from (Nat.add_sub_assoc h _).symm]
  · rw [if_neg (by omega), nat2_store, if_pos (by omega), nat2_of _ (by omega) (by omega)]
    refine (hX ⟨r - 0, by omega⟩).trans ?_
    by_cases h0 : t = 0
    · rw [if_pos h0, if_pos (by omega)]
    · rw [if_neg h0, if_neg (by omega)]
      rfl

theorem read_whole {a b : ℕ} {e : EltTy} (v : View sig κ sp ⟨2, ![a, b]⟩ e) (f : v.ty.Contents (Elt Ideal)) (inb) (W : Vec Ideal ⟨2, ![a, b]⟩ e) :
    v.read (Elt Ideal) (v.writes (Elt Ideal) f [⟨Rect.unit ![0, 0] ![a, b] inb, W⟩]) = W :=
  funext fun y => View.read_writes_cons_unit_of_mem v f inb W [] y y rfl fun x => by fin_cases x <;> exact (Nat.zero_add _).symm

/-- The loop's sums over such a buffer are the convolution's rows. -/
theorem Filled.conv {v : View sig κ sp S256x1024 .f32} {f : v.ty.Contents (Elt Ideal)} {o J p t a a' : ℕ} {Xw : Vec Ideal ⟨2, ![a, 1024]⟩ .f32} {Xd : Vec Ideal ⟨2, ![a', 1024]⟩ .f32}
    {L : List (View.Piece (Elt Ideal) S256x1024 .f32)} {n : ℕ} (h : Filled (H := 256) v f o J Xw Xd n L) (hn : 8 ≤ n) (ho : o + (J - 1) = p) {U : ℕ → ℕ → EReal}
    (hd : ∀ col < 1024, ∀ r < p + 256, nat2 Xd r col = held p (U col) t r) (i : Fin 256) (k : Fin 1024) :
    v.read (Elt Ideal) (v.writes (Elt Ideal) f L) (ix2 i k) = Val.conv J (fun j => nat2 Xw j k.val) (U k.val) (256 * t + i.val) := by
  have hi := i.isLt
  rw [← nat2_at (a := 256) (b := 1024) (v.read (Elt Ideal) (v.writes (Elt Ideal) f L)) (ix2 i k) rfl rfl]
  refine (h i.val i.isLt k.val (by have := k.isLt; omega)).trans (Finset.sum_congr rfl fun j hj => ?_)
  have hj := Finset.mem_range.mp hj
  rw [hd k.val k.isLt _ (by omega)]
  unfold held
  by_cases hc : 256 * t + i.val + j < J - 1
  · rw [if_pos hc, if_pos (by omega)]
  · rw [if_neg hc, if_neg (by omega), show 256 * t + (o + i.val + j) - p = 256 * t + i.val + j - (J - 1) by omega]
end

/-- A point's blocks of the results. -/
def Ends (t : ℕ) (d12 : Vec Ideal S256x1024 .bf16) (d13 d14 : Vec Ideal S256x1024 .f32) (d15 : Vec Ideal S256x1 .f32) (d16 : Vec Ideal S256x1024 .bf16) : Prop :=
  (∀ i k, d12 (ix2 i k) = r12 G (256 * t + i.val) k.val) ∧ (∀ i k, d13 (ix2 i k) = c3 G (256 * t + i.val) k.val)
    ∧ (∀ i k, d14 (ix2 i k) = r14 G (256 * t + i.val) k.val) ∧ (∀ i, d15 (ix2 i 0) = r15 G (256 * t + i.val)) ∧ ∀ i k, d16 (ix2 i k) = r16 G (256 * t + i.val) k.val

section
variable {sig : RefSig} {κ : Kind} {sp : Space} {G} {t : ℕ} {i : grid0.Coords} {x1 : Vec Ideal S256x1024 .bf16} {x2 : Vec Ideal S256x1024 .bf16} {x3 : Vec Ideal S256x1024 .bf16} {x4 : Vec Ideal S256x1024 .bf16} {x5 : Vec Ideal S256x1024 .bf16} {x6 : Vec Ideal S16x1024 .bf16} {x7 : Vec Ideal S16x1024 .bf16} {x8 : Vec Ideal S32x1024 .bf16} {x9 : Vec Ideal S32x1024 .bf16} {x10 : Vec Ideal S8x1024 .f32} {x11 : Vec Ideal S32x1024 .f32}
  {v12 : View sig κ sp S8x1024 .f32} {f12 : v12.ty.Contents (Elt Ideal)} {v13 : View sig κ sp S256x1024 .bf16} {f13 : v13.ty.Contents (Elt Ideal)}
  {v14 : View sig κ sp S256x1024 .f32} {f14 : v14.ty.Contents (Elt Ideal)} {v15 : View sig κ sp S256x1024 .f32} {f15 : v15.ty.Contents (Elt Ideal)}
  {v16 : View sig κ sp S256x1 .f32} {f16 : v16.ty.Contents (Elt Ideal)} {v17 : View sig κ sp S256x1024 .bf16} {f17 : v17.ty.Contents (Elt Ideal)}
  {v18 : View sig κ sp S272x1024 .f32} {f18 : v18.ty.Contents (Elt Ideal)} {v19 : View sig κ sp S288x1024 .f32} {f19 : v19.ty.Contents (Elt Ideal)}
  {v20 : View sig κ sp S256x1024 .f32} {f20 : v20.ty.Contents (Elt Ideal)} {L1 L2 : List (View.Piece (Elt Ideal) S256x1024 .f32)}

theorem row_at (hv : v12.read (Elt Ideal) f12 = G.VS) {r : ℕ} {inb} (k : Fin 1024) :
    (v12.readAt (Elt Ideal) (Rect.unit (s := S8x1024) ![r, 0] S1x1024.size inb).toLoadRect f12) (ix2 0 k) = vec G r k.val := by
  have h := nat2_block (p := 1) (r := 1024) v12 f12 inb (i := 0) (by omega) k.isLt
  rw [nat2_of _ (by omega : 0 < 1) k.isLt, Nat.zero_add, Nat.add_zero, hv] at h
  exact h

theorem values (ht : t < 32) (hi : (i 0).val = t) (h : At G t x1 x2 x3 x4 x5 x6 x7 x8 x9 x10 x11 (v12.read (Elt Ideal) f12))
    {n : ℕ} (hn : 8 ≤ n) (H1 : Filled (H := 256) v14 f14 14 3 x10 (v18.read (Elt Ideal) (v18.writes (Elt Ideal) f18 [⟨Rect.unit ![16, 0] S256x1024.size inb_S272x1024_S256x1024_16_0, k0_pay62 x2 x3⟩, ⟨Rect.unit ![0, 0] S16x1024.size inb_S272x1024_S16x1024_0_0, k0_pay61 i x6 x7⟩])) n L1)
    (H2 : Filled (H := 256) v20 f20 2 31 x11 (v19.read (Elt Ideal) (v19.writes (Elt Ideal) f19 [⟨Rect.unit ![32, 0] S256x1024.size inb_S288x1024_S256x1024_32_0, k0_pay66 x4 x5⟩, ⟨Rect.unit ![0, 0] S32x1024.size inb_S288x1024_S32x1024_0_0, k0_pay65 (Scalar.cmpi .eq (BitVec.ofNat 32 (i 0).val) 0#32) (k0_pay63 (F := Ideal) x8) (k0_pay64 x9)⟩])) n L2) :
    Ends G t (v13.read (Elt Ideal) (v13.writes (Elt Ideal) f13 [⟨Rect.unit ![0, 0] S256x1024.size inb_S256x1024_S256x1024_0_0, k0_pay68 x1 (v14.readAt (Elt Ideal) (Rect.unit ![0, 0] S256x1024.size inb_S256x1024_S256x1024_0_0).toLoadRect (v14.writes (Elt Ideal) f14 L1))⟩]))
      (v14.read (Elt Ideal) (v14.writes (Elt Ideal) f14 L1))
      (v15.read (Elt Ideal) (v15.writes (Elt Ideal) f15 [⟨Rect.unit ![0, 0] S256x1024.size inb_S256x1024_S256x1024_0_0, k0_pay71 (v20.readAt (Elt Ideal) (Rect.unit ![0, 0] S256x1024.size inb_S256x1024_S256x1024_0_0).toLoadRect (v20.writes (Elt Ideal) f20 L2)) (v12.readAt (Elt Ideal) (Rect.unit (s := S8x1024) ![0, 0] S1x1024.size inb_S8x1024_S1x1024_0_0).toLoadRect f12)⟩]))
      (v16.read (Elt Ideal) (v16.writes (Elt Ideal) f16 [⟨Rect.unit ![0, 0] S256x1.size inb_S256x1_S256x1_0_0, k0_pay70 (v20.readAt (Elt Ideal) (Rect.unit ![0, 0] S256x1024.size inb_S256x1024_S256x1024_0_0).toLoadRect (v20.writes (Elt Ideal) f20 L2)) (v12.readAt (Elt Ideal) (Rect.unit (s := S8x1024) ![0, 0] S1x1024.size inb_S8x1024_S1x1024_0_0).toLoadRect f12)⟩]))
      (v17.read (Elt Ideal) (v17.writes (Elt Ideal) f17 [⟨Rect.unit ![0, 0] S256x1024.size inb_S256x1024_S256x1024_0_0, k0_pay72 (v20.readAt (Elt Ideal) (Rect.unit ![0, 0] S256x1024.size inb_S256x1024_S256x1024_0_0).toLoadRect (v20.writes (Elt Ideal) f20 L2)) (v12.readAt (Elt Ideal) (Rect.unit (s := S8x1024) ![0, 0] S1x1024.size inb_S8x1024_S1x1024_0_0).toLoadRect f12)
        (v12.readAt (Elt Ideal) (Rect.unit (s := S8x1024) ![1, 0] S1x1024.size inb_S8x1024_S1x1024_1_0).toLoadRect f12) (v12.readAt (Elt Ideal) (Rect.unit (s := S8x1024) ![2, 0] S1x1024.size inb_S8x1024_S1x1024_2_0).toLoadRect f12)⟩])) := by
  have e1 := H1.conv hn (t := t) (p := 16) rfl fun col hc => stacked (by omega) hc v18 f18 _ _ _ _ (U3 G col)
    (fun r => by
      refine (pay61_at i (by omega) x6 x7 r ⟨col, hc⟩).trans ?_
      rw [hi]
      by_cases h0 : t = 0
      · rw [if_pos h0, if_pos h0]
      · rw [if_neg h0, if_neg h0, h.h6 h0, h.h7 h0]; rfl)
    (fun r => (pay62_at x2 x3 r ⟨col, hc⟩).trans (by rw [h.h2, h.h3]; rfl))
  have e2 := H2.conv hn (t := t) (p := 32) rfl fun col hc => stacked (by omega) hc v19 f19 _ _ _ _ (U31 G col)
    (fun r => by
      refine (pay65_at (i 0).val (by omega) x8 x9 r ⟨col, hc⟩).trans ?_
      rw [hi]
      by_cases h0 : t = 0
      · rw [if_pos h0, if_pos h0]
      · rw [if_neg h0, if_neg h0, h.h8 h0, h.h9 h0]; rfl)
    (fun r => (pay66_at x4 x5 r ⟨col, hc⟩).trans (by rw [h.h4, h.h5]; rfl))
  rw [h.h10] at e1
  rw [h.h11] at e2
  have ez : ∀ j : Fin 256, ∀ k : Fin 1024, (v20.readAt (Elt Ideal) (Rect.unit ![0, 0] S256x1024.size inb_S256x1024_S256x1024_0_0).toLoadRect (v20.writes (Elt Ideal) f20 L2)) (ix2 j k)
      + (v12.readAt (Elt Ideal) (Rect.unit (s := S8x1024) ![0, 0] S1x1024.size inb_S8x1024_S1x1024_0_0).toLoadRect f12) (ix2 0 k) = zn G (256 * t + j.val) k.val := fun j k => by
    rw [row_at h.h12, View.readAt_full, e2 j k]
    rfl
  refine ⟨fun j k => ?_, e1, fun j k => ?_, fun j => ?_, fun j k => ?_⟩
  · refine (congrFun (read_whole v13 f13 _ _) _).trans ((pay68_at x1 _ j k).trans ?_)
    rw [View.readAt_full, e1 j k, h.h1]
    rfl
  · exact (congrFun (read_whole v15 f15 _ _) _).trans (pay71_at _ _ j k (ez j))
  · exact (congrFun (read_whole v16 f16 _ _) _).trans (pay70_at _ _ j (ez j))
  · refine (congrFun (read_whole v17 f17 _ _) _).trans ((pay72_at _ _ _ _ j k (ez j)).trans ?_)
    rw [row_at h.h12, row_at h.h12]
    rfl
end

end Cert.KMixerIdeal.Val
-- ==== Proof.Mixer.Point.lean ====
/- The body's five results at a point. -/
module

public import proofs.«01_k».proof.Proof.Gen.KMixerIdeal.Frame
public import proofs.«01_k».proof.Proof.Mixer.Vals
public import proofs.«01_k».proof.Proof.Mixer.Data

@[expose] public section

set_option maxRecDepth 65536

noncomputable section

namespace Cert.KMixerIdeal.Val

open Idealize.ShloMosaic Idealize.ShloMosaic.TcCoe
open Cert.KMixerIdeal.Gen
open scoped BigOperators
open Cert.KMixerIdeal.Body (Leaves run)

set_option maxHeartbeats 4000000 in
theorem leaves (G : Arrs) {t : ℕ} (ht : t < 32) (c : Dev nD) (i : grid0.Coords) (hi : (i 0).val = t) (x1 : Vec Ideal S256x1024 .bf16) (x2 : Vec Ideal S256x1024 .bf16) (x3 : Vec Ideal S256x1024 .bf16) (x4 : Vec Ideal S256x1024 .bf16) (x5 : Vec Ideal S256x1024 .bf16) (x6 : Vec Ideal S16x1024 .bf16) (x7 : Vec Ideal S16x1024 .bf16) (x8 : Vec Ideal S32x1024 .bf16) (x9 : Vec Ideal S32x1024 .bf16) (x10 : Vec Ideal S8x1024 .f32) (x11 : Vec Ideal S32x1024 .f32) (x12 : Vec Ideal S8x1024 .f32) (h : At G t x1 x2 x3 x4 x5 x6 x7 x8 x9 x10 x11 x12) :
    Leaves c i x1 x2 x3 x4 x5 x6 x7 x8 x9 x10 x11 x12 (Ends G t) := by
  unfold Leaves
  intro arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f3 f4 f5 f6 f7 f8 f9 f10 f11 f12 f13 f14 f15 f16 f17 f18 f19 f20 f21 e1 e2 e3 e4 e5 e6 e7 e8 e9 e10 e11 e12
  subst e1 e2 e3 e4 e5 e6 e7 e8 e9 e10 e11 e12
  unfold run
  dsimp only
  have hn : 8 ≤ Scf.trips k0_t1_loop.lb k0_t1_loop.ub k0_t1_loop.st := by decide
  refine values ht hi ?_ hn (loop_upto Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ _ _ _ _ _ _ (by decide)).1 (loop_upto Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ _ _ _ _ _ _ (by decide)).2
  convert h using 1 <;> exact View.readAt_full _ _ _

end Cert.KMixerIdeal.Val
-- ==== Proof.Mixer.Exact.lean ====
/- The launch of the mixer's call with its five results at their values. -/
module

public import proofs.«01_k».proof.Proof.Gen.KMixerIdeal.Frame
public import proofs.«01_k».proof.Proof.Mixer.Point
public import proofs.«01_k».proof.Proof.Mixer.Frame

@[expose] public section

set_option maxRecDepth 65536

noncomputable section

namespace Cert.KMixerIdeal.Val

open Idealize.ShloMosaic Idealize.ShloMosaic.TcCoe
open Cert.KMixerIdeal.Gen
open scoped BigOperators
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Cfg Window BodyObligation cellOf)
open Cert.KMixerIdeal.Body (Outs dats core defs₀_row Leaves)
open Cert.KConvIdeal.Val (nat2 nat2_of)

local notation "𝕄" => MT nD τ sig Unit (Elt Ideal) ℕ (UR sig nD τ) ℕ

variable (m : (ℓ : Loc nD τ sig) → Buf (Elt Ideal) ℓ) (ρ : Dev nD → PrngReg)

/-- The arrays the call reads. -/
def arrs (c : Dev nD) : Arrs where
  W3 := V m c main_v11
  W31 := V m c main_v12
  VS := V m c main_v9
  P := V m c main_v10

theorem idx : ∀ t : Fin cfg0.N, win0_0.index t = ![t.val, 0] ∧ win0_1.index t = ![t.val, 1] ∧ win0_2.index t = ![t.val, 2] ∧ win0_3.index t = ![t.val, 3] ∧ win0_4.index t = ![t.val, 4] ∧ win0_9.index t = ![0, 0] ∧ win0_10.index t = ![0, 0] ∧ win0_11.index t = ![0, 0] ∧ win0_12.index t = ![t.val, 0] ∧ win0_13.index t = ![t.val, 0] ∧ win0_14.index t = ![t.val, 0] ∧ win0_15.index t = ![t.val, 0] ∧ win0_16.index t = ![t.val, 0] :=
  (by decide +kernel : ∀ t : Fin grid0.N, _)

theorem idx_back : ∀ t : Fin cfg0.N, t.val ≠ 0 → win0_5.index t = ![16 * t.val - 1, 1] ∧ win0_6.index t = ![16 * t.val - 1, 2] ∧ win0_7.index t = ![8 * t.val - 1, 3] ∧ win0_8.index t = ![8 * t.val - 1, 4] :=
  (by decide +kernel : ∀ t : Fin grid0.N, t.val ≠ 0 → _)

theorem lt32 (t : Fin cfg0.N) : t.val < 32 := (t.cast N_0).isLt

/-- Each block is rows of its array. -/
theorem at_point (c : Dev nD) (t : Fin cfg0.N) : At (arrs m c) t.val (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) where
  h1 i k := (by blk_point [iblk, idx t] : (iblk m c 0 t : Vec Ideal S256x1024 _) (ix2 i k) = V m c main_v10 (ix2 ⟨256 * t.val + i.val, by have := lt32 t; omega⟩ ⟨k.val, by omega⟩)).trans (nat2_of _ _ _).symm
  h2 i k := (by blk_point [iblk, idx t] : (iblk m c 1 t : Vec Ideal S256x1024 _) (ix2 i k) = V m c main_v10 (ix2 ⟨256 * t.val + i.val, by have := lt32 t; omega⟩ ⟨1024 + k.val, by omega⟩)).trans (nat2_of _ _ _).symm
  h3 i k := (by blk_point [iblk, idx t] : (iblk m c 2 t : Vec Ideal S256x1024 _) (ix2 i k) = V m c main_v10 (ix2 ⟨256 * t.val + i.val, by have := lt32 t; omega⟩ ⟨2048 + k.val, by omega⟩)).trans (nat2_of _ _ _).symm
  h4 i k := (by blk_point [iblk, idx t] : (iblk m c 3 t : Vec Ideal S256x1024 _) (ix2 i k) = V m c main_v10 (ix2 ⟨256 * t.val + i.val, by have := lt32 t; omega⟩ ⟨3072 + k.val, by omega⟩)).trans (nat2_of _ _ _).symm
  h5 i k := (by blk_point [iblk, idx t] : (iblk m c 4 t : Vec Ideal S256x1024 _) (ix2 i k) = V m c main_v10 (ix2 ⟨256 * t.val + i.val, by have := lt32 t; omega⟩ ⟨4096 + k.val, by omega⟩)).trans (nat2_of _ _ _).symm
  h6 h0 i k := (by blk_point [iblk, idx_back t h0] : (iblk m c 5 t : Vec Ideal S16x1024 _) (ix2 i k) = V m c main_v10 (ix2 ⟨256 * t.val + i.val - 16, by have := lt32 t; omega⟩ ⟨1024 + k.val, by omega⟩)).trans (nat2_of _ _ _).symm
  h7 h0 i k := (by blk_point [iblk, idx_back t h0] : (iblk m c 6 t : Vec Ideal S16x1024 _) (ix2 i k) = V m c main_v10 (ix2 ⟨256 * t.val + i.val - 16, by have := lt32 t; omega⟩ ⟨2048 + k.val, by omega⟩)).trans (nat2_of _ _ _).symm
  h8 h0 i k := (by blk_point [iblk, idx_back t h0] : (iblk m c 7 t : Vec Ideal S32x1024 _) (ix2 i k) = V m c main_v10 (ix2 ⟨256 * t.val + i.val - 32, by have := lt32 t; omega⟩ ⟨3072 + k.val, by omega⟩)).trans (nat2_of _ _ _).symm
  h9 h0 i k := (by blk_point [iblk, idx_back t h0] : (iblk m c 8 t : Vec Ideal S32x1024 _) (ix2 i k) = V m c main_v10 (ix2 ⟨256 * t.val + i.val - 32, by have := lt32 t; omega⟩ ⟨4096 + k.val, by omega⟩)).trans (nat2_of _ _ _).symm
  h10 := by funext i; blk_point [iblk, idx t, arrs]
  h11 := by funext i; blk_point [iblk, idx t, arrs]
  h12 := by funext i; blk_point [iblk, idx t, arrs]

theorem coord : ∀ t : Fin cfg0.N, (grid0.coords t 0).val = t.val := (by decide +kernel : ∀ t : Fin grid0.N, _)

/-- The blocks of the results. -/
def rows : Outs Ideal where
  o12 c t := fun y => r12 (arrs m c) (256 * t.val + (y 0).val) (y 1).val
  o13 c t := fun y => c3 (arrs m c) (256 * t.val + (y 0).val) (y 1).val
  o14 c t := fun y => r14 (arrs m c) (256 * t.val + (y 0).val) (y 1).val
  o15 c t := fun y => r15 (arrs m c) (256 * t.val + (y 0).val)
  o16 c t := fun y => r16 (arrs m c) (256 * t.val + (y 0).val) (y 1).val

/-- Proof data that names the results. -/
def sure (p : Fin 1) (c : Dev nD) : Dat τ (Elt Ideal) Unit ℕ (UR sig nD τ) ℕ cfg0 c := dats m (rows m) p c

theorem sure_body (c : Dev nD) : Pipeline.BodyObligationLoose (sure m 0 c) defs₀ Variants.none () Set.univ := fun t => by
  rw [bigSep_W0, bigSep_W0, defs₀_row]
  refine triple_restated (core m (rows m) c t _ (leaves (arrs m c) (lt32 t) c _ (coord t) _ _ _ _ _ _ _ _ _ _ _ _ (at_point m c t)) iprop((∃ d, owns (c : Thread nD τ) (win0_12.stage (cfg0.slots t 12)) fullShare ((sure m 0 c).before 12 t d)) ∗ (∃ d, owns (c : Thread nD τ) (win0_13.stage (cfg0.slots t 13)) fullShare ((sure m 0 c).before 13 t d)) ∗ (∃ d, owns (c : Thread nD τ) (win0_14.stage (cfg0.slots t 14)) fullShare ((sure m 0 c).before 14 t d)) ∗ (∃ d, owns (c : Thread nD τ) (win0_15.stage (cfg0.slots t 15)) fullShare ((sure m 0 c).before 15 t d)) ∗ (∃ d, owns (c : Thread nD τ) (win0_16.stage (cfg0.slots t 16)) fullShare ((sure m 0 c).before 16 t d))) iprop(owns (c : Thread nD τ) (win0_12.stage (cfg0.slots t 12)) fullShare ((sure m 0 c).after 12 t) ∗ owns (c : Thread nD τ) (win0_13.stage (cfg0.slots t 13)) fullShare ((sure m 0 c).after 13 t) ∗ owns (c : Thread nD τ) (win0_14.stage (cfg0.slots t 14)) fullShare ((sure m 0 c).after 14 t) ∗ owns (c : Thread nD τ) (win0_15.stage (cfg0.slots t 15)) fullShare ((sure m 0 c).after 15 t) ∗ owns (c : Thread nD τ) (win0_16.stage (cfg0.slots t 16)) fullShare ((sure m 0 c).after 16 t)) ?_ ?_) rfl .rfl fun _ => .rfl
  · iintro ⟨⟨%d12, H12⟩, ⟨%d13, H13⟩, ⟨%d14, H14⟩, ⟨%d15, H15⟩, ⟨%d16, H16⟩⟩
    isplitl [H12]; · iexists _; iexact H12
    isplitl [H13]; · iexists _; iexact H13
    isplitl [H14]; · iexists _; iexact H14
    isplitl [H15]; · iexists _; iexact H15
    iexists _; iexact H16
  · iintro ⟨%d12, %d13, %d14, %d15, %d16, %h, H12, H13, H14, H15, H16⟩
    have q12 : d12 = (rows m).o12 c t := funext fun y => (congrArg d12 (eq_ix2 y)).trans (h.1 (y 0) (y 1))
    have q13 : d13 = (rows m).o13 c t := funext fun y => (congrArg d13 (eq_ix2 y)).trans (h.2.1 (y 0) (y 1))
    have q14 : d14 = (rows m).o14 c t := funext fun y => (congrArg d14 (eq_ix2 y)).trans (h.2.2.1 (y 0) (y 1))
    have q15 : d15 = (rows m).o15 c t := funext fun y => (congrArg d15 ((eq_ix2 y).trans (congrArg (ix2 (y 0)) (Subsingleton.elim (α := Fin 1) (y 1) 0)))).trans (h.2.2.2.1 (y 0))
    have q16 : d16 = (rows m).o16 c t := funext fun y => (congrArg d16 (eq_ix2 y)).trans (h.2.2.2.2 (y 0) (y 1))
    subst q12 q13 q14 q15 q16
    isplitl [H12]; · iexact H12
    isplitl [H13]; · iexact H13
    isplitl [H14]; · iexact H14
    isplitl [H15]; · iexact H15
    iexact H16

set_option backward.isDefEq.respectTransparency.types false in
set_option maxHeartbeats 800000 in
/-- The launch. -/
theorem run_sure : θ_run defs (onTc (τ := τ) (main (F := Ideal))) (s₀ m ρ) (Pipeline.FramePost cfgs (sure m) (0 : Fin 1) (V m)) :=
  Pipeline.θ_run_frame_track_shared cfgs (sure m) (0 : Fin 1) launch₀0 defs₀ Variants.none m ρ main
    (hbody := sure_body m) (hq := fun _ _ _ => rfl) (howed := fun _ _ => rfl) (V := V m) (hmain := hmain m Variants.none)
    (hA := fun _ _ => rfl) (hin := fun _ => .rfl) (hout := fun _ => .rfl)

theorem final12 (c : Dev nD) : (sure m 0 c).arrAt 12 cfg0.N = fun y => r12 (arrs m c) (y 0).val (y 1).val := by
  refine (sure m 0 c).arrAt_eq_of_covers 12 _ (by decide +kernel) fun t _ y => ?_
  change r12 (arrs m c) (256 * t.val + (y 0).val) (y 1).val = _
  rw [Nat.mul_comm 256]
  blk_simp [idx t]

theorem final13 (c : Dev nD) : (sure m 0 c).arrAt 13 cfg0.N = fun y => c3 (arrs m c) (y 0).val (y 1).val := by
  refine (sure m 0 c).arrAt_eq_of_covers 13 _ (by decide +kernel) fun t _ y => ?_
  change c3 (arrs m c) (256 * t.val + (y 0).val) (y 1).val = _
  rw [Nat.mul_comm 256]
  blk_simp [idx t]

theorem final14 (c : Dev nD) : (sure m 0 c).arrAt 14 cfg0.N = fun y => r14 (arrs m c) (y 0).val (y 1).val := by
  refine (sure m 0 c).arrAt_eq_of_covers 14 _ (by decide +kernel) fun t _ y => ?_
  change r14 (arrs m c) (256 * t.val + (y 0).val) (y 1).val = _
  rw [Nat.mul_comm 256]
  blk_simp [idx t]

theorem final15 (c : Dev nD) : (sure m 0 c).arrAt 15 cfg0.N = fun y => r15 (arrs m c) (y 0).val := by
  refine (sure m 0 c).arrAt_eq_of_covers 15 _ (by decide +kernel) fun t _ y => ?_
  change r15 (arrs m c) (256 * t.val + (y 0).val) = _
  rw [Nat.mul_comm 256]
  blk_simp [idx t]

theorem final16 (c : Dev nD) : (sure m 0 c).arrAt 16 cfg0.N = fun y => r16 (arrs m c) (y 0).val (y 1).val := by
  refine (sure m 0 c).arrAt_eq_of_covers 16 _ (by decide +kernel) fun t _ y => ?_
  change r16 (arrs m c) (256 * t.val + (y 0).val) (y 1).val = _
  rw [Nat.mul_comm 256]
  blk_simp [idx t]

/-- The five results and the arguments of every run. -/
theorem finals : θ_run defs (onTc (τ := τ) (main (F := Ideal))) ⟨m, fun _ => 0, ρ⟩ (fun r => ∀ c : Dev nD,
      r.2.mem ((c.tc : Thread nD τ).loc main_v13_0) = (fun y => r12 (arrs m c) (y 0).val (y 1).val) ∧ r.2.mem ((c.tc : Thread nD τ).loc main_v13_1) = (fun y => c3 (arrs m c) (y 0).val (y 1).val) ∧ r.2.mem ((c.tc : Thread nD τ).loc main_v13_2) = (fun y => r14 (arrs m c) (y 0).val (y 1).val) ∧ r.2.mem ((c.tc : Thread nD τ).loc main_v13_3) = (fun y => r15 (arrs m c) (y 0).val) ∧ r.2.mem ((c.tc : Thread nD τ).loc main_v13_4) = (fun y => r16 (arrs m c) (y 0).val (y 1).val)
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) :=
  (θ_run defs _ _).mono (fun r h c => ⟨((h c).1 12).trans (final12 m c), ((h c).1 13).trans (final13 m c), ((h c).1 14).trans (final14 m c), ((h c).1 15).trans (final15 m c), ((h c).1 16).trans (final16 m c), ((h c).2 main_arg0 (Pipeline.mem_restRefs_of main_arg0 (by decide) (by decide))).trans (V_main_arg0 m c), ((h c).2 main_arg1 (Pipeline.mem_restRefs_of main_arg1 (by decide) (by decide))).trans (V_main_arg1 m c), ((h c).2 main_arg2 (Pipeline.mem_restRefs_of main_arg2 (by decide) (by decide))).trans (V_main_arg2 m c), ((h c).2 main_arg3 (Pipeline.mem_restRefs_of main_arg3 (by decide) (by decide))).trans (V_main_arg3 m c), ((h c).2 main_arg4 (Pipeline.mem_restRefs_of main_arg4 (by decide) (by decide))).trans (V_main_arg4 m c), ((h c).2 main_arg5 (Pipeline.mem_restRefs_of main_arg5 (by decide) (by decide))).trans (V_main_arg5 m c)⟩) (run_sure m ρ)

end Cert.KMixerIdeal.Val
-- ==== Proof.Mixer.Ref.lean ====
/- The reference of the mixer's call at an index: the zero-one arrays pick rows, the sums over the taps are the kernel's. -/
module

public import proofs.«01_k».proof.Proof.Mixer.Vals
public import proofs.«01_k».proof.Proof.Conv.Ref
public import proofs.«01_k».proof.Proof.Gen.RMixerIdeal.Run
public import proofs.«01_k».proof.Proof.Gen.RMixerIdeal.Read

@[expose] public section

set_option maxRecDepth 16384

noncomputable section

namespace Cert.RMixerIdeal.Val

open Idealize.ShloMosaic Idealize.ShloMosaic.TcCoe
open Cert.RMixerIdeal Cert.RMixerIdeal.Gen Cert.RMixerIdeal.Read
open Cert.KMixerIdeal.Val
open Cert.KConvIdeal.Val (nat2_of)
open Cert.RConvIdeal.Val (picked)
open scoped BigOperators

variable (x0 : (⟨S8192x7168, .f32⟩ : BufTy).Contents (Elt Ideal)) (x1 : (⟨S3x1024, .f32⟩ : BufTy).Contents (Elt Ideal))
  (x2 : (⟨S31x1024, .f32⟩ : BufTy).Contents (Elt Ideal)) (x3 x4 x5 : (⟨S1024, .f32⟩ : BufTy).Contents (Elt Ideal))

theorem pick3 (t : Fin 8192) (j : Fin 3) (s : Fin 8192) :
    val_main_v15 (F := Ideal) (ix3 t j s) = if s.val + (3 - 1) = t.val + j.val then (1 : EReal) else 0 :=
  picked 2 s.val t.val j.val (by omega) s.isLt t.isLt (by omega)

theorem pick31 (t : Fin 8192) (j : Fin 31) (s : Fin 8192) :
    val_main_v35 (F := Ideal) (ix3 t j s) = if s.val + (31 - 1) = t.val + j.val then (1 : EReal) else 0 :=
  picked 30 s.val t.val j.val (by omega) s.isLt t.isLt (by omega)

/-- A sum with a zero-one array picks a row, or nothing before the first row. -/
theorem picks (J : ℕ) {t j : ℕ} (ht : t < 8192) (hj : j < J) (U : ℕ → EReal) (X : Fin 8192 → EReal) (hX : ∀ s, X s = U s.val) :
    ∑ s : Fin 8192, (if s.val + (J - 1) = t + j then (1 : EReal) else 0) * X s = if t + j < J - 1 then 0 else U (t + j - (J - 1)) := by
  by_cases h : t + j < J - 1
  · rw [if_pos h]
    refine Finset.sum_eq_zero fun s _ => ?_
    rw [if_neg (by omega), zero_mul]
  · have hl : t + j - (J - 1) < 8192 := by omega
    rw [if_neg h, Finset.sum_eq_single (⟨t + j - (J - 1), hl⟩ : Fin 8192)]
    · rw [if_pos (by show t + j - (J - 1) + (J - 1) = t + j; omega), one_mul, hX]
    · intro s _ hs
      rw [if_neg fun q => hs (Fin.ext (by show s.val = t + j - (J - 1); omega)), zero_mul]
    · exact fun q => absurd (Finset.mem_univ _) q

/-- The kernel's arrays hold the reference's arguments. -/
structure Is (G : Arrs) : Prop where
  p : (G.P : S8192x7168.Idx → EReal) = x0
  w3 : ∀ (j : Fin 3) (col : Fin 1024), Cert.KConvIdeal.Val.nat2 (a := 8) (b := 1024) G.W3 j.val col.val = x1 (ix2 j col)
  w31 : ∀ (j : Fin 31) (col : Fin 1024), Cert.KConvIdeal.Val.nat2 (a := 32) (b := 1024) G.W31 j.val col.val = x2 (ix2 j col)
  b : ∀ k : Fin 1024, vec G 0 k.val = x3 (ix1 k)
  g : ∀ k : Fin 1024, vec G 1 k.val = x4 (ix1 k)
  d : ∀ k : Fin 1024, vec G 2 k.val = x5 (ix1 k)

variable {x0 x1 x2 x3 x4 x5} {G : Arrs} (h : Is x0 x1 x2 x3 x4 x5 G)
include h

theorem pn_at (n : Fin 8192) {k : ℕ} (hk : k < 7168) : pn G n.val k = x0 (ix2 n ⟨k, hk⟩) :=
  (nat2_of _ n.isLt hk).trans (congrFun h.p _)

theorem u3_at (s : Fin 8192) (col : Fin 1024) : val_main_v7 (F := Ideal) x0 (ix2 s col) = U3 G col.val s.val := by
  unfold U3
  rw [pn_at h s (by omega), pn_at h s (by omega)]
  pointwise [val_main_v7, val_main_v1, val_main_v2]

theorem u31_at (s : Fin 8192) (col : Fin 1024) : val_main_v27 (F := Ideal) x0 (ix2 s col) = U31 G col.val s.val := by
  unfold U31
  rw [pn_at h s (by omega), pn_at h s (by omega)]
  have e : val_main_v26 (F := Ideal) x0 (ix2 s col) = Ideal.div (Ideal.ofBits .f32 0x3F800000#32)
      (Ideal.ofBits .f32 0x3F800000#32 + Ideal.exp (-x0 (ix2 s ⟨4096 + col.val, by omega⟩))) := by
    pointwise [val_main_v26, val_main_v25, val_main_v24, val_main_v23, val_main_v22, val_main_v21, val_main_v4, val_main_cst_2, val_main_cst_3]
  rw [← Cert.Norm.sigmoid_eq] at e
  refine Eq.trans (b := x0 (ix2 s ⟨3072 + col.val, by omega⟩) * val_main_v26 (F := Ideal) x0 (ix2 s col)) ?_ (congrArg (_ * ·) e)
  pointwise [val_main_v27, val_main_v3]

theorem c3_at (n : Fin 8192) (col : Fin 1024) : val_main_v20 (F := Ideal) x0 x1 (ix2 n col) = c3 G n.val col.val := by
  have h1 : val_main_v20 (F := Ideal) x0 x1 (ix2 n col) = Ideal.ofBits .f32 0x00000000#32 + ∑ j : Fin 3, val_main_v19 (F := Ideal) x0 x1 (ix3 n j col) := by
    pointwise [val_main_v20, val_main_cst_1]
  rw [h1, zero_word, zero_add]
  unfold c3 conv
  rw [Finset.sum_range]
  refine Finset.sum_congr rfl fun j _ => ?_
  have h2 : val_main_v19 (F := Ideal) x0 x1 (ix3 n j col) = x1 (ix2 j col) * val_main_v17 (F := Ideal) x0 (ix3 n j col) := by
    pointwise [val_main_v19, val_main_v18, val_main_v16]
  have h3 : val_main_v17 (F := Ideal) x0 (ix3 n j col) = ∑ s : Fin 8192, val_main_v15 (F := Ideal) (ix3 n j s) * val_main_v7 (F := Ideal) x0 (ix2 s col) := by
    pointwise [val_main_v17]
  rw [h2, h3, ← h.w3 j col]
  refine congrArg (_ * ·) (Eq.trans (Finset.sum_congr rfl fun s _ => congrArg (· * _) (pick3 n j s)) ?_)
  exact picks 3 n.isLt j.isLt (U3 G col.val) _ fun s => u3_at h s col

theorem c31_at (n : Fin 8192) (col : Fin 1024) : val_main_v40 (F := Ideal) x0 x2 (ix2 n col) = c31 G n.val col.val := by
  have h1 : val_main_v40 (F := Ideal) x0 x2 (ix2 n col) = Ideal.ofBits .f32 0x00000000#32 + ∑ j : Fin 31, val_main_v39 (F := Ideal) x0 x2 (ix3 n j col) := by
    pointwise [val_main_v40, val_main_cst_7]
  rw [h1, zero_word, zero_add]
  unfold c31 conv
  rw [Finset.sum_range]
  refine Finset.sum_congr rfl fun j _ => ?_
  have h2 : val_main_v39 (F := Ideal) x0 x2 (ix3 n j col) = x2 (ix2 j col) * val_main_v37 (F := Ideal) x0 (ix3 n j col) := by
    pointwise [val_main_v39, val_main_v38, val_main_v36]
  have h3 : val_main_v37 (F := Ideal) x0 (ix3 n j col) = ∑ s : Fin 8192, val_main_v35 (F := Ideal) (ix3 n j s) * val_main_v27 (F := Ideal) x0 (ix2 s col) := by
    pointwise [val_main_v37]
  rw [h2, h3, ← h.w31 j col]
  refine congrArg (_ * ·) (Eq.trans (Finset.sum_congr rfl fun s _ => congrArg (· * _) (pick31 n j s)) ?_)
  exact picks 31 n.isLt j.isLt (U31 G col.val) _ fun s => u31_at h s col

theorem zn_at (n : Fin 8192) (k : Fin 1024) : val_main_v43 (F := Ideal) x0 x2 x3 (ix2 n k) = zn G n.val k.val := by
  unfold zn
  rw [← c31_at h, h.b k]
  pointwise [val_main_v43, val_main_v42, val_main_v41]

theorem mean_at (n : Fin 8192) : val_main_v47 (F := Ideal) x0 x2 x3 (ix2 n 0)
    = Ideal.div (∑ j : Fin 1024, zn G n.val j.val) (Ideal.ofBits .f32 0x44800000#32) := by
  have e : val_main_v44 (F := Ideal) x0 x2 x3 (ix1 n) = Ideal.ofBits .f32 0x00000000#32 + ∑ j : Fin 1024, val_main_v43 (F := Ideal) x0 x2 x3 (ix2 n j) := by
    pointwise [val_main_v44, val_main_cst_8]
  rw [zero_word, zero_add, Finset.sum_congr rfl fun j _ => zn_at h n j] at e
  rw [← e]
  pointwise [val_main_v47, val_main_v46, val_main_v45, val_main_cst_9]

theorem cen_at (n : Fin 8192) (k : Fin 1024) : val_main_v49 (F := Ideal) x0 x2 x3 (ix2 n k) = cen (zn G n.val) k.val := by
  unfold cen
  rw [← mean_at h, ← zn_at h]
  pointwise [val_main_v49, val_main_v48]

theorem rs_at (n : Fin 8192) : val_main_v57 (F := Ideal) x0 x2 x3 (ix2 n 0) = r15 G n.val := by
  have e : val_main_v51 (F := Ideal) x0 x2 x3 (ix1 n) = Ideal.ofBits .f32 0x00000000#32 + ∑ j : Fin 1024, val_main_v49 (F := Ideal) x0 x2 x3 (ix2 n j) * val_main_v49 (F := Ideal) x0 x2 x3 (ix2 n j) := by
    pointwise [val_main_v51, val_main_v50, val_main_cst_10]
  rw [zero_word, zero_add, Finset.sum_congr rfl fun j _ => congrArg₂ (· * ·) (cen_at h n j) (cen_at h n j)] at e
  unfold r15 rs
  rw [← e]
  pointwise [val_main_v57, val_main_v56, val_main_v55, val_main_v54, val_main_v53, val_main_v52, val_main_cst_11, val_main_cst_12]

theorem xh_at (n : Fin 8192) (k : Fin 1024) : val_main_v61 (F := Ideal) x0 x2 x3 (ix2 n k) = r14 G n.val k.val := by
  have e : val_main_v61 (F := Ideal) x0 x2 x3 (ix2 n k) = val_main_v49 (F := Ideal) x0 x2 x3 (ix2 n k) * val_main_v57 (F := Ideal) x0 x2 x3 (ix2 n 0) := by
    pointwise [val_main_v61, val_main_v60, val_main_v59, val_main_v58, val_main_v49, val_main_v48]
  rw [e, cen_at h, rs_at h]
  rfl

theorem first_at (n : Fin 8192) (k : Fin 1024) : val_main_v63 (F := Ideal) x0 x1 (ix2 n k) = r12 G n.val k.val := by
  unfold r12
  rw [← c3_at h, pn_at h n (by omega)]
  pointwise [val_main_v63, val_main_v62, val_main_v0]

theorem u2_at (n : Fin 8192) (k : Fin 1024) : val_main_v69 (F := Ideal) x0 x2 x3 x4 x5 (ix2 n k) = u2 G n.val k.val := by
  unfold u2
  rw [← xh_at h, h.g k, h.d k]
  pointwise [val_main_v69, val_main_v68, val_main_v67, val_main_v66, val_main_v65, val_main_v64]

theorem last_at (n : Fin 8192) (k : Fin 1024) : val_main_v71 (F := Ideal) x0 x2 x3 x4 x5 (ix2 n k) = r16 G n.val k.val := by
  have e : val_main_v71 (F := Ideal) x0 x2 x3 x4 x5 (ix2 n k) = val_main_v69 (F := Ideal) x0 x2 x3 x4 x5 (ix2 n k)
      * Ideal.div (Ideal.ofBits .f32 0x3F800000#32) (Ideal.ofBits .f32 0x3F800000#32 + Ideal.exp (-val_main_v69 (F := Ideal) x0 x2 x3 x4 x5 (ix2 n k))) := by
    pointwise [val_main_v71, val_main_v70, val_main_call2_v5, val_main_call2_v4, val_main_call2_v3, val_main_call2_v2, val_main_call2_v1, val_main_call2_v0, val_main_call2_cst, val_main_call2_cst_0]
  rw [e, ← Cert.Norm.sigmoid_eq, u2_at h]
  rfl

end Cert.RMixerIdeal.Val
-- ==== Proof.Mixer.Pair.lean ====
/- The pair of the call `_mixer_fwd`: its five results. -/
module

public import proofs.«01_k».proof.Proof.Mixer.Exact
public import proofs.«01_k».proof.Proof.Mixer.Ref
public import proofs.«01_k».proof.Defs
public import Idealize.ShloMosaic.Lib.Claim

@[expose] public section

set_option maxRecDepth 16384

noncomputable section

namespace Cert.KMixerIdeal.Val

open Idealize.ShloMosaic Idealize.ShloMosaic.TcCoe Idealize.SL.Sem
open Cert.KMixerIdeal Cert.KMixerIdeal.Gen
open Cert.KConvIdeal.Val (nat2_of)
open Cert.RMixerIdeal.Read (val_main_v63 val_main_v20 val_main_v61 val_main_v57 val_main_v71)

variable (m : (ℓ : Loc nD τ sig) → Buf (Elt Ideal) ℓ) (ρ : Dev nD → PrngReg)

theorem padded3 (x : FVec Ideal S3x1024 .f32) (z : FVec Ideal S_ .f32) (j : Fin 3) (col : Fin 1024) :
    pad S8x1024 ![0, 0] ![5, 0] ![0, 0] x z pads_S3x1024_S8x1024_050_000 h_S_ (ix2 ⟨j.val, by omega⟩ col) = x (ix2 j col) := by
  pointwise []

theorem padded31 (x : FVec Ideal S31x1024 .f32) (z : FVec Ideal S_ .f32) (j : Fin 31) (col : Fin 1024) :
    pad S32x1024 ![0, 0] ![1, 0] ![0, 0] x z pads_S31x1024_S32x1024_010_000 h_S_ (ix2 ⟨j.val, by omega⟩ col) = x (ix2 j col) := by
  pointwise []

/-- Eight rows, the first three of them the vectors. -/
def eight (b g d : FVec Ideal S1024 .f32) (z : FVec Ideal S1x1024 .f32) : FVec Ideal S8x1024 .f32 :=
  concatenate S8x1024 0 [⟨S1x1024, broadcastInDim S1x1024 ![1] bcast_S1024_S1x1024_1 b⟩, ⟨S1x1024, broadcastInDim S1x1024 ![1] bcast_S1024_S1x1024_1 g⟩,
    ⟨S1x1024, broadcastInDim S1x1024 ![1] bcast_S1024_S1x1024_1 d⟩, ⟨S1x1024, z⟩, ⟨S1x1024, z⟩, ⟨S1x1024, z⟩, ⟨S1x1024, z⟩, ⟨S1x1024, z⟩]
    concatenates_S1x1024_S1x1024_S1x1024_S1x1024_S1x1024_S1x1024_S1x1024_S1x1024_S8x1024_d0

theorem eight_0 (b g d : FVec Ideal S1024 .f32) (z : FVec Ideal S1x1024 .f32) (k : Fin 1024) : eight b g d z (ix2 0 k) = b (ix1 k) := by
  pointwise [eight]
theorem eight_1 (b g d : FVec Ideal S1024 .f32) (z : FVec Ideal S1x1024 .f32) (k : Fin 1024) : eight b g d z (ix2 1 k) = g (ix1 k) := by
  pointwise [eight]
theorem eight_2 (b g d : FVec Ideal S1024 .f32) (z : FVec Ideal S1x1024 .f32) (k : Fin 1024) : eight b g d z (ix2 2 k) = d (ix1 k) := by
  pointwise [eight]

theorem vecs (c : Dev nD) : ∃ z, V m c main_v9 = eight (m ((c : Thread nD τ).loc main_arg3)) (m ((c : Thread nD τ).loc main_arg4)) (m ((c : Thread nD τ).loc main_arg5)) z := by
  refine ⟨broadcastInDim S1x1024 ![1] bcast_S1024_S1x1024_1 (broadcastInDim S1024 ![] bcast_S_S1024 (constant S_ .f32 0x00000000#32)), ?_⟩
  entry_read
  rfl

theorem w3_is (c : Dev nD) : V m c main_v11 = pad S8x1024 ![0, 0] ![5, 0] ![0, 0] (m ((c : Thread nD τ).loc main_arg1)) (sitofp (F := Ideal) .f32 (constantI S_ 32 0#32))
    pads_S3x1024_S8x1024_050_000 h_S_ := by
  entry_read
  rfl

theorem w31_is (c : Dev nD) : V m c main_v12 = pad S32x1024 ![0, 0] ![1, 0] ![0, 0] (m ((c : Thread nD τ).loc main_arg2)) (sitofp (F := Ideal) .f32 (constantI S_ 32 0#32))
    pads_S31x1024_S32x1024_010_000 h_S_ := by
  entry_read
  rfl

/-- What the call finds in its arrays: the projection, the weights padded, the vectors as rows. -/
theorem arrs_is (c : Dev nD) : Cert.RMixerIdeal.Val.Is (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (arrs m c) where
  p := by
    show V m c main_v10 = _
    entry_read
    rfl
  w3 j col := ((nat2_of (a := 8) (b := 1024) _ (by omega) col.isLt).trans (congrFun (w3_is m c) _)).trans (padded3 _ _ j col)
  w31 j col := ((nat2_of (a := 32) (b := 1024) _ (by omega) col.isLt).trans (congrFun (w31_is m c) _)).trans (padded31 _ _ j col)
  b k := by
    obtain ⟨z, hz⟩ := vecs m c
    exact ((nat2_of (a := 8) (b := 1024) _ (by decide) k.isLt).trans (congrFun hz _)).trans (eight_0 _ _ _ z k)
  g k := by
    obtain ⟨z, hz⟩ := vecs m c
    exact ((nat2_of (a := 8) (b := 1024) _ (by decide) k.isLt).trans (congrFun hz _)).trans (eight_1 _ _ _ z k)
  d k := by
    obtain ⟨z, hz⟩ := vecs m c
    exact ((nat2_of (a := 8) (b := 1024) _ (by decide) k.isLt).trans (congrFun hz _)).trans (eight_2 _ _ _ z k)

theorem r12_value (c : Dev nD) : (fun y => r12 (arrs m c) (y 0).val (y 1).val : Vec Ideal S8192x1024 .bf16) = val_main_v63 (F := Ideal) (m ((c : Thread nD τ).loc main_arg0)) (m ((c : Thread nD τ).loc main_arg1)) := by
  funext y
  refine Eq.trans (Cert.RMixerIdeal.Val.first_at (arrs_is m c) (y 0) (y 1)).symm (congrArg _ (eq_ix2 y).symm)

theorem c3_value (c : Dev nD) : (fun y => c3 (arrs m c) (y 0).val (y 1).val : Vec Ideal S8192x1024 .f32) = val_main_v20 (F := Ideal) (m ((c : Thread nD τ).loc main_arg0)) (m ((c : Thread nD τ).loc main_arg1)) := by
  funext y
  refine Eq.trans (Cert.RMixerIdeal.Val.c3_at (arrs_is m c) (y 0) (y 1)).symm (congrArg _ (eq_ix2 y).symm)

theorem r14_value (c : Dev nD) : (fun y => r14 (arrs m c) (y 0).val (y 1).val : Vec Ideal S8192x1024 .f32) = val_main_v61 (F := Ideal) (m ((c : Thread nD τ).loc main_arg0)) (m ((c : Thread nD τ).loc main_arg2)) (m ((c : Thread nD τ).loc main_arg3)) := by
  funext y
  refine Eq.trans (Cert.RMixerIdeal.Val.xh_at (arrs_is m c) (y 0) (y 1)).symm (congrArg _ (eq_ix2 y).symm)

theorem r15_value (c : Dev nD) : (fun y => r15 (arrs m c) (y 0).val : Vec Ideal S8192x1 .f32) = val_main_v57 (F := Ideal) (m ((c : Thread nD τ).loc main_arg0)) (m ((c : Thread nD τ).loc main_arg2)) (m ((c : Thread nD τ).loc main_arg3)) := by
  funext y
  refine Eq.trans (Cert.RMixerIdeal.Val.rs_at (arrs_is m c) (y 0)).symm (congrArg _ ((congrArg (ix2 (y 0)) (Subsingleton.elim (α := Fin 1) 0 (y 1))).trans (eq_ix2 y).symm))

theorem r16_value (c : Dev nD) : (fun y => r16 (arrs m c) (y 0).val (y 1).val : Vec Ideal S8192x1024 .bf16) = val_main_v71 (F := Ideal) (m ((c : Thread nD τ).loc main_arg0)) (m ((c : Thread nD τ).loc main_arg2)) (m ((c : Thread nD τ).loc main_arg3)) (m ((c : Thread nD τ).loc main_arg4)) (m ((c : Thread nD τ).loc main_arg5)) := by
  funext y
  refine Eq.trans (Cert.RMixerIdeal.Val.last_at (arrs_is m c) (y 0) (y 1)).symm (congrArg _ (eq_ix2 y).symm)

theorem run : θ_run defs (onTc (τ := τ) (main (F := Ideal))) ⟨m, fun _ => 0, ρ⟩ (fun r => ∀ c : Dev nD,
      r.2.mem ((c.tc : Thread nD τ).loc main_v13_0) = val_main_v63 (F := Ideal) (m ((c : Thread nD τ).loc main_arg0)) (m ((c : Thread nD τ).loc main_arg1))
      ∧ r.2.mem ((c.tc : Thread nD τ).loc main_v13_1) = val_main_v20 (F := Ideal) (m ((c : Thread nD τ).loc main_arg0)) (m ((c : Thread nD τ).loc main_arg1))
      ∧ r.2.mem ((c.tc : Thread nD τ).loc main_v13_2) = val_main_v61 (F := Ideal) (m ((c : Thread nD τ).loc main_arg0)) (m ((c : Thread nD τ).loc main_arg2)) (m ((c : Thread nD τ).loc main_arg3))
      ∧ r.2.mem ((c.tc : Thread nD τ).loc main_v13_3) = val_main_v57 (F := Ideal) (m ((c : Thread nD τ).loc main_arg0)) (m ((c : Thread nD τ).loc main_arg2)) (m ((c : Thread nD τ).loc main_arg3))
      ∧ r.2.mem ((c.tc : Thread nD τ).loc main_v13_4) = val_main_v71 (F := Ideal) (m ((c : Thread nD τ).loc main_arg0)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) :=
  (θ_run defs _ _).mono (fun r h c => by
    obtain ⟨h0, h1, h2, h3, h4, hk⟩ := h c
    exact ⟨h0.trans (r12_value m c), h1.trans (c3_value m c), h2.trans (r14_value m c), h3.trans (r15_value m c), h4.trans (r16_value m c), hk⟩) (finals m ρ)

/-- The reference's run, its results as expressions of its arguments. -/
theorem runR (m' : (ℓ : Loc Cert.RMixerIdeal.nD Cert.RMixerIdeal.τ Cert.RMixerIdeal.sig) → Buf (Elt Ideal) ℓ) (ρ' : Dev Cert.RMixerIdeal.nD → PrngReg) :
    θ_run (Cert.RMixerIdeal.defs (F := Ideal)) (onTc (τ := Cert.RMixerIdeal.τ) (Cert.RMixerIdeal.main (F := Ideal))) ⟨m', fun _ => 0, ρ'⟩ fun r => ∀ c : Dev Cert.RMixerIdeal.nD,
      r.2.mem ((c.tc : Thread Cert.RMixerIdeal.nD Cert.RMixerIdeal.τ).loc Cert.RMixerIdeal.main_v63) = val_main_v63 (F := Ideal) (m' ((c.tc : Thread Cert.RMixerIdeal.nD Cert.RMixerIdeal.τ).loc Cert.RMixerIdeal.main_arg0)) (m' ((c.tc : Thread Cert.RMixerIdeal.nD Cert.RMixerIdeal.τ).loc Cert.RMixerIdeal.main_arg1))
      ∧ r.2.mem ((c.tc : Thread Cert.RMixerIdeal.nD Cert.RMixerIdeal.τ).loc Cert.RMixerIdeal.main_v20) = val_main_v20 (F := Ideal) (m' ((c.tc : Thread Cert.RMixerIdeal.nD Cert.RMixerIdeal.τ).loc Cert.RMixerIdeal.main_arg0)) (m' ((c.tc : Thread Cert.RMixerIdeal.nD Cert.RMixerIdeal.τ).loc Cert.RMixerIdeal.main_arg1))
      ∧ r.2.mem ((c.tc : Thread Cert.RMixerIdeal.nD Cert.RMixerIdeal.τ).loc Cert.RMixerIdeal.main_v61) = val_main_v61 (F := Ideal) (m' ((c.tc : Thread Cert.RMixerIdeal.nD Cert.RMixerIdeal.τ).loc Cert.RMixerIdeal.main_arg0)) (m' ((c.tc : Thread Cert.RMixerIdeal.nD Cert.RMixerIdeal.τ).loc Cert.RMixerIdeal.main_arg2)) (m' ((c.tc : Thread Cert.RMixerIdeal.nD Cert.RMixerIdeal.τ).loc Cert.RMixerIdeal.main_arg3))
      ∧ r.2.mem ((c.tc : Thread Cert.RMixerIdeal.nD Cert.RMixerIdeal.τ).loc Cert.RMixerIdeal.main_v57) = val_main_v57 (F := Ideal) (m' ((c.tc : Thread Cert.RMixerIdeal.nD Cert.RMixerIdeal.τ).loc Cert.RMixerIdeal.main_arg0)) (m' ((c.tc : Thread Cert.RMixerIdeal.nD Cert.RMixerIdeal.τ).loc Cert.RMixerIdeal.main_arg2)) (m' ((c.tc : Thread Cert.RMixerIdeal.nD Cert.RMixerIdeal.τ).loc Cert.RMixerIdeal.main_arg3))
      ∧ r.2.mem ((c.tc : Thread Cert.RMixerIdeal.nD Cert.RMixerIdeal.τ).loc Cert.RMixerIdeal.main_v71) = val_main_v71 (F := Ideal) (m' ((c.tc : Thread Cert.RMixerIdeal.nD Cert.RMixerIdeal.τ).loc Cert.RMixerIdeal.main_arg0)) (m' ((c.tc : Thread Cert.RMixerIdeal.nD Cert.RMixerIdeal.τ).loc Cert.RMixerIdeal.main_arg2)) (m' ((c.tc : Thread Cert.RMixerIdeal.nD Cert.RMixerIdeal.τ).loc Cert.RMixerIdeal.main_arg3)) (m' ((c.tc : Thread Cert.RMixerIdeal.nD Cert.RMixerIdeal.τ).loc Cert.RMixerIdeal.main_arg4)) (m' ((c.tc : Thread Cert.RMixerIdeal.nD Cert.RMixerIdeal.τ).loc Cert.RMixerIdeal.main_arg5))
      ∧ r.2.mem ((c.tc : Thread Cert.RMixerIdeal.nD Cert.RMixerIdeal.τ).loc Cert.RMixerIdeal.main_arg0) = m' ((c.tc : Thread Cert.RMixerIdeal.nD Cert.RMixerIdeal.τ).loc Cert.RMixerIdeal.main_arg0)
      ∧ r.2.mem ((c.tc : Thread Cert.RMixerIdeal.nD Cert.RMixerIdeal.τ).loc Cert.RMixerIdeal.main_arg1) = m' ((c.tc : Thread Cert.RMixerIdeal.nD Cert.RMixerIdeal.τ).loc Cert.RMixerIdeal.main_arg1)
      ∧ r.2.mem ((c.tc : Thread Cert.RMixerIdeal.nD Cert.RMixerIdeal.τ).loc Cert.RMixerIdeal.main_arg2) = m' ((c.tc : Thread Cert.RMixerIdeal.nD Cert.RMixerIdeal.τ).loc Cert.RMixerIdeal.main_arg2)
      ∧ r.2.mem ((c.tc : Thread Cert.RMixerIdeal.nD Cert.RMixerIdeal.τ).loc Cert.RMixerIdeal.main_arg3) = m' ((c.tc : Thread Cert.RMixerIdeal.nD Cert.RMixerIdeal.τ).loc Cert.RMixerIdeal.main_arg3)
      ∧ r.2.mem ((c.tc : Thread Cert.RMixerIdeal.nD Cert.RMixerIdeal.τ).loc Cert.RMixerIdeal.main_arg4) = m' ((c.tc : Thread Cert.RMixerIdeal.nD Cert.RMixerIdeal.τ).loc Cert.RMixerIdeal.main_arg4)
      ∧ r.2.mem ((c.tc : Thread Cert.RMixerIdeal.nD Cert.RMixerIdeal.τ).loc Cert.RMixerIdeal.main_arg5) = m' ((c.tc : Thread Cert.RMixerIdeal.nD Cert.RMixerIdeal.τ).loc Cert.RMixerIdeal.main_arg5) := by
  refine (θ_run _ _ _).mono (fun r h c => ?_) (Cert.RMixerIdeal.Value.run m' ρ')
  obtain ⟨h0, h1, h2, h3, h4, hk⟩ := h c
  exact ⟨h0.trans (Cert.RMixerIdeal.Read.val_main_v63_eq _ _), h1.trans (Cert.RMixerIdeal.Read.val_main_v20_eq _ _), h2.trans (Cert.RMixerIdeal.Read.val_main_v61_eq _ _), h3.trans (Cert.RMixerIdeal.Read.val_main_v57_eq _ _), h4.trans (Cert.RMixerIdeal.Read.val_main_v71_eq _ _), hk⟩

/-- The pair's value claim. -/
theorem pair : Cert.algebraic_KMixerIdeal_RMixerIdeal := by
  pair_intro
  · run_from run m g
  · refine (θ_run _ _ _).mono (fun r h c => ?_) (runR m' g')
    obtain ⟨e0, e1, e2, e3, e4, e5⟩ := hagree c
    obtain ⟨h0, h1, h2, h3, h4, hk⟩ := h c
    exact ⟨h0.trans (by rw [e0, e1]), h1.trans (by rw [e0, e1]), h2.trans (by rw [e0, e2, e3]), h3.trans (by rw [e0, e2, e3]), h4.trans (by rw [e0, e2, e3, e4, e5]), hk⟩

end Cert.KMixerIdeal.Val
-- ==== Proof.lean ====
/- Every claim, from the frames of the programs and the pairs' modules. -/
module

public import proofs.«01_k».proof.Defs
public import proofs.«01_k».proof.Proof.Gen.KDown
public import proofs.«01_k».proof.Proof.Gen.KDown.Skeleton
public import proofs.«01_k».proof.Proof.Gen.KDown.Launch
public import proofs.«01_k».proof.Proof.Gen.KDown.Points
public import proofs.«01_k».proof.Proof.Gen.KDown.Frame
public import proofs.«01_k».proof.Proof.Gen.KDownIdeal
public import proofs.«01_k».proof.Proof.Gen.KDownIdeal.Skeleton
public import proofs.«01_k».proof.Proof.Gen.KDownIdeal.Launch
public import proofs.«01_k».proof.Proof.Gen.KDownIdeal.Points
public import proofs.«01_k».proof.Proof.Gen.KDownIdeal.Frame
public import proofs.«01_k».proof.Proof.Gen.RDownIdeal
public import proofs.«01_k».proof.Proof.Gen.RDownIdeal.Run
public import proofs.«01_k».proof.Proof.Gen.RDownIdeal.Read
public import proofs.«01_k».proof.Proof.Down.Grad
public import proofs.«01_k».proof.Proof.Gen.KConv
public import proofs.«01_k».proof.Proof.Gen.KConvIdeal
public import proofs.«01_k».proof.Proof.Gen.KConvIdeal.Skeleton
public import proofs.«01_k».proof.Proof.Gen.KConvIdeal.Launch
public import proofs.«01_k».proof.Proof.Gen.KConvIdeal.Points
public import proofs.«01_k».proof.Proof.Gen.KConvIdeal.Frame
public import proofs.«01_k».proof.Proof.Gen.RConvIdeal
public import proofs.«01_k».proof.Proof.Gen.RConvIdeal.Run
public import proofs.«01_k».proof.Proof.Gen.RConvIdeal.Read
public import proofs.«01_k».proof.Proof.Conv.FrameBits
public import proofs.«01_k».proof.Proof.Conv.Pair
public import proofs.«01_k».proof.Proof.Gen.KMerge
public import proofs.«01_k».proof.Proof.Gen.KMerge.Skeleton
public import proofs.«01_k».proof.Proof.Gen.KMerge.Launch
public import proofs.«01_k».proof.Proof.Gen.KMerge.Points
public import proofs.«01_k».proof.Proof.Gen.KMerge.Frame
public import proofs.«01_k».proof.Proof.Gen.KMergeIdeal
public import proofs.«01_k».proof.Proof.Gen.KMergeIdeal.Skeleton
public import proofs.«01_k».proof.Proof.Gen.KMergeIdeal.Launch
public import proofs.«01_k».proof.Proof.Gen.KMergeIdeal.Points
public import proofs.«01_k».proof.Proof.Gen.KMergeIdeal.Frame
public import proofs.«01_k».proof.Proof.Gen.KMergeIdeal.Value
public import proofs.«01_k».proof.Proof.Gen.RMergeIdeal
public import proofs.«01_k».proof.Proof.Gen.RMergeIdeal.Run
public import proofs.«01_k».proof.Proof.Gen.RMergeIdeal.Read
public import proofs.«01_k».proof.Proof.Merge.Pair
public import proofs.«01_k».proof.Proof.Gen.KMlp
public import proofs.«01_k».proof.Proof.Gen.KMlp.Skeleton
public import proofs.«01_k».proof.Proof.Gen.KMlp.Launch
public import proofs.«01_k».proof.Proof.Gen.KMlp.Points
public import proofs.«01_k».proof.Proof.Gen.KMlp.Frame
public import proofs.«01_k».proof.Proof.Gen.KMlpIdeal
public import proofs.«01_k».proof.Proof.Gen.KMlpIdeal.Skeleton
public import proofs.«01_k».proof.Proof.Gen.KMlpIdeal.Launch
public import proofs.«01_k».proof.Proof.Gen.KMlpIdeal.Points
public import proofs.«01_k».proof.Proof.Gen.KMlpIdeal.Frame
public import proofs.«01_k».proof.Proof.Gen.RMlpIdeal
public import proofs.«01_k».proof.Proof.Gen.RMlpIdeal.Run
public import proofs.«01_k».proof.Proof.Gen.RMlpIdeal.Read
public import proofs.«01_k».proof.Proof.Mlp.Pair
public import proofs.«01_k».proof.Proof.Gen.KInproj
public import proofs.«01_k».proof.Proof.Gen.KInproj.Skeleton
public import proofs.«01_k».proof.Proof.Gen.KInproj.Launch
public import proofs.«01_k».proof.Proof.Gen.KInproj.Points
public import proofs.«01_k».proof.Proof.Gen.KInproj.Frame
public import proofs.«01_k».proof.Proof.Gen.KInprojIdeal
public import proofs.«01_k».proof.Proof.Gen.KInprojIdeal.Skeleton
public import proofs.«01_k».proof.Proof.Gen.KInprojIdeal.Launch
public import proofs.«01_k».proof.Proof.Gen.KInprojIdeal.Points
public import proofs.«01_k».proof.Proof.Gen.KInprojIdeal.Frame
public import proofs.«01_k».proof.Proof.Gen.KInprojIdeal.Value
public import proofs.«01_k».proof.Proof.Gen.RInprojIdeal
public import proofs.«01_k».proof.Proof.Gen.RInprojIdeal.Run
public import proofs.«01_k».proof.Proof.Gen.RInprojIdeal.Read
public import proofs.«01_k».proof.Proof.Inproj.Pair
public import proofs.«01_k».proof.Proof.Gen.KMixer
public import proofs.«01_k».proof.Proof.Gen.KMixerIdeal
public import proofs.«01_k».proof.Proof.Gen.KMixerIdeal.Skeleton
public import proofs.«01_k».proof.Proof.Gen.KMixerIdeal.Launch
public import proofs.«01_k».proof.Proof.Gen.KMixerIdeal.Points
public import proofs.«01_k».proof.Proof.Gen.KMixerIdeal.Frame
public import proofs.«01_k».proof.Proof.Gen.RMixerIdeal
public import proofs.«01_k».proof.Proof.Gen.RMixerIdeal.Run
public import proofs.«01_k».proof.Proof.Gen.RMixerIdeal.Read
public import proofs.«01_k».proof.Proof.Mixer.FrameBits
public import proofs.«01_k».proof.Proof.Mixer.Pair
public import Idealize.ShloMosaic.Adequacy
public import Idealize.ShloMosaic.Init

@[expose] public section

noncomputable section

namespace Cert.Proof

open Idealize.ShloMosaic Idealize.SL.Sem

theorem claim : Cert.Claim := ⟨Cert.KDown.Gen.facts, Cert.KDownIdeal.Gen.facts, Cert.RDownIdeal.Gen.facts, Cert.KConv.Gen.facts, Cert.KConvIdeal.Gen.facts, Cert.RConvIdeal.Gen.facts, Cert.KMerge.Gen.facts, Cert.KMergeIdeal.Gen.facts, Cert.RMergeIdeal.Gen.facts, Cert.KMlp.Gen.facts, Cert.KMlpIdeal.Gen.facts, Cert.RMlpIdeal.Gen.facts, Cert.KInproj.Gen.facts, Cert.KInprojIdeal.Gen.facts, Cert.RInprojIdeal.Gen.facts, Cert.KMixer.Gen.facts, Cert.KMixerIdeal.Gen.facts, Cert.RMixerIdeal.Gen.facts, Cert.KMergeIdeal.Val.finiteFacts, Cert.KMlpIdeal.Val.finiteFacts,
  fun m ρ _ => Cert.KDown.Gen.frame m ρ,
  fun m ρ _ => Cert.KDownIdeal.Gen.frame m ρ,
  fun m g _ => (θ_run Cert.RDownIdeal.defs _ _).mono
    (fun r h => ⟨fun c => (h c).2, sem_eq_zero_of_no_sems (by decide) r.2⟩) (Cert.RDownIdeal.Value.run m g),
  fun m ρ _ => Cert.KConv.Body.frame m ρ,
  fun m ρ _ => Cert.KConvIdeal.Body.frame m ρ,
  fun m g _ => (θ_run Cert.RConvIdeal.defs _ _).mono
    (fun r h => ⟨fun c => (h c).2.2, sem_eq_zero_of_no_sems (by decide) r.2⟩) (Cert.RConvIdeal.Value.run m g),
  fun m ρ _ => Cert.KMerge.Gen.frame m ρ,
  fun m ρ _ => Cert.KMergeIdeal.Gen.frame m ρ,
  fun m ρ _ => Cert.KMergeIdeal.Gen.frame m ρ,
  fun m g _ => (θ_run Cert.RMergeIdeal.defs _ _).mono
    (fun r h => ⟨fun c => (h c).2.2.2.2.2.2.2, sem_eq_zero_of_no_sems (by decide) r.2⟩) (Cert.RMergeIdeal.Value.run m g),
  fun m g _ => (θ_run Cert.RMergeIdeal.defs _ _).mono
    (fun r h => ⟨fun c => (h c).2.2.2.2.2.2.2, sem_eq_zero_of_no_sems (by decide) r.2⟩) (Cert.RMergeIdeal.Value.run m g),
  fun m ρ _ => Cert.KMlp.Gen.frame m ρ,
  fun m ρ _ => Cert.KMlpIdeal.Gen.frame m ρ,
  fun m ρ _ => Cert.KMlpIdeal.Gen.frame m ρ,
  fun m g _ => (θ_run Cert.RMlpIdeal.defs _ _).mono
    (fun r h => ⟨fun c => (h c).2.2.2.2.2.2.2.2.2, sem_eq_zero_of_no_sems (by decide) r.2⟩) (Cert.RMlpIdeal.Value.run m g),
  fun m g _ => (θ_run Cert.RMlpIdeal.defs _ _).mono
    (fun r h => ⟨fun c => (h c).2.2.2.2.2.2.2.2.2, sem_eq_zero_of_no_sems (by decide) r.2⟩) (Cert.RMlpIdeal.Value.run m g),
  fun m ρ _ => Cert.KInproj.Gen.frame m ρ,
  fun m ρ _ => Cert.KInprojIdeal.Gen.frame m ρ,
  fun m g _ => (θ_run Cert.RInprojIdeal.defs _ _).mono
    (fun r h => ⟨fun c => (h c).2, sem_eq_zero_of_no_sems (by decide) r.2⟩) (Cert.RInprojIdeal.Value.run m g),
  fun m ρ _ => Cert.KMixer.Body.frame m ρ,
  fun m ρ _ => Cert.KMixerIdeal.Body.frame m ρ,
  fun m g _ => (θ_run Cert.RMixerIdeal.defs _ _).mono
    (fun r h => ⟨fun c => (h c).2.2.2.2.2, sem_eq_zero_of_no_sems (by decide) r.2⟩) (Cert.RMixerIdeal.Value.run m g),
  trivial,
  trivial,
  trivial,
  trivial,
  trivial,
  trivial,
  Cert.KDownIdeal.Val.pair,
  Cert.KConvIdeal.Val.pair,
  Cert.KMergeIdeal.Val.pair,
  Cert.KMlpIdeal.Val.pair,
  Cert.KInprojIdeal.Val.pair,
  Cert.KMixerIdeal.Val.pair⟩

end Cert.Proof

end
